-- ==== Defs.lean ====
def Pre_Scatter (m : (ℓ : Loc Cert.Scatter.nD Cert.Scatter.τ Cert.Scatter.sig) → Buf (Elt Bits) ℓ) : Prop :=
  True

def Pre_ScatterIdeal (m : (ℓ : Loc Cert.ScatterIdeal.nD Cert.ScatterIdeal.τ Cert.ScatterIdeal.sig) → Buf (Elt Ideal) ℓ) : Prop :=
  True

def Pre_ScatterRefIdeal (m : (ℓ : Loc Cert.ScatterRefIdeal.nD Cert.ScatterRefIdeal.τ Cert.ScatterRefIdeal.sig) → Buf (Elt Ideal) ℓ) : Prop :=
  True

def Pre_Gather (m : (ℓ : Loc Cert.Gather.nD Cert.Gather.τ Cert.Gather.sig) → Buf (Elt Bits) ℓ) : Prop :=
  True

def Pre_GatherIdeal (m : (ℓ : Loc Cert.GatherIdeal.nD Cert.GatherIdeal.τ Cert.GatherIdeal.sig) → Buf (Elt Ideal) ℓ) : Prop :=
  True

def Pre_GatherRefIdeal (m : (ℓ : Loc Cert.GatherRefIdeal.nD Cert.GatherRefIdeal.τ Cert.GatherRefIdeal.sig) → Buf (Elt Ideal) ℓ) : Prop :=
  True

def Pre_Small (m : (ℓ : Loc Cert.Small.nD Cert.Small.τ Cert.Small.sig) → Buf (Elt Bits) ℓ) : Prop :=
  True

def Pre_SmallIdeal (m : (ℓ : Loc Cert.SmallIdeal.nD Cert.SmallIdeal.τ Cert.SmallIdeal.sig) → Buf (Elt Ideal) ℓ) : Prop :=
  True

def Pre_SmallRefIdeal (m : (ℓ : Loc Cert.SmallRefIdeal.nD Cert.SmallRefIdeal.τ Cert.SmallRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamAttn (m : (ℓ : Loc Cert.AdamAttn.nD Cert.AdamAttn.τ Cert.AdamAttn.sig) → Buf (Elt Bits) ℓ) : Prop :=
  True

def Pre_AdamAttnIdeal (m : (ℓ : Loc Cert.AdamAttnIdeal.nD Cert.AdamAttnIdeal.τ Cert.AdamAttnIdeal.sig) → Buf (Elt Ideal) ℓ) : Prop :=
  True

def Pre_AdamAttnRefIdeal (m : (ℓ : Loc Cert.AdamAttnRefIdeal.nD Cert.AdamAttnRefIdeal.τ Cert.AdamAttnRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamSsm (m : (ℓ : Loc Cert.AdamSsm.nD Cert.AdamSsm.τ Cert.AdamSsm.sig) → Buf (Elt Bits) ℓ) : Prop :=
  True

def Pre_AdamSsmIdeal (m : (ℓ : Loc Cert.AdamSsmIdeal.nD Cert.AdamSsmIdeal.τ Cert.AdamSsmIdeal.sig) → Buf (Elt Ideal) ℓ) : Prop :=
  True

def Pre_AdamSsmRefIdeal (m : (ℓ : Loc Cert.AdamSsmRefIdeal.nD Cert.AdamSsmRefIdeal.τ Cert.AdamSsmRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_AdamConv (m : (ℓ : Loc Cert.AdamConv.nD Cert.AdamConv.τ Cert.AdamConv.sig) → Buf (Elt Bits) ℓ) : Prop :=
  True

def Pre_AdamConvIdeal (m : (ℓ : Loc Cert.AdamConvIdeal.nD Cert.AdamConvIdeal.τ Cert.AdamConvIdeal.sig) → Buf (Elt Ideal) ℓ) : Prop :=
  True

def Pre_AdamConvRefIdeal (m : (ℓ : Loc Cert.AdamConvRefIdeal.nD Cert.AdamConvRefIdeal.τ Cert.AdamConvRefIdeal.sig) → Buf (Elt Ideal) ℓ) : Prop :=
  True

def Pre_NormBack (m : (ℓ : Loc Cert.NormBack.nD Cert.NormBack.τ Cert.NormBack.sig) → Buf (Elt Bits) ℓ) : Prop :=
  True

def Pre_NormBackIdeal (m : (ℓ : Loc Cert.NormBackIdeal.nD Cert.NormBackIdeal.τ Cert.NormBackIdeal.sig) → Buf (Elt Ideal) ℓ) : Prop :=
  True

def Pre_NormBackRefIdeal (m : (ℓ : Loc Cert.NormBackRefIdeal.nD Cert.NormBackRefIdeal.τ Cert.NormBackRefIdeal.sig) → Buf (Elt Ideal) ℓ) : Prop :=
  True

def Pre_LossBack (m : (ℓ : Loc Cert.LossBack.nD Cert.LossBack.τ Cert.LossBack.sig) → Buf (Elt Bits) ℓ) : Prop :=
  True

def Pre_LossBackIdeal (m : (ℓ : Loc Cert.LossBackIdeal.nD Cert.LossBackIdeal.τ Cert.LossBackIdeal.sig) → Buf (Elt Ideal) ℓ) : Prop :=
  True

def Pre_LossBackRefIdeal (m : (ℓ : Loc Cert.LossBackRefIdeal.nD Cert.LossBackRefIdeal.τ Cert.LossBackRefIdeal.sig) → Buf (Elt Ideal) ℓ) : Prop :=
  True

def Pre_NormFwd (m : (ℓ : Loc Cert.NormFwd.nD Cert.NormFwd.τ Cert.NormFwd.sig) → Buf (Elt Bits) ℓ) : Prop :=
  True

def Pre_NormFwdIdeal (m : (ℓ : Loc Cert.NormFwdIdeal.nD Cert.NormFwdIdeal.τ Cert.NormFwdIdeal.sig) → Buf (Elt Ideal) ℓ) : Prop :=
  True

def Pre_NormFwdRefIdeal (m : (ℓ : Loc Cert.NormFwdRefIdeal.nD Cert.NormFwdRefIdeal.τ Cert.NormFwdRefIdeal.sig) → Buf (Elt Ideal) ℓ) : Prop :=
  True

def Pre_GatedNorm (m : (ℓ : Loc Cert.GatedNorm.nD Cert.GatedNorm.τ Cert.GatedNorm.sig) → Buf (Elt Bits) ℓ) : Prop :=
  True

def Pre_GatedNormIdeal (m : (ℓ : Loc Cert.GatedNormIdeal.nD Cert.GatedNormIdeal.τ Cert.GatedNormIdeal.sig) → Buf (Elt Ideal) ℓ) : Prop :=
  True

def Pre_GatedNormRefIdeal (m : (ℓ : Loc Cert.GatedNormRefIdeal.nD Cert.GatedNormRefIdeal.τ Cert.GatedNormRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_MergeBack (m : (ℓ : Loc Cert.MergeBack.nD Cert.MergeBack.τ Cert.MergeBack.sig) → Buf (Elt Bits) ℓ) : Prop :=
  True

def Pre_MergeBackIdeal (m : (ℓ : Loc Cert.MergeBackIdeal.nD Cert.MergeBackIdeal.τ Cert.MergeBackIdeal.sig) → Buf (Elt Ideal) ℓ) : Prop :=
  True

def Pre_MergeBackRefIdeal (m : (ℓ : Loc Cert.MergeBackRefIdeal.nD Cert.MergeBackRefIdeal.τ Cert.MergeBackRefIdeal.sig) → Buf (Elt Ideal) ℓ) : Prop :=
  True

def Pre_SumThree (m : (ℓ : Loc Cert.SumThree.nD Cert.SumThree.τ Cert.SumThree.sig) → Buf (Elt Bits) ℓ) : Prop :=
  True

def Pre_SumThreeIdeal (m : (ℓ : Loc Cert.SumThreeIdeal.nD Cert.SumThreeIdeal.τ Cert.SumThreeIdeal.sig) → Buf (Elt Ideal) ℓ) : Prop :=
  True

def Pre_SumThreeRefIdeal (m : (ℓ : Loc Cert.SumThreeRefIdeal.nD Cert.SumThreeRefIdeal.τ Cert.SumThreeRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_OutGrad (m : (ℓ : Loc Cert.OutGrad.nD Cert.OutGrad.τ Cert.OutGrad.sig) → Buf (Elt Bits) ℓ) : Prop :=
  True

def Pre_OutGradIdeal (m : (ℓ : Loc Cert.OutGradIdeal.nD Cert.OutGradIdeal.τ Cert.OutGradIdeal.sig) → Buf (Elt Ideal) ℓ) : Prop :=
  True

def Pre_OutGradRefIdeal (m : (ℓ : Loc Cert.OutGradRefIdeal.nD Cert.OutGradRefIdeal.τ Cert.OutGradRefIdeal.sig) → Buf (Elt Ideal) ℓ) : Prop :=
  True

def Pre_MergedGrad (m : (ℓ : Loc Cert.MergedGrad.nD Cert.MergedGrad.τ Cert.MergedGrad.sig) → Buf (Elt Bits) ℓ) : Prop :=
  True

def Pre_MergedGradIdeal (m : (ℓ : Loc Cert.MergedGradIdeal.nD Cert.MergedGradIdeal.τ Cert.MergedGradIdeal.sig) → Buf (Elt Ideal) ℓ) : Prop :=
  True

def Pre_MergedGradRefIdeal (m : (ℓ : Loc Cert.MergedGradRefIdeal.nD Cert.MergedGradRefIdeal.τ Cert.MergedGradRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_StepProj (m : (ℓ : Loc Cert.StepProj.nD Cert.StepProj.τ Cert.StepProj.sig) → Buf (Elt Bits) ℓ) : Prop :=
  True

def Pre_StepProjIdeal (m : (ℓ : Loc Cert.StepProjIdeal.nD Cert.StepProjIdeal.τ Cert.StepProjIdeal.sig) → Buf (Elt Ideal) ℓ) : Prop :=
  True

def Pre_StepProjRefIdeal (m : (ℓ : Loc Cert.StepProjRefIdeal.nD Cert.StepProjRefIdeal.τ Cert.StepProjRefIdeal.sig) → Buf (Elt Ideal) ℓ) : Prop :=
  True

def Pre_SsmProj (m : (ℓ : Loc Cert.SsmProj.nD Cert.SsmProj.τ Cert.SsmProj.sig) → Buf (Elt Bits) ℓ) : Prop :=
  True

def Pre_SsmProjIdeal (m : (ℓ : Loc Cert.SsmProjIdeal.nD Cert.SsmProjIdeal.τ Cert.SsmProjIdeal.sig) → Buf (Elt Ideal) ℓ) : Prop :=
  True

def Pre_SsmProjRefIdeal (m : (ℓ : Loc Cert.SsmProjRefIdeal.nD Cert.SsmProjRefIdeal.τ Cert.SsmProjRefIdeal.sig) → Buf (Elt Ideal) ℓ) : Prop :=
  True

def Pre_SsmGrad (m : (ℓ : Loc Cert.SsmGrad.nD Cert.SsmGrad.τ Cert.SsmGrad.sig) → Buf (Elt Bits) ℓ) : Prop :=
  True

def Pre_SsmGradIdeal (m : (ℓ : Loc Cert.SsmGradIdeal.nD Cert.SsmGradIdeal.τ Cert.SsmGradIdeal.sig) → Buf (Elt Ideal) ℓ) : Prop :=
  True

def Pre_SsmGradRefIdeal (m : (ℓ : Loc Cert.SsmGradRefIdeal.nD Cert.SsmGradRefIdeal.τ Cert.SsmGradRefIdeal.sig) → Buf (Elt Ideal) ℓ) : Prop :=
  True

def Pre_ScanGrad (m : (ℓ : Loc Cert.ScanGrad.nD Cert.ScanGrad.τ Cert.ScanGrad.sig) → Buf (Elt Bits) ℓ) : Prop :=
  True

def Pre_ScanGradIdeal (m : (ℓ : Loc Cert.ScanGradIdeal.nD Cert.ScanGradIdeal.τ Cert.ScanGradIdeal.sig) → Buf (Elt Ideal) ℓ) : Prop :=
  True

def Pre_ScanGradRefIdeal (m : (ℓ : Loc Cert.ScanGradRefIdeal.nD Cert.ScanGradRefIdeal.τ Cert.ScanGradRefIdeal.sig) → Buf (Elt Ideal) ℓ) : Prop :=
  True

def Pre_MainGrad (m : (ℓ : Loc Cert.MainGrad.nD Cert.MainGrad.τ Cert.MainGrad.sig) → Buf (Elt Bits) ℓ) : Prop :=
  True

def Pre_MainGradIdeal (m : (ℓ : Loc Cert.MainGradIdeal.nD Cert.MainGradIdeal.τ Cert.MainGradIdeal.sig) → Buf (Elt Ideal) ℓ) : Prop :=
  True

def Pre_MainGradRefIdeal (m : (ℓ : Loc Cert.MainGradRefIdeal.nD Cert.MainGradRefIdeal.τ Cert.MainGradRefIdeal.sig) → Buf (Elt Ideal) ℓ) : Prop :=
  True

def Pre_StepGrad (m : (ℓ : Loc Cert.StepGrad.nD Cert.StepGrad.τ Cert.StepGrad.sig) → Buf (Elt Bits) ℓ) : Prop :=
  True

def Pre_StepGradIdeal (m : (ℓ : Loc Cert.StepGradIdeal.nD Cert.StepGradIdeal.τ Cert.StepGradIdeal.sig) → Buf (Elt Ideal) ℓ) : Prop :=
  True

def Pre_StepGradRefIdeal (m : (ℓ : Loc Cert.StepGradRefIdeal.nD Cert.StepGradRefIdeal.τ Cert.StepGradRefIdeal.sig) → Buf (Elt Ideal) ℓ) : Prop :=
  True

def Pre_HiddenGrad (m : (ℓ : Loc Cert.HiddenGrad.nD Cert.HiddenGrad.τ Cert.HiddenGrad.sig) → Buf (Elt Bits) ℓ) : Prop :=
  True

def Pre_HiddenGradIdeal (m : (ℓ : Loc Cert.HiddenGradIdeal.nD Cert.HiddenGradIdeal.τ Cert.HiddenGradIdeal.sig) → Buf (Elt Ideal) ℓ) : Prop :=
  True

def Pre_HiddenGradRefIdeal (m : (ℓ : Loc Cert.HiddenGradRefIdeal.nD Cert.HiddenGradRefIdeal.τ Cert.HiddenGradRefIdeal.sig) → Buf (Elt Ideal) ℓ) : Prop :=
  True

def Pre_HiddenStep (m : (ℓ : Loc Cert.HiddenStep.nD Cert.HiddenStep.τ Cert.HiddenStep.sig) → Buf (Elt Bits) ℓ) : Prop :=
  True

def Pre_HiddenStepIdeal (m : (ℓ : Loc Cert.HiddenStepIdeal.nD Cert.HiddenStepIdeal.τ Cert.HiddenStepIdeal.sig) → Buf (Elt Ideal) ℓ) : Prop :=
  True

def Pre_HiddenStepRefIdeal (m : (ℓ : Loc Cert.HiddenStepRefIdeal.nD Cert.HiddenStepRefIdeal.τ Cert.HiddenStepRefIdeal.sig) → Buf (Elt Ideal) ℓ) : Prop :=
  True

def Pre_GatedNormBack (m : (ℓ : Loc Cert.GatedNormBack.nD Cert.GatedNormBack.τ Cert.GatedNormBack.sig) → Buf (Elt Bits) ℓ) : Prop :=
  True

def Pre_GatedNormBackIdeal (m : (ℓ : Loc Cert.GatedNormBackIdeal.nD Cert.GatedNormBackIdeal.τ Cert.GatedNormBackIdeal.sig) → Buf (Elt Ideal) ℓ) : Prop :=
  True

def Pre_GatedNormBackRefIdeal (m : (ℓ : Loc Cert.GatedNormBackRefIdeal.nD Cert.GatedNormBackRefIdeal.τ Cert.GatedNormBackRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_ConvBack (m : (ℓ : Loc Cert.ConvBack.nD Cert.ConvBack.τ Cert.ConvBack.sig) → Buf (Elt Bits) ℓ) : Prop :=
  True

def Pre_ConvBackIdeal (m : (ℓ : Loc Cert.ConvBackIdeal.nD Cert.ConvBackIdeal.τ Cert.ConvBackIdeal.sig) → Buf (Elt Ideal) ℓ) : Prop :=
  True

def Pre_ConvBackRefIdeal (m : (ℓ : Loc Cert.ConvBackRefIdeal.nD Cert.ConvBackRefIdeal.τ Cert.ConvBackRefIdeal.sig) → Buf (Elt Ideal) ℓ) : Prop :=
  True

def Pre_Steps (m : (ℓ : Loc Cert.Steps.nD Cert.Steps.τ Cert.Steps.sig) → Buf (Elt Bits) ℓ) : Prop :=
  True

def Pre_StepsIdeal (m : (ℓ : Loc Cert.StepsIdeal.nD Cert.StepsIdeal.τ Cert.StepsIdeal.sig) → Buf (Elt Ideal) ℓ) : Prop :=
  True

def Pre_StepsRefIdeal (m : (ℓ : Loc Cert.StepsRefIdeal.nD Cert.StepsRefIdeal.τ Cert.StepsRefIdeal.sig) → Buf (Elt Ideal) ℓ) : Prop :=
  True

def Pre_GateBack (m : (ℓ : Loc Cert.GateBack.nD Cert.GateBack.τ Cert.GateBack.sig) → Buf (Elt Bits) ℓ) : Prop :=
  True

def Pre_GateBackIdeal (m : (ℓ : Loc Cert.GateBackIdeal.nD Cert.GateBackIdeal.τ Cert.GateBackIdeal.sig) → Buf (Elt Ideal) ℓ) : Prop :=
  True

def Pre_GateBackRefIdeal (m : (ℓ : Loc Cert.GateBackRefIdeal.nD Cert.GateBackRefIdeal.τ Cert.GateBackRefIdeal.sig) → Buf (Elt Ideal) ℓ) : Prop :=
  True

def Pre_ConvGrad (m : (ℓ : Loc Cert.ConvGrad.nD Cert.ConvGrad.τ Cert.ConvGrad.sig) → Buf (Elt Bits) ℓ) : Prop :=
  True

def Pre_ConvGradIdeal (m : (ℓ : Loc Cert.ConvGradIdeal.nD Cert.ConvGradIdeal.τ Cert.ConvGradIdeal.sig) → Buf (Elt Ideal) ℓ) : Prop :=
  True

def Pre_ConvGradRefIdeal (m : (ℓ : Loc Cert.ConvGradRefIdeal.nD Cert.ConvGradRefIdeal.τ Cert.ConvGradRefIdeal.sig) → Buf (Elt Ideal) ℓ) : Prop :=
  True

def Pre_Combine (m : (ℓ : Loc Cert.Combine.nD Cert.Combine.τ Cert.Combine.sig) → Buf (Elt Bits) ℓ) : Prop :=
  True

def Pre_CombineIdeal (m : (ℓ : Loc Cert.CombineIdeal.nD Cert.CombineIdeal.τ Cert.CombineIdeal.sig) → Buf (Elt Ideal) ℓ) : Prop :=
  True

def Pre_CombineIdeal_finite_lse [hPre_finite_lse : Cert.Pre_finite_lse.Facts] (m : (ℓ : Loc Cert.CombineIdeal.nD Cert.CombineIdeal.τ Cert.CombineIdeal.sig) → Buf (Elt Ideal) ℓ) : Prop :=
  ∀ c : Dev Cert.CombineIdeal.nD,
    (Cert.Pre_finite_lse.fn (F := Ideal) (m ((c.tc : Thread Cert.CombineIdeal.nD Cert.CombineIdeal.τ).loc Cert.CombineIdeal.main_arg0)) (m ((c.tc : Thread Cert.CombineIdeal.nD Cert.CombineIdeal.τ).loc Cert.CombineIdeal.main_arg1)) (m ((c.tc : Thread Cert.CombineIdeal.nD Cert.CombineIdeal.τ).loc Cert.CombineIdeal.main_arg2)) (m ((c.tc : Thread Cert.CombineIdeal.nD Cert.CombineIdeal.τ).loc Cert.CombineIdeal.main_arg3)) (m ((c.tc : Thread Cert.CombineIdeal.nD Cert.CombineIdeal.τ).loc Cert.CombineIdeal.main_arg4))) = (fun _ => 1#1)

def Pre_CombineRefIdeal (m : (ℓ : Loc Cert.CombineRefIdeal.nD Cert.CombineRefIdeal.τ Cert.CombineRefIdeal.sig) → Buf (Elt Ideal) ℓ) : Prop :=
  True

def Pre_CombineRefIdeal_finite_lse [hPre_finite_lse : Cert.Pre_finite_lse.Facts] (m : (ℓ : Loc Cert.CombineRefIdeal.nD Cert.CombineRefIdeal.τ Cert.CombineRefIdeal.sig) → Buf (Elt Ideal) ℓ) : Prop :=
  ∀ c : Dev Cert.CombineRefIdeal.nD,
    (Cert.Pre_finite_lse.fn (F := Ideal) (m ((c.tc : Thread Cert.CombineRefIdeal.nD Cert.CombineRefIdeal.τ).loc Cert.CombineRefIdeal.main_arg0)) (m ((c.tc : Thread Cert.CombineRefIdeal.nD Cert.CombineRefIdeal.τ).loc Cert.CombineRefIdeal.main_arg1)) (m ((c.tc : Thread Cert.CombineRefIdeal.nD Cert.CombineRefIdeal.τ).loc Cert.CombineRefIdeal.main_arg2)) (m ((c.tc : Thread Cert.CombineRefIdeal.nD Cert.CombineRefIdeal.τ).loc Cert.CombineRefIdeal.main_arg3)) (m ((c.tc : Thread Cert.CombineRefIdeal.nD Cert.CombineRefIdeal.τ).loc Cert.CombineRefIdeal.main_arg4))) = (fun _ => 1#1)

def Pre_StepBack (m : (ℓ : Loc Cert.StepBack.nD Cert.StepBack.τ Cert.StepBack.sig) → Buf (Elt Bits) ℓ) : Prop :=
  True

def Pre_StepBackIdeal (m : (ℓ : Loc Cert.StepBackIdeal.nD Cert.StepBackIdeal.τ Cert.StepBackIdeal.sig) → Buf (Elt Ideal) ℓ) : Prop :=
  True

def Pre_StepBackIdeal_finite_rates [hPre_finite_rates : Cert.Pre_finite_rates.Facts] (m : (ℓ : Loc Cert.StepBackIdeal.nD Cert.StepBackIdeal.τ Cert.StepBackIdeal.sig) → Buf (Elt Ideal) ℓ) : Prop :=
  ∀ c : Dev Cert.StepBackIdeal.nD,
    (Cert.Pre_finite_rates.fn (F := Ideal) (m ((c.tc : Thread Cert.StepBackIdeal.nD Cert.StepBackIdeal.τ).loc Cert.StepBackIdeal.main_arg0)) (m ((c.tc : Thread Cert.StepBackIdeal.nD Cert.StepBackIdeal.τ).loc Cert.StepBackIdeal.main_arg1)) (m ((c.tc : Thread Cert.StepBackIdeal.nD Cert.StepBackIdeal.τ).loc Cert.StepBackIdeal.main_arg2)) (m ((c.tc : Thread Cert.StepBackIdeal.nD Cert.StepBackIdeal.τ).loc Cert.StepBackIdeal.main_arg3)) (m ((c.tc : Thread Cert.StepBackIdeal.nD Cert.StepBackIdeal.τ).loc Cert.StepBackIdeal.main_arg4)) (m ((c.tc : Thread Cert.StepBackIdeal.nD Cert.StepBackIdeal.τ).loc Cert.StepBackIdeal.main_arg5))) = (fun _ => 1#1)

def Pre_StepBackRefIdeal (m : (ℓ : Loc Cert.StepBackRefIdeal.nD Cert.StepBackRefIdeal.τ Cert.StepBackRefIdeal.sig) → Buf (Elt Ideal) ℓ) : Prop :=
  True

def Pre_StepBackRefIdeal_finite_rates [hPre_finite_rates : Cert.Pre_finite_rates.Facts] (m : (ℓ : Loc Cert.StepBackRefIdeal.nD Cert.StepBackRefIdeal.τ Cert.StepBackRefIdeal.sig) → Buf (Elt Ideal) ℓ) : Prop :=
  ∀ c : Dev Cert.StepBackRefIdeal.nD,
    (Cert.Pre_finite_rates.fn (F := Ideal) (m ((c.tc : Thread Cert.StepBackRefIdeal.nD Cert.StepBackRefIdeal.τ).loc Cert.StepBackRefIdeal.main_arg0)) (m ((c.tc : Thread Cert.StepBackRefIdeal.nD Cert.StepBackRefIdeal.τ).loc Cert.StepBackRefIdeal.main_arg1)) (m ((c.tc : Thread Cert.StepBackRefIdeal.nD Cert.StepBackRefIdeal.τ).loc Cert.StepBackRefIdeal.main_arg2)) (m ((c.tc : Thread Cert.StepBackRefIdeal.nD Cert.StepBackRefIdeal.τ).loc Cert.StepBackRefIdeal.main_arg3)) (m ((c.tc : Thread Cert.StepBackRefIdeal.nD Cert.StepBackRefIdeal.τ).loc Cert.StepBackRefIdeal.main_arg4)) (m ((c.tc : Thread Cert.StepBackRefIdeal.nD Cert.StepBackRefIdeal.τ).loc Cert.StepBackRefIdeal.main_arg5))) = (fun _ => 1#1)

def Pre_ScatterRef (m : (ℓ : Loc Cert.ScatterRef.nD Cert.ScatterRef.τ Cert.ScatterRef.sig) → Buf (Elt Bits) ℓ) : Prop :=
  True

def Pre_GatherRef (m : (ℓ : Loc Cert.GatherRef.nD Cert.GatherRef.τ Cert.GatherRef.sig) → Buf (Elt Bits) ℓ) : Prop :=
  True

def Pre_SmallRef (m : (ℓ : Loc Cert.SmallRef.nD Cert.SmallRef.τ Cert.SmallRef.sig) → Buf (Elt Bits) ℓ) : Prop :=
  True

def quiescent_Scatter [hScatter : Cert.Scatter.Facts] : Prop :=
  ∀ (m : (ℓ : Loc Cert.Scatter.nD Cert.Scatter.τ Cert.Scatter.sig) → Buf (Elt Bits) ℓ) (g : Dev Cert.Scatter.nD → PrngReg), Pre_Scatter m →
    θ_run (Cert.Scatter.defs (F := Bits)) (onTc (τ := Cert.Scatter.τ) (Cert.Scatter.main (F := Bits))) ⟨m, fun _ => 0, g⟩ (fun r => (∀ c : Dev Cert.Scatter.nD,
      r.2.mem ((c.tc : Thread Cert.Scatter.nD Cert.Scatter.τ).loc Cert.Scatter.main_arg0) = m ((c.tc : Thread Cert.Scatter.nD Cert.Scatter.τ).loc Cert.Scatter.main_arg0)
      ∧ r.2.mem ((c.tc : Thread Cert.Scatter.nD Cert.Scatter.τ).loc Cert.Scatter.main_arg1) = m ((c.tc : Thread Cert.Scatter.nD Cert.Scatter.τ).loc Cert.Scatter.main_arg1)
      ∧ r.2.mem ((c.tc : Thread Cert.Scatter.nD Cert.Scatter.τ).loc Cert.Scatter.main_arg2) = m ((c.tc : Thread Cert.Scatter.nD Cert.Scatter.τ).loc Cert.Scatter.main_arg2)
      ∧ r.2.mem ((c.tc : Thread Cert.Scatter.nD Cert.Scatter.τ).loc Cert.Scatter.main_arg3) = m ((c.tc : Thread Cert.Scatter.nD Cert.Scatter.τ).loc Cert.Scatter.main_arg3))
      ∧ r.2.sem = fun _ => 0)

def quiescent_ScatterIdeal [hScatterIdeal : Cert.ScatterIdeal.Facts] : Prop :=
  ∀ (m : (ℓ : Loc Cert.ScatterIdeal.nD Cert.ScatterIdeal.τ Cert.ScatterIdeal.sig) → Buf (Elt Ideal) ℓ) (g : Dev Cert.ScatterIdeal.nD → PrngReg), Pre_ScatterIdeal m →
    θ_run (Cert.ScatterIdeal.defs (F := Ideal)) (onTc (τ := Cert.ScatterIdeal.τ) (Cert.ScatterIdeal.main (F := Ideal))) ⟨m, fun _ => 0, g⟩ (fun r => (∀ c : Dev Cert.ScatterIdeal.nD,
      r.2.mem ((c.tc : Thread Cert.ScatterIdeal.nD Cert.ScatterIdeal.τ).loc Cert.ScatterIdeal.main_arg0) = m ((c.tc : Thread Cert.ScatterIdeal.nD Cert.ScatterIdeal.τ).loc Cert.ScatterIdeal.main_arg0)
      ∧ r.2.mem ((c.tc : Thread Cert.ScatterIdeal.nD Cert.ScatterIdeal.τ).loc Cert.ScatterIdeal.main_arg1) = m ((c.tc : Thread Cert.ScatterIdeal.nD Cert.ScatterIdeal.τ).loc Cert.ScatterIdeal.main_arg1)
      ∧ r.2.mem ((c.tc : Thread Cert.ScatterIdeal.nD Cert.ScatterIdeal.τ).loc Cert.ScatterIdeal.main_arg2) = m ((c.tc : Thread Cert.ScatterIdeal.nD Cert.ScatterIdeal.τ).loc Cert.ScatterIdeal.main_arg2)
      ∧ r.2.mem ((c.tc : Thread Cert.ScatterIdeal.nD Cert.ScatterIdeal.τ).loc Cert.ScatterIdeal.main_arg3) = m ((c.tc : Thread Cert.ScatterIdeal.nD Cert.ScatterIdeal.τ).loc Cert.ScatterIdeal.main_arg3))
      ∧ r.2.sem = fun _ => 0)

def quiescent_ScatterRefIdeal [hScatterRefIdeal : Cert.ScatterRefIdeal.Facts] : Prop :=
  ∀ (m : (ℓ : Loc Cert.ScatterRefIdeal.nD Cert.ScatterRefIdeal.τ Cert.ScatterRefIdeal.sig) → Buf (Elt Ideal) ℓ) (g : Dev Cert.ScatterRefIdeal.nD → PrngReg), Pre_ScatterRefIdeal m →
    θ_run (Cert.ScatterRefIdeal.defs (F := Ideal)) (onTc (τ := Cert.ScatterRefIdeal.τ) (Cert.ScatterRefIdeal.main (F := Ideal))) ⟨m, fun _ => 0, g⟩ (fun r => (∀ c : Dev Cert.ScatterRefIdeal.nD,
      r.2.mem ((c.tc : Thread Cert.ScatterRefIdeal.nD Cert.ScatterRefIdeal.τ).loc Cert.ScatterRefIdeal.main_arg0) = m ((c.tc : Thread Cert.ScatterRefIdeal.nD Cert.ScatterRefIdeal.τ).loc Cert.ScatterRefIdeal.main_arg0)
      ∧ r.2.mem ((c.tc : Thread Cert.ScatterRefIdeal.nD Cert.ScatterRefIdeal.τ).loc Cert.ScatterRefIdeal.main_arg1) = m ((c.tc : Thread Cert.ScatterRefIdeal.nD Cert.ScatterRefIdeal.τ).loc Cert.ScatterRefIdeal.main_arg1)
      ∧ r.2.mem ((c.tc : Thread Cert.ScatterRefIdeal.nD Cert.ScatterRefIdeal.τ).loc Cert.ScatterRefIdeal.main_arg2) = m ((c.tc : Thread Cert.ScatterRefIdeal.nD Cert.ScatterRefIdeal.τ).loc Cert.ScatterRefIdeal.main_arg2)
      ∧ r.2.mem ((c.tc : Thread Cert.ScatterRefIdeal.nD Cert.ScatterRefIdeal.τ).loc Cert.ScatterRefIdeal.main_arg3) = m ((c.tc : Thread Cert.ScatterRefIdeal.nD Cert.ScatterRefIdeal.τ).loc Cert.ScatterRefIdeal.main_arg3))
      ∧ r.2.sem = fun _ => 0)

def quiescent_Gather [hGather : Cert.Gather.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (onTc (τ := Cert.Gather.τ) (Cert.Gather.main (F := Bits))) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0)
      ∧ r.2.mem ((c.tc : Thread Cert.Gather.nD Cert.Gather.τ).loc Cert.Gather.main_arg1) = m ((c.tc : Thread Cert.Gather.nD Cert.Gather.τ).loc Cert.Gather.main_arg1)
      ∧ r.2.mem ((c.tc : Thread Cert.Gather.nD Cert.Gather.τ).loc Cert.Gather.main_arg2) = m ((c.tc : Thread Cert.Gather.nD Cert.Gather.τ).loc Cert.Gather.main_arg2)
      ∧ r.2.mem ((c.tc : Thread Cert.Gather.nD Cert.Gather.τ).loc Cert.Gather.main_arg3) = m ((c.tc : Thread Cert.Gather.nD Cert.Gather.τ).loc Cert.Gather.main_arg3)
      ∧ r.2.mem ((c.tc : Thread Cert.Gather.nD Cert.Gather.τ).loc Cert.Gather.main_arg4) = m ((c.tc : Thread Cert.Gather.nD Cert.Gather.τ).loc Cert.Gather.main_arg4))
      ∧ r.2.sem = fun _ => 0)

def quiescent_GatherIdeal [hGatherIdeal : Cert.GatherIdeal.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (onTc (τ := Cert.GatherIdeal.τ) (Cert.GatherIdeal.main (F := Ideal))) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
      ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1)
      ∧ r.2.mem ((c.tc : Thread Cert.GatherIdeal.nD Cert.GatherIdeal.τ).loc Cert.GatherIdeal.main_arg2) = m ((c.tc : Thread Cert.GatherIdeal.nD Cert.GatherIdeal.τ).loc Cert.GatherIdeal.main_arg2)
      ∧ r.2.mem ((c.tc : Thread Cert.GatherIdeal.nD Cert.GatherIdeal.τ).loc Cert.GatherIdeal.main_arg3) = m ((c.tc : Thread Cert.GatherIdeal.nD Cert.GatherIdeal.τ).loc Cert.GatherIdeal.main_arg3)
      ∧ r.2.mem ((c.tc : Thread Cert.GatherIdeal.nD Cert.GatherIdeal.τ).loc Cert.GatherIdeal.main_arg4) = m ((c.tc : Thread Cert.GatherIdeal.nD Cert.GatherIdeal.τ).loc Cert.GatherIdeal.main_arg4))
      ∧ r.2.sem = fun _ => 0)

def quiescent_GatherRefIdeal [hGatherRefIdeal : Cert.GatherRefIdeal.Facts] : Prop :=
  ∀ (m : (ℓ : Loc Cert.GatherRefIdeal.nD Cert.GatherRefIdeal.τ Cert.GatherRefIdeal.sig) → Buf (Elt Ideal) ℓ) (g : Dev Cert.GatherRefIdeal.nD → PrngReg), Pre_GatherRefIdeal m →
    θ_run (Cert.GatherRefIdeal.defs (F := Ideal)) (onTc (τ := Cert.GatherRefIdeal.τ) (Cert.GatherRefIdeal.main (F := Ideal))) ⟨m, fun _ => 0, g⟩ (fun r => (∀ c : Dev Cert.GatherRefIdeal.nD,
      r.2.mem ((c.tc : Thread Cert.GatherRefIdeal.nD Cert.GatherRefIdeal.τ).loc Cert.GatherRefIdeal.main_arg0) = m ((c.tc : Thread Cert.GatherRefIdeal.nD Cert.GatherRefIdeal.τ).loc Cert.GatherRefIdeal.main_arg0)
      ∧ r.2.mem ((c.tc : Thread Cert.GatherRefIdeal.nD Cert.GatherRefIdeal.τ).loc Cert.GatherRefIdeal.main_arg1) = m ((c.tc : Thread Cert.GatherRefIdeal.nD Cert.GatherRefIdeal.τ).loc Cert.GatherRefIdeal.main_arg1)
      ∧ r.2.mem ((c.tc : Thread Cert.GatherRefIdeal.nD Cert.GatherRefIdeal.τ).loc Cert.GatherRefIdeal.main_arg2) = m ((c.tc : Thread Cert.GatherRefIdeal.nD Cert.GatherRefIdeal.τ).loc Cert.GatherRefIdeal.main_arg2)
      ∧ r.2.mem ((c.tc : Thread Cert.GatherRefIdeal.nD Cert.GatherRefIdeal.τ).loc Cert.GatherRefIdeal.main_arg3) = m ((c.tc : Thread Cert.GatherRefIdeal.nD Cert.GatherRefIdeal.τ).loc Cert.GatherRefIdeal.main_arg3)
      ∧ r.2.mem ((c.tc : Thread Cert.GatherRefIdeal.nD Cert.GatherRefIdeal.τ).loc Cert.GatherRefIdeal.main_arg4) = m ((c.tc : Thread Cert.GatherRefIdeal.nD Cert.GatherRefIdeal.τ).loc Cert.GatherRefIdeal.main_arg4))
      ∧ r.2.sem = fun _ => 0)

def quiescent_Small [hSmall : Cert.Small.Facts] : Prop :=
  ∀ (m : (ℓ : Loc Cert.Small.nD Cert.Small.τ Cert.Small.sig) → Buf (Elt Bits) ℓ) (g : Dev Cert.Small.nD → PrngReg), Pre_Small m →
    θ_run (Cert.Small.defs (F := Bits)) (onTc (τ := Cert.Small.τ) (Cert.Small.main (F := Bits))) ⟨m, fun _ => 0, g⟩ (fun r => (∀ c : Dev Cert.Small.nD,
      r.2.mem ((c.tc : Thread Cert.Small.nD Cert.Small.τ).loc Cert.Small.main_arg0) = m ((c.tc : Thread Cert.Small.nD Cert.Small.τ).loc Cert.Small.main_arg0))
      ∧ r.2.sem = fun _ => 0)

def quiescent_SmallIdeal [hSmallIdeal : Cert.SmallIdeal.Facts] : Prop :=
  ∀ (m : (ℓ : Loc Cert.SmallIdeal.nD Cert.SmallIdeal.τ Cert.SmallIdeal.sig) → Buf (Elt Ideal) ℓ) (g : Dev Cert.SmallIdeal.nD → PrngReg), Pre_SmallIdeal m →
    θ_run (Cert.SmallIdeal.defs (F := Ideal)) (onTc (τ := Cert.SmallIdeal.τ) (Cert.SmallIdeal.main (F := Ideal))) ⟨m, fun _ => 0, g⟩ (fun r => (∀ c : Dev Cert.SmallIdeal.nD,
      r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0))
      ∧ r.2.sem = fun _ => 0)

def quiescent_SmallRefIdeal [hSmallRefIdeal : Cert.SmallRefIdeal.Facts] : Prop :=
  ∀ (m : (ℓ : Loc Cert.SmallRefIdeal.nD Cert.SmallRefIdeal.τ Cert.SmallRefIdeal.sig) → Buf (Elt Ideal) ℓ) (g : Dev Cert.SmallRefIdeal.nD → PrngReg), Pre_SmallRefIdeal m →
    θ_run (Cert.SmallRefIdeal.defs (F := Ideal)) (onTc (τ := Cert.SmallRefIdeal.τ) (Cert.SmallRefIdeal.main (F := Ideal))) ⟨m, fun _ => 0, g⟩ (fun r => (∀ c : Dev Cert.SmallRefIdeal.nD,
      r.2.mem ((c.tc : Thread Cert.SmallRefIdeal.nD Cert.SmallRefIdeal.τ).loc Cert.SmallRefIdeal.main_arg0) = m ((c.tc : Thread Cert.SmallRefIdeal.nD Cert.SmallRefIdeal.τ).loc Cert.SmallRefIdeal.main_arg0))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamAttn [hAdamAttn : Cert.AdamAttn.Facts] : Prop :=
  ∀ (m : (ℓ : Loc Cert.AdamAttn.nD Cert.AdamAttn.τ Cert.AdamAttn.sig) → Buf (Elt Bits) ℓ) (g : Dev Cert.AdamAttn.nD → PrngReg), Pre_AdamAttn m →
    θ_run (Cert.AdamAttn.defs (F := Bits)) (onTc (τ := Cert.AdamAttn.τ) (Cert.AdamAttn.main (F := Bits))) ⟨m, fun _ => 0, g⟩ (fun r => (∀ c : Dev Cert.AdamAttn.nD,
      r.2.mem ((c.tc : Thread Cert.AdamAttn.nD Cert.AdamAttn.τ).loc Cert.AdamAttn.main_arg0) = m ((c.tc : Thread Cert.AdamAttn.nD Cert.AdamAttn.τ).loc Cert.AdamAttn.main_arg0)
      ∧ r.2.mem ((c.tc : Thread Cert.AdamAttn.nD Cert.AdamAttn.τ).loc Cert.AdamAttn.main_arg1) = m ((c.tc : Thread Cert.AdamAttn.nD Cert.AdamAttn.τ).loc Cert.AdamAttn.main_arg1)
      ∧ r.2.mem ((c.tc : Thread Cert.AdamAttn.nD Cert.AdamAttn.τ).loc Cert.AdamAttn.main_arg2) = m ((c.tc : Thread Cert.AdamAttn.nD Cert.AdamAttn.τ).loc Cert.AdamAttn.main_arg2)
      ∧ r.2.mem ((c.tc : Thread Cert.AdamAttn.nD Cert.AdamAttn.τ).loc Cert.AdamAttn.main_arg3) = m ((c.tc : Thread Cert.AdamAttn.nD Cert.AdamAttn.τ).loc Cert.AdamAttn.main_arg3))
      ∧ r.2.sem = fun _ => 0)

def quiescent_AdamAttnIdeal [hAdamAttnIdeal : Cert.AdamAttnIdeal.Facts] : Prop :=
  ∀ (m : (ℓ : Loc Cert.AdamAttnIdeal.nD Cert.AdamAttnIdeal.τ Cert.AdamAttnIdeal.sig) → Buf (Elt Ideal) ℓ) (g : Dev Cert.AdamAttnIdeal.nD → PrngReg), Pre_AdamAttnIdeal m →
    θ_run (Cert.AdamAttnIdeal.defs (F := Ideal)) (onTc (τ := Cert.AdamAttnIdeal.τ) (Cert.AdamAttnIdeal.main (F := Ideal))) ⟨m, fun _ => 0, g⟩ (fun r => (∀ c : Dev Cert.AdamAttnIdeal.nD,
      r.2.mem ((c.tc : Thread Cert.AdamAttnIdeal.nD Cert.AdamAttnIdeal.τ).loc Cert.AdamAttnIdeal.main_arg0) = m ((c.tc : Thread Cert.AdamAttnIdeal.nD Cert.AdamAttnIdeal.τ).loc Cert.AdamAttnIdeal.main_arg0)
      ∧ r.2.mem ((c.tc : Thread Cert.AdamAttnIdeal.nD Cert.AdamAttnIdeal.τ).loc Cert.AdamAttnIdeal.main_arg1) = m ((c.tc : Thread Cert.AdamAttnIdeal.nD Cert.AdamAttnIdeal.τ).loc Cert.AdamAttnIdeal.main_arg1)
      ∧ r.2.mem ((c.tc : Thread Cert.AdamAttnIdeal.nD Cert.AdamAttnIdeal.τ).loc Cert.AdamAttnIdeal.main_arg2) = m ((c.tc : Thread Cert.AdamAttnIdeal.nD Cert.AdamAttnIdeal.τ).loc Cert.AdamAttnIdeal.main_arg2)
      ∧ r.2.mem ((c.tc : Thread Cert.AdamAttnIdeal.nD Cert.AdamAttnIdeal.τ).loc Cert.AdamAttnIdeal.main_arg3) = m ((c.tc : Thread Cert.AdamAttnIdeal.nD Cert.AdamAttnIdeal.τ).loc Cert.AdamAttnIdeal.main_arg3))
      ∧ r.2.sem = fun _ => 0)

def quiescent_AdamAttnRefIdeal [hAdamAttnRefIdeal : Cert.AdamAttnRefIdeal.Facts] : Prop :=
  ∀ (m : (ℓ : Loc Cert.AdamAttnRefIdeal.nD Cert.AdamAttnRefIdeal.τ Cert.AdamAttnRefIdeal.sig) → Buf (Elt Ideal) ℓ) (g : Dev Cert.AdamAttnRefIdeal.nD → PrngReg), Pre_AdamAttnRefIdeal m →
    θ_run (Cert.AdamAttnRefIdeal.defs (F := Ideal)) (onTc (τ := Cert.AdamAttnRefIdeal.τ) (Cert.AdamAttnRefIdeal.main (F := Ideal))) ⟨m, fun _ => 0, g⟩ (fun r => (∀ c : Dev Cert.AdamAttnRefIdeal.nD,
      r.2.mem ((c.tc : Thread Cert.AdamAttnRefIdeal.nD Cert.AdamAttnRefIdeal.τ).loc Cert.AdamAttnRefIdeal.main_arg0) = m ((c.tc : Thread Cert.AdamAttnRefIdeal.nD Cert.AdamAttnRefIdeal.τ).loc Cert.AdamAttnRefIdeal.main_arg0)
      ∧ r.2.mem ((c.tc : Thread Cert.AdamAttnRefIdeal.nD Cert.AdamAttnRefIdeal.τ).loc Cert.AdamAttnRefIdeal.main_arg1) = m ((c.tc : Thread Cert.AdamAttnRefIdeal.nD Cert.AdamAttnRefIdeal.τ).loc Cert.AdamAttnRefIdeal.main_arg1)
      ∧ r.2.mem ((c.tc : Thread Cert.AdamAttnRefIdeal.nD Cert.AdamAttnRefIdeal.τ).loc Cert.AdamAttnRefIdeal.main_arg2) = m ((c.tc : Thread Cert.AdamAttnRefIdeal.nD Cert.AdamAttnRefIdeal.τ).loc Cert.AdamAttnRefIdeal.main_arg2)
      ∧ r.2.mem ((c.tc : Thread Cert.AdamAttnRefIdeal.nD Cert.AdamAttnRefIdeal.τ).loc Cert.AdamAttnRefIdeal.main_arg3) = m ((c.tc : Thread Cert.AdamAttnRefIdeal.nD Cert.AdamAttnRefIdeal.τ).loc Cert.AdamAttnRefIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def quiescent_AdamSsm [hAdamSsm : Cert.AdamSsm.Facts] : Prop :=
  ∀ (m : (ℓ : Loc Cert.AdamSsm.nD Cert.AdamSsm.τ Cert.AdamSsm.sig) → Buf (Elt Bits) ℓ) (g : Dev Cert.AdamSsm.nD → PrngReg), Pre_AdamSsm m →
    θ_run (Cert.AdamSsm.defs (F := Bits)) (onTc (τ := Cert.AdamSsm.τ) (Cert.AdamSsm.main (F := Bits))) ⟨m, fun _ => 0, g⟩ (fun r => (∀ c : Dev Cert.AdamSsm.nD,
      r.2.mem ((c.tc : Thread Cert.AdamSsm.nD Cert.AdamSsm.τ).loc Cert.AdamSsm.main_arg0) = m ((c.tc : Thread Cert.AdamSsm.nD Cert.AdamSsm.τ).loc Cert.AdamSsm.main_arg0)
      ∧ r.2.mem ((c.tc : Thread Cert.AdamSsm.nD Cert.AdamSsm.τ).loc Cert.AdamSsm.main_arg1) = m ((c.tc : Thread Cert.AdamSsm.nD Cert.AdamSsm.τ).loc Cert.AdamSsm.main_arg1)
      ∧ r.2.mem ((c.tc : Thread Cert.AdamSsm.nD Cert.AdamSsm.τ).loc Cert.AdamSsm.main_arg2) = m ((c.tc : Thread Cert.AdamSsm.nD Cert.AdamSsm.τ).loc Cert.AdamSsm.main_arg2)
      ∧ r.2.mem ((c.tc : Thread Cert.AdamSsm.nD Cert.AdamSsm.τ).loc Cert.AdamSsm.main_arg3) = m ((c.tc : Thread Cert.AdamSsm.nD Cert.AdamSsm.τ).loc Cert.AdamSsm.main_arg3))
      ∧ r.2.sem = fun _ => 0)

def quiescent_AdamSsmIdeal [hAdamSsmIdeal : Cert.AdamSsmIdeal.Facts] : Prop :=
  ∀ (m : (ℓ : Loc Cert.AdamSsmIdeal.nD Cert.AdamSsmIdeal.τ Cert.AdamSsmIdeal.sig) → Buf (Elt Ideal) ℓ) (g : Dev Cert.AdamSsmIdeal.nD → PrngReg), Pre_AdamSsmIdeal m →
    θ_run (Cert.AdamSsmIdeal.defs (F := Ideal)) (onTc (τ := Cert.AdamSsmIdeal.τ) (Cert.AdamSsmIdeal.main (F := Ideal))) ⟨m, fun _ => 0, g⟩ (fun r => (∀ c : Dev Cert.AdamSsmIdeal.nD,
      r.2.mem ((c.tc : Thread Cert.AdamSsmIdeal.nD Cert.AdamSsmIdeal.τ).loc Cert.AdamSsmIdeal.main_arg0) = m ((c.tc : Thread Cert.AdamSsmIdeal.nD Cert.AdamSsmIdeal.τ).loc Cert.AdamSsmIdeal.main_arg0)
      ∧ r.2.mem ((c.tc : Thread Cert.AdamSsmIdeal.nD Cert.AdamSsmIdeal.τ).loc Cert.AdamSsmIdeal.main_arg1) = m ((c.tc : Thread Cert.AdamSsmIdeal.nD Cert.AdamSsmIdeal.τ).loc Cert.AdamSsmIdeal.main_arg1)
      ∧ r.2.mem ((c.tc : Thread Cert.AdamSsmIdeal.nD Cert.AdamSsmIdeal.τ).loc Cert.AdamSsmIdeal.main_arg2) = m ((c.tc : Thread Cert.AdamSsmIdeal.nD Cert.AdamSsmIdeal.τ).loc Cert.AdamSsmIdeal.main_arg2)
      ∧ r.2.mem ((c.tc : Thread Cert.AdamSsmIdeal.nD Cert.AdamSsmIdeal.τ).loc Cert.AdamSsmIdeal.main_arg3) = m ((c.tc : Thread Cert.AdamSsmIdeal.nD Cert.AdamSsmIdeal.τ).loc Cert.AdamSsmIdeal.main_arg3))
      ∧ r.2.sem = fun _ => 0)

def quiescent_AdamSsmRefIdeal [hAdamSsmRefIdeal : Cert.AdamSsmRefIdeal.Facts] : Prop :=
  ∀ (m : (ℓ : Loc Cert.AdamSsmRefIdeal.nD Cert.AdamSsmRefIdeal.τ Cert.AdamSsmRefIdeal.sig) → Buf (Elt Ideal) ℓ) (g : Dev Cert.AdamSsmRefIdeal.nD → PrngReg), Pre_AdamSsmRefIdeal m →
    θ_run (Cert.AdamSsmRefIdeal.defs (F := Ideal)) (onTc (τ := Cert.AdamSsmRefIdeal.τ) (Cert.AdamSsmRefIdeal.main (F := Ideal))) ⟨m, fun _ => 0, g⟩ (fun r => (∀ c : Dev Cert.AdamSsmRefIdeal.nD,
      r.2.mem ((c.tc : Thread Cert.AdamSsmRefIdeal.nD Cert.AdamSsmRefIdeal.τ).loc Cert.AdamSsmRefIdeal.main_arg0) = m ((c.tc : Thread Cert.AdamSsmRefIdeal.nD Cert.AdamSsmRefIdeal.τ).loc Cert.AdamSsmRefIdeal.main_arg0)
      ∧ r.2.mem ((c.tc : Thread Cert.AdamSsmRefIdeal.nD Cert.AdamSsmRefIdeal.τ).loc Cert.AdamSsmRefIdeal.main_arg1) = m ((c.tc : Thread Cert.AdamSsmRefIdeal.nD Cert.AdamSsmRefIdeal.τ).loc Cert.AdamSsmRefIdeal.main_arg1)
      ∧ r.2.mem ((c.tc : Thread Cert.AdamSsmRefIdeal.nD Cert.AdamSsmRefIdeal.τ).loc Cert.AdamSsmRefIdeal.main_arg2) = m ((c.tc : Thread Cert.AdamSsmRefIdeal.nD Cert.AdamSsmRefIdeal.τ).loc Cert.AdamSsmRefIdeal.main_arg2)
      ∧ r.2.mem ((c.tc : Thread Cert.AdamSsmRefIdeal.nD Cert.AdamSsmRefIdeal.τ).loc Cert.AdamSsmRefIdeal.main_arg3) = m ((c.tc : Thread Cert.AdamSsmRefIdeal.nD Cert.AdamSsmRefIdeal.τ).loc Cert.AdamSsmRefIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def quiescent_AdamConv [hAdamConv : Cert.AdamConv.Facts] : Prop :=
  ∀ (m : (ℓ : Loc Cert.AdamConv.nD Cert.AdamConv.τ Cert.AdamConv.sig) → Buf (Elt Bits) ℓ) (g : Dev Cert.AdamConv.nD → PrngReg), Pre_AdamConv m →
    θ_run (Cert.AdamConv.defs (F := Bits)) (onTc (τ := Cert.AdamConv.τ) (Cert.AdamConv.main (F := Bits))) ⟨m, fun _ => 0, g⟩ (fun r => (∀ c : Dev Cert.AdamConv.nD,
      r.2.mem ((c.tc : Thread Cert.AdamConv.nD Cert.AdamConv.τ).loc Cert.AdamConv.main_arg0) = m ((c.tc : Thread Cert.AdamConv.nD Cert.AdamConv.τ).loc Cert.AdamConv.main_arg0)
      ∧ r.2.mem ((c.tc : Thread Cert.AdamConv.nD Cert.AdamConv.τ).loc Cert.AdamConv.main_arg1) = m ((c.tc : Thread Cert.AdamConv.nD Cert.AdamConv.τ).loc Cert.AdamConv.main_arg1)
      ∧ r.2.mem ((c.tc : Thread Cert.AdamConv.nD Cert.AdamConv.τ).loc Cert.AdamConv.main_arg2) = m ((c.tc : Thread Cert.AdamConv.nD Cert.AdamConv.τ).loc Cert.AdamConv.main_arg2)
      ∧ r.2.mem ((c.tc : Thread Cert.AdamConv.nD Cert.AdamConv.τ).loc Cert.AdamConv.main_arg3) = m ((c.tc : Thread Cert.AdamConv.nD Cert.AdamConv.τ).loc Cert.AdamConv.main_arg3))
      ∧ r.2.sem = fun _ => 0)

def quiescent_AdamConvIdeal [hAdamConvIdeal : Cert.AdamConvIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg), Pre_AdamConvIdeal m →
    θ_run (Cert.AdamConvIdeal.defs (F := Ideal)) (onTc (τ := Cert.AdamConvIdeal.τ) (Cert.AdamConvIdeal.main (F := Ideal))) ⟨m, fun _ => 0, g⟩ (fun r => (∀ c : Dev Cert.AdamConvIdeal.nD,
      r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
      ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
      ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
      ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3))
      ∧ r.2.sem = fun _ => 0)

def quiescent_AdamConvRefIdeal [hAdamConvRefIdeal : Cert.AdamConvRefIdeal.Facts] : Prop :=
  ∀ (m : (ℓ : Loc Cert.AdamConvRefIdeal.nD Cert.AdamConvRefIdeal.τ Cert.AdamConvRefIdeal.sig) → Buf (Elt Ideal) ℓ) (g : Dev Cert.AdamConvRefIdeal.nD → PrngReg), Pre_AdamConvRefIdeal m →
    θ_run (Cert.AdamConvRefIdeal.defs (F := Ideal)) (onTc (τ := Cert.AdamConvRefIdeal.τ) (Cert.AdamConvRefIdeal.main (F := Ideal))) ⟨m, fun _ => 0, g⟩ (fun r => (∀ c : Dev Cert.AdamConvRefIdeal.nD,
      r.2.mem ((c.tc : Thread Cert.AdamConvRefIdeal.nD Cert.AdamConvRefIdeal.τ).loc Cert.AdamConvRefIdeal.main_arg0) = m ((c.tc : Thread Cert.AdamConvRefIdeal.nD Cert.AdamConvRefIdeal.τ).loc Cert.AdamConvRefIdeal.main_arg0)
      ∧ r.2.mem ((c.tc : Thread Cert.AdamConvRefIdeal.nD Cert.AdamConvRefIdeal.τ).loc Cert.AdamConvRefIdeal.main_arg1) = m ((c.tc : Thread Cert.AdamConvRefIdeal.nD Cert.AdamConvRefIdeal.τ).loc Cert.AdamConvRefIdeal.main_arg1)
      ∧ r.2.mem ((c.tc : Thread Cert.AdamConvRefIdeal.nD Cert.AdamConvRefIdeal.τ).loc Cert.AdamConvRefIdeal.main_arg2) = m ((c.tc : Thread Cert.AdamConvRefIdeal.nD Cert.AdamConvRefIdeal.τ).loc Cert.AdamConvRefIdeal.main_arg2)
      ∧ r.2.mem ((c.tc : Thread Cert.AdamConvRefIdeal.nD Cert.AdamConvRefIdeal.τ).loc Cert.AdamConvRefIdeal.main_arg3) = m ((c.tc : Thread Cert.AdamConvRefIdeal.nD Cert.AdamConvRefIdeal.τ).loc Cert.AdamConvRefIdeal.main_arg3))
      ∧ r.2.sem = fun _ => 0)

def quiescent_NormBack [hNormBack : Cert.NormBack.Facts] : Prop :=
  ∀ (m : (ℓ : Loc Cert.NormBack.nD Cert.NormBack.τ Cert.NormBack.sig) → Buf (Elt Bits) ℓ) (g : Dev Cert.NormBack.nD → PrngReg), Pre_NormBack m →
    θ_run (Cert.NormBack.defs (F := Bits)) (onTc (τ := Cert.NormBack.τ) (Cert.NormBack.main (F := Bits))) ⟨m, fun _ => 0, g⟩ (fun r => (∀ c : Dev Cert.NormBack.nD,
      r.2.mem ((c.tc : Thread Cert.NormBack.nD Cert.NormBack.τ).loc Cert.NormBack.main_arg0) = m ((c.tc : Thread Cert.NormBack.nD Cert.NormBack.τ).loc Cert.NormBack.main_arg0)
      ∧ r.2.mem ((c.tc : Thread Cert.NormBack.nD Cert.NormBack.τ).loc Cert.NormBack.main_arg1) = m ((c.tc : Thread Cert.NormBack.nD Cert.NormBack.τ).loc Cert.NormBack.main_arg1)
      ∧ r.2.mem ((c.tc : Thread Cert.NormBack.nD Cert.NormBack.τ).loc Cert.NormBack.main_arg2) = m ((c.tc : Thread Cert.NormBack.nD Cert.NormBack.τ).loc Cert.NormBack.main_arg2)
      ∧ r.2.mem ((c.tc : Thread Cert.NormBack.nD Cert.NormBack.τ).loc Cert.NormBack.main_arg3) = m ((c.tc : Thread Cert.NormBack.nD Cert.NormBack.τ).loc Cert.NormBack.main_arg3)
      ∧ r.2.mem ((c.tc : Thread Cert.NormBack.nD Cert.NormBack.τ).loc Cert.NormBack.main_arg4) = m ((c.tc : Thread Cert.NormBack.nD Cert.NormBack.τ).loc Cert.NormBack.main_arg4))
      ∧ r.2.sem = fun _ => 0)

def quiescent_NormBackIdeal [hNormBackIdeal : Cert.NormBackIdeal.Facts] : Prop :=
  ∀ (m : (ℓ : Loc Cert.NormBackIdeal.nD Cert.NormBackIdeal.τ Cert.NormBackIdeal.sig) → Buf (Elt Ideal) ℓ) (g : Dev Cert.NormBackIdeal.nD → PrngReg), Pre_NormBackIdeal m →
    θ_run (Cert.NormBackIdeal.defs (F := Ideal)) (onTc (τ := Cert.NormBackIdeal.τ) (Cert.NormBackIdeal.main (F := Ideal))) ⟨m, fun _ => 0, g⟩ (fun r => (∀ c : Dev Cert.NormBackIdeal.nD,
      r.2.mem ((c.tc : Thread Cert.NormBackIdeal.nD Cert.NormBackIdeal.τ).loc Cert.NormBackIdeal.main_arg0) = m ((c.tc : Thread Cert.NormBackIdeal.nD Cert.NormBackIdeal.τ).loc Cert.NormBackIdeal.main_arg0)
      ∧ r.2.mem ((c.tc : Thread Cert.NormBackIdeal.nD Cert.NormBackIdeal.τ).loc Cert.NormBackIdeal.main_arg1) = m ((c.tc : Thread Cert.NormBackIdeal.nD Cert.NormBackIdeal.τ).loc Cert.NormBackIdeal.main_arg1)
      ∧ r.2.mem ((c.tc : Thread Cert.NormBackIdeal.nD Cert.NormBackIdeal.τ).loc Cert.NormBackIdeal.main_arg2) = m ((c.tc : Thread Cert.NormBackIdeal.nD Cert.NormBackIdeal.τ).loc Cert.NormBackIdeal.main_arg2)
      ∧ r.2.mem ((c.tc : Thread Cert.NormBackIdeal.nD Cert.NormBackIdeal.τ).loc Cert.NormBackIdeal.main_arg3) = m ((c.tc : Thread Cert.NormBackIdeal.nD Cert.NormBackIdeal.τ).loc Cert.NormBackIdeal.main_arg3)
      ∧ r.2.mem ((c.tc : Thread Cert.NormBackIdeal.nD Cert.NormBackIdeal.τ).loc Cert.NormBackIdeal.main_arg4) = m ((c.tc : Thread Cert.NormBackIdeal.nD Cert.NormBackIdeal.τ).loc Cert.NormBackIdeal.main_arg4))
      ∧ r.2.sem = fun _ => 0)

def quiescent_NormBackRefIdeal [hNormBackRefIdeal : Cert.NormBackRefIdeal.Facts] : Prop :=
  ∀ (m : (ℓ : Loc Cert.NormBackRefIdeal.nD Cert.NormBackRefIdeal.τ Cert.NormBackRefIdeal.sig) → Buf (Elt Ideal) ℓ) (g : Dev Cert.NormBackRefIdeal.nD → PrngReg), Pre_NormBackRefIdeal m →
    θ_run (Cert.NormBackRefIdeal.defs (F := Ideal)) (onTc (τ := Cert.NormBackRefIdeal.τ) (Cert.NormBackRefIdeal.main (F := Ideal))) ⟨m, fun _ => 0, g⟩ (fun r => (∀ c : Dev Cert.NormBackRefIdeal.nD,
      r.2.mem ((c.tc : Thread Cert.NormBackRefIdeal.nD Cert.NormBackRefIdeal.τ).loc Cert.NormBackRefIdeal.main_arg0) = m ((c.tc : Thread Cert.NormBackRefIdeal.nD Cert.NormBackRefIdeal.τ).loc Cert.NormBackRefIdeal.main_arg0)
      ∧ r.2.mem ((c.tc : Thread Cert.NormBackRefIdeal.nD Cert.NormBackRefIdeal.τ).loc Cert.NormBackRefIdeal.main_arg1) = m ((c.tc : Thread Cert.NormBackRefIdeal.nD Cert.NormBackRefIdeal.τ).loc Cert.NormBackRefIdeal.main_arg1)
      ∧ r.2.mem ((c.tc : Thread Cert.NormBackRefIdeal.nD Cert.NormBackRefIdeal.τ).loc Cert.NormBackRefIdeal.main_arg2) = m ((c.tc : Thread Cert.NormBackRefIdeal.nD Cert.NormBackRefIdeal.τ).loc Cert.NormBackRefIdeal.main_arg2)
      ∧ r.2.mem ((c.tc : Thread Cert.NormBackRefIdeal.nD Cert.NormBackRefIdeal.τ).loc Cert.NormBackRefIdeal.main_arg3) = m ((c.tc : Thread Cert.NormBackRefIdeal.nD Cert.NormBackRefIdeal.τ).loc Cert.NormBackRefIdeal.main_arg3)
      ∧ r.2.mem ((c.tc : Thread Cert.NormBackRefIdeal.nD Cert.NormBackRefIdeal.τ).loc Cert.NormBackRefIdeal.main_arg4) = m ((c.tc : Thread Cert.NormBackRefIdeal.nD Cert.NormBackRefIdeal.τ).loc Cert.NormBackRefIdeal.main_arg4))
      ∧ r.2.sem = fun _ => 0)

def quiescent_LossBack [hLossBack : Cert.LossBack.Facts] : Prop :=
  ∀ (m : (ℓ : Loc Cert.LossBack.nD Cert.LossBack.τ Cert.LossBack.sig) → Buf (Elt Bits) ℓ) (g : Dev Cert.LossBack.nD → PrngReg), Pre_LossBack m →
    θ_run (Cert.LossBack.defs (F := Bits)) (onTc (τ := Cert.LossBack.τ) (Cert.LossBack.main (F := Bits))) ⟨m, fun _ => 0, g⟩ (fun r => (∀ c : Dev Cert.LossBack.nD,
      r.2.mem ((c.tc : Thread Cert.LossBack.nD Cert.LossBack.τ).loc Cert.LossBack.main_arg0) = m ((c.tc : Thread Cert.LossBack.nD Cert.LossBack.τ).loc Cert.LossBack.main_arg0)
      ∧ r.2.mem ((c.tc : Thread Cert.LossBack.nD Cert.LossBack.τ).loc Cert.LossBack.main_arg1) = m ((c.tc : Thread Cert.LossBack.nD Cert.LossBack.τ).loc Cert.LossBack.main_arg1)
      ∧ r.2.mem ((c.tc : Thread Cert.LossBack.nD Cert.LossBack.τ).loc Cert.LossBack.main_arg2) = m ((c.tc : Thread Cert.LossBack.nD Cert.LossBack.τ).loc Cert.LossBack.main_arg2)
      ∧ r.2.mem ((c.tc : Thread Cert.LossBack.nD Cert.LossBack.τ).loc Cert.LossBack.main_arg3) = m ((c.tc : Thread Cert.LossBack.nD Cert.LossBack.τ).loc Cert.LossBack.main_arg3))
      ∧ r.2.sem = fun _ => 0)

def quiescent_LossBackIdeal [hLossBackIdeal : Cert.LossBackIdeal.Facts] : Prop :=
  ∀ (m : (ℓ : Loc Cert.LossBackIdeal.nD Cert.LossBackIdeal.τ Cert.LossBackIdeal.sig) → Buf (Elt Ideal) ℓ) (g : Dev Cert.LossBackIdeal.nD → PrngReg), Pre_LossBackIdeal m →
    θ_run (Cert.LossBackIdeal.defs (F := Ideal)) (onTc (τ := Cert.LossBackIdeal.τ) (Cert.LossBackIdeal.main (F := Ideal))) ⟨m, fun _ => 0, g⟩ (fun r => (∀ c : Dev Cert.LossBackIdeal.nD,
      r.2.mem ((c.tc : Thread Cert.LossBackIdeal.nD Cert.LossBackIdeal.τ).loc Cert.LossBackIdeal.main_arg0) = m ((c.tc : Thread Cert.LossBackIdeal.nD Cert.LossBackIdeal.τ).loc Cert.LossBackIdeal.main_arg0)
      ∧ r.2.mem ((c.tc : Thread Cert.LossBackIdeal.nD Cert.LossBackIdeal.τ).loc Cert.LossBackIdeal.main_arg1) = m ((c.tc : Thread Cert.LossBackIdeal.nD Cert.LossBackIdeal.τ).loc Cert.LossBackIdeal.main_arg1)
      ∧ r.2.mem ((c.tc : Thread Cert.LossBackIdeal.nD Cert.LossBackIdeal.τ).loc Cert.LossBackIdeal.main_arg2) = m ((c.tc : Thread Cert.LossBackIdeal.nD Cert.LossBackIdeal.τ).loc Cert.LossBackIdeal.main_arg2)
      ∧ r.2.mem ((c.tc : Thread Cert.LossBackIdeal.nD Cert.LossBackIdeal.τ).loc Cert.LossBackIdeal.main_arg3) = m ((c.tc : Thread Cert.LossBackIdeal.nD Cert.LossBackIdeal.τ).loc Cert.LossBackIdeal.main_arg3))
      ∧ r.2.sem = fun _ => 0)

def quiescent_LossBackRefIdeal [hLossBackRefIdeal : Cert.LossBackRefIdeal.Facts] : Prop :=
  ∀ (m : (ℓ : Loc Cert.LossBackRefIdeal.nD Cert.LossBackRefIdeal.τ Cert.LossBackRefIdeal.sig) → Buf (Elt Ideal) ℓ) (g : Dev Cert.LossBackRefIdeal.nD → PrngReg), Pre_LossBackRefIdeal m →
    θ_run (Cert.LossBackRefIdeal.defs (F := Ideal)) (onTc (τ := Cert.LossBackRefIdeal.τ) (Cert.LossBackRefIdeal.main (F := Ideal))) ⟨m, fun _ => 0, g⟩ (fun r => (∀ c : Dev Cert.LossBackRefIdeal.nD,
      r.2.mem ((c.tc : Thread Cert.LossBackRefIdeal.nD Cert.LossBackRefIdeal.τ).loc Cert.LossBackRefIdeal.main_arg0) = m ((c.tc : Thread Cert.LossBackRefIdeal.nD Cert.LossBackRefIdeal.τ).loc Cert.LossBackRefIdeal.main_arg0)
      ∧ r.2.mem ((c.tc : Thread Cert.LossBackRefIdeal.nD Cert.LossBackRefIdeal.τ).loc Cert.LossBackRefIdeal.main_arg1) = m ((c.tc : Thread Cert.LossBackRefIdeal.nD Cert.LossBackRefIdeal.τ).loc Cert.LossBackRefIdeal.main_arg1)
      ∧ r.2.mem ((c.tc : Thread Cert.LossBackRefIdeal.nD Cert.LossBackRefIdeal.τ).loc Cert.LossBackRefIdeal.main_arg2) = m ((c.tc : Thread Cert.LossBackRefIdeal.nD Cert.LossBackRefIdeal.τ).loc Cert.LossBackRefIdeal.main_arg2)
      ∧ r.2.mem ((c.tc : Thread Cert.LossBackRefIdeal.nD Cert.LossBackRefIdeal.τ).loc Cert.LossBackRefIdeal.main_arg3) = m ((c.tc : Thread Cert.LossBackRefIdeal.nD Cert.LossBackRefIdeal.τ).loc Cert.LossBackRefIdeal.main_arg3))
      ∧ r.2.sem = fun _ => 0)

def quiescent_NormFwd [hNormFwd : Cert.NormFwd.Facts] : Prop :=
  ∀ (m : (ℓ : Loc Cert.NormFwd.nD Cert.NormFwd.τ Cert.NormFwd.sig) → Buf (Elt Bits) ℓ) (g : Dev Cert.NormFwd.nD → PrngReg), Pre_NormFwd m →
    θ_run (Cert.NormFwd.defs (F := Bits)) (onTc (τ := Cert.NormFwd.τ) (Cert.NormFwd.main (F := Bits))) ⟨m, fun _ => 0, g⟩ (fun r => (∀ c : Dev Cert.NormFwd.nD,
      r.2.mem ((c.tc : Thread Cert.NormFwd.nD Cert.NormFwd.τ).loc Cert.NormFwd.main_arg0) = m ((c.tc : Thread Cert.NormFwd.nD Cert.NormFwd.τ).loc Cert.NormFwd.main_arg0)
      ∧ r.2.mem ((c.tc : Thread Cert.NormFwd.nD Cert.NormFwd.τ).loc Cert.NormFwd.main_arg1) = m ((c.tc : Thread Cert.NormFwd.nD Cert.NormFwd.τ).loc Cert.NormFwd.main_arg1))
      ∧ r.2.sem = fun _ => 0)

def quiescent_NormFwdIdeal [hNormFwdIdeal : Cert.NormFwdIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg), Pre_NormFwdIdeal m →
    θ_run (Cert.NormFwdIdeal.defs (F := Ideal)) (onTc (τ := Cert.NormFwdIdeal.τ) (Cert.NormFwdIdeal.main (F := Ideal))) ⟨m, fun _ => 0, g⟩ (fun r => (∀ c : Dev Cert.NormFwdIdeal.nD,
      r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
      ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ r.2.sem = fun _ => 0)

def quiescent_NormFwdRefIdeal [hNormFwdRefIdeal : Cert.NormFwdRefIdeal.Facts] : Prop :=
  ∀ (m : (ℓ : Loc Cert.NormFwdRefIdeal.nD Cert.NormFwdRefIdeal.τ Cert.NormFwdRefIdeal.sig) → Buf (Elt Ideal) ℓ) (g : Dev Cert.NormFwdRefIdeal.nD → PrngReg), Pre_NormFwdRefIdeal m →
    θ_run (Cert.NormFwdRefIdeal.defs (F := Ideal)) (onTc (τ := Cert.NormFwdRefIdeal.τ) (Cert.NormFwdRefIdeal.main (F := Ideal))) ⟨m, fun _ => 0, g⟩ (fun r => (∀ c : Dev Cert.NormFwdRefIdeal.nD,
      r.2.mem ((c.tc : Thread Cert.NormFwdRefIdeal.nD Cert.NormFwdRefIdeal.τ).loc Cert.NormFwdRefIdeal.main_arg0) = m ((c.tc : Thread Cert.NormFwdRefIdeal.nD Cert.NormFwdRefIdeal.τ).loc Cert.NormFwdRefIdeal.main_arg0)
      ∧ r.2.mem ((c.tc : Thread Cert.NormFwdRefIdeal.nD Cert.NormFwdRefIdeal.τ).loc Cert.NormFwdRefIdeal.main_arg1) = m ((c.tc : Thread Cert.NormFwdRefIdeal.nD Cert.NormFwdRefIdeal.τ).loc Cert.NormFwdRefIdeal.main_arg1))
      ∧ r.2.sem = fun _ => 0)

def quiescent_GatedNorm [hGatedNorm : Cert.GatedNorm.Facts] : Prop :=
  ∀ (m : (ℓ : Loc Cert.GatedNorm.nD Cert.GatedNorm.τ Cert.GatedNorm.sig) → Buf (Elt Bits) ℓ) (g : Dev Cert.GatedNorm.nD → PrngReg), Pre_GatedNorm m →
    θ_run (Cert.GatedNorm.defs (F := Bits)) (onTc (τ := Cert.GatedNorm.τ) (Cert.GatedNorm.main (F := Bits))) ⟨m, fun _ => 0, g⟩ (fun r => (∀ c : Dev Cert.GatedNorm.nD,
      r.2.mem ((c.tc : Thread Cert.GatedNorm.nD Cert.GatedNorm.τ).loc Cert.GatedNorm.main_arg0) = m ((c.tc : Thread Cert.GatedNorm.nD Cert.GatedNorm.τ).loc Cert.GatedNorm.main_arg0)
      ∧ r.2.mem ((c.tc : Thread Cert.GatedNorm.nD Cert.GatedNorm.τ).loc Cert.GatedNorm.main_arg1) = m ((c.tc : Thread Cert.GatedNorm.nD Cert.GatedNorm.τ).loc Cert.GatedNorm.main_arg1)
      ∧ r.2.mem ((c.tc : Thread Cert.GatedNorm.nD Cert.GatedNorm.τ).loc Cert.GatedNorm.main_arg2) = m ((c.tc : Thread Cert.GatedNorm.nD Cert.GatedNorm.τ).loc Cert.GatedNorm.main_arg2)
      ∧ r.2.mem ((c.tc : Thread Cert.GatedNorm.nD Cert.GatedNorm.τ).loc Cert.GatedNorm.main_arg3) = m ((c.tc : Thread Cert.GatedNorm.nD Cert.GatedNorm.τ).loc Cert.GatedNorm.main_arg3)
      ∧ r.2.mem ((c.tc : Thread Cert.GatedNorm.nD Cert.GatedNorm.τ).loc Cert.GatedNorm.main_arg4) = m ((c.tc : Thread Cert.GatedNorm.nD Cert.GatedNorm.τ).loc Cert.GatedNorm.main_arg4))
      ∧ r.2.sem = fun _ => 0)

def quiescent_GatedNormIdeal [hGatedNormIdeal : Cert.GatedNormIdeal.Facts] : Prop :=
  ∀ (m : (ℓ : Loc Cert.GatedNormIdeal.nD Cert.GatedNormIdeal.τ Cert.GatedNormIdeal.sig) → Buf (Elt Ideal) ℓ) (g : Dev Cert.GatedNormIdeal.nD → PrngReg), Pre_GatedNormIdeal m →
    θ_run (Cert.GatedNormIdeal.defs (F := Ideal)) (onTc (τ := Cert.GatedNormIdeal.τ) (Cert.GatedNormIdeal.main (F := Ideal))) ⟨m, fun _ => 0, g⟩ (fun r => (∀ c : Dev Cert.GatedNormIdeal.nD,
      r.2.mem ((c.tc : Thread Cert.GatedNormIdeal.nD Cert.GatedNormIdeal.τ).loc Cert.GatedNormIdeal.main_arg0) = m ((c.tc : Thread Cert.GatedNormIdeal.nD Cert.GatedNormIdeal.τ).loc Cert.GatedNormIdeal.main_arg0)
      ∧ r.2.mem ((c.tc : Thread Cert.GatedNormIdeal.nD Cert.GatedNormIdeal.τ).loc Cert.GatedNormIdeal.main_arg1) = m ((c.tc : Thread Cert.GatedNormIdeal.nD Cert.GatedNormIdeal.τ).loc Cert.GatedNormIdeal.main_arg1)
      ∧ r.2.mem ((c.tc : Thread Cert.GatedNormIdeal.nD Cert.GatedNormIdeal.τ).loc Cert.GatedNormIdeal.main_arg2) = m ((c.tc : Thread Cert.GatedNormIdeal.nD Cert.GatedNormIdeal.τ).loc Cert.GatedNormIdeal.main_arg2)
      ∧ r.2.mem ((c.tc : Thread Cert.GatedNormIdeal.nD Cert.GatedNormIdeal.τ).loc Cert.GatedNormIdeal.main_arg3) = m ((c.tc : Thread Cert.GatedNormIdeal.nD Cert.GatedNormIdeal.τ).loc Cert.GatedNormIdeal.main_arg3)
      ∧ r.2.mem ((c.tc : Thread Cert.GatedNormIdeal.nD Cert.GatedNormIdeal.τ).loc Cert.GatedNormIdeal.main_arg4) = m ((c.tc : Thread Cert.GatedNormIdeal.nD Cert.GatedNormIdeal.τ).loc Cert.GatedNormIdeal.main_arg4))
      ∧ r.2.sem = fun _ => 0)

def quiescent_GatedNormRefIdeal [hGatedNormRefIdeal : Cert.GatedNormRefIdeal.Facts] : Prop :=
  ∀ (m : (ℓ : Loc Cert.GatedNormRefIdeal.nD Cert.GatedNormRefIdeal.τ Cert.GatedNormRefIdeal.sig) → Buf (Elt Ideal) ℓ) (g : Dev Cert.GatedNormRefIdeal.nD → PrngReg), Pre_GatedNormRefIdeal m →
    θ_run (Cert.GatedNormRefIdeal.defs (F := Ideal)) (onTc (τ := Cert.GatedNormRefIdeal.τ) (Cert.GatedNormRefIdeal.main (F := Ideal))) ⟨m, fun _ => 0, g⟩ (fun r => (∀ c : Dev Cert.GatedNormRefIdeal.nD,
      r.2.mem ((c.tc : Thread Cert.GatedNormRefIdeal.nD Cert.GatedNormRefIdeal.τ).loc Cert.GatedNormRefIdeal.main_arg0) = m ((c.tc : Thread Cert.GatedNormRefIdeal.nD Cert.GatedNormRefIdeal.τ).loc Cert.GatedNormRefIdeal.main_arg0)
      ∧ r.2.mem ((c.tc : Thread Cert.GatedNormRefIdeal.nD Cert.GatedNormRefIdeal.τ).loc Cert.GatedNormRefIdeal.main_arg1) = m ((c.tc : Thread Cert.GatedNormRefIdeal.nD Cert.GatedNormRefIdeal.τ).loc Cert.GatedNormRefIdeal.main_arg1)
      ∧ r.2.mem ((c.tc : Thread Cert.GatedNormRefIdeal.nD Cert.GatedNormRefIdeal.τ).loc Cert.GatedNormRefIdeal.main_arg2) = m ((c.tc : Thread Cert.GatedNormRefIdeal.nD Cert.GatedNormRefIdeal.τ).loc Cert.GatedNormRefIdeal.main_arg2)
      ∧ r.2.mem ((c.tc : Thread Cert.GatedNormRefIdeal.nD Cert.GatedNormRefIdeal.τ).loc Cert.GatedNormRefIdeal.main_arg3) = m ((c.tc : Thread Cert.GatedNormRefIdeal.nD Cert.GatedNormRefIdeal.τ).loc Cert.GatedNormRefIdeal.main_arg3)
      ∧ r.2.mem ((c.tc : Thread Cert.GatedNormRefIdeal.nD Cert.GatedNormRefIdeal.τ).loc Cert.GatedNormRefIdeal.main_arg4) = m ((c.tc : Thread Cert.GatedNormRefIdeal.nD Cert.GatedNormRefIdeal.τ).loc Cert.GatedNormRefIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2))
      ∧ r.2.sem = fun _ => 0)

def quiescent_MergeBack [hMergeBack : Cert.MergeBack.Facts] : Prop :=
  ∀ (m : (ℓ : Loc Cert.MergeBack.nD Cert.MergeBack.τ Cert.MergeBack.sig) → Buf (Elt Bits) ℓ) (g : Dev Cert.MergeBack.nD → PrngReg), Pre_MergeBack m →
    θ_run (Cert.MergeBack.defs (F := Bits)) (onTc (τ := Cert.MergeBack.τ) (Cert.MergeBack.main (F := Bits))) ⟨m, fun _ => 0, g⟩ (fun r => (∀ c : Dev Cert.MergeBack.nD,
      r.2.mem ((c.tc : Thread Cert.MergeBack.nD Cert.MergeBack.τ).loc Cert.MergeBack.main_arg0) = m ((c.tc : Thread Cert.MergeBack.nD Cert.MergeBack.τ).loc Cert.MergeBack.main_arg0)
      ∧ r.2.mem ((c.tc : Thread Cert.MergeBack.nD Cert.MergeBack.τ).loc Cert.MergeBack.main_arg1) = m ((c.tc : Thread Cert.MergeBack.nD Cert.MergeBack.τ).loc Cert.MergeBack.main_arg1)
      ∧ r.2.mem ((c.tc : Thread Cert.MergeBack.nD Cert.MergeBack.τ).loc Cert.MergeBack.main_arg2) = m ((c.tc : Thread Cert.MergeBack.nD Cert.MergeBack.τ).loc Cert.MergeBack.main_arg2)
      ∧ r.2.mem ((c.tc : Thread Cert.MergeBack.nD Cert.MergeBack.τ).loc Cert.MergeBack.main_arg3) = m ((c.tc : Thread Cert.MergeBack.nD Cert.MergeBack.τ).loc Cert.MergeBack.main_arg3))
      ∧ r.2.sem = fun _ => 0)

def quiescent_MergeBackIdeal [hMergeBackIdeal : Cert.MergeBackIdeal.Facts] : Prop :=
  ∀ (m : (ℓ : Loc Cert.MergeBackIdeal.nD Cert.MergeBackIdeal.τ Cert.MergeBackIdeal.sig) → Buf (Elt Ideal) ℓ) (g : Dev Cert.MergeBackIdeal.nD → PrngReg), Pre_MergeBackIdeal m →
    θ_run (Cert.MergeBackIdeal.defs (F := Ideal)) (onTc (τ := Cert.MergeBackIdeal.τ) (Cert.MergeBackIdeal.main (F := Ideal))) ⟨m, fun _ => 0, g⟩ (fun r => (∀ c : Dev Cert.MergeBackIdeal.nD,
      r.2.mem ((c.tc : Thread Cert.MergeBackIdeal.nD Cert.MergeBackIdeal.τ).loc Cert.MergeBackIdeal.main_arg0) = m ((c.tc : Thread Cert.MergeBackIdeal.nD Cert.MergeBackIdeal.τ).loc Cert.MergeBackIdeal.main_arg0)
      ∧ r.2.mem ((c.tc : Thread Cert.MergeBackIdeal.nD Cert.MergeBackIdeal.τ).loc Cert.MergeBackIdeal.main_arg1) = m ((c.tc : Thread Cert.MergeBackIdeal.nD Cert.MergeBackIdeal.τ).loc Cert.MergeBackIdeal.main_arg1)
      ∧ r.2.mem ((c.tc : Thread Cert.MergeBackIdeal.nD Cert.MergeBackIdeal.τ).loc Cert.MergeBackIdeal.main_arg2) = m ((c.tc : Thread Cert.MergeBackIdeal.nD Cert.MergeBackIdeal.τ).loc Cert.MergeBackIdeal.main_arg2)
      ∧ r.2.mem ((c.tc : Thread Cert.MergeBackIdeal.nD Cert.MergeBackIdeal.τ).loc Cert.MergeBackIdeal.main_arg3) = m ((c.tc : Thread Cert.MergeBackIdeal.nD Cert.MergeBackIdeal.τ).loc Cert.MergeBackIdeal.main_arg3))
      ∧ r.2.sem = fun _ => 0)

def quiescent_MergeBackRefIdeal [hMergeBackRefIdeal : Cert.MergeBackRefIdeal.Facts] : Prop :=
  ∀ (m : (ℓ : Loc Cert.MergeBackRefIdeal.nD Cert.MergeBackRefIdeal.τ Cert.MergeBackRefIdeal.sig) → Buf (Elt Ideal) ℓ) (g : Dev Cert.MergeBackRefIdeal.nD → PrngReg), Pre_MergeBackRefIdeal m →
    θ_run (Cert.MergeBackRefIdeal.defs (F := Ideal)) (onTc (τ := Cert.MergeBackRefIdeal.τ) (Cert.MergeBackRefIdeal.main (F := Ideal))) ⟨m, fun _ => 0, g⟩ (fun r => (∀ c : Dev Cert.MergeBackRefIdeal.nD,
      r.2.mem ((c.tc : Thread Cert.MergeBackRefIdeal.nD Cert.MergeBackRefIdeal.τ).loc Cert.MergeBackRefIdeal.main_arg0) = m ((c.tc : Thread Cert.MergeBackRefIdeal.nD Cert.MergeBackRefIdeal.τ).loc Cert.MergeBackRefIdeal.main_arg0)
      ∧ r.2.mem ((c.tc : Thread Cert.MergeBackRefIdeal.nD Cert.MergeBackRefIdeal.τ).loc Cert.MergeBackRefIdeal.main_arg1) = m ((c.tc : Thread Cert.MergeBackRefIdeal.nD Cert.MergeBackRefIdeal.τ).loc Cert.MergeBackRefIdeal.main_arg1)
      ∧ r.2.mem ((c.tc : Thread Cert.MergeBackRefIdeal.nD Cert.MergeBackRefIdeal.τ).loc Cert.MergeBackRefIdeal.main_arg2) = m ((c.tc : Thread Cert.MergeBackRefIdeal.nD Cert.MergeBackRefIdeal.τ).loc Cert.MergeBackRefIdeal.main_arg2)
      ∧ r.2.mem ((c.tc : Thread Cert.MergeBackRefIdeal.nD Cert.MergeBackRefIdeal.τ).loc Cert.MergeBackRefIdeal.main_arg3) = m ((c.tc : Thread Cert.MergeBackRefIdeal.nD Cert.MergeBackRefIdeal.τ).loc Cert.MergeBackRefIdeal.main_arg3))
      ∧ r.2.sem = fun _ => 0)

def quiescent_SumThree [hSumThree : Cert.SumThree.Facts] : Prop :=
  ∀ (m : (ℓ : Loc Cert.SumThree.nD Cert.SumThree.τ Cert.SumThree.sig) → Buf (Elt Bits) ℓ) (g : Dev Cert.SumThree.nD → PrngReg), Pre_SumThree m →
    θ_run (Cert.SumThree.defs (F := Bits)) (onTc (τ := Cert.SumThree.τ) (Cert.SumThree.main (F := Bits))) ⟨m, fun _ => 0, g⟩ (fun r => (∀ c : Dev Cert.SumThree.nD,
      r.2.mem ((c.tc : Thread Cert.SumThree.nD Cert.SumThree.τ).loc Cert.SumThree.main_arg0) = m ((c.tc : Thread Cert.SumThree.nD Cert.SumThree.τ).loc Cert.SumThree.main_arg0)
      ∧ r.2.mem ((c.tc : Thread Cert.SumThree.nD Cert.SumThree.τ).loc Cert.SumThree.main_arg1) = m ((c.tc : Thread Cert.SumThree.nD Cert.SumThree.τ).loc Cert.SumThree.main_arg1)
      ∧ r.2.mem ((c.tc : Thread Cert.SumThree.nD Cert.SumThree.τ).loc Cert.SumThree.main_arg2) = m ((c.tc : Thread Cert.SumThree.nD Cert.SumThree.τ).loc Cert.SumThree.main_arg2))
      ∧ r.2.sem = fun _ => 0)

def quiescent_SumThreeIdeal [hSumThreeIdeal : Cert.SumThreeIdeal.Facts] : Prop :=
  ∀ (m : (ℓ : Loc Cert.SumThreeIdeal.nD Cert.SumThreeIdeal.τ Cert.SumThreeIdeal.sig) → Buf (Elt Ideal) ℓ) (g : Dev Cert.SumThreeIdeal.nD → PrngReg), Pre_SumThreeIdeal m →
    θ_run (Cert.SumThreeIdeal.defs (F := Ideal)) (onTc (τ := Cert.SumThreeIdeal.τ) (Cert.SumThreeIdeal.main (F := Ideal))) ⟨m, fun _ => 0, g⟩ (fun r => (∀ c : Dev Cert.SumThreeIdeal.nD,
      r.2.mem ((c.tc : Thread Cert.SumThreeIdeal.nD Cert.SumThreeIdeal.τ).loc Cert.SumThreeIdeal.main_arg0) = m ((c.tc : Thread Cert.SumThreeIdeal.nD Cert.SumThreeIdeal.τ).loc Cert.SumThreeIdeal.main_arg0)
      ∧ r.2.mem ((c.tc : Thread Cert.SumThreeIdeal.nD Cert.SumThreeIdeal.τ).loc Cert.SumThreeIdeal.main_arg1) = m ((c.tc : Thread Cert.SumThreeIdeal.nD Cert.SumThreeIdeal.τ).loc Cert.SumThreeIdeal.main_arg1)
      ∧ r.2.mem ((c.tc : Thread Cert.SumThreeIdeal.nD Cert.SumThreeIdeal.τ).loc Cert.SumThreeIdeal.main_arg2) = m ((c.tc : Thread Cert.SumThreeIdeal.nD Cert.SumThreeIdeal.τ).loc Cert.SumThreeIdeal.main_arg2))
      ∧ r.2.sem = fun _ => 0)

def quiescent_SumThreeRefIdeal [hSumThreeRefIdeal : Cert.SumThreeRefIdeal.Facts] : Prop :=
  ∀ (m : (ℓ : Loc Cert.SumThreeRefIdeal.nD Cert.SumThreeRefIdeal.τ Cert.SumThreeRefIdeal.sig) → Buf (Elt Ideal) ℓ) (g : Dev Cert.SumThreeRefIdeal.nD → PrngReg), Pre_SumThreeRefIdeal m →
    θ_run (Cert.SumThreeRefIdeal.defs (F := Ideal)) (onTc (τ := Cert.SumThreeRefIdeal.τ) (Cert.SumThreeRefIdeal.main (F := Ideal))) ⟨m, fun _ => 0, g⟩ (fun r => (∀ c : Dev Cert.SumThreeRefIdeal.nD,
      r.2.mem ((c.tc : Thread Cert.SumThreeRefIdeal.nD Cert.SumThreeRefIdeal.τ).loc Cert.SumThreeRefIdeal.main_arg0) = m ((c.tc : Thread Cert.SumThreeRefIdeal.nD Cert.SumThreeRefIdeal.τ).loc Cert.SumThreeRefIdeal.main_arg0)
      ∧ r.2.mem ((c.tc : Thread Cert.SumThreeRefIdeal.nD Cert.SumThreeRefIdeal.τ).loc Cert.SumThreeRefIdeal.main_arg1) = m ((c.tc : Thread Cert.SumThreeRefIdeal.nD Cert.SumThreeRefIdeal.τ).loc Cert.SumThreeRefIdeal.main_arg1)
      ∧ r.2.mem ((c.tc : Thread Cert.SumThreeRefIdeal.nD Cert.SumThreeRefIdeal.τ).loc Cert.SumThreeRefIdeal.main_arg2) = m ((c.tc : Thread Cert.SumThreeRefIdeal.nD Cert.SumThreeRefIdeal.τ).loc Cert.SumThreeRefIdeal.main_arg2))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1))
      ∧ r.2.sem = fun _ => 0)

def quiescent_OutGrad [hOutGrad : Cert.OutGrad.Facts] : Prop :=
  ∀ (m : (ℓ : Loc Cert.OutGrad.nD Cert.OutGrad.τ Cert.OutGrad.sig) → Buf (Elt Bits) ℓ) (g : Dev Cert.OutGrad.nD → PrngReg), Pre_OutGrad m →
    θ_run (Cert.OutGrad.defs (F := Bits)) (onTc (τ := Cert.OutGrad.τ) (Cert.OutGrad.main (F := Bits))) ⟨m, fun _ => 0, g⟩ (fun r => (∀ c : Dev Cert.OutGrad.nD,
      r.2.mem ((c.tc : Thread Cert.OutGrad.nD Cert.OutGrad.τ).loc Cert.OutGrad.main_arg0) = m ((c.tc : Thread Cert.OutGrad.nD Cert.OutGrad.τ).loc Cert.OutGrad.main_arg0)
      ∧ r.2.mem ((c.tc : Thread Cert.OutGrad.nD Cert.OutGrad.τ).loc Cert.OutGrad.main_arg1) = m ((c.tc : Thread Cert.OutGrad.nD Cert.OutGrad.τ).loc Cert.OutGrad.main_arg1))
      ∧ r.2.sem = fun _ => 0)

def quiescent_OutGradIdeal [hOutGradIdeal : Cert.OutGradIdeal.Facts] : Prop :=
  ∀ (m : (ℓ : Loc Cert.OutGradIdeal.nD Cert.OutGradIdeal.τ Cert.OutGradIdeal.sig) → Buf (Elt Ideal) ℓ) (g : Dev Cert.OutGradIdeal.nD → PrngReg), Pre_OutGradIdeal m →
    θ_run (Cert.OutGradIdeal.defs (F := Ideal)) (onTc (τ := Cert.OutGradIdeal.τ) (Cert.OutGradIdeal.main (F := Ideal))) ⟨m, fun _ => 0, g⟩ (fun r => (∀ c : Dev Cert.OutGradIdeal.nD,
      r.2.mem ((c.tc : Thread Cert.OutGradIdeal.nD Cert.OutGradIdeal.τ).loc Cert.OutGradIdeal.main_arg0) = m ((c.tc : Thread Cert.OutGradIdeal.nD Cert.OutGradIdeal.τ).loc Cert.OutGradIdeal.main_arg0)
      ∧ r.2.mem ((c.tc : Thread Cert.OutGradIdeal.nD Cert.OutGradIdeal.τ).loc Cert.OutGradIdeal.main_arg1) = m ((c.tc : Thread Cert.OutGradIdeal.nD Cert.OutGradIdeal.τ).loc Cert.OutGradIdeal.main_arg1))
      ∧ r.2.sem = fun _ => 0)

def quiescent_OutGradRefIdeal [hOutGradRefIdeal : Cert.OutGradRefIdeal.Facts] : Prop :=
  ∀ (m : (ℓ : Loc Cert.OutGradRefIdeal.nD Cert.OutGradRefIdeal.τ Cert.OutGradRefIdeal.sig) → Buf (Elt Ideal) ℓ) (g : Dev Cert.OutGradRefIdeal.nD → PrngReg), Pre_OutGradRefIdeal m →
    θ_run (Cert.OutGradRefIdeal.defs (F := Ideal)) (onTc (τ := Cert.OutGradRefIdeal.τ) (Cert.OutGradRefIdeal.main (F := Ideal))) ⟨m, fun _ => 0, g⟩ (fun r => (∀ c : Dev Cert.OutGradRefIdeal.nD,
      r.2.mem ((c.tc : Thread Cert.OutGradRefIdeal.nD Cert.OutGradRefIdeal.τ).loc Cert.OutGradRefIdeal.main_arg0) = m ((c.tc : Thread Cert.OutGradRefIdeal.nD Cert.OutGradRefIdeal.τ).loc Cert.OutGradRefIdeal.main_arg0)
      ∧ r.2.mem ((c.tc : Thread Cert.OutGradRefIdeal.nD Cert.OutGradRefIdeal.τ).loc Cert.OutGradRefIdeal.main_arg1) = m ((c.tc : Thread Cert.OutGradRefIdeal.nD Cert.OutGradRefIdeal.τ).loc Cert.OutGradRefIdeal.main_arg1))
      ∧ r.2.sem = fun _ => 0)

def quiescent_MergedGrad [hMergedGrad : Cert.MergedGrad.Facts] : Prop :=
  ∀ (m : (ℓ : Loc Cert.MergedGrad.nD Cert.MergedGrad.τ Cert.MergedGrad.sig) → Buf (Elt Bits) ℓ) (g : Dev Cert.MergedGrad.nD → PrngReg), Pre_MergedGrad m →
    θ_run (Cert.MergedGrad.defs (F := Bits)) (onTc (τ := Cert.MergedGrad.τ) (Cert.MergedGrad.main (F := Bits))) ⟨m, fun _ => 0, g⟩ (fun r => (∀ c : Dev Cert.MergedGrad.nD,
      r.2.mem ((c.tc : Thread Cert.MergedGrad.nD Cert.MergedGrad.τ).loc Cert.MergedGrad.main_arg0) = m ((c.tc : Thread Cert.MergedGrad.nD Cert.MergedGrad.τ).loc Cert.MergedGrad.main_arg0)
      ∧ r.2.mem ((c.tc : Thread Cert.MergedGrad.nD Cert.MergedGrad.τ).loc Cert.MergedGrad.main_arg1) = m ((c.tc : Thread Cert.MergedGrad.nD Cert.MergedGrad.τ).loc Cert.MergedGrad.main_arg1))
      ∧ r.2.sem = fun _ => 0)

def quiescent_MergedGradIdeal [hMergedGradIdeal : Cert.MergedGradIdeal.Facts] : Prop :=
  ∀ (m : (ℓ : Loc Cert.MergedGradIdeal.nD Cert.MergedGradIdeal.τ Cert.MergedGradIdeal.sig) → Buf (Elt Ideal) ℓ) (g : Dev Cert.MergedGradIdeal.nD → PrngReg), Pre_MergedGradIdeal m →
    θ_run (Cert.MergedGradIdeal.defs (F := Ideal)) (onTc (τ := Cert.MergedGradIdeal.τ) (Cert.MergedGradIdeal.main (F := Ideal))) ⟨m, fun _ => 0, g⟩ (fun r => (∀ c : Dev Cert.MergedGradIdeal.nD,
      r.2.mem ((c.tc : Thread Cert.MergedGradIdeal.nD Cert.MergedGradIdeal.τ).loc Cert.MergedGradIdeal.main_arg0) = m ((c.tc : Thread Cert.MergedGradIdeal.nD Cert.MergedGradIdeal.τ).loc Cert.MergedGradIdeal.main_arg0)
      ∧ r.2.mem ((c.tc : Thread Cert.MergedGradIdeal.nD Cert.MergedGradIdeal.τ).loc Cert.MergedGradIdeal.main_arg1) = m ((c.tc : Thread Cert.MergedGradIdeal.nD Cert.MergedGradIdeal.τ).loc Cert.MergedGradIdeal.main_arg1))
      ∧ r.2.sem = fun _ => 0)

def quiescent_MergedGradRefIdeal [hMergedGradRefIdeal : Cert.MergedGradRefIdeal.Facts] : Prop :=
  ∀ (m : (ℓ : Loc Cert.MergedGradRefIdeal.nD Cert.MergedGradRefIdeal.τ Cert.MergedGradRefIdeal.sig) → Buf (Elt Ideal) ℓ) (g : Dev Cert.MergedGradRefIdeal.nD → PrngReg), Pre_MergedGradRefIdeal m →
    θ_run (Cert.MergedGradRefIdeal.defs (F := Ideal)) (onTc (τ := Cert.MergedGradRefIdeal.τ) (Cert.MergedGradRefIdeal.main (F := Ideal))) ⟨m, fun _ => 0, g⟩ (fun r => (∀ c : Dev Cert.MergedGradRefIdeal.nD,
      r.2.mem ((c.tc : Thread Cert.MergedGradRefIdeal.nD Cert.MergedGradRefIdeal.τ).loc Cert.MergedGradRefIdeal.main_arg0) = m ((c.tc : Thread Cert.MergedGradRefIdeal.nD Cert.MergedGradRefIdeal.τ).loc Cert.MergedGradRefIdeal.main_arg0)
      ∧ r.2.mem ((c.tc : Thread Cert.MergedGradRefIdeal.nD Cert.MergedGradRefIdeal.τ).loc Cert.MergedGradRefIdeal.main_arg1) = m ((c.tc : Thread Cert.MergedGradRefIdeal.nD Cert.MergedGradRefIdeal.τ).loc Cert.MergedGradRefIdeal.main_arg1))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_StepProj [hStepProj : Cert.StepProj.Facts] : Prop :=
  ∀ (m : (ℓ : Loc Cert.StepProj.nD Cert.StepProj.τ Cert.StepProj.sig) → Buf (Elt Bits) ℓ) (g : Dev Cert.StepProj.nD → PrngReg), Pre_StepProj m →
    θ_run (Cert.StepProj.defs (F := Bits)) (onTc (τ := Cert.StepProj.τ) (Cert.StepProj.main (F := Bits))) ⟨m, fun _ => 0, g⟩ (fun r => (∀ c : Dev Cert.StepProj.nD,
      r.2.mem ((c.tc : Thread Cert.StepProj.nD Cert.StepProj.τ).loc Cert.StepProj.main_arg0) = m ((c.tc : Thread Cert.StepProj.nD Cert.StepProj.τ).loc Cert.StepProj.main_arg0)
      ∧ r.2.mem ((c.tc : Thread Cert.StepProj.nD Cert.StepProj.τ).loc Cert.StepProj.main_arg1) = m ((c.tc : Thread Cert.StepProj.nD Cert.StepProj.τ).loc Cert.StepProj.main_arg1))
      ∧ r.2.sem = fun _ => 0)

def quiescent_StepProjIdeal [hStepProjIdeal : Cert.StepProjIdeal.Facts] : Prop :=
  ∀ (m : (ℓ : Loc Cert.StepProjIdeal.nD Cert.StepProjIdeal.τ Cert.StepProjIdeal.sig) → Buf (Elt Ideal) ℓ) (g : Dev Cert.StepProjIdeal.nD → PrngReg), Pre_StepProjIdeal m →
    θ_run (Cert.StepProjIdeal.defs (F := Ideal)) (onTc (τ := Cert.StepProjIdeal.τ) (Cert.StepProjIdeal.main (F := Ideal))) ⟨m, fun _ => 0, g⟩ (fun r => (∀ c : Dev Cert.StepProjIdeal.nD,
      r.2.mem ((c.tc : Thread Cert.StepProjIdeal.nD Cert.StepProjIdeal.τ).loc Cert.StepProjIdeal.main_arg0) = m ((c.tc : Thread Cert.StepProjIdeal.nD Cert.StepProjIdeal.τ).loc Cert.StepProjIdeal.main_arg0)
      ∧ r.2.mem ((c.tc : Thread Cert.StepProjIdeal.nD Cert.StepProjIdeal.τ).loc Cert.StepProjIdeal.main_arg1) = m ((c.tc : Thread Cert.StepProjIdeal.nD Cert.StepProjIdeal.τ).loc Cert.StepProjIdeal.main_arg1))
      ∧ r.2.sem = fun _ => 0)

def quiescent_StepProjRefIdeal [hStepProjRefIdeal : Cert.StepProjRefIdeal.Facts] : Prop :=
  ∀ (m : (ℓ : Loc Cert.StepProjRefIdeal.nD Cert.StepProjRefIdeal.τ Cert.StepProjRefIdeal.sig) → Buf (Elt Ideal) ℓ) (g : Dev Cert.StepProjRefIdeal.nD → PrngReg), Pre_StepProjRefIdeal m →
    θ_run (Cert.StepProjRefIdeal.defs (F := Ideal)) (onTc (τ := Cert.StepProjRefIdeal.τ) (Cert.StepProjRefIdeal.main (F := Ideal))) ⟨m, fun _ => 0, g⟩ (fun r => (∀ c : Dev Cert.StepProjRefIdeal.nD,
      r.2.mem ((c.tc : Thread Cert.StepProjRefIdeal.nD Cert.StepProjRefIdeal.τ).loc Cert.StepProjRefIdeal.main_arg0) = m ((c.tc : Thread Cert.StepProjRefIdeal.nD Cert.StepProjRefIdeal.τ).loc Cert.StepProjRefIdeal.main_arg0)
      ∧ r.2.mem ((c.tc : Thread Cert.StepProjRefIdeal.nD Cert.StepProjRefIdeal.τ).loc Cert.StepProjRefIdeal.main_arg1) = m ((c.tc : Thread Cert.StepProjRefIdeal.nD Cert.StepProjRefIdeal.τ).loc Cert.StepProjRefIdeal.main_arg1))
      ∧ r.2.sem = fun _ => 0)

def quiescent_SsmProj [hSsmProj : Cert.SsmProj.Facts] : Prop :=
  ∀ (m : (ℓ : Loc Cert.SsmProj.nD Cert.SsmProj.τ Cert.SsmProj.sig) → Buf (Elt Bits) ℓ) (g : Dev Cert.SsmProj.nD → PrngReg), Pre_SsmProj m →
    θ_run (Cert.SsmProj.defs (F := Bits)) (onTc (τ := Cert.SsmProj.τ) (Cert.SsmProj.main (F := Bits))) ⟨m, fun _ => 0, g⟩ (fun r => (∀ c : Dev Cert.SsmProj.nD,
      r.2.mem ((c.tc : Thread Cert.SsmProj.nD Cert.SsmProj.τ).loc Cert.SsmProj.main_arg0) = m ((c.tc : Thread Cert.SsmProj.nD Cert.SsmProj.τ).loc Cert.SsmProj.main_arg0)
      ∧ r.2.mem ((c.tc : Thread Cert.SsmProj.nD Cert.SsmProj.τ).loc Cert.SsmProj.main_arg1) = m ((c.tc : Thread Cert.SsmProj.nD Cert.SsmProj.τ).loc Cert.SsmProj.main_arg1))
      ∧ r.2.sem = fun _ => 0)

def quiescent_SsmProjIdeal [hSsmProjIdeal : Cert.SsmProjIdeal.Facts] : Prop :=
  ∀ (m : (ℓ : Loc Cert.SsmProjIdeal.nD Cert.SsmProjIdeal.τ Cert.SsmProjIdeal.sig) → Buf (Elt Ideal) ℓ) (g : Dev Cert.SsmProjIdeal.nD → PrngReg), Pre_SsmProjIdeal m →
    θ_run (Cert.SsmProjIdeal.defs (F := Ideal)) (onTc (τ := Cert.SsmProjIdeal.τ) (Cert.SsmProjIdeal.main (F := Ideal))) ⟨m, fun _ => 0, g⟩ (fun r => (∀ c : Dev Cert.SsmProjIdeal.nD,
      r.2.mem ((c.tc : Thread Cert.SsmProjIdeal.nD Cert.SsmProjIdeal.τ).loc Cert.SsmProjIdeal.main_arg0) = m ((c.tc : Thread Cert.SsmProjIdeal.nD Cert.SsmProjIdeal.τ).loc Cert.SsmProjIdeal.main_arg0)
      ∧ r.2.mem ((c.tc : Thread Cert.SsmProjIdeal.nD Cert.SsmProjIdeal.τ).loc Cert.SsmProjIdeal.main_arg1) = m ((c.tc : Thread Cert.SsmProjIdeal.nD Cert.SsmProjIdeal.τ).loc Cert.SsmProjIdeal.main_arg1))
      ∧ r.2.sem = fun _ => 0)

def quiescent_SsmProjRefIdeal [hSsmProjRefIdeal : Cert.SsmProjRefIdeal.Facts] : Prop :=
  ∀ (m : (ℓ : Loc Cert.SsmProjRefIdeal.nD Cert.SsmProjRefIdeal.τ Cert.SsmProjRefIdeal.sig) → Buf (Elt Ideal) ℓ) (g : Dev Cert.SsmProjRefIdeal.nD → PrngReg), Pre_SsmProjRefIdeal m →
    θ_run (Cert.SsmProjRefIdeal.defs (F := Ideal)) (onTc (τ := Cert.SsmProjRefIdeal.τ) (Cert.SsmProjRefIdeal.main (F := Ideal))) ⟨m, fun _ => 0, g⟩ (fun r => (∀ c : Dev Cert.SsmProjRefIdeal.nD,
      r.2.mem ((c.tc : Thread Cert.SsmProjRefIdeal.nD Cert.SsmProjRefIdeal.τ).loc Cert.SsmProjRefIdeal.main_arg0) = m ((c.tc : Thread Cert.SsmProjRefIdeal.nD Cert.SsmProjRefIdeal.τ).loc Cert.SsmProjRefIdeal.main_arg0)
      ∧ r.2.mem ((c.tc : Thread Cert.SsmProjRefIdeal.nD Cert.SsmProjRefIdeal.τ).loc Cert.SsmProjRefIdeal.main_arg1) = m ((c.tc : Thread Cert.SsmProjRefIdeal.nD Cert.SsmProjRefIdeal.τ).loc Cert.SsmProjRefIdeal.main_arg1))
      ∧ r.2.sem = fun _ => 0)

def quiescent_SsmGrad [hSsmGrad : Cert.SsmGrad.Facts] : Prop :=
  ∀ (m : (ℓ : Loc Cert.SsmGrad.nD Cert.SsmGrad.τ Cert.SsmGrad.sig) → Buf (Elt Bits) ℓ) (g : Dev Cert.SsmGrad.nD → PrngReg), Pre_SsmGrad m →
    θ_run (Cert.SsmGrad.defs (F := Bits)) (onTc (τ := Cert.SsmGrad.τ) (Cert.SsmGrad.main (F := Bits))) ⟨m, fun _ => 0, g⟩ (fun r => (∀ c : Dev Cert.SsmGrad.nD,
      r.2.mem ((c.tc : Thread Cert.SsmGrad.nD Cert.SsmGrad.τ).loc Cert.SsmGrad.main_arg0) = m ((c.tc : Thread Cert.SsmGrad.nD Cert.SsmGrad.τ).loc Cert.SsmGrad.main_arg0)
      ∧ r.2.mem ((c.tc : Thread Cert.SsmGrad.nD Cert.SsmGrad.τ).loc Cert.SsmGrad.main_arg1) = m ((c.tc : Thread Cert.SsmGrad.nD Cert.SsmGrad.τ).loc Cert.SsmGrad.main_arg1))
      ∧ r.2.sem = fun _ => 0)

def quiescent_SsmGradIdeal [hSsmGradIdeal : Cert.SsmGradIdeal.Facts] : Prop :=
  ∀ (m : (ℓ : Loc Cert.SsmGradIdeal.nD Cert.SsmGradIdeal.τ Cert.SsmGradIdeal.sig) → Buf (Elt Ideal) ℓ) (g : Dev Cert.SsmGradIdeal.nD → PrngReg), Pre_SsmGradIdeal m →
    θ_run (Cert.SsmGradIdeal.defs (F := Ideal)) (onTc (τ := Cert.SsmGradIdeal.τ) (Cert.SsmGradIdeal.main (F := Ideal))) ⟨m, fun _ => 0, g⟩ (fun r => (∀ c : Dev Cert.SsmGradIdeal.nD,
      r.2.mem ((c.tc : Thread Cert.SsmGradIdeal.nD Cert.SsmGradIdeal.τ).loc Cert.SsmGradIdeal.main_arg0) = m ((c.tc : Thread Cert.SsmGradIdeal.nD Cert.SsmGradIdeal.τ).loc Cert.SsmGradIdeal.main_arg0)
      ∧ r.2.mem ((c.tc : Thread Cert.SsmGradIdeal.nD Cert.SsmGradIdeal.τ).loc Cert.SsmGradIdeal.main_arg1) = m ((c.tc : Thread Cert.SsmGradIdeal.nD Cert.SsmGradIdeal.τ).loc Cert.SsmGradIdeal.main_arg1))
      ∧ r.2.sem = fun _ => 0)

def quiescent_SsmGradRefIdeal [hSsmGradRefIdeal : Cert.SsmGradRefIdeal.Facts] : Prop :=
  ∀ (m : (ℓ : Loc Cert.SsmGradRefIdeal.nD Cert.SsmGradRefIdeal.τ Cert.SsmGradRefIdeal.sig) → Buf (Elt Ideal) ℓ) (g : Dev Cert.SsmGradRefIdeal.nD → PrngReg), Pre_SsmGradRefIdeal m →
    θ_run (Cert.SsmGradRefIdeal.defs (F := Ideal)) (onTc (τ := Cert.SsmGradRefIdeal.τ) (Cert.SsmGradRefIdeal.main (F := Ideal))) ⟨m, fun _ => 0, g⟩ (fun r => (∀ c : Dev Cert.SsmGradRefIdeal.nD,
      r.2.mem ((c.tc : Thread Cert.SsmGradRefIdeal.nD Cert.SsmGradRefIdeal.τ).loc Cert.SsmGradRefIdeal.main_arg0) = m ((c.tc : Thread Cert.SsmGradRefIdeal.nD Cert.SsmGradRefIdeal.τ).loc Cert.SsmGradRefIdeal.main_arg0)
      ∧ r.2.mem ((c.tc : Thread Cert.SsmGradRefIdeal.nD Cert.SsmGradRefIdeal.τ).loc Cert.SsmGradRefIdeal.main_arg1) = m ((c.tc : Thread Cert.SsmGradRefIdeal.nD Cert.SsmGradRefIdeal.τ).loc Cert.SsmGradRefIdeal.main_arg1))
      ∧ r.2.sem = fun _ => 0)

def quiescent_ScanGrad [hScanGrad : Cert.ScanGrad.Facts] : Prop :=
  ∀ (m : (ℓ : Loc Cert.ScanGrad.nD Cert.ScanGrad.τ Cert.ScanGrad.sig) → Buf (Elt Bits) ℓ) (g : Dev Cert.ScanGrad.nD → PrngReg), Pre_ScanGrad m →
    θ_run (Cert.ScanGrad.defs (F := Bits)) (onTc (τ := Cert.ScanGrad.τ) (Cert.ScanGrad.main (F := Bits))) ⟨m, fun _ => 0, g⟩ (fun r => (∀ c : Dev Cert.ScanGrad.nD,
      r.2.mem ((c.tc : Thread Cert.ScanGrad.nD Cert.ScanGrad.τ).loc Cert.ScanGrad.main_arg0) = m ((c.tc : Thread Cert.ScanGrad.nD Cert.ScanGrad.τ).loc Cert.ScanGrad.main_arg0)
      ∧ r.2.mem ((c.tc : Thread Cert.ScanGrad.nD Cert.ScanGrad.τ).loc Cert.ScanGrad.main_arg1) = m ((c.tc : Thread Cert.ScanGrad.nD Cert.ScanGrad.τ).loc Cert.ScanGrad.main_arg1))
      ∧ r.2.sem = fun _ => 0)

def quiescent_ScanGradIdeal [hScanGradIdeal : Cert.ScanGradIdeal.Facts] : Prop :=
  ∀ (m : (ℓ : Loc Cert.ScanGradIdeal.nD Cert.ScanGradIdeal.τ Cert.ScanGradIdeal.sig) → Buf (Elt Ideal) ℓ) (g : Dev Cert.ScanGradIdeal.nD → PrngReg), Pre_ScanGradIdeal m →
    θ_run (Cert.ScanGradIdeal.defs (F := Ideal)) (onTc (τ := Cert.ScanGradIdeal.τ) (Cert.ScanGradIdeal.main (F := Ideal))) ⟨m, fun _ => 0, g⟩ (fun r => (∀ c : Dev Cert.ScanGradIdeal.nD,
      r.2.mem ((c.tc : Thread Cert.ScanGradIdeal.nD Cert.ScanGradIdeal.τ).loc Cert.ScanGradIdeal.main_arg0) = m ((c.tc : Thread Cert.ScanGradIdeal.nD Cert.ScanGradIdeal.τ).loc Cert.ScanGradIdeal.main_arg0)
      ∧ r.2.mem ((c.tc : Thread Cert.ScanGradIdeal.nD Cert.ScanGradIdeal.τ).loc Cert.ScanGradIdeal.main_arg1) = m ((c.tc : Thread Cert.ScanGradIdeal.nD Cert.ScanGradIdeal.τ).loc Cert.ScanGradIdeal.main_arg1))
      ∧ r.2.sem = fun _ => 0)

def quiescent_ScanGradRefIdeal [hScanGradRefIdeal : Cert.ScanGradRefIdeal.Facts] : Prop :=
  ∀ (m : (ℓ : Loc Cert.ScanGradRefIdeal.nD Cert.ScanGradRefIdeal.τ Cert.ScanGradRefIdeal.sig) → Buf (Elt Ideal) ℓ) (g : Dev Cert.ScanGradRefIdeal.nD → PrngReg), Pre_ScanGradRefIdeal m →
    θ_run (Cert.ScanGradRefIdeal.defs (F := Ideal)) (onTc (τ := Cert.ScanGradRefIdeal.τ) (Cert.ScanGradRefIdeal.main (F := Ideal))) ⟨m, fun _ => 0, g⟩ (fun r => (∀ c : Dev Cert.ScanGradRefIdeal.nD,
      r.2.mem ((c.tc : Thread Cert.ScanGradRefIdeal.nD Cert.ScanGradRefIdeal.τ).loc Cert.ScanGradRefIdeal.main_arg0) = m ((c.tc : Thread Cert.ScanGradRefIdeal.nD Cert.ScanGradRefIdeal.τ).loc Cert.ScanGradRefIdeal.main_arg0)
      ∧ r.2.mem ((c.tc : Thread Cert.ScanGradRefIdeal.nD Cert.ScanGradRefIdeal.τ).loc Cert.ScanGradRefIdeal.main_arg1) = m ((c.tc : Thread Cert.ScanGradRefIdeal.nD Cert.ScanGradRefIdeal.τ).loc Cert.ScanGradRefIdeal.main_arg1))
      ∧ r.2.sem = fun _ => 0)

def quiescent_MainGrad [hMainGrad : Cert.MainGrad.Facts] : Prop :=
  ∀ (m : (ℓ : Loc Cert.MainGrad.nD Cert.MainGrad.τ Cert.MainGrad.sig) → Buf (Elt Bits) ℓ) (g : Dev Cert.MainGrad.nD → PrngReg), Pre_MainGrad m →
    θ_run (Cert.MainGrad.defs (F := Bits)) (onTc (τ := Cert.MainGrad.τ) (Cert.MainGrad.main (F := Bits))) ⟨m, fun _ => 0, g⟩ (fun r => (∀ c : Dev Cert.MainGrad.nD,
      r.2.mem ((c.tc : Thread Cert.MainGrad.nD Cert.MainGrad.τ).loc Cert.MainGrad.main_arg0) = m ((c.tc : Thread Cert.MainGrad.nD Cert.MainGrad.τ).loc Cert.MainGrad.main_arg0)
      ∧ r.2.mem ((c.tc : Thread Cert.MainGrad.nD Cert.MainGrad.τ).loc Cert.MainGrad.main_arg1) = m ((c.tc : Thread Cert.MainGrad.nD Cert.MainGrad.τ).loc Cert.MainGrad.main_arg1))
      ∧ r.2.sem = fun _ => 0)

def quiescent_MainGradIdeal [hMainGradIdeal : Cert.MainGradIdeal.Facts] : Prop :=
  ∀ (m : (ℓ : Loc Cert.MainGradIdeal.nD Cert.MainGradIdeal.τ Cert.MainGradIdeal.sig) → Buf (Elt Ideal) ℓ) (g : Dev Cert.MainGradIdeal.nD → PrngReg), Pre_MainGradIdeal m →
    θ_run (Cert.MainGradIdeal.defs (F := Ideal)) (onTc (τ := Cert.MainGradIdeal.τ) (Cert.MainGradIdeal.main (F := Ideal))) ⟨m, fun _ => 0, g⟩ (fun r => (∀ c : Dev Cert.MainGradIdeal.nD,
      r.2.mem ((c.tc : Thread Cert.MainGradIdeal.nD Cert.MainGradIdeal.τ).loc Cert.MainGradIdeal.main_arg0) = m ((c.tc : Thread Cert.MainGradIdeal.nD Cert.MainGradIdeal.τ).loc Cert.MainGradIdeal.main_arg0)
      ∧ r.2.mem ((c.tc : Thread Cert.MainGradIdeal.nD Cert.MainGradIdeal.τ).loc Cert.MainGradIdeal.main_arg1) = m ((c.tc : Thread Cert.MainGradIdeal.nD Cert.MainGradIdeal.τ).loc Cert.MainGradIdeal.main_arg1))
      ∧ r.2.sem = fun _ => 0)

def quiescent_MainGradRefIdeal [hMainGradRefIdeal : Cert.MainGradRefIdeal.Facts] : Prop :=
  ∀ (m : (ℓ : Loc Cert.MainGradRefIdeal.nD Cert.MainGradRefIdeal.τ Cert.MainGradRefIdeal.sig) → Buf (Elt Ideal) ℓ) (g : Dev Cert.MainGradRefIdeal.nD → PrngReg), Pre_MainGradRefIdeal m →
    θ_run (Cert.MainGradRefIdeal.defs (F := Ideal)) (onTc (τ := Cert.MainGradRefIdeal.τ) (Cert.MainGradRefIdeal.main (F := Ideal))) ⟨m, fun _ => 0, g⟩ (fun r => (∀ c : Dev Cert.MainGradRefIdeal.nD,
      r.2.mem ((c.tc : Thread Cert.MainGradRefIdeal.nD Cert.MainGradRefIdeal.τ).loc Cert.MainGradRefIdeal.main_arg0) = m ((c.tc : Thread Cert.MainGradRefIdeal.nD Cert.MainGradRefIdeal.τ).loc Cert.MainGradRefIdeal.main_arg0)
      ∧ r.2.mem ((c.tc : Thread Cert.MainGradRefIdeal.nD Cert.MainGradRefIdeal.τ).loc Cert.MainGradRefIdeal.main_arg1) = m ((c.tc : Thread Cert.MainGradRefIdeal.nD Cert.MainGradRefIdeal.τ).loc Cert.MainGradRefIdeal.main_arg1))
      ∧ r.2.sem = fun _ => 0)

def quiescent_StepGrad [hStepGrad : Cert.StepGrad.Facts] : Prop :=
  ∀ (m : (ℓ : Loc Cert.StepGrad.nD Cert.StepGrad.τ Cert.StepGrad.sig) → Buf (Elt Bits) ℓ) (g : Dev Cert.StepGrad.nD → PrngReg), Pre_StepGrad m →
    θ_run (Cert.StepGrad.defs (F := Bits)) (onTc (τ := Cert.StepGrad.τ) (Cert.StepGrad.main (F := Bits))) ⟨m, fun _ => 0, g⟩ (fun r => (∀ c : Dev Cert.StepGrad.nD,
      r.2.mem ((c.tc : Thread Cert.StepGrad.nD Cert.StepGrad.τ).loc Cert.StepGrad.main_arg0) = m ((c.tc : Thread Cert.StepGrad.nD Cert.StepGrad.τ).loc Cert.StepGrad.main_arg0)
      ∧ r.2.mem ((c.tc : Thread Cert.StepGrad.nD Cert.StepGrad.τ).loc Cert.StepGrad.main_arg1) = m ((c.tc : Thread Cert.StepGrad.nD Cert.StepGrad.τ).loc Cert.StepGrad.main_arg1))
      ∧ r.2.sem = fun _ => 0)

def quiescent_StepGradIdeal [hStepGradIdeal : Cert.StepGradIdeal.Facts] : Prop :=
  ∀ (m : (ℓ : Loc Cert.StepGradIdeal.nD Cert.StepGradIdeal.τ Cert.StepGradIdeal.sig) → Buf (Elt Ideal) ℓ) (g : Dev Cert.StepGradIdeal.nD → PrngReg), Pre_StepGradIdeal m →
    θ_run (Cert.StepGradIdeal.defs (F := Ideal)) (onTc (τ := Cert.StepGradIdeal.τ) (Cert.StepGradIdeal.main (F := Ideal))) ⟨m, fun _ => 0, g⟩ (fun r => (∀ c : Dev Cert.StepGradIdeal.nD,
      r.2.mem ((c.tc : Thread Cert.StepGradIdeal.nD Cert.StepGradIdeal.τ).loc Cert.StepGradIdeal.main_arg0) = m ((c.tc : Thread Cert.StepGradIdeal.nD Cert.StepGradIdeal.τ).loc Cert.StepGradIdeal.main_arg0)
      ∧ r.2.mem ((c.tc : Thread Cert.StepGradIdeal.nD Cert.StepGradIdeal.τ).loc Cert.StepGradIdeal.main_arg1) = m ((c.tc : Thread Cert.StepGradIdeal.nD Cert.StepGradIdeal.τ).loc Cert.StepGradIdeal.main_arg1))
      ∧ r.2.sem = fun _ => 0)

def quiescent_StepGradRefIdeal [hStepGradRefIdeal : Cert.StepGradRefIdeal.Facts] : Prop :=
  ∀ (m : (ℓ : Loc Cert.StepGradRefIdeal.nD Cert.StepGradRefIdeal.τ Cert.StepGradRefIdeal.sig) → Buf (Elt Ideal) ℓ) (g : Dev Cert.StepGradRefIdeal.nD → PrngReg), Pre_StepGradRefIdeal m →
    θ_run (Cert.StepGradRefIdeal.defs (F := Ideal)) (onTc (τ := Cert.StepGradRefIdeal.τ) (Cert.StepGradRefIdeal.main (F := Ideal))) ⟨m, fun _ => 0, g⟩ (fun r => (∀ c : Dev Cert.StepGradRefIdeal.nD,
      r.2.mem ((c.tc : Thread Cert.StepGradRefIdeal.nD Cert.StepGradRefIdeal.τ).loc Cert.StepGradRefIdeal.main_arg0) = m ((c.tc : Thread Cert.StepGradRefIdeal.nD Cert.StepGradRefIdeal.τ).loc Cert.StepGradRefIdeal.main_arg0)
      ∧ r.2.mem ((c.tc : Thread Cert.StepGradRefIdeal.nD Cert.StepGradRefIdeal.τ).loc Cert.StepGradRefIdeal.main_arg1) = m ((c.tc : Thread Cert.StepGradRefIdeal.nD Cert.StepGradRefIdeal.τ).loc Cert.StepGradRefIdeal.main_arg1))
      ∧ r.2.sem = fun _ => 0)

def quiescent_HiddenGrad [hHiddenGrad : Cert.HiddenGrad.Facts] : Prop :=
  ∀ (m : (ℓ : Loc Cert.HiddenGrad.nD Cert.HiddenGrad.τ Cert.HiddenGrad.sig) → Buf (Elt Bits) ℓ) (g : Dev Cert.HiddenGrad.nD → PrngReg), Pre_HiddenGrad m →
    θ_run (Cert.HiddenGrad.defs (F := Bits)) (onTc (τ := Cert.HiddenGrad.τ) (Cert.HiddenGrad.main (F := Bits))) ⟨m, fun _ => 0, g⟩ (fun r => (∀ c : Dev Cert.HiddenGrad.nD,
      r.2.mem ((c.tc : Thread Cert.HiddenGrad.nD Cert.HiddenGrad.τ).loc Cert.HiddenGrad.main_arg0) = m ((c.tc : Thread Cert.HiddenGrad.nD Cert.HiddenGrad.τ).loc Cert.HiddenGrad.main_arg0)
      ∧ r.2.mem ((c.tc : Thread Cert.HiddenGrad.nD Cert.HiddenGrad.τ).loc Cert.HiddenGrad.main_arg1) = m ((c.tc : Thread Cert.HiddenGrad.nD Cert.HiddenGrad.τ).loc Cert.HiddenGrad.main_arg1))
      ∧ r.2.sem = fun _ => 0)

def quiescent_HiddenGradIdeal [hHiddenGradIdeal : Cert.HiddenGradIdeal.Facts] : Prop :=
  ∀ (m : (ℓ : Loc Cert.HiddenGradIdeal.nD Cert.HiddenGradIdeal.τ Cert.HiddenGradIdeal.sig) → Buf (Elt Ideal) ℓ) (g : Dev Cert.HiddenGradIdeal.nD → PrngReg), Pre_HiddenGradIdeal m →
    θ_run (Cert.HiddenGradIdeal.defs (F := Ideal)) (onTc (τ := Cert.HiddenGradIdeal.τ) (Cert.HiddenGradIdeal.main (F := Ideal))) ⟨m, fun _ => 0, g⟩ (fun r => (∀ c : Dev Cert.HiddenGradIdeal.nD,
      r.2.mem ((c.tc : Thread Cert.HiddenGradIdeal.nD Cert.HiddenGradIdeal.τ).loc Cert.HiddenGradIdeal.main_arg0) = m ((c.tc : Thread Cert.HiddenGradIdeal.nD Cert.HiddenGradIdeal.τ).loc Cert.HiddenGradIdeal.main_arg0)
      ∧ r.2.mem ((c.tc : Thread Cert.HiddenGradIdeal.nD Cert.HiddenGradIdeal.τ).loc Cert.HiddenGradIdeal.main_arg1) = m ((c.tc : Thread Cert.HiddenGradIdeal.nD Cert.HiddenGradIdeal.τ).loc Cert.HiddenGradIdeal.main_arg1))
      ∧ r.2.sem = fun _ => 0)

def quiescent_HiddenGradRefIdeal [hHiddenGradRefIdeal : Cert.HiddenGradRefIdeal.Facts] : Prop :=
  ∀ (m : (ℓ : Loc Cert.HiddenGradRefIdeal.nD Cert.HiddenGradRefIdeal.τ Cert.HiddenGradRefIdeal.sig) → Buf (Elt Ideal) ℓ) (g : Dev Cert.HiddenGradRefIdeal.nD → PrngReg), Pre_HiddenGradRefIdeal m →
    θ_run (Cert.HiddenGradRefIdeal.defs (F := Ideal)) (onTc (τ := Cert.HiddenGradRefIdeal.τ) (Cert.HiddenGradRefIdeal.main (F := Ideal))) ⟨m, fun _ => 0, g⟩ (fun r => (∀ c : Dev Cert.HiddenGradRefIdeal.nD,
      r.2.mem ((c.tc : Thread Cert.HiddenGradRefIdeal.nD Cert.HiddenGradRefIdeal.τ).loc Cert.HiddenGradRefIdeal.main_arg0) = m ((c.tc : Thread Cert.HiddenGradRefIdeal.nD Cert.HiddenGradRefIdeal.τ).loc Cert.HiddenGradRefIdeal.main_arg0)
      ∧ r.2.mem ((c.tc : Thread Cert.HiddenGradRefIdeal.nD Cert.HiddenGradRefIdeal.τ).loc Cert.HiddenGradRefIdeal.main_arg1) = m ((c.tc : Thread Cert.HiddenGradRefIdeal.nD Cert.HiddenGradRefIdeal.τ).loc Cert.HiddenGradRefIdeal.main_arg1))
      ∧ r.2.sem = fun _ => 0)

def quiescent_HiddenStep [hHiddenStep : Cert.HiddenStep.Facts] : Prop :=
  ∀ (m : (ℓ : Loc Cert.HiddenStep.nD Cert.HiddenStep.τ Cert.HiddenStep.sig) → Buf (Elt Bits) ℓ) (g : Dev Cert.HiddenStep.nD → PrngReg), Pre_HiddenStep m →
    θ_run (Cert.HiddenStep.defs (F := Bits)) (onTc (τ := Cert.HiddenStep.τ) (Cert.HiddenStep.main (F := Bits))) ⟨m, fun _ => 0, g⟩ (fun r => (∀ c : Dev Cert.HiddenStep.nD,
      r.2.mem ((c.tc : Thread Cert.HiddenStep.nD Cert.HiddenStep.τ).loc Cert.HiddenStep.main_arg0) = m ((c.tc : Thread Cert.HiddenStep.nD Cert.HiddenStep.τ).loc Cert.HiddenStep.main_arg0)
      ∧ r.2.mem ((c.tc : Thread Cert.HiddenStep.nD Cert.HiddenStep.τ).loc Cert.HiddenStep.main_arg1) = m ((c.tc : Thread Cert.HiddenStep.nD Cert.HiddenStep.τ).loc Cert.HiddenStep.main_arg1))
      ∧ r.2.sem = fun _ => 0)

def quiescent_HiddenStepIdeal [hHiddenStepIdeal : Cert.HiddenStepIdeal.Facts] : Prop :=
  ∀ (m : (ℓ : Loc Cert.HiddenStepIdeal.nD Cert.HiddenStepIdeal.τ Cert.HiddenStepIdeal.sig) → Buf (Elt Ideal) ℓ) (g : Dev Cert.HiddenStepIdeal.nD → PrngReg), Pre_HiddenStepIdeal m →
    θ_run (Cert.HiddenStepIdeal.defs (F := Ideal)) (onTc (τ := Cert.HiddenStepIdeal.τ) (Cert.HiddenStepIdeal.main (F := Ideal))) ⟨m, fun _ => 0, g⟩ (fun r => (∀ c : Dev Cert.HiddenStepIdeal.nD,
      r.2.mem ((c.tc : Thread Cert.HiddenStepIdeal.nD Cert.HiddenStepIdeal.τ).loc Cert.HiddenStepIdeal.main_arg0) = m ((c.tc : Thread Cert.HiddenStepIdeal.nD Cert.HiddenStepIdeal.τ).loc Cert.HiddenStepIdeal.main_arg0)
      ∧ r.2.mem ((c.tc : Thread Cert.HiddenStepIdeal.nD Cert.HiddenStepIdeal.τ).loc Cert.HiddenStepIdeal.main_arg1) = m ((c.tc : Thread Cert.HiddenStepIdeal.nD Cert.HiddenStepIdeal.τ).loc Cert.HiddenStepIdeal.main_arg1))
      ∧ r.2.sem = fun _ => 0)

def quiescent_HiddenStepRefIdeal [hHiddenStepRefIdeal : Cert.HiddenStepRefIdeal.Facts] : Prop :=
  ∀ (m : (ℓ : Loc Cert.HiddenStepRefIdeal.nD Cert.HiddenStepRefIdeal.τ Cert.HiddenStepRefIdeal.sig) → Buf (Elt Ideal) ℓ) (g : Dev Cert.HiddenStepRefIdeal.nD → PrngReg), Pre_HiddenStepRefIdeal m →
    θ_run (Cert.HiddenStepRefIdeal.defs (F := Ideal)) (onTc (τ := Cert.HiddenStepRefIdeal.τ) (Cert.HiddenStepRefIdeal.main (F := Ideal))) ⟨m, fun _ => 0, g⟩ (fun r => (∀ c : Dev Cert.HiddenStepRefIdeal.nD,
      r.2.mem ((c.tc : Thread Cert.HiddenStepRefIdeal.nD Cert.HiddenStepRefIdeal.τ).loc Cert.HiddenStepRefIdeal.main_arg0) = m ((c.tc : Thread Cert.HiddenStepRefIdeal.nD Cert.HiddenStepRefIdeal.τ).loc Cert.HiddenStepRefIdeal.main_arg0)
      ∧ r.2.mem ((c.tc : Thread Cert.HiddenStepRefIdeal.nD Cert.HiddenStepRefIdeal.τ).loc Cert.HiddenStepRefIdeal.main_arg1) = m ((c.tc : Thread Cert.HiddenStepRefIdeal.nD Cert.HiddenStepRefIdeal.τ).loc Cert.HiddenStepRefIdeal.main_arg1))
      ∧ r.2.sem = fun _ => 0)

def quiescent_GatedNormBack [hGatedNormBack : Cert.GatedNormBack.Facts] : Prop :=
  ∀ (m : (ℓ : Loc Cert.GatedNormBack.nD Cert.GatedNormBack.τ Cert.GatedNormBack.sig) → Buf (Elt Bits) ℓ) (g : Dev Cert.GatedNormBack.nD → PrngReg), Pre_GatedNormBack m →
    θ_run (Cert.GatedNormBack.defs (F := Bits)) (onTc (τ := Cert.GatedNormBack.τ) (Cert.GatedNormBack.main (F := Bits))) ⟨m, fun _ => 0, g⟩ (fun r => (∀ c : Dev Cert.GatedNormBack.nD,
      r.2.mem ((c.tc : Thread Cert.GatedNormBack.nD Cert.GatedNormBack.τ).loc Cert.GatedNormBack.main_arg0) = m ((c.tc : Thread Cert.GatedNormBack.nD Cert.GatedNormBack.τ).loc Cert.GatedNormBack.main_arg0)
      ∧ r.2.mem ((c.tc : Thread Cert.GatedNormBack.nD Cert.GatedNormBack.τ).loc Cert.GatedNormBack.main_arg1) = m ((c.tc : Thread Cert.GatedNormBack.nD Cert.GatedNormBack.τ).loc Cert.GatedNormBack.main_arg1)
      ∧ r.2.mem ((c.tc : Thread Cert.GatedNormBack.nD Cert.GatedNormBack.τ).loc Cert.GatedNormBack.main_arg2) = m ((c.tc : Thread Cert.GatedNormBack.nD Cert.GatedNormBack.τ).loc Cert.GatedNormBack.main_arg2)
      ∧ r.2.mem ((c.tc : Thread Cert.GatedNormBack.nD Cert.GatedNormBack.τ).loc Cert.GatedNormBack.main_arg3) = m ((c.tc : Thread Cert.GatedNormBack.nD Cert.GatedNormBack.τ).loc Cert.GatedNormBack.main_arg3)
      ∧ r.2.mem ((c.tc : Thread Cert.GatedNormBack.nD Cert.GatedNormBack.τ).loc Cert.GatedNormBack.main_arg4) = m ((c.tc : Thread Cert.GatedNormBack.nD Cert.GatedNormBack.τ).loc Cert.GatedNormBack.main_arg4)
      ∧ r.2.mem ((c.tc : Thread Cert.GatedNormBack.nD Cert.GatedNormBack.τ).loc Cert.GatedNormBack.main_arg5) = m ((c.tc : Thread Cert.GatedNormBack.nD Cert.GatedNormBack.τ).loc Cert.GatedNormBack.main_arg5))
      ∧ r.2.sem = fun _ => 0)

def quiescent_GatedNormBackIdeal [hGatedNormBackIdeal : Cert.GatedNormBackIdeal.Facts] : Prop :=
  ∀ (m : (ℓ : Loc Cert.GatedNormBackIdeal.nD Cert.GatedNormBackIdeal.τ Cert.GatedNormBackIdeal.sig) → Buf (Elt Ideal) ℓ) (g : Dev Cert.GatedNormBackIdeal.nD → PrngReg), Pre_GatedNormBackIdeal m →
    θ_run (Cert.GatedNormBackIdeal.defs (F := Ideal)) (onTc (τ := Cert.GatedNormBackIdeal.τ) (Cert.GatedNormBackIdeal.main (F := Ideal))) ⟨m, fun _ => 0, g⟩ (fun r => (∀ c : Dev Cert.GatedNormBackIdeal.nD,
      r.2.mem ((c.tc : Thread Cert.GatedNormBackIdeal.nD Cert.GatedNormBackIdeal.τ).loc Cert.GatedNormBackIdeal.main_arg0) = m ((c.tc : Thread Cert.GatedNormBackIdeal.nD Cert.GatedNormBackIdeal.τ).loc Cert.GatedNormBackIdeal.main_arg0)
      ∧ r.2.mem ((c.tc : Thread Cert.GatedNormBackIdeal.nD Cert.GatedNormBackIdeal.τ).loc Cert.GatedNormBackIdeal.main_arg1) = m ((c.tc : Thread Cert.GatedNormBackIdeal.nD Cert.GatedNormBackIdeal.τ).loc Cert.GatedNormBackIdeal.main_arg1)
      ∧ r.2.mem ((c.tc : Thread Cert.GatedNormBackIdeal.nD Cert.GatedNormBackIdeal.τ).loc Cert.GatedNormBackIdeal.main_arg2) = m ((c.tc : Thread Cert.GatedNormBackIdeal.nD Cert.GatedNormBackIdeal.τ).loc Cert.GatedNormBackIdeal.main_arg2)
      ∧ r.2.mem ((c.tc : Thread Cert.GatedNormBackIdeal.nD Cert.GatedNormBackIdeal.τ).loc Cert.GatedNormBackIdeal.main_arg3) = m ((c.tc : Thread Cert.GatedNormBackIdeal.nD Cert.GatedNormBackIdeal.τ).loc Cert.GatedNormBackIdeal.main_arg3)
      ∧ r.2.mem ((c.tc : Thread Cert.GatedNormBackIdeal.nD Cert.GatedNormBackIdeal.τ).loc Cert.GatedNormBackIdeal.main_arg4) = m ((c.tc : Thread Cert.GatedNormBackIdeal.nD Cert.GatedNormBackIdeal.τ).loc Cert.GatedNormBackIdeal.main_arg4)
      ∧ r.2.mem ((c.tc : Thread Cert.GatedNormBackIdeal.nD Cert.GatedNormBackIdeal.τ).loc Cert.GatedNormBackIdeal.main_arg5) = m ((c.tc : Thread Cert.GatedNormBackIdeal.nD Cert.GatedNormBackIdeal.τ).loc Cert.GatedNormBackIdeal.main_arg5))
      ∧ r.2.sem = fun _ => 0)

def quiescent_GatedNormBackRefIdeal [hGatedNormBackRefIdeal : Cert.GatedNormBackRefIdeal.Facts] : Prop :=
  ∀ (m : (ℓ : Loc Cert.GatedNormBackRefIdeal.nD Cert.GatedNormBackRefIdeal.τ Cert.GatedNormBackRefIdeal.sig) → Buf (Elt Ideal) ℓ) (g : Dev Cert.GatedNormBackRefIdeal.nD → PrngReg), Pre_GatedNormBackRefIdeal m →
    θ_run (Cert.GatedNormBackRefIdeal.defs (F := Ideal)) (onTc (τ := Cert.GatedNormBackRefIdeal.τ) (Cert.GatedNormBackRefIdeal.main (F := Ideal))) ⟨m, fun _ => 0, g⟩ (fun r => (∀ c : Dev Cert.GatedNormBackRefIdeal.nD,
      r.2.mem ((c.tc : Thread Cert.GatedNormBackRefIdeal.nD Cert.GatedNormBackRefIdeal.τ).loc Cert.GatedNormBackRefIdeal.main_arg0) = m ((c.tc : Thread Cert.GatedNormBackRefIdeal.nD Cert.GatedNormBackRefIdeal.τ).loc Cert.GatedNormBackRefIdeal.main_arg0)
      ∧ r.2.mem ((c.tc : Thread Cert.GatedNormBackRefIdeal.nD Cert.GatedNormBackRefIdeal.τ).loc Cert.GatedNormBackRefIdeal.main_arg1) = m ((c.tc : Thread Cert.GatedNormBackRefIdeal.nD Cert.GatedNormBackRefIdeal.τ).loc Cert.GatedNormBackRefIdeal.main_arg1)
      ∧ r.2.mem ((c.tc : Thread Cert.GatedNormBackRefIdeal.nD Cert.GatedNormBackRefIdeal.τ).loc Cert.GatedNormBackRefIdeal.main_arg2) = m ((c.tc : Thread Cert.GatedNormBackRefIdeal.nD Cert.GatedNormBackRefIdeal.τ).loc Cert.GatedNormBackRefIdeal.main_arg2)
      ∧ r.2.mem ((c.tc : Thread Cert.GatedNormBackRefIdeal.nD Cert.GatedNormBackRefIdeal.τ).loc Cert.GatedNormBackRefIdeal.main_arg3) = m ((c.tc : Thread Cert.GatedNormBackRefIdeal.nD Cert.GatedNormBackRefIdeal.τ).loc Cert.GatedNormBackRefIdeal.main_arg3)
      ∧ r.2.mem ((c.tc : Thread Cert.GatedNormBackRefIdeal.nD Cert.GatedNormBackRefIdeal.τ).loc Cert.GatedNormBackRefIdeal.main_arg4) = m ((c.tc : Thread Cert.GatedNormBackRefIdeal.nD Cert.GatedNormBackRefIdeal.τ).loc Cert.GatedNormBackRefIdeal.main_arg4)
      ∧ r.2.mem ((c.tc : Thread Cert.GatedNormBackRefIdeal.nD Cert.GatedNormBackRefIdeal.τ).loc Cert.GatedNormBackRefIdeal.main_arg5) = m ((c.tc : Thread Cert.GatedNormBackRefIdeal.nD Cert.GatedNormBackRefIdeal.τ).loc Cert.GatedNormBackRefIdeal.main_arg5))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2))
      ∧ r.2.sem = fun _ => 0)

def quiescent_ConvBack [hConvBack : Cert.ConvBack.Facts] : Prop :=
  ∀ (m : (ℓ : Loc Cert.ConvBack.nD Cert.ConvBack.τ Cert.ConvBack.sig) → Buf (Elt Bits) ℓ) (g : Dev Cert.ConvBack.nD → PrngReg), Pre_ConvBack m →
    θ_run (Cert.ConvBack.defs (F := Bits)) (onTc (τ := Cert.ConvBack.τ) (Cert.ConvBack.main (F := Bits))) ⟨m, fun _ => 0, g⟩ (fun r => (∀ c : Dev Cert.ConvBack.nD,
      r.2.mem ((c.tc : Thread Cert.ConvBack.nD Cert.ConvBack.τ).loc Cert.ConvBack.main_arg0) = m ((c.tc : Thread Cert.ConvBack.nD Cert.ConvBack.τ).loc Cert.ConvBack.main_arg0)
      ∧ r.2.mem ((c.tc : Thread Cert.ConvBack.nD Cert.ConvBack.τ).loc Cert.ConvBack.main_arg1) = m ((c.tc : Thread Cert.ConvBack.nD Cert.ConvBack.τ).loc Cert.ConvBack.main_arg1))
      ∧ r.2.sem = fun _ => 0)

def quiescent_ConvBackIdeal [hConvBackIdeal : Cert.ConvBackIdeal.Facts] : Prop :=
  ∀ (m : (ℓ : Loc Cert.ConvBackIdeal.nD Cert.ConvBackIdeal.τ Cert.ConvBackIdeal.sig) → Buf (Elt Ideal) ℓ) (g : Dev Cert.ConvBackIdeal.nD → PrngReg), Pre_ConvBackIdeal m →
    θ_run (Cert.ConvBackIdeal.defs (F := Ideal)) (onTc (τ := Cert.ConvBackIdeal.τ) (Cert.ConvBackIdeal.main (F := Ideal))) ⟨m, fun _ => 0, g⟩ (fun r => (∀ c : Dev Cert.ConvBackIdeal.nD,
      r.2.mem ((c.tc : Thread Cert.ConvBackIdeal.nD Cert.ConvBackIdeal.τ).loc Cert.ConvBackIdeal.main_arg0) = m ((c.tc : Thread Cert.ConvBackIdeal.nD Cert.ConvBackIdeal.τ).loc Cert.ConvBackIdeal.main_arg0)
      ∧ r.2.mem ((c.tc : Thread Cert.ConvBackIdeal.nD Cert.ConvBackIdeal.τ).loc Cert.ConvBackIdeal.main_arg1) = m ((c.tc : Thread Cert.ConvBackIdeal.nD Cert.ConvBackIdeal.τ).loc Cert.ConvBackIdeal.main_arg1))
      ∧ r.2.sem = fun _ => 0)

def quiescent_ConvBackRefIdeal [hConvBackRefIdeal : Cert.ConvBackRefIdeal.Facts] : Prop :=
  ∀ (m : (ℓ : Loc Cert.ConvBackRefIdeal.nD Cert.ConvBackRefIdeal.τ Cert.ConvBackRefIdeal.sig) → Buf (Elt Ideal) ℓ) (g : Dev Cert.ConvBackRefIdeal.nD → PrngReg), Pre_ConvBackRefIdeal m →
    θ_run (Cert.ConvBackRefIdeal.defs (F := Ideal)) (onTc (τ := Cert.ConvBackRefIdeal.τ) (Cert.ConvBackRefIdeal.main (F := Ideal))) ⟨m, fun _ => 0, g⟩ (fun r => (∀ c : Dev Cert.ConvBackRefIdeal.nD,
      r.2.mem ((c.tc : Thread Cert.ConvBackRefIdeal.nD Cert.ConvBackRefIdeal.τ).loc Cert.ConvBackRefIdeal.main_arg0) = m ((c.tc : Thread Cert.ConvBackRefIdeal.nD Cert.ConvBackRefIdeal.τ).loc Cert.ConvBackRefIdeal.main_arg0)
      ∧ r.2.mem ((c.tc : Thread Cert.ConvBackRefIdeal.nD Cert.ConvBackRefIdeal.τ).loc Cert.ConvBackRefIdeal.main_arg1) = m ((c.tc : Thread Cert.ConvBackRefIdeal.nD Cert.ConvBackRefIdeal.τ).loc Cert.ConvBackRefIdeal.main_arg1))
      ∧ r.2.sem = fun _ => 0)

def quiescent_Steps [hSteps : Cert.Steps.Facts] : Prop :=
  ∀ (m : (ℓ : Loc Cert.Steps.nD Cert.Steps.τ Cert.Steps.sig) → Buf (Elt Bits) ℓ) (g : Dev Cert.Steps.nD → PrngReg), Pre_Steps m →
    θ_run (Cert.Steps.defs (F := Bits)) (onTc (τ := Cert.Steps.τ) (Cert.Steps.main (F := Bits))) ⟨m, fun _ => 0, g⟩ (fun r => (∀ c : Dev Cert.Steps.nD,
      r.2.mem ((c.tc : Thread Cert.Steps.nD Cert.Steps.τ).loc Cert.Steps.main_arg0) = m ((c.tc : Thread Cert.Steps.nD Cert.Steps.τ).loc Cert.Steps.main_arg0)
      ∧ r.2.mem ((c.tc : Thread Cert.Steps.nD Cert.Steps.τ).loc Cert.Steps.main_arg1) = m ((c.tc : Thread Cert.Steps.nD Cert.Steps.τ).loc Cert.Steps.main_arg1)
      ∧ r.2.mem ((c.tc : Thread Cert.Steps.nD Cert.Steps.τ).loc Cert.Steps.main_arg2) = m ((c.tc : Thread Cert.Steps.nD Cert.Steps.τ).loc Cert.Steps.main_arg2))
      ∧ r.2.sem = fun _ => 0)

def quiescent_StepsIdeal [hStepsIdeal : Cert.StepsIdeal.Facts] : Prop :=
  ∀ (m : (ℓ : Loc Cert.StepsIdeal.nD Cert.StepsIdeal.τ Cert.StepsIdeal.sig) → Buf (Elt Ideal) ℓ) (g : Dev Cert.StepsIdeal.nD → PrngReg), Pre_StepsIdeal m →
    θ_run (Cert.StepsIdeal.defs (F := Ideal)) (onTc (τ := Cert.StepsIdeal.τ) (Cert.StepsIdeal.main (F := Ideal))) ⟨m, fun _ => 0, g⟩ (fun r => (∀ c : Dev Cert.StepsIdeal.nD,
      r.2.mem ((c.tc : Thread Cert.StepsIdeal.nD Cert.StepsIdeal.τ).loc Cert.StepsIdeal.main_arg0) = m ((c.tc : Thread Cert.StepsIdeal.nD Cert.StepsIdeal.τ).loc Cert.StepsIdeal.main_arg0)
      ∧ r.2.mem ((c.tc : Thread Cert.StepsIdeal.nD Cert.StepsIdeal.τ).loc Cert.StepsIdeal.main_arg1) = m ((c.tc : Thread Cert.StepsIdeal.nD Cert.StepsIdeal.τ).loc Cert.StepsIdeal.main_arg1)
      ∧ r.2.mem ((c.tc : Thread Cert.StepsIdeal.nD Cert.StepsIdeal.τ).loc Cert.StepsIdeal.main_arg2) = m ((c.tc : Thread Cert.StepsIdeal.nD Cert.StepsIdeal.τ).loc Cert.StepsIdeal.main_arg2))
      ∧ r.2.sem = fun _ => 0)

def quiescent_StepsRefIdeal [hStepsRefIdeal : Cert.StepsRefIdeal.Facts] : Prop :=
  ∀ (m : (ℓ : Loc Cert.StepsRefIdeal.nD Cert.StepsRefIdeal.τ Cert.StepsRefIdeal.sig) → Buf (Elt Ideal) ℓ) (g : Dev Cert.StepsRefIdeal.nD → PrngReg), Pre_StepsRefIdeal m →
    θ_run (Cert.StepsRefIdeal.defs (F := Ideal)) (onTc (τ := Cert.StepsRefIdeal.τ) (Cert.StepsRefIdeal.main (F := Ideal))) ⟨m, fun _ => 0, g⟩ (fun r => (∀ c : Dev Cert.StepsRefIdeal.nD,
      r.2.mem ((c.tc : Thread Cert.StepsRefIdeal.nD Cert.StepsRefIdeal.τ).loc Cert.StepsRefIdeal.main_arg0) = m ((c.tc : Thread Cert.StepsRefIdeal.nD Cert.StepsRefIdeal.τ).loc Cert.StepsRefIdeal.main_arg0)
      ∧ r.2.mem ((c.tc : Thread Cert.StepsRefIdeal.nD Cert.StepsRefIdeal.τ).loc Cert.StepsRefIdeal.main_arg1) = m ((c.tc : Thread Cert.StepsRefIdeal.nD Cert.StepsRefIdeal.τ).loc Cert.StepsRefIdeal.main_arg1)
      ∧ r.2.mem ((c.tc : Thread Cert.StepsRefIdeal.nD Cert.StepsRefIdeal.τ).loc Cert.StepsRefIdeal.main_arg2) = m ((c.tc : Thread Cert.StepsRefIdeal.nD Cert.StepsRefIdeal.τ).loc Cert.StepsRefIdeal.main_arg2))
      ∧ r.2.sem = fun _ => 0)

def quiescent_GateBack [hGateBack : Cert.GateBack.Facts] : Prop :=
  ∀ (m : (ℓ : Loc Cert.GateBack.nD Cert.GateBack.τ Cert.GateBack.sig) → Buf (Elt Bits) ℓ) (g : Dev Cert.GateBack.nD → PrngReg), Pre_GateBack m →
    θ_run (Cert.GateBack.defs (F := Bits)) (onTc (τ := Cert.GateBack.τ) (Cert.GateBack.main (F := Bits))) ⟨m, fun _ => 0, g⟩ (fun r => (∀ c : Dev Cert.GateBack.nD,
      r.2.mem ((c.tc : Thread Cert.GateBack.nD Cert.GateBack.τ).loc Cert.GateBack.main_arg0) = m ((c.tc : Thread Cert.GateBack.nD Cert.GateBack.τ).loc Cert.GateBack.main_arg0)
      ∧ r.2.mem ((c.tc : Thread Cert.GateBack.nD Cert.GateBack.τ).loc Cert.GateBack.main_arg1) = m ((c.tc : Thread Cert.GateBack.nD Cert.GateBack.τ).loc Cert.GateBack.main_arg1)
      ∧ r.2.mem ((c.tc : Thread Cert.GateBack.nD Cert.GateBack.τ).loc Cert.GateBack.main_arg2) = m ((c.tc : Thread Cert.GateBack.nD Cert.GateBack.τ).loc Cert.GateBack.main_arg2))
      ∧ r.2.sem = fun _ => 0)

def quiescent_GateBackIdeal [hGateBackIdeal : Cert.GateBackIdeal.Facts] : Prop :=
  ∀ (m : (ℓ : Loc Cert.GateBackIdeal.nD Cert.GateBackIdeal.τ Cert.GateBackIdeal.sig) → Buf (Elt Ideal) ℓ) (g : Dev Cert.GateBackIdeal.nD → PrngReg), Pre_GateBackIdeal m →
    θ_run (Cert.GateBackIdeal.defs (F := Ideal)) (onTc (τ := Cert.GateBackIdeal.τ) (Cert.GateBackIdeal.main (F := Ideal))) ⟨m, fun _ => 0, g⟩ (fun r => (∀ c : Dev Cert.GateBackIdeal.nD,
      r.2.mem ((c.tc : Thread Cert.GateBackIdeal.nD Cert.GateBackIdeal.τ).loc Cert.GateBackIdeal.main_arg0) = m ((c.tc : Thread Cert.GateBackIdeal.nD Cert.GateBackIdeal.τ).loc Cert.GateBackIdeal.main_arg0)
      ∧ r.2.mem ((c.tc : Thread Cert.GateBackIdeal.nD Cert.GateBackIdeal.τ).loc Cert.GateBackIdeal.main_arg1) = m ((c.tc : Thread Cert.GateBackIdeal.nD Cert.GateBackIdeal.τ).loc Cert.GateBackIdeal.main_arg1)
      ∧ r.2.mem ((c.tc : Thread Cert.GateBackIdeal.nD Cert.GateBackIdeal.τ).loc Cert.GateBackIdeal.main_arg2) = m ((c.tc : Thread Cert.GateBackIdeal.nD Cert.GateBackIdeal.τ).loc Cert.GateBackIdeal.main_arg2))
      ∧ r.2.sem = fun _ => 0)

def quiescent_GateBackRefIdeal [hGateBackRefIdeal : Cert.GateBackRefIdeal.Facts] : Prop :=
  ∀ (m : (ℓ : Loc Cert.GateBackRefIdeal.nD Cert.GateBackRefIdeal.τ Cert.GateBackRefIdeal.sig) → Buf (Elt Ideal) ℓ) (g : Dev Cert.GateBackRefIdeal.nD → PrngReg), Pre_GateBackRefIdeal m →
    θ_run (Cert.GateBackRefIdeal.defs (F := Ideal)) (onTc (τ := Cert.GateBackRefIdeal.τ) (Cert.GateBackRefIdeal.main (F := Ideal))) ⟨m, fun _ => 0, g⟩ (fun r => (∀ c : Dev Cert.GateBackRefIdeal.nD,
      r.2.mem ((c.tc : Thread Cert.GateBackRefIdeal.nD Cert.GateBackRefIdeal.τ).loc Cert.GateBackRefIdeal.main_arg0) = m ((c.tc : Thread Cert.GateBackRefIdeal.nD Cert.GateBackRefIdeal.τ).loc Cert.GateBackRefIdeal.main_arg0)
      ∧ r.2.mem ((c.tc : Thread Cert.GateBackRefIdeal.nD Cert.GateBackRefIdeal.τ).loc Cert.GateBackRefIdeal.main_arg1) = m ((c.tc : Thread Cert.GateBackRefIdeal.nD Cert.GateBackRefIdeal.τ).loc Cert.GateBackRefIdeal.main_arg1)
      ∧ r.2.mem ((c.tc : Thread Cert.GateBackRefIdeal.nD Cert.GateBackRefIdeal.τ).loc Cert.GateBackRefIdeal.main_arg2) = m ((c.tc : Thread Cert.GateBackRefIdeal.nD Cert.GateBackRefIdeal.τ).loc Cert.GateBackRefIdeal.main_arg2))
      ∧ r.2.sem = fun _ => 0)

def quiescent_ConvGrad [hConvGrad : Cert.ConvGrad.Facts] : Prop :=
  ∀ (m : (ℓ : Loc Cert.ConvGrad.nD Cert.ConvGrad.τ Cert.ConvGrad.sig) → Buf (Elt Bits) ℓ) (g : Dev Cert.ConvGrad.nD → PrngReg), Pre_ConvGrad m →
    θ_run (Cert.ConvGrad.defs (F := Bits)) (onTc (τ := Cert.ConvGrad.τ) (Cert.ConvGrad.main (F := Bits))) ⟨m, fun _ => 0, g⟩ (fun r => (∀ c : Dev Cert.ConvGrad.nD,
      r.2.mem ((c.tc : Thread Cert.ConvGrad.nD Cert.ConvGrad.τ).loc Cert.ConvGrad.main_arg0) = m ((c.tc : Thread Cert.ConvGrad.nD Cert.ConvGrad.τ).loc Cert.ConvGrad.main_arg0)
      ∧ r.2.mem ((c.tc : Thread Cert.ConvGrad.nD Cert.ConvGrad.τ).loc Cert.ConvGrad.main_arg1) = m ((c.tc : Thread Cert.ConvGrad.nD Cert.ConvGrad.τ).loc Cert.ConvGrad.main_arg1)
      ∧ r.2.mem ((c.tc : Thread Cert.ConvGrad.nD Cert.ConvGrad.τ).loc Cert.ConvGrad.main_arg2) = m ((c.tc : Thread Cert.ConvGrad.nD Cert.ConvGrad.τ).loc Cert.ConvGrad.main_arg2)
      ∧ r.2.mem ((c.tc : Thread Cert.ConvGrad.nD Cert.ConvGrad.τ).loc Cert.ConvGrad.main_arg3) = m ((c.tc : Thread Cert.ConvGrad.nD Cert.ConvGrad.τ).loc Cert.ConvGrad.main_arg3))
      ∧ r.2.sem = fun _ => 0)

def quiescent_ConvGradIdeal [hConvGradIdeal : Cert.ConvGradIdeal.Facts] : Prop :=
  ∀ (m : (ℓ : Loc Cert.ConvGradIdeal.nD Cert.ConvGradIdeal.τ Cert.ConvGradIdeal.sig) → Buf (Elt Ideal) ℓ) (g : Dev Cert.ConvGradIdeal.nD → PrngReg), Pre_ConvGradIdeal m →
    θ_run (Cert.ConvGradIdeal.defs (F := Ideal)) (onTc (τ := Cert.ConvGradIdeal.τ) (Cert.ConvGradIdeal.main (F := Ideal))) ⟨m, fun _ => 0, g⟩ (fun r => (∀ c : Dev Cert.ConvGradIdeal.nD,
      r.2.mem ((c.tc : Thread Cert.ConvGradIdeal.nD Cert.ConvGradIdeal.τ).loc Cert.ConvGradIdeal.main_arg0) = m ((c.tc : Thread Cert.ConvGradIdeal.nD Cert.ConvGradIdeal.τ).loc Cert.ConvGradIdeal.main_arg0)
      ∧ r.2.mem ((c.tc : Thread Cert.ConvGradIdeal.nD Cert.ConvGradIdeal.τ).loc Cert.ConvGradIdeal.main_arg1) = m ((c.tc : Thread Cert.ConvGradIdeal.nD Cert.ConvGradIdeal.τ).loc Cert.ConvGradIdeal.main_arg1)
      ∧ r.2.mem ((c.tc : Thread Cert.ConvGradIdeal.nD Cert.ConvGradIdeal.τ).loc Cert.ConvGradIdeal.main_arg2) = m ((c.tc : Thread Cert.ConvGradIdeal.nD Cert.ConvGradIdeal.τ).loc Cert.ConvGradIdeal.main_arg2)
      ∧ r.2.mem ((c.tc : Thread Cert.ConvGradIdeal.nD Cert.ConvGradIdeal.τ).loc Cert.ConvGradIdeal.main_arg3) = m ((c.tc : Thread Cert.ConvGradIdeal.nD Cert.ConvGradIdeal.τ).loc Cert.ConvGradIdeal.main_arg3))
      ∧ r.2.sem = fun _ => 0)

def quiescent_ConvGradRefIdeal [hConvGradRefIdeal : Cert.ConvGradRefIdeal.Facts] : Prop :=
  ∀ (m : (ℓ : Loc Cert.ConvGradRefIdeal.nD Cert.ConvGradRefIdeal.τ Cert.ConvGradRefIdeal.sig) → Buf (Elt Ideal) ℓ) (g : Dev Cert.ConvGradRefIdeal.nD → PrngReg), Pre_ConvGradRefIdeal m →
    θ_run (Cert.ConvGradRefIdeal.defs (F := Ideal)) (onTc (τ := Cert.ConvGradRefIdeal.τ) (Cert.ConvGradRefIdeal.main (F := Ideal))) ⟨m, fun _ => 0, g⟩ (fun r => (∀ c : Dev Cert.ConvGradRefIdeal.nD,
      r.2.mem ((c.tc : Thread Cert.ConvGradRefIdeal.nD Cert.ConvGradRefIdeal.τ).loc Cert.ConvGradRefIdeal.main_arg0) = m ((c.tc : Thread Cert.ConvGradRefIdeal.nD Cert.ConvGradRefIdeal.τ).loc Cert.ConvGradRefIdeal.main_arg0)
      ∧ r.2.mem ((c.tc : Thread Cert.ConvGradRefIdeal.nD Cert.ConvGradRefIdeal.τ).loc Cert.ConvGradRefIdeal.main_arg1) = m ((c.tc : Thread Cert.ConvGradRefIdeal.nD Cert.ConvGradRefIdeal.τ).loc Cert.ConvGradRefIdeal.main_arg1)
      ∧ r.2.mem ((c.tc : Thread Cert.ConvGradRefIdeal.nD Cert.ConvGradRefIdeal.τ).loc Cert.ConvGradRefIdeal.main_arg2) = m ((c.tc : Thread Cert.ConvGradRefIdeal.nD Cert.ConvGradRefIdeal.τ).loc Cert.ConvGradRefIdeal.main_arg2)
      ∧ r.2.mem ((c.tc : Thread Cert.ConvGradRefIdeal.nD Cert.ConvGradRefIdeal.τ).loc Cert.ConvGradRefIdeal.main_arg3) = m ((c.tc : Thread Cert.ConvGradRefIdeal.nD Cert.ConvGradRefIdeal.τ).loc Cert.ConvGradRefIdeal.main_arg3))
      ∧ r.2.sem = fun _ => 0)

def quiescent_Combine [hCombine : Cert.Combine.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (onTc (τ := Cert.Combine.τ) (Cert.Combine.main (F := Bits))) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0)
      ∧ r.2.mem ((c.tc : Thread Cert.Combine.nD Cert.Combine.τ).loc Cert.Combine.main_arg1) = m ((c.tc : Thread Cert.Combine.nD Cert.Combine.τ).loc Cert.Combine.main_arg1)
      ∧ r.2.mem ((c.tc : Thread Cert.Combine.nD Cert.Combine.τ).loc Cert.Combine.main_arg2) = m ((c.tc : Thread Cert.Combine.nD Cert.Combine.τ).loc Cert.Combine.main_arg2)
      ∧ r.2.mem ((c.tc : Thread Cert.Combine.nD Cert.Combine.τ).loc Cert.Combine.main_arg3) = m ((c.tc : Thread Cert.Combine.nD Cert.Combine.τ).loc Cert.Combine.main_arg3)
      ∧ r.2.mem ((c.tc : Thread Cert.Combine.nD Cert.Combine.τ).loc Cert.Combine.main_arg4) = m ((c.tc : Thread Cert.Combine.nD Cert.Combine.τ).loc Cert.Combine.main_arg4))
      ∧ r.2.sem = fun _ => 0)

def quiescent_CombineIdeal [hCombineIdeal : Cert.CombineIdeal.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
      ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
      ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4))
      ∧ r.2.sem = fun _ => 0)

def quiescent_CombineIdeal_pre_finite_lse [hCombineIdeal : Cert.CombineIdeal.Facts] [hPre_finite_lse : Cert.Pre_finite_lse.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal_finite_lse m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
      ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
      ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4))
      ∧ r.2.sem = fun _ => 0)

def quiescent_CombineRefIdeal [hCombineRefIdeal : Cert.CombineRefIdeal.Facts] : Prop :=
  ∀ (m : (ℓ : Loc Cert.CombineRefIdeal.nD Cert.CombineRefIdeal.τ Cert.CombineRefIdeal.sig) → Buf (Elt Ideal) ℓ) (g : Dev Cert.CombineRefIdeal.nD → PrngReg), Pre_CombineRefIdeal m →
    θ_run (Cert.CombineRefIdeal.defs (F := Ideal)) (onTc (τ := Cert.CombineRefIdeal.τ) (Cert.CombineRefIdeal.main (F := Ideal))) ⟨m, fun _ => 0, g⟩ (fun r => (∀ c : Dev Cert.CombineRefIdeal.nD,
      r.2.mem ((c.tc : Thread Cert.CombineRefIdeal.nD Cert.CombineRefIdeal.τ).loc Cert.CombineRefIdeal.main_arg0) = m ((c.tc : Thread Cert.CombineRefIdeal.nD Cert.CombineRefIdeal.τ).loc Cert.CombineRefIdeal.main_arg0)
      ∧ r.2.mem ((c.tc : Thread Cert.CombineRefIdeal.nD Cert.CombineRefIdeal.τ).loc Cert.CombineRefIdeal.main_arg1) = m ((c.tc : Thread Cert.CombineRefIdeal.nD Cert.CombineRefIdeal.τ).loc Cert.CombineRefIdeal.main_arg1)
      ∧ r.2.mem ((c.tc : Thread Cert.CombineRefIdeal.nD Cert.CombineRefIdeal.τ).loc Cert.CombineRefIdeal.main_arg2) = m ((c.tc : Thread Cert.CombineRefIdeal.nD Cert.CombineRefIdeal.τ).loc Cert.CombineRefIdeal.main_arg2)
      ∧ r.2.mem ((c.tc : Thread Cert.CombineRefIdeal.nD Cert.CombineRefIdeal.τ).loc Cert.CombineRefIdeal.main_arg3) = m ((c.tc : Thread Cert.CombineRefIdeal.nD Cert.CombineRefIdeal.τ).loc Cert.CombineRefIdeal.main_arg3)
      ∧ r.2.mem ((c.tc : Thread Cert.CombineRefIdeal.nD Cert.CombineRefIdeal.τ).loc Cert.CombineRefIdeal.main_arg4) = m ((c.tc : Thread Cert.CombineRefIdeal.nD Cert.CombineRefIdeal.τ).loc Cert.CombineRefIdeal.main_arg4))
      ∧ r.2.sem = fun _ => 0)

def quiescent_CombineRefIdeal_pre_finite_lse [hCombineRefIdeal : Cert.CombineRefIdeal.Facts] [hPre_finite_lse : Cert.Pre_finite_lse.Facts] : Prop :=
  ∀ (m : (ℓ : Loc Cert.CombineRefIdeal.nD Cert.CombineRefIdeal.τ Cert.CombineRefIdeal.sig) → Buf (Elt Ideal) ℓ) (g : Dev Cert.CombineRefIdeal.nD → PrngReg), Pre_CombineRefIdeal_finite_lse m →
    θ_run (Cert.CombineRefIdeal.defs (F := Ideal)) (onTc (τ := Cert.CombineRefIdeal.τ) (Cert.CombineRefIdeal.main (F := Ideal))) ⟨m, fun _ => 0, g⟩ (fun r => (∀ c : Dev Cert.CombineRefIdeal.nD,
      r.2.mem ((c.tc : Thread Cert.CombineRefIdeal.nD Cert.CombineRefIdeal.τ).loc Cert.CombineRefIdeal.main_arg0) = m ((c.tc : Thread Cert.CombineRefIdeal.nD Cert.CombineRefIdeal.τ).loc Cert.CombineRefIdeal.main_arg0)
      ∧ r.2.mem ((c.tc : Thread Cert.CombineRefIdeal.nD Cert.CombineRefIdeal.τ).loc Cert.CombineRefIdeal.main_arg1) = m ((c.tc : Thread Cert.CombineRefIdeal.nD Cert.CombineRefIdeal.τ).loc Cert.CombineRefIdeal.main_arg1)
      ∧ r.2.mem ((c.tc : Thread Cert.CombineRefIdeal.nD Cert.CombineRefIdeal.τ).loc Cert.CombineRefIdeal.main_arg2) = m ((c.tc : Thread Cert.CombineRefIdeal.nD Cert.CombineRefIdeal.τ).loc Cert.CombineRefIdeal.main_arg2)
      ∧ r.2.mem ((c.tc : Thread Cert.CombineRefIdeal.nD Cert.CombineRefIdeal.τ).loc Cert.CombineRefIdeal.main_arg3) = m ((c.tc : Thread Cert.CombineRefIdeal.nD Cert.CombineRefIdeal.τ).loc Cert.CombineRefIdeal.main_arg3)
      ∧ r.2.mem ((c.tc : Thread Cert.CombineRefIdeal.nD Cert.CombineRefIdeal.τ).loc Cert.CombineRefIdeal.main_arg4) = m ((c.tc : Thread Cert.CombineRefIdeal.nD Cert.CombineRefIdeal.τ).loc Cert.CombineRefIdeal.main_arg4))
      ∧ r.2.sem = fun _ => 0)

def quiescent_StepBack [hStepBack : Cert.StepBack.Facts] : Prop :=
  ∀ (m : (ℓ : Loc Cert.StepBack.nD Cert.StepBack.τ Cert.StepBack.sig) → Buf (Elt Bits) ℓ) (g : Dev Cert.StepBack.nD → PrngReg), Pre_StepBack m →
    θ_run (Cert.StepBack.defs (F := Bits)) (onTc (τ := Cert.StepBack.τ) (Cert.StepBack.main (F := Bits))) ⟨m, fun _ => 0, g⟩ (fun r => (∀ c : Dev Cert.StepBack.nD,
      r.2.mem ((c.tc : Thread Cert.StepBack.nD Cert.StepBack.τ).loc Cert.StepBack.main_arg0) = m ((c.tc : Thread Cert.StepBack.nD Cert.StepBack.τ).loc Cert.StepBack.main_arg0)
      ∧ r.2.mem ((c.tc : Thread Cert.StepBack.nD Cert.StepBack.τ).loc Cert.StepBack.main_arg1) = m ((c.tc : Thread Cert.StepBack.nD Cert.StepBack.τ).loc Cert.StepBack.main_arg1)
      ∧ r.2.mem ((c.tc : Thread Cert.StepBack.nD Cert.StepBack.τ).loc Cert.StepBack.main_arg2) = m ((c.tc : Thread Cert.StepBack.nD Cert.StepBack.τ).loc Cert.StepBack.main_arg2)
      ∧ r.2.mem ((c.tc : Thread Cert.StepBack.nD Cert.StepBack.τ).loc Cert.StepBack.main_arg3) = m ((c.tc : Thread Cert.StepBack.nD Cert.StepBack.τ).loc Cert.StepBack.main_arg3)
      ∧ r.2.mem ((c.tc : Thread Cert.StepBack.nD Cert.StepBack.τ).loc Cert.StepBack.main_arg4) = m ((c.tc : Thread Cert.StepBack.nD Cert.StepBack.τ).loc Cert.StepBack.main_arg4)
      ∧ r.2.mem ((c.tc : Thread Cert.StepBack.nD Cert.StepBack.τ).loc Cert.StepBack.main_arg5) = m ((c.tc : Thread Cert.StepBack.nD Cert.StepBack.τ).loc Cert.StepBack.main_arg5))
      ∧ r.2.sem = fun _ => 0)

def quiescent_StepBackIdeal [hStepBackIdeal : Cert.StepBackIdeal.Facts] : Prop :=
  ∀ (m : (ℓ : Loc Cert.StepBackIdeal.nD Cert.StepBackIdeal.τ Cert.StepBackIdeal.sig) → Buf (Elt Ideal) ℓ) (g : Dev Cert.StepBackIdeal.nD → PrngReg), Pre_StepBackIdeal m →
    θ_run (Cert.StepBackIdeal.defs (F := Ideal)) (onTc (τ := Cert.StepBackIdeal.τ) (Cert.StepBackIdeal.main (F := Ideal))) ⟨m, fun _ => 0, g⟩ (fun r => (∀ c : Dev Cert.StepBackIdeal.nD,
      r.2.mem ((c.tc : Thread Cert.StepBackIdeal.nD Cert.StepBackIdeal.τ).loc Cert.StepBackIdeal.main_arg0) = m ((c.tc : Thread Cert.StepBackIdeal.nD Cert.StepBackIdeal.τ).loc Cert.StepBackIdeal.main_arg0)
      ∧ r.2.mem ((c.tc : Thread Cert.StepBackIdeal.nD Cert.StepBackIdeal.τ).loc Cert.StepBackIdeal.main_arg1) = m ((c.tc : Thread Cert.StepBackIdeal.nD Cert.StepBackIdeal.τ).loc Cert.StepBackIdeal.main_arg1)
      ∧ r.2.mem ((c.tc : Thread Cert.StepBackIdeal.nD Cert.StepBackIdeal.τ).loc Cert.StepBackIdeal.main_arg2) = m ((c.tc : Thread Cert.StepBackIdeal.nD Cert.StepBackIdeal.τ).loc Cert.StepBackIdeal.main_arg2)
      ∧ r.2.mem ((c.tc : Thread Cert.StepBackIdeal.nD Cert.StepBackIdeal.τ).loc Cert.StepBackIdeal.main_arg3) = m ((c.tc : Thread Cert.StepBackIdeal.nD Cert.StepBackIdeal.τ).loc Cert.StepBackIdeal.main_arg3)
      ∧ r.2.mem ((c.tc : Thread Cert.StepBackIdeal.nD Cert.StepBackIdeal.τ).loc Cert.StepBackIdeal.main_arg4) = m ((c.tc : Thread Cert.StepBackIdeal.nD Cert.StepBackIdeal.τ).loc Cert.StepBackIdeal.main_arg4)
      ∧ r.2.mem ((c.tc : Thread Cert.StepBackIdeal.nD Cert.StepBackIdeal.τ).loc Cert.StepBackIdeal.main_arg5) = m ((c.tc : Thread Cert.StepBackIdeal.nD Cert.StepBackIdeal.τ).loc Cert.StepBackIdeal.main_arg5))
      ∧ r.2.sem = fun _ => 0)

def quiescent_StepBackIdeal_pre_finite_rates [hStepBackIdeal : Cert.StepBackIdeal.Facts] [hPre_finite_rates : Cert.Pre_finite_rates.Facts] : Prop :=
  ∀ (m : (ℓ : Loc Cert.StepBackIdeal.nD Cert.StepBackIdeal.τ Cert.StepBackIdeal.sig) → Buf (Elt Ideal) ℓ) (g : Dev Cert.StepBackIdeal.nD → PrngReg), Pre_StepBackIdeal_finite_rates m →
    θ_run (Cert.StepBackIdeal.defs (F := Ideal)) (onTc (τ := Cert.StepBackIdeal.τ) (Cert.StepBackIdeal.main (F := Ideal))) ⟨m, fun _ => 0, g⟩ (fun r => (∀ c : Dev Cert.StepBackIdeal.nD,
      r.2.mem ((c.tc : Thread Cert.StepBackIdeal.nD Cert.StepBackIdeal.τ).loc Cert.StepBackIdeal.main_arg0) = m ((c.tc : Thread Cert.StepBackIdeal.nD Cert.StepBackIdeal.τ).loc Cert.StepBackIdeal.main_arg0)
      ∧ r.2.mem ((c.tc : Thread Cert.StepBackIdeal.nD Cert.StepBackIdeal.τ).loc Cert.StepBackIdeal.main_arg1) = m ((c.tc : Thread Cert.StepBackIdeal.nD Cert.StepBackIdeal.τ).loc Cert.StepBackIdeal.main_arg1)
      ∧ r.2.mem ((c.tc : Thread Cert.StepBackIdeal.nD Cert.StepBackIdeal.τ).loc Cert.StepBackIdeal.main_arg2) = m ((c.tc : Thread Cert.StepBackIdeal.nD Cert.StepBackIdeal.τ).loc Cert.StepBackIdeal.main_arg2)
      ∧ r.2.mem ((c.tc : Thread Cert.StepBackIdeal.nD Cert.StepBackIdeal.τ).loc Cert.StepBackIdeal.main_arg3) = m ((c.tc : Thread Cert.StepBackIdeal.nD Cert.StepBackIdeal.τ).loc Cert.StepBackIdeal.main_arg3)
      ∧ r.2.mem ((c.tc : Thread Cert.StepBackIdeal.nD Cert.StepBackIdeal.τ).loc Cert.StepBackIdeal.main_arg4) = m ((c.tc : Thread Cert.StepBackIdeal.nD Cert.StepBackIdeal.τ).loc Cert.StepBackIdeal.main_arg4)
      ∧ r.2.mem ((c.tc : Thread Cert.StepBackIdeal.nD Cert.StepBackIdeal.τ).loc Cert.StepBackIdeal.main_arg5) = m ((c.tc : Thread Cert.StepBackIdeal.nD Cert.StepBackIdeal.τ).loc Cert.StepBackIdeal.main_arg5))
      ∧ r.2.sem = fun _ => 0)

def quiescent_StepBackRefIdeal [hStepBackRefIdeal : Cert.StepBackRefIdeal.Facts] : Prop :=
  ∀ (m : (ℓ : Loc Cert.StepBackRefIdeal.nD Cert.StepBackRefIdeal.τ Cert.StepBackRefIdeal.sig) → Buf (Elt Ideal) ℓ) (g : Dev Cert.StepBackRefIdeal.nD → PrngReg), Pre_StepBackRefIdeal m →
    θ_run (Cert.StepBackRefIdeal.defs (F := Ideal)) (onTc (τ := Cert.StepBackRefIdeal.τ) (Cert.StepBackRefIdeal.main (F := Ideal))) ⟨m, fun _ => 0, g⟩ (fun r => (∀ c : Dev Cert.StepBackRefIdeal.nD,
      r.2.mem ((c.tc : Thread Cert.StepBackRefIdeal.nD Cert.StepBackRefIdeal.τ).loc Cert.StepBackRefIdeal.main_arg0) = m ((c.tc : Thread Cert.StepBackRefIdeal.nD Cert.StepBackRefIdeal.τ).loc Cert.StepBackRefIdeal.main_arg0)
      ∧ r.2.mem ((c.tc : Thread Cert.StepBackRefIdeal.nD Cert.StepBackRefIdeal.τ).loc Cert.StepBackRefIdeal.main_arg1) = m ((c.tc : Thread Cert.StepBackRefIdeal.nD Cert.StepBackRefIdeal.τ).loc Cert.StepBackRefIdeal.main_arg1)
      ∧ r.2.mem ((c.tc : Thread Cert.StepBackRefIdeal.nD Cert.StepBackRefIdeal.τ).loc Cert.StepBackRefIdeal.main_arg2) = m ((c.tc : Thread Cert.StepBackRefIdeal.nD Cert.StepBackRefIdeal.τ).loc Cert.StepBackRefIdeal.main_arg2)
      ∧ r.2.mem ((c.tc : Thread Cert.StepBackRefIdeal.nD Cert.StepBackRefIdeal.τ).loc Cert.StepBackRefIdeal.main_arg3) = m ((c.tc : Thread Cert.StepBackRefIdeal.nD Cert.StepBackRefIdeal.τ).loc Cert.StepBackRefIdeal.main_arg3)
      ∧ r.2.mem ((c.tc : Thread Cert.StepBackRefIdeal.nD Cert.StepBackRefIdeal.τ).loc Cert.StepBackRefIdeal.main_arg4) = m ((c.tc : Thread Cert.StepBackRefIdeal.nD Cert.StepBackRefIdeal.τ).loc Cert.StepBackRefIdeal.main_arg4)
      ∧ r.2.mem ((c.tc : Thread Cert.StepBackRefIdeal.nD Cert.StepBackRefIdeal.τ).loc Cert.StepBackRefIdeal.main_arg5) = m ((c.tc : Thread Cert.StepBackRefIdeal.nD Cert.StepBackRefIdeal.τ).loc Cert.StepBackRefIdeal.main_arg5))
      ∧ r.2.sem = fun _ => 0)

def quiescent_StepBackRefIdeal_pre_finite_rates [hStepBackRefIdeal : Cert.StepBackRefIdeal.Facts] [hPre_finite_rates : Cert.Pre_finite_rates.Facts] : Prop :=
  ∀ (m : (ℓ : Loc Cert.StepBackRefIdeal.nD Cert.StepBackRefIdeal.τ Cert.StepBackRefIdeal.sig) → Buf (Elt Ideal) ℓ) (g : Dev Cert.StepBackRefIdeal.nD → PrngReg), Pre_StepBackRefIdeal_finite_rates m →
    θ_run (Cert.StepBackRefIdeal.defs (F := Ideal)) (onTc (τ := Cert.StepBackRefIdeal.τ) (Cert.StepBackRefIdeal.main (F := Ideal))) ⟨m, fun _ => 0, g⟩ (fun r => (∀ c : Dev Cert.StepBackRefIdeal.nD,
      r.2.mem ((c.tc : Thread Cert.StepBackRefIdeal.nD Cert.StepBackRefIdeal.τ).loc Cert.StepBackRefIdeal.main_arg0) = m ((c.tc : Thread Cert.StepBackRefIdeal.nD Cert.StepBackRefIdeal.τ).loc Cert.StepBackRefIdeal.main_arg0)
      ∧ r.2.mem ((c.tc : Thread Cert.StepBackRefIdeal.nD Cert.StepBackRefIdeal.τ).loc Cert.StepBackRefIdeal.main_arg1) = m ((c.tc : Thread Cert.StepBackRefIdeal.nD Cert.StepBackRefIdeal.τ).loc Cert.StepBackRefIdeal.main_arg1)
      ∧ r.2.mem ((c.tc : Thread Cert.StepBackRefIdeal.nD Cert.StepBackRefIdeal.τ).loc Cert.StepBackRefIdeal.main_arg2) = m ((c.tc : Thread Cert.StepBackRefIdeal.nD Cert.StepBackRefIdeal.τ).loc Cert.StepBackRefIdeal.main_arg2)
      ∧ r.2.mem ((c.tc : Thread Cert.StepBackRefIdeal.nD Cert.StepBackRefIdeal.τ).loc Cert.StepBackRefIdeal.main_arg3) = m ((c.tc : Thread Cert.StepBackRefIdeal.nD Cert.StepBackRefIdeal.τ).loc Cert.StepBackRefIdeal.main_arg3)
      ∧ r.2.mem ((c.tc : Thread Cert.StepBackRefIdeal.nD Cert.StepBackRefIdeal.τ).loc Cert.StepBackRefIdeal.main_arg4) = m ((c.tc : Thread Cert.StepBackRefIdeal.nD Cert.StepBackRefIdeal.τ).loc Cert.StepBackRefIdeal.main_arg4)
      ∧ r.2.mem ((c.tc : Thread Cert.StepBackRefIdeal.nD Cert.StepBackRefIdeal.τ).loc Cert.StepBackRefIdeal.main_arg5) = m ((c.tc : Thread Cert.StepBackRefIdeal.nD Cert.StepBackRefIdeal.τ).loc Cert.StepBackRefIdeal.main_arg5))
      ∧ r.2.sem = fun _ => 0)

def quiescent_ScatterRef [hScatterRef : Cert.ScatterRef.Facts] : Prop :=
  ∀ (m : (ℓ : Loc Cert.ScatterRef.nD Cert.ScatterRef.τ Cert.ScatterRef.sig) → Buf (Elt Bits) ℓ) (g : Dev Cert.ScatterRef.nD → PrngReg), Pre_ScatterRef m →
    θ_run (Cert.ScatterRef.defs (F := Bits)) (onTc (τ := Cert.ScatterRef.τ) (Cert.ScatterRef.main (F := Bits))) ⟨m, fun _ => 0, g⟩ (fun r => (∀ c : Dev Cert.ScatterRef.nD,
      r.2.mem ((c.tc : Thread Cert.ScatterRef.nD Cert.ScatterRef.τ).loc Cert.ScatterRef.main_arg0) = m ((c.tc : Thread Cert.ScatterRef.nD Cert.ScatterRef.τ).loc Cert.ScatterRef.main_arg0)
      ∧ r.2.mem ((c.tc : Thread Cert.ScatterRef.nD Cert.ScatterRef.τ).loc Cert.ScatterRef.main_arg1) = m ((c.tc : Thread Cert.ScatterRef.nD Cert.ScatterRef.τ).loc Cert.ScatterRef.main_arg1)
      ∧ r.2.mem ((c.tc : Thread Cert.ScatterRef.nD Cert.ScatterRef.τ).loc Cert.ScatterRef.main_arg2) = m ((c.tc : Thread Cert.ScatterRef.nD Cert.ScatterRef.τ).loc Cert.ScatterRef.main_arg2)
      ∧ r.2.mem ((c.tc : Thread Cert.ScatterRef.nD Cert.ScatterRef.τ).loc Cert.ScatterRef.main_arg3) = m ((c.tc : Thread Cert.ScatterRef.nD Cert.ScatterRef.τ).loc Cert.ScatterRef.main_arg3))
      ∧ r.2.sem = fun _ => 0)

def quiescent_GatherRef [hGatherRef : Cert.GatherRef.Facts] : Prop :=
  ∀ (m : (ℓ : Loc Cert.GatherRef.nD Cert.GatherRef.τ Cert.GatherRef.sig) → Buf (Elt Bits) ℓ) (g : Dev Cert.GatherRef.nD → PrngReg), Pre_GatherRef m →
    θ_run (Cert.GatherRef.defs (F := Bits)) (onTc (τ := Cert.GatherRef.τ) (Cert.GatherRef.main (F := Bits))) ⟨m, fun _ => 0, g⟩ (fun r => (∀ c : Dev Cert.GatherRef.nD,
      r.2.mem ((c.tc : Thread Cert.GatherRef.nD Cert.GatherRef.τ).loc Cert.GatherRef.main_arg0) = m ((c.tc : Thread Cert.GatherRef.nD Cert.GatherRef.τ).loc Cert.GatherRef.main_arg0)
      ∧ r.2.mem ((c.tc : Thread Cert.GatherRef.nD Cert.GatherRef.τ).loc Cert.GatherRef.main_arg1) = m ((c.tc : Thread Cert.GatherRef.nD Cert.GatherRef.τ).loc Cert.GatherRef.main_arg1)
      ∧ r.2.mem ((c.tc : Thread Cert.GatherRef.nD Cert.GatherRef.τ).loc Cert.GatherRef.main_arg2) = m ((c.tc : Thread Cert.GatherRef.nD Cert.GatherRef.τ).loc Cert.GatherRef.main_arg2)
      ∧ r.2.mem ((c.tc : Thread Cert.GatherRef.nD Cert.GatherRef.τ).loc Cert.GatherRef.main_arg3) = m ((c.tc : Thread Cert.GatherRef.nD Cert.GatherRef.τ).loc Cert.GatherRef.main_arg3)
      ∧ r.2.mem ((c.tc : Thread Cert.GatherRef.nD Cert.GatherRef.τ).loc Cert.GatherRef.main_arg4) = m ((c.tc : Thread Cert.GatherRef.nD Cert.GatherRef.τ).loc Cert.GatherRef.main_arg4))
      ∧ r.2.sem = fun _ => 0)

def quiescent_SmallRef [hSmallRef : Cert.SmallRef.Facts] : Prop :=
  ∀ (m : (ℓ : Loc Cert.SmallRef.nD Cert.SmallRef.τ Cert.SmallRef.sig) → Buf (Elt Bits) ℓ) (g : Dev Cert.SmallRef.nD → PrngReg), Pre_SmallRef m →
    θ_run (Cert.SmallRef.defs (F := Bits)) (onTc (τ := Cert.SmallRef.τ) (Cert.SmallRef.main (F := Bits))) ⟨m, fun _ => 0, g⟩ (fun r => (∀ c : Dev Cert.SmallRef.nD,
      r.2.mem ((c.tc : Thread Cert.SmallRef.nD Cert.SmallRef.τ).loc Cert.SmallRef.main_arg0) = m ((c.tc : Thread Cert.SmallRef.nD Cert.SmallRef.τ).loc Cert.SmallRef.main_arg0))
      ∧ r.2.sem = fun _ => 0)

def preserves_Scatter_ScatterIdeal : Prop :=
  True

def algebraic_ScatterIdeal_ScatterRefIdeal [hScatterIdeal : Cert.ScatterIdeal.Facts] [hScatterRefIdeal : Cert.ScatterRefIdeal.Facts] : Prop :=
  ∀ (m : (ℓ : Loc Cert.ScatterIdeal.nD Cert.ScatterIdeal.τ Cert.ScatterIdeal.sig) → Buf (Elt Ideal) ℓ) (g : Dev Cert.ScatterIdeal.nD → PrngReg)
    (m' : (ℓ : Loc Cert.ScatterRefIdeal.nD Cert.ScatterRefIdeal.τ Cert.ScatterRefIdeal.sig) → Buf (Elt Ideal) ℓ) (g' : Dev Cert.ScatterRefIdeal.nD → PrngReg), Pre_ScatterIdeal m →
    (∀ c : Dev Cert.ScatterIdeal.nD,
      m ((c.tc : Thread Cert.ScatterIdeal.nD Cert.ScatterIdeal.τ).loc Cert.ScatterIdeal.main_arg0) = Layout.block ⟨3, ![8, 2048, 2824]⟩ ⟨3, ![64, 2048, 2824]⟩ 0 8 c (m' (((0 : Dev Cert.ScatterRefIdeal.nD).tc : Thread Cert.ScatterRefIdeal.nD Cert.ScatterRefIdeal.τ).loc Cert.ScatterRefIdeal.main_arg0))
      ∧ m ((c.tc : Thread Cert.ScatterIdeal.nD Cert.ScatterIdeal.τ).loc Cert.ScatterIdeal.main_arg1) = Layout.block ⟨3, ![8, 256, 2048]⟩ ⟨3, ![64, 256, 2048]⟩ 0 8 c (m' (((0 : Dev Cert.ScatterRefIdeal.nD).tc : Thread Cert.ScatterRefIdeal.nD Cert.ScatterRefIdeal.τ).loc Cert.ScatterRefIdeal.main_arg1))
      ∧ m ((c.tc : Thread Cert.ScatterIdeal.nD Cert.ScatterIdeal.τ).loc Cert.ScatterIdeal.main_arg2) = Layout.block ⟨3, ![8, 512, 2048]⟩ ⟨3, ![64, 512, 2048]⟩ 0 8 c (m' (((0 : Dev Cert.ScatterRefIdeal.nD).tc : Thread Cert.ScatterRefIdeal.nD Cert.ScatterRefIdeal.τ).loc Cert.ScatterRefIdeal.main_arg2))
      ∧ m ((c.tc : Thread Cert.ScatterIdeal.nD Cert.ScatterIdeal.τ).loc Cert.ScatterIdeal.main_arg3) = Layout.block ⟨3, ![8, 256, 2048]⟩ ⟨3, ![64, 256, 2048]⟩ 0 8 c (m' (((0 : Dev Cert.ScatterRefIdeal.nD).tc : Thread Cert.ScatterRefIdeal.nD Cert.ScatterRefIdeal.τ).loc Cert.ScatterRefIdeal.main_arg3))) →
    ∃ (v0 : Buf (Elt Ideal) (((0 : Dev Cert.ScatterRefIdeal.nD).tc : Thread Cert.ScatterRefIdeal.nD Cert.ScatterRefIdeal.τ).loc Cert.ScatterRefIdeal.main_v2)) (v1 : Buf (Elt Ideal) (((0 : Dev Cert.ScatterRefIdeal.nD).tc : Thread Cert.ScatterRefIdeal.nD Cert.ScatterRefIdeal.τ).loc Cert.ScatterRefIdeal.main_v5)) (v2 : Buf (Elt Ideal) (((0 : Dev Cert.ScatterRefIdeal.nD).tc : Thread Cert.ScatterRefIdeal.nD Cert.ScatterRefIdeal.τ).loc Cert.ScatterRefIdeal.main_v8)) (v3 : Buf (Elt Ideal) (((0 : Dev Cert.ScatterRefIdeal.nD).tc : Thread Cert.ScatterRefIdeal.nD Cert.ScatterRefIdeal.τ).loc Cert.ScatterRefIdeal.main_v11)),
      θ_run (Cert.ScatterIdeal.defs (F := Ideal)) (onTc (τ := Cert.ScatterIdeal.τ) (Cert.ScatterIdeal.main (F := Ideal))) ⟨m, fun _ => 0, g⟩ (fun r => ∀ c : Dev Cert.ScatterIdeal.nD,
          r.2.mem ((c.tc : Thread Cert.ScatterIdeal.nD Cert.ScatterIdeal.τ).loc Cert.ScatterIdeal.main_v1_0) = Layout.block ⟨3, ![8, 2048, 2824]⟩ ⟨3, ![64, 2048, 2824]⟩ 0 8 c v0
          ∧ r.2.mem ((c.tc : Thread Cert.ScatterIdeal.nD Cert.ScatterIdeal.τ).loc Cert.ScatterIdeal.main_v1_1) = Layout.block ⟨3, ![8, 256, 2048]⟩ ⟨3, ![64, 256, 2048]⟩ 0 8 c v1
          ∧ r.2.mem ((c.tc : Thread Cert.ScatterIdeal.nD Cert.ScatterIdeal.τ).loc Cert.ScatterIdeal.main_v1_2) = Layout.block ⟨3, ![8, 512, 2048]⟩ ⟨3, ![64, 512, 2048]⟩ 0 8 c v2
          ∧ r.2.mem ((c.tc : Thread Cert.ScatterIdeal.nD Cert.ScatterIdeal.τ).loc Cert.ScatterIdeal.main_v1_3) = Layout.block ⟨3, ![8, 256, 2048]⟩ ⟨3, ![64, 256, 2048]⟩ 0 8 c v3
          ∧ r.2.mem ((c.tc : Thread Cert.ScatterIdeal.nD Cert.ScatterIdeal.τ).loc Cert.ScatterIdeal.main_arg0) = m ((c.tc : Thread Cert.ScatterIdeal.nD Cert.ScatterIdeal.τ).loc Cert.ScatterIdeal.main_arg0)
          ∧ r.2.mem ((c.tc : Thread Cert.ScatterIdeal.nD Cert.ScatterIdeal.τ).loc Cert.ScatterIdeal.main_arg1) = m ((c.tc : Thread Cert.ScatterIdeal.nD Cert.ScatterIdeal.τ).loc Cert.ScatterIdeal.main_arg1)
          ∧ r.2.mem ((c.tc : Thread Cert.ScatterIdeal.nD Cert.ScatterIdeal.τ).loc Cert.ScatterIdeal.main_arg2) = m ((c.tc : Thread Cert.ScatterIdeal.nD Cert.ScatterIdeal.τ).loc Cert.ScatterIdeal.main_arg2)
          ∧ r.2.mem ((c.tc : Thread Cert.ScatterIdeal.nD Cert.ScatterIdeal.τ).loc Cert.ScatterIdeal.main_arg3) = m ((c.tc : Thread Cert.ScatterIdeal.nD Cert.ScatterIdeal.τ).loc Cert.ScatterIdeal.main_arg3))
      ∧ θ_run (Cert.ScatterRefIdeal.defs (F := Ideal)) (onTc (τ := Cert.ScatterRefIdeal.τ) (Cert.ScatterRefIdeal.main (F := Ideal))) ⟨m', fun _ => 0, g'⟩ (fun r =>
          r.2.mem (((0 : Dev Cert.ScatterRefIdeal.nD).tc : Thread Cert.ScatterRefIdeal.nD Cert.ScatterRefIdeal.τ).loc Cert.ScatterRefIdeal.main_v2) = v0
          ∧ r.2.mem (((0 : Dev Cert.ScatterRefIdeal.nD).tc : Thread Cert.ScatterRefIdeal.nD Cert.ScatterRefIdeal.τ).loc Cert.ScatterRefIdeal.main_v5) = v1
          ∧ r.2.mem (((0 : Dev Cert.ScatterRefIdeal.nD).tc : Thread Cert.ScatterRefIdeal.nD Cert.ScatterRefIdeal.τ).loc Cert.ScatterRefIdeal.main_v8) = v2
          ∧ r.2.mem (((0 : Dev Cert.ScatterRefIdeal.nD).tc : Thread Cert.ScatterRefIdeal.nD Cert.ScatterRefIdeal.τ).loc Cert.ScatterRefIdeal.main_v11) = v3
          ∧ r.2.mem (((0 : Dev Cert.ScatterRefIdeal.nD).tc : Thread Cert.ScatterRefIdeal.nD Cert.ScatterRefIdeal.τ).loc Cert.ScatterRefIdeal.main_arg0) = m' (((0 : Dev Cert.ScatterRefIdeal.nD).tc : Thread Cert.ScatterRefIdeal.nD Cert.ScatterRefIdeal.τ).loc Cert.ScatterRefIdeal.main_arg0)
          ∧ r.2.mem (((0 : Dev Cert.ScatterRefIdeal.nD).tc : Thread Cert.ScatterRefIdeal.nD Cert.ScatterRefIdeal.τ).loc Cert.ScatterRefIdeal.main_arg1) = m' (((0 : Dev Cert.ScatterRefIdeal.nD).tc : Thread Cert.ScatterRefIdeal.nD Cert.ScatterRefIdeal.τ).loc Cert.ScatterRefIdeal.main_arg1)
          ∧ r.2.mem (((0 : Dev Cert.ScatterRefIdeal.nD).tc : Thread Cert.ScatterRefIdeal.nD Cert.ScatterRefIdeal.τ).loc Cert.ScatterRefIdeal.main_arg2) = m' (((0 : Dev Cert.ScatterRefIdeal.nD).tc : Thread Cert.ScatterRefIdeal.nD Cert.ScatterRefIdeal.τ).loc Cert.ScatterRefIdeal.main_arg2)
          ∧ r.2.mem (((0 : Dev Cert.ScatterRefIdeal.nD).tc : Thread Cert.ScatterRefIdeal.nD Cert.ScatterRefIdeal.τ).loc Cert.ScatterRefIdeal.main_arg3) = m' (((0 : Dev Cert.ScatterRefIdeal.nD).tc : Thread Cert.ScatterRefIdeal.nD Cert.ScatterRefIdeal.τ).loc Cert.ScatterRefIdeal.main_arg3))

def preserves_Gather_GatherIdeal : Prop :=
  True

def algebraic_GatherIdeal_GatherRefIdeal [hGatherIdeal : Cert.GatherIdeal.Facts] [hGatherRefIdeal : Cert.GatherRefIdeal.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.GatherRefIdeal.nD Cert.GatherRefIdeal.τ Cert.GatherRefIdeal.sig) → Buf (Elt Ideal) ℓ) (g' : Dev Cert.GatherRefIdeal.nD → PrngReg), Pre_GatherIdeal m →
    (∀ c : Dev Cert.GatherIdeal.nD,
      m ((c.tc : Thread Cert.GatherIdeal.nD Cert.GatherIdeal.τ).loc Cert.GatherIdeal.main_arg0) = Layout.block ⟨2, ![2048, 2824]⟩ ⟨2, ![2048, 22592]⟩ 1 8 c (m' (((0 : Dev Cert.GatherRefIdeal.nD).tc : Thread Cert.GatherRefIdeal.nD Cert.GatherRefIdeal.τ).loc Cert.GatherRefIdeal.main_arg0))
      ∧ m ((c.tc : Thread Cert.GatherIdeal.nD Cert.GatherIdeal.τ).loc Cert.GatherIdeal.main_arg1) = Layout.block ⟨2, ![256, 2048]⟩ ⟨2, ![2048, 2048]⟩ 0 8 c (m' (((0 : Dev Cert.GatherRefIdeal.nD).tc : Thread Cert.GatherRefIdeal.nD Cert.GatherRefIdeal.τ).loc Cert.GatherRefIdeal.main_arg1))
      ∧ m ((c.tc : Thread Cert.GatherIdeal.nD Cert.GatherIdeal.τ).loc Cert.GatherIdeal.main_arg2) = Layout.block ⟨2, ![512, 2048]⟩ ⟨2, ![4096, 2048]⟩ 0 8 c (m' (((0 : Dev Cert.GatherRefIdeal.nD).tc : Thread Cert.GatherRefIdeal.nD Cert.GatherRefIdeal.τ).loc Cert.GatherRefIdeal.main_arg2))
      ∧ m ((c.tc : Thread Cert.GatherIdeal.nD Cert.GatherIdeal.τ).loc Cert.GatherIdeal.main_arg3) = Layout.block ⟨2, ![256, 2048]⟩ ⟨2, ![2048, 2048]⟩ 0 8 c (m' (((0 : Dev Cert.GatherRefIdeal.nD).tc : Thread Cert.GatherRefIdeal.nD Cert.GatherRefIdeal.τ).loc Cert.GatherRefIdeal.main_arg3))
      ∧ m ((c.tc : Thread Cert.GatherIdeal.nD Cert.GatherIdeal.τ).loc Cert.GatherIdeal.main_arg4) = Layout.block ⟨2, ![4, 768]⟩ ⟨2, ![4, 6144]⟩ 1 8 c (m' (((0 : Dev Cert.GatherRefIdeal.nD).tc : Thread Cert.GatherRefIdeal.nD Cert.GatherRefIdeal.τ).loc Cert.GatherRefIdeal.main_arg4))) →
    ∃ (v0 : Buf (Elt Ideal) (((0 : Dev Cert.GatherRefIdeal.nD).tc : Thread Cert.GatherRefIdeal.nD Cert.GatherRefIdeal.τ).loc Cert.GatherRefIdeal.main_v1)) (v1 : Buf (Elt Ideal) (((0 : Dev Cert.GatherRefIdeal.nD).tc : Thread Cert.GatherRefIdeal.nD Cert.GatherRefIdeal.τ).loc Cert.GatherRefIdeal.main_v2)) (v2 : Buf (Elt Ideal) (((0 : Dev Cert.GatherRefIdeal.nD).tc : Thread Cert.GatherRefIdeal.nD Cert.GatherRefIdeal.τ).loc Cert.GatherRefIdeal.main_v3)) (v3 : Buf (Elt Ideal) (((0 : Dev Cert.GatherRefIdeal.nD).tc : Thread Cert.GatherRefIdeal.nD Cert.GatherRefIdeal.τ).loc Cert.GatherRefIdeal.main_v4)) (v4 : Buf (Elt Ideal) (((0 : Dev Cert.GatherRefIdeal.nD).tc : Thread Cert.GatherRefIdeal.nD Cert.GatherRefIdeal.τ).loc Cert.GatherRefIdeal.main_v6)),
      θ_run (Cert.GatherIdeal.defs (F := Ideal)) (onTc (τ := Cert.GatherIdeal.τ) (Cert.GatherIdeal.main (F := Ideal))) ⟨m, fun _ => 0, g⟩ (fun r => ∀ c : Dev Cert.GatherIdeal.nD,
          r.2.mem ((c.tc : Thread Cert.GatherIdeal.nD Cert.GatherIdeal.τ).loc Cert.GatherIdeal.main_v1_0) = v0
          ∧ r.2.mem ((c.tc : Thread Cert.GatherIdeal.nD Cert.GatherIdeal.τ).loc Cert.GatherIdeal.main_v1_1) = v1
          ∧ r.2.mem ((c.tc : Thread Cert.GatherIdeal.nD Cert.GatherIdeal.τ).loc Cert.GatherIdeal.main_v1_2) = v2
          ∧ r.2.mem ((c.tc : Thread Cert.GatherIdeal.nD Cert.GatherIdeal.τ).loc Cert.GatherIdeal.main_v1_3) = v3
          ∧ r.2.mem ((c.tc : Thread Cert.GatherIdeal.nD Cert.GatherIdeal.τ).loc Cert.GatherIdeal.main_v1_4) = v4
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
          ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1)
          ∧ r.2.mem ((c.tc : Thread Cert.GatherIdeal.nD Cert.GatherIdeal.τ).loc Cert.GatherIdeal.main_arg2) = m ((c.tc : Thread Cert.GatherIdeal.nD Cert.GatherIdeal.τ).loc Cert.GatherIdeal.main_arg2)
          ∧ r.2.mem ((c.tc : Thread Cert.GatherIdeal.nD Cert.GatherIdeal.τ).loc Cert.GatherIdeal.main_arg3) = m ((c.tc : Thread Cert.GatherIdeal.nD Cert.GatherIdeal.τ).loc Cert.GatherIdeal.main_arg3)
          ∧ r.2.mem ((c.tc : Thread Cert.GatherIdeal.nD Cert.GatherIdeal.τ).loc Cert.GatherIdeal.main_arg4) = m ((c.tc : Thread Cert.GatherIdeal.nD Cert.GatherIdeal.τ).loc Cert.GatherIdeal.main_arg4))
      ∧ θ_run (Cert.GatherRefIdeal.defs (F := Ideal)) (onTc (τ := Cert.GatherRefIdeal.τ) (Cert.GatherRefIdeal.main (F := Ideal))) ⟨m', fun _ => 0, g'⟩ (fun r =>
          r.2.mem (((0 : Dev Cert.GatherRefIdeal.nD).tc : Thread Cert.GatherRefIdeal.nD Cert.GatherRefIdeal.τ).loc Cert.GatherRefIdeal.main_v1) = v0
          ∧ r.2.mem (((0 : Dev Cert.GatherRefIdeal.nD).tc : Thread Cert.GatherRefIdeal.nD Cert.GatherRefIdeal.τ).loc Cert.GatherRefIdeal.main_v2) = v1
          ∧ r.2.mem (((0 : Dev Cert.GatherRefIdeal.nD).tc : Thread Cert.GatherRefIdeal.nD Cert.GatherRefIdeal.τ).loc Cert.GatherRefIdeal.main_v3) = v2
          ∧ r.2.mem (((0 : Dev Cert.GatherRefIdeal.nD).tc : Thread Cert.GatherRefIdeal.nD Cert.GatherRefIdeal.τ).loc Cert.GatherRefIdeal.main_v4) = v3
          ∧ r.2.mem (((0 : Dev Cert.GatherRefIdeal.nD).tc : Thread Cert.GatherRefIdeal.nD Cert.GatherRefIdeal.τ).loc Cert.GatherRefIdeal.main_v6) = v4
          ∧ r.2.mem (((0 : Dev Cert.GatherRefIdeal.nD).tc : Thread Cert.GatherRefIdeal.nD Cert.GatherRefIdeal.τ).loc Cert.GatherRefIdeal.main_arg0) = m' (((0 : Dev Cert.GatherRefIdeal.nD).tc : Thread Cert.GatherRefIdeal.nD Cert.GatherRefIdeal.τ).loc Cert.GatherRefIdeal.main_arg0)
          ∧ r.2.mem (((0 : Dev Cert.GatherRefIdeal.nD).tc : Thread Cert.GatherRefIdeal.nD Cert.GatherRefIdeal.τ).loc Cert.GatherRefIdeal.main_arg1) = m' (((0 : Dev Cert.GatherRefIdeal.nD).tc : Thread Cert.GatherRefIdeal.nD Cert.GatherRefIdeal.τ).loc Cert.GatherRefIdeal.main_arg1)
          ∧ r.2.mem (((0 : Dev Cert.GatherRefIdeal.nD).tc : Thread Cert.GatherRefIdeal.nD Cert.GatherRefIdeal.τ).loc Cert.GatherRefIdeal.main_arg2) = m' (((0 : Dev Cert.GatherRefIdeal.nD).tc : Thread Cert.GatherRefIdeal.nD Cert.GatherRefIdeal.τ).loc Cert.GatherRefIdeal.main_arg2)
          ∧ r.2.mem (((0 : Dev Cert.GatherRefIdeal.nD).tc : Thread Cert.GatherRefIdeal.nD Cert.GatherRefIdeal.τ).loc Cert.GatherRefIdeal.main_arg3) = m' (((0 : Dev Cert.GatherRefIdeal.nD).tc : Thread Cert.GatherRefIdeal.nD Cert.GatherRefIdeal.τ).loc Cert.GatherRefIdeal.main_arg3)
          ∧ r.2.mem (((0 : Dev Cert.GatherRefIdeal.nD).tc : Thread Cert.GatherRefIdeal.nD Cert.GatherRefIdeal.τ).loc Cert.GatherRefIdeal.main_arg4) = m' (((0 : Dev Cert.GatherRefIdeal.nD).tc : Thread Cert.GatherRefIdeal.nD Cert.GatherRefIdeal.τ).loc Cert.GatherRefIdeal.main_arg4))

def preserves_Small_SmallIdeal : Prop :=
  True

def algebraic_SmallIdeal_SmallRefIdeal [hSmallIdeal : Cert.SmallIdeal.Facts] [hSmallRefIdeal : Cert.SmallRefIdeal.Facts] : Prop :=
  ∀ (m : (ℓ : Loc Cert.SmallIdeal.nD Cert.SmallIdeal.τ Cert.SmallIdeal.sig) → Buf (Elt Ideal) ℓ) (g : Dev Cert.SmallIdeal.nD → PrngReg)
    (m' : (ℓ : Loc Cert.SmallRefIdeal.nD Cert.SmallRefIdeal.τ Cert.SmallRefIdeal.sig) → Buf (Elt Ideal) ℓ) (g' : Dev Cert.SmallRefIdeal.nD → PrngReg), Pre_SmallIdeal m →
    (∀ c : Dev Cert.SmallIdeal.nD,
      m ((c.tc : Thread Cert.SmallIdeal.nD Cert.SmallIdeal.τ).loc Cert.SmallIdeal.main_arg0) = Layout.block ⟨2, ![336, 128]⟩ ⟨2, ![2688, 128]⟩ 0 8 c (m' (((0 : Dev Cert.SmallRefIdeal.nD).tc : Thread Cert.SmallRefIdeal.nD Cert.SmallRefIdeal.τ).loc Cert.SmallRefIdeal.main_arg0))) →
    ∃ (v0 : Buf (Elt Ideal) (((0 : Dev Cert.SmallRefIdeal.nD).tc : Thread Cert.SmallRefIdeal.nD Cert.SmallRefIdeal.τ).loc Cert.SmallRefIdeal.main_v0)),
      θ_run (Cert.SmallIdeal.defs (F := Ideal)) (onTc (τ := Cert.SmallIdeal.τ) (Cert.SmallIdeal.main (F := Ideal))) ⟨m, fun _ => 0, g⟩ (fun r => ∀ c : Dev Cert.SmallIdeal.nD,
          r.2.mem ((c.tc : Thread Cert.SmallIdeal.nD Cert.SmallIdeal.τ).loc Cert.SmallIdeal.main_v1) = v0
          ∧ r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0))
      ∧ θ_run (Cert.SmallRefIdeal.defs (F := Ideal)) (onTc (τ := Cert.SmallRefIdeal.τ) (Cert.SmallRefIdeal.main (F := Ideal))) ⟨m', fun _ => 0, g'⟩ (fun r =>
          r.2.mem (((0 : Dev Cert.SmallRefIdeal.nD).tc : Thread Cert.SmallRefIdeal.nD Cert.SmallRefIdeal.τ).loc Cert.SmallRefIdeal.main_v0) = v0
          ∧ r.2.mem (((0 : Dev Cert.SmallRefIdeal.nD).tc : Thread Cert.SmallRefIdeal.nD Cert.SmallRefIdeal.τ).loc Cert.SmallRefIdeal.main_arg0) = m' (((0 : Dev Cert.SmallRefIdeal.nD).tc : Thread Cert.SmallRefIdeal.nD Cert.SmallRefIdeal.τ).loc Cert.SmallRefIdeal.main_arg0))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v1) = v0 c
          ∧ r.2.mem ((c.tc : Thread Cert.AdamInRefIdeal.nD Cert.AdamInRefIdeal.τ).loc Cert.AdamInRefIdeal.main_v25) = v1 c
          ∧ r.2.mem ((c.tc : Thread Cert.AdamInRefIdeal.nD Cert.AdamInRefIdeal.τ).loc Cert.AdamInRefIdeal.main_v6) = v2 c
          ∧ r.2.mem ((c.tc : Thread Cert.AdamInRefIdeal.nD Cert.AdamInRefIdeal.τ).loc Cert.AdamInRefIdeal.main_v12) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamAttn_AdamAttnIdeal : Prop :=
  True

def algebraic_AdamAttnIdeal_AdamAttnRefIdeal [hAdamAttnIdeal : Cert.AdamAttnIdeal.Facts] [hAdamAttnRefIdeal : Cert.AdamAttnRefIdeal.Facts] : Prop :=
  ∀ (m : (ℓ : Loc Cert.AdamAttnIdeal.nD Cert.AdamAttnIdeal.τ Cert.AdamAttnIdeal.sig) → Buf (Elt Ideal) ℓ) (g : Dev Cert.AdamAttnIdeal.nD → PrngReg)
    (m' : (ℓ : Loc Cert.AdamAttnRefIdeal.nD Cert.AdamAttnRefIdeal.τ Cert.AdamAttnRefIdeal.sig) → Buf (Elt Ideal) ℓ) (g' : Dev Cert.AdamAttnRefIdeal.nD → PrngReg), Pre_AdamAttnIdeal m →
    (∀ c : Dev Cert.AdamAttnIdeal.nD,
      m' ((c.tc : Thread Cert.AdamAttnRefIdeal.nD Cert.AdamAttnRefIdeal.τ).loc Cert.AdamAttnRefIdeal.main_arg0) = m ((c.tc : Thread Cert.AdamAttnIdeal.nD Cert.AdamAttnIdeal.τ).loc Cert.AdamAttnIdeal.main_arg0)
      ∧ m' ((c.tc : Thread Cert.AdamAttnRefIdeal.nD Cert.AdamAttnRefIdeal.τ).loc Cert.AdamAttnRefIdeal.main_arg1) = m ((c.tc : Thread Cert.AdamAttnIdeal.nD Cert.AdamAttnIdeal.τ).loc Cert.AdamAttnIdeal.main_arg1)
      ∧ m' ((c.tc : Thread Cert.AdamAttnRefIdeal.nD Cert.AdamAttnRefIdeal.τ).loc Cert.AdamAttnRefIdeal.main_arg2) = m ((c.tc : Thread Cert.AdamAttnIdeal.nD Cert.AdamAttnIdeal.τ).loc Cert.AdamAttnIdeal.main_arg2)
      ∧ m' ((c.tc : Thread Cert.AdamAttnRefIdeal.nD Cert.AdamAttnRefIdeal.τ).loc Cert.AdamAttnRefIdeal.main_arg3) = m ((c.tc : Thread Cert.AdamAttnIdeal.nD Cert.AdamAttnIdeal.τ).loc Cert.AdamAttnIdeal.main_arg3)) →
    ∃ (v0 : (c : Dev Cert.AdamAttnIdeal.nD) → Buf (Elt Ideal) ((c.tc : Thread Cert.AdamAttnIdeal.nD Cert.AdamAttnIdeal.τ).loc Cert.AdamAttnIdeal.main_v0_0)) (v1 : (c : Dev Cert.AdamAttnIdeal.nD) → Buf (Elt Ideal) ((c.tc : Thread Cert.AdamAttnIdeal.nD Cert.AdamAttnIdeal.τ).loc Cert.AdamAttnIdeal.main_v0_1)) (v2 : (c : Dev Cert.AdamAttnIdeal.nD) → Buf (Elt Ideal) ((c.tc : Thread Cert.AdamAttnIdeal.nD Cert.AdamAttnIdeal.τ).loc Cert.AdamAttnIdeal.main_v0_2)) (v3 : (c : Dev Cert.AdamAttnIdeal.nD) → Buf (Elt Ideal) ((c.tc : Thread Cert.AdamAttnIdeal.nD Cert.AdamAttnIdeal.τ).loc Cert.AdamAttnIdeal.main_v0_3)),
      θ_run (Cert.AdamAttnIdeal.defs (F := Ideal)) (onTc (τ := Cert.AdamAttnIdeal.τ) (Cert.AdamAttnIdeal.main (F := Ideal))) ⟨m, fun _ => 0, g⟩ (fun r => ∀ c : Dev Cert.AdamAttnIdeal.nD,
          r.2.mem ((c.tc : Thread Cert.AdamAttnIdeal.nD Cert.AdamAttnIdeal.τ).loc Cert.AdamAttnIdeal.main_v0_0) = v0 c
          ∧ r.2.mem ((c.tc : Thread Cert.AdamAttnIdeal.nD Cert.AdamAttnIdeal.τ).loc Cert.AdamAttnIdeal.main_v0_1) = v1 c
          ∧ r.2.mem ((c.tc : Thread Cert.AdamAttnIdeal.nD Cert.AdamAttnIdeal.τ).loc Cert.AdamAttnIdeal.main_v0_2) = v2 c
          ∧ r.2.mem ((c.tc : Thread Cert.AdamAttnIdeal.nD Cert.AdamAttnIdeal.τ).loc Cert.AdamAttnIdeal.main_v0_3) = v3 c
          ∧ r.2.mem ((c.tc : Thread Cert.AdamAttnIdeal.nD Cert.AdamAttnIdeal.τ).loc Cert.AdamAttnIdeal.main_arg0) = m ((c.tc : Thread Cert.AdamAttnIdeal.nD Cert.AdamAttnIdeal.τ).loc Cert.AdamAttnIdeal.main_arg0)
          ∧ r.2.mem ((c.tc : Thread Cert.AdamAttnIdeal.nD Cert.AdamAttnIdeal.τ).loc Cert.AdamAttnIdeal.main_arg1) = m ((c.tc : Thread Cert.AdamAttnIdeal.nD Cert.AdamAttnIdeal.τ).loc Cert.AdamAttnIdeal.main_arg1)
          ∧ r.2.mem ((c.tc : Thread Cert.AdamAttnIdeal.nD Cert.AdamAttnIdeal.τ).loc Cert.AdamAttnIdeal.main_arg2) = m ((c.tc : Thread Cert.AdamAttnIdeal.nD Cert.AdamAttnIdeal.τ).loc Cert.AdamAttnIdeal.main_arg2)
          ∧ r.2.mem ((c.tc : Thread Cert.AdamAttnIdeal.nD Cert.AdamAttnIdeal.τ).loc Cert.AdamAttnIdeal.main_arg3) = m ((c.tc : Thread Cert.AdamAttnIdeal.nD Cert.AdamAttnIdeal.τ).loc Cert.AdamAttnIdeal.main_arg3))
      ∧ θ_run (Cert.AdamAttnRefIdeal.defs (F := Ideal)) (onTc (τ := Cert.AdamAttnRefIdeal.τ) (Cert.AdamAttnRefIdeal.main (F := Ideal))) ⟨m', fun _ => 0, g'⟩ (fun r => ∀ c : Dev Cert.AdamAttnRefIdeal.nD,
          r.2.mem ((c.tc : Thread Cert.AdamAttnRefIdeal.nD Cert.AdamAttnRefIdeal.τ).loc Cert.AdamAttnRefIdeal.main_v1) = v0 c
          ∧ r.2.mem ((c.tc : Thread Cert.AdamAttnRefIdeal.nD Cert.AdamAttnRefIdeal.τ).loc Cert.AdamAttnRefIdeal.main_v25) = v1 c
          ∧ r.2.mem ((c.tc : Thread Cert.AdamAttnRefIdeal.nD Cert.AdamAttnRefIdeal.τ).loc Cert.AdamAttnRefIdeal.main_v6) = v2 c
          ∧ r.2.mem ((c.tc : Thread Cert.AdamAttnRefIdeal.nD Cert.AdamAttnRefIdeal.τ).loc Cert.AdamAttnRefIdeal.main_v12) = v3 c
          ∧ r.2.mem ((c.tc : Thread Cert.AdamAttnRefIdeal.nD Cert.AdamAttnRefIdeal.τ).loc Cert.AdamAttnRefIdeal.main_arg0) = m' ((c.tc : Thread Cert.AdamAttnRefIdeal.nD Cert.AdamAttnRefIdeal.τ).loc Cert.AdamAttnRefIdeal.main_arg0)
          ∧ r.2.mem ((c.tc : Thread Cert.AdamAttnRefIdeal.nD Cert.AdamAttnRefIdeal.τ).loc Cert.AdamAttnRefIdeal.main_arg1) = m' ((c.tc : Thread Cert.AdamAttnRefIdeal.nD Cert.AdamAttnRefIdeal.τ).loc Cert.AdamAttnRefIdeal.main_arg1)
          ∧ r.2.mem ((c.tc : Thread Cert.AdamAttnRefIdeal.nD Cert.AdamAttnRefIdeal.τ).loc Cert.AdamAttnRefIdeal.main_arg2) = m' ((c.tc : Thread Cert.AdamAttnRefIdeal.nD Cert.AdamAttnRefIdeal.τ).loc Cert.AdamAttnRefIdeal.main_arg2)
          ∧ r.2.mem ((c.tc : Thread Cert.AdamAttnRefIdeal.nD Cert.AdamAttnRefIdeal.τ).loc Cert.AdamAttnRefIdeal.main_arg3) = m' ((c.tc : Thread Cert.AdamAttnRefIdeal.nD Cert.AdamAttnRefIdeal.τ).loc Cert.AdamAttnRefIdeal.main_arg3))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v1) = v0 c
          ∧ r.2.mem ((c.tc : Thread Cert.AdamOutRefIdeal.nD Cert.AdamOutRefIdeal.τ).loc Cert.AdamOutRefIdeal.main_v25) = v1 c
          ∧ r.2.mem ((c.tc : Thread Cert.AdamOutRefIdeal.nD Cert.AdamOutRefIdeal.τ).loc Cert.AdamOutRefIdeal.main_v6) = v2 c
          ∧ r.2.mem ((c.tc : Thread Cert.AdamOutRefIdeal.nD Cert.AdamOutRefIdeal.τ).loc Cert.AdamOutRefIdeal.main_v12) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def preserves_AdamSsm_AdamSsmIdeal : Prop :=
  True

def algebraic_AdamSsmIdeal_AdamSsmRefIdeal [hAdamSsmIdeal : Cert.AdamSsmIdeal.Facts] [hAdamSsmRefIdeal : Cert.AdamSsmRefIdeal.Facts] : Prop :=
  ∀ (m : (ℓ : Loc Cert.AdamSsmIdeal.nD Cert.AdamSsmIdeal.τ Cert.AdamSsmIdeal.sig) → Buf (Elt Ideal) ℓ) (g : Dev Cert.AdamSsmIdeal.nD → PrngReg)
    (m' : (ℓ : Loc Cert.AdamSsmRefIdeal.nD Cert.AdamSsmRefIdeal.τ Cert.AdamSsmRefIdeal.sig) → Buf (Elt Ideal) ℓ) (g' : Dev Cert.AdamSsmRefIdeal.nD → PrngReg), Pre_AdamSsmIdeal m →
    (∀ c : Dev Cert.AdamSsmIdeal.nD,
      m' ((c.tc : Thread Cert.AdamSsmRefIdeal.nD Cert.AdamSsmRefIdeal.τ).loc Cert.AdamSsmRefIdeal.main_arg0) = m ((c.tc : Thread Cert.AdamSsmIdeal.nD Cert.AdamSsmIdeal.τ).loc Cert.AdamSsmIdeal.main_arg0)
      ∧ m' ((c.tc : Thread Cert.AdamSsmRefIdeal.nD Cert.AdamSsmRefIdeal.τ).loc Cert.AdamSsmRefIdeal.main_arg1) = m ((c.tc : Thread Cert.AdamSsmIdeal.nD Cert.AdamSsmIdeal.τ).loc Cert.AdamSsmIdeal.main_arg1)
      ∧ m' ((c.tc : Thread Cert.AdamSsmRefIdeal.nD Cert.AdamSsmRefIdeal.τ).loc Cert.AdamSsmRefIdeal.main_arg2) = m ((c.tc : Thread Cert.AdamSsmIdeal.nD Cert.AdamSsmIdeal.τ).loc Cert.AdamSsmIdeal.main_arg2)
      ∧ m' ((c.tc : Thread Cert.AdamSsmRefIdeal.nD Cert.AdamSsmRefIdeal.τ).loc Cert.AdamSsmRefIdeal.main_arg3) = m ((c.tc : Thread Cert.AdamSsmIdeal.nD Cert.AdamSsmIdeal.τ).loc Cert.AdamSsmIdeal.main_arg3)) →
    ∃ (v0 : (c : Dev Cert.AdamSsmIdeal.nD) → Buf (Elt Ideal) ((c.tc : Thread Cert.AdamSsmIdeal.nD Cert.AdamSsmIdeal.τ).loc Cert.AdamSsmIdeal.main_v0_0)) (v1 : (c : Dev Cert.AdamSsmIdeal.nD) → Buf (Elt Ideal) ((c.tc : Thread Cert.AdamSsmIdeal.nD Cert.AdamSsmIdeal.τ).loc Cert.AdamSsmIdeal.main_v0_1)) (v2 : (c : Dev Cert.AdamSsmIdeal.nD) → Buf (Elt Ideal) ((c.tc : Thread Cert.AdamSsmIdeal.nD Cert.AdamSsmIdeal.τ).loc Cert.AdamSsmIdeal.main_v0_2)) (v3 : (c : Dev Cert.AdamSsmIdeal.nD) → Buf (Elt Ideal) ((c.tc : Thread Cert.AdamSsmIdeal.nD Cert.AdamSsmIdeal.τ).loc Cert.AdamSsmIdeal.main_v0_3)),
      θ_run (Cert.AdamSsmIdeal.defs (F := Ideal)) (onTc (τ := Cert.AdamSsmIdeal.τ) (Cert.AdamSsmIdeal.main (F := Ideal))) ⟨m, fun _ => 0, g⟩ (fun r => ∀ c : Dev Cert.AdamSsmIdeal.nD,
          r.2.mem ((c.tc : Thread Cert.AdamSsmIdeal.nD Cert.AdamSsmIdeal.τ).loc Cert.AdamSsmIdeal.main_v0_0) = v0 c
          ∧ r.2.mem ((c.tc : Thread Cert.AdamSsmIdeal.nD Cert.AdamSsmIdeal.τ).loc Cert.AdamSsmIdeal.main_v0_1) = v1 c
          ∧ r.2.mem ((c.tc : Thread Cert.AdamSsmIdeal.nD Cert.AdamSsmIdeal.τ).loc Cert.AdamSsmIdeal.main_v0_2) = v2 c
          ∧ r.2.mem ((c.tc : Thread Cert.AdamSsmIdeal.nD Cert.AdamSsmIdeal.τ).loc Cert.AdamSsmIdeal.main_v0_3) = v3 c
          ∧ r.2.mem ((c.tc : Thread Cert.AdamSsmIdeal.nD Cert.AdamSsmIdeal.τ).loc Cert.AdamSsmIdeal.main_arg0) = m ((c.tc : Thread Cert.AdamSsmIdeal.nD Cert.AdamSsmIdeal.τ).loc Cert.AdamSsmIdeal.main_arg0)
          ∧ r.2.mem ((c.tc : Thread Cert.AdamSsmIdeal.nD Cert.AdamSsmIdeal.τ).loc Cert.AdamSsmIdeal.main_arg1) = m ((c.tc : Thread Cert.AdamSsmIdeal.nD Cert.AdamSsmIdeal.τ).loc Cert.AdamSsmIdeal.main_arg1)
          ∧ r.2.mem ((c.tc : Thread Cert.AdamSsmIdeal.nD Cert.AdamSsmIdeal.τ).loc Cert.AdamSsmIdeal.main_arg2) = m ((c.tc : Thread Cert.AdamSsmIdeal.nD Cert.AdamSsmIdeal.τ).loc Cert.AdamSsmIdeal.main_arg2)
          ∧ r.2.mem ((c.tc : Thread Cert.AdamSsmIdeal.nD Cert.AdamSsmIdeal.τ).loc Cert.AdamSsmIdeal.main_arg3) = m ((c.tc : Thread Cert.AdamSsmIdeal.nD Cert.AdamSsmIdeal.τ).loc Cert.AdamSsmIdeal.main_arg3))
      ∧ θ_run (Cert.AdamSsmRefIdeal.defs (F := Ideal)) (onTc (τ := Cert.AdamSsmRefIdeal.τ) (Cert.AdamSsmRefIdeal.main (F := Ideal))) ⟨m', fun _ => 0, g'⟩ (fun r => ∀ c : Dev Cert.AdamSsmRefIdeal.nD,
          r.2.mem ((c.tc : Thread Cert.AdamSsmRefIdeal.nD Cert.AdamSsmRefIdeal.τ).loc Cert.AdamSsmRefIdeal.main_v1) = v0 c
          ∧ r.2.mem ((c.tc : Thread Cert.AdamSsmRefIdeal.nD Cert.AdamSsmRefIdeal.τ).loc Cert.AdamSsmRefIdeal.main_v25) = v1 c
          ∧ r.2.mem ((c.tc : Thread Cert.AdamSsmRefIdeal.nD Cert.AdamSsmRefIdeal.τ).loc Cert.AdamSsmRefIdeal.main_v6) = v2 c
          ∧ r.2.mem ((c.tc : Thread Cert.AdamSsmRefIdeal.nD Cert.AdamSsmRefIdeal.τ).loc Cert.AdamSsmRefIdeal.main_v12) = v3 c
          ∧ r.2.mem ((c.tc : Thread Cert.AdamSsmRefIdeal.nD Cert.AdamSsmRefIdeal.τ).loc Cert.AdamSsmRefIdeal.main_arg0) = m' ((c.tc : Thread Cert.AdamSsmRefIdeal.nD Cert.AdamSsmRefIdeal.τ).loc Cert.AdamSsmRefIdeal.main_arg0)
          ∧ r.2.mem ((c.tc : Thread Cert.AdamSsmRefIdeal.nD Cert.AdamSsmRefIdeal.τ).loc Cert.AdamSsmRefIdeal.main_arg1) = m' ((c.tc : Thread Cert.AdamSsmRefIdeal.nD Cert.AdamSsmRefIdeal.τ).loc Cert.AdamSsmRefIdeal.main_arg1)
          ∧ r.2.mem ((c.tc : Thread Cert.AdamSsmRefIdeal.nD Cert.AdamSsmRefIdeal.τ).loc Cert.AdamSsmRefIdeal.main_arg2) = m' ((c.tc : Thread Cert.AdamSsmRefIdeal.nD Cert.AdamSsmRefIdeal.τ).loc Cert.AdamSsmRefIdeal.main_arg2)
          ∧ r.2.mem ((c.tc : Thread Cert.AdamSsmRefIdeal.nD Cert.AdamSsmRefIdeal.τ).loc Cert.AdamSsmRefIdeal.main_arg3) = m' ((c.tc : Thread Cert.AdamSsmRefIdeal.nD Cert.AdamSsmRefIdeal.τ).loc Cert.AdamSsmRefIdeal.main_arg3))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)) (v3 : (c : Dev Cert.AdamSmallIdeal.nD) → Buf (Elt Ideal) ((c.tc : Thread Cert.AdamSmallIdeal.nD Cert.AdamSmallIdeal.τ).loc Cert.AdamSmallIdeal.main_v0_3)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_v0_3) = v3 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v0) = v0 c
          ∧ r.2.mem ((c.tc : Thread Cert.AdamSmallRefIdeal.nD Cert.AdamSmallRefIdeal.τ).loc Cert.AdamSmallRefIdeal.main_v24) = v1 c
          ∧ r.2.mem ((c.tc : Thread Cert.AdamSmallRefIdeal.nD Cert.AdamSmallRefIdeal.τ).loc Cert.AdamSmallRefIdeal.main_v5) = v2 c
          ∧ r.2.mem ((c.tc : Thread Cert.AdamSmallRefIdeal.nD Cert.AdamSmallRefIdeal.τ).loc Cert.AdamSmallRefIdeal.main_v11) = v3 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def preserves_AdamConv_AdamConvIdeal : Prop :=
  True

def algebraic_AdamConvIdeal_AdamConvRefIdeal [hAdamConvIdeal : Cert.AdamConvIdeal.Facts] [hAdamConvRefIdeal : Cert.AdamConvRefIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg)
    (m' : (ℓ : Loc Cert.AdamConvRefIdeal.nD Cert.AdamConvRefIdeal.τ Cert.AdamConvRefIdeal.sig) → Buf (Elt Ideal) ℓ) (g' : Dev Cert.AdamConvRefIdeal.nD → PrngReg), Pre_AdamConvIdeal m →
    (∀ c : Dev Cert.AdamConvIdeal.nD,
      m' ((c.tc : Thread Cert.AdamConvRefIdeal.nD Cert.AdamConvRefIdeal.τ).loc Cert.AdamConvRefIdeal.main_arg0) = m ((c.tc : Thread Cert.AdamConvIdeal.nD Cert.AdamConvIdeal.τ).loc Cert.AdamConvIdeal.main_arg0)
      ∧ m' ((c.tc : Thread Cert.AdamConvRefIdeal.nD Cert.AdamConvRefIdeal.τ).loc Cert.AdamConvRefIdeal.main_arg1) = m ((c.tc : Thread Cert.AdamConvIdeal.nD Cert.AdamConvIdeal.τ).loc Cert.AdamConvIdeal.main_arg1)
      ∧ m' ((c.tc : Thread Cert.AdamConvRefIdeal.nD Cert.AdamConvRefIdeal.τ).loc Cert.AdamConvRefIdeal.main_arg2) = m ((c.tc : Thread Cert.AdamConvIdeal.nD Cert.AdamConvIdeal.τ).loc Cert.AdamConvIdeal.main_arg2)
      ∧ m' ((c.tc : Thread Cert.AdamConvRefIdeal.nD Cert.AdamConvRefIdeal.τ).loc Cert.AdamConvRefIdeal.main_arg3) = m ((c.tc : Thread Cert.AdamConvIdeal.nD Cert.AdamConvIdeal.τ).loc Cert.AdamConvIdeal.main_arg3)) →
    ∃ (v0 : (c : Dev Cert.AdamConvIdeal.nD) → Buf (Elt Ideal) ((c.tc : Thread Cert.AdamConvIdeal.nD Cert.AdamConvIdeal.τ).loc Cert.AdamConvIdeal.main_v0_0)) (v1 : (c : Dev Cert.AdamConvIdeal.nD) → Buf (Elt Ideal) ((c.tc : Thread Cert.AdamConvIdeal.nD Cert.AdamConvIdeal.τ).loc Cert.AdamConvIdeal.main_v0_1)) (v2 : (c : Dev Cert.AdamConvIdeal.nD) → Buf (Elt Ideal) ((c.tc : Thread Cert.AdamConvIdeal.nD Cert.AdamConvIdeal.τ).loc Cert.AdamConvIdeal.main_v0_2)) (v3 : (c : Dev Cert.AdamConvIdeal.nD) → Buf (Elt Ideal) ((c.tc : Thread Cert.AdamConvIdeal.nD Cert.AdamConvIdeal.τ).loc Cert.AdamConvIdeal.main_v0_3)),
      θ_run (Cert.AdamConvIdeal.defs (F := Ideal)) (onTc (τ := Cert.AdamConvIdeal.τ) (Cert.AdamConvIdeal.main (F := Ideal))) ⟨m, fun _ => 0, g⟩ (fun r => ∀ c : Dev Cert.AdamConvIdeal.nD,
          r.2.mem ((c.tc : Thread Cert.AdamConvIdeal.nD Cert.AdamConvIdeal.τ).loc Cert.AdamConvIdeal.main_v0_0) = v0 c
          ∧ r.2.mem ((c.tc : Thread Cert.AdamConvIdeal.nD Cert.AdamConvIdeal.τ).loc Cert.AdamConvIdeal.main_v0_1) = v1 c
          ∧ r.2.mem ((c.tc : Thread Cert.AdamConvIdeal.nD Cert.AdamConvIdeal.τ).loc Cert.AdamConvIdeal.main_v0_2) = v2 c
          ∧ r.2.mem ((c.tc : Thread Cert.AdamConvIdeal.nD Cert.AdamConvIdeal.τ).loc Cert.AdamConvIdeal.main_v0_3) = v3 c
          ∧ r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
          ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
          ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
          ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3))
      ∧ θ_run (Cert.AdamConvRefIdeal.defs (F := Ideal)) (onTc (τ := Cert.AdamConvRefIdeal.τ) (Cert.AdamConvRefIdeal.main (F := Ideal))) ⟨m', fun _ => 0, g'⟩ (fun r => ∀ c : Dev Cert.AdamConvRefIdeal.nD,
          r.2.mem ((c.tc : Thread Cert.AdamConvRefIdeal.nD Cert.AdamConvRefIdeal.τ).loc Cert.AdamConvRefIdeal.main_arg0) = v0 c
          ∧ r.2.mem ((c.tc : Thread Cert.AdamConvRefIdeal.nD Cert.AdamConvRefIdeal.τ).loc Cert.AdamConvRefIdeal.main_v23) = v1 c
          ∧ r.2.mem ((c.tc : Thread Cert.AdamConvRefIdeal.nD Cert.AdamConvRefIdeal.τ).loc Cert.AdamConvRefIdeal.main_v4) = v2 c
          ∧ r.2.mem ((c.tc : Thread Cert.AdamConvRefIdeal.nD Cert.AdamConvRefIdeal.τ).loc Cert.AdamConvRefIdeal.main_v10) = v3 c
          ∧ r.2.mem ((c.tc : Thread Cert.AdamConvRefIdeal.nD Cert.AdamConvRefIdeal.τ).loc Cert.AdamConvRefIdeal.main_arg0) = m' ((c.tc : Thread Cert.AdamConvRefIdeal.nD Cert.AdamConvRefIdeal.τ).loc Cert.AdamConvRefIdeal.main_arg0)
          ∧ r.2.mem ((c.tc : Thread Cert.AdamConvRefIdeal.nD Cert.AdamConvRefIdeal.τ).loc Cert.AdamConvRefIdeal.main_arg1) = m' ((c.tc : Thread Cert.AdamConvRefIdeal.nD Cert.AdamConvRefIdeal.τ).loc Cert.AdamConvRefIdeal.main_arg1)
          ∧ r.2.mem ((c.tc : Thread Cert.AdamConvRefIdeal.nD Cert.AdamConvRefIdeal.τ).loc Cert.AdamConvRefIdeal.main_arg2) = m' ((c.tc : Thread Cert.AdamConvRefIdeal.nD Cert.AdamConvRefIdeal.τ).loc Cert.AdamConvRefIdeal.main_arg2)
          ∧ r.2.mem ((c.tc : Thread Cert.AdamConvRefIdeal.nD Cert.AdamConvRefIdeal.τ).loc Cert.AdamConvRefIdeal.main_arg3) = m' ((c.tc : Thread Cert.AdamConvRefIdeal.nD Cert.AdamConvRefIdeal.τ).loc Cert.AdamConvRefIdeal.main_arg3))

def preserves_NormBack_NormBackIdeal : Prop :=
  True

def algebraic_NormBackIdeal_NormBackRefIdeal [hNormBackIdeal : Cert.NormBackIdeal.Facts] [hNormBackRefIdeal : Cert.NormBackRefIdeal.Facts] : Prop :=
  ∀ (m : (ℓ : Loc Cert.NormBackIdeal.nD Cert.NormBackIdeal.τ Cert.NormBackIdeal.sig) → Buf (Elt Ideal) ℓ) (g : Dev Cert.NormBackIdeal.nD → PrngReg)
    (m' : (ℓ : Loc Cert.NormBackRefIdeal.nD Cert.NormBackRefIdeal.τ Cert.NormBackRefIdeal.sig) → Buf (Elt Ideal) ℓ) (g' : Dev Cert.NormBackRefIdeal.nD → PrngReg), Pre_NormBackIdeal m →
    (∀ c : Dev Cert.NormBackIdeal.nD,
      m' ((c.tc : Thread Cert.NormBackRefIdeal.nD Cert.NormBackRefIdeal.τ).loc Cert.NormBackRefIdeal.main_arg0) = m ((c.tc : Thread Cert.NormBackIdeal.nD Cert.NormBackIdeal.τ).loc Cert.NormBackIdeal.main_arg0)
      ∧ m' ((c.tc : Thread Cert.NormBackRefIdeal.nD Cert.NormBackRefIdeal.τ).loc Cert.NormBackRefIdeal.main_arg1) = m ((c.tc : Thread Cert.NormBackIdeal.nD Cert.NormBackIdeal.τ).loc Cert.NormBackIdeal.main_arg1)
      ∧ m' ((c.tc : Thread Cert.NormBackRefIdeal.nD Cert.NormBackRefIdeal.τ).loc Cert.NormBackRefIdeal.main_arg2) = m ((c.tc : Thread Cert.NormBackIdeal.nD Cert.NormBackIdeal.τ).loc Cert.NormBackIdeal.main_arg2)
      ∧ m' ((c.tc : Thread Cert.NormBackRefIdeal.nD Cert.NormBackRefIdeal.τ).loc Cert.NormBackRefIdeal.main_arg3) = m ((c.tc : Thread Cert.NormBackIdeal.nD Cert.NormBackIdeal.τ).loc Cert.NormBackIdeal.main_arg3)
      ∧ m' ((c.tc : Thread Cert.NormBackRefIdeal.nD Cert.NormBackRefIdeal.τ).loc Cert.NormBackRefIdeal.main_arg4) = m ((c.tc : Thread Cert.NormBackIdeal.nD Cert.NormBackIdeal.τ).loc Cert.NormBackIdeal.main_arg4)) →
    ∃ (v0 : (c : Dev Cert.NormBackIdeal.nD) → Buf (Elt Ideal) ((c.tc : Thread Cert.NormBackIdeal.nD Cert.NormBackIdeal.τ).loc Cert.NormBackIdeal.main_v0_0)) (v1 : (c : Dev Cert.NormBackIdeal.nD) → Buf (Elt Ideal) ((c.tc : Thread Cert.NormBackIdeal.nD Cert.NormBackIdeal.τ).loc Cert.NormBackIdeal.main_v0_1)),
      θ_run (Cert.NormBackIdeal.defs (F := Ideal)) (onTc (τ := Cert.NormBackIdeal.τ) (Cert.NormBackIdeal.main (F := Ideal))) ⟨m, fun _ => 0, g⟩ (fun r => ∀ c : Dev Cert.NormBackIdeal.nD,
          r.2.mem ((c.tc : Thread Cert.NormBackIdeal.nD Cert.NormBackIdeal.τ).loc Cert.NormBackIdeal.main_v0_0) = v0 c
          ∧ r.2.mem ((c.tc : Thread Cert.NormBackIdeal.nD Cert.NormBackIdeal.τ).loc Cert.NormBackIdeal.main_v0_1) = v1 c
          ∧ r.2.mem ((c.tc : Thread Cert.NormBackIdeal.nD Cert.NormBackIdeal.τ).loc Cert.NormBackIdeal.main_arg0) = m ((c.tc : Thread Cert.NormBackIdeal.nD Cert.NormBackIdeal.τ).loc Cert.NormBackIdeal.main_arg0)
          ∧ r.2.mem ((c.tc : Thread Cert.NormBackIdeal.nD Cert.NormBackIdeal.τ).loc Cert.NormBackIdeal.main_arg1) = m ((c.tc : Thread Cert.NormBackIdeal.nD Cert.NormBackIdeal.τ).loc Cert.NormBackIdeal.main_arg1)
          ∧ r.2.mem ((c.tc : Thread Cert.NormBackIdeal.nD Cert.NormBackIdeal.τ).loc Cert.NormBackIdeal.main_arg2) = m ((c.tc : Thread Cert.NormBackIdeal.nD Cert.NormBackIdeal.τ).loc Cert.NormBackIdeal.main_arg2)
          ∧ r.2.mem ((c.tc : Thread Cert.NormBackIdeal.nD Cert.NormBackIdeal.τ).loc Cert.NormBackIdeal.main_arg3) = m ((c.tc : Thread Cert.NormBackIdeal.nD Cert.NormBackIdeal.τ).loc Cert.NormBackIdeal.main_arg3)
          ∧ r.2.mem ((c.tc : Thread Cert.NormBackIdeal.nD Cert.NormBackIdeal.τ).loc Cert.NormBackIdeal.main_arg4) = m ((c.tc : Thread Cert.NormBackIdeal.nD Cert.NormBackIdeal.τ).loc Cert.NormBackIdeal.main_arg4))
      ∧ θ_run (Cert.NormBackRefIdeal.defs (F := Ideal)) (onTc (τ := Cert.NormBackRefIdeal.τ) (Cert.NormBackRefIdeal.main (F := Ideal))) ⟨m', fun _ => 0, g'⟩ (fun r => ∀ c : Dev Cert.NormBackRefIdeal.nD,
          r.2.mem ((c.tc : Thread Cert.NormBackRefIdeal.nD Cert.NormBackRefIdeal.τ).loc Cert.NormBackRefIdeal.main_v35) = v0 c
          ∧ r.2.mem ((c.tc : Thread Cert.NormBackRefIdeal.nD Cert.NormBackRefIdeal.τ).loc Cert.NormBackRefIdeal.main_v18) = v1 c
          ∧ r.2.mem ((c.tc : Thread Cert.NormBackRefIdeal.nD Cert.NormBackRefIdeal.τ).loc Cert.NormBackRefIdeal.main_arg0) = m' ((c.tc : Thread Cert.NormBackRefIdeal.nD Cert.NormBackRefIdeal.τ).loc Cert.NormBackRefIdeal.main_arg0)
          ∧ r.2.mem ((c.tc : Thread Cert.NormBackRefIdeal.nD Cert.NormBackRefIdeal.τ).loc Cert.NormBackRefIdeal.main_arg1) = m' ((c.tc : Thread Cert.NormBackRefIdeal.nD Cert.NormBackRefIdeal.τ).loc Cert.NormBackRefIdeal.main_arg1)
          ∧ r.2.mem ((c.tc : Thread Cert.NormBackRefIdeal.nD Cert.NormBackRefIdeal.τ).loc Cert.NormBackRefIdeal.main_arg2) = m' ((c.tc : Thread Cert.NormBackRefIdeal.nD Cert.NormBackRefIdeal.τ).loc Cert.NormBackRefIdeal.main_arg2)
          ∧ r.2.mem ((c.tc : Thread Cert.NormBackRefIdeal.nD Cert.NormBackRefIdeal.τ).loc Cert.NormBackRefIdeal.main_arg3) = m' ((c.tc : Thread Cert.NormBackRefIdeal.nD Cert.NormBackRefIdeal.τ).loc Cert.NormBackRefIdeal.main_arg3)
          ∧ r.2.mem ((c.tc : Thread Cert.NormBackRefIdeal.nD Cert.NormBackRefIdeal.τ).loc Cert.NormBackRefIdeal.main_arg4) = m' ((c.tc : Thread Cert.NormBackRefIdeal.nD Cert.NormBackRefIdeal.τ).loc Cert.NormBackRefIdeal.main_arg4))

def preserves_LossBack_LossBackIdeal : Prop :=
  True

def algebraic_LossBackIdeal_LossBackRefIdeal [hLossBackIdeal : Cert.LossBackIdeal.Facts] [hLossBackRefIdeal : Cert.LossBackRefIdeal.Facts] : Prop :=
  ∀ (m : (ℓ : Loc Cert.LossBackIdeal.nD Cert.LossBackIdeal.τ Cert.LossBackIdeal.sig) → Buf (Elt Ideal) ℓ) (g : Dev Cert.LossBackIdeal.nD → PrngReg)
    (m' : (ℓ : Loc Cert.LossBackRefIdeal.nD Cert.LossBackRefIdeal.τ Cert.LossBackRefIdeal.sig) → Buf (Elt Ideal) ℓ) (g' : Dev Cert.LossBackRefIdeal.nD → PrngReg), Pre_LossBackIdeal m →
    (∀ c : Dev Cert.LossBackIdeal.nD,
      m' ((c.tc : Thread Cert.LossBackRefIdeal.nD Cert.LossBackRefIdeal.τ).loc Cert.LossBackRefIdeal.main_arg0) = m ((c.tc : Thread Cert.LossBackIdeal.nD Cert.LossBackIdeal.τ).loc Cert.LossBackIdeal.main_arg0)
      ∧ m' ((c.tc : Thread Cert.LossBackRefIdeal.nD Cert.LossBackRefIdeal.τ).loc Cert.LossBackRefIdeal.main_arg1) = m ((c.tc : Thread Cert.LossBackIdeal.nD Cert.LossBackIdeal.τ).loc Cert.LossBackIdeal.main_arg1)
      ∧ m' ((c.tc : Thread Cert.LossBackRefIdeal.nD Cert.LossBackRefIdeal.τ).loc Cert.LossBackRefIdeal.main_arg2) = m ((c.tc : Thread Cert.LossBackIdeal.nD Cert.LossBackIdeal.τ).loc Cert.LossBackIdeal.main_arg2)
      ∧ m' ((c.tc : Thread Cert.LossBackRefIdeal.nD Cert.LossBackRefIdeal.τ).loc Cert.LossBackRefIdeal.main_arg3) = m ((c.tc : Thread Cert.LossBackIdeal.nD Cert.LossBackIdeal.τ).loc Cert.LossBackIdeal.main_arg3)) →
    ∃ (v0 : (c : Dev Cert.LossBackIdeal.nD) → Buf (Elt Ideal) ((c.tc : Thread Cert.LossBackIdeal.nD Cert.LossBackIdeal.τ).loc Cert.LossBackIdeal.main_v0_0)) (v1 : (c : Dev Cert.LossBackIdeal.nD) → Buf (Elt Ideal) ((c.tc : Thread Cert.LossBackIdeal.nD Cert.LossBackIdeal.τ).loc Cert.LossBackIdeal.main_v0_1)) (v2 : (c : Dev Cert.LossBackIdeal.nD) → Buf (Elt Ideal) ((c.tc : Thread Cert.LossBackIdeal.nD Cert.LossBackIdeal.τ).loc Cert.LossBackIdeal.main_v0_2)),
      θ_run (Cert.LossBackIdeal.defs (F := Ideal)) (onTc (τ := Cert.LossBackIdeal.τ) (Cert.LossBackIdeal.main (F := Ideal))) ⟨m, fun _ => 0, g⟩ (fun r => ∀ c : Dev Cert.LossBackIdeal.nD,
          r.2.mem ((c.tc : Thread Cert.LossBackIdeal.nD Cert.LossBackIdeal.τ).loc Cert.LossBackIdeal.main_v0_0) = v0 c
          ∧ r.2.mem ((c.tc : Thread Cert.LossBackIdeal.nD Cert.LossBackIdeal.τ).loc Cert.LossBackIdeal.main_v0_1) = v1 c
          ∧ r.2.mem ((c.tc : Thread Cert.LossBackIdeal.nD Cert.LossBackIdeal.τ).loc Cert.LossBackIdeal.main_v0_2) = v2 c
          ∧ r.2.mem ((c.tc : Thread Cert.LossBackIdeal.nD Cert.LossBackIdeal.τ).loc Cert.LossBackIdeal.main_arg0) = m ((c.tc : Thread Cert.LossBackIdeal.nD Cert.LossBackIdeal.τ).loc Cert.LossBackIdeal.main_arg0)
          ∧ r.2.mem ((c.tc : Thread Cert.LossBackIdeal.nD Cert.LossBackIdeal.τ).loc Cert.LossBackIdeal.main_arg1) = m ((c.tc : Thread Cert.LossBackIdeal.nD Cert.LossBackIdeal.τ).loc Cert.LossBackIdeal.main_arg1)
          ∧ r.2.mem ((c.tc : Thread Cert.LossBackIdeal.nD Cert.LossBackIdeal.τ).loc Cert.LossBackIdeal.main_arg2) = m ((c.tc : Thread Cert.LossBackIdeal.nD Cert.LossBackIdeal.τ).loc Cert.LossBackIdeal.main_arg2)
          ∧ r.2.mem ((c.tc : Thread Cert.LossBackIdeal.nD Cert.LossBackIdeal.τ).loc Cert.LossBackIdeal.main_arg3) = m ((c.tc : Thread Cert.LossBackIdeal.nD Cert.LossBackIdeal.τ).loc Cert.LossBackIdeal.main_arg3))
      ∧ θ_run (Cert.LossBackRefIdeal.defs (F := Ideal)) (onTc (τ := Cert.LossBackRefIdeal.τ) (Cert.LossBackRefIdeal.main (F := Ideal))) ⟨m', fun _ => 0, g'⟩ (fun r => ∀ c : Dev Cert.LossBackRefIdeal.nD,
          r.2.mem ((c.tc : Thread Cert.LossBackRefIdeal.nD Cert.LossBackRefIdeal.τ).loc Cert.LossBackRefIdeal.main_v49) = v0 c
          ∧ r.2.mem ((c.tc : Thread Cert.LossBackRefIdeal.nD Cert.LossBackRefIdeal.τ).loc Cert.LossBackRefIdeal.main_v50) = v1 c
          ∧ r.2.mem ((c.tc : Thread Cert.LossBackRefIdeal.nD Cert.LossBackRefIdeal.τ).loc Cert.LossBackRefIdeal.main_v33) = v2 c
          ∧ r.2.mem ((c.tc : Thread Cert.LossBackRefIdeal.nD Cert.LossBackRefIdeal.τ).loc Cert.LossBackRefIdeal.main_arg0) = m' ((c.tc : Thread Cert.LossBackRefIdeal.nD Cert.LossBackRefIdeal.τ).loc Cert.LossBackRefIdeal.main_arg0)
          ∧ r.2.mem ((c.tc : Thread Cert.LossBackRefIdeal.nD Cert.LossBackRefIdeal.τ).loc Cert.LossBackRefIdeal.main_arg1) = m' ((c.tc : Thread Cert.LossBackRefIdeal.nD Cert.LossBackRefIdeal.τ).loc Cert.LossBackRefIdeal.main_arg1)
          ∧ r.2.mem ((c.tc : Thread Cert.LossBackRefIdeal.nD Cert.LossBackRefIdeal.τ).loc Cert.LossBackRefIdeal.main_arg2) = m' ((c.tc : Thread Cert.LossBackRefIdeal.nD Cert.LossBackRefIdeal.τ).loc Cert.LossBackRefIdeal.main_arg2)
          ∧ r.2.mem ((c.tc : Thread Cert.LossBackRefIdeal.nD Cert.LossBackRefIdeal.τ).loc Cert.LossBackRefIdeal.main_arg3) = m' ((c.tc : Thread Cert.LossBackRefIdeal.nD Cert.LossBackRefIdeal.τ).loc Cert.LossBackRefIdeal.main_arg3))

def preserves_NormFwd_NormFwdIdeal : Prop :=
  True

def algebraic_NormFwdIdeal_NormFwdRefIdeal [hNormFwdIdeal : Cert.NormFwdIdeal.Facts] [hNormFwdRefIdeal : Cert.NormFwdRefIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg)
    (m' : (ℓ : Loc Cert.NormFwdRefIdeal.nD Cert.NormFwdRefIdeal.τ Cert.NormFwdRefIdeal.sig) → Buf (Elt Ideal) ℓ) (g' : Dev Cert.NormFwdRefIdeal.nD → PrngReg), Pre_NormFwdIdeal m →
    (∀ c : Dev Cert.NormFwdIdeal.nD,
      m' ((c.tc : Thread Cert.NormFwdRefIdeal.nD Cert.NormFwdRefIdeal.τ).loc Cert.NormFwdRefIdeal.main_arg0) = m ((c.tc : Thread Cert.NormFwdIdeal.nD Cert.NormFwdIdeal.τ).loc Cert.NormFwdIdeal.main_arg0)
      ∧ m' ((c.tc : Thread Cert.NormFwdRefIdeal.nD Cert.NormFwdRefIdeal.τ).loc Cert.NormFwdRefIdeal.main_arg1) = m ((c.tc : Thread Cert.NormFwdIdeal.nD Cert.NormFwdIdeal.τ).loc Cert.NormFwdIdeal.main_arg1)) →
    ∃ (v0 : (c : Dev Cert.NormFwdIdeal.nD) → Buf (Elt Ideal) ((c.tc : Thread Cert.NormFwdIdeal.nD Cert.NormFwdIdeal.τ).loc Cert.NormFwdIdeal.main_v0)),
      θ_run (Cert.NormFwdIdeal.defs (F := Ideal)) (onTc (τ := Cert.NormFwdIdeal.τ) (Cert.NormFwdIdeal.main (F := Ideal))) ⟨m, fun _ => 0, g⟩ (fun r => ∀ c : Dev Cert.NormFwdIdeal.nD,
          r.2.mem ((c.tc : Thread Cert.NormFwdIdeal.nD Cert.NormFwdIdeal.τ).loc Cert.NormFwdIdeal.main_v0) = v0 c
          ∧ r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
          ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ θ_run (Cert.NormFwdRefIdeal.defs (F := Ideal)) (onTc (τ := Cert.NormFwdRefIdeal.τ) (Cert.NormFwdRefIdeal.main (F := Ideal))) ⟨m', fun _ => 0, g'⟩ (fun r => ∀ c : Dev Cert.NormFwdRefIdeal.nD,
          r.2.mem ((c.tc : Thread Cert.NormFwdRefIdeal.nD Cert.NormFwdRefIdeal.τ).loc Cert.NormFwdRefIdeal.main_v12) = v0 c
          ∧ r.2.mem ((c.tc : Thread Cert.NormFwdRefIdeal.nD Cert.NormFwdRefIdeal.τ).loc Cert.NormFwdRefIdeal.main_arg0) = m' ((c.tc : Thread Cert.NormFwdRefIdeal.nD Cert.NormFwdRefIdeal.τ).loc Cert.NormFwdRefIdeal.main_arg0)
          ∧ r.2.mem ((c.tc : Thread Cert.NormFwdRefIdeal.nD Cert.NormFwdRefIdeal.τ).loc Cert.NormFwdRefIdeal.main_arg1) = m' ((c.tc : Thread Cert.NormFwdRefIdeal.nD Cert.NormFwdRefIdeal.τ).loc Cert.NormFwdRefIdeal.main_arg1))

def preserves_GatedNorm_GatedNormIdeal : Prop :=
  True

def algebraic_GatedNormIdeal_GatedNormRefIdeal [hGatedNormIdeal : Cert.GatedNormIdeal.Facts] [hGatedNormRefIdeal : Cert.GatedNormRefIdeal.Facts] : Prop :=
  ∀ (m : (ℓ : Loc Cert.GatedNormIdeal.nD Cert.GatedNormIdeal.τ Cert.GatedNormIdeal.sig) → Buf (Elt Ideal) ℓ) (g : Dev Cert.GatedNormIdeal.nD → PrngReg)
    (m' : (ℓ : Loc Cert.GatedNormRefIdeal.nD Cert.GatedNormRefIdeal.τ Cert.GatedNormRefIdeal.sig) → Buf (Elt Ideal) ℓ) (g' : Dev Cert.GatedNormRefIdeal.nD → PrngReg), Pre_GatedNormIdeal m →
    (∀ c : Dev Cert.GatedNormIdeal.nD,
      m' ((c.tc : Thread Cert.GatedNormRefIdeal.nD Cert.GatedNormRefIdeal.τ).loc Cert.GatedNormRefIdeal.main_arg0) = m ((c.tc : Thread Cert.GatedNormIdeal.nD Cert.GatedNormIdeal.τ).loc Cert.GatedNormIdeal.main_arg0)
      ∧ m' ((c.tc : Thread Cert.GatedNormRefIdeal.nD Cert.GatedNormRefIdeal.τ).loc Cert.GatedNormRefIdeal.main_arg1) = m ((c.tc : Thread Cert.GatedNormIdeal.nD Cert.GatedNormIdeal.τ).loc Cert.GatedNormIdeal.main_arg1)
      ∧ m' ((c.tc : Thread Cert.GatedNormRefIdeal.nD Cert.GatedNormRefIdeal.τ).loc Cert.GatedNormRefIdeal.main_arg2) = m ((c.tc : Thread Cert.GatedNormIdeal.nD Cert.GatedNormIdeal.τ).loc Cert.GatedNormIdeal.main_arg2)
      ∧ m' ((c.tc : Thread Cert.GatedNormRefIdeal.nD Cert.GatedNormRefIdeal.τ).loc Cert.GatedNormRefIdeal.main_arg3) = m ((c.tc : Thread Cert.GatedNormIdeal.nD Cert.GatedNormIdeal.τ).loc Cert.GatedNormIdeal.main_arg3)
      ∧ m' ((c.tc : Thread Cert.GatedNormRefIdeal.nD Cert.GatedNormRefIdeal.τ).loc Cert.GatedNormRefIdeal.main_arg4) = m ((c.tc : Thread Cert.GatedNormIdeal.nD Cert.GatedNormIdeal.τ).loc Cert.GatedNormIdeal.main_arg4)) →
    ∃ (v0 : (c : Dev Cert.GatedNormIdeal.nD) → Buf (Elt Ideal) ((c.tc : Thread Cert.GatedNormIdeal.nD Cert.GatedNormIdeal.τ).loc Cert.GatedNormIdeal.main_v0)),
      θ_run (Cert.GatedNormIdeal.defs (F := Ideal)) (onTc (τ := Cert.GatedNormIdeal.τ) (Cert.GatedNormIdeal.main (F := Ideal))) ⟨m, fun _ => 0, g⟩ (fun r => ∀ c : Dev Cert.GatedNormIdeal.nD,
          r.2.mem ((c.tc : Thread Cert.GatedNormIdeal.nD Cert.GatedNormIdeal.τ).loc Cert.GatedNormIdeal.main_v0) = v0 c
          ∧ r.2.mem ((c.tc : Thread Cert.GatedNormIdeal.nD Cert.GatedNormIdeal.τ).loc Cert.GatedNormIdeal.main_arg0) = m ((c.tc : Thread Cert.GatedNormIdeal.nD Cert.GatedNormIdeal.τ).loc Cert.GatedNormIdeal.main_arg0)
          ∧ r.2.mem ((c.tc : Thread Cert.GatedNormIdeal.nD Cert.GatedNormIdeal.τ).loc Cert.GatedNormIdeal.main_arg1) = m ((c.tc : Thread Cert.GatedNormIdeal.nD Cert.GatedNormIdeal.τ).loc Cert.GatedNormIdeal.main_arg1)
          ∧ r.2.mem ((c.tc : Thread Cert.GatedNormIdeal.nD Cert.GatedNormIdeal.τ).loc Cert.GatedNormIdeal.main_arg2) = m ((c.tc : Thread Cert.GatedNormIdeal.nD Cert.GatedNormIdeal.τ).loc Cert.GatedNormIdeal.main_arg2)
          ∧ r.2.mem ((c.tc : Thread Cert.GatedNormIdeal.nD Cert.GatedNormIdeal.τ).loc Cert.GatedNormIdeal.main_arg3) = m ((c.tc : Thread Cert.GatedNormIdeal.nD Cert.GatedNormIdeal.τ).loc Cert.GatedNormIdeal.main_arg3)
          ∧ r.2.mem ((c.tc : Thread Cert.GatedNormIdeal.nD Cert.GatedNormIdeal.τ).loc Cert.GatedNormIdeal.main_arg4) = m ((c.tc : Thread Cert.GatedNormIdeal.nD Cert.GatedNormIdeal.τ).loc Cert.GatedNormIdeal.main_arg4))
      ∧ θ_run (Cert.GatedNormRefIdeal.defs (F := Ideal)) (onTc (τ := Cert.GatedNormRefIdeal.τ) (Cert.GatedNormRefIdeal.main (F := Ideal))) ⟨m', fun _ => 0, g'⟩ (fun r => ∀ c : Dev Cert.GatedNormRefIdeal.nD,
          r.2.mem ((c.tc : Thread Cert.GatedNormRefIdeal.nD Cert.GatedNormRefIdeal.τ).loc Cert.GatedNormRefIdeal.main_v19) = v0 c
          ∧ r.2.mem ((c.tc : Thread Cert.GatedNormRefIdeal.nD Cert.GatedNormRefIdeal.τ).loc Cert.GatedNormRefIdeal.main_arg0) = m' ((c.tc : Thread Cert.GatedNormRefIdeal.nD Cert.GatedNormRefIdeal.τ).loc Cert.GatedNormRefIdeal.main_arg0)
          ∧ r.2.mem ((c.tc : Thread Cert.GatedNormRefIdeal.nD Cert.GatedNormRefIdeal.τ).loc Cert.GatedNormRefIdeal.main_arg1) = m' ((c.tc : Thread Cert.GatedNormRefIdeal.nD Cert.GatedNormRefIdeal.τ).loc Cert.GatedNormRefIdeal.main_arg1)
          ∧ r.2.mem ((c.tc : Thread Cert.GatedNormRefIdeal.nD Cert.GatedNormRefIdeal.τ).loc Cert.GatedNormRefIdeal.main_arg2) = m' ((c.tc : Thread Cert.GatedNormRefIdeal.nD Cert.GatedNormRefIdeal.τ).loc Cert.GatedNormRefIdeal.main_arg2)
          ∧ r.2.mem ((c.tc : Thread Cert.GatedNormRefIdeal.nD Cert.GatedNormRefIdeal.τ).loc Cert.GatedNormRefIdeal.main_arg3) = m' ((c.tc : Thread Cert.GatedNormRefIdeal.nD Cert.GatedNormRefIdeal.τ).loc Cert.GatedNormRefIdeal.main_arg3)
          ∧ r.2.mem ((c.tc : Thread Cert.GatedNormRefIdeal.nD Cert.GatedNormRefIdeal.τ).loc Cert.GatedNormRefIdeal.main_arg4) = m' ((c.tc : Thread Cert.GatedNormRefIdeal.nD Cert.GatedNormRefIdeal.τ).loc Cert.GatedNormRefIdeal.main_arg4))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v17) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2))

def preserves_MergeBack_MergeBackIdeal : Prop :=
  True

def algebraic_MergeBackIdeal_MergeBackRefIdeal [hMergeBackIdeal : Cert.MergeBackIdeal.Facts] [hMergeBackRefIdeal : Cert.MergeBackRefIdeal.Facts] : Prop :=
  ∀ (m : (ℓ : Loc Cert.MergeBackIdeal.nD Cert.MergeBackIdeal.τ Cert.MergeBackIdeal.sig) → Buf (Elt Ideal) ℓ) (g : Dev Cert.MergeBackIdeal.nD → PrngReg)
    (m' : (ℓ : Loc Cert.MergeBackRefIdeal.nD Cert.MergeBackRefIdeal.τ Cert.MergeBackRefIdeal.sig) → Buf (Elt Ideal) ℓ) (g' : Dev Cert.MergeBackRefIdeal.nD → PrngReg), Pre_MergeBackIdeal m →
    (∀ c : Dev Cert.MergeBackIdeal.nD,
      m' ((c.tc : Thread Cert.MergeBackRefIdeal.nD Cert.MergeBackRefIdeal.τ).loc Cert.MergeBackRefIdeal.main_arg0) = m ((c.tc : Thread Cert.MergeBackIdeal.nD Cert.MergeBackIdeal.τ).loc Cert.MergeBackIdeal.main_arg0)
      ∧ m' ((c.tc : Thread Cert.MergeBackRefIdeal.nD Cert.MergeBackRefIdeal.τ).loc Cert.MergeBackRefIdeal.main_arg1) = m ((c.tc : Thread Cert.MergeBackIdeal.nD Cert.MergeBackIdeal.τ).loc Cert.MergeBackIdeal.main_arg1)
      ∧ m' ((c.tc : Thread Cert.MergeBackRefIdeal.nD Cert.MergeBackRefIdeal.τ).loc Cert.MergeBackRefIdeal.main_arg2) = m ((c.tc : Thread Cert.MergeBackIdeal.nD Cert.MergeBackIdeal.τ).loc Cert.MergeBackIdeal.main_arg2)
      ∧ m' ((c.tc : Thread Cert.MergeBackRefIdeal.nD Cert.MergeBackRefIdeal.τ).loc Cert.MergeBackRefIdeal.main_arg3) = m ((c.tc : Thread Cert.MergeBackIdeal.nD Cert.MergeBackIdeal.τ).loc Cert.MergeBackIdeal.main_arg3)) →
    ∃ (v0 : (c : Dev Cert.MergeBackIdeal.nD) → Buf (Elt Ideal) ((c.tc : Thread Cert.MergeBackIdeal.nD Cert.MergeBackIdeal.τ).loc Cert.MergeBackIdeal.main_v0_0)) (v1 : (c : Dev Cert.MergeBackIdeal.nD) → Buf (Elt Ideal) ((c.tc : Thread Cert.MergeBackIdeal.nD Cert.MergeBackIdeal.τ).loc Cert.MergeBackIdeal.main_v0_1)) (v2 : (c : Dev Cert.MergeBackIdeal.nD) → Buf (Elt Ideal) ((c.tc : Thread Cert.MergeBackIdeal.nD Cert.MergeBackIdeal.τ).loc Cert.MergeBackIdeal.main_v0_2)) (v3 : (c : Dev Cert.MergeBackIdeal.nD) → Buf (Elt Ideal) ((c.tc : Thread Cert.MergeBackIdeal.nD Cert.MergeBackIdeal.τ).loc Cert.MergeBackIdeal.main_v0_3)),
      θ_run (Cert.MergeBackIdeal.defs (F := Ideal)) (onTc (τ := Cert.MergeBackIdeal.τ) (Cert.MergeBackIdeal.main (F := Ideal))) ⟨m, fun _ => 0, g⟩ (fun r => ∀ c : Dev Cert.MergeBackIdeal.nD,
          r.2.mem ((c.tc : Thread Cert.MergeBackIdeal.nD Cert.MergeBackIdeal.τ).loc Cert.MergeBackIdeal.main_v0_0) = v0 c
          ∧ r.2.mem ((c.tc : Thread Cert.MergeBackIdeal.nD Cert.MergeBackIdeal.τ).loc Cert.MergeBackIdeal.main_v0_1) = v1 c
          ∧ r.2.mem ((c.tc : Thread Cert.MergeBackIdeal.nD Cert.MergeBackIdeal.τ).loc Cert.MergeBackIdeal.main_v0_2) = v2 c
          ∧ r.2.mem ((c.tc : Thread Cert.MergeBackIdeal.nD Cert.MergeBackIdeal.τ).loc Cert.MergeBackIdeal.main_v0_3) = v3 c
          ∧ r.2.mem ((c.tc : Thread Cert.MergeBackIdeal.nD Cert.MergeBackIdeal.τ).loc Cert.MergeBackIdeal.main_arg0) = m ((c.tc : Thread Cert.MergeBackIdeal.nD Cert.MergeBackIdeal.τ).loc Cert.MergeBackIdeal.main_arg0)
          ∧ r.2.mem ((c.tc : Thread Cert.MergeBackIdeal.nD Cert.MergeBackIdeal.τ).loc Cert.MergeBackIdeal.main_arg1) = m ((c.tc : Thread Cert.MergeBackIdeal.nD Cert.MergeBackIdeal.τ).loc Cert.MergeBackIdeal.main_arg1)
          ∧ r.2.mem ((c.tc : Thread Cert.MergeBackIdeal.nD Cert.MergeBackIdeal.τ).loc Cert.MergeBackIdeal.main_arg2) = m ((c.tc : Thread Cert.MergeBackIdeal.nD Cert.MergeBackIdeal.τ).loc Cert.MergeBackIdeal.main_arg2)
          ∧ r.2.mem ((c.tc : Thread Cert.MergeBackIdeal.nD Cert.MergeBackIdeal.τ).loc Cert.MergeBackIdeal.main_arg3) = m ((c.tc : Thread Cert.MergeBackIdeal.nD Cert.MergeBackIdeal.τ).loc Cert.MergeBackIdeal.main_arg3))
      ∧ θ_run (Cert.MergeBackRefIdeal.defs (F := Ideal)) (onTc (τ := Cert.MergeBackRefIdeal.τ) (Cert.MergeBackRefIdeal.main (F := Ideal))) ⟨m', fun _ => 0, g'⟩ (fun r => ∀ c : Dev Cert.MergeBackRefIdeal.nD,
          r.2.mem ((c.tc : Thread Cert.MergeBackRefIdeal.nD Cert.MergeBackRefIdeal.τ).loc Cert.MergeBackRefIdeal.main_v31) = v0 c
          ∧ r.2.mem ((c.tc : Thread Cert.MergeBackRefIdeal.nD Cert.MergeBackRefIdeal.τ).loc Cert.MergeBackRefIdeal.main_v32) = v1 c
          ∧ r.2.mem ((c.tc : Thread Cert.MergeBackRefIdeal.nD Cert.MergeBackRefIdeal.τ).loc Cert.MergeBackRefIdeal.main_v33) = v2 c
          ∧ r.2.mem ((c.tc : Thread Cert.MergeBackRefIdeal.nD Cert.MergeBackRefIdeal.τ).loc Cert.MergeBackRefIdeal.main_v34) = v3 c
          ∧ r.2.mem ((c.tc : Thread Cert.MergeBackRefIdeal.nD Cert.MergeBackRefIdeal.τ).loc Cert.MergeBackRefIdeal.main_arg0) = m' ((c.tc : Thread Cert.MergeBackRefIdeal.nD Cert.MergeBackRefIdeal.τ).loc Cert.MergeBackRefIdeal.main_arg0)
          ∧ r.2.mem ((c.tc : Thread Cert.MergeBackRefIdeal.nD Cert.MergeBackRefIdeal.τ).loc Cert.MergeBackRefIdeal.main_arg1) = m' ((c.tc : Thread Cert.MergeBackRefIdeal.nD Cert.MergeBackRefIdeal.τ).loc Cert.MergeBackRefIdeal.main_arg1)
          ∧ r.2.mem ((c.tc : Thread Cert.MergeBackRefIdeal.nD Cert.MergeBackRefIdeal.τ).loc Cert.MergeBackRefIdeal.main_arg2) = m' ((c.tc : Thread Cert.MergeBackRefIdeal.nD Cert.MergeBackRefIdeal.τ).loc Cert.MergeBackRefIdeal.main_arg2)
          ∧ r.2.mem ((c.tc : Thread Cert.MergeBackRefIdeal.nD Cert.MergeBackRefIdeal.τ).loc Cert.MergeBackRefIdeal.main_arg3) = m' ((c.tc : Thread Cert.MergeBackRefIdeal.nD Cert.MergeBackRefIdeal.τ).loc Cert.MergeBackRefIdeal.main_arg3))

def preserves_SumThree_SumThreeIdeal : Prop :=
  True

def algebraic_SumThreeIdeal_SumThreeRefIdeal [hSumThreeIdeal : Cert.SumThreeIdeal.Facts] [hSumThreeRefIdeal : Cert.SumThreeRefIdeal.Facts] : Prop :=
  ∀ (m : (ℓ : Loc Cert.SumThreeIdeal.nD Cert.SumThreeIdeal.τ Cert.SumThreeIdeal.sig) → Buf (Elt Ideal) ℓ) (g : Dev Cert.SumThreeIdeal.nD → PrngReg)
    (m' : (ℓ : Loc Cert.SumThreeRefIdeal.nD Cert.SumThreeRefIdeal.τ Cert.SumThreeRefIdeal.sig) → Buf (Elt Ideal) ℓ) (g' : Dev Cert.SumThreeRefIdeal.nD → PrngReg), Pre_SumThreeIdeal m →
    (∀ c : Dev Cert.SumThreeIdeal.nD,
      m' ((c.tc : Thread Cert.SumThreeRefIdeal.nD Cert.SumThreeRefIdeal.τ).loc Cert.SumThreeRefIdeal.main_arg0) = m ((c.tc : Thread Cert.SumThreeIdeal.nD Cert.SumThreeIdeal.τ).loc Cert.SumThreeIdeal.main_arg0)
      ∧ m' ((c.tc : Thread Cert.SumThreeRefIdeal.nD Cert.SumThreeRefIdeal.τ).loc Cert.SumThreeRefIdeal.main_arg1) = m ((c.tc : Thread Cert.SumThreeIdeal.nD Cert.SumThreeIdeal.τ).loc Cert.SumThreeIdeal.main_arg1)
      ∧ m' ((c.tc : Thread Cert.SumThreeRefIdeal.nD Cert.SumThreeRefIdeal.τ).loc Cert.SumThreeRefIdeal.main_arg2) = m ((c.tc : Thread Cert.SumThreeIdeal.nD Cert.SumThreeIdeal.τ).loc Cert.SumThreeIdeal.main_arg2)) →
    ∃ (v0 : (c : Dev Cert.SumThreeIdeal.nD) → Buf (Elt Ideal) ((c.tc : Thread Cert.SumThreeIdeal.nD Cert.SumThreeIdeal.τ).loc Cert.SumThreeIdeal.main_v0)),
      θ_run (Cert.SumThreeIdeal.defs (F := Ideal)) (onTc (τ := Cert.SumThreeIdeal.τ) (Cert.SumThreeIdeal.main (F := Ideal))) ⟨m, fun _ => 0, g⟩ (fun r => ∀ c : Dev Cert.SumThreeIdeal.nD,
          r.2.mem ((c.tc : Thread Cert.SumThreeIdeal.nD Cert.SumThreeIdeal.τ).loc Cert.SumThreeIdeal.main_v0) = v0 c
          ∧ r.2.mem ((c.tc : Thread Cert.SumThreeIdeal.nD Cert.SumThreeIdeal.τ).loc Cert.SumThreeIdeal.main_arg0) = m ((c.tc : Thread Cert.SumThreeIdeal.nD Cert.SumThreeIdeal.τ).loc Cert.SumThreeIdeal.main_arg0)
          ∧ r.2.mem ((c.tc : Thread Cert.SumThreeIdeal.nD Cert.SumThreeIdeal.τ).loc Cert.SumThreeIdeal.main_arg1) = m ((c.tc : Thread Cert.SumThreeIdeal.nD Cert.SumThreeIdeal.τ).loc Cert.SumThreeIdeal.main_arg1)
          ∧ r.2.mem ((c.tc : Thread Cert.SumThreeIdeal.nD Cert.SumThreeIdeal.τ).loc Cert.SumThreeIdeal.main_arg2) = m ((c.tc : Thread Cert.SumThreeIdeal.nD Cert.SumThreeIdeal.τ).loc Cert.SumThreeIdeal.main_arg2))
      ∧ θ_run (Cert.SumThreeRefIdeal.defs (F := Ideal)) (onTc (τ := Cert.SumThreeRefIdeal.τ) (Cert.SumThreeRefIdeal.main (F := Ideal))) ⟨m', fun _ => 0, g'⟩ (fun r => ∀ c : Dev Cert.SumThreeRefIdeal.nD,
          r.2.mem ((c.tc : Thread Cert.SumThreeRefIdeal.nD Cert.SumThreeRefIdeal.τ).loc Cert.SumThreeRefIdeal.main_v5) = v0 c
          ∧ r.2.mem ((c.tc : Thread Cert.SumThreeRefIdeal.nD Cert.SumThreeRefIdeal.τ).loc Cert.SumThreeRefIdeal.main_arg0) = m' ((c.tc : Thread Cert.SumThreeRefIdeal.nD Cert.SumThreeRefIdeal.τ).loc Cert.SumThreeRefIdeal.main_arg0)
          ∧ r.2.mem ((c.tc : Thread Cert.SumThreeRefIdeal.nD Cert.SumThreeRefIdeal.τ).loc Cert.SumThreeRefIdeal.main_arg1) = m' ((c.tc : Thread Cert.SumThreeRefIdeal.nD Cert.SumThreeRefIdeal.τ).loc Cert.SumThreeRefIdeal.main_arg1)
          ∧ r.2.mem ((c.tc : Thread Cert.SumThreeRefIdeal.nD Cert.SumThreeRefIdeal.τ).loc Cert.SumThreeRefIdeal.main_arg2) = m' ((c.tc : Thread Cert.SumThreeRefIdeal.nD Cert.SumThreeRefIdeal.τ).loc Cert.SumThreeRefIdeal.main_arg2))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v2) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1))

def preserves_OutGrad_OutGradIdeal : Prop :=
  True

def algebraic_OutGradIdeal_OutGradRefIdeal [hOutGradIdeal : Cert.OutGradIdeal.Facts] [hOutGradRefIdeal : Cert.OutGradRefIdeal.Facts] : Prop :=
  ∀ (m : (ℓ : Loc Cert.OutGradIdeal.nD Cert.OutGradIdeal.τ Cert.OutGradIdeal.sig) → Buf (Elt Ideal) ℓ) (g : Dev Cert.OutGradIdeal.nD → PrngReg)
    (m' : (ℓ : Loc Cert.OutGradRefIdeal.nD Cert.OutGradRefIdeal.τ Cert.OutGradRefIdeal.sig) → Buf (Elt Ideal) ℓ) (g' : Dev Cert.OutGradRefIdeal.nD → PrngReg), Pre_OutGradIdeal m →
    (∀ c : Dev Cert.OutGradIdeal.nD,
      m' ((c.tc : Thread Cert.OutGradRefIdeal.nD Cert.OutGradRefIdeal.τ).loc Cert.OutGradRefIdeal.main_arg0) = m ((c.tc : Thread Cert.OutGradIdeal.nD Cert.OutGradIdeal.τ).loc Cert.OutGradIdeal.main_arg0)
      ∧ m' ((c.tc : Thread Cert.OutGradRefIdeal.nD Cert.OutGradRefIdeal.τ).loc Cert.OutGradRefIdeal.main_arg1) = m ((c.tc : Thread Cert.OutGradIdeal.nD Cert.OutGradIdeal.τ).loc Cert.OutGradIdeal.main_arg1)) →
    ∃ (v0 : (c : Dev Cert.OutGradIdeal.nD) → Buf (Elt Ideal) ((c.tc : Thread Cert.OutGradIdeal.nD Cert.OutGradIdeal.τ).loc Cert.OutGradIdeal.main_v0)),
      θ_run (Cert.OutGradIdeal.defs (F := Ideal)) (onTc (τ := Cert.OutGradIdeal.τ) (Cert.OutGradIdeal.main (F := Ideal))) ⟨m, fun _ => 0, g⟩ (fun r => ∀ c : Dev Cert.OutGradIdeal.nD,
          r.2.mem ((c.tc : Thread Cert.OutGradIdeal.nD Cert.OutGradIdeal.τ).loc Cert.OutGradIdeal.main_v0) = v0 c
          ∧ r.2.mem ((c.tc : Thread Cert.OutGradIdeal.nD Cert.OutGradIdeal.τ).loc Cert.OutGradIdeal.main_arg0) = m ((c.tc : Thread Cert.OutGradIdeal.nD Cert.OutGradIdeal.τ).loc Cert.OutGradIdeal.main_arg0)
          ∧ r.2.mem ((c.tc : Thread Cert.OutGradIdeal.nD Cert.OutGradIdeal.τ).loc Cert.OutGradIdeal.main_arg1) = m ((c.tc : Thread Cert.OutGradIdeal.nD Cert.OutGradIdeal.τ).loc Cert.OutGradIdeal.main_arg1))
      ∧ θ_run (Cert.OutGradRefIdeal.defs (F := Ideal)) (onTc (τ := Cert.OutGradRefIdeal.τ) (Cert.OutGradRefIdeal.main (F := Ideal))) ⟨m', fun _ => 0, g'⟩ (fun r => ∀ c : Dev Cert.OutGradRefIdeal.nD,
          r.2.mem ((c.tc : Thread Cert.OutGradRefIdeal.nD Cert.OutGradRefIdeal.τ).loc Cert.OutGradRefIdeal.main_v2) = v0 c
          ∧ r.2.mem ((c.tc : Thread Cert.OutGradRefIdeal.nD Cert.OutGradRefIdeal.τ).loc Cert.OutGradRefIdeal.main_arg0) = m' ((c.tc : Thread Cert.OutGradRefIdeal.nD Cert.OutGradRefIdeal.τ).loc Cert.OutGradRefIdeal.main_arg0)
          ∧ r.2.mem ((c.tc : Thread Cert.OutGradRefIdeal.nD Cert.OutGradRefIdeal.τ).loc Cert.OutGradRefIdeal.main_arg1) = m' ((c.tc : Thread Cert.OutGradRefIdeal.nD Cert.OutGradRefIdeal.τ).loc Cert.OutGradRefIdeal.main_arg1))

def preserves_MergedGrad_MergedGradIdeal : Prop :=
  True

def algebraic_MergedGradIdeal_MergedGradRefIdeal [hMergedGradIdeal : Cert.MergedGradIdeal.Facts] [hMergedGradRefIdeal : Cert.MergedGradRefIdeal.Facts] : Prop :=
  ∀ (m : (ℓ : Loc Cert.MergedGradIdeal.nD Cert.MergedGradIdeal.τ Cert.MergedGradIdeal.sig) → Buf (Elt Ideal) ℓ) (g : Dev Cert.MergedGradIdeal.nD → PrngReg)
    (m' : (ℓ : Loc Cert.MergedGradRefIdeal.nD Cert.MergedGradRefIdeal.τ Cert.MergedGradRefIdeal.sig) → Buf (Elt Ideal) ℓ) (g' : Dev Cert.MergedGradRefIdeal.nD → PrngReg), Pre_MergedGradIdeal m →
    (∀ c : Dev Cert.MergedGradIdeal.nD,
      m' ((c.tc : Thread Cert.MergedGradRefIdeal.nD Cert.MergedGradRefIdeal.τ).loc Cert.MergedGradRefIdeal.main_arg0) = m ((c.tc : Thread Cert.MergedGradIdeal.nD Cert.MergedGradIdeal.τ).loc Cert.MergedGradIdeal.main_arg0)
      ∧ m' ((c.tc : Thread Cert.MergedGradRefIdeal.nD Cert.MergedGradRefIdeal.τ).loc Cert.MergedGradRefIdeal.main_arg1) = m ((c.tc : Thread Cert.MergedGradIdeal.nD Cert.MergedGradIdeal.τ).loc Cert.MergedGradIdeal.main_arg1)) →
    ∃ (v0 : (c : Dev Cert.MergedGradIdeal.nD) → Buf (Elt Ideal) ((c.tc : Thread Cert.MergedGradIdeal.nD Cert.MergedGradIdeal.τ).loc Cert.MergedGradIdeal.main_v0)),
      θ_run (Cert.MergedGradIdeal.defs (F := Ideal)) (onTc (τ := Cert.MergedGradIdeal.τ) (Cert.MergedGradIdeal.main (F := Ideal))) ⟨m, fun _ => 0, g⟩ (fun r => ∀ c : Dev Cert.MergedGradIdeal.nD,
          r.2.mem ((c.tc : Thread Cert.MergedGradIdeal.nD Cert.MergedGradIdeal.τ).loc Cert.MergedGradIdeal.main_v0) = v0 c
          ∧ r.2.mem ((c.tc : Thread Cert.MergedGradIdeal.nD Cert.MergedGradIdeal.τ).loc Cert.MergedGradIdeal.main_arg0) = m ((c.tc : Thread Cert.MergedGradIdeal.nD Cert.MergedGradIdeal.τ).loc Cert.MergedGradIdeal.main_arg0)
          ∧ r.2.mem ((c.tc : Thread Cert.MergedGradIdeal.nD Cert.MergedGradIdeal.τ).loc Cert.MergedGradIdeal.main_arg1) = m ((c.tc : Thread Cert.MergedGradIdeal.nD Cert.MergedGradIdeal.τ).loc Cert.MergedGradIdeal.main_arg1))
      ∧ θ_run (Cert.MergedGradRefIdeal.defs (F := Ideal)) (onTc (τ := Cert.MergedGradRefIdeal.τ) (Cert.MergedGradRefIdeal.main (F := Ideal))) ⟨m', fun _ => 0, g'⟩ (fun r => ∀ c : Dev Cert.MergedGradRefIdeal.nD,
          r.2.mem ((c.tc : Thread Cert.MergedGradRefIdeal.nD Cert.MergedGradRefIdeal.τ).loc Cert.MergedGradRefIdeal.main_v2) = v0 c
          ∧ r.2.mem ((c.tc : Thread Cert.MergedGradRefIdeal.nD Cert.MergedGradRefIdeal.τ).loc Cert.MergedGradRefIdeal.main_arg0) = m' ((c.tc : Thread Cert.MergedGradRefIdeal.nD Cert.MergedGradRefIdeal.τ).loc Cert.MergedGradRefIdeal.main_arg0)
          ∧ r.2.mem ((c.tc : Thread Cert.MergedGradRefIdeal.nD Cert.MergedGradRefIdeal.τ).loc Cert.MergedGradRefIdeal.main_arg1) = m' ((c.tc : Thread Cert.MergedGradRefIdeal.nD Cert.MergedGradRefIdeal.τ).loc Cert.MergedGradRefIdeal.main_arg1))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v0)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v2) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_StepProj_StepProjIdeal : Prop :=
  True

def algebraic_StepProjIdeal_StepProjRefIdeal [hStepProjIdeal : Cert.StepProjIdeal.Facts] [hStepProjRefIdeal : Cert.StepProjRefIdeal.Facts] : Prop :=
  ∀ (m : (ℓ : Loc Cert.StepProjIdeal.nD Cert.StepProjIdeal.τ Cert.StepProjIdeal.sig) → Buf (Elt Ideal) ℓ) (g : Dev Cert.StepProjIdeal.nD → PrngReg)
    (m' : (ℓ : Loc Cert.StepProjRefIdeal.nD Cert.StepProjRefIdeal.τ Cert.StepProjRefIdeal.sig) → Buf (Elt Ideal) ℓ) (g' : Dev Cert.StepProjRefIdeal.nD → PrngReg), Pre_StepProjIdeal m →
    (∀ c : Dev Cert.StepProjIdeal.nD,
      m' ((c.tc : Thread Cert.StepProjRefIdeal.nD Cert.StepProjRefIdeal.τ).loc Cert.StepProjRefIdeal.main_arg0) = m ((c.tc : Thread Cert.StepProjIdeal.nD Cert.StepProjIdeal.τ).loc Cert.StepProjIdeal.main_arg0)
      ∧ m' ((c.tc : Thread Cert.StepProjRefIdeal.nD Cert.StepProjRefIdeal.τ).loc Cert.StepProjRefIdeal.main_arg1) = m ((c.tc : Thread Cert.StepProjIdeal.nD Cert.StepProjIdeal.τ).loc Cert.StepProjIdeal.main_arg1)) →
    ∃ (v0 : (c : Dev Cert.StepProjIdeal.nD) → Buf (Elt Ideal) ((c.tc : Thread Cert.StepProjIdeal.nD Cert.StepProjIdeal.τ).loc Cert.StepProjIdeal.main_v0)),
      θ_run (Cert.StepProjIdeal.defs (F := Ideal)) (onTc (τ := Cert.StepProjIdeal.τ) (Cert.StepProjIdeal.main (F := Ideal))) ⟨m, fun _ => 0, g⟩ (fun r => ∀ c : Dev Cert.StepProjIdeal.nD,
          r.2.mem ((c.tc : Thread Cert.StepProjIdeal.nD Cert.StepProjIdeal.τ).loc Cert.StepProjIdeal.main_v0) = v0 c
          ∧ r.2.mem ((c.tc : Thread Cert.StepProjIdeal.nD Cert.StepProjIdeal.τ).loc Cert.StepProjIdeal.main_arg0) = m ((c.tc : Thread Cert.StepProjIdeal.nD Cert.StepProjIdeal.τ).loc Cert.StepProjIdeal.main_arg0)
          ∧ r.2.mem ((c.tc : Thread Cert.StepProjIdeal.nD Cert.StepProjIdeal.τ).loc Cert.StepProjIdeal.main_arg1) = m ((c.tc : Thread Cert.StepProjIdeal.nD Cert.StepProjIdeal.τ).loc Cert.StepProjIdeal.main_arg1))
      ∧ θ_run (Cert.StepProjRefIdeal.defs (F := Ideal)) (onTc (τ := Cert.StepProjRefIdeal.τ) (Cert.StepProjRefIdeal.main (F := Ideal))) ⟨m', fun _ => 0, g'⟩ (fun r => ∀ c : Dev Cert.StepProjRefIdeal.nD,
          r.2.mem ((c.tc : Thread Cert.StepProjRefIdeal.nD Cert.StepProjRefIdeal.τ).loc Cert.StepProjRefIdeal.main_v2) = v0 c
          ∧ r.2.mem ((c.tc : Thread Cert.StepProjRefIdeal.nD Cert.StepProjRefIdeal.τ).loc Cert.StepProjRefIdeal.main_arg0) = m' ((c.tc : Thread Cert.StepProjRefIdeal.nD Cert.StepProjRefIdeal.τ).loc Cert.StepProjRefIdeal.main_arg0)
          ∧ r.2.mem ((c.tc : Thread Cert.StepProjRefIdeal.nD Cert.StepProjRefIdeal.τ).loc Cert.StepProjRefIdeal.main_arg1) = m' ((c.tc : Thread Cert.StepProjRefIdeal.nD Cert.StepProjRefIdeal.τ).loc Cert.StepProjRefIdeal.main_arg1))

def preserves_SsmProj_SsmProjIdeal : Prop :=
  True

def algebraic_SsmProjIdeal_SsmProjRefIdeal [hSsmProjIdeal : Cert.SsmProjIdeal.Facts] [hSsmProjRefIdeal : Cert.SsmProjRefIdeal.Facts] : Prop :=
  ∀ (m : (ℓ : Loc Cert.SsmProjIdeal.nD Cert.SsmProjIdeal.τ Cert.SsmProjIdeal.sig) → Buf (Elt Ideal) ℓ) (g : Dev Cert.SsmProjIdeal.nD → PrngReg)
    (m' : (ℓ : Loc Cert.SsmProjRefIdeal.nD Cert.SsmProjRefIdeal.τ Cert.SsmProjRefIdeal.sig) → Buf (Elt Ideal) ℓ) (g' : Dev Cert.SsmProjRefIdeal.nD → PrngReg), Pre_SsmProjIdeal m →
    (∀ c : Dev Cert.SsmProjIdeal.nD,
      m' ((c.tc : Thread Cert.SsmProjRefIdeal.nD Cert.SsmProjRefIdeal.τ).loc Cert.SsmProjRefIdeal.main_arg0) = m ((c.tc : Thread Cert.SsmProjIdeal.nD Cert.SsmProjIdeal.τ).loc Cert.SsmProjIdeal.main_arg0)
      ∧ m' ((c.tc : Thread Cert.SsmProjRefIdeal.nD Cert.SsmProjRefIdeal.τ).loc Cert.SsmProjRefIdeal.main_arg1) = m ((c.tc : Thread Cert.SsmProjIdeal.nD Cert.SsmProjIdeal.τ).loc Cert.SsmProjIdeal.main_arg1)) →
    ∃ (v0 : (c : Dev Cert.SsmProjIdeal.nD) → Buf (Elt Ideal) ((c.tc : Thread Cert.SsmProjIdeal.nD Cert.SsmProjIdeal.τ).loc Cert.SsmProjIdeal.main_v0)),
      θ_run (Cert.SsmProjIdeal.defs (F := Ideal)) (onTc (τ := Cert.SsmProjIdeal.τ) (Cert.SsmProjIdeal.main (F := Ideal))) ⟨m, fun _ => 0, g⟩ (fun r => ∀ c : Dev Cert.SsmProjIdeal.nD,
          r.2.mem ((c.tc : Thread Cert.SsmProjIdeal.nD Cert.SsmProjIdeal.τ).loc Cert.SsmProjIdeal.main_v0) = v0 c
          ∧ r.2.mem ((c.tc : Thread Cert.SsmProjIdeal.nD Cert.SsmProjIdeal.τ).loc Cert.SsmProjIdeal.main_arg0) = m ((c.tc : Thread Cert.SsmProjIdeal.nD Cert.SsmProjIdeal.τ).loc Cert.SsmProjIdeal.main_arg0)
          ∧ r.2.mem ((c.tc : Thread Cert.SsmProjIdeal.nD Cert.SsmProjIdeal.τ).loc Cert.SsmProjIdeal.main_arg1) = m ((c.tc : Thread Cert.SsmProjIdeal.nD Cert.SsmProjIdeal.τ).loc Cert.SsmProjIdeal.main_arg1))
      ∧ θ_run (Cert.SsmProjRefIdeal.defs (F := Ideal)) (onTc (τ := Cert.SsmProjRefIdeal.τ) (Cert.SsmProjRefIdeal.main (F := Ideal))) ⟨m', fun _ => 0, g'⟩ (fun r => ∀ c : Dev Cert.SsmProjRefIdeal.nD,
          r.2.mem ((c.tc : Thread Cert.SsmProjRefIdeal.nD Cert.SsmProjRefIdeal.τ).loc Cert.SsmProjRefIdeal.main_v2) = v0 c
          ∧ r.2.mem ((c.tc : Thread Cert.SsmProjRefIdeal.nD Cert.SsmProjRefIdeal.τ).loc Cert.SsmProjRefIdeal.main_arg0) = m' ((c.tc : Thread Cert.SsmProjRefIdeal.nD Cert.SsmProjRefIdeal.τ).loc Cert.SsmProjRefIdeal.main_arg0)
          ∧ r.2.mem ((c.tc : Thread Cert.SsmProjRefIdeal.nD Cert.SsmProjRefIdeal.τ).loc Cert.SsmProjRefIdeal.main_arg1) = m' ((c.tc : Thread Cert.SsmProjRefIdeal.nD Cert.SsmProjRefIdeal.τ).loc Cert.SsmProjRefIdeal.main_arg1))

def preserves_SsmGrad_SsmGradIdeal : Prop :=
  True

def algebraic_SsmGradIdeal_SsmGradRefIdeal [hSsmGradIdeal : Cert.SsmGradIdeal.Facts] [hSsmGradRefIdeal : Cert.SsmGradRefIdeal.Facts] : Prop :=
  ∀ (m : (ℓ : Loc Cert.SsmGradIdeal.nD Cert.SsmGradIdeal.τ Cert.SsmGradIdeal.sig) → Buf (Elt Ideal) ℓ) (g : Dev Cert.SsmGradIdeal.nD → PrngReg)
    (m' : (ℓ : Loc Cert.SsmGradRefIdeal.nD Cert.SsmGradRefIdeal.τ Cert.SsmGradRefIdeal.sig) → Buf (Elt Ideal) ℓ) (g' : Dev Cert.SsmGradRefIdeal.nD → PrngReg), Pre_SsmGradIdeal m →
    (∀ c : Dev Cert.SsmGradIdeal.nD,
      m' ((c.tc : Thread Cert.SsmGradRefIdeal.nD Cert.SsmGradRefIdeal.τ).loc Cert.SsmGradRefIdeal.main_arg0) = m ((c.tc : Thread Cert.SsmGradIdeal.nD Cert.SsmGradIdeal.τ).loc Cert.SsmGradIdeal.main_arg0)
      ∧ m' ((c.tc : Thread Cert.SsmGradRefIdeal.nD Cert.SsmGradRefIdeal.τ).loc Cert.SsmGradRefIdeal.main_arg1) = m ((c.tc : Thread Cert.SsmGradIdeal.nD Cert.SsmGradIdeal.τ).loc Cert.SsmGradIdeal.main_arg1)) →
    ∃ (v0 : (c : Dev Cert.SsmGradIdeal.nD) → Buf (Elt Ideal) ((c.tc : Thread Cert.SsmGradIdeal.nD Cert.SsmGradIdeal.τ).loc Cert.SsmGradIdeal.main_v0)),
      θ_run (Cert.SsmGradIdeal.defs (F := Ideal)) (onTc (τ := Cert.SsmGradIdeal.τ) (Cert.SsmGradIdeal.main (F := Ideal))) ⟨m, fun _ => 0, g⟩ (fun r => ∀ c : Dev Cert.SsmGradIdeal.nD,
          r.2.mem ((c.tc : Thread Cert.SsmGradIdeal.nD Cert.SsmGradIdeal.τ).loc Cert.SsmGradIdeal.main_v0) = v0 c
          ∧ r.2.mem ((c.tc : Thread Cert.SsmGradIdeal.nD Cert.SsmGradIdeal.τ).loc Cert.SsmGradIdeal.main_arg0) = m ((c.tc : Thread Cert.SsmGradIdeal.nD Cert.SsmGradIdeal.τ).loc Cert.SsmGradIdeal.main_arg0)
          ∧ r.2.mem ((c.tc : Thread Cert.SsmGradIdeal.nD Cert.SsmGradIdeal.τ).loc Cert.SsmGradIdeal.main_arg1) = m ((c.tc : Thread Cert.SsmGradIdeal.nD Cert.SsmGradIdeal.τ).loc Cert.SsmGradIdeal.main_arg1))
      ∧ θ_run (Cert.SsmGradRefIdeal.defs (F := Ideal)) (onTc (τ := Cert.SsmGradRefIdeal.τ) (Cert.SsmGradRefIdeal.main (F := Ideal))) ⟨m', fun _ => 0, g'⟩ (fun r => ∀ c : Dev Cert.SsmGradRefIdeal.nD,
          r.2.mem ((c.tc : Thread Cert.SsmGradRefIdeal.nD Cert.SsmGradRefIdeal.τ).loc Cert.SsmGradRefIdeal.main_v3) = v0 c
          ∧ r.2.mem ((c.tc : Thread Cert.SsmGradRefIdeal.nD Cert.SsmGradRefIdeal.τ).loc Cert.SsmGradRefIdeal.main_arg0) = m' ((c.tc : Thread Cert.SsmGradRefIdeal.nD Cert.SsmGradRefIdeal.τ).loc Cert.SsmGradRefIdeal.main_arg0)
          ∧ r.2.mem ((c.tc : Thread Cert.SsmGradRefIdeal.nD Cert.SsmGradRefIdeal.τ).loc Cert.SsmGradRefIdeal.main_arg1) = m' ((c.tc : Thread Cert.SsmGradRefIdeal.nD Cert.SsmGradRefIdeal.τ).loc Cert.SsmGradRefIdeal.main_arg1))

def preserves_ScanGrad_ScanGradIdeal : Prop :=
  True

def algebraic_ScanGradIdeal_ScanGradRefIdeal [hScanGradIdeal : Cert.ScanGradIdeal.Facts] [hScanGradRefIdeal : Cert.ScanGradRefIdeal.Facts] : Prop :=
  ∀ (m : (ℓ : Loc Cert.ScanGradIdeal.nD Cert.ScanGradIdeal.τ Cert.ScanGradIdeal.sig) → Buf (Elt Ideal) ℓ) (g : Dev Cert.ScanGradIdeal.nD → PrngReg)
    (m' : (ℓ : Loc Cert.ScanGradRefIdeal.nD Cert.ScanGradRefIdeal.τ Cert.ScanGradRefIdeal.sig) → Buf (Elt Ideal) ℓ) (g' : Dev Cert.ScanGradRefIdeal.nD → PrngReg), Pre_ScanGradIdeal m →
    (∀ c : Dev Cert.ScanGradIdeal.nD,
      m' ((c.tc : Thread Cert.ScanGradRefIdeal.nD Cert.ScanGradRefIdeal.τ).loc Cert.ScanGradRefIdeal.main_arg0) = m ((c.tc : Thread Cert.ScanGradIdeal.nD Cert.ScanGradIdeal.τ).loc Cert.ScanGradIdeal.main_arg0)
      ∧ m' ((c.tc : Thread Cert.ScanGradRefIdeal.nD Cert.ScanGradRefIdeal.τ).loc Cert.ScanGradRefIdeal.main_arg1) = m ((c.tc : Thread Cert.ScanGradIdeal.nD Cert.ScanGradIdeal.τ).loc Cert.ScanGradIdeal.main_arg1)) →
    ∃ (v0 : (c : Dev Cert.ScanGradIdeal.nD) → Buf (Elt Ideal) ((c.tc : Thread Cert.ScanGradIdeal.nD Cert.ScanGradIdeal.τ).loc Cert.ScanGradIdeal.main_v0)),
      θ_run (Cert.ScanGradIdeal.defs (F := Ideal)) (onTc (τ := Cert.ScanGradIdeal.τ) (Cert.ScanGradIdeal.main (F := Ideal))) ⟨m, fun _ => 0, g⟩ (fun r => ∀ c : Dev Cert.ScanGradIdeal.nD,
          r.2.mem ((c.tc : Thread Cert.ScanGradIdeal.nD Cert.ScanGradIdeal.τ).loc Cert.ScanGradIdeal.main_v0) = v0 c
          ∧ r.2.mem ((c.tc : Thread Cert.ScanGradIdeal.nD Cert.ScanGradIdeal.τ).loc Cert.ScanGradIdeal.main_arg0) = m ((c.tc : Thread Cert.ScanGradIdeal.nD Cert.ScanGradIdeal.τ).loc Cert.ScanGradIdeal.main_arg0)
          ∧ r.2.mem ((c.tc : Thread Cert.ScanGradIdeal.nD Cert.ScanGradIdeal.τ).loc Cert.ScanGradIdeal.main_arg1) = m ((c.tc : Thread Cert.ScanGradIdeal.nD Cert.ScanGradIdeal.τ).loc Cert.ScanGradIdeal.main_arg1))
      ∧ θ_run (Cert.ScanGradRefIdeal.defs (F := Ideal)) (onTc (τ := Cert.ScanGradRefIdeal.τ) (Cert.ScanGradRefIdeal.main (F := Ideal))) ⟨m', fun _ => 0, g'⟩ (fun r => ∀ c : Dev Cert.ScanGradRefIdeal.nD,
          r.2.mem ((c.tc : Thread Cert.ScanGradRefIdeal.nD Cert.ScanGradRefIdeal.τ).loc Cert.ScanGradRefIdeal.main_v3) = v0 c
          ∧ r.2.mem ((c.tc : Thread Cert.ScanGradRefIdeal.nD Cert.ScanGradRefIdeal.τ).loc Cert.ScanGradRefIdeal.main_arg0) = m' ((c.tc : Thread Cert.ScanGradRefIdeal.nD Cert.ScanGradRefIdeal.τ).loc Cert.ScanGradRefIdeal.main_arg0)
          ∧ r.2.mem ((c.tc : Thread Cert.ScanGradRefIdeal.nD Cert.ScanGradRefIdeal.τ).loc Cert.ScanGradRefIdeal.main_arg1) = m' ((c.tc : Thread Cert.ScanGradRefIdeal.nD Cert.ScanGradRefIdeal.τ).loc Cert.ScanGradRefIdeal.main_arg1))

def preserves_MainGrad_MainGradIdeal : Prop :=
  True

def algebraic_MainGradIdeal_MainGradRefIdeal [hMainGradIdeal : Cert.MainGradIdeal.Facts] [hMainGradRefIdeal : Cert.MainGradRefIdeal.Facts] : Prop :=
  ∀ (m : (ℓ : Loc Cert.MainGradIdeal.nD Cert.MainGradIdeal.τ Cert.MainGradIdeal.sig) → Buf (Elt Ideal) ℓ) (g : Dev Cert.MainGradIdeal.nD → PrngReg)
    (m' : (ℓ : Loc Cert.MainGradRefIdeal.nD Cert.MainGradRefIdeal.τ Cert.MainGradRefIdeal.sig) → Buf (Elt Ideal) ℓ) (g' : Dev Cert.MainGradRefIdeal.nD → PrngReg), Pre_MainGradIdeal m →
    (∀ c : Dev Cert.MainGradIdeal.nD,
      m' ((c.tc : Thread Cert.MainGradRefIdeal.nD Cert.MainGradRefIdeal.τ).loc Cert.MainGradRefIdeal.main_arg0) = m ((c.tc : Thread Cert.MainGradIdeal.nD Cert.MainGradIdeal.τ).loc Cert.MainGradIdeal.main_arg0)
      ∧ m' ((c.tc : Thread Cert.MainGradRefIdeal.nD Cert.MainGradRefIdeal.τ).loc Cert.MainGradRefIdeal.main_arg1) = m ((c.tc : Thread Cert.MainGradIdeal.nD Cert.MainGradIdeal.τ).loc Cert.MainGradIdeal.main_arg1)) →
    ∃ (v0 : (c : Dev Cert.MainGradIdeal.nD) → Buf (Elt Ideal) ((c.tc : Thread Cert.MainGradIdeal.nD Cert.MainGradIdeal.τ).loc Cert.MainGradIdeal.main_v0)),
      θ_run (Cert.MainGradIdeal.defs (F := Ideal)) (onTc (τ := Cert.MainGradIdeal.τ) (Cert.MainGradIdeal.main (F := Ideal))) ⟨m, fun _ => 0, g⟩ (fun r => ∀ c : Dev Cert.MainGradIdeal.nD,
          r.2.mem ((c.tc : Thread Cert.MainGradIdeal.nD Cert.MainGradIdeal.τ).loc Cert.MainGradIdeal.main_v0) = v0 c
          ∧ r.2.mem ((c.tc : Thread Cert.MainGradIdeal.nD Cert.MainGradIdeal.τ).loc Cert.MainGradIdeal.main_arg0) = m ((c.tc : Thread Cert.MainGradIdeal.nD Cert.MainGradIdeal.τ).loc Cert.MainGradIdeal.main_arg0)
          ∧ r.2.mem ((c.tc : Thread Cert.MainGradIdeal.nD Cert.MainGradIdeal.τ).loc Cert.MainGradIdeal.main_arg1) = m ((c.tc : Thread Cert.MainGradIdeal.nD Cert.MainGradIdeal.τ).loc Cert.MainGradIdeal.main_arg1))
      ∧ θ_run (Cert.MainGradRefIdeal.defs (F := Ideal)) (onTc (τ := Cert.MainGradRefIdeal.τ) (Cert.MainGradRefIdeal.main (F := Ideal))) ⟨m', fun _ => 0, g'⟩ (fun r => ∀ c : Dev Cert.MainGradRefIdeal.nD,
          r.2.mem ((c.tc : Thread Cert.MainGradRefIdeal.nD Cert.MainGradRefIdeal.τ).loc Cert.MainGradRefIdeal.main_v3) = v0 c
          ∧ r.2.mem ((c.tc : Thread Cert.MainGradRefIdeal.nD Cert.MainGradRefIdeal.τ).loc Cert.MainGradRefIdeal.main_arg0) = m' ((c.tc : Thread Cert.MainGradRefIdeal.nD Cert.MainGradRefIdeal.τ).loc Cert.MainGradRefIdeal.main_arg0)
          ∧ r.2.mem ((c.tc : Thread Cert.MainGradRefIdeal.nD Cert.MainGradRefIdeal.τ).loc Cert.MainGradRefIdeal.main_arg1) = m' ((c.tc : Thread Cert.MainGradRefIdeal.nD Cert.MainGradRefIdeal.τ).loc Cert.MainGradRefIdeal.main_arg1))

def preserves_StepGrad_StepGradIdeal : Prop :=
  True

def algebraic_StepGradIdeal_StepGradRefIdeal [hStepGradIdeal : Cert.StepGradIdeal.Facts] [hStepGradRefIdeal : Cert.StepGradRefIdeal.Facts] : Prop :=
  ∀ (m : (ℓ : Loc Cert.StepGradIdeal.nD Cert.StepGradIdeal.τ Cert.StepGradIdeal.sig) → Buf (Elt Ideal) ℓ) (g : Dev Cert.StepGradIdeal.nD → PrngReg)
    (m' : (ℓ : Loc Cert.StepGradRefIdeal.nD Cert.StepGradRefIdeal.τ Cert.StepGradRefIdeal.sig) → Buf (Elt Ideal) ℓ) (g' : Dev Cert.StepGradRefIdeal.nD → PrngReg), Pre_StepGradIdeal m →
    (∀ c : Dev Cert.StepGradIdeal.nD,
      m' ((c.tc : Thread Cert.StepGradRefIdeal.nD Cert.StepGradRefIdeal.τ).loc Cert.StepGradRefIdeal.main_arg0) = m ((c.tc : Thread Cert.StepGradIdeal.nD Cert.StepGradIdeal.τ).loc Cert.StepGradIdeal.main_arg0)
      ∧ m' ((c.tc : Thread Cert.StepGradRefIdeal.nD Cert.StepGradRefIdeal.τ).loc Cert.StepGradRefIdeal.main_arg1) = m ((c.tc : Thread Cert.StepGradIdeal.nD Cert.StepGradIdeal.τ).loc Cert.StepGradIdeal.main_arg1)) →
    ∃ (v0 : (c : Dev Cert.StepGradIdeal.nD) → Buf (Elt Ideal) ((c.tc : Thread Cert.StepGradIdeal.nD Cert.StepGradIdeal.τ).loc Cert.StepGradIdeal.main_v0)),
      θ_run (Cert.StepGradIdeal.defs (F := Ideal)) (onTc (τ := Cert.StepGradIdeal.τ) (Cert.StepGradIdeal.main (F := Ideal))) ⟨m, fun _ => 0, g⟩ (fun r => ∀ c : Dev Cert.StepGradIdeal.nD,
          r.2.mem ((c.tc : Thread Cert.StepGradIdeal.nD Cert.StepGradIdeal.τ).loc Cert.StepGradIdeal.main_v0) = v0 c
          ∧ r.2.mem ((c.tc : Thread Cert.StepGradIdeal.nD Cert.StepGradIdeal.τ).loc Cert.StepGradIdeal.main_arg0) = m ((c.tc : Thread Cert.StepGradIdeal.nD Cert.StepGradIdeal.τ).loc Cert.StepGradIdeal.main_arg0)
          ∧ r.2.mem ((c.tc : Thread Cert.StepGradIdeal.nD Cert.StepGradIdeal.τ).loc Cert.StepGradIdeal.main_arg1) = m ((c.tc : Thread Cert.StepGradIdeal.nD Cert.StepGradIdeal.τ).loc Cert.StepGradIdeal.main_arg1))
      ∧ θ_run (Cert.StepGradRefIdeal.defs (F := Ideal)) (onTc (τ := Cert.StepGradRefIdeal.τ) (Cert.StepGradRefIdeal.main (F := Ideal))) ⟨m', fun _ => 0, g'⟩ (fun r => ∀ c : Dev Cert.StepGradRefIdeal.nD,
          r.2.mem ((c.tc : Thread Cert.StepGradRefIdeal.nD Cert.StepGradRefIdeal.τ).loc Cert.StepGradRefIdeal.main_v3) = v0 c
          ∧ r.2.mem ((c.tc : Thread Cert.StepGradRefIdeal.nD Cert.StepGradRefIdeal.τ).loc Cert.StepGradRefIdeal.main_arg0) = m' ((c.tc : Thread Cert.StepGradRefIdeal.nD Cert.StepGradRefIdeal.τ).loc Cert.StepGradRefIdeal.main_arg0)
          ∧ r.2.mem ((c.tc : Thread Cert.StepGradRefIdeal.nD Cert.StepGradRefIdeal.τ).loc Cert.StepGradRefIdeal.main_arg1) = m' ((c.tc : Thread Cert.StepGradRefIdeal.nD Cert.StepGradRefIdeal.τ).loc Cert.StepGradRefIdeal.main_arg1))

def preserves_HiddenGrad_HiddenGradIdeal : Prop :=
  True

def algebraic_HiddenGradIdeal_HiddenGradRefIdeal [hHiddenGradIdeal : Cert.HiddenGradIdeal.Facts] [hHiddenGradRefIdeal : Cert.HiddenGradRefIdeal.Facts] : Prop :=
  ∀ (m : (ℓ : Loc Cert.HiddenGradIdeal.nD Cert.HiddenGradIdeal.τ Cert.HiddenGradIdeal.sig) → Buf (Elt Ideal) ℓ) (g : Dev Cert.HiddenGradIdeal.nD → PrngReg)
    (m' : (ℓ : Loc Cert.HiddenGradRefIdeal.nD Cert.HiddenGradRefIdeal.τ Cert.HiddenGradRefIdeal.sig) → Buf (Elt Ideal) ℓ) (g' : Dev Cert.HiddenGradRefIdeal.nD → PrngReg), Pre_HiddenGradIdeal m →
    (∀ c : Dev Cert.HiddenGradIdeal.nD,
      m' ((c.tc : Thread Cert.HiddenGradRefIdeal.nD Cert.HiddenGradRefIdeal.τ).loc Cert.HiddenGradRefIdeal.main_arg0) = m ((c.tc : Thread Cert.HiddenGradIdeal.nD Cert.HiddenGradIdeal.τ).loc Cert.HiddenGradIdeal.main_arg0)
      ∧ m' ((c.tc : Thread Cert.HiddenGradRefIdeal.nD Cert.HiddenGradRefIdeal.τ).loc Cert.HiddenGradRefIdeal.main_arg1) = m ((c.tc : Thread Cert.HiddenGradIdeal.nD Cert.HiddenGradIdeal.τ).loc Cert.HiddenGradIdeal.main_arg1)) →
    ∃ (v0 : (c : Dev Cert.HiddenGradIdeal.nD) → Buf (Elt Ideal) ((c.tc : Thread Cert.HiddenGradIdeal.nD Cert.HiddenGradIdeal.τ).loc Cert.HiddenGradIdeal.main_v0)),
      θ_run (Cert.HiddenGradIdeal.defs (F := Ideal)) (onTc (τ := Cert.HiddenGradIdeal.τ) (Cert.HiddenGradIdeal.main (F := Ideal))) ⟨m, fun _ => 0, g⟩ (fun r => ∀ c : Dev Cert.HiddenGradIdeal.nD,
          r.2.mem ((c.tc : Thread Cert.HiddenGradIdeal.nD Cert.HiddenGradIdeal.τ).loc Cert.HiddenGradIdeal.main_v0) = v0 c
          ∧ r.2.mem ((c.tc : Thread Cert.HiddenGradIdeal.nD Cert.HiddenGradIdeal.τ).loc Cert.HiddenGradIdeal.main_arg0) = m ((c.tc : Thread Cert.HiddenGradIdeal.nD Cert.HiddenGradIdeal.τ).loc Cert.HiddenGradIdeal.main_arg0)
          ∧ r.2.mem ((c.tc : Thread Cert.HiddenGradIdeal.nD Cert.HiddenGradIdeal.τ).loc Cert.HiddenGradIdeal.main_arg1) = m ((c.tc : Thread Cert.HiddenGradIdeal.nD Cert.HiddenGradIdeal.τ).loc Cert.HiddenGradIdeal.main_arg1))
      ∧ θ_run (Cert.HiddenGradRefIdeal.defs (F := Ideal)) (onTc (τ := Cert.HiddenGradRefIdeal.τ) (Cert.HiddenGradRefIdeal.main (F := Ideal))) ⟨m', fun _ => 0, g'⟩ (fun r => ∀ c : Dev Cert.HiddenGradRefIdeal.nD,
          r.2.mem ((c.tc : Thread Cert.HiddenGradRefIdeal.nD Cert.HiddenGradRefIdeal.τ).loc Cert.HiddenGradRefIdeal.main_v3) = v0 c
          ∧ r.2.mem ((c.tc : Thread Cert.HiddenGradRefIdeal.nD Cert.HiddenGradRefIdeal.τ).loc Cert.HiddenGradRefIdeal.main_arg0) = m' ((c.tc : Thread Cert.HiddenGradRefIdeal.nD Cert.HiddenGradRefIdeal.τ).loc Cert.HiddenGradRefIdeal.main_arg0)
          ∧ r.2.mem ((c.tc : Thread Cert.HiddenGradRefIdeal.nD Cert.HiddenGradRefIdeal.τ).loc Cert.HiddenGradRefIdeal.main_arg1) = m' ((c.tc : Thread Cert.HiddenGradRefIdeal.nD Cert.HiddenGradRefIdeal.τ).loc Cert.HiddenGradRefIdeal.main_arg1))

def preserves_HiddenStep_HiddenStepIdeal : Prop :=
  True

def algebraic_HiddenStepIdeal_HiddenStepRefIdeal [hHiddenStepIdeal : Cert.HiddenStepIdeal.Facts] [hHiddenStepRefIdeal : Cert.HiddenStepRefIdeal.Facts] : Prop :=
  ∀ (m : (ℓ : Loc Cert.HiddenStepIdeal.nD Cert.HiddenStepIdeal.τ Cert.HiddenStepIdeal.sig) → Buf (Elt Ideal) ℓ) (g : Dev Cert.HiddenStepIdeal.nD → PrngReg)
    (m' : (ℓ : Loc Cert.HiddenStepRefIdeal.nD Cert.HiddenStepRefIdeal.τ Cert.HiddenStepRefIdeal.sig) → Buf (Elt Ideal) ℓ) (g' : Dev Cert.HiddenStepRefIdeal.nD → PrngReg), Pre_HiddenStepIdeal m →
    (∀ c : Dev Cert.HiddenStepIdeal.nD,
      m' ((c.tc : Thread Cert.HiddenStepRefIdeal.nD Cert.HiddenStepRefIdeal.τ).loc Cert.HiddenStepRefIdeal.main_arg0) = m ((c.tc : Thread Cert.HiddenStepIdeal.nD Cert.HiddenStepIdeal.τ).loc Cert.HiddenStepIdeal.main_arg0)
      ∧ m' ((c.tc : Thread Cert.HiddenStepRefIdeal.nD Cert.HiddenStepRefIdeal.τ).loc Cert.HiddenStepRefIdeal.main_arg1) = m ((c.tc : Thread Cert.HiddenStepIdeal.nD Cert.HiddenStepIdeal.τ).loc Cert.HiddenStepIdeal.main_arg1)) →
    ∃ (v0 : (c : Dev Cert.HiddenStepIdeal.nD) → Buf (Elt Ideal) ((c.tc : Thread Cert.HiddenStepIdeal.nD Cert.HiddenStepIdeal.τ).loc Cert.HiddenStepIdeal.main_v0)),
      θ_run (Cert.HiddenStepIdeal.defs (F := Ideal)) (onTc (τ := Cert.HiddenStepIdeal.τ) (Cert.HiddenStepIdeal.main (F := Ideal))) ⟨m, fun _ => 0, g⟩ (fun r => ∀ c : Dev Cert.HiddenStepIdeal.nD,
          r.2.mem ((c.tc : Thread Cert.HiddenStepIdeal.nD Cert.HiddenStepIdeal.τ).loc Cert.HiddenStepIdeal.main_v0) = v0 c
          ∧ r.2.mem ((c.tc : Thread Cert.HiddenStepIdeal.nD Cert.HiddenStepIdeal.τ).loc Cert.HiddenStepIdeal.main_arg0) = m ((c.tc : Thread Cert.HiddenStepIdeal.nD Cert.HiddenStepIdeal.τ).loc Cert.HiddenStepIdeal.main_arg0)
          ∧ r.2.mem ((c.tc : Thread Cert.HiddenStepIdeal.nD Cert.HiddenStepIdeal.τ).loc Cert.HiddenStepIdeal.main_arg1) = m ((c.tc : Thread Cert.HiddenStepIdeal.nD Cert.HiddenStepIdeal.τ).loc Cert.HiddenStepIdeal.main_arg1))
      ∧ θ_run (Cert.HiddenStepRefIdeal.defs (F := Ideal)) (onTc (τ := Cert.HiddenStepRefIdeal.τ) (Cert.HiddenStepRefIdeal.main (F := Ideal))) ⟨m', fun _ => 0, g'⟩ (fun r => ∀ c : Dev Cert.HiddenStepRefIdeal.nD,
          r.2.mem ((c.tc : Thread Cert.HiddenStepRefIdeal.nD Cert.HiddenStepRefIdeal.τ).loc Cert.HiddenStepRefIdeal.main_v3) = v0 c
          ∧ r.2.mem ((c.tc : Thread Cert.HiddenStepRefIdeal.nD Cert.HiddenStepRefIdeal.τ).loc Cert.HiddenStepRefIdeal.main_arg0) = m' ((c.tc : Thread Cert.HiddenStepRefIdeal.nD Cert.HiddenStepRefIdeal.τ).loc Cert.HiddenStepRefIdeal.main_arg0)
          ∧ r.2.mem ((c.tc : Thread Cert.HiddenStepRefIdeal.nD Cert.HiddenStepRefIdeal.τ).loc Cert.HiddenStepRefIdeal.main_arg1) = m' ((c.tc : Thread Cert.HiddenStepRefIdeal.nD Cert.HiddenStepRefIdeal.τ).loc Cert.HiddenStepRefIdeal.main_arg1))

def preserves_GatedNormBack_GatedNormBackIdeal : Prop :=
  True

def algebraic_GatedNormBackIdeal_GatedNormBackRefIdeal [hGatedNormBackIdeal : Cert.GatedNormBackIdeal.Facts] [hGatedNormBackRefIdeal : Cert.GatedNormBackRefIdeal.Facts] : Prop :=
  ∀ (m : (ℓ : Loc Cert.GatedNormBackIdeal.nD Cert.GatedNormBackIdeal.τ Cert.GatedNormBackIdeal.sig) → Buf (Elt Ideal) ℓ) (g : Dev Cert.GatedNormBackIdeal.nD → PrngReg)
    (m' : (ℓ : Loc Cert.GatedNormBackRefIdeal.nD Cert.GatedNormBackRefIdeal.τ Cert.GatedNormBackRefIdeal.sig) → Buf (Elt Ideal) ℓ) (g' : Dev Cert.GatedNormBackRefIdeal.nD → PrngReg), Pre_GatedNormBackIdeal m →
    (∀ c : Dev Cert.GatedNormBackIdeal.nD,
      m' ((c.tc : Thread Cert.GatedNormBackRefIdeal.nD Cert.GatedNormBackRefIdeal.τ).loc Cert.GatedNormBackRefIdeal.main_arg0) = m ((c.tc : Thread Cert.GatedNormBackIdeal.nD Cert.GatedNormBackIdeal.τ).loc Cert.GatedNormBackIdeal.main_arg0)
      ∧ m' ((c.tc : Thread Cert.GatedNormBackRefIdeal.nD Cert.GatedNormBackRefIdeal.τ).loc Cert.GatedNormBackRefIdeal.main_arg1) = m ((c.tc : Thread Cert.GatedNormBackIdeal.nD Cert.GatedNormBackIdeal.τ).loc Cert.GatedNormBackIdeal.main_arg1)
      ∧ m' ((c.tc : Thread Cert.GatedNormBackRefIdeal.nD Cert.GatedNormBackRefIdeal.τ).loc Cert.GatedNormBackRefIdeal.main_arg2) = m ((c.tc : Thread Cert.GatedNormBackIdeal.nD Cert.GatedNormBackIdeal.τ).loc Cert.GatedNormBackIdeal.main_arg2)
      ∧ m' ((c.tc : Thread Cert.GatedNormBackRefIdeal.nD Cert.GatedNormBackRefIdeal.τ).loc Cert.GatedNormBackRefIdeal.main_arg3) = m ((c.tc : Thread Cert.GatedNormBackIdeal.nD Cert.GatedNormBackIdeal.τ).loc Cert.GatedNormBackIdeal.main_arg3)
      ∧ m' ((c.tc : Thread Cert.GatedNormBackRefIdeal.nD Cert.GatedNormBackRefIdeal.τ).loc Cert.GatedNormBackRefIdeal.main_arg4) = m ((c.tc : Thread Cert.GatedNormBackIdeal.nD Cert.GatedNormBackIdeal.τ).loc Cert.GatedNormBackIdeal.main_arg4)
      ∧ m' ((c.tc : Thread Cert.GatedNormBackRefIdeal.nD Cert.GatedNormBackRefIdeal.τ).loc Cert.GatedNormBackRefIdeal.main_arg5) = m ((c.tc : Thread Cert.GatedNormBackIdeal.nD Cert.GatedNormBackIdeal.τ).loc Cert.GatedNormBackIdeal.main_arg5)) →
    ∃ (v0 : (c : Dev Cert.GatedNormBackIdeal.nD) → Buf (Elt Ideal) ((c.tc : Thread Cert.GatedNormBackIdeal.nD Cert.GatedNormBackIdeal.τ).loc Cert.GatedNormBackIdeal.main_v0_0)) (v1 : (c : Dev Cert.GatedNormBackIdeal.nD) → Buf (Elt Ideal) ((c.tc : Thread Cert.GatedNormBackIdeal.nD Cert.GatedNormBackIdeal.τ).loc Cert.GatedNormBackIdeal.main_v0_1)) (v2 : (c : Dev Cert.GatedNormBackIdeal.nD) → Buf (Elt Ideal) ((c.tc : Thread Cert.GatedNormBackIdeal.nD Cert.GatedNormBackIdeal.τ).loc Cert.GatedNormBackIdeal.main_v0_2)) (v3 : (c : Dev Cert.GatedNormBackIdeal.nD) → Buf (Elt Ideal) ((c.tc : Thread Cert.GatedNormBackIdeal.nD Cert.GatedNormBackIdeal.τ).loc Cert.GatedNormBackIdeal.main_v0_3)),
      θ_run (Cert.GatedNormBackIdeal.defs (F := Ideal)) (onTc (τ := Cert.GatedNormBackIdeal.τ) (Cert.GatedNormBackIdeal.main (F := Ideal))) ⟨m, fun _ => 0, g⟩ (fun r => ∀ c : Dev Cert.GatedNormBackIdeal.nD,
          r.2.mem ((c.tc : Thread Cert.GatedNormBackIdeal.nD Cert.GatedNormBackIdeal.τ).loc Cert.GatedNormBackIdeal.main_v0_0) = v0 c
          ∧ r.2.mem ((c.tc : Thread Cert.GatedNormBackIdeal.nD Cert.GatedNormBackIdeal.τ).loc Cert.GatedNormBackIdeal.main_v0_1) = v1 c
          ∧ r.2.mem ((c.tc : Thread Cert.GatedNormBackIdeal.nD Cert.GatedNormBackIdeal.τ).loc Cert.GatedNormBackIdeal.main_v0_2) = v2 c
          ∧ r.2.mem ((c.tc : Thread Cert.GatedNormBackIdeal.nD Cert.GatedNormBackIdeal.τ).loc Cert.GatedNormBackIdeal.main_v0_3) = v3 c
          ∧ r.2.mem ((c.tc : Thread Cert.GatedNormBackIdeal.nD Cert.GatedNormBackIdeal.τ).loc Cert.GatedNormBackIdeal.main_arg0) = m ((c.tc : Thread Cert.GatedNormBackIdeal.nD Cert.GatedNormBackIdeal.τ).loc Cert.GatedNormBackIdeal.main_arg0)
          ∧ r.2.mem ((c.tc : Thread Cert.GatedNormBackIdeal.nD Cert.GatedNormBackIdeal.τ).loc Cert.GatedNormBackIdeal.main_arg1) = m ((c.tc : Thread Cert.GatedNormBackIdeal.nD Cert.GatedNormBackIdeal.τ).loc Cert.GatedNormBackIdeal.main_arg1)
          ∧ r.2.mem ((c.tc : Thread Cert.GatedNormBackIdeal.nD Cert.GatedNormBackIdeal.τ).loc Cert.GatedNormBackIdeal.main_arg2) = m ((c.tc : Thread Cert.GatedNormBackIdeal.nD Cert.GatedNormBackIdeal.τ).loc Cert.GatedNormBackIdeal.main_arg2)
          ∧ r.2.mem ((c.tc : Thread Cert.GatedNormBackIdeal.nD Cert.GatedNormBackIdeal.τ).loc Cert.GatedNormBackIdeal.main_arg3) = m ((c.tc : Thread Cert.GatedNormBackIdeal.nD Cert.GatedNormBackIdeal.τ).loc Cert.GatedNormBackIdeal.main_arg3)
          ∧ r.2.mem ((c.tc : Thread Cert.GatedNormBackIdeal.nD Cert.GatedNormBackIdeal.τ).loc Cert.GatedNormBackIdeal.main_arg4) = m ((c.tc : Thread Cert.GatedNormBackIdeal.nD Cert.GatedNormBackIdeal.τ).loc Cert.GatedNormBackIdeal.main_arg4)
          ∧ r.2.mem ((c.tc : Thread Cert.GatedNormBackIdeal.nD Cert.GatedNormBackIdeal.τ).loc Cert.GatedNormBackIdeal.main_arg5) = m ((c.tc : Thread Cert.GatedNormBackIdeal.nD Cert.GatedNormBackIdeal.τ).loc Cert.GatedNormBackIdeal.main_arg5))
      ∧ θ_run (Cert.GatedNormBackRefIdeal.defs (F := Ideal)) (onTc (τ := Cert.GatedNormBackRefIdeal.τ) (Cert.GatedNormBackRefIdeal.main (F := Ideal))) ⟨m', fun _ => 0, g'⟩ (fun r => ∀ c : Dev Cert.GatedNormBackRefIdeal.nD,
          r.2.mem ((c.tc : Thread Cert.GatedNormBackRefIdeal.nD Cert.GatedNormBackRefIdeal.τ).loc Cert.GatedNormBackRefIdeal.main_v42) = v0 c
          ∧ r.2.mem ((c.tc : Thread Cert.GatedNormBackRefIdeal.nD Cert.GatedNormBackRefIdeal.τ).loc Cert.GatedNormBackRefIdeal.main_v49) = v1 c
          ∧ r.2.mem ((c.tc : Thread Cert.GatedNormBackRefIdeal.nD Cert.GatedNormBackRefIdeal.τ).loc Cert.GatedNormBackRefIdeal.main_v24) = v2 c
          ∧ r.2.mem ((c.tc : Thread Cert.GatedNormBackRefIdeal.nD Cert.GatedNormBackRefIdeal.τ).loc Cert.GatedNormBackRefIdeal.main_v45) = v3 c
          ∧ r.2.mem ((c.tc : Thread Cert.GatedNormBackRefIdeal.nD Cert.GatedNormBackRefIdeal.τ).loc Cert.GatedNormBackRefIdeal.main_arg0) = m' ((c.tc : Thread Cert.GatedNormBackRefIdeal.nD Cert.GatedNormBackRefIdeal.τ).loc Cert.GatedNormBackRefIdeal.main_arg0)
          ∧ r.2.mem ((c.tc : Thread Cert.GatedNormBackRefIdeal.nD Cert.GatedNormBackRefIdeal.τ).loc Cert.GatedNormBackRefIdeal.main_arg1) = m' ((c.tc : Thread Cert.GatedNormBackRefIdeal.nD Cert.GatedNormBackRefIdeal.τ).loc Cert.GatedNormBackRefIdeal.main_arg1)
          ∧ r.2.mem ((c.tc : Thread Cert.GatedNormBackRefIdeal.nD Cert.GatedNormBackRefIdeal.τ).loc Cert.GatedNormBackRefIdeal.main_arg2) = m' ((c.tc : Thread Cert.GatedNormBackRefIdeal.nD Cert.GatedNormBackRefIdeal.τ).loc Cert.GatedNormBackRefIdeal.main_arg2)
          ∧ r.2.mem ((c.tc : Thread Cert.GatedNormBackRefIdeal.nD Cert.GatedNormBackRefIdeal.τ).loc Cert.GatedNormBackRefIdeal.main_arg3) = m' ((c.tc : Thread Cert.GatedNormBackRefIdeal.nD Cert.GatedNormBackRefIdeal.τ).loc Cert.GatedNormBackRefIdeal.main_arg3)
          ∧ r.2.mem ((c.tc : Thread Cert.GatedNormBackRefIdeal.nD Cert.GatedNormBackRefIdeal.τ).loc Cert.GatedNormBackRefIdeal.main_arg4) = m' ((c.tc : Thread Cert.GatedNormBackRefIdeal.nD Cert.GatedNormBackRefIdeal.τ).loc Cert.GatedNormBackRefIdeal.main_arg4)
          ∧ r.2.mem ((c.tc : Thread Cert.GatedNormBackRefIdeal.nD Cert.GatedNormBackRefIdeal.τ).loc Cert.GatedNormBackRefIdeal.main_arg5) = m' ((c.tc : Thread Cert.GatedNormBackRefIdeal.nD Cert.GatedNormBackRefIdeal.τ).loc Cert.GatedNormBackRefIdeal.main_arg5))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)) →
    ∃ (v0 : (c : Dev Cert.ConvIdeal.nD) → Buf (Elt Ideal) ((c.tc : Thread Cert.ConvIdeal.nD Cert.ConvIdeal.τ).loc Cert.ConvIdeal.main_v0)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v0) = v0 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v31) = v0 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2))

def preserves_ConvBack_ConvBackIdeal : Prop :=
  True

def algebraic_ConvBackIdeal_ConvBackRefIdeal [hConvBackIdeal : Cert.ConvBackIdeal.Facts] [hConvBackRefIdeal : Cert.ConvBackRefIdeal.Facts] : Prop :=
  ∀ (m : (ℓ : Loc Cert.ConvBackIdeal.nD Cert.ConvBackIdeal.τ Cert.ConvBackIdeal.sig) → Buf (Elt Ideal) ℓ) (g : Dev Cert.ConvBackIdeal.nD → PrngReg)
    (m' : (ℓ : Loc Cert.ConvBackRefIdeal.nD Cert.ConvBackRefIdeal.τ Cert.ConvBackRefIdeal.sig) → Buf (Elt Ideal) ℓ) (g' : Dev Cert.ConvBackRefIdeal.nD → PrngReg), Pre_ConvBackIdeal m →
    (∀ c : Dev Cert.ConvBackIdeal.nD,
      m' ((c.tc : Thread Cert.ConvBackRefIdeal.nD Cert.ConvBackRefIdeal.τ).loc Cert.ConvBackRefIdeal.main_arg0) = m ((c.tc : Thread Cert.ConvBackIdeal.nD Cert.ConvBackIdeal.τ).loc Cert.ConvBackIdeal.main_arg0)
      ∧ m' ((c.tc : Thread Cert.ConvBackRefIdeal.nD Cert.ConvBackRefIdeal.τ).loc Cert.ConvBackRefIdeal.main_arg1) = m ((c.tc : Thread Cert.ConvBackIdeal.nD Cert.ConvBackIdeal.τ).loc Cert.ConvBackIdeal.main_arg1)) →
    ∃ (v0 : (c : Dev Cert.ConvBackIdeal.nD) → Buf (Elt Ideal) ((c.tc : Thread Cert.ConvBackIdeal.nD Cert.ConvBackIdeal.τ).loc Cert.ConvBackIdeal.main_v0)),
      θ_run (Cert.ConvBackIdeal.defs (F := Ideal)) (onTc (τ := Cert.ConvBackIdeal.τ) (Cert.ConvBackIdeal.main (F := Ideal))) ⟨m, fun _ => 0, g⟩ (fun r => ∀ c : Dev Cert.ConvBackIdeal.nD,
          r.2.mem ((c.tc : Thread Cert.ConvBackIdeal.nD Cert.ConvBackIdeal.τ).loc Cert.ConvBackIdeal.main_v0) = v0 c
          ∧ r.2.mem ((c.tc : Thread Cert.ConvBackIdeal.nD Cert.ConvBackIdeal.τ).loc Cert.ConvBackIdeal.main_arg0) = m ((c.tc : Thread Cert.ConvBackIdeal.nD Cert.ConvBackIdeal.τ).loc Cert.ConvBackIdeal.main_arg0)
          ∧ r.2.mem ((c.tc : Thread Cert.ConvBackIdeal.nD Cert.ConvBackIdeal.τ).loc Cert.ConvBackIdeal.main_arg1) = m ((c.tc : Thread Cert.ConvBackIdeal.nD Cert.ConvBackIdeal.τ).loc Cert.ConvBackIdeal.main_arg1))
      ∧ θ_run (Cert.ConvBackRefIdeal.defs (F := Ideal)) (onTc (τ := Cert.ConvBackRefIdeal.τ) (Cert.ConvBackRefIdeal.main (F := Ideal))) ⟨m', fun _ => 0, g'⟩ (fun r => ∀ c : Dev Cert.ConvBackRefIdeal.nD,
          r.2.mem ((c.tc : Thread Cert.ConvBackRefIdeal.nD Cert.ConvBackRefIdeal.τ).loc Cert.ConvBackRefIdeal.main_v28) = v0 c
          ∧ r.2.mem ((c.tc : Thread Cert.ConvBackRefIdeal.nD Cert.ConvBackRefIdeal.τ).loc Cert.ConvBackRefIdeal.main_arg0) = m' ((c.tc : Thread Cert.ConvBackRefIdeal.nD Cert.ConvBackRefIdeal.τ).loc Cert.ConvBackRefIdeal.main_arg0)
          ∧ r.2.mem ((c.tc : Thread Cert.ConvBackRefIdeal.nD Cert.ConvBackRefIdeal.τ).loc Cert.ConvBackRefIdeal.main_arg1) = m' ((c.tc : Thread Cert.ConvBackRefIdeal.nD Cert.ConvBackRefIdeal.τ).loc Cert.ConvBackRefIdeal.main_arg1))

def preserves_Steps_StepsIdeal : Prop :=
  True

def algebraic_StepsIdeal_StepsRefIdeal [hStepsIdeal : Cert.StepsIdeal.Facts] [hStepsRefIdeal : Cert.StepsRefIdeal.Facts] : Prop :=
  ∀ (m : (ℓ : Loc Cert.StepsIdeal.nD Cert.StepsIdeal.τ Cert.StepsIdeal.sig) → Buf (Elt Ideal) ℓ) (g : Dev Cert.StepsIdeal.nD → PrngReg)
    (m' : (ℓ : Loc Cert.StepsRefIdeal.nD Cert.StepsRefIdeal.τ Cert.StepsRefIdeal.sig) → Buf (Elt Ideal) ℓ) (g' : Dev Cert.StepsRefIdeal.nD → PrngReg), Pre_StepsIdeal m →
    (∀ c : Dev Cert.StepsIdeal.nD,
      m' ((c.tc : Thread Cert.StepsRefIdeal.nD Cert.StepsRefIdeal.τ).loc Cert.StepsRefIdeal.main_arg0) = m ((c.tc : Thread Cert.StepsIdeal.nD Cert.StepsIdeal.τ).loc Cert.StepsIdeal.main_arg0)
      ∧ m' ((c.tc : Thread Cert.StepsRefIdeal.nD Cert.StepsRefIdeal.τ).loc Cert.StepsRefIdeal.main_arg1) = m ((c.tc : Thread Cert.StepsIdeal.nD Cert.StepsIdeal.τ).loc Cert.StepsIdeal.main_arg1)
      ∧ m' ((c.tc : Thread Cert.StepsRefIdeal.nD Cert.StepsRefIdeal.τ).loc Cert.StepsRefIdeal.main_arg2) = m ((c.tc : Thread Cert.StepsIdeal.nD Cert.StepsIdeal.τ).loc Cert.StepsIdeal.main_arg2)) →
    ∃ (v0 : (c : Dev Cert.StepsIdeal.nD) → Buf (Elt Ideal) ((c.tc : Thread Cert.StepsIdeal.nD Cert.StepsIdeal.τ).loc Cert.StepsIdeal.main_v0_0)) (v1 : (c : Dev Cert.StepsIdeal.nD) → Buf (Elt Ideal) ((c.tc : Thread Cert.StepsIdeal.nD Cert.StepsIdeal.τ).loc Cert.StepsIdeal.main_v0_1)),
      θ_run (Cert.StepsIdeal.defs (F := Ideal)) (onTc (τ := Cert.StepsIdeal.τ) (Cert.StepsIdeal.main (F := Ideal))) ⟨m, fun _ => 0, g⟩ (fun r => ∀ c : Dev Cert.StepsIdeal.nD,
          r.2.mem ((c.tc : Thread Cert.StepsIdeal.nD Cert.StepsIdeal.τ).loc Cert.StepsIdeal.main_v0_0) = v0 c
          ∧ r.2.mem ((c.tc : Thread Cert.StepsIdeal.nD Cert.StepsIdeal.τ).loc Cert.StepsIdeal.main_v0_1) = v1 c
          ∧ r.2.mem ((c.tc : Thread Cert.StepsIdeal.nD Cert.StepsIdeal.τ).loc Cert.StepsIdeal.main_arg0) = m ((c.tc : Thread Cert.StepsIdeal.nD Cert.StepsIdeal.τ).loc Cert.StepsIdeal.main_arg0)
          ∧ r.2.mem ((c.tc : Thread Cert.StepsIdeal.nD Cert.StepsIdeal.τ).loc Cert.StepsIdeal.main_arg1) = m ((c.tc : Thread Cert.StepsIdeal.nD Cert.StepsIdeal.τ).loc Cert.StepsIdeal.main_arg1)
          ∧ r.2.mem ((c.tc : Thread Cert.StepsIdeal.nD Cert.StepsIdeal.τ).loc Cert.StepsIdeal.main_arg2) = m ((c.tc : Thread Cert.StepsIdeal.nD Cert.StepsIdeal.τ).loc Cert.StepsIdeal.main_arg2))
      ∧ θ_run (Cert.StepsRefIdeal.defs (F := Ideal)) (onTc (τ := Cert.StepsRefIdeal.τ) (Cert.StepsRefIdeal.main (F := Ideal))) ⟨m', fun _ => 0, g'⟩ (fun r => ∀ c : Dev Cert.StepsRefIdeal.nD,
          r.2.mem ((c.tc : Thread Cert.StepsRefIdeal.nD Cert.StepsRefIdeal.τ).loc Cert.StepsRefIdeal.main_v2) = v0 c
          ∧ r.2.mem ((c.tc : Thread Cert.StepsRefIdeal.nD Cert.StepsRefIdeal.τ).loc Cert.StepsRefIdeal.main_v9) = v1 c
          ∧ r.2.mem ((c.tc : Thread Cert.StepsRefIdeal.nD Cert.StepsRefIdeal.τ).loc Cert.StepsRefIdeal.main_arg0) = m' ((c.tc : Thread Cert.StepsRefIdeal.nD Cert.StepsRefIdeal.τ).loc Cert.StepsRefIdeal.main_arg0)
          ∧ r.2.mem ((c.tc : Thread Cert.StepsRefIdeal.nD Cert.StepsRefIdeal.τ).loc Cert.StepsRefIdeal.main_arg1) = m' ((c.tc : Thread Cert.StepsRefIdeal.nD Cert.StepsRefIdeal.τ).loc Cert.StepsRefIdeal.main_arg1)
          ∧ r.2.mem ((c.tc : Thread Cert.StepsRefIdeal.nD Cert.StepsRefIdeal.τ).loc Cert.StepsRefIdeal.main_arg2) = m' ((c.tc : Thread Cert.StepsRefIdeal.nD Cert.StepsRefIdeal.τ).loc Cert.StepsRefIdeal.main_arg2))

def preserves_GateBack_GateBackIdeal : Prop :=
  True

def algebraic_GateBackIdeal_GateBackRefIdeal [hGateBackIdeal : Cert.GateBackIdeal.Facts] [hGateBackRefIdeal : Cert.GateBackRefIdeal.Facts] : Prop :=
  ∀ (m : (ℓ : Loc Cert.GateBackIdeal.nD Cert.GateBackIdeal.τ Cert.GateBackIdeal.sig) → Buf (Elt Ideal) ℓ) (g : Dev Cert.GateBackIdeal.nD → PrngReg)
    (m' : (ℓ : Loc Cert.GateBackRefIdeal.nD Cert.GateBackRefIdeal.τ Cert.GateBackRefIdeal.sig) → Buf (Elt Ideal) ℓ) (g' : Dev Cert.GateBackRefIdeal.nD → PrngReg), Pre_GateBackIdeal m →
    (∀ c : Dev Cert.GateBackIdeal.nD,
      m' ((c.tc : Thread Cert.GateBackRefIdeal.nD Cert.GateBackRefIdeal.τ).loc Cert.GateBackRefIdeal.main_arg0) = m ((c.tc : Thread Cert.GateBackIdeal.nD Cert.GateBackIdeal.τ).loc Cert.GateBackIdeal.main_arg0)
      ∧ m' ((c.tc : Thread Cert.GateBackRefIdeal.nD Cert.GateBackRefIdeal.τ).loc Cert.GateBackRefIdeal.main_arg1) = m ((c.tc : Thread Cert.GateBackIdeal.nD Cert.GateBackIdeal.τ).loc Cert.GateBackIdeal.main_arg1)
      ∧ m' ((c.tc : Thread Cert.GateBackRefIdeal.nD Cert.GateBackRefIdeal.τ).loc Cert.GateBackRefIdeal.main_arg2) = m ((c.tc : Thread Cert.GateBackIdeal.nD Cert.GateBackIdeal.τ).loc Cert.GateBackIdeal.main_arg2)) →
    ∃ (v0 : (c : Dev Cert.GateBackIdeal.nD) → Buf (Elt Ideal) ((c.tc : Thread Cert.GateBackIdeal.nD Cert.GateBackIdeal.τ).loc Cert.GateBackIdeal.main_v0_0)) (v1 : (c : Dev Cert.GateBackIdeal.nD) → Buf (Elt Ideal) ((c.tc : Thread Cert.GateBackIdeal.nD Cert.GateBackIdeal.τ).loc Cert.GateBackIdeal.main_v0_1)) (v2 : (c : Dev Cert.GateBackIdeal.nD) → Buf (Elt Ideal) ((c.tc : Thread Cert.GateBackIdeal.nD Cert.GateBackIdeal.τ).loc Cert.GateBackIdeal.main_v0_2)),
      θ_run (Cert.GateBackIdeal.defs (F := Ideal)) (onTc (τ := Cert.GateBackIdeal.τ) (Cert.GateBackIdeal.main (F := Ideal))) ⟨m, fun _ => 0, g⟩ (fun r => ∀ c : Dev Cert.GateBackIdeal.nD,
          r.2.mem ((c.tc : Thread Cert.GateBackIdeal.nD Cert.GateBackIdeal.τ).loc Cert.GateBackIdeal.main_v0_0) = v0 c
          ∧ r.2.mem ((c.tc : Thread Cert.GateBackIdeal.nD Cert.GateBackIdeal.τ).loc Cert.GateBackIdeal.main_v0_1) = v1 c
          ∧ r.2.mem ((c.tc : Thread Cert.GateBackIdeal.nD Cert.GateBackIdeal.τ).loc Cert.GateBackIdeal.main_v0_2) = v2 c
          ∧ r.2.mem ((c.tc : Thread Cert.GateBackIdeal.nD Cert.GateBackIdeal.τ).loc Cert.GateBackIdeal.main_arg0) = m ((c.tc : Thread Cert.GateBackIdeal.nD Cert.GateBackIdeal.τ).loc Cert.GateBackIdeal.main_arg0)
          ∧ r.2.mem ((c.tc : Thread Cert.GateBackIdeal.nD Cert.GateBackIdeal.τ).loc Cert.GateBackIdeal.main_arg1) = m ((c.tc : Thread Cert.GateBackIdeal.nD Cert.GateBackIdeal.τ).loc Cert.GateBackIdeal.main_arg1)
          ∧ r.2.mem ((c.tc : Thread Cert.GateBackIdeal.nD Cert.GateBackIdeal.τ).loc Cert.GateBackIdeal.main_arg2) = m ((c.tc : Thread Cert.GateBackIdeal.nD Cert.GateBackIdeal.τ).loc Cert.GateBackIdeal.main_arg2))
      ∧ θ_run (Cert.GateBackRefIdeal.defs (F := Ideal)) (onTc (τ := Cert.GateBackRefIdeal.τ) (Cert.GateBackRefIdeal.main (F := Ideal))) ⟨m', fun _ => 0, g'⟩ (fun r => ∀ c : Dev Cert.GateBackRefIdeal.nD,
          r.2.mem ((c.tc : Thread Cert.GateBackRefIdeal.nD Cert.GateBackRefIdeal.τ).loc Cert.GateBackRefIdeal.main_v8) = v0 c
          ∧ r.2.mem ((c.tc : Thread Cert.GateBackRefIdeal.nD Cert.GateBackRefIdeal.τ).loc Cert.GateBackRefIdeal.main_v12) = v1 c
          ∧ r.2.mem ((c.tc : Thread Cert.GateBackRefIdeal.nD Cert.GateBackRefIdeal.τ).loc Cert.GateBackRefIdeal.main_v7) = v2 c
          ∧ r.2.mem ((c.tc : Thread Cert.GateBackRefIdeal.nD Cert.GateBackRefIdeal.τ).loc Cert.GateBackRefIdeal.main_arg0) = m' ((c.tc : Thread Cert.GateBackRefIdeal.nD Cert.GateBackRefIdeal.τ).loc Cert.GateBackRefIdeal.main_arg0)
          ∧ r.2.mem ((c.tc : Thread Cert.GateBackRefIdeal.nD Cert.GateBackRefIdeal.τ).loc Cert.GateBackRefIdeal.main_arg1) = m' ((c.tc : Thread Cert.GateBackRefIdeal.nD Cert.GateBackRefIdeal.τ).loc Cert.GateBackRefIdeal.main_arg1)
          ∧ r.2.mem ((c.tc : Thread Cert.GateBackRefIdeal.nD Cert.GateBackRefIdeal.τ).loc Cert.GateBackRefIdeal.main_arg2) = m' ((c.tc : Thread Cert.GateBackRefIdeal.nD Cert.GateBackRefIdeal.τ).loc Cert.GateBackRefIdeal.main_arg2))

def preserves_ConvGrad_ConvGradIdeal : Prop :=
  True

def algebraic_ConvGradIdeal_ConvGradRefIdeal [hConvGradIdeal : Cert.ConvGradIdeal.Facts] [hConvGradRefIdeal : Cert.ConvGradRefIdeal.Facts] : Prop :=
  ∀ (m : (ℓ : Loc Cert.ConvGradIdeal.nD Cert.ConvGradIdeal.τ Cert.ConvGradIdeal.sig) → Buf (Elt Ideal) ℓ) (g : Dev Cert.ConvGradIdeal.nD → PrngReg)
    (m' : (ℓ : Loc Cert.ConvGradRefIdeal.nD Cert.ConvGradRefIdeal.τ Cert.ConvGradRefIdeal.sig) → Buf (Elt Ideal) ℓ) (g' : Dev Cert.ConvGradRefIdeal.nD → PrngReg), Pre_ConvGradIdeal m →
    (∀ c : Dev Cert.ConvGradIdeal.nD,
      m' ((c.tc : Thread Cert.ConvGradRefIdeal.nD Cert.ConvGradRefIdeal.τ).loc Cert.ConvGradRefIdeal.main_arg0) = m ((c.tc : Thread Cert.ConvGradIdeal.nD Cert.ConvGradIdeal.τ).loc Cert.ConvGradIdeal.main_arg0)
      ∧ m' ((c.tc : Thread Cert.ConvGradRefIdeal.nD Cert.ConvGradRefIdeal.τ).loc Cert.ConvGradRefIdeal.main_arg1) = m ((c.tc : Thread Cert.ConvGradIdeal.nD Cert.ConvGradIdeal.τ).loc Cert.ConvGradIdeal.main_arg1)
      ∧ m' ((c.tc : Thread Cert.ConvGradRefIdeal.nD Cert.ConvGradRefIdeal.τ).loc Cert.ConvGradRefIdeal.main_arg2) = m ((c.tc : Thread Cert.ConvGradIdeal.nD Cert.ConvGradIdeal.τ).loc Cert.ConvGradIdeal.main_arg2)
      ∧ m' ((c.tc : Thread Cert.ConvGradRefIdeal.nD Cert.ConvGradRefIdeal.τ).loc Cert.ConvGradRefIdeal.main_arg3) = m ((c.tc : Thread Cert.ConvGradIdeal.nD Cert.ConvGradIdeal.τ).loc Cert.ConvGradIdeal.main_arg3)) →
    ∃ (v0 : (c : Dev Cert.ConvGradIdeal.nD) → Buf (Elt Ideal) ((c.tc : Thread Cert.ConvGradIdeal.nD Cert.ConvGradIdeal.τ).loc Cert.ConvGradIdeal.main_v0_0)) (v1 : (c : Dev Cert.ConvGradIdeal.nD) → Buf (Elt Ideal) ((c.tc : Thread Cert.ConvGradIdeal.nD Cert.ConvGradIdeal.τ).loc Cert.ConvGradIdeal.main_v0_1)) (v2 : (c : Dev Cert.ConvGradIdeal.nD) → Buf (Elt Ideal) ((c.tc : Thread Cert.ConvGradIdeal.nD Cert.ConvGradIdeal.τ).loc Cert.ConvGradIdeal.main_v0_2)),
      θ_run (Cert.ConvGradIdeal.defs (F := Ideal)) (onTc (τ := Cert.ConvGradIdeal.τ) (Cert.ConvGradIdeal.main (F := Ideal))) ⟨m, fun _ => 0, g⟩ (fun r => ∀ c : Dev Cert.ConvGradIdeal.nD,
          r.2.mem ((c.tc : Thread Cert.ConvGradIdeal.nD Cert.ConvGradIdeal.τ).loc Cert.ConvGradIdeal.main_v0_0) = v0 c
          ∧ r.2.mem ((c.tc : Thread Cert.ConvGradIdeal.nD Cert.ConvGradIdeal.τ).loc Cert.ConvGradIdeal.main_v0_1) = v1 c
          ∧ r.2.mem ((c.tc : Thread Cert.ConvGradIdeal.nD Cert.ConvGradIdeal.τ).loc Cert.ConvGradIdeal.main_v0_2) = v2 c
          ∧ r.2.mem ((c.tc : Thread Cert.ConvGradIdeal.nD Cert.ConvGradIdeal.τ).loc Cert.ConvGradIdeal.main_arg0) = m ((c.tc : Thread Cert.ConvGradIdeal.nD Cert.ConvGradIdeal.τ).loc Cert.ConvGradIdeal.main_arg0)
          ∧ r.2.mem ((c.tc : Thread Cert.ConvGradIdeal.nD Cert.ConvGradIdeal.τ).loc Cert.ConvGradIdeal.main_arg1) = m ((c.tc : Thread Cert.ConvGradIdeal.nD Cert.ConvGradIdeal.τ).loc Cert.ConvGradIdeal.main_arg1)
          ∧ r.2.mem ((c.tc : Thread Cert.ConvGradIdeal.nD Cert.ConvGradIdeal.τ).loc Cert.ConvGradIdeal.main_arg2) = m ((c.tc : Thread Cert.ConvGradIdeal.nD Cert.ConvGradIdeal.τ).loc Cert.ConvGradIdeal.main_arg2)
          ∧ r.2.mem ((c.tc : Thread Cert.ConvGradIdeal.nD Cert.ConvGradIdeal.τ).loc Cert.ConvGradIdeal.main_arg3) = m ((c.tc : Thread Cert.ConvGradIdeal.nD Cert.ConvGradIdeal.τ).loc Cert.ConvGradIdeal.main_arg3))
      ∧ θ_run (Cert.ConvGradRefIdeal.defs (F := Ideal)) (onTc (τ := Cert.ConvGradRefIdeal.τ) (Cert.ConvGradRefIdeal.main (F := Ideal))) ⟨m', fun _ => 0, g'⟩ (fun r => ∀ c : Dev Cert.ConvGradRefIdeal.nD,
          r.2.mem ((c.tc : Thread Cert.ConvGradRefIdeal.nD Cert.ConvGradRefIdeal.τ).loc Cert.ConvGradRefIdeal.main_v33) = v0 c
          ∧ r.2.mem ((c.tc : Thread Cert.ConvGradRefIdeal.nD Cert.ConvGradRefIdeal.τ).loc Cert.ConvGradRefIdeal.main_v51) = v1 c
          ∧ r.2.mem ((c.tc : Thread Cert.ConvGradRefIdeal.nD Cert.ConvGradRefIdeal.τ).loc Cert.ConvGradRefIdeal.main_v53) = v2 c
          ∧ r.2.mem ((c.tc : Thread Cert.ConvGradRefIdeal.nD Cert.ConvGradRefIdeal.τ).loc Cert.ConvGradRefIdeal.main_arg0) = m' ((c.tc : Thread Cert.ConvGradRefIdeal.nD Cert.ConvGradRefIdeal.τ).loc Cert.ConvGradRefIdeal.main_arg0)
          ∧ r.2.mem ((c.tc : Thread Cert.ConvGradRefIdeal.nD Cert.ConvGradRefIdeal.τ).loc Cert.ConvGradRefIdeal.main_arg1) = m' ((c.tc : Thread Cert.ConvGradRefIdeal.nD Cert.ConvGradRefIdeal.τ).loc Cert.ConvGradRefIdeal.main_arg1)
          ∧ r.2.mem ((c.tc : Thread Cert.ConvGradRefIdeal.nD Cert.ConvGradRefIdeal.τ).loc Cert.ConvGradRefIdeal.main_arg2) = m' ((c.tc : Thread Cert.ConvGradRefIdeal.nD Cert.ConvGradRefIdeal.τ).loc Cert.ConvGradRefIdeal.main_arg2)
          ∧ r.2.mem ((c.tc : Thread Cert.ConvGradRefIdeal.nD Cert.ConvGradRefIdeal.τ).loc Cert.ConvGradRefIdeal.main_arg3) = m' ((c.tc : Thread Cert.ConvGradRefIdeal.nD Cert.ConvGradRefIdeal.τ).loc Cert.ConvGradRefIdeal.main_arg3))

def preserves_Combine_CombineIdeal : Prop :=
  True

def algebraic_CombineIdeal_CombineRefIdeal_pre_finite_lse [hCombineIdeal : Cert.CombineIdeal.Facts] [hCombineRefIdeal : Cert.CombineRefIdeal.Facts] [hPre_finite_lse : Cert.Pre_finite_lse.Facts] : Prop :=
  ∀ (m : (ℓ : Loc Cert.CombineIdeal.nD Cert.CombineIdeal.τ Cert.CombineIdeal.sig) → Buf (Elt Ideal) ℓ) (g : Dev Cert.CombineIdeal.nD → PrngReg)
    (m' : (ℓ : Loc Cert.CombineRefIdeal.nD Cert.CombineRefIdeal.τ Cert.CombineRefIdeal.sig) → Buf (Elt Ideal) ℓ) (g' : Dev Cert.CombineRefIdeal.nD → PrngReg), Pre_CombineIdeal_finite_lse m →
    (∀ c : Dev Cert.CombineIdeal.nD,
      m' ((c.tc : Thread Cert.CombineRefIdeal.nD Cert.CombineRefIdeal.τ).loc Cert.CombineRefIdeal.main_arg0) = m ((c.tc : Thread Cert.CombineIdeal.nD Cert.CombineIdeal.τ).loc Cert.CombineIdeal.main_arg0)
      ∧ m' ((c.tc : Thread Cert.CombineRefIdeal.nD Cert.CombineRefIdeal.τ).loc Cert.CombineRefIdeal.main_arg1) = m ((c.tc : Thread Cert.CombineIdeal.nD Cert.CombineIdeal.τ).loc Cert.CombineIdeal.main_arg1)
      ∧ m' ((c.tc : Thread Cert.CombineRefIdeal.nD Cert.CombineRefIdeal.τ).loc Cert.CombineRefIdeal.main_arg2) = m ((c.tc : Thread Cert.CombineIdeal.nD Cert.CombineIdeal.τ).loc Cert.CombineIdeal.main_arg2)
      ∧ m' ((c.tc : Thread Cert.CombineRefIdeal.nD Cert.CombineRefIdeal.τ).loc Cert.CombineRefIdeal.main_arg3) = m ((c.tc : Thread Cert.CombineIdeal.nD Cert.CombineIdeal.τ).loc Cert.CombineIdeal.main_arg3)
      ∧ m' ((c.tc : Thread Cert.CombineRefIdeal.nD Cert.CombineRefIdeal.τ).loc Cert.CombineRefIdeal.main_arg4) = m ((c.tc : Thread Cert.CombineIdeal.nD Cert.CombineIdeal.τ).loc Cert.CombineIdeal.main_arg4)) →
    ∃ (v0 : (c : Dev Cert.CombineIdeal.nD) → Buf (Elt Ideal) ((c.tc : Thread Cert.CombineIdeal.nD Cert.CombineIdeal.τ).loc Cert.CombineIdeal.main_v0_0)) (v1 : (c : Dev Cert.CombineIdeal.nD) → Buf (Elt Ideal) ((c.tc : Thread Cert.CombineIdeal.nD Cert.CombineIdeal.τ).loc Cert.CombineIdeal.main_v0_1)) (v2 : (c : Dev Cert.CombineIdeal.nD) → Buf (Elt Ideal) ((c.tc : Thread Cert.CombineIdeal.nD Cert.CombineIdeal.τ).loc Cert.CombineIdeal.main_v0_2)),
      θ_run (Cert.CombineIdeal.defs (F := Ideal)) (onTc (τ := Cert.CombineIdeal.τ) (Cert.CombineIdeal.main (F := Ideal))) ⟨m, fun _ => 0, g⟩ (fun r => ∀ c : Dev Cert.CombineIdeal.nD,
          r.2.mem ((c.tc : Thread Cert.CombineIdeal.nD Cert.CombineIdeal.τ).loc Cert.CombineIdeal.main_v0_0) = v0 c
          ∧ r.2.mem ((c.tc : Thread Cert.CombineIdeal.nD Cert.CombineIdeal.τ).loc Cert.CombineIdeal.main_v0_1) = v1 c
          ∧ r.2.mem ((c.tc : Thread Cert.CombineIdeal.nD Cert.CombineIdeal.τ).loc Cert.CombineIdeal.main_v0_2) = v2 c
          ∧ r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
          ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
          ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
          ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
          ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4))
      ∧ θ_run (Cert.CombineRefIdeal.defs (F := Ideal)) (onTc (τ := Cert.CombineRefIdeal.τ) (Cert.CombineRefIdeal.main (F := Ideal))) ⟨m', fun _ => 0, g'⟩ (fun r => ∀ c : Dev Cert.CombineRefIdeal.nD,
          r.2.mem ((c.tc : Thread Cert.CombineRefIdeal.nD Cert.CombineRefIdeal.τ).loc Cert.CombineRefIdeal.main_v21) = v0 c
          ∧ r.2.mem ((c.tc : Thread Cert.CombineRefIdeal.nD Cert.CombineRefIdeal.τ).loc Cert.CombineRefIdeal.main_v17) = v1 c
          ∧ r.2.mem ((c.tc : Thread Cert.CombineRefIdeal.nD Cert.CombineRefIdeal.τ).loc Cert.CombineRefIdeal.main_v24) = v2 c
          ∧ r.2.mem ((c.tc : Thread Cert.CombineRefIdeal.nD Cert.CombineRefIdeal.τ).loc Cert.CombineRefIdeal.main_arg0) = m' ((c.tc : Thread Cert.CombineRefIdeal.nD Cert.CombineRefIdeal.τ).loc Cert.CombineRefIdeal.main_arg0)
          ∧ r.2.mem ((c.tc : Thread Cert.CombineRefIdeal.nD Cert.CombineRefIdeal.τ).loc Cert.CombineRefIdeal.main_arg1) = m' ((c.tc : Thread Cert.CombineRefIdeal.nD Cert.CombineRefIdeal.τ).loc Cert.CombineRefIdeal.main_arg1)
          ∧ r.2.mem ((c.tc : Thread Cert.CombineRefIdeal.nD Cert.CombineRefIdeal.τ).loc Cert.CombineRefIdeal.main_arg2) = m' ((c.tc : Thread Cert.CombineRefIdeal.nD Cert.CombineRefIdeal.τ).loc Cert.CombineRefIdeal.main_arg2)
          ∧ r.2.mem ((c.tc : Thread Cert.CombineRefIdeal.nD Cert.CombineRefIdeal.τ).loc Cert.CombineRefIdeal.main_arg3) = m' ((c.tc : Thread Cert.CombineRefIdeal.nD Cert.CombineRefIdeal.τ).loc Cert.CombineRefIdeal.main_arg3)
          ∧ r.2.mem ((c.tc : Thread Cert.CombineRefIdeal.nD Cert.CombineRefIdeal.τ).loc Cert.CombineRefIdeal.main_arg4) = m' ((c.tc : Thread Cert.CombineRefIdeal.nD Cert.CombineRefIdeal.τ).loc Cert.CombineRefIdeal.main_arg4))

def preserves_StepBack_StepBackIdeal : Prop :=
  True

def algebraic_StepBackIdeal_StepBackRefIdeal_pre_finite_rates [hStepBackIdeal : Cert.StepBackIdeal.Facts] [hStepBackRefIdeal : Cert.StepBackRefIdeal.Facts] [hPre_finite_rates : Cert.Pre_finite_rates.Facts] : Prop :=
  ∀ (m : (ℓ : Loc Cert.StepBackIdeal.nD Cert.StepBackIdeal.τ Cert.StepBackIdeal.sig) → Buf (Elt Ideal) ℓ) (g : Dev Cert.StepBackIdeal.nD → PrngReg)
    (m' : (ℓ : Loc Cert.StepBackRefIdeal.nD Cert.StepBackRefIdeal.τ Cert.StepBackRefIdeal.sig) → Buf (Elt Ideal) ℓ) (g' : Dev Cert.StepBackRefIdeal.nD → PrngReg), Pre_StepBackIdeal_finite_rates m →
    (∀ c : Dev Cert.StepBackIdeal.nD,
      m' ((c.tc : Thread Cert.StepBackRefIdeal.nD Cert.StepBackRefIdeal.τ).loc Cert.StepBackRefIdeal.main_arg0) = m ((c.tc : Thread Cert.StepBackIdeal.nD Cert.StepBackIdeal.τ).loc Cert.StepBackIdeal.main_arg0)
      ∧ m' ((c.tc : Thread Cert.StepBackRefIdeal.nD Cert.StepBackRefIdeal.τ).loc Cert.StepBackRefIdeal.main_arg1) = m ((c.tc : Thread Cert.StepBackIdeal.nD Cert.StepBackIdeal.τ).loc Cert.StepBackIdeal.main_arg1)
      ∧ m' ((c.tc : Thread Cert.StepBackRefIdeal.nD Cert.StepBackRefIdeal.τ).loc Cert.StepBackRefIdeal.main_arg2) = m ((c.tc : Thread Cert.StepBackIdeal.nD Cert.StepBackIdeal.τ).loc Cert.StepBackIdeal.main_arg2)
      ∧ m' ((c.tc : Thread Cert.StepBackRefIdeal.nD Cert.StepBackRefIdeal.τ).loc Cert.StepBackRefIdeal.main_arg3) = m ((c.tc : Thread Cert.StepBackIdeal.nD Cert.StepBackIdeal.τ).loc Cert.StepBackIdeal.main_arg3)
      ∧ m' ((c.tc : Thread Cert.StepBackRefIdeal.nD Cert.StepBackRefIdeal.τ).loc Cert.StepBackRefIdeal.main_arg4) = m ((c.tc : Thread Cert.StepBackIdeal.nD Cert.StepBackIdeal.τ).loc Cert.StepBackIdeal.main_arg4)
      ∧ m' ((c.tc : Thread Cert.StepBackRefIdeal.nD Cert.StepBackRefIdeal.τ).loc Cert.StepBackRefIdeal.main_arg5) = m ((c.tc : Thread Cert.StepBackIdeal.nD Cert.StepBackIdeal.τ).loc Cert.StepBackIdeal.main_arg5)) →
    ∃ (v0 : (c : Dev Cert.StepBackIdeal.nD) → Buf (Elt Ideal) ((c.tc : Thread Cert.StepBackIdeal.nD Cert.StepBackIdeal.τ).loc Cert.StepBackIdeal.main_v0_0)) (v1 : (c : Dev Cert.StepBackIdeal.nD) → Buf (Elt Ideal) ((c.tc : Thread Cert.StepBackIdeal.nD Cert.StepBackIdeal.τ).loc Cert.StepBackIdeal.main_v0_1)) (v2 : (c : Dev Cert.StepBackIdeal.nD) → Buf (Elt Ideal) ((c.tc : Thread Cert.StepBackIdeal.nD Cert.StepBackIdeal.τ).loc Cert.StepBackIdeal.main_v0_2)),
      θ_run (Cert.StepBackIdeal.defs (F := Ideal)) (onTc (τ := Cert.StepBackIdeal.τ) (Cert.StepBackIdeal.main (F := Ideal))) ⟨m, fun _ => 0, g⟩ (fun r => ∀ c : Dev Cert.StepBackIdeal.nD,
          r.2.mem ((c.tc : Thread Cert.StepBackIdeal.nD Cert.StepBackIdeal.τ).loc Cert.StepBackIdeal.main_v0_0) = v0 c
          ∧ r.2.mem ((c.tc : Thread Cert.StepBackIdeal.nD Cert.StepBackIdeal.τ).loc Cert.StepBackIdeal.main_v0_1) = v1 c
          ∧ r.2.mem ((c.tc : Thread Cert.StepBackIdeal.nD Cert.StepBackIdeal.τ).loc Cert.StepBackIdeal.main_v0_2) = v2 c
          ∧ r.2.mem ((c.tc : Thread Cert.StepBackIdeal.nD Cert.StepBackIdeal.τ).loc Cert.StepBackIdeal.main_arg0) = m ((c.tc : Thread Cert.StepBackIdeal.nD Cert.StepBackIdeal.τ).loc Cert.StepBackIdeal.main_arg0)
          ∧ r.2.mem ((c.tc : Thread Cert.StepBackIdeal.nD Cert.StepBackIdeal.τ).loc Cert.StepBackIdeal.main_arg1) = m ((c.tc : Thread Cert.StepBackIdeal.nD Cert.StepBackIdeal.τ).loc Cert.StepBackIdeal.main_arg1)
          ∧ r.2.mem ((c.tc : Thread Cert.StepBackIdeal.nD Cert.StepBackIdeal.τ).loc Cert.StepBackIdeal.main_arg2) = m ((c.tc : Thread Cert.StepBackIdeal.nD Cert.StepBackIdeal.τ).loc Cert.StepBackIdeal.main_arg2)
          ∧ r.2.mem ((c.tc : Thread Cert.StepBackIdeal.nD Cert.StepBackIdeal.τ).loc Cert.StepBackIdeal.main_arg3) = m ((c.tc : Thread Cert.StepBackIdeal.nD Cert.StepBackIdeal.τ).loc Cert.StepBackIdeal.main_arg3)
          ∧ r.2.mem ((c.tc : Thread Cert.StepBackIdeal.nD Cert.StepBackIdeal.τ).loc Cert.StepBackIdeal.main_arg4) = m ((c.tc : Thread Cert.StepBackIdeal.nD Cert.StepBackIdeal.τ).loc Cert.StepBackIdeal.main_arg4)
          ∧ r.2.mem ((c.tc : Thread Cert.StepBackIdeal.nD Cert.StepBackIdeal.τ).loc Cert.StepBackIdeal.main_arg5) = m ((c.tc : Thread Cert.StepBackIdeal.nD Cert.StepBackIdeal.τ).loc Cert.StepBackIdeal.main_arg5))
      ∧ θ_run (Cert.StepBackRefIdeal.defs (F := Ideal)) (onTc (τ := Cert.StepBackRefIdeal.τ) (Cert.StepBackRefIdeal.main (F := Ideal))) ⟨m', fun _ => 0, g'⟩ (fun r => ∀ c : Dev Cert.StepBackRefIdeal.nD,
          r.2.mem ((c.tc : Thread Cert.StepBackRefIdeal.nD Cert.StepBackRefIdeal.τ).loc Cert.StepBackRefIdeal.main_v21) = v0 c
          ∧ r.2.mem ((c.tc : Thread Cert.StepBackRefIdeal.nD Cert.StepBackRefIdeal.τ).loc Cert.StepBackRefIdeal.main_v23) = v1 c
          ∧ r.2.mem ((c.tc : Thread Cert.StepBackRefIdeal.nD Cert.StepBackRefIdeal.τ).loc Cert.StepBackRefIdeal.main_v10) = v2 c
          ∧ r.2.mem ((c.tc : Thread Cert.StepBackRefIdeal.nD Cert.StepBackRefIdeal.τ).loc Cert.StepBackRefIdeal.main_arg0) = m' ((c.tc : Thread Cert.StepBackRefIdeal.nD Cert.StepBackRefIdeal.τ).loc Cert.StepBackRefIdeal.main_arg0)
          ∧ r.2.mem ((c.tc : Thread Cert.StepBackRefIdeal.nD Cert.StepBackRefIdeal.τ).loc Cert.StepBackRefIdeal.main_arg1) = m' ((c.tc : Thread Cert.StepBackRefIdeal.nD Cert.StepBackRefIdeal.τ).loc Cert.StepBackRefIdeal.main_arg1)
          ∧ r.2.mem ((c.tc : Thread Cert.StepBackRefIdeal.nD Cert.StepBackRefIdeal.τ).loc Cert.StepBackRefIdeal.main_arg2) = m' ((c.tc : Thread Cert.StepBackRefIdeal.nD Cert.StepBackRefIdeal.τ).loc Cert.StepBackRefIdeal.main_arg2)
          ∧ r.2.mem ((c.tc : Thread Cert.StepBackRefIdeal.nD Cert.StepBackRefIdeal.τ).loc Cert.StepBackRefIdeal.main_arg3) = m' ((c.tc : Thread Cert.StepBackRefIdeal.nD Cert.StepBackRefIdeal.τ).loc Cert.StepBackRefIdeal.main_arg3)
          ∧ r.2.mem ((c.tc : Thread Cert.StepBackRefIdeal.nD Cert.StepBackRefIdeal.τ).loc Cert.StepBackRefIdeal.main_arg4) = m' ((c.tc : Thread Cert.StepBackRefIdeal.nD Cert.StepBackRefIdeal.τ).loc Cert.StepBackRefIdeal.main_arg4)
          ∧ r.2.mem ((c.tc : Thread Cert.StepBackRefIdeal.nD Cert.StepBackRefIdeal.τ).loc Cert.StepBackRefIdeal.main_arg5) = m' ((c.tc : Thread Cert.StepBackRefIdeal.nD Cert.StepBackRefIdeal.τ).loc Cert.StepBackRefIdeal.main_arg5))

def bitexact_Scatter_ScatterRef [hScatter : Cert.Scatter.Facts] [hScatterRef : Cert.ScatterRef.Facts] : Prop :=
  ∀ (m : (ℓ : Loc Cert.Scatter.nD Cert.Scatter.τ Cert.Scatter.sig) → Buf (Elt Bits) ℓ) (g : Dev Cert.Scatter.nD → PrngReg)
    (m' : (ℓ : Loc Cert.ScatterRef.nD Cert.ScatterRef.τ Cert.ScatterRef.sig) → Buf (Elt Bits) ℓ) (g' : Dev Cert.ScatterRef.nD → PrngReg), Pre_Scatter m →
    (∀ c : Dev Cert.Scatter.nD,
      m ((c.tc : Thread Cert.Scatter.nD Cert.Scatter.τ).loc Cert.Scatter.main_arg0) = Layout.block ⟨3, ![8, 2048, 2824]⟩ ⟨3, ![64, 2048, 2824]⟩ 0 8 c (m' (((0 : Dev Cert.ScatterRef.nD).tc : Thread Cert.ScatterRef.nD Cert.ScatterRef.τ).loc Cert.ScatterRef.main_arg0))
      ∧ m ((c.tc : Thread Cert.Scatter.nD Cert.Scatter.τ).loc Cert.Scatter.main_arg1) = Layout.block ⟨3, ![8, 256, 2048]⟩ ⟨3, ![64, 256, 2048]⟩ 0 8 c (m' (((0 : Dev Cert.ScatterRef.nD).tc : Thread Cert.ScatterRef.nD Cert.ScatterRef.τ).loc Cert.ScatterRef.main_arg1))
      ∧ m ((c.tc : Thread Cert.Scatter.nD Cert.Scatter.τ).loc Cert.Scatter.main_arg2) = Layout.block ⟨3, ![8, 512, 2048]⟩ ⟨3, ![64, 512, 2048]⟩ 0 8 c (m' (((0 : Dev Cert.ScatterRef.nD).tc : Thread Cert.ScatterRef.nD Cert.ScatterRef.τ).loc Cert.ScatterRef.main_arg2))
      ∧ m ((c.tc : Thread Cert.Scatter.nD Cert.Scatter.τ).loc Cert.Scatter.main_arg3) = Layout.block ⟨3, ![8, 256, 2048]⟩ ⟨3, ![64, 256, 2048]⟩ 0 8 c (m' (((0 : Dev Cert.ScatterRef.nD).tc : Thread Cert.ScatterRef.nD Cert.ScatterRef.τ).loc Cert.ScatterRef.main_arg3))) →
    ∃ (v0 : Buf (Elt Bits) (((0 : Dev Cert.ScatterRef.nD).tc : Thread Cert.ScatterRef.nD Cert.ScatterRef.τ).loc Cert.ScatterRef.main_v2)) (v1 : Buf (Elt Bits) (((0 : Dev Cert.ScatterRef.nD).tc : Thread Cert.ScatterRef.nD Cert.ScatterRef.τ).loc Cert.ScatterRef.main_v5)) (v2 : Buf (Elt Bits) (((0 : Dev Cert.ScatterRef.nD).tc : Thread Cert.ScatterRef.nD Cert.ScatterRef.τ).loc Cert.ScatterRef.main_v8)) (v3 : Buf (Elt Bits) (((0 : Dev Cert.ScatterRef.nD).tc : Thread Cert.ScatterRef.nD Cert.ScatterRef.τ).loc Cert.ScatterRef.main_v11)),
      θ_run (Cert.Scatter.defs (F := Bits)) (onTc (τ := Cert.Scatter.τ) (Cert.Scatter.main (F := Bits))) ⟨m, fun _ => 0, g⟩ (fun r => ∀ c : Dev Cert.Scatter.nD,
          r.2.mem ((c.tc : Thread Cert.Scatter.nD Cert.Scatter.τ).loc Cert.Scatter.main_v1_0) = Layout.block ⟨3, ![8, 2048, 2824]⟩ ⟨3, ![64, 2048, 2824]⟩ 0 8 c v0
          ∧ r.2.mem ((c.tc : Thread Cert.Scatter.nD Cert.Scatter.τ).loc Cert.Scatter.main_v1_1) = Layout.block ⟨3, ![8, 256, 2048]⟩ ⟨3, ![64, 256, 2048]⟩ 0 8 c v1
          ∧ r.2.mem ((c.tc : Thread Cert.Scatter.nD Cert.Scatter.τ).loc Cert.Scatter.main_v1_2) = Layout.block ⟨3, ![8, 512, 2048]⟩ ⟨3, ![64, 512, 2048]⟩ 0 8 c v2
          ∧ r.2.mem ((c.tc : Thread Cert.Scatter.nD Cert.Scatter.τ).loc Cert.Scatter.main_v1_3) = Layout.block ⟨3, ![8, 256, 2048]⟩ ⟨3, ![64, 256, 2048]⟩ 0 8 c v3
          ∧ r.2.mem ((c.tc : Thread Cert.Scatter.nD Cert.Scatter.τ).loc Cert.Scatter.main_arg0) = m ((c.tc : Thread Cert.Scatter.nD Cert.Scatter.τ).loc Cert.Scatter.main_arg0)
          ∧ r.2.mem ((c.tc : Thread Cert.Scatter.nD Cert.Scatter.τ).loc Cert.Scatter.main_arg1) = m ((c.tc : Thread Cert.Scatter.nD Cert.Scatter.τ).loc Cert.Scatter.main_arg1)
          ∧ r.2.mem ((c.tc : Thread Cert.Scatter.nD Cert.Scatter.τ).loc Cert.Scatter.main_arg2) = m ((c.tc : Thread Cert.Scatter.nD Cert.Scatter.τ).loc Cert.Scatter.main_arg2)
          ∧ r.2.mem ((c.tc : Thread Cert.Scatter.nD Cert.Scatter.τ).loc Cert.Scatter.main_arg3) = m ((c.tc : Thread Cert.Scatter.nD Cert.Scatter.τ).loc Cert.Scatter.main_arg3))
      ∧ θ_run (Cert.ScatterRef.defs (F := Bits)) (onTc (τ := Cert.ScatterRef.τ) (Cert.ScatterRef.main (F := Bits))) ⟨m', fun _ => 0, g'⟩ (fun r =>
          r.2.mem (((0 : Dev Cert.ScatterRef.nD).tc : Thread Cert.ScatterRef.nD Cert.ScatterRef.τ).loc Cert.ScatterRef.main_v2) = v0
          ∧ r.2.mem (((0 : Dev Cert.ScatterRef.nD).tc : Thread Cert.ScatterRef.nD Cert.ScatterRef.τ).loc Cert.ScatterRef.main_v5) = v1
          ∧ r.2.mem (((0 : Dev Cert.ScatterRef.nD).tc : Thread Cert.ScatterRef.nD Cert.ScatterRef.τ).loc Cert.ScatterRef.main_v8) = v2
          ∧ r.2.mem (((0 : Dev Cert.ScatterRef.nD).tc : Thread Cert.ScatterRef.nD Cert.ScatterRef.τ).loc Cert.ScatterRef.main_v11) = v3
          ∧ r.2.mem (((0 : Dev Cert.ScatterRef.nD).tc : Thread Cert.ScatterRef.nD Cert.ScatterRef.τ).loc Cert.ScatterRef.main_arg0) = m' (((0 : Dev Cert.ScatterRef.nD).tc : Thread Cert.ScatterRef.nD Cert.ScatterRef.τ).loc Cert.ScatterRef.main_arg0)
          ∧ r.2.mem (((0 : Dev Cert.ScatterRef.nD).tc : Thread Cert.ScatterRef.nD Cert.ScatterRef.τ).loc Cert.ScatterRef.main_arg1) = m' (((0 : Dev Cert.ScatterRef.nD).tc : Thread Cert.ScatterRef.nD Cert.ScatterRef.τ).loc Cert.ScatterRef.main_arg1)
          ∧ r.2.mem (((0 : Dev Cert.ScatterRef.nD).tc : Thread Cert.ScatterRef.nD Cert.ScatterRef.τ).loc Cert.ScatterRef.main_arg2) = m' (((0 : Dev Cert.ScatterRef.nD).tc : Thread Cert.ScatterRef.nD Cert.ScatterRef.τ).loc Cert.ScatterRef.main_arg2)
          ∧ r.2.mem (((0 : Dev Cert.ScatterRef.nD).tc : Thread Cert.ScatterRef.nD Cert.ScatterRef.τ).loc Cert.ScatterRef.main_arg3) = m' (((0 : Dev Cert.ScatterRef.nD).tc : Thread Cert.ScatterRef.nD Cert.ScatterRef.τ).loc Cert.ScatterRef.main_arg3))

def bitexact_Gather_GatherRef [hGather : Cert.Gather.Facts] [hGatherRef : Cert.GatherRef.Facts] : Prop :=
  ∀ (m : (ℓ : Loc Cert.Gather.nD Cert.Gather.τ Cert.Gather.sig) → Buf (Elt Bits) ℓ) (g : Dev Cert.Gather.nD → PrngReg)
    (m' : (ℓ : Loc Cert.GatherRef.nD Cert.GatherRef.τ Cert.GatherRef.sig) → Buf (Elt Bits) ℓ) (g' : Dev Cert.GatherRef.nD → PrngReg), Pre_Gather m →
    (∀ c : Dev Cert.Gather.nD,
      m ((c.tc : Thread Cert.Gather.nD Cert.Gather.τ).loc Cert.Gather.main_arg0) = Layout.block ⟨2, ![2048, 2824]⟩ ⟨2, ![2048, 22592]⟩ 1 8 c (m' (((0 : Dev Cert.GatherRef.nD).tc : Thread Cert.GatherRef.nD Cert.GatherRef.τ).loc Cert.GatherRef.main_arg0))
      ∧ m ((c.tc : Thread Cert.Gather.nD Cert.Gather.τ).loc Cert.Gather.main_arg1) = Layout.block ⟨2, ![256, 2048]⟩ ⟨2, ![2048, 2048]⟩ 0 8 c (m' (((0 : Dev Cert.GatherRef.nD).tc : Thread Cert.GatherRef.nD Cert.GatherRef.τ).loc Cert.GatherRef.main_arg1))
      ∧ m ((c.tc : Thread Cert.Gather.nD Cert.Gather.τ).loc Cert.Gather.main_arg2) = Layout.block ⟨2, ![512, 2048]⟩ ⟨2, ![4096, 2048]⟩ 0 8 c (m' (((0 : Dev Cert.GatherRef.nD).tc : Thread Cert.GatherRef.nD Cert.GatherRef.τ).loc Cert.GatherRef.main_arg2))
      ∧ m ((c.tc : Thread Cert.Gather.nD Cert.Gather.τ).loc Cert.Gather.main_arg3) = Layout.block ⟨2, ![256, 2048]⟩ ⟨2, ![2048, 2048]⟩ 0 8 c (m' (((0 : Dev Cert.GatherRef.nD).tc : Thread Cert.GatherRef.nD Cert.GatherRef.τ).loc Cert.GatherRef.main_arg3))
      ∧ m ((c.tc : Thread Cert.Gather.nD Cert.Gather.τ).loc Cert.Gather.main_arg4) = Layout.block ⟨2, ![4, 768]⟩ ⟨2, ![4, 6144]⟩ 1 8 c (m' (((0 : Dev Cert.GatherRef.nD).tc : Thread Cert.GatherRef.nD Cert.GatherRef.τ).loc Cert.GatherRef.main_arg4))) →
    ∃ (v0 : Buf (Elt Bits) (((0 : Dev Cert.GatherRef.nD).tc : Thread Cert.GatherRef.nD Cert.GatherRef.τ).loc Cert.GatherRef.main_v1)) (v1 : Buf (Elt Bits) (((0 : Dev Cert.GatherRef.nD).tc : Thread Cert.GatherRef.nD Cert.GatherRef.τ).loc Cert.GatherRef.main_v2)) (v2 : Buf (Elt Bits) (((0 : Dev Cert.GatherRef.nD).tc : Thread Cert.GatherRef.nD Cert.GatherRef.τ).loc Cert.GatherRef.main_v3)) (v3 : Buf (Elt Bits) (((0 : Dev Cert.GatherRef.nD).tc : Thread Cert.GatherRef.nD Cert.GatherRef.τ).loc Cert.GatherRef.main_v4)) (v4 : Buf (Elt Bits) (((0 : Dev Cert.GatherRef.nD).tc : Thread Cert.GatherRef.nD Cert.GatherRef.τ).loc Cert.GatherRef.main_v6)),
      θ_run (Cert.Gather.defs (F := Bits)) (onTc (τ := Cert.Gather.τ) (Cert.Gather.main (F := Bits))) ⟨m, fun _ => 0, g⟩ (fun r => ∀ c : Dev Cert.Gather.nD,
          r.2.mem ((c.tc : Thread Cert.Gather.nD Cert.Gather.τ).loc Cert.Gather.main_v1_0) = v0
          ∧ r.2.mem ((c.tc : Thread Cert.Gather.nD Cert.Gather.τ).loc Cert.Gather.main_v1_1) = v1
          ∧ r.2.mem ((c.tc : Thread Cert.Gather.nD Cert.Gather.τ).loc Cert.Gather.main_v1_2) = v2
          ∧ r.2.mem ((c.tc : Thread Cert.Gather.nD Cert.Gather.τ).loc Cert.Gather.main_v1_3) = v3
          ∧ r.2.mem ((c.tc : Thread Cert.Gather.nD Cert.Gather.τ).loc Cert.Gather.main_v1_4) = v4
          ∧ r.2.mem ((c.tc : Thread Cert.Gather.nD Cert.Gather.τ).loc Cert.Gather.main_arg0) = m ((c.tc : Thread Cert.Gather.nD Cert.Gather.τ).loc Cert.Gather.main_arg0)
          ∧ r.2.mem ((c.tc : Thread Cert.Gather.nD Cert.Gather.τ).loc Cert.Gather.main_arg1) = m ((c.tc : Thread Cert.Gather.nD Cert.Gather.τ).loc Cert.Gather.main_arg1)
          ∧ r.2.mem ((c.tc : Thread Cert.Gather.nD Cert.Gather.τ).loc Cert.Gather.main_arg2) = m ((c.tc : Thread Cert.Gather.nD Cert.Gather.τ).loc Cert.Gather.main_arg2)
          ∧ r.2.mem ((c.tc : Thread Cert.Gather.nD Cert.Gather.τ).loc Cert.Gather.main_arg3) = m ((c.tc : Thread Cert.Gather.nD Cert.Gather.τ).loc Cert.Gather.main_arg3)
          ∧ r.2.mem ((c.tc : Thread Cert.Gather.nD Cert.Gather.τ).loc Cert.Gather.main_arg4) = m ((c.tc : Thread Cert.Gather.nD Cert.Gather.τ).loc Cert.Gather.main_arg4))
      ∧ θ_run (Cert.GatherRef.defs (F := Bits)) (onTc (τ := Cert.GatherRef.τ) (Cert.GatherRef.main (F := Bits))) ⟨m', fun _ => 0, g'⟩ (fun r =>
          r.2.mem (((0 : Dev Cert.GatherRef.nD).tc : Thread Cert.GatherRef.nD Cert.GatherRef.τ).loc Cert.GatherRef.main_v1) = v0
          ∧ r.2.mem (((0 : Dev Cert.GatherRef.nD).tc : Thread Cert.GatherRef.nD Cert.GatherRef.τ).loc Cert.GatherRef.main_v2) = v1
          ∧ r.2.mem (((0 : Dev Cert.GatherRef.nD).tc : Thread Cert.GatherRef.nD Cert.GatherRef.τ).loc Cert.GatherRef.main_v3) = v2
          ∧ r.2.mem (((0 : Dev Cert.GatherRef.nD).tc : Thread Cert.GatherRef.nD Cert.GatherRef.τ).loc Cert.GatherRef.main_v4) = v3
          ∧ r.2.mem (((0 : Dev Cert.GatherRef.nD).tc : Thread Cert.GatherRef.nD Cert.GatherRef.τ).loc Cert.GatherRef.main_v6) = v4
          ∧ r.2.mem (((0 : Dev Cert.GatherRef.nD).tc : Thread Cert.GatherRef.nD Cert.GatherRef.τ).loc Cert.GatherRef.main_arg0) = m' (((0 : Dev Cert.GatherRef.nD).tc : Thread Cert.GatherRef.nD Cert.GatherRef.τ).loc Cert.GatherRef.main_arg0)
          ∧ r.2.mem (((0 : Dev Cert.GatherRef.nD).tc : Thread Cert.GatherRef.nD Cert.GatherRef.τ).loc Cert.GatherRef.main_arg1) = m' (((0 : Dev Cert.GatherRef.nD).tc : Thread Cert.GatherRef.nD Cert.GatherRef.τ).loc Cert.GatherRef.main_arg1)
          ∧ r.2.mem (((0 : Dev Cert.GatherRef.nD).tc : Thread Cert.GatherRef.nD Cert.GatherRef.τ).loc Cert.GatherRef.main_arg2) = m' (((0 : Dev Cert.GatherRef.nD).tc : Thread Cert.GatherRef.nD Cert.GatherRef.τ).loc Cert.GatherRef.main_arg2)
          ∧ r.2.mem (((0 : Dev Cert.GatherRef.nD).tc : Thread Cert.GatherRef.nD Cert.GatherRef.τ).loc Cert.GatherRef.main_arg3) = m' (((0 : Dev Cert.GatherRef.nD).tc : Thread Cert.GatherRef.nD Cert.GatherRef.τ).loc Cert.GatherRef.main_arg3)
          ∧ r.2.mem (((0 : Dev Cert.GatherRef.nD).tc : Thread Cert.GatherRef.nD Cert.GatherRef.τ).loc Cert.GatherRef.main_arg4) = m' (((0 : Dev Cert.GatherRef.nD).tc : Thread Cert.GatherRef.nD Cert.GatherRef.τ).loc Cert.GatherRef.main_arg4))

def bitexact_Small_SmallRef [hSmall : Cert.Small.Facts] [hSmallRef : Cert.SmallRef.Facts] : Prop :=
  ∀ (m : (ℓ : Loc Cert.Small.nD Cert.Small.τ Cert.Small.sig) → Buf (Elt Bits) ℓ) (g : Dev Cert.Small.nD → PrngReg)
    (m' : (ℓ : Loc Cert.SmallRef.nD Cert.SmallRef.τ Cert.SmallRef.sig) → Buf (Elt Bits) ℓ) (g' : Dev Cert.SmallRef.nD → PrngReg), Pre_Small m →
    (∀ c : Dev Cert.Small.nD,
      m ((c.tc : Thread Cert.Small.nD Cert.Small.τ).loc Cert.Small.main_arg0) = Layout.block ⟨2, ![336, 128]⟩ ⟨2, ![2688, 128]⟩ 0 8 c (m' (((0 : Dev Cert.SmallRef.nD).tc : Thread Cert.SmallRef.nD Cert.SmallRef.τ).loc Cert.SmallRef.main_arg0))) →
    ∃ (v0 : Buf (Elt Bits) (((0 : Dev Cert.SmallRef.nD).tc : Thread Cert.SmallRef.nD Cert.SmallRef.τ).loc Cert.SmallRef.main_v0)),
      θ_run (Cert.Small.defs (F := Bits)) (onTc (τ := Cert.Small.τ) (Cert.Small.main (F := Bits))) ⟨m, fun _ => 0, g⟩ (fun r => ∀ c : Dev Cert.Small.nD,
          r.2.mem ((c.tc : Thread Cert.Small.nD Cert.Small.τ).loc Cert.Small.main_v1) = v0
          ∧ r.2.mem ((c.tc : Thread Cert.Small.nD Cert.Small.τ).loc Cert.Small.main_arg0) = m ((c.tc : Thread Cert.Small.nD Cert.Small.τ).loc Cert.Small.main_arg0))
      ∧ θ_run (Cert.SmallRef.defs (F := Bits)) (onTc (τ := Cert.SmallRef.τ) (Cert.SmallRef.main (F := Bits))) ⟨m', fun _ => 0, g'⟩ (fun r =>
          r.2.mem (((0 : Dev Cert.SmallRef.nD).tc : Thread Cert.SmallRef.nD Cert.SmallRef.τ).loc Cert.SmallRef.main_v0) = v0
          ∧ r.2.mem (((0 : Dev Cert.SmallRef.nD).tc : Thread Cert.SmallRef.nD Cert.SmallRef.τ).loc Cert.SmallRef.main_arg0) = m' (((0 : Dev Cert.SmallRef.nD).tc : Thread Cert.SmallRef.nD Cert.SmallRef.τ).loc Cert.SmallRef.main_arg0))

def Claim : Prop :=
  ∃ (hScatter : Cert.Scatter.Facts) (hScatterIdeal : Cert.ScatterIdeal.Facts) (hScatterRefIdeal : Cert.ScatterRefIdeal.Facts) (hGather : Cert.Gather.Facts) (hGatherIdeal : Cert.GatherIdeal.Facts) (hGatherRefIdeal : Cert.GatherRefIdeal.Facts) (hSmall : Cert.Small.Facts) (hSmallIdeal : Cert.SmallIdeal.Facts) (hSmallRefIdeal : Cert.SmallRefIdeal.Facts) (hAdamIn : Cert.AdamIn.Facts) (hAdamInIdeal : Cert.AdamInIdeal.Facts) (hAdamInRefIdeal : Cert.AdamInRefIdeal.Facts) (hAdamAttn : Cert.AdamAttn.Facts) (hAdamAttnIdeal : Cert.AdamAttnIdeal.Facts) (hAdamAttnRefIdeal : Cert.AdamAttnRefIdeal.Facts) (hAdamOut : Cert.AdamOut.Facts) (hAdamOutIdeal : Cert.AdamOutIdeal.Facts) (hAdamOutRefIdeal : Cert.AdamOutRefIdeal.Facts) (hAdamSsm : Cert.AdamSsm.Facts) (hAdamSsmIdeal : Cert.AdamSsmIdeal.Facts) (hAdamSsmRefIdeal : Cert.AdamSsmRefIdeal.Facts) (hAdamSmall : Cert.AdamSmall.Facts) (hAdamSmallIdeal : Cert.AdamSmallIdeal.Facts) (hAdamSmallRefIdeal : Cert.AdamSmallRefIdeal.Facts) (hAdamConv : Cert.AdamConv.Facts) (hAdamConvIdeal : Cert.AdamConvIdeal.Facts) (hAdamConvRefIdeal : Cert.AdamConvRefIdeal.Facts) (hNormBack : Cert.NormBack.Facts) (hNormBackIdeal : Cert.NormBackIdeal.Facts) (hNormBackRefIdeal : Cert.NormBackRefIdeal.Facts) (hLossBack : Cert.LossBack.Facts) (hLossBackIdeal : Cert.LossBackIdeal.Facts) (hLossBackRefIdeal : Cert.LossBackRefIdeal.Facts) (hNormFwd : Cert.NormFwd.Facts) (hNormFwdIdeal : Cert.NormFwdIdeal.Facts) (hNormFwdRefIdeal : Cert.NormFwdRefIdeal.Facts) (hGatedNorm : Cert.GatedNorm.Facts) (hGatedNormIdeal : Cert.GatedNormIdeal.Facts) (hGatedNormRefIdeal : Cert.GatedNormRefIdeal.Facts) (hMerge : Cert.Merge.Facts) (hMergeIdeal : Cert.MergeIdeal.Facts) (hMergeRefIdeal : Cert.MergeRefIdeal.Facts) (hMergeBack : Cert.MergeBack.Facts) (hMergeBackIdeal : Cert.MergeBackIdeal.Facts) (hMergeBackRefIdeal : Cert.MergeBackRefIdeal.Facts) (hSumThree : Cert.SumThree.Facts) (hSumThreeIdeal : Cert.SumThreeIdeal.Facts) (hSumThreeRefIdeal : Cert.SumThreeRefIdeal.Facts) (hOutProj : Cert.OutProj.Facts) (hOutProjIdeal : Cert.OutProjIdeal.Facts) (hOutProjRefIdeal : Cert.OutProjRefIdeal.Facts) (hOutGrad : Cert.OutGrad.Facts) (hOutGradIdeal : Cert.OutGradIdeal.Facts) (hOutGradRefIdeal : Cert.OutGradRefIdeal.Facts) (hMergedGrad : Cert.MergedGrad.Facts) (hMergedGradIdeal : Cert.MergedGradIdeal.Facts) (hMergedGradRefIdeal : Cert.MergedGradRefIdeal.Facts) (hInProj : Cert.InProj.Facts) (hInProjIdeal : Cert.InProjIdeal.Facts) (hInProjRefIdeal : Cert.InProjRefIdeal.Facts) (hStepProj : Cert.StepProj.Facts) (hStepProjIdeal : Cert.StepProjIdeal.Facts) (hStepProjRefIdeal : Cert.StepProjRefIdeal.Facts) (hSsmProj : Cert.SsmProj.Facts) (hSsmProjIdeal : Cert.SsmProjIdeal.Facts) (hSsmProjRefIdeal : Cert.SsmProjRefIdeal.Facts) (hSsmGrad : Cert.SsmGrad.Facts) (hSsmGradIdeal : Cert.SsmGradIdeal.Facts) (hSsmGradRefIdeal : Cert.SsmGradRefIdeal.Facts) (hScanGrad : Cert.ScanGrad.Facts) (hScanGradIdeal : Cert.ScanGradIdeal.Facts) (hScanGradRefIdeal : Cert.ScanGradRefIdeal.Facts) (hMainGrad : Cert.MainGrad.Facts) (hMainGradIdeal : Cert.MainGradIdeal.Facts) (hMainGradRefIdeal : Cert.MainGradRefIdeal.Facts) (hStepGrad : Cert.StepGrad.Facts) (hStepGradIdeal : Cert.StepGradIdeal.Facts) (hStepGradRefIdeal : Cert.StepGradRefIdeal.Facts) (hHiddenGrad : Cert.HiddenGrad.Facts) (hHiddenGradIdeal : Cert.HiddenGradIdeal.Facts) (hHiddenGradRefIdeal : Cert.HiddenGradRefIdeal.Facts) (hHiddenStep : Cert.HiddenStep.Facts) (hHiddenStepIdeal : Cert.HiddenStepIdeal.Facts) (hHiddenStepRefIdeal : Cert.HiddenStepRefIdeal.Facts) (hGatedNormBack : Cert.GatedNormBack.Facts) (hGatedNormBackIdeal : Cert.GatedNormBackIdeal.Facts) (hGatedNormBackRefIdeal : Cert.GatedNormBackRefIdeal.Facts) (hConv : Cert.Conv.Facts) (hConvIdeal : Cert.ConvIdeal.Facts) (hConvRefIdeal : Cert.ConvRefIdeal.Facts) (hConvBack : Cert.ConvBack.Facts) (hConvBackIdeal : Cert.ConvBackIdeal.Facts) (hConvBackRefIdeal : Cert.ConvBackRefIdeal.Facts) (hSteps : Cert.Steps.Facts) (hStepsIdeal : Cert.StepsIdeal.Facts) (hStepsRefIdeal : Cert.StepsRefIdeal.Facts) (hGateBack : Cert.GateBack.Facts) (hGateBackIdeal : Cert.GateBackIdeal.Facts) (hGateBackRefIdeal : Cert.GateBackRefIdeal.Facts) (hConvGrad : Cert.ConvGrad.Facts) (hConvGradIdeal : Cert.ConvGradIdeal.Facts) (hConvGradRefIdeal : Cert.ConvGradRefIdeal.Facts) (hCombine : Cert.Combine.Facts) (hCombineIdeal : Cert.CombineIdeal.Facts) (hCombineRefIdeal : Cert.CombineRefIdeal.Facts) (hStepBack : Cert.StepBack.Facts) (hStepBackIdeal : Cert.StepBackIdeal.Facts) (hStepBackRefIdeal : Cert.StepBackRefIdeal.Facts) (hScatterRef : Cert.ScatterRef.Facts) (hGatherRef : Cert.GatherRef.Facts) (hSmallRef : Cert.SmallRef.Facts) (hPre_finite_lse : Cert.Pre_finite_lse.Facts) (hPre_finite_rates : Cert.Pre_finite_rates.Facts),
    quiescent_Scatter (hScatter := hScatter)
    ∧ quiescent_ScatterIdeal (hScatterIdeal := hScatterIdeal)
    ∧ quiescent_ScatterRefIdeal (hScatterRefIdeal := hScatterRefIdeal)
    ∧ quiescent_Gather (hGather := hGather)
    ∧ quiescent_GatherIdeal (hGatherIdeal := hGatherIdeal)
    ∧ quiescent_GatherRefIdeal (hGatherRefIdeal := hGatherRefIdeal)
    ∧ quiescent_Small (hSmall := hSmall)
    ∧ quiescent_SmallIdeal (hSmallIdeal := hSmallIdeal)
    ∧ quiescent_SmallRefIdeal (hSmallRefIdeal := hSmallRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamAttn (hAdamAttn := hAdamAttn)
    ∧ quiescent_AdamAttnIdeal (hAdamAttnIdeal := hAdamAttnIdeal)
    ∧ quiescent_AdamAttnRefIdeal (hAdamAttnRefIdeal := hAdamAttnRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamSsm (hAdamSsm := hAdamSsm)
    ∧ quiescent_AdamSsmIdeal (hAdamSsmIdeal := hAdamSsmIdeal)
    ∧ quiescent_AdamSsmRefIdeal (hAdamSsmRefIdeal := hAdamSsmRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_AdamConv (hAdamConv := hAdamConv)
    ∧ quiescent_AdamConvIdeal (hAdamConvIdeal := hAdamConvIdeal)
    ∧ quiescent_AdamConvRefIdeal (hAdamConvRefIdeal := hAdamConvRefIdeal)
    ∧ quiescent_NormBack (hNormBack := hNormBack)
    ∧ quiescent_NormBackIdeal (hNormBackIdeal := hNormBackIdeal)
    ∧ quiescent_NormBackRefIdeal (hNormBackRefIdeal := hNormBackRefIdeal)
    ∧ quiescent_LossBack (hLossBack := hLossBack)
    ∧ quiescent_LossBackIdeal (hLossBackIdeal := hLossBackIdeal)
    ∧ quiescent_LossBackRefIdeal (hLossBackRefIdeal := hLossBackRefIdeal)
    ∧ quiescent_NormFwd (hNormFwd := hNormFwd)
    ∧ quiescent_NormFwdIdeal (hNormFwdIdeal := hNormFwdIdeal)
    ∧ quiescent_NormFwdRefIdeal (hNormFwdRefIdeal := hNormFwdRefIdeal)
    ∧ quiescent_GatedNorm (hGatedNorm := hGatedNorm)
    ∧ quiescent_GatedNormIdeal (hGatedNormIdeal := hGatedNormIdeal)
    ∧ quiescent_GatedNormRefIdeal (hGatedNormRefIdeal := hGatedNormRefIdeal)
    ∧ quiescent_Merge (hMerge := hMerge)
    ∧ quiescent_MergeIdeal (hMergeIdeal := hMergeIdeal)
    ∧ quiescent_MergeRefIdeal (hMergeRefIdeal := hMergeRefIdeal)
    ∧ quiescent_MergeBack (hMergeBack := hMergeBack)
    ∧ quiescent_MergeBackIdeal (hMergeBackIdeal := hMergeBackIdeal)
    ∧ quiescent_MergeBackRefIdeal (hMergeBackRefIdeal := hMergeBackRefIdeal)
    ∧ quiescent_SumThree (hSumThree := hSumThree)
    ∧ quiescent_SumThreeIdeal (hSumThreeIdeal := hSumThreeIdeal)
    ∧ quiescent_SumThreeRefIdeal (hSumThreeRefIdeal := hSumThreeRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_OutGrad (hOutGrad := hOutGrad)
    ∧ quiescent_OutGradIdeal (hOutGradIdeal := hOutGradIdeal)
    ∧ quiescent_OutGradRefIdeal (hOutGradRefIdeal := hOutGradRefIdeal)
    ∧ quiescent_MergedGrad (hMergedGrad := hMergedGrad)
    ∧ quiescent_MergedGradIdeal (hMergedGradIdeal := hMergedGradIdeal)
    ∧ quiescent_MergedGradRefIdeal (hMergedGradRefIdeal := hMergedGradRefIdeal)
    ∧ quiescent_InProj (hInProj := hInProj)
    ∧ quiescent_InProjIdeal (hInProjIdeal := hInProjIdeal)
    ∧ quiescent_InProjRefIdeal (hInProjRefIdeal := hInProjRefIdeal)
    ∧ quiescent_StepProj (hStepProj := hStepProj)
    ∧ quiescent_StepProjIdeal (hStepProjIdeal := hStepProjIdeal)
    ∧ quiescent_StepProjRefIdeal (hStepProjRefIdeal := hStepProjRefIdeal)
    ∧ quiescent_SsmProj (hSsmProj := hSsmProj)
    ∧ quiescent_SsmProjIdeal (hSsmProjIdeal := hSsmProjIdeal)
    ∧ quiescent_SsmProjRefIdeal (hSsmProjRefIdeal := hSsmProjRefIdeal)
    ∧ quiescent_SsmGrad (hSsmGrad := hSsmGrad)
    ∧ quiescent_SsmGradIdeal (hSsmGradIdeal := hSsmGradIdeal)
    ∧ quiescent_SsmGradRefIdeal (hSsmGradRefIdeal := hSsmGradRefIdeal)
    ∧ quiescent_ScanGrad (hScanGrad := hScanGrad)
    ∧ quiescent_ScanGradIdeal (hScanGradIdeal := hScanGradIdeal)
    ∧ quiescent_ScanGradRefIdeal (hScanGradRefIdeal := hScanGradRefIdeal)
    ∧ quiescent_MainGrad (hMainGrad := hMainGrad)
    ∧ quiescent_MainGradIdeal (hMainGradIdeal := hMainGradIdeal)
    ∧ quiescent_MainGradRefIdeal (hMainGradRefIdeal := hMainGradRefIdeal)
    ∧ quiescent_StepGrad (hStepGrad := hStepGrad)
    ∧ quiescent_StepGradIdeal (hStepGradIdeal := hStepGradIdeal)
    ∧ quiescent_StepGradRefIdeal (hStepGradRefIdeal := hStepGradRefIdeal)
    ∧ quiescent_HiddenGrad (hHiddenGrad := hHiddenGrad)
    ∧ quiescent_HiddenGradIdeal (hHiddenGradIdeal := hHiddenGradIdeal)
    ∧ quiescent_HiddenGradRefIdeal (hHiddenGradRefIdeal := hHiddenGradRefIdeal)
    ∧ quiescent_HiddenStep (hHiddenStep := hHiddenStep)
    ∧ quiescent_HiddenStepIdeal (hHiddenStepIdeal := hHiddenStepIdeal)
    ∧ quiescent_HiddenStepRefIdeal (hHiddenStepRefIdeal := hHiddenStepRefIdeal)
    ∧ quiescent_GatedNormBack (hGatedNormBack := hGatedNormBack)
    ∧ quiescent_GatedNormBackIdeal (hGatedNormBackIdeal := hGatedNormBackIdeal)
    ∧ quiescent_GatedNormBackRefIdeal (hGatedNormBackRefIdeal := hGatedNormBackRefIdeal)
    ∧ quiescent_Conv (hConv := hConv)
    ∧ quiescent_ConvIdeal (hConvIdeal := hConvIdeal)
    ∧ quiescent_ConvRefIdeal (hConvRefIdeal := hConvRefIdeal)
    ∧ quiescent_ConvBack (hConvBack := hConvBack)
    ∧ quiescent_ConvBackIdeal (hConvBackIdeal := hConvBackIdeal)
    ∧ quiescent_ConvBackRefIdeal (hConvBackRefIdeal := hConvBackRefIdeal)
    ∧ quiescent_Steps (hSteps := hSteps)
    ∧ quiescent_StepsIdeal (hStepsIdeal := hStepsIdeal)
    ∧ quiescent_StepsRefIdeal (hStepsRefIdeal := hStepsRefIdeal)
    ∧ quiescent_GateBack (hGateBack := hGateBack)
    ∧ quiescent_GateBackIdeal (hGateBackIdeal := hGateBackIdeal)
    ∧ quiescent_GateBackRefIdeal (hGateBackRefIdeal := hGateBackRefIdeal)
    ∧ quiescent_ConvGrad (hConvGrad := hConvGrad)
    ∧ quiescent_ConvGradIdeal (hConvGradIdeal := hConvGradIdeal)
    ∧ quiescent_ConvGradRefIdeal (hConvGradRefIdeal := hConvGradRefIdeal)
    ∧ quiescent_Combine (hCombine := hCombine)
    ∧ quiescent_CombineIdeal (hCombineIdeal := hCombineIdeal)
    ∧ quiescent_CombineIdeal_pre_finite_lse (hCombineIdeal := hCombineIdeal) (hPre_finite_lse := hPre_finite_lse)
    ∧ quiescent_CombineRefIdeal (hCombineRefIdeal := hCombineRefIdeal)
    ∧ quiescent_CombineRefIdeal_pre_finite_lse (hCombineRefIdeal := hCombineRefIdeal) (hPre_finite_lse := hPre_finite_lse)
    ∧ quiescent_StepBack (hStepBack := hStepBack)
    ∧ quiescent_StepBackIdeal (hStepBackIdeal := hStepBackIdeal)
    ∧ quiescent_StepBackIdeal_pre_finite_rates (hStepBackIdeal := hStepBackIdeal) (hPre_finite_rates := hPre_finite_rates)
    ∧ quiescent_StepBackRefIdeal (hStepBackRefIdeal := hStepBackRefIdeal)
    ∧ quiescent_StepBackRefIdeal_pre_finite_rates (hStepBackRefIdeal := hStepBackRefIdeal) (hPre_finite_rates := hPre_finite_rates)
    ∧ quiescent_ScatterRef (hScatterRef := hScatterRef)
    ∧ quiescent_GatherRef (hGatherRef := hGatherRef)
    ∧ quiescent_SmallRef (hSmallRef := hSmallRef)
    ∧ preserves_Scatter_ScatterIdeal
    ∧ algebraic_ScatterIdeal_ScatterRefIdeal (hScatterIdeal := hScatterIdeal) (hScatterRefIdeal := hScatterRefIdeal)
    ∧ preserves_Gather_GatherIdeal
    ∧ algebraic_GatherIdeal_GatherRefIdeal (hGatherIdeal := hGatherIdeal) (hGatherRefIdeal := hGatherRefIdeal)
    ∧ preserves_Small_SmallIdeal
    ∧ algebraic_SmallIdeal_SmallRefIdeal (hSmallIdeal := hSmallIdeal) (hSmallRefIdeal := hSmallRefIdeal)
    ∧ preserves_AdamIn_AdamInIdeal
    ∧ algebraic_AdamInIdeal_AdamInRefIdeal (hAdamInIdeal := hAdamInIdeal) (hAdamInRefIdeal := hAdamInRefIdeal)
    ∧ preserves_AdamAttn_AdamAttnIdeal
    ∧ algebraic_AdamAttnIdeal_AdamAttnRefIdeal (hAdamAttnIdeal := hAdamAttnIdeal) (hAdamAttnRefIdeal := hAdamAttnRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamSsm_AdamSsmIdeal
    ∧ algebraic_AdamSsmIdeal_AdamSsmRefIdeal (hAdamSsmIdeal := hAdamSsmIdeal) (hAdamSsmRefIdeal := hAdamSsmRefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_AdamConv_AdamConvIdeal
    ∧ algebraic_AdamConvIdeal_AdamConvRefIdeal (hAdamConvIdeal := hAdamConvIdeal) (hAdamConvRefIdeal := hAdamConvRefIdeal)
    ∧ preserves_NormBack_NormBackIdeal
    ∧ algebraic_NormBackIdeal_NormBackRefIdeal (hNormBackIdeal := hNormBackIdeal) (hNormBackRefIdeal := hNormBackRefIdeal)
    ∧ preserves_LossBack_LossBackIdeal
    ∧ algebraic_LossBackIdeal_LossBackRefIdeal (hLossBackIdeal := hLossBackIdeal) (hLossBackRefIdeal := hLossBackRefIdeal)
    ∧ preserves_NormFwd_NormFwdIdeal
    ∧ algebraic_NormFwdIdeal_NormFwdRefIdeal (hNormFwdIdeal := hNormFwdIdeal) (hNormFwdRefIdeal := hNormFwdRefIdeal)
    ∧ preserves_GatedNorm_GatedNormIdeal
    ∧ algebraic_GatedNormIdeal_GatedNormRefIdeal (hGatedNormIdeal := hGatedNormIdeal) (hGatedNormRefIdeal := hGatedNormRefIdeal)
    ∧ preserves_Merge_MergeIdeal
    ∧ algebraic_MergeIdeal_MergeRefIdeal (hMergeIdeal := hMergeIdeal) (hMergeRefIdeal := hMergeRefIdeal)
    ∧ preserves_MergeBack_MergeBackIdeal
    ∧ algebraic_MergeBackIdeal_MergeBackRefIdeal (hMergeBackIdeal := hMergeBackIdeal) (hMergeBackRefIdeal := hMergeBackRefIdeal)
    ∧ preserves_SumThree_SumThreeIdeal
    ∧ algebraic_SumThreeIdeal_SumThreeRefIdeal (hSumThreeIdeal := hSumThreeIdeal) (hSumThreeRefIdeal := hSumThreeRefIdeal)
    ∧ preserves_OutProj_OutProjIdeal
    ∧ algebraic_OutProjIdeal_OutProjRefIdeal (hOutProjIdeal := hOutProjIdeal) (hOutProjRefIdeal := hOutProjRefIdeal)
    ∧ preserves_OutGrad_OutGradIdeal
    ∧ algebraic_OutGradIdeal_OutGradRefIdeal (hOutGradIdeal := hOutGradIdeal) (hOutGradRefIdeal := hOutGradRefIdeal)
    ∧ preserves_MergedGrad_MergedGradIdeal
    ∧ algebraic_MergedGradIdeal_MergedGradRefIdeal (hMergedGradIdeal := hMergedGradIdeal) (hMergedGradRefIdeal := hMergedGradRefIdeal)
    ∧ preserves_InProj_InProjIdeal
    ∧ algebraic_InProjIdeal_InProjRefIdeal (hInProjIdeal := hInProjIdeal) (hInProjRefIdeal := hInProjRefIdeal)
    ∧ preserves_StepProj_StepProjIdeal
    ∧ algebraic_StepProjIdeal_StepProjRefIdeal (hStepProjIdeal := hStepProjIdeal) (hStepProjRefIdeal := hStepProjRefIdeal)
    ∧ preserves_SsmProj_SsmProjIdeal
    ∧ algebraic_SsmProjIdeal_SsmProjRefIdeal (hSsmProjIdeal := hSsmProjIdeal) (hSsmProjRefIdeal := hSsmProjRefIdeal)
    ∧ preserves_SsmGrad_SsmGradIdeal
    ∧ algebraic_SsmGradIdeal_SsmGradRefIdeal (hSsmGradIdeal := hSsmGradIdeal) (hSsmGradRefIdeal := hSsmGradRefIdeal)
    ∧ preserves_ScanGrad_ScanGradIdeal
    ∧ algebraic_ScanGradIdeal_ScanGradRefIdeal (hScanGradIdeal := hScanGradIdeal) (hScanGradRefIdeal := hScanGradRefIdeal)
    ∧ preserves_MainGrad_MainGradIdeal
    ∧ algebraic_MainGradIdeal_MainGradRefIdeal (hMainGradIdeal := hMainGradIdeal) (hMainGradRefIdeal := hMainGradRefIdeal)
    ∧ preserves_StepGrad_StepGradIdeal
    ∧ algebraic_StepGradIdeal_StepGradRefIdeal (hStepGradIdeal := hStepGradIdeal) (hStepGradRefIdeal := hStepGradRefIdeal)
    ∧ preserves_HiddenGrad_HiddenGradIdeal
    ∧ algebraic_HiddenGradIdeal_HiddenGradRefIdeal (hHiddenGradIdeal := hHiddenGradIdeal) (hHiddenGradRefIdeal := hHiddenGradRefIdeal)
    ∧ preserves_HiddenStep_HiddenStepIdeal
    ∧ algebraic_HiddenStepIdeal_HiddenStepRefIdeal (hHiddenStepIdeal := hHiddenStepIdeal) (hHiddenStepRefIdeal := hHiddenStepRefIdeal)
    ∧ preserves_GatedNormBack_GatedNormBackIdeal
    ∧ algebraic_GatedNormBackIdeal_GatedNormBackRefIdeal (hGatedNormBackIdeal := hGatedNormBackIdeal) (hGatedNormBackRefIdeal := hGatedNormBackRefIdeal)
    ∧ preserves_Conv_ConvIdeal
    ∧ algebraic_ConvIdeal_ConvRefIdeal (hConvIdeal := hConvIdeal) (hConvRefIdeal := hConvRefIdeal)
    ∧ preserves_ConvBack_ConvBackIdeal
    ∧ algebraic_ConvBackIdeal_ConvBackRefIdeal (hConvBackIdeal := hConvBackIdeal) (hConvBackRefIdeal := hConvBackRefIdeal)
    ∧ preserves_Steps_StepsIdeal
    ∧ algebraic_StepsIdeal_StepsRefIdeal (hStepsIdeal := hStepsIdeal) (hStepsRefIdeal := hStepsRefIdeal)
    ∧ preserves_GateBack_GateBackIdeal
    ∧ algebraic_GateBackIdeal_GateBackRefIdeal (hGateBackIdeal := hGateBackIdeal) (hGateBackRefIdeal := hGateBackRefIdeal)
    ∧ preserves_ConvGrad_ConvGradIdeal
    ∧ algebraic_ConvGradIdeal_ConvGradRefIdeal (hConvGradIdeal := hConvGradIdeal) (hConvGradRefIdeal := hConvGradRefIdeal)
    ∧ preserves_Combine_CombineIdeal
    ∧ algebraic_CombineIdeal_CombineRefIdeal_pre_finite_lse (hCombineIdeal := hCombineIdeal) (hCombineRefIdeal := hCombineRefIdeal) (hPre_finite_lse := hPre_finite_lse)
    ∧ preserves_StepBack_StepBackIdeal
    ∧ algebraic_StepBackIdeal_StepBackRefIdeal_pre_finite_rates (hStepBackIdeal := hStepBackIdeal) (hStepBackRefIdeal := hStepBackRefIdeal) (hPre_finite_rates := hPre_finite_rates)
    ∧ bitexact_Scatter_ScatterRef (hScatter := hScatter) (hScatterRef := hScatterRef)
    ∧ bitexact_Gather_GatherRef (hGather := hGather) (hGatherRef := hGatherRef)
    ∧ bitexact_Small_SmallRef (hSmall := hSmall) (hSmallRef := hSmallRef)
-- ==== Pre_finite_lse.lean ====
abbrev S8192x2048 : Shape := ⟨2, ![8192, 2048]⟩
abbrev S3x8192x16 : Shape := ⟨3, ![3, 8192, 16]⟩
abbrev S8192x22528 : Shape := ⟨2, ![8192, 22528]⟩
abbrev S_ : Shape := ⟨0, ![]⟩

class Facts : Prop where
  bcast_S_S3x8192x16 : S_.BroadcastsInDim S3x8192x16 (![] : Fin 0 → Fin S3x8192x16.rank)
  reducesTo_S3x8192x16_S_d0_1_2 : S3x8192x16.ReducesTo [0, 1, 2] S_
  h_S_ : 0 < S_.numel

variable [Facts]

def fn {F : FTy → Type} [FloatOps F] (main_arg0 : FVec F S8192x2048 .f32) (main_arg1 : FVec F S8192x2048 .f32) (main_arg2 : FVec F S8192x2048 .f32) (main_arg3 : FVec F S3x8192x16 .f32) (main_arg4 : FVec F S8192x22528 .f32) : IVec S_ 1 :=
  let main_v0 : FVec F S3x8192x16 .f32 := Host.absf main_arg3
  let main_cst : FVec F S_ .f32 := constant S_ .f32 0x7F800000#32
  let main_v1 : FVec F S3x8192x16 .f32 := broadcastInDim S3x8192x16 ![] bcast_S_S3x8192x16 main_cst
  let main_v2 : IVec S3x8192x16 1 := cmpf .olt main_v0 main_v1
  let main_c : IVec S_ 1 := constantI S_ 1 1#1
  let main_v3 : IVec S_ 1 := (fun x v => Host.reduce IntOp.andi x v reducesTo_S3x8192x16_S_d0_1_2 h_S_) main_v2 main_c
  main_v3
-- ==== Pre_finite_rates.lean ====
abbrev S8192x128 : Shape := ⟨2, ![8192, 128]⟩
abbrev S1x128 : Shape := ⟨2, ![1, 128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S1x128 : S_.BroadcastsInDim S1x128 (![] : Fin 0 → Fin S1x128.rank)
  reducesTo_S1x128_S_d0_1 : S1x128.ReducesTo [0, 1] S_

variable [Facts]

def fn {F : FTy → Type} [FloatOps F] (main_arg0 : FVec F S8192x128 .f32) (main_arg1 : FVec F S8192x128 .f32) (main_arg2 : FVec F S8192x128 .f32) (main_arg3 : FVec F S8192x128 .f32) (main_arg4 : FVec F S1x128 .f32) (main_arg5 : FVec F S1x128 .f32) : IVec S_ 1 :=
  let main_v0 : FVec F S8192x128 .f32 := Host.absf main_arg1
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x128 .f32 := Host.absf main_arg3
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  let main_v9 : FVec F S1x128 .f32 := Host.absf main_arg5
  let main_cst_2 : FVec F S_ .f32 := constant S_ .f32 0x7F800000#32
  let main_v10 : FVec F S1x128 .f32 := broadcastInDim S1x128 ![] bcast_S_S1x128 main_cst_2
  let main_v11 : IVec S1x128 1 := cmpf .olt main_v9 main_v10
  let main_c_3 : IVec S_ 1 := constantI S_ 1 1#1
  let main_v12 : IVec S_ 1 := (fun x v => Host.reduce IntOp.andi x v reducesTo_S1x128_S_d0_1 h_S_) main_v11 main_c_3
  let main_v13 : IVec S_ 1 := andi main_v8 main_v12
  main_v13
-- ==== Scatter.lean ====
abbrev S8x2048x2824 : Shape := ⟨3, ![8, 2048, 2824]⟩
abbrev S8x256x2048 : Shape := ⟨3, ![8, 256, 2048]⟩
abbrev S8x512x2048 : Shape := ⟨3, ![8, 512, 2048]⟩
abbrev S28 : Shape := ⟨1, ![28]⟩
abbrev S4 : Shape := ⟨1, ![4]⟩
abbrev S1 : Shape := ⟨1, ![1]⟩
abbrev S_ : Shape := ⟨0, ![]⟩
abbrev S1x2048x2824 : Shape := ⟨3, ![1, 2048, 2824]⟩
abbrev S2048x2824 : Shape := ⟨2, ![2048, 2824]⟩
abbrev S1x256x2048 : Shape := ⟨3, ![1, 256, 2048]⟩
abbrev S256x2048 : Shape := ⟨2, ![256, 2048]⟩
abbrev S1x512x2048 : Shape := ⟨3, ![1, 512, 2048]⟩
abbrev S512x2048 : Shape := ⟨2, ![512, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8x2048x2824, .bf16⟩
  | .hbm, ⟨1, _⟩ => ⟨S8x256x2048, .bf16⟩
  | .hbm, ⟨2, _⟩ => ⟨S8x512x2048, .bf16⟩
  | .hbm, ⟨3, _⟩ => ⟨S8x256x2048, .bf16⟩
  | .hbm, ⟨4, _⟩ => ⟨S8x2048x2824, .bf16⟩
  | .hbm, ⟨5, _⟩ => ⟨S8x256x2048, .bf16⟩
  | .hbm, ⟨6, _⟩ => ⟨S8x512x2048, .bf16⟩
  | .hbm, ⟨7, _⟩ => ⟨S8x256x2048, .bf16⟩
  | _, _ => ⟨S8x2048x2824, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩

abbrev nD : Nat := 8
abbrev τ : Topo := Topo.v7x

variable {F : FTy → Type} [FloatOps F]

abbrev grid0 : Pipeline.Grid := .none

def k0_off1 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_5 : BitVec 32 := 0#32
  let c0_i32_6 : BitVec 32 := 0#32
  ![v12.toNat, 0, 0]
def k0_off2 (d0 : Dev nD) : Fin 3 → Nat :=
  let c4_i32_10 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.muli c4_i32_10 v2
  let c2_i32_11 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v21 : BitVec 32 := Scalar.muli c2_i32_11 v5
  let v22 : BitVec 32 := Scalar.addi v20 v21
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.subi c1_i32_9 v8
  let v23 : BitVec 32 := Scalar.addi v22 v19
  let c0_i32_20 : BitVec 32 := 0#32
  let c0_i32_21 : BitVec 32 := 0#32
  ![v23.toNat, 0, 0]
def k0_dev1 (d0 : Dev nD) : Nat :=
  let c0_i32_15 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_14 : BitVec 32 := 4#32
  let v24 : BitVec 32 := Scalar.muli v2 c4_i32_14
  let v25 : BitVec 32 := Scalar.addi c0_i32_15 v24
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_16 : BitVec 32 := 2#32
  let v26 : BitVec 32 := Scalar.muli v5 c2_i32_16
  let v27 : BitVec 32 := Scalar.addi v25 v26
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.subi c1_i32_9 v8
  let c1_i32_17 : BitVec 32 := 1#32
  let v28 : BitVec 32 := Scalar.muli v19 c1_i32_17
  let v29 : BitVec 32 := Scalar.addi v27 v28
  v29.toNat
def k0_off3 (d0 : Dev nD) : Fin 3 → Nat :=
  let c4_i32_23 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v39 : BitVec 32 := Scalar.muli c4_i32_23 v2
  let c2_i32_24 : BitVec 32 := 2#32
  let c1_i32_22 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v38 : BitVec 32 := Scalar.subi c1_i32_22 v5
  let v40 : BitVec 32 := Scalar.muli c2_i32_24 v38
  let v41 : BitVec 32 := Scalar.addi v39 v40
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v42 : BitVec 32 := Scalar.addi v41 v8
  let c0_i32_33 : BitVec 32 := 0#32
  let c0_i32_34 : BitVec 32 := 0#32
  ![v42.toNat, 0, 0]
def k0_dev2 (d0 : Dev nD) : Nat :=
  let c0_i32_28 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_27 : BitVec 32 := 4#32
  let v43 : BitVec 32 := Scalar.muli v2 c4_i32_27
  let v44 : BitVec 32 := Scalar.addi c0_i32_28 v43
  let c1_i32_22 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v38 : BitVec 32 := Scalar.subi c1_i32_22 v5
  let c2_i32_29 : BitVec 32 := 2#32
  let v45 : BitVec 32 := Scalar.muli v38 c2_i32_29
  let v46 : BitVec 32 := Scalar.addi v44 v45
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_30 : BitVec 32 := 1#32
  let v47 : BitVec 32 := Scalar.muli v8 c1_i32_30
  let v48 : BitVec 32 := Scalar.addi v46 v47
  v48.toNat
def k0_off4 (d0 : Dev nD) : Fin 3 → Nat :=
  let c4_i32_37 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v59 : BitVec 32 := Scalar.muli c4_i32_37 v2
  let c2_i32_38 : BitVec 32 := 2#32
  let c1_i32_35 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v57 : BitVec 32 := Scalar.subi c1_i32_35 v5
  let v60 : BitVec 32 := Scalar.muli c2_i32_38 v57
  let v61 : BitVec 32 := Scalar.addi v59 v60
  let c1_i32_36 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v58 : BitVec 32 := Scalar.subi c1_i32_36 v8
  let v62 : BitVec 32 := Scalar.addi v61 v58
  let c0_i32_47 : BitVec 32 := 0#32
  let c0_i32_48 : BitVec 32 := 0#32
  ![v62.toNat, 0, 0]
def k0_dev3 (d0 : Dev nD) : Nat :=
  let c0_i32_42 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_41 : BitVec 32 := 4#32
  let v63 : BitVec 32 := Scalar.muli v2 c4_i32_41
  let v64 : BitVec 32 := Scalar.addi c0_i32_42 v63
  let c1_i32_35 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v57 : BitVec 32 := Scalar.subi c1_i32_35 v5
  let c2_i32_43 : BitVec 32 := 2#32
  let v65 : BitVec 32 := Scalar.muli v57 c2_i32_43
  let v66 : BitVec 32 := Scalar.addi v64 v65
  let c1_i32_36 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v58 : BitVec 32 := Scalar.subi c1_i32_36 v8
  let c1_i32_44 : BitVec 32 := 1#32
  let v67 : BitVec 32 := Scalar.muli v58 c1_i32_44
  let v68 : BitVec 32 := Scalar.addi v66 v67
  v68.toNat
def k0_off5 (d0 : Dev nD) : Fin 3 → Nat :=
  let c4_i32_50 : BitVec 32 := 4#32
  let c1_i32_49 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v77 : BitVec 32 := Scalar.subi c1_i32_49 v2
  let v78 : BitVec 32 := Scalar.muli c4_i32_50 v77
  let c2_i32_51 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v79 : BitVec 32 := Scalar.muli c2_i32_51 v5
  let v80 : BitVec 32 := Scalar.addi v78 v79
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v81 : BitVec 32 := Scalar.addi v80 v8
  let c0_i32_59 : BitVec 32 := 0#32
  let c0_i32_60 : BitVec 32 := 0#32
  ![v81.toNat, 0, 0]
def k0_dev4 (d0 : Dev nD) : Nat :=
  let c0_i32_54 : BitVec 32 := 0#32
  let c1_i32_49 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v77 : BitVec 32 := Scalar.subi c1_i32_49 v2
  let c4_i32_53 : BitVec 32 := 4#32
  let v82 : BitVec 32 := Scalar.muli v77 c4_i32_53
  let v83 : BitVec 32 := Scalar.addi c0_i32_54 v82
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_55 : BitVec 32 := 2#32
  let v84 : BitVec 32 := Scalar.muli v5 c2_i32_55
  let v85 : BitVec 32 := Scalar.addi v83 v84
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_56 : BitVec 32 := 1#32
  let v86 : BitVec 32 := Scalar.muli v8 c1_i32_56
  let v87 : BitVec 32 := Scalar.addi v85 v86
  v87.toNat
def k0_off6 (d0 : Dev nD) : Fin 3 → Nat :=
  let c4_i32_63 : BitVec 32 := 4#32
  let c1_i32_61 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v96 : BitVec 32 := Scalar.subi c1_i32_61 v2
  let v98 : BitVec 32 := Scalar.muli c4_i32_63 v96
  let c2_i32_64 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v99 : BitVec 32 := Scalar.muli c2_i32_64 v5
  let v100 : BitVec 32 := Scalar.addi v98 v99
  let c1_i32_62 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v97 : BitVec 32 := Scalar.subi c1_i32_62 v8
  let v101 : BitVec 32 := Scalar.addi v100 v97
  let c0_i32_73 : BitVec 32 := 0#32
  let c0_i32_74 : BitVec 32 := 0#32
  ![v101.toNat, 0, 0]
def k0_dev5 (d0 : Dev nD) : Nat :=
  let c0_i32_68 : BitVec 32 := 0#32
  let c1_i32_61 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v96 : BitVec 32 := Scalar.subi c1_i32_61 v2
  let c4_i32_67 : BitVec 32 := 4#32
  let v102 : BitVec 32 := Scalar.muli v96 c4_i32_67
  let v103 : BitVec 32 := Scalar.addi c0_i32_68 v102
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_69 : BitVec 32 := 2#32
  let v104 : BitVec 32 := Scalar.muli v5 c2_i32_69
  let v105 : BitVec 32 := Scalar.addi v103 v104
  let c1_i32_62 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v97 : BitVec 32 := Scalar.subi c1_i32_62 v8
  let c1_i32_70 : BitVec 32 := 1#32
  let v106 : BitVec 32 := Scalar.muli v97 c1_i32_70
  let v107 : BitVec 32 := Scalar.addi v105 v106
  v107.toNat
def k0_off7 (d0 : Dev nD) : Fin 3 → Nat :=
  let c4_i32_77 : BitVec 32 := 4#32
  let c1_i32_75 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v116 : BitVec 32 := Scalar.subi c1_i32_75 v2
  let v118 : BitVec 32 := Scalar.muli c4_i32_77 v116
  let c2_i32_78 : BitVec 32 := 2#32
  let c1_i32_76 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v117 : BitVec 32 := Scalar.subi c1_i32_76 v5
  let v119 : BitVec 32 := Scalar.muli c2_i32_78 v117
  let v120 : BitVec 32 := Scalar.addi v118 v119
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v121 : BitVec 32 := Scalar.addi v120 v8
  let c0_i32_86 : BitVec 32 := 0#32
  let c0_i32_87 : BitVec 32 := 0#32
  ![v121.toNat, 0, 0]
def k0_dev6 (d0 : Dev nD) : Nat :=
  let c0_i32_81 : BitVec 32 := 0#32
  let c1_i32_75 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v116 : BitVec 32 := Scalar.subi c1_i32_75 v2
  let c4_i32_80 : BitVec 32 := 4#32
  let v122 : BitVec 32 := Scalar.muli v116 c4_i32_80
  let v123 : BitVec 32 := Scalar.addi c0_i32_81 v122
  let c1_i32_76 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v117 : BitVec 32 := Scalar.subi c1_i32_76 v5
  let c2_i32_82 : BitVec 32 := 2#32
  let v124 : BitVec 32 := Scalar.muli v117 c2_i32_82
  let v125 : BitVec 32 := Scalar.addi v123 v124
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_83 : BitVec 32 := 1#32
  let v126 : BitVec 32 := Scalar.muli v8 c1_i32_83
  let v127 : BitVec 32 := Scalar.addi v125 v126
  v127.toNat
def k0_off8 (d0 : Dev nD) : Fin 3 → Nat :=
  let c4_i32_91 : BitVec 32 := 4#32
  let c1_i32_88 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v136 : BitVec 32 := Scalar.subi c1_i32_88 v2
  let v139 : BitVec 32 := Scalar.muli c4_i32_91 v136
  let c2_i32_92 : BitVec 32 := 2#32
  let c1_i32_89 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v137 : BitVec 32 := Scalar.subi c1_i32_89 v5
  let v140 : BitVec 32 := Scalar.muli c2_i32_92 v137
  let v141 : BitVec 32 := Scalar.addi v139 v140
  let c1_i32_90 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v138 : BitVec 32 := Scalar.subi c1_i32_90 v8
  let v142 : BitVec 32 := Scalar.addi v141 v138
  let c0_i32_100 : BitVec 32 := 0#32
  let c0_i32_101 : BitVec 32 := 0#32
  ![v142.toNat, 0, 0]
def k0_dev7 (d0 : Dev nD) : Nat :=
  let c0_i32_95 : BitVec 32 := 0#32
  let c1_i32_88 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v136 : BitVec 32 := Scalar.subi c1_i32_88 v2
  let c4_i32_94 : BitVec 32 := 4#32
  let v143 : BitVec 32 := Scalar.muli v136 c4_i32_94
  let v144 : BitVec 32 := Scalar.addi c0_i32_95 v143
  let c1_i32_89 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v137 : BitVec 32 := Scalar.subi c1_i32_89 v5
  let c2_i32_96 : BitVec 32 := 2#32
  let v145 : BitVec 32 := Scalar.muli v137 c2_i32_96
  let v146 : BitVec 32 := Scalar.addi v144 v145
  let c1_i32_90 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v138 : BitVec 32 := Scalar.subi c1_i32_90 v8
  let c1_i32_97 : BitVec 32 := 1#32
  let v147 : BitVec 32 := Scalar.muli v138 c1_i32_97
  let v148 : BitVec 32 := Scalar.addi v146 v147
  v148.toNat
def k0_off9 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_103 : BitVec 32 := 0#32
  let c0_i32_104 : BitVec 32 := 0#32
  ![v12.toNat, 0, 0]
def k0_off10 (d0 : Dev nD) : Fin 3 → Nat :=
  let c4_i32_108 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v164 : BitVec 32 := Scalar.muli c4_i32_108 v2
  let c2_i32_109 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v165 : BitVec 32 := Scalar.muli c2_i32_109 v5
  let v166 : BitVec 32 := Scalar.addi v164 v165
  let c1_i32_107 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v163 : BitVec 32 := Scalar.subi c1_i32_107 v8
  let v167 : BitVec 32 := Scalar.addi v166 v163
  let c0_i32_117 : BitVec 32 := 0#32
  let c0_i32_118 : BitVec 32 := 0#32
  ![v167.toNat, 0, 0]
def k0_dev8 (d0 : Dev nD) : Nat :=
  let c0_i32_112 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_111 : BitVec 32 := 4#32
  let v168 : BitVec 32 := Scalar.muli v2 c4_i32_111
  let v169 : BitVec 32 := Scalar.addi c0_i32_112 v168
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_113 : BitVec 32 := 2#32
  let v170 : BitVec 32 := Scalar.muli v5 c2_i32_113
  let v171 : BitVec 32 := Scalar.addi v169 v170
  let c1_i32_107 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v163 : BitVec 32 := Scalar.subi c1_i32_107 v8
  let c1_i32_114 : BitVec 32 := 1#32
  let v172 : BitVec 32 := Scalar.muli v163 c1_i32_114
  let v173 : BitVec 32 := Scalar.addi v171 v172
  v173.toNat
def k0_off11 (d0 : Dev nD) : Fin 3 → Nat :=
  let c4_i32_120 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v183 : BitVec 32 := Scalar.muli c4_i32_120 v2
  let c2_i32_121 : BitVec 32 := 2#32
  let c1_i32_119 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v182 : BitVec 32 := Scalar.subi c1_i32_119 v5
  let v184 : BitVec 32 := Scalar.muli c2_i32_121 v182
  let v185 : BitVec 32 := Scalar.addi v183 v184
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v186 : BitVec 32 := Scalar.addi v185 v8
  let c0_i32_129 : BitVec 32 := 0#32
  let c0_i32_130 : BitVec 32 := 0#32
  ![v186.toNat, 0, 0]
def k0_dev9 (d0 : Dev nD) : Nat :=
  let c0_i32_124 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_123 : BitVec 32 := 4#32
  let v187 : BitVec 32 := Scalar.muli v2 c4_i32_123
  let v188 : BitVec 32 := Scalar.addi c0_i32_124 v187
  let c1_i32_119 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v182 : BitVec 32 := Scalar.subi c1_i32_119 v5
  let c2_i32_125 : BitVec 32 := 2#32
  let v189 : BitVec 32 := Scalar.muli v182 c2_i32_125
  let v190 : BitVec 32 := Scalar.addi v188 v189
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_126 : BitVec 32 := 1#32
  let v191 : BitVec 32 := Scalar.muli v8 c1_i32_126
  let v192 : BitVec 32 := Scalar.addi v190 v191
  v192.toNat
def k0_off12 (d0 : Dev nD) : Fin 3 → Nat :=
  let c4_i32_133 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v203 : BitVec 32 := Scalar.muli c4_i32_133 v2
  let c2_i32_134 : BitVec 32 := 2#32
  let c1_i32_131 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v201 : BitVec 32 := Scalar.subi c1_i32_131 v5
  let v204 : BitVec 32 := Scalar.muli c2_i32_134 v201
  let v205 : BitVec 32 := Scalar.addi v203 v204
  let c1_i32_132 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v202 : BitVec 32 := Scalar.subi c1_i32_132 v8
  let v206 : BitVec 32 := Scalar.addi v205 v202
  let c0_i32_142 : BitVec 32 := 0#32
  let c0_i32_143 : BitVec 32 := 0#32
  ![v206.toNat, 0, 0]
def k0_dev10 (d0 : Dev nD) : Nat :=
  let c0_i32_137 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_136 : BitVec 32 := 4#32
  let v207 : BitVec 32 := Scalar.muli v2 c4_i32_136
  let v208 : BitVec 32 := Scalar.addi c0_i32_137 v207
  let c1_i32_131 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v201 : BitVec 32 := Scalar.subi c1_i32_131 v5
  let c2_i32_138 : BitVec 32 := 2#32
  let v209 : BitVec 32 := Scalar.muli v201 c2_i32_138
  let v210 : BitVec 32 := Scalar.addi v208 v209
  let c1_i32_132 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v202 : BitVec 32 := Scalar.subi c1_i32_132 v8
  let c1_i32_139 : BitVec 32 := 1#32
  let v211 : BitVec 32 := Scalar.muli v202 c1_i32_139
  let v212 : BitVec 32 := Scalar.addi v210 v211
  v212.toNat
def k0_off13 (d0 : Dev nD) : Fin 3 → Nat :=
  let c4_i32_145 : BitVec 32 := 4#32
  let c1_i32_144 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v221 : BitVec 32 := Scalar.subi c1_i32_144 v2
  let v222 : BitVec 32 := Scalar.muli c4_i32_145 v221
  let c2_i32_146 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v223 : BitVec 32 := Scalar.muli c2_i32_146 v5
  let v224 : BitVec 32 := Scalar.addi v222 v223
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v225 : BitVec 32 := Scalar.addi v224 v8
  let c0_i32_154 : BitVec 32 := 0#32
  let c0_i32_155 : BitVec 32 := 0#32
  ![v225.toNat, 0, 0]
def k0_dev11 (d0 : Dev nD) : Nat :=
  let c0_i32_149 : BitVec 32 := 0#32
  let c1_i32_144 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v221 : BitVec 32 := Scalar.subi c1_i32_144 v2
  let c4_i32_148 : BitVec 32 := 4#32
  let v226 : BitVec 32 := Scalar.muli v221 c4_i32_148
  let v227 : BitVec 32 := Scalar.addi c0_i32_149 v226
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_150 : BitVec 32 := 2#32
  let v228 : BitVec 32 := Scalar.muli v5 c2_i32_150
  let v229 : BitVec 32 := Scalar.addi v227 v228
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_151 : BitVec 32 := 1#32
  let v230 : BitVec 32 := Scalar.muli v8 c1_i32_151
  let v231 : BitVec 32 := Scalar.addi v229 v230
  v231.toNat
def k0_off14 (d0 : Dev nD) : Fin 3 → Nat :=
  let c4_i32_158 : BitVec 32 := 4#32
  let c1_i32_156 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v240 : BitVec 32 := Scalar.subi c1_i32_156 v2
  let v242 : BitVec 32 := Scalar.muli c4_i32_158 v240
  let c2_i32_159 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v243 : BitVec 32 := Scalar.muli c2_i32_159 v5
  let v244 : BitVec 32 := Scalar.addi v242 v243
  let c1_i32_157 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v241 : BitVec 32 := Scalar.subi c1_i32_157 v8
  let v245 : BitVec 32 := Scalar.addi v244 v241
  let c0_i32_167 : BitVec 32 := 0#32
  let c0_i32_168 : BitVec 32 := 0#32
  ![v245.toNat, 0, 0]
def k0_dev12 (d0 : Dev nD) : Nat :=
  let c0_i32_162 : BitVec 32 := 0#32
  let c1_i32_156 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v240 : BitVec 32 := Scalar.subi c1_i32_156 v2
  let c4_i32_161 : BitVec 32 := 4#32
  let v246 : BitVec 32 := Scalar.muli v240 c4_i32_161
  let v247 : BitVec 32 := Scalar.addi c0_i32_162 v246
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_163 : BitVec 32 := 2#32
  let v248 : BitVec 32 := Scalar.muli v5 c2_i32_163
  let v249 : BitVec 32 := Scalar.addi v247 v248
  let c1_i32_157 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v241 : BitVec 32 := Scalar.subi c1_i32_157 v8
  let c1_i32_164 : BitVec 32 := 1#32
  let v250 : BitVec 32 := Scalar.muli v241 c1_i32_164
  let v251 : BitVec 32 := Scalar.addi v249 v250
  v251.toNat
def k0_off15 (d0 : Dev nD) : Fin 3 → Nat :=
  let c4_i32_171 : BitVec 32 := 4#32
  let c1_i32_169 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v260 : BitVec 32 := Scalar.subi c1_i32_169 v2
  let v262 : BitVec 32 := Scalar.muli c4_i32_171 v260
  let c2_i32_172 : BitVec 32 := 2#32
  let c1_i32_170 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v261 : BitVec 32 := Scalar.subi c1_i32_170 v5
  let v263 : BitVec 32 := Scalar.muli c2_i32_172 v261
  let v264 : BitVec 32 := Scalar.addi v262 v263
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v265 : BitVec 32 := Scalar.addi v264 v8
  let c0_i32_180 : BitVec 32 := 0#32
  let c0_i32_181 : BitVec 32 := 0#32
  ![v265.toNat, 0, 0]
def k0_dev13 (d0 : Dev nD) : Nat :=
  let c0_i32_175 : BitVec 32 := 0#32
  let c1_i32_169 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v260 : BitVec 32 := Scalar.subi c1_i32_169 v2
  let c4_i32_174 : BitVec 32 := 4#32
  let v266 : BitVec 32 := Scalar.muli v260 c4_i32_174
  let v267 : BitVec 32 := Scalar.addi c0_i32_175 v266
  let c1_i32_170 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v261 : BitVec 32 := Scalar.subi c1_i32_170 v5
  let c2_i32_176 : BitVec 32 := 2#32
  let v268 : BitVec 32 := Scalar.muli v261 c2_i32_176
  let v269 : BitVec 32 := Scalar.addi v267 v268
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_177 : BitVec 32 := 1#32
  let v270 : BitVec 32 := Scalar.muli v8 c1_i32_177
  let v271 : BitVec 32 := Scalar.addi v269 v270
  v271.toNat
def k0_off16 (d0 : Dev nD) : Fin 3 → Nat :=
  let c4_i32_185 : BitVec 32 := 4#32
  let c1_i32_182 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v280 : BitVec 32 := Scalar.subi c1_i32_182 v2
  let v283 : BitVec 32 := Scalar.muli c4_i32_185 v280
  let c2_i32_186 : BitVec 32 := 2#32
  let c1_i32_183 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v281 : BitVec 32 := Scalar.subi c1_i32_183 v5
  let v284 : BitVec 32 := Scalar.muli c2_i32_186 v281
  let v285 : BitVec 32 := Scalar.addi v283 v284
  let c1_i32_184 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v282 : BitVec 32 := Scalar.subi c1_i32_184 v8
  let v286 : BitVec 32 := Scalar.addi v285 v282
  let c0_i32_194 : BitVec 32 := 0#32
  let c0_i32_195 : BitVec 32 := 0#32
  ![v286.toNat, 0, 0]
def k0_dev14 (d0 : Dev nD) : Nat :=
  let c0_i32_189 : BitVec 32 := 0#32
  let c1_i32_182 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v280 : BitVec 32 := Scalar.subi c1_i32_182 v2
  let c4_i32_188 : BitVec 32 := 4#32
  let v287 : BitVec 32 := Scalar.muli v280 c4_i32_188
  let v288 : BitVec 32 := Scalar.addi c0_i32_189 v287
  let c1_i32_183 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v281 : BitVec 32 := Scalar.subi c1_i32_183 v5
  let c2_i32_190 : BitVec 32 := 2#32
  let v289 : BitVec 32 := Scalar.muli v281 c2_i32_190
  let v290 : BitVec 32 := Scalar.addi v288 v289
  let c1_i32_184 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v282 : BitVec 32 := Scalar.subi c1_i32_184 v8
  let c1_i32_191 : BitVec 32 := 1#32
  let v291 : BitVec 32 := Scalar.muli v282 c1_i32_191
  let v292 : BitVec 32 := Scalar.addi v290 v291
  v292.toNat
def k0_off17 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_197 : BitVec 32 := 0#32
  let c0_i32_198 : BitVec 32 := 0#32
  ![v12.toNat, 0, 0]
def k0_off18 (d0 : Dev nD) : Fin 3 → Nat :=
  let c4_i32_202 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v308 : BitVec 32 := Scalar.muli c4_i32_202 v2
  let c2_i32_203 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v309 : BitVec 32 := Scalar.muli c2_i32_203 v5
  let v310 : BitVec 32 := Scalar.addi v308 v309
  let c1_i32_201 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v307 : BitVec 32 := Scalar.subi c1_i32_201 v8
  let v311 : BitVec 32 := Scalar.addi v310 v307
  let c0_i32_211 : BitVec 32 := 0#32
  let c0_i32_212 : BitVec 32 := 0#32
  ![v311.toNat, 0, 0]
def k0_dev15 (d0 : Dev nD) : Nat :=
  let c0_i32_206 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_205 : BitVec 32 := 4#32
  let v312 : BitVec 32 := Scalar.muli v2 c4_i32_205
  let v313 : BitVec 32 := Scalar.addi c0_i32_206 v312
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_207 : BitVec 32 := 2#32
  let v314 : BitVec 32 := Scalar.muli v5 c2_i32_207
  let v315 : BitVec 32 := Scalar.addi v313 v314
  let c1_i32_201 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v307 : BitVec 32 := Scalar.subi c1_i32_201 v8
  let c1_i32_208 : BitVec 32 := 1#32
  let v316 : BitVec 32 := Scalar.muli v307 c1_i32_208
  let v317 : BitVec 32 := Scalar.addi v315 v316
  v317.toNat
def k0_off19 (d0 : Dev nD) : Fin 3 → Nat :=
  let c4_i32_214 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v327 : BitVec 32 := Scalar.muli c4_i32_214 v2
  let c2_i32_215 : BitVec 32 := 2#32
  let c1_i32_213 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v326 : BitVec 32 := Scalar.subi c1_i32_213 v5
  let v328 : BitVec 32 := Scalar.muli c2_i32_215 v326
  let v329 : BitVec 32 := Scalar.addi v327 v328
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v330 : BitVec 32 := Scalar.addi v329 v8
  let c0_i32_223 : BitVec 32 := 0#32
  let c0_i32_224 : BitVec 32 := 0#32
  ![v330.toNat, 0, 0]
def k0_dev16 (d0 : Dev nD) : Nat :=
  let c0_i32_218 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_217 : BitVec 32 := 4#32
  let v331 : BitVec 32 := Scalar.muli v2 c4_i32_217
  let v332 : BitVec 32 := Scalar.addi c0_i32_218 v331
  let c1_i32_213 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v326 : BitVec 32 := Scalar.subi c1_i32_213 v5
  let c2_i32_219 : BitVec 32 := 2#32
  let v333 : BitVec 32 := Scalar.muli v326 c2_i32_219
  let v334 : BitVec 32 := Scalar.addi v332 v333
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_220 : BitVec 32 := 1#32
  let v335 : BitVec 32 := Scalar.muli v8 c1_i32_220
  let v336 : BitVec 32 := Scalar.addi v334 v335
  v336.toNat
def k0_off20 (d0 : Dev nD) : Fin 3 → Nat :=
  let c4_i32_227 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v347 : BitVec 32 := Scalar.muli c4_i32_227 v2
  let c2_i32_228 : BitVec 32 := 2#32
  let c1_i32_225 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v345 : BitVec 32 := Scalar.subi c1_i32_225 v5
  let v348 : BitVec 32 := Scalar.muli c2_i32_228 v345
  let v349 : BitVec 32 := Scalar.addi v347 v348
  let c1_i32_226 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v346 : BitVec 32 := Scalar.subi c1_i32_226 v8
  let v350 : BitVec 32 := Scalar.addi v349 v346
  let c0_i32_236 : BitVec 32 := 0#32
  let c0_i32_237 : BitVec 32 := 0#32
  ![v350.toNat, 0, 0]
def k0_dev17 (d0 : Dev nD) : Nat :=
  let c0_i32_231 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_230 : BitVec 32 := 4#32
  let v351 : BitVec 32 := Scalar.muli v2 c4_i32_230
  let v352 : BitVec 32 := Scalar.addi c0_i32_231 v351
  let c1_i32_225 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v345 : BitVec 32 := Scalar.subi c1_i32_225 v5
  let c2_i32_232 : BitVec 32 := 2#32
  let v353 : BitVec 32 := Scalar.muli v345 c2_i32_232
  let v354 : BitVec 32 := Scalar.addi v352 v353
  let c1_i32_226 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v346 : BitVec 32 := Scalar.subi c1_i32_226 v8
  let c1_i32_233 : BitVec 32 := 1#32
  let v355 : BitVec 32 := Scalar.muli v346 c1_i32_233
  let v356 : BitVec 32 := Scalar.addi v354 v355
  v356.toNat
def k0_off21 (d0 : Dev nD) : Fin 3 → Nat :=
  let c4_i32_239 : BitVec 32 := 4#32
  let c1_i32_238 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v365 : BitVec 32 := Scalar.subi c1_i32_238 v2
  let v366 : BitVec 32 := Scalar.muli c4_i32_239 v365
  let c2_i32_240 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v367 : BitVec 32 := Scalar.muli c2_i32_240 v5
  let v368 : BitVec 32 := Scalar.addi v366 v367
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v369 : BitVec 32 := Scalar.addi v368 v8
  let c0_i32_248 : BitVec 32 := 0#32
  let c0_i32_249 : BitVec 32 := 0#32
  ![v369.toNat, 0, 0]
def k0_dev18 (d0 : Dev nD) : Nat :=
  let c0_i32_243 : BitVec 32 := 0#32
  let c1_i32_238 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v365 : BitVec 32 := Scalar.subi c1_i32_238 v2
  let c4_i32_242 : BitVec 32 := 4#32
  let v370 : BitVec 32 := Scalar.muli v365 c4_i32_242
  let v371 : BitVec 32 := Scalar.addi c0_i32_243 v370
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_244 : BitVec 32 := 2#32
  let v372 : BitVec 32 := Scalar.muli v5 c2_i32_244
  let v373 : BitVec 32 := Scalar.addi v371 v372
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_245 : BitVec 32 := 1#32
  let v374 : BitVec 32 := Scalar.muli v8 c1_i32_245
  let v375 : BitVec 32 := Scalar.addi v373 v374
  v375.toNat
def k0_off22 (d0 : Dev nD) : Fin 3 → Nat :=
  let c4_i32_252 : BitVec 32 := 4#32
  let c1_i32_250 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v384 : BitVec 32 := Scalar.subi c1_i32_250 v2
  let v386 : BitVec 32 := Scalar.muli c4_i32_252 v384
  let c2_i32_253 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v387 : BitVec 32 := Scalar.muli c2_i32_253 v5
  let v388 : BitVec 32 := Scalar.addi v386 v387
  let c1_i32_251 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v385 : BitVec 32 := Scalar.subi c1_i32_251 v8
  let v389 : BitVec 32 := Scalar.addi v388 v385
  let c0_i32_261 : BitVec 32 := 0#32
  let c0_i32_262 : BitVec 32 := 0#32
  ![v389.toNat, 0, 0]
def k0_dev19 (d0 : Dev nD) : Nat :=
  let c0_i32_256 : BitVec 32 := 0#32
  let c1_i32_250 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v384 : BitVec 32 := Scalar.subi c1_i32_250 v2
  let c4_i32_255 : BitVec 32 := 4#32
  let v390 : BitVec 32 := Scalar.muli v384 c4_i32_255
  let v391 : BitVec 32 := Scalar.addi c0_i32_256 v390
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_257 : BitVec 32 := 2#32
  let v392 : BitVec 32 := Scalar.muli v5 c2_i32_257
  let v393 : BitVec 32 := Scalar.addi v391 v392
  let c1_i32_251 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v385 : BitVec 32 := Scalar.subi c1_i32_251 v8
  let c1_i32_258 : BitVec 32 := 1#32
  let v394 : BitVec 32 := Scalar.muli v385 c1_i32_258
  let v395 : BitVec 32 := Scalar.addi v393 v394
  v395.toNat
def k0_off23 (d0 : Dev nD) : Fin 3 → Nat :=
  let c4_i32_265 : BitVec 32 := 4#32
  let c1_i32_263 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v404 : BitVec 32 := Scalar.subi c1_i32_263 v2
  let v406 : BitVec 32 := Scalar.muli c4_i32_265 v404
  let c2_i32_266 : BitVec 32 := 2#32
  let c1_i32_264 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v405 : BitVec 32 := Scalar.subi c1_i32_264 v5
  let v407 : BitVec 32 := Scalar.muli c2_i32_266 v405
  let v408 : BitVec 32 := Scalar.addi v406 v407
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v409 : BitVec 32 := Scalar.addi v408 v8
  let c0_i32_274 : BitVec 32 := 0#32
  let c0_i32_275 : BitVec 32 := 0#32
  ![v409.toNat, 0, 0]
def k0_dev20 (d0 : Dev nD) : Nat :=
  let c0_i32_269 : BitVec 32 := 0#32
  let c1_i32_263 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v404 : BitVec 32 := Scalar.subi c1_i32_263 v2
  let c4_i32_268 : BitVec 32 := 4#32
  let v410 : BitVec 32 := Scalar.muli v404 c4_i32_268
  let v411 : BitVec 32 := Scalar.addi c0_i32_269 v410
  let c1_i32_264 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v405 : BitVec 32 := Scalar.subi c1_i32_264 v5
  let c2_i32_270 : BitVec 32 := 2#32
  let v412 : BitVec 32 := Scalar.muli v405 c2_i32_270
  let v413 : BitVec 32 := Scalar.addi v411 v412
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_271 : BitVec 32 := 1#32
  let v414 : BitVec 32 := Scalar.muli v8 c1_i32_271
  let v415 : BitVec 32 := Scalar.addi v413 v414
  v415.toNat
def k0_off24 (d0 : Dev nD) : Fin 3 → Nat :=
  let c4_i32_279 : BitVec 32 := 4#32
  let c1_i32_276 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v424 : BitVec 32 := Scalar.subi c1_i32_276 v2
  let v427 : BitVec 32 := Scalar.muli c4_i32_279 v424
  let c2_i32_280 : BitVec 32 := 2#32
  let c1_i32_277 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v425 : BitVec 32 := Scalar.subi c1_i32_277 v5
  let v428 : BitVec 32 := Scalar.muli c2_i32_280 v425
  let v429 : BitVec 32 := Scalar.addi v427 v428
  let c1_i32_278 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v426 : BitVec 32 := Scalar.subi c1_i32_278 v8
  let v430 : BitVec 32 := Scalar.addi v429 v426
  let c0_i32_288 : BitVec 32 := 0#32
  let c0_i32_289 : BitVec 32 := 0#32
  ![v430.toNat, 0, 0]
def k0_dev21 (d0 : Dev nD) : Nat :=
  let c0_i32_283 : BitVec 32 := 0#32
  let c1_i32_276 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v424 : BitVec 32 := Scalar.subi c1_i32_276 v2
  let c4_i32_282 : BitVec 32 := 4#32
  let v431 : BitVec 32 := Scalar.muli v424 c4_i32_282
  let v432 : BitVec 32 := Scalar.addi c0_i32_283 v431
  let c1_i32_277 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v425 : BitVec 32 := Scalar.subi c1_i32_277 v5
  let c2_i32_284 : BitVec 32 := 2#32
  let v433 : BitVec 32 := Scalar.muli v425 c2_i32_284
  let v434 : BitVec 32 := Scalar.addi v432 v433
  let c1_i32_278 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v426 : BitVec 32 := Scalar.subi c1_i32_278 v8
  let c1_i32_285 : BitVec 32 := 1#32
  let v435 : BitVec 32 := Scalar.muli v426 c1_i32_285
  let v436 : BitVec 32 := Scalar.addi v434 v435
  v436.toNat
def k0_dev22 (d0 : Dev nD) : Nat :=
  let c0_i32_300 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_299 : BitVec 32 := 4#32
  let v456 : BitVec 32 := Scalar.muli v2 c4_i32_299
  let v457 : BitVec 32 := Scalar.addi c0_i32_300 v456
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_301 : BitVec 32 := 2#32
  let v458 : BitVec 32 := Scalar.muli v5 c2_i32_301
  let v459 : BitVec 32 := Scalar.addi v457 v458
  let c1_i32_295 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v451 : BitVec 32 := Scalar.subi c1_i32_295 v8
  let c1_i32_302 : BitVec 32 := 1#32
  let v460 : BitVec 32 := Scalar.muli v451 c1_i32_302
  let v461 : BitVec 32 := Scalar.addi v459 v460
  v461.toNat
def k0_dev23 (d0 : Dev nD) : Nat :=
  let c0_i32_312 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_311 : BitVec 32 := 4#32
  let v475 : BitVec 32 := Scalar.muli v2 c4_i32_311
  let v476 : BitVec 32 := Scalar.addi c0_i32_312 v475
  let c1_i32_307 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v470 : BitVec 32 := Scalar.subi c1_i32_307 v5
  let c2_i32_313 : BitVec 32 := 2#32
  let v477 : BitVec 32 := Scalar.muli v470 c2_i32_313
  let v478 : BitVec 32 := Scalar.addi v476 v477
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_314 : BitVec 32 := 1#32
  let v479 : BitVec 32 := Scalar.muli v8 c1_i32_314
  let v480 : BitVec 32 := Scalar.addi v478 v479
  v480.toNat
def k0_dev24 (d0 : Dev nD) : Nat :=
  let c0_i32_325 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_324 : BitVec 32 := 4#32
  let v495 : BitVec 32 := Scalar.muli v2 c4_i32_324
  let v496 : BitVec 32 := Scalar.addi c0_i32_325 v495
  let c1_i32_319 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v489 : BitVec 32 := Scalar.subi c1_i32_319 v5
  let c2_i32_326 : BitVec 32 := 2#32
  let v497 : BitVec 32 := Scalar.muli v489 c2_i32_326
  let v498 : BitVec 32 := Scalar.addi v496 v497
  let c1_i32_320 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v490 : BitVec 32 := Scalar.subi c1_i32_320 v8
  let c1_i32_327 : BitVec 32 := 1#32
  let v499 : BitVec 32 := Scalar.muli v490 c1_i32_327
  let v500 : BitVec 32 := Scalar.addi v498 v499
  v500.toNat
def k0_dev25 (d0 : Dev nD) : Nat :=
  let c0_i32_337 : BitVec 32 := 0#32
  let c1_i32_332 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v509 : BitVec 32 := Scalar.subi c1_i32_332 v2
  let c4_i32_336 : BitVec 32 := 4#32
  let v514 : BitVec 32 := Scalar.muli v509 c4_i32_336
  let v515 : BitVec 32 := Scalar.addi c0_i32_337 v514
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_338 : BitVec 32 := 2#32
  let v516 : BitVec 32 := Scalar.muli v5 c2_i32_338
  let v517 : BitVec 32 := Scalar.addi v515 v516
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_339 : BitVec 32 := 1#32
  let v518 : BitVec 32 := Scalar.muli v8 c1_i32_339
  let v519 : BitVec 32 := Scalar.addi v517 v518
  v519.toNat
def k0_dev26 (d0 : Dev nD) : Nat :=
  let c0_i32_350 : BitVec 32 := 0#32
  let c1_i32_344 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v528 : BitVec 32 := Scalar.subi c1_i32_344 v2
  let c4_i32_349 : BitVec 32 := 4#32
  let v534 : BitVec 32 := Scalar.muli v528 c4_i32_349
  let v535 : BitVec 32 := Scalar.addi c0_i32_350 v534
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_351 : BitVec 32 := 2#32
  let v536 : BitVec 32 := Scalar.muli v5 c2_i32_351
  let v537 : BitVec 32 := Scalar.addi v535 v536
  let c1_i32_345 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v529 : BitVec 32 := Scalar.subi c1_i32_345 v8
  let c1_i32_352 : BitVec 32 := 1#32
  let v538 : BitVec 32 := Scalar.muli v529 c1_i32_352
  let v539 : BitVec 32 := Scalar.addi v537 v538
  v539.toNat
def k0_dev27 (d0 : Dev nD) : Nat :=
  let c0_i32_363 : BitVec 32 := 0#32
  let c1_i32_357 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v548 : BitVec 32 := Scalar.subi c1_i32_357 v2
  let c4_i32_362 : BitVec 32 := 4#32
  let v554 : BitVec 32 := Scalar.muli v548 c4_i32_362
  let v555 : BitVec 32 := Scalar.addi c0_i32_363 v554
  let c1_i32_358 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v549 : BitVec 32 := Scalar.subi c1_i32_358 v5
  let c2_i32_364 : BitVec 32 := 2#32
  let v556 : BitVec 32 := Scalar.muli v549 c2_i32_364
  let v557 : BitVec 32 := Scalar.addi v555 v556
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_365 : BitVec 32 := 1#32
  let v558 : BitVec 32 := Scalar.muli v8 c1_i32_365
  let v559 : BitVec 32 := Scalar.addi v557 v558
  v559.toNat
def k0_dev28 (d0 : Dev nD) : Nat :=
  let c0_i32_377 : BitVec 32 := 0#32
  let c1_i32_370 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v568 : BitVec 32 := Scalar.subi c1_i32_370 v2
  let c4_i32_376 : BitVec 32 := 4#32
  let v575 : BitVec 32 := Scalar.muli v568 c4_i32_376
  let v576 : BitVec 32 := Scalar.addi c0_i32_377 v575
  let c1_i32_371 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v569 : BitVec 32 := Scalar.subi c1_i32_371 v5
  let c2_i32_378 : BitVec 32 := 2#32
  let v577 : BitVec 32 := Scalar.muli v569 c2_i32_378
  let v578 : BitVec 32 := Scalar.addi v576 v577
  let c1_i32_372 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v570 : BitVec 32 := Scalar.subi c1_i32_372 v8
  let c1_i32_379 : BitVec 32 := 1#32
  let v579 : BitVec 32 := Scalar.muli v570 c1_i32_379
  let v580 : BitVec 32 := Scalar.addi v578 v579
  v580.toNat
-- ==== Gather.lean ====
abbrev S2048x2824 : Shape := ⟨2, ![2048, 2824]⟩
abbrev S256x2048 : Shape := ⟨2, ![256, 2048]⟩
abbrev S512x2048 : Shape := ⟨2, ![512, 2048]⟩
abbrev S4x768 : Shape := ⟨2, ![4, 768]⟩
abbrev S8x2048x2824 : Shape := ⟨3, ![8, 2048, 2824]⟩
abbrev S8x256x2048 : Shape := ⟨3, ![8, 256, 2048]⟩
abbrev S8x512x2048 : Shape := ⟨3, ![8, 512, 2048]⟩
abbrev S8x4x768 : Shape := ⟨3, ![8, 4, 768]⟩
abbrev S35 : Shape := ⟨1, ![35]⟩
abbrev S5 : Shape := ⟨1, ![5]⟩
abbrev S1 : Shape := ⟨1, ![1]⟩
abbrev S_ : Shape := ⟨0, ![]⟩
abbrev S1x2048x2824 : Shape := ⟨3, ![1, 2048, 2824]⟩
abbrev S1x256x2048 : Shape := ⟨3, ![1, 256, 2048]⟩
abbrev S1x512x2048 : Shape := ⟨3, ![1, 512, 2048]⟩
abbrev S1x4x768 : Shape := ⟨3, ![1, 4, 768]⟩

abbrev nBuf : Space → Nat
  | .hbm => 10
  | .vmem => 0
  | .smem => 0
  | _ => 0

abbrev bufTy : (tb : Table) → Fin (tcTables nBuf tb) → BufTy
  | .hbm, ⟨0, _⟩ => ⟨S2048x2824, .bf16⟩
  | .hbm, ⟨1, _⟩ => ⟨S256x2048, .bf16⟩
  | .hbm, ⟨2, _⟩ => ⟨S512x2048, .bf16⟩
  | .hbm, ⟨3, _⟩ => ⟨S256x2048, .bf16⟩
  | .hbm, ⟨4, _⟩ => ⟨S4x768, .f32⟩
  | .hbm, ⟨5, _⟩ => ⟨S8x2048x2824, .bf16⟩
  | .hbm, ⟨6, _⟩ => ⟨S8x256x2048, .bf16⟩
  | .hbm, ⟨7, _⟩ => ⟨S8x512x2048, .bf16⟩
  | .hbm, ⟨8, _⟩ => ⟨S8x256x2048, .bf16⟩
  | .hbm, ⟨9, _⟩ => ⟨S8x4x768, .f32⟩
  | _, _ => ⟨S2048x2824, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 75 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | _ => false

abbrev sig : RefSig :=
  ofTc nBuf bufTy 0 75 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev main_v1_4 : Ref sig .tc := ⟨.hbm, 9, rfl⟩

abbrev nD : Nat := 8
abbrev τ : Topo := Topo.v7x

variable {F : FTy → Type} [FloatOps F]

abbrev grid0 : Pipeline.Grid := .none

def k0_off1 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_5 : BitVec 32 := 0#32
  let c0_i32_6 : BitVec 32 := 0#32
  ![v12.toNat, 0, 0]
def k0_dev1 (d0 : Dev nD) : Nat :=
  let c0_i32_13 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_12 : BitVec 32 := 4#32
  let v22 : BitVec 32 := Scalar.muli v2 c4_i32_12
  let v23 : BitVec 32 := Scalar.addi c0_i32_13 v22
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_14 : BitVec 32 := 2#32
  let v24 : BitVec 32 := Scalar.muli v5 c2_i32_14
  let v25 : BitVec 32 := Scalar.addi v23 v24
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_7 v8
  let c1_i32_15 : BitVec 32 := 1#32
  let v26 : BitVec 32 := Scalar.muli v17 c1_i32_15
  let v27 : BitVec 32 := Scalar.addi v25 v26
  v27.toNat
def k0_dev2 (d0 : Dev nD) : Nat :=
  let c0_i32_24 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_23 : BitVec 32 := 4#32
  let v39 : BitVec 32 := Scalar.muli v2 c4_i32_23
  let v40 : BitVec 32 := Scalar.addi c0_i32_24 v39
  let c1_i32_18 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v34 : BitVec 32 := Scalar.subi c1_i32_18 v5
  let c2_i32_25 : BitVec 32 := 2#32
  let v41 : BitVec 32 := Scalar.muli v34 c2_i32_25
  let v42 : BitVec 32 := Scalar.addi v40 v41
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_26 : BitVec 32 := 1#32
  let v43 : BitVec 32 := Scalar.muli v8 c1_i32_26
  let v44 : BitVec 32 := Scalar.addi v42 v43
  v44.toNat
def k0_dev3 (d0 : Dev nD) : Nat :=
  let c0_i32_36 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_35 : BitVec 32 := 4#32
  let v57 : BitVec 32 := Scalar.muli v2 c4_i32_35
  let v58 : BitVec 32 := Scalar.addi c0_i32_36 v57
  let c1_i32_29 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v51 : BitVec 32 := Scalar.subi c1_i32_29 v5
  let c2_i32_37 : BitVec 32 := 2#32
  let v59 : BitVec 32 := Scalar.muli v51 c2_i32_37
  let v60 : BitVec 32 := Scalar.addi v58 v59
  let c1_i32_30 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v52 : BitVec 32 := Scalar.subi c1_i32_30 v8
  let c1_i32_38 : BitVec 32 := 1#32
  let v61 : BitVec 32 := Scalar.muli v52 c1_i32_38
  let v62 : BitVec 32 := Scalar.addi v60 v61
  v62.toNat
def k0_dev4 (d0 : Dev nD) : Nat :=
  let c0_i32_46 : BitVec 32 := 0#32
  let c1_i32_41 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v69 : BitVec 32 := Scalar.subi c1_i32_41 v2
  let c4_i32_45 : BitVec 32 := 4#32
  let v74 : BitVec 32 := Scalar.muli v69 c4_i32_45
  let v75 : BitVec 32 := Scalar.addi c0_i32_46 v74
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_47 : BitVec 32 := 2#32
  let v76 : BitVec 32 := Scalar.muli v5 c2_i32_47
  let v77 : BitVec 32 := Scalar.addi v75 v76
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_48 : BitVec 32 := 1#32
  let v78 : BitVec 32 := Scalar.muli v8 c1_i32_48
  let v79 : BitVec 32 := Scalar.addi v77 v78
  v79.toNat
def k0_dev5 (d0 : Dev nD) : Nat :=
  let c0_i32_58 : BitVec 32 := 0#32
  let c1_i32_51 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v86 : BitVec 32 := Scalar.subi c1_i32_51 v2
  let c4_i32_57 : BitVec 32 := 4#32
  let v92 : BitVec 32 := Scalar.muli v86 c4_i32_57
  let v93 : BitVec 32 := Scalar.addi c0_i32_58 v92
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_59 : BitVec 32 := 2#32
  let v94 : BitVec 32 := Scalar.muli v5 c2_i32_59
  let v95 : BitVec 32 := Scalar.addi v93 v94
  let c1_i32_52 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v87 : BitVec 32 := Scalar.subi c1_i32_52 v8
  let c1_i32_60 : BitVec 32 := 1#32
  let v96 : BitVec 32 := Scalar.muli v87 c1_i32_60
  let v97 : BitVec 32 := Scalar.addi v95 v96
  v97.toNat
def k0_dev6 (d0 : Dev nD) : Nat :=
  let c0_i32_69 : BitVec 32 := 0#32
  let c1_i32_63 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v104 : BitVec 32 := Scalar.subi c1_i32_63 v2
  let c4_i32_68 : BitVec 32 := 4#32
  let v110 : BitVec 32 := Scalar.muli v104 c4_i32_68
  let v111 : BitVec 32 := Scalar.addi c0_i32_69 v110
  let c1_i32_64 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v105 : BitVec 32 := Scalar.subi c1_i32_64 v5
  let c2_i32_70 : BitVec 32 := 2#32
  let v112 : BitVec 32 := Scalar.muli v105 c2_i32_70
  let v113 : BitVec 32 := Scalar.addi v111 v112
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_71 : BitVec 32 := 1#32
  let v114 : BitVec 32 := Scalar.muli v8 c1_i32_71
  let v115 : BitVec 32 := Scalar.addi v113 v114
  v115.toNat
def k0_dev7 (d0 : Dev nD) : Nat :=
  let c0_i32_81 : BitVec 32 := 0#32
  let c1_i32_74 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v122 : BitVec 32 := Scalar.subi c1_i32_74 v2
  let c4_i32_80 : BitVec 32 := 4#32
  let v129 : BitVec 32 := Scalar.muli v122 c4_i32_80
  let v130 : BitVec 32 := Scalar.addi c0_i32_81 v129
  let c1_i32_75 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v123 : BitVec 32 := Scalar.subi c1_i32_75 v5
  let c2_i32_82 : BitVec 32 := 2#32
  let v131 : BitVec 32 := Scalar.muli v123 c2_i32_82
  let v132 : BitVec 32 := Scalar.addi v130 v131
  let c1_i32_76 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v124 : BitVec 32 := Scalar.subi c1_i32_76 v8
  let c1_i32_83 : BitVec 32 := 1#32
  let v133 : BitVec 32 := Scalar.muli v124 c1_i32_83
  let v134 : BitVec 32 := Scalar.addi v132 v133
  v134.toNat
def k0_off2 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_87 : BitVec 32 := 0#32
  let c0_i32_88 : BitVec 32 := 0#32
  ![v12.toNat, 0, 0]
def k0_dev8 (d0 : Dev nD) : Nat :=
  let c0_i32_94 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_93 : BitVec 32 := 4#32
  let v150 : BitVec 32 := Scalar.muli v2 c4_i32_93
  let v151 : BitVec 32 := Scalar.addi c0_i32_94 v150
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_95 : BitVec 32 := 2#32
  let v152 : BitVec 32 := Scalar.muli v5 c2_i32_95
  let v153 : BitVec 32 := Scalar.addi v151 v152
  let c1_i32_89 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v145 : BitVec 32 := Scalar.subi c1_i32_89 v8
  let c1_i32_96 : BitVec 32 := 1#32
  let v154 : BitVec 32 := Scalar.muli v145 c1_i32_96
  let v155 : BitVec 32 := Scalar.addi v153 v154
  v155.toNat
def k0_dev9 (d0 : Dev nD) : Nat :=
  let c0_i32_104 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_103 : BitVec 32 := 4#32
  let v167 : BitVec 32 := Scalar.muli v2 c4_i32_103
  let v168 : BitVec 32 := Scalar.addi c0_i32_104 v167
  let c1_i32_99 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v162 : BitVec 32 := Scalar.subi c1_i32_99 v5
  let c2_i32_105 : BitVec 32 := 2#32
  let v169 : BitVec 32 := Scalar.muli v162 c2_i32_105
  let v170 : BitVec 32 := Scalar.addi v168 v169
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_106 : BitVec 32 := 1#32
  let v171 : BitVec 32 := Scalar.muli v8 c1_i32_106
  let v172 : BitVec 32 := Scalar.addi v170 v171
  v172.toNat
def k0_dev10 (d0 : Dev nD) : Nat :=
  let c0_i32_115 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_114 : BitVec 32 := 4#32
  let v185 : BitVec 32 := Scalar.muli v2 c4_i32_114
  let v186 : BitVec 32 := Scalar.addi c0_i32_115 v185
  let c1_i32_109 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v179 : BitVec 32 := Scalar.subi c1_i32_109 v5
  let c2_i32_116 : BitVec 32 := 2#32
  let v187 : BitVec 32 := Scalar.muli v179 c2_i32_116
  let v188 : BitVec 32 := Scalar.addi v186 v187
  let c1_i32_110 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v180 : BitVec 32 := Scalar.subi c1_i32_110 v8
  let c1_i32_117 : BitVec 32 := 1#32
  let v189 : BitVec 32 := Scalar.muli v180 c1_i32_117
  let v190 : BitVec 32 := Scalar.addi v188 v189
  v190.toNat
def k0_dev11 (d0 : Dev nD) : Nat :=
  let c0_i32_125 : BitVec 32 := 0#32
  let c1_i32_120 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v197 : BitVec 32 := Scalar.subi c1_i32_120 v2
  let c4_i32_124 : BitVec 32 := 4#32
  let v202 : BitVec 32 := Scalar.muli v197 c4_i32_124
  let v203 : BitVec 32 := Scalar.addi c0_i32_125 v202
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_126 : BitVec 32 := 2#32
  let v204 : BitVec 32 := Scalar.muli v5 c2_i32_126
  let v205 : BitVec 32 := Scalar.addi v203 v204
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_127 : BitVec 32 := 1#32
  let v206 : BitVec 32 := Scalar.muli v8 c1_i32_127
  let v207 : BitVec 32 := Scalar.addi v205 v206
  v207.toNat
def k0_dev12 (d0 : Dev nD) : Nat :=
  let c0_i32_136 : BitVec 32 := 0#32
  let c1_i32_130 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v214 : BitVec 32 := Scalar.subi c1_i32_130 v2
  let c4_i32_135 : BitVec 32 := 4#32
  let v220 : BitVec 32 := Scalar.muli v214 c4_i32_135
  let v221 : BitVec 32 := Scalar.addi c0_i32_136 v220
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_137 : BitVec 32 := 2#32
  let v222 : BitVec 32 := Scalar.muli v5 c2_i32_137
  let v223 : BitVec 32 := Scalar.addi v221 v222
  let c1_i32_131 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v215 : BitVec 32 := Scalar.subi c1_i32_131 v8
  let c1_i32_138 : BitVec 32 := 1#32
  let v224 : BitVec 32 := Scalar.muli v215 c1_i32_138
  let v225 : BitVec 32 := Scalar.addi v223 v224
  v225.toNat
def k0_dev13 (d0 : Dev nD) : Nat :=
  let c0_i32_147 : BitVec 32 := 0#32
  let c1_i32_141 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v232 : BitVec 32 := Scalar.subi c1_i32_141 v2
  let c4_i32_146 : BitVec 32 := 4#32
  let v238 : BitVec 32 := Scalar.muli v232 c4_i32_146
  let v239 : BitVec 32 := Scalar.addi c0_i32_147 v238
  let c1_i32_142 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v233 : BitVec 32 := Scalar.subi c1_i32_142 v5
  let c2_i32_148 : BitVec 32 := 2#32
  let v240 : BitVec 32 := Scalar.muli v233 c2_i32_148
  let v241 : BitVec 32 := Scalar.addi v239 v240
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_149 : BitVec 32 := 1#32
  let v242 : BitVec 32 := Scalar.muli v8 c1_i32_149
  let v243 : BitVec 32 := Scalar.addi v241 v242
  v243.toNat
def k0_dev14 (d0 : Dev nD) : Nat :=
  let c0_i32_159 : BitVec 32 := 0#32
  let c1_i32_152 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v250 : BitVec 32 := Scalar.subi c1_i32_152 v2
  let c4_i32_158 : BitVec 32 := 4#32
  let v257 : BitVec 32 := Scalar.muli v250 c4_i32_158
  let v258 : BitVec 32 := Scalar.addi c0_i32_159 v257
  let c1_i32_153 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v251 : BitVec 32 := Scalar.subi c1_i32_153 v5
  let c2_i32_160 : BitVec 32 := 2#32
  let v259 : BitVec 32 := Scalar.muli v251 c2_i32_160
  let v260 : BitVec 32 := Scalar.addi v258 v259
  let c1_i32_154 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v252 : BitVec 32 := Scalar.subi c1_i32_154 v8
  let c1_i32_161 : BitVec 32 := 1#32
  let v261 : BitVec 32 := Scalar.muli v252 c1_i32_161
  let v262 : BitVec 32 := Scalar.addi v260 v261
  v262.toNat
def k0_off3 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_165 : BitVec 32 := 0#32
  let c0_i32_166 : BitVec 32 := 0#32
  ![v12.toNat, 0, 0]
def k0_dev15 (d0 : Dev nD) : Nat :=
  let c0_i32_172 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_171 : BitVec 32 := 4#32
  let v278 : BitVec 32 := Scalar.muli v2 c4_i32_171
  let v279 : BitVec 32 := Scalar.addi c0_i32_172 v278
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_173 : BitVec 32 := 2#32
  let v280 : BitVec 32 := Scalar.muli v5 c2_i32_173
  let v281 : BitVec 32 := Scalar.addi v279 v280
  let c1_i32_167 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v273 : BitVec 32 := Scalar.subi c1_i32_167 v8
  let c1_i32_174 : BitVec 32 := 1#32
  let v282 : BitVec 32 := Scalar.muli v273 c1_i32_174
  let v283 : BitVec 32 := Scalar.addi v281 v282
  v283.toNat
def k0_dev16 (d0 : Dev nD) : Nat :=
  let c0_i32_182 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_181 : BitVec 32 := 4#32
  let v295 : BitVec 32 := Scalar.muli v2 c4_i32_181
  let v296 : BitVec 32 := Scalar.addi c0_i32_182 v295
  let c1_i32_177 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v290 : BitVec 32 := Scalar.subi c1_i32_177 v5
  let c2_i32_183 : BitVec 32 := 2#32
  let v297 : BitVec 32 := Scalar.muli v290 c2_i32_183
  let v298 : BitVec 32 := Scalar.addi v296 v297
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_184 : BitVec 32 := 1#32
  let v299 : BitVec 32 := Scalar.muli v8 c1_i32_184
  let v300 : BitVec 32 := Scalar.addi v298 v299
  v300.toNat
def k0_dev17 (d0 : Dev nD) : Nat :=
  let c0_i32_193 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_192 : BitVec 32 := 4#32
  let v313 : BitVec 32 := Scalar.muli v2 c4_i32_192
  let v314 : BitVec 32 := Scalar.addi c0_i32_193 v313
  let c1_i32_187 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v307 : BitVec 32 := Scalar.subi c1_i32_187 v5
  let c2_i32_194 : BitVec 32 := 2#32
  let v315 : BitVec 32 := Scalar.muli v307 c2_i32_194
  let v316 : BitVec 32 := Scalar.addi v314 v315
  let c1_i32_188 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v308 : BitVec 32 := Scalar.subi c1_i32_188 v8
  let c1_i32_195 : BitVec 32 := 1#32
  let v317 : BitVec 32 := Scalar.muli v308 c1_i32_195
  let v318 : BitVec 32 := Scalar.addi v316 v317
  v318.toNat
def k0_dev18 (d0 : Dev nD) : Nat :=
  let c0_i32_203 : BitVec 32 := 0#32
  let c1_i32_198 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v325 : BitVec 32 := Scalar.subi c1_i32_198 v2
  let c4_i32_202 : BitVec 32 := 4#32
  let v330 : BitVec 32 := Scalar.muli v325 c4_i32_202
  let v331 : BitVec 32 := Scalar.addi c0_i32_203 v330
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_204 : BitVec 32 := 2#32
  let v332 : BitVec 32 := Scalar.muli v5 c2_i32_204
  let v333 : BitVec 32 := Scalar.addi v331 v332
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_205 : BitVec 32 := 1#32
  let v334 : BitVec 32 := Scalar.muli v8 c1_i32_205
  let v335 : BitVec 32 := Scalar.addi v333 v334
  v335.toNat
def k0_dev19 (d0 : Dev nD) : Nat :=
  let c0_i32_214 : BitVec 32 := 0#32
  let c1_i32_208 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v342 : BitVec 32 := Scalar.subi c1_i32_208 v2
  let c4_i32_213 : BitVec 32 := 4#32
  let v348 : BitVec 32 := Scalar.muli v342 c4_i32_213
  let v349 : BitVec 32 := Scalar.addi c0_i32_214 v348
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_215 : BitVec 32 := 2#32
  let v350 : BitVec 32 := Scalar.muli v5 c2_i32_215
  let v351 : BitVec 32 := Scalar.addi v349 v350
  let c1_i32_209 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v343 : BitVec 32 := Scalar.subi c1_i32_209 v8
  let c1_i32_216 : BitVec 32 := 1#32
  let v352 : BitVec 32 := Scalar.muli v343 c1_i32_216
  let v353 : BitVec 32 := Scalar.addi v351 v352
  v353.toNat
def k0_dev20 (d0 : Dev nD) : Nat :=
  let c0_i32_225 : BitVec 32 := 0#32
  let c1_i32_219 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v360 : BitVec 32 := Scalar.subi c1_i32_219 v2
  let c4_i32_224 : BitVec 32 := 4#32
  let v366 : BitVec 32 := Scalar.muli v360 c4_i32_224
  let v367 : BitVec 32 := Scalar.addi c0_i32_225 v366
  let c1_i32_220 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v361 : BitVec 32 := Scalar.subi c1_i32_220 v5
  let c2_i32_226 : BitVec 32 := 2#32
  let v368 : BitVec 32 := Scalar.muli v361 c2_i32_226
  let v369 : BitVec 32 := Scalar.addi v367 v368
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_227 : BitVec 32 := 1#32
  let v370 : BitVec 32 := Scalar.muli v8 c1_i32_227
  let v371 : BitVec 32 := Scalar.addi v369 v370
  v371.toNat
def k0_dev21 (d0 : Dev nD) : Nat :=
  let c0_i32_237 : BitVec 32 := 0#32
  let c1_i32_230 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v378 : BitVec 32 := Scalar.subi c1_i32_230 v2
  let c4_i32_236 : BitVec 32 := 4#32
  let v385 : BitVec 32 := Scalar.muli v378 c4_i32_236
  let v386 : BitVec 32 := Scalar.addi c0_i32_237 v385
  let c1_i32_231 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v379 : BitVec 32 := Scalar.subi c1_i32_231 v5
  let c2_i32_238 : BitVec 32 := 2#32
  let v387 : BitVec 32 := Scalar.muli v379 c2_i32_238
  let v388 : BitVec 32 := Scalar.addi v386 v387
  let c1_i32_232 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v380 : BitVec 32 := Scalar.subi c1_i32_232 v8
  let c1_i32_239 : BitVec 32 := 1#32
  let v389 : BitVec 32 := Scalar.muli v380 c1_i32_239
  let v390 : BitVec 32 := Scalar.addi v388 v389
  v390.toNat
def k0_dev22 (d0 : Dev nD) : Nat :=
  let c0_i32_250 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_249 : BitVec 32 := 4#32
  let v406 : BitVec 32 := Scalar.muli v2 c4_i32_249
  let v407 : BitVec 32 := Scalar.addi c0_i32_250 v406
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_251 : BitVec 32 := 2#32
  let v408 : BitVec 32 := Scalar.muli v5 c2_i32_251
  let v409 : BitVec 32 := Scalar.addi v407 v408
  let c1_i32_245 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v401 : BitVec 32 := Scalar.subi c1_i32_245 v8
  let c1_i32_252 : BitVec 32 := 1#32
  let v410 : BitVec 32 := Scalar.muli v401 c1_i32_252
  let v411 : BitVec 32 := Scalar.addi v409 v410
  v411.toNat
def k0_dev23 (d0 : Dev nD) : Nat :=
  let c0_i32_260 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_259 : BitVec 32 := 4#32
  let v423 : BitVec 32 := Scalar.muli v2 c4_i32_259
  let v424 : BitVec 32 := Scalar.addi c0_i32_260 v423
  let c1_i32_255 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v418 : BitVec 32 := Scalar.subi c1_i32_255 v5
  let c2_i32_261 : BitVec 32 := 2#32
  let v425 : BitVec 32 := Scalar.muli v418 c2_i32_261
  let v426 : BitVec 32 := Scalar.addi v424 v425
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_262 : BitVec 32 := 1#32
  let v427 : BitVec 32 := Scalar.muli v8 c1_i32_262
  let v428 : BitVec 32 := Scalar.addi v426 v427
  v428.toNat
def k0_dev24 (d0 : Dev nD) : Nat :=
  let c0_i32_271 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_270 : BitVec 32 := 4#32
  let v441 : BitVec 32 := Scalar.muli v2 c4_i32_270
  let v442 : BitVec 32 := Scalar.addi c0_i32_271 v441
  let c1_i32_265 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v435 : BitVec 32 := Scalar.subi c1_i32_265 v5
  let c2_i32_272 : BitVec 32 := 2#32
  let v443 : BitVec 32 := Scalar.muli v435 c2_i32_272
  let v444 : BitVec 32 := Scalar.addi v442 v443
  let c1_i32_266 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v436 : BitVec 32 := Scalar.subi c1_i32_266 v8
  let c1_i32_273 : BitVec 32 := 1#32
  let v445 : BitVec 32 := Scalar.muli v436 c1_i32_273
  let v446 : BitVec 32 := Scalar.addi v444 v445
  v446.toNat
def k0_dev25 (d0 : Dev nD) : Nat :=
  let c0_i32_281 : BitVec 32 := 0#32
  let c1_i32_276 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v453 : BitVec 32 := Scalar.subi c1_i32_276 v2
  let c4_i32_280 : BitVec 32 := 4#32
  let v458 : BitVec 32 := Scalar.muli v453 c4_i32_280
  let v459 : BitVec 32 := Scalar.addi c0_i32_281 v458
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_282 : BitVec 32 := 2#32
  let v460 : BitVec 32 := Scalar.muli v5 c2_i32_282
  let v461 : BitVec 32 := Scalar.addi v459 v460
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_283 : BitVec 32 := 1#32
  let v462 : BitVec 32 := Scalar.muli v8 c1_i32_283
  let v463 : BitVec 32 := Scalar.addi v461 v462
  v463.toNat
def k0_dev26 (d0 : Dev nD) : Nat :=
  let c0_i32_292 : BitVec 32 := 0#32
  let c1_i32_286 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v470 : BitVec 32 := Scalar.subi c1_i32_286 v2
  let c4_i32_291 : BitVec 32 := 4#32
  let v476 : BitVec 32 := Scalar.muli v470 c4_i32_291
  let v477 : BitVec 32 := Scalar.addi c0_i32_292 v476
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_293 : BitVec 32 := 2#32
  let v478 : BitVec 32 := Scalar.muli v5 c2_i32_293
  let v479 : BitVec 32 := Scalar.addi v477 v478
  let c1_i32_287 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v471 : BitVec 32 := Scalar.subi c1_i32_287 v8
  let c1_i32_294 : BitVec 32 := 1#32
  let v480 : BitVec 32 := Scalar.muli v471 c1_i32_294
  let v481 : BitVec 32 := Scalar.addi v479 v480
  v481.toNat
def k0_dev27 (d0 : Dev nD) : Nat :=
  let c0_i32_303 : BitVec 32 := 0#32
  let c1_i32_297 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v488 : BitVec 32 := Scalar.subi c1_i32_297 v2
  let c4_i32_302 : BitVec 32 := 4#32
  let v494 : BitVec 32 := Scalar.muli v488 c4_i32_302
  let v495 : BitVec 32 := Scalar.addi c0_i32_303 v494
  let c1_i32_298 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v489 : BitVec 32 := Scalar.subi c1_i32_298 v5
  let c2_i32_304 : BitVec 32 := 2#32
  let v496 : BitVec 32 := Scalar.muli v489 c2_i32_304
  let v497 : BitVec 32 := Scalar.addi v495 v496
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_305 : BitVec 32 := 1#32
  let v498 : BitVec 32 := Scalar.muli v8 c1_i32_305
  let v499 : BitVec 32 := Scalar.addi v497 v498
  v499.toNat
def k0_dev28 (d0 : Dev nD) : Nat :=
  let c0_i32_315 : BitVec 32 := 0#32
  let c1_i32_308 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v506 : BitVec 32 := Scalar.subi c1_i32_308 v2
  let c4_i32_314 : BitVec 32 := 4#32
  let v513 : BitVec 32 := Scalar.muli v506 c4_i32_314
  let v514 : BitVec 32 := Scalar.addi c0_i32_315 v513
  let c1_i32_309 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v507 : BitVec 32 := Scalar.subi c1_i32_309 v5
  let c2_i32_316 : BitVec 32 := 2#32
  let v515 : BitVec 32 := Scalar.muli v507 c2_i32_316
  let v516 : BitVec 32 := Scalar.addi v514 v515
  let c1_i32_310 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v508 : BitVec 32 := Scalar.subi c1_i32_310 v8
  let c1_i32_317 : BitVec 32 := 1#32
  let v517 : BitVec 32 := Scalar.muli v508 c1_i32_317
  let v518 : BitVec 32 := Scalar.addi v516 v517
  v518.toNat
def k0_off4 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_321 : BitVec 32 := 0#32
  let c0_i32_322 : BitVec 32 := 0#32
  ![v12.toNat, 0, 0]
def k0_dev29 (d0 : Dev nD) : Nat :=
  let c0_i32_328 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_327 : BitVec 32 := 4#32
  let v534 : BitVec 32 := Scalar.muli v2 c4_i32_327
  let v535 : BitVec 32 := Scalar.addi c0_i32_328 v534
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_329 : BitVec 32 := 2#32
  let v536 : BitVec 32 := Scalar.muli v5 c2_i32_329
  let v537 : BitVec 32 := Scalar.addi v535 v536
  let c1_i32_323 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v529 : BitVec 32 := Scalar.subi c1_i32_323 v8
  let c1_i32_330 : BitVec 32 := 1#32
  let v538 : BitVec 32 := Scalar.muli v529 c1_i32_330
  let v539 : BitVec 32 := Scalar.addi v537 v538
  v539.toNat
def k0_dev30 (d0 : Dev nD) : Nat :=
  let c0_i32_338 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_337 : BitVec 32 := 4#32
  let v551 : BitVec 32 := Scalar.muli v2 c4_i32_337
  let v552 : BitVec 32 := Scalar.addi c0_i32_338 v551
  let c1_i32_333 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v546 : BitVec 32 := Scalar.subi c1_i32_333 v5
  let c2_i32_339 : BitVec 32 := 2#32
  let v553 : BitVec 32 := Scalar.muli v546 c2_i32_339
  let v554 : BitVec 32 := Scalar.addi v552 v553
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_340 : BitVec 32 := 1#32
  let v555 : BitVec 32 := Scalar.muli v8 c1_i32_340
  let v556 : BitVec 32 := Scalar.addi v554 v555
  v556.toNat
def k0_dev31 (d0 : Dev nD) : Nat :=
  let c0_i32_349 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_348 : BitVec 32 := 4#32
  let v569 : BitVec 32 := Scalar.muli v2 c4_i32_348
  let v570 : BitVec 32 := Scalar.addi c0_i32_349 v569
  let c1_i32_343 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v563 : BitVec 32 := Scalar.subi c1_i32_343 v5
  let c2_i32_350 : BitVec 32 := 2#32
  let v571 : BitVec 32 := Scalar.muli v563 c2_i32_350
  let v572 : BitVec 32 := Scalar.addi v570 v571
  let c1_i32_344 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v564 : BitVec 32 := Scalar.subi c1_i32_344 v8
  let c1_i32_351 : BitVec 32 := 1#32
  let v573 : BitVec 32 := Scalar.muli v564 c1_i32_351
  let v574 : BitVec 32 := Scalar.addi v572 v573
  v574.toNat
def k0_dev32 (d0 : Dev nD) : Nat :=
  let c0_i32_359 : BitVec 32 := 0#32
  let c1_i32_354 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v581 : BitVec 32 := Scalar.subi c1_i32_354 v2
  let c4_i32_358 : BitVec 32 := 4#32
  let v586 : BitVec 32 := Scalar.muli v581 c4_i32_358
  let v587 : BitVec 32 := Scalar.addi c0_i32_359 v586
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_360 : BitVec 32 := 2#32
  let v588 : BitVec 32 := Scalar.muli v5 c2_i32_360
  let v589 : BitVec 32 := Scalar.addi v587 v588
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_361 : BitVec 32 := 1#32
  let v590 : BitVec 32 := Scalar.muli v8 c1_i32_361
  let v591 : BitVec 32 := Scalar.addi v589 v590
  v591.toNat
def k0_dev33 (d0 : Dev nD) : Nat :=
  let c0_i32_370 : BitVec 32 := 0#32
  let c1_i32_364 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v598 : BitVec 32 := Scalar.subi c1_i32_364 v2
  let c4_i32_369 : BitVec 32 := 4#32
  let v604 : BitVec 32 := Scalar.muli v598 c4_i32_369
  let v605 : BitVec 32 := Scalar.addi c0_i32_370 v604
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_371 : BitVec 32 := 2#32
  let v606 : BitVec 32 := Scalar.muli v5 c2_i32_371
  let v607 : BitVec 32 := Scalar.addi v605 v606
  let c1_i32_365 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v599 : BitVec 32 := Scalar.subi c1_i32_365 v8
  let c1_i32_372 : BitVec 32 := 1#32
  let v608 : BitVec 32 := Scalar.muli v599 c1_i32_372
  let v609 : BitVec 32 := Scalar.addi v607 v608
  v609.toNat
def k0_dev34 (d0 : Dev nD) : Nat :=
  let c0_i32_381 : BitVec 32 := 0#32
  let c1_i32_375 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v616 : BitVec 32 := Scalar.subi c1_i32_375 v2
  let c4_i32_380 : BitVec 32 := 4#32
  let v622 : BitVec 32 := Scalar.muli v616 c4_i32_380
  let v623 : BitVec 32 := Scalar.addi c0_i32_381 v622
  let c1_i32_376 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v617 : BitVec 32 := Scalar.subi c1_i32_376 v5
  let c2_i32_382 : BitVec 32 := 2#32
  let v624 : BitVec 32 := Scalar.muli v617 c2_i32_382
  let v625 : BitVec 32 := Scalar.addi v623 v624
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_383 : BitVec 32 := 1#32
  let v626 : BitVec 32 := Scalar.muli v8 c1_i32_383
  let v627 : BitVec 32 := Scalar.addi v625 v626
  v627.toNat
def k0_dev35 (d0 : Dev nD) : Nat :=
  let c0_i32_393 : BitVec 32 := 0#32
  let c1_i32_386 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v634 : BitVec 32 := Scalar.subi c1_i32_386 v2
  let c4_i32_392 : BitVec 32 := 4#32
  let v641 : BitVec 32 := Scalar.muli v634 c4_i32_392
  let v642 : BitVec 32 := Scalar.addi c0_i32_393 v641
  let c1_i32_387 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v635 : BitVec 32 := Scalar.subi c1_i32_387 v5
  let c2_i32_394 : BitVec 32 := 2#32
  let v643 : BitVec 32 := Scalar.muli v635 c2_i32_394
  let v644 : BitVec 32 := Scalar.addi v642 v643
  let c1_i32_388 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v636 : BitVec 32 := Scalar.subi c1_i32_388 v8
  let c1_i32_395 : BitVec 32 := 1#32
  let v645 : BitVec 32 := Scalar.muli v636 c1_i32_395
  let v646 : BitVec 32 := Scalar.addi v644 v645
  v646.toNat
def k0_off5 (d0 : Dev nD) : Fin 3 → Nat :=
  let c4_i32_8 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.muli c4_i32_8 v2
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.muli c2_i32_9 v5
  let v20 : BitVec 32 := Scalar.addi v18 v19
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_7 v8
  let v21 : BitVec 32 := Scalar.addi v20 v17
  let c0_i32_404 : BitVec 32 := 0#32
  let c0_i32_405 : BitVec 32 := 0#32
  ![v21.toNat, 0, 0]
def k0_off6 (d0 : Dev nD) : Fin 3 → Nat :=
  let c4_i32_19 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v35 : BitVec 32 := Scalar.muli c4_i32_19 v2
  let c2_i32_20 : BitVec 32 := 2#32
  let c1_i32_18 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v34 : BitVec 32 := Scalar.subi c1_i32_18 v5
  let v36 : BitVec 32 := Scalar.muli c2_i32_20 v34
  let v37 : BitVec 32 := Scalar.addi v35 v36
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v38 : BitVec 32 := Scalar.addi v37 v8
  let c0_i32_417 : BitVec 32 := 0#32
  let c0_i32_418 : BitVec 32 := 0#32
  ![v38.toNat, 0, 0]
def k0_off7 (d0 : Dev nD) : Fin 3 → Nat :=
  let c4_i32_31 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v53 : BitVec 32 := Scalar.muli c4_i32_31 v2
  let c2_i32_32 : BitVec 32 := 2#32
  let c1_i32_29 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v51 : BitVec 32 := Scalar.subi c1_i32_29 v5
  let v54 : BitVec 32 := Scalar.muli c2_i32_32 v51
  let v55 : BitVec 32 := Scalar.addi v53 v54
  let c1_i32_30 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v52 : BitVec 32 := Scalar.subi c1_i32_30 v8
  let v56 : BitVec 32 := Scalar.addi v55 v52
  let c0_i32_430 : BitVec 32 := 0#32
  let c0_i32_431 : BitVec 32 := 0#32
  ![v56.toNat, 0, 0]
def k0_off8 (d0 : Dev nD) : Fin 3 → Nat :=
  let c4_i32_42 : BitVec 32 := 4#32
  let c1_i32_41 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v69 : BitVec 32 := Scalar.subi c1_i32_41 v2
  let v70 : BitVec 32 := Scalar.muli c4_i32_42 v69
  let c2_i32_43 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v71 : BitVec 32 := Scalar.muli c2_i32_43 v5
  let v72 : BitVec 32 := Scalar.addi v70 v71
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v73 : BitVec 32 := Scalar.addi v72 v8
  let c0_i32_443 : BitVec 32 := 0#32
  let c0_i32_444 : BitVec 32 := 0#32
  ![v73.toNat, 0, 0]
def k0_off9 (d0 : Dev nD) : Fin 3 → Nat :=
  let c4_i32_53 : BitVec 32 := 4#32
  let c1_i32_51 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v86 : BitVec 32 := Scalar.subi c1_i32_51 v2
  let v88 : BitVec 32 := Scalar.muli c4_i32_53 v86
  let c2_i32_54 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v89 : BitVec 32 := Scalar.muli c2_i32_54 v5
  let v90 : BitVec 32 := Scalar.addi v88 v89
  let c1_i32_52 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v87 : BitVec 32 := Scalar.subi c1_i32_52 v8
  let v91 : BitVec 32 := Scalar.addi v90 v87
  let c0_i32_456 : BitVec 32 := 0#32
  let c0_i32_457 : BitVec 32 := 0#32
  ![v91.toNat, 0, 0]
def k0_off10 (d0 : Dev nD) : Fin 3 → Nat :=
  let c4_i32_65 : BitVec 32 := 4#32
  let c1_i32_63 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v104 : BitVec 32 := Scalar.subi c1_i32_63 v2
  let v106 : BitVec 32 := Scalar.muli c4_i32_65 v104
  let c2_i32_66 : BitVec 32 := 2#32
  let c1_i32_64 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v105 : BitVec 32 := Scalar.subi c1_i32_64 v5
  let v107 : BitVec 32 := Scalar.muli c2_i32_66 v105
  let v108 : BitVec 32 := Scalar.addi v106 v107
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v109 : BitVec 32 := Scalar.addi v108 v8
  let c0_i32_469 : BitVec 32 := 0#32
  let c0_i32_470 : BitVec 32 := 0#32
  ![v109.toNat, 0, 0]
def k0_off11 (d0 : Dev nD) : Fin 3 → Nat :=
  let c4_i32_77 : BitVec 32 := 4#32
  let c1_i32_74 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v122 : BitVec 32 := Scalar.subi c1_i32_74 v2
  let v125 : BitVec 32 := Scalar.muli c4_i32_77 v122
  let c2_i32_78 : BitVec 32 := 2#32
  let c1_i32_75 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v123 : BitVec 32 := Scalar.subi c1_i32_75 v5
  let v126 : BitVec 32 := Scalar.muli c2_i32_78 v123
  let v127 : BitVec 32 := Scalar.addi v125 v126
  let c1_i32_76 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v124 : BitVec 32 := Scalar.subi c1_i32_76 v8
  let v128 : BitVec 32 := Scalar.addi v127 v124
  let c0_i32_482 : BitVec 32 := 0#32
  let c0_i32_483 : BitVec 32 := 0#32
  ![v128.toNat, 0, 0]
def k0_off12 (d0 : Dev nD) : Fin 3 → Nat :=
  let c4_i32_90 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v146 : BitVec 32 := Scalar.muli c4_i32_90 v2
  let c2_i32_91 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v147 : BitVec 32 := Scalar.muli c2_i32_91 v5
  let v148 : BitVec 32 := Scalar.addi v146 v147
  let c1_i32_89 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v145 : BitVec 32 := Scalar.subi c1_i32_89 v8
  let v149 : BitVec 32 := Scalar.addi v148 v145
  let c0_i32_498 : BitVec 32 := 0#32
  let c0_i32_499 : BitVec 32 := 0#32
  ![v149.toNat, 0, 0]
def k0_off13 (d0 : Dev nD) : Fin 3 → Nat :=
  let c4_i32_100 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v163 : BitVec 32 := Scalar.muli c4_i32_100 v2
  let c2_i32_101 : BitVec 32 := 2#32
  let c1_i32_99 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v162 : BitVec 32 := Scalar.subi c1_i32_99 v5
  let v164 : BitVec 32 := Scalar.muli c2_i32_101 v162
  let v165 : BitVec 32 := Scalar.addi v163 v164
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v166 : BitVec 32 := Scalar.addi v165 v8
  let c0_i32_511 : BitVec 32 := 0#32
  let c0_i32_512 : BitVec 32 := 0#32
  ![v166.toNat, 0, 0]
def k0_off14 (d0 : Dev nD) : Fin 3 → Nat :=
  let c4_i32_111 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v181 : BitVec 32 := Scalar.muli c4_i32_111 v2
  let c2_i32_112 : BitVec 32 := 2#32
  let c1_i32_109 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v179 : BitVec 32 := Scalar.subi c1_i32_109 v5
  let v182 : BitVec 32 := Scalar.muli c2_i32_112 v179
  let v183 : BitVec 32 := Scalar.addi v181 v182
  let c1_i32_110 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v180 : BitVec 32 := Scalar.subi c1_i32_110 v8
  let v184 : BitVec 32 := Scalar.addi v183 v180
  let c0_i32_524 : BitVec 32 := 0#32
  let c0_i32_525 : BitVec 32 := 0#32
  ![v184.toNat, 0, 0]
def k0_off15 (d0 : Dev nD) : Fin 3 → Nat :=
  let c4_i32_121 : BitVec 32 := 4#32
  let c1_i32_120 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v197 : BitVec 32 := Scalar.subi c1_i32_120 v2
  let v198 : BitVec 32 := Scalar.muli c4_i32_121 v197
  let c2_i32_122 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v199 : BitVec 32 := Scalar.muli c2_i32_122 v5
  let v200 : BitVec 32 := Scalar.addi v198 v199
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v201 : BitVec 32 := Scalar.addi v200 v8
  let c0_i32_537 : BitVec 32 := 0#32
  let c0_i32_538 : BitVec 32 := 0#32
  ![v201.toNat, 0, 0]
def k0_off16 (d0 : Dev nD) : Fin 3 → Nat :=
  let c4_i32_132 : BitVec 32 := 4#32
  let c1_i32_130 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v214 : BitVec 32 := Scalar.subi c1_i32_130 v2
  let v216 : BitVec 32 := Scalar.muli c4_i32_132 v214
  let c2_i32_133 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v217 : BitVec 32 := Scalar.muli c2_i32_133 v5
  let v218 : BitVec 32 := Scalar.addi v216 v217
  let c1_i32_131 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v215 : BitVec 32 := Scalar.subi c1_i32_131 v8
  let v219 : BitVec 32 := Scalar.addi v218 v215
  let c0_i32_550 : BitVec 32 := 0#32
  let c0_i32_551 : BitVec 32 := 0#32
  ![v219.toNat, 0, 0]
def k0_off17 (d0 : Dev nD) : Fin 3 → Nat :=
  let c4_i32_143 : BitVec 32 := 4#32
  let c1_i32_141 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v232 : BitVec 32 := Scalar.subi c1_i32_141 v2
  let v234 : BitVec 32 := Scalar.muli c4_i32_143 v232
  let c2_i32_144 : BitVec 32 := 2#32
  let c1_i32_142 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v233 : BitVec 32 := Scalar.subi c1_i32_142 v5
  let v235 : BitVec 32 := Scalar.muli c2_i32_144 v233
  let v236 : BitVec 32 := Scalar.addi v234 v235
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v237 : BitVec 32 := Scalar.addi v236 v8
  let c0_i32_563 : BitVec 32 := 0#32
  let c0_i32_564 : BitVec 32 := 0#32
  ![v237.toNat, 0, 0]
def k0_off18 (d0 : Dev nD) : Fin 3 → Nat :=
  let c4_i32_155 : BitVec 32 := 4#32
  let c1_i32_152 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v250 : BitVec 32 := Scalar.subi c1_i32_152 v2
  let v253 : BitVec 32 := Scalar.muli c4_i32_155 v250
  let c2_i32_156 : BitVec 32 := 2#32
  let c1_i32_153 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v251 : BitVec 32 := Scalar.subi c1_i32_153 v5
  let v254 : BitVec 32 := Scalar.muli c2_i32_156 v251
  let v255 : BitVec 32 := Scalar.addi v253 v254
  let c1_i32_154 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v252 : BitVec 32 := Scalar.subi c1_i32_154 v8
  let v256 : BitVec 32 := Scalar.addi v255 v252
  let c0_i32_576 : BitVec 32 := 0#32
  let c0_i32_577 : BitVec 32 := 0#32
  ![v256.toNat, 0, 0]
def k0_off19 (d0 : Dev nD) : Fin 3 → Nat :=
  let c4_i32_168 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v274 : BitVec 32 := Scalar.muli c4_i32_168 v2
  let c2_i32_169 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v275 : BitVec 32 := Scalar.muli c2_i32_169 v5
  let v276 : BitVec 32 := Scalar.addi v274 v275
  let c1_i32_167 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v273 : BitVec 32 := Scalar.subi c1_i32_167 v8
  let v277 : BitVec 32 := Scalar.addi v276 v273
  let c0_i32_592 : BitVec 32 := 0#32
  let c0_i32_593 : BitVec 32 := 0#32
  ![v277.toNat, 0, 0]
def k0_off20 (d0 : Dev nD) : Fin 3 → Nat :=
  let c4_i32_178 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v291 : BitVec 32 := Scalar.muli c4_i32_178 v2
  let c2_i32_179 : BitVec 32 := 2#32
  let c1_i32_177 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v290 : BitVec 32 := Scalar.subi c1_i32_177 v5
  let v292 : BitVec 32 := Scalar.muli c2_i32_179 v290
  let v293 : BitVec 32 := Scalar.addi v291 v292
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v294 : BitVec 32 := Scalar.addi v293 v8
  let c0_i32_605 : BitVec 32 := 0#32
  let c0_i32_606 : BitVec 32 := 0#32
  ![v294.toNat, 0, 0]
def k0_off21 (d0 : Dev nD) : Fin 3 → Nat :=
  let c4_i32_189 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v309 : BitVec 32 := Scalar.muli c4_i32_189 v2
  let c2_i32_190 : BitVec 32 := 2#32
  let c1_i32_187 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v307 : BitVec 32 := Scalar.subi c1_i32_187 v5
  let v310 : BitVec 32 := Scalar.muli c2_i32_190 v307
  let v311 : BitVec 32 := Scalar.addi v309 v310
  let c1_i32_188 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v308 : BitVec 32 := Scalar.subi c1_i32_188 v8
  let v312 : BitVec 32 := Scalar.addi v311 v308
  let c0_i32_618 : BitVec 32 := 0#32
  let c0_i32_619 : BitVec 32 := 0#32
  ![v312.toNat, 0, 0]
def k0_off22 (d0 : Dev nD) : Fin 3 → Nat :=
  let c4_i32_199 : BitVec 32 := 4#32
  let c1_i32_198 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v325 : BitVec 32 := Scalar.subi c1_i32_198 v2
  let v326 : BitVec 32 := Scalar.muli c4_i32_199 v325
  let c2_i32_200 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v327 : BitVec 32 := Scalar.muli c2_i32_200 v5
  let v328 : BitVec 32 := Scalar.addi v326 v327
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v329 : BitVec 32 := Scalar.addi v328 v8
  let c0_i32_631 : BitVec 32 := 0#32
  let c0_i32_632 : BitVec 32 := 0#32
  ![v329.toNat, 0, 0]
def k0_off23 (d0 : Dev nD) : Fin 3 → Nat :=
  let c4_i32_210 : BitVec 32 := 4#32
  let c1_i32_208 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v342 : BitVec 32 := Scalar.subi c1_i32_208 v2
  let v344 : BitVec 32 := Scalar.muli c4_i32_210 v342
  let c2_i32_211 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v345 : BitVec 32 := Scalar.muli c2_i32_211 v5
  let v346 : BitVec 32 := Scalar.addi v344 v345
  let c1_i32_209 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v343 : BitVec 32 := Scalar.subi c1_i32_209 v8
  let v347 : BitVec 32 := Scalar.addi v346 v343
  let c0_i32_644 : BitVec 32 := 0#32
  let c0_i32_645 : BitVec 32 := 0#32
  ![v347.toNat, 0, 0]
def k0_off24 (d0 : Dev nD) : Fin 3 → Nat :=
  let c4_i32_221 : BitVec 32 := 4#32
  let c1_i32_219 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v360 : BitVec 32 := Scalar.subi c1_i32_219 v2
  let v362 : BitVec 32 := Scalar.muli c4_i32_221 v360
  let c2_i32_222 : BitVec 32 := 2#32
  let c1_i32_220 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v361 : BitVec 32 := Scalar.subi c1_i32_220 v5
  let v363 : BitVec 32 := Scalar.muli c2_i32_222 v361
  let v364 : BitVec 32 := Scalar.addi v362 v363
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v365 : BitVec 32 := Scalar.addi v364 v8
  let c0_i32_657 : BitVec 32 := 0#32
  let c0_i32_658 : BitVec 32 := 0#32
  ![v365.toNat, 0, 0]
def k0_off25 (d0 : Dev nD) : Fin 3 → Nat :=
  let c4_i32_233 : BitVec 32 := 4#32
  let c1_i32_230 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v378 : BitVec 32 := Scalar.subi c1_i32_230 v2
  let v381 : BitVec 32 := Scalar.muli c4_i32_233 v378
  let c2_i32_234 : BitVec 32 := 2#32
  let c1_i32_231 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v379 : BitVec 32 := Scalar.subi c1_i32_231 v5
  let v382 : BitVec 32 := Scalar.muli c2_i32_234 v379
  let v383 : BitVec 32 := Scalar.addi v381 v382
  let c1_i32_232 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v380 : BitVec 32 := Scalar.subi c1_i32_232 v8
  let v384 : BitVec 32 := Scalar.addi v383 v380
  let c0_i32_670 : BitVec 32 := 0#32
  let c0_i32_671 : BitVec 32 := 0#32
  ![v384.toNat, 0, 0]
def k0_off26 (d0 : Dev nD) : Fin 3 → Nat :=
  let c4_i32_324 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v530 : BitVec 32 := Scalar.muli c4_i32_324 v2
  let c2_i32_325 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v531 : BitVec 32 := Scalar.muli c2_i32_325 v5
  let v532 : BitVec 32 := Scalar.addi v530 v531
  let c1_i32_323 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v529 : BitVec 32 := Scalar.subi c1_i32_323 v8
  let v533 : BitVec 32 := Scalar.addi v532 v529
  let c0_i32_780 : BitVec 32 := 0#32
  let c0_i32_781 : BitVec 32 := 0#32
  ![v533.toNat, 0, 0]
def k0_off27 (d0 : Dev nD) : Fin 3 → Nat :=
  let c4_i32_334 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v547 : BitVec 32 := Scalar.muli c4_i32_334 v2
  let c2_i32_335 : BitVec 32 := 2#32
  let c1_i32_333 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v546 : BitVec 32 := Scalar.subi c1_i32_333 v5
  let v548 : BitVec 32 := Scalar.muli c2_i32_335 v546
  let v549 : BitVec 32 := Scalar.addi v547 v548
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v550 : BitVec 32 := Scalar.addi v549 v8
  let c0_i32_793 : BitVec 32 := 0#32
  let c0_i32_794 : BitVec 32 := 0#32
  ![v550.toNat, 0, 0]
def k0_off28 (d0 : Dev nD) : Fin 3 → Nat :=
  let c4_i32_345 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v565 : BitVec 32 := Scalar.muli c4_i32_345 v2
  let c2_i32_346 : BitVec 32 := 2#32
  let c1_i32_343 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v563 : BitVec 32 := Scalar.subi c1_i32_343 v5
  let v566 : BitVec 32 := Scalar.muli c2_i32_346 v563
  let v567 : BitVec 32 := Scalar.addi v565 v566
  let c1_i32_344 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v564 : BitVec 32 := Scalar.subi c1_i32_344 v8
  let v568 : BitVec 32 := Scalar.addi v567 v564
  let c0_i32_806 : BitVec 32 := 0#32
  let c0_i32_807 : BitVec 32 := 0#32
  ![v568.toNat, 0, 0]
def k0_off29 (d0 : Dev nD) : Fin 3 → Nat :=
  let c4_i32_355 : BitVec 32 := 4#32
  let c1_i32_354 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v581 : BitVec 32 := Scalar.subi c1_i32_354 v2
  let v582 : BitVec 32 := Scalar.muli c4_i32_355 v581
  let c2_i32_356 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v583 : BitVec 32 := Scalar.muli c2_i32_356 v5
  let v584 : BitVec 32 := Scalar.addi v582 v583
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v585 : BitVec 32 := Scalar.addi v584 v8
  let c0_i32_819 : BitVec 32 := 0#32
  let c0_i32_820 : BitVec 32 := 0#32
  ![v585.toNat, 0, 0]
def k0_off30 (d0 : Dev nD) : Fin 3 → Nat :=
  let c4_i32_366 : BitVec 32 := 4#32
  let c1_i32_364 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v598 : BitVec 32 := Scalar.subi c1_i32_364 v2
  let v600 : BitVec 32 := Scalar.muli c4_i32_366 v598
  let c2_i32_367 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v601 : BitVec 32 := Scalar.muli c2_i32_367 v5
  let v602 : BitVec 32 := Scalar.addi v600 v601
  let c1_i32_365 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v599 : BitVec 32 := Scalar.subi c1_i32_365 v8
  let v603 : BitVec 32 := Scalar.addi v602 v599
  let c0_i32_832 : BitVec 32 := 0#32
  let c0_i32_833 : BitVec 32 := 0#32
  ![v603.toNat, 0, 0]
def k0_off31 (d0 : Dev nD) : Fin 3 → Nat :=
  let c4_i32_377 : BitVec 32 := 4#32
  let c1_i32_375 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v616 : BitVec 32 := Scalar.subi c1_i32_375 v2
  let v618 : BitVec 32 := Scalar.muli c4_i32_377 v616
  let c2_i32_378 : BitVec 32 := 2#32
  let c1_i32_376 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v617 : BitVec 32 := Scalar.subi c1_i32_376 v5
  let v619 : BitVec 32 := Scalar.muli c2_i32_378 v617
  let v620 : BitVec 32 := Scalar.addi v618 v619
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v621 : BitVec 32 := Scalar.addi v620 v8
  let c0_i32_845 : BitVec 32 := 0#32
  let c0_i32_846 : BitVec 32 := 0#32
  ![v621.toNat, 0, 0]
def k0_off32 (d0 : Dev nD) : Fin 3 → Nat :=
  let c4_i32_389 : BitVec 32 := 4#32
  let c1_i32_386 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v634 : BitVec 32 := Scalar.subi c1_i32_386 v2
  let v637 : BitVec 32 := Scalar.muli c4_i32_389 v634
  let c2_i32_390 : BitVec 32 := 2#32
  let c1_i32_387 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v635 : BitVec 32 := Scalar.subi c1_i32_387 v5
  let v638 : BitVec 32 := Scalar.muli c2_i32_390 v635
  let v639 : BitVec 32 := Scalar.addi v637 v638
  let c1_i32_388 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v636 : BitVec 32 := Scalar.subi c1_i32_388 v8
  let v640 : BitVec 32 := Scalar.addi v639 v636
  let c0_i32_858 : BitVec 32 := 0#32
  let c0_i32_859 : BitVec 32 := 0#32
  ![v640.toNat, 0, 0]
-- ==== Small.lean ====
abbrev S336x128 : Shape := ⟨2, ![336, 128]⟩
abbrev S8x336x128 : Shape := ⟨3, ![8, 336, 128]⟩
abbrev S7 : Shape := ⟨1, ![7]⟩
abbrev S1 : Shape := ⟨1, ![1]⟩
abbrev S_ : Shape := ⟨0, ![]⟩
abbrev S1x336x128 : Shape := ⟨3, ![1, 336, 128]⟩

abbrev nBuf : Space → Nat
  | .hbm => 2
  | .vmem => 0
  | .smem => 0
  | _ => 0

abbrev bufTy : (tb : Table) → Fin (tcTables nBuf tb) → BufTy
  | .hbm, ⟨0, _⟩ => ⟨S336x128, .f32⟩
  | .hbm, ⟨1, _⟩ => ⟨S8x336x128, .f32⟩
  | _, _ => ⟨S336x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_5 : BitVec 32 := 0#32
  let c0_i32_6 : BitVec 32 := 0#32
  ![v12.toNat, 0, 0]
def k0_dev1 (d0 : Dev nD) : Nat :=
  let c0_i32_13 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_12 : BitVec 32 := 4#32
  let v22 : BitVec 32 := Scalar.muli v2 c4_i32_12
  let v23 : BitVec 32 := Scalar.addi c0_i32_13 v22
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_14 : BitVec 32 := 2#32
  let v24 : BitVec 32 := Scalar.muli v5 c2_i32_14
  let v25 : BitVec 32 := Scalar.addi v23 v24
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_7 v8
  let c1_i32_15 : BitVec 32 := 1#32
  let v26 : BitVec 32 := Scalar.muli v17 c1_i32_15
  let v27 : BitVec 32 := Scalar.addi v25 v26
  v27.toNat
def k0_dev2 (d0 : Dev nD) : Nat :=
  let c0_i32_24 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_23 : BitVec 32 := 4#32
  let v39 : BitVec 32 := Scalar.muli v2 c4_i32_23
  let v40 : BitVec 32 := Scalar.addi c0_i32_24 v39
  let c1_i32_18 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v34 : BitVec 32 := Scalar.subi c1_i32_18 v5
  let c2_i32_25 : BitVec 32 := 2#32
  let v41 : BitVec 32 := Scalar.muli v34 c2_i32_25
  let v42 : BitVec 32 := Scalar.addi v40 v41
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_26 : BitVec 32 := 1#32
  let v43 : BitVec 32 := Scalar.muli v8 c1_i32_26
  let v44 : BitVec 32 := Scalar.addi v42 v43
  v44.toNat
def k0_dev3 (d0 : Dev nD) : Nat :=
  let c0_i32_36 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_35 : BitVec 32 := 4#32
  let v57 : BitVec 32 := Scalar.muli v2 c4_i32_35
  let v58 : BitVec 32 := Scalar.addi c0_i32_36 v57
  let c1_i32_29 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v51 : BitVec 32 := Scalar.subi c1_i32_29 v5
  let c2_i32_37 : BitVec 32 := 2#32
  let v59 : BitVec 32 := Scalar.muli v51 c2_i32_37
  let v60 : BitVec 32 := Scalar.addi v58 v59
  let c1_i32_30 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v52 : BitVec 32 := Scalar.subi c1_i32_30 v8
  let c1_i32_38 : BitVec 32 := 1#32
  let v61 : BitVec 32 := Scalar.muli v52 c1_i32_38
  let v62 : BitVec 32 := Scalar.addi v60 v61
  v62.toNat
def k0_dev4 (d0 : Dev nD) : Nat :=
  let c0_i32_46 : BitVec 32 := 0#32
  let c1_i32_41 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v69 : BitVec 32 := Scalar.subi c1_i32_41 v2
  let c4_i32_45 : BitVec 32 := 4#32
  let v74 : BitVec 32 := Scalar.muli v69 c4_i32_45
  let v75 : BitVec 32 := Scalar.addi c0_i32_46 v74
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_47 : BitVec 32 := 2#32
  let v76 : BitVec 32 := Scalar.muli v5 c2_i32_47
  let v77 : BitVec 32 := Scalar.addi v75 v76
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_48 : BitVec 32 := 1#32
  let v78 : BitVec 32 := Scalar.muli v8 c1_i32_48
  let v79 : BitVec 32 := Scalar.addi v77 v78
  v79.toNat
def k0_dev5 (d0 : Dev nD) : Nat :=
  let c0_i32_58 : BitVec 32 := 0#32
  let c1_i32_51 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v86 : BitVec 32 := Scalar.subi c1_i32_51 v2
  let c4_i32_57 : BitVec 32 := 4#32
  let v92 : BitVec 32 := Scalar.muli v86 c4_i32_57
  let v93 : BitVec 32 := Scalar.addi c0_i32_58 v92
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_59 : BitVec 32 := 2#32
  let v94 : BitVec 32 := Scalar.muli v5 c2_i32_59
  let v95 : BitVec 32 := Scalar.addi v93 v94
  let c1_i32_52 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v87 : BitVec 32 := Scalar.subi c1_i32_52 v8
  let c1_i32_60 : BitVec 32 := 1#32
  let v96 : BitVec 32 := Scalar.muli v87 c1_i32_60
  let v97 : BitVec 32 := Scalar.addi v95 v96
  v97.toNat
def k0_dev6 (d0 : Dev nD) : Nat :=
  let c0_i32_69 : BitVec 32 := 0#32
  let c1_i32_63 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v104 : BitVec 32 := Scalar.subi c1_i32_63 v2
  let c4_i32_68 : BitVec 32 := 4#32
  let v110 : BitVec 32 := Scalar.muli v104 c4_i32_68
  let v111 : BitVec 32 := Scalar.addi c0_i32_69 v110
  let c1_i32_64 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v105 : BitVec 32 := Scalar.subi c1_i32_64 v5
  let c2_i32_70 : BitVec 32 := 2#32
  let v112 : BitVec 32 := Scalar.muli v105 c2_i32_70
  let v113 : BitVec 32 := Scalar.addi v111 v112
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_71 : BitVec 32 := 1#32
  let v114 : BitVec 32 := Scalar.muli v8 c1_i32_71
  let v115 : BitVec 32 := Scalar.addi v113 v114
  v115.toNat
def k0_dev7 (d0 : Dev nD) : Nat :=
  let c0_i32_81 : BitVec 32 := 0#32
  let c1_i32_74 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v122 : BitVec 32 := Scalar.subi c1_i32_74 v2
  let c4_i32_80 : BitVec 32 := 4#32
  let v129 : BitVec 32 := Scalar.muli v122 c4_i32_80
  let v130 : BitVec 32 := Scalar.addi c0_i32_81 v129
  let c1_i32_75 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v123 : BitVec 32 := Scalar.subi c1_i32_75 v5
  let c2_i32_82 : BitVec 32 := 2#32
  let v131 : BitVec 32 := Scalar.muli v123 c2_i32_82
  let v132 : BitVec 32 := Scalar.addi v130 v131
  let c1_i32_76 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v124 : BitVec 32 := Scalar.subi c1_i32_76 v8
  let c1_i32_83 : BitVec 32 := 1#32
  let v133 : BitVec 32 := Scalar.muli v124 c1_i32_83
  let v134 : BitVec 32 := Scalar.addi v132 v133
  v134.toNat
def k0_off2 (d0 : Dev nD) : Fin 3 → Nat :=
  let c4_i32_8 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.muli c4_i32_8 v2
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.muli c2_i32_9 v5
  let v20 : BitVec 32 := Scalar.addi v18 v19
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_7 v8
  let v21 : BitVec 32 := Scalar.addi v20 v17
  let c0_i32_92 : BitVec 32 := 0#32
  let c0_i32_93 : BitVec 32 := 0#32
  ![v21.toNat, 0, 0]
def k0_off3 (d0 : Dev nD) : Fin 3 → Nat :=
  let c4_i32_19 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v35 : BitVec 32 := Scalar.muli c4_i32_19 v2
  let c2_i32_20 : BitVec 32 := 2#32
  let c1_i32_18 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v34 : BitVec 32 := Scalar.subi c1_i32_18 v5
  let v36 : BitVec 32 := Scalar.muli c2_i32_20 v34
  let v37 : BitVec 32 := Scalar.addi v35 v36
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v38 : BitVec 32 := Scalar.addi v37 v8
  let c0_i32_105 : BitVec 32 := 0#32
  let c0_i32_106 : BitVec 32 := 0#32
  ![v38.toNat, 0, 0]
def k0_off4 (d0 : Dev nD) : Fin 3 → Nat :=
  let c4_i32_31 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v53 : BitVec 32 := Scalar.muli c4_i32_31 v2
  let c2_i32_32 : BitVec 32 := 2#32
  let c1_i32_29 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v51 : BitVec 32 := Scalar.subi c1_i32_29 v5
  let v54 : BitVec 32 := Scalar.muli c2_i32_32 v51
  let v55 : BitVec 32 := Scalar.addi v53 v54
  let c1_i32_30 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v52 : BitVec 32 := Scalar.subi c1_i32_30 v8
  let v56 : BitVec 32 := Scalar.addi v55 v52
  let c0_i32_118 : BitVec 32 := 0#32
  let c0_i32_119 : BitVec 32 := 0#32
  ![v56.toNat, 0, 0]
def k0_off5 (d0 : Dev nD) : Fin 3 → Nat :=
  let c4_i32_42 : BitVec 32 := 4#32
  let c1_i32_41 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v69 : BitVec 32 := Scalar.subi c1_i32_41 v2
  let v70 : BitVec 32 := Scalar.muli c4_i32_42 v69
  let c2_i32_43 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v71 : BitVec 32 := Scalar.muli c2_i32_43 v5
  let v72 : BitVec 32 := Scalar.addi v70 v71
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v73 : BitVec 32 := Scalar.addi v72 v8
  let c0_i32_131 : BitVec 32 := 0#32
  let c0_i32_132 : BitVec 32 := 0#32
  ![v73.toNat, 0, 0]
def k0_off6 (d0 : Dev nD) : Fin 3 → Nat :=
  let c4_i32_53 : BitVec 32 := 4#32
  let c1_i32_51 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v86 : BitVec 32 := Scalar.subi c1_i32_51 v2
  let v88 : BitVec 32 := Scalar.muli c4_i32_53 v86
  let c2_i32_54 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v89 : BitVec 32 := Scalar.muli c2_i32_54 v5
  let v90 : BitVec 32 := Scalar.addi v88 v89
  let c1_i32_52 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v87 : BitVec 32 := Scalar.subi c1_i32_52 v8
  let v91 : BitVec 32 := Scalar.addi v90 v87
  let c0_i32_144 : BitVec 32 := 0#32
  let c0_i32_145 : BitVec 32 := 0#32
  ![v91.toNat, 0, 0]
def k0_off7 (d0 : Dev nD) : Fin 3 → Nat :=
  let c4_i32_65 : BitVec 32 := 4#32
  let c1_i32_63 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v104 : BitVec 32 := Scalar.subi c1_i32_63 v2
  let v106 : BitVec 32 := Scalar.muli c4_i32_65 v104
  let c2_i32_66 : BitVec 32 := 2#32
  let c1_i32_64 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v105 : BitVec 32 := Scalar.subi c1_i32_64 v5
  let v107 : BitVec 32 := Scalar.muli c2_i32_66 v105
  let v108 : BitVec 32 := Scalar.addi v106 v107
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v109 : BitVec 32 := Scalar.addi v108 v8
  let c0_i32_157 : BitVec 32 := 0#32
  let c0_i32_158 : BitVec 32 := 0#32
  ![v109.toNat, 0, 0]
def k0_off8 (d0 : Dev nD) : Fin 3 → Nat :=
  let c4_i32_77 : BitVec 32 := 4#32
  let c1_i32_74 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v122 : BitVec 32 := Scalar.subi c1_i32_74 v2
  let v125 : BitVec 32 := Scalar.muli c4_i32_77 v122
  let c2_i32_78 : BitVec 32 := 2#32
  let c1_i32_75 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v123 : BitVec 32 := Scalar.subi c1_i32_75 v5
  let v126 : BitVec 32 := Scalar.muli c2_i32_78 v123
  let v127 : BitVec 32 := Scalar.addi v125 v126
  let c1_i32_76 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v124 : BitVec 32 := Scalar.subi c1_i32_76 v8
  let v128 : BitVec 32 := Scalar.addi v127 v124
  let c0_i32_170 : BitVec 32 := 0#32
  let c0_i32_171 : BitVec 32 := 0#32
  ![v128.toNat, 0, 0]
-- ==== AdamIn.lean ====
abbrev S8x2048x2824 : Shape := ⟨3, ![8, 2048, 2824]⟩
abbrev S2048x2824 : Shape := ⟨2, ![2048, 2824]⟩
abbrev S8x64x2824 : Shape := ⟨3, ![8, 64, 2824]⟩
abbrev S64x2824 : Shape := ⟨2, ![64, 2824]⟩
abbrev S1x64x2824 : Shape := ⟨3, ![1, 64, 2824]⟩

abbrev nBuf : Space → Nat
  | .hbm => 8
  | .vmem => 16
  | .smem => 0
  | _ => 0

abbrev bufTy : (tb : Table) → Fin (tcTables nBuf tb) → BufTy
  | .hbm, ⟨0, _⟩ => ⟨S8x2048x2824, .bf16⟩
  | .hbm, ⟨1, _⟩ => ⟨S2048x2824, .f32⟩
  | .hbm, ⟨2, _⟩ => ⟨S2048x2824, .f32⟩
  | .hbm, ⟨3, _⟩ => ⟨S2048x2824, .f32⟩
  | .hbm, ⟨4, _⟩ => ⟨S2048x2824, .f32⟩
  | .hbm, ⟨5, _⟩ => ⟨S2048x2824, .f32⟩
  | .hbm, ⟨6, _⟩ => ⟨S2048x2824, .f32⟩
  | .hbm, ⟨7, _⟩ => ⟨S2048x2824, .f32⟩
  | .local _ .vmem, ⟨0, _⟩ => ⟨S8x64x2824, .bf16⟩
  | .local _ .vmem, ⟨1, _⟩ => ⟨S8x64x2824, .bf16⟩
  | .local _ .vmem, ⟨2, _⟩ => ⟨S64x2824, .f32⟩
  | .local _ .vmem, ⟨3, _⟩ => ⟨S64x2824, .f32⟩
  | .local _ .vmem, ⟨4, _⟩ => ⟨S64x2824, .f32⟩
  | .local _ .vmem, ⟨5, _⟩ => ⟨S64x2824, .f32⟩
  | .local _ .vmem, ⟨6, _⟩ => ⟨S64x2824, .f32⟩
  | .local _ .vmem, ⟨7, _⟩ => ⟨S64x2824, .f32⟩
  | .local _ .vmem, ⟨8, _⟩ => ⟨S64x2824, .f32⟩
  | .local _ .vmem, ⟨9, _⟩ => ⟨S64x2824, .f32⟩
  | .local _ .vmem, ⟨10, _⟩ => ⟨S64x2824, .f32⟩
  | .local _ .vmem, ⟨11, _⟩ => ⟨S64x2824, .f32⟩
  | .local _ .vmem, ⟨12, _⟩ => ⟨S64x2824, .f32⟩
  | .local _ .vmem, ⟨13, _⟩ => ⟨S64x2824, .f32⟩
  | .local _ .vmem, ⟨14, _⟩ => ⟨S64x2824, .f32⟩
  | .local _ .vmem, ⟨15, _⟩ => ⟨S64x2824, .f32⟩
  | _, _ => ⟨S8x2048x2824, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x64x2824 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2824 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2824 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2824 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2824 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x2824 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x2824 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x2824 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInRefIdeal.lean ====
abbrev S8x2048x2824 : Shape := ⟨3, ![8, 2048, 2824]⟩
abbrev S2048x2824 : Shape := ⟨2, ![2048, 2824]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x2048x2824, .bf16⟩
  | .hbm, ⟨1, _⟩ => ⟨S2048x2824, .f32⟩
  | .hbm, ⟨2, _⟩ => ⟨S2048x2824, .f32⟩
  | .hbm, ⟨3, _⟩ => ⟨S2048x2824, .f32⟩
  | .hbm, ⟨4, _⟩ => ⟨S8x2048x2824, .f32⟩
  | .hbm, ⟨5, _⟩ => ⟨S_, .f32⟩
  | .hbm, ⟨6, _⟩ => ⟨S2048x2824, .f32⟩
  | .hbm, ⟨7, _⟩ => ⟨S_, .f32⟩
  | .hbm, ⟨8, _⟩ => ⟨S2048x2824, .f32⟩
  | .hbm, ⟨9, _⟩ => ⟨S2048x2824, .f32⟩
  | .hbm, ⟨10, _⟩ => ⟨S_, .f32⟩
  | .hbm, ⟨11, _⟩ => ⟨S2048x2824, .f32⟩
  | .hbm, ⟨12, _⟩ => ⟨S2048x2824, .f32⟩
  | .hbm, ⟨13, _⟩ => ⟨S2048x2824, .f32⟩
  | .hbm, ⟨14, _⟩ => ⟨S_, .f32⟩
  | .hbm, ⟨15, _⟩ => ⟨S2048x2824, .f32⟩
  | .hbm, ⟨16, _⟩ => ⟨S2048x2824, .f32⟩
  | .hbm, ⟨17, _⟩ => ⟨S2048x2824, .f32⟩
  | .hbm, ⟨18, _⟩ => ⟨S_, .f32⟩
  | .hbm, ⟨19, _⟩ => ⟨S2048x2824, .f32⟩
  | .hbm, ⟨20, _⟩ => ⟨S2048x2824, .f32⟩
  | .hbm, ⟨21, _⟩ => ⟨S2048x2824, .f32⟩
  | .hbm, ⟨22, _⟩ => ⟨S_, .f32⟩
  | .hbm, ⟨23, _⟩ => ⟨S2048x2824, .f32⟩
  | .hbm, ⟨24, _⟩ => ⟨S2048x2824, .f32⟩
  | .hbm, ⟨25, _⟩ => ⟨S_, .f32⟩
  | .hbm, ⟨26, _⟩ => ⟨S2048x2824, .f32⟩
  | .hbm, ⟨27, _⟩ => ⟨S2048x2824, .f32⟩
  | .hbm, ⟨28, _⟩ => ⟨S2048x2824, .f32⟩
  | .hbm, ⟨29, _⟩ => ⟨S_, .f32⟩
  | .hbm, ⟨30, _⟩ => ⟨S2048x2824, .f32⟩
  | .hbm, ⟨31, _⟩ => ⟨S2048x2824, .f32⟩
  | .hbm, ⟨32, _⟩ => ⟨S2048x2824, .f32⟩
  | .hbm, ⟨33, _⟩ => ⟨S_, .f32⟩
  | .hbm, ⟨34, _⟩ => ⟨S2048x2824, .f32⟩
  | .hbm, ⟨35, _⟩ => ⟨S2048x2824, .f32⟩
  | .hbm, ⟨36, _⟩ => ⟨S2048x2824, .f32⟩
  | .hbm, ⟨37, _⟩ => ⟨S_, .f32⟩
  | .hbm, ⟨38, _⟩ => ⟨S2048x2824, .f32⟩
  | .hbm, ⟨39, _⟩ => ⟨S2048x2824, .f32⟩
  | _, _ => ⟨S8x2048x2824, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamAttn.lean ====
abbrev S8x256x2048 : Shape := ⟨3, ![8, 256, 2048]⟩
abbrev S256x2048 : Shape := ⟨2, ![256, 2048]⟩
abbrev S8x64x2048 : Shape := ⟨3, ![8, 64, 2048]⟩
abbrev S64x2048 : Shape := ⟨2, ![64, 2048]⟩
abbrev S1x64x2048 : Shape := ⟨3, ![1, 64, 2048]⟩

abbrev nBuf : Space → Nat
  | .hbm => 8
  | .vmem => 16
  | .smem => 0
  | _ => 0

abbrev bufTy : (tb : Table) → Fin (tcTables nBuf tb) → BufTy
  | .hbm, ⟨0, _⟩ => ⟨S8x256x2048, .bf16⟩
  | .hbm, ⟨1, _⟩ => ⟨S256x2048, .f32⟩
  | .hbm, ⟨2, _⟩ => ⟨S256x2048, .f32⟩
  | .hbm, ⟨3, _⟩ => ⟨S256x2048, .f32⟩
  | .hbm, ⟨4, _⟩ => ⟨S256x2048, .f32⟩
  | .hbm, ⟨5, _⟩ => ⟨S256x2048, .f32⟩
  | .hbm, ⟨6, _⟩ => ⟨S256x2048, .f32⟩
  | .hbm, ⟨7, _⟩ => ⟨S256x2048, .f32⟩
  | .local _ .vmem, ⟨0, _⟩ => ⟨S8x64x2048, .bf16⟩
  | .local _ .vmem, ⟨1, _⟩ => ⟨S8x64x2048, .bf16⟩
  | .local _ .vmem, ⟨2, _⟩ => ⟨S64x2048, .f32⟩
  | .local _ .vmem, ⟨3, _⟩ => ⟨S64x2048, .f32⟩
  | .local _ .vmem, ⟨4, _⟩ => ⟨S64x2048, .f32⟩
  | .local _ .vmem, ⟨5, _⟩ => ⟨S64x2048, .f32⟩
  | .local _ .vmem, ⟨6, _⟩ => ⟨S64x2048, .f32⟩
  | .local _ .vmem, ⟨7, _⟩ => ⟨S64x2048, .f32⟩
  | .local _ .vmem, ⟨8, _⟩ => ⟨S64x2048, .f32⟩
  | .local _ .vmem, ⟨9, _⟩ => ⟨S64x2048, .f32⟩
  | .local _ .vmem, ⟨10, _⟩ => ⟨S64x2048, .f32⟩
  | .local _ .vmem, ⟨11, _⟩ => ⟨S64x2048, .f32⟩
  | .local _ .vmem, ⟨12, _⟩ => ⟨S64x2048, .f32⟩
  | .local _ .vmem, ⟨13, _⟩ => ⟨S64x2048, .f32⟩
  | .local _ .vmem, ⟨14, _⟩ => ⟨S64x2048, .f32⟩
  | .local _ .vmem, ⟨15, _⟩ => ⟨S64x2048, .f32⟩
  | _, _ => ⟨S8x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x64x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamAttnRefIdeal.lean ====
abbrev S8x256x2048 : Shape := ⟨3, ![8, 256, 2048]⟩
abbrev S256x2048 : Shape := ⟨2, ![256, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x256x2048, .bf16⟩
  | .hbm, ⟨1, _⟩ => ⟨S256x2048, .f32⟩
  | .hbm, ⟨2, _⟩ => ⟨S256x2048, .f32⟩
  | .hbm, ⟨3, _⟩ => ⟨S256x2048, .f32⟩
  | .hbm, ⟨4, _⟩ => ⟨S8x256x2048, .f32⟩
  | .hbm, ⟨5, _⟩ => ⟨S_, .f32⟩
  | .hbm, ⟨6, _⟩ => ⟨S256x2048, .f32⟩
  | .hbm, ⟨7, _⟩ => ⟨S_, .f32⟩
  | .hbm, ⟨8, _⟩ => ⟨S256x2048, .f32⟩
  | .hbm, ⟨9, _⟩ => ⟨S256x2048, .f32⟩
  | .hbm, ⟨10, _⟩ => ⟨S_, .f32⟩
  | .hbm, ⟨11, _⟩ => ⟨S256x2048, .f32⟩
  | .hbm, ⟨12, _⟩ => ⟨S256x2048, .f32⟩
  | .hbm, ⟨13, _⟩ => ⟨S256x2048, .f32⟩
  | .hbm, ⟨14, _⟩ => ⟨S_, .f32⟩
  | .hbm, ⟨15, _⟩ => ⟨S256x2048, .f32⟩
  | .hbm, ⟨16, _⟩ => ⟨S256x2048, .f32⟩
  | .hbm, ⟨17, _⟩ => ⟨S256x2048, .f32⟩
  | .hbm, ⟨18, _⟩ => ⟨S_, .f32⟩
  | .hbm, ⟨19, _⟩ => ⟨S256x2048, .f32⟩
  | .hbm, ⟨20, _⟩ => ⟨S256x2048, .f32⟩
  | .hbm, ⟨21, _⟩ => ⟨S256x2048, .f32⟩
  | .hbm, ⟨22, _⟩ => ⟨S_, .f32⟩
  | .hbm, ⟨23, _⟩ => ⟨S256x2048, .f32⟩
  | .hbm, ⟨24, _⟩ => ⟨S256x2048, .f32⟩
  | .hbm, ⟨25, _⟩ => ⟨S_, .f32⟩
  | .hbm, ⟨26, _⟩ => ⟨S256x2048, .f32⟩
  | .hbm, ⟨27, _⟩ => ⟨S256x2048, .f32⟩
  | .hbm, ⟨28, _⟩ => ⟨S256x2048, .f32⟩
  | .hbm, ⟨29, _⟩ => ⟨S_, .f32⟩
  | .hbm, ⟨30, _⟩ => ⟨S256x2048, .f32⟩
  | .hbm, ⟨31, _⟩ => ⟨S256x2048, .f32⟩
  | .hbm, ⟨32, _⟩ => ⟨S256x2048, .f32⟩
  | .hbm, ⟨33, _⟩ => ⟨S_, .f32⟩
  | .hbm, ⟨34, _⟩ => ⟨S256x2048, .f32⟩
  | .hbm, ⟨35, _⟩ => ⟨S256x2048, .f32⟩
  | .hbm, ⟨36, _⟩ => ⟨S256x2048, .f32⟩
  | .hbm, ⟨37, _⟩ => ⟨S_, .f32⟩
  | .hbm, ⟨38, _⟩ => ⟨S256x2048, .f32⟩
  | .hbm, ⟨39, _⟩ => ⟨S256x2048, .f32⟩
  | _, _ => ⟨S8x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamOut.lean ====
abbrev S8x256x2048 : Shape := ⟨3, ![8, 256, 2048]⟩
abbrev S256x2048 : Shape := ⟨2, ![256, 2048]⟩
abbrev S8x64x2048 : Shape := ⟨3, ![8, 64, 2048]⟩
abbrev S64x2048 : Shape := ⟨2, ![64, 2048]⟩
abbrev S1x64x2048 : Shape := ⟨3, ![1, 64, 2048]⟩

abbrev nBuf : Space → Nat
  | .hbm => 8
  | .vmem => 16
  | .smem => 0
  | _ => 0

abbrev bufTy : (tb : Table) → Fin (tcTables nBuf tb) → BufTy
  | .hbm, ⟨0, _⟩ => ⟨S8x256x2048, .bf16⟩
  | .hbm, ⟨1, _⟩ => ⟨S256x2048, .f32⟩
  | .hbm, ⟨2, _⟩ => ⟨S256x2048, .f32⟩
  | .hbm, ⟨3, _⟩ => ⟨S256x2048, .f32⟩
  | .hbm, ⟨4, _⟩ => ⟨S256x2048, .f32⟩
  | .hbm, ⟨5, _⟩ => ⟨S256x2048, .f32⟩
  | .hbm, ⟨6, _⟩ => ⟨S256x2048, .f32⟩
  | .hbm, ⟨7, _⟩ => ⟨S256x2048, .f32⟩
  | .local _ .vmem, ⟨0, _⟩ => ⟨S8x64x2048, .bf16⟩
  | .local _ .vmem, ⟨1, _⟩ => ⟨S8x64x2048, .bf16⟩
  | .local _ .vmem, ⟨2, _⟩ => ⟨S64x2048, .f32⟩
  | .local _ .vmem, ⟨3, _⟩ => ⟨S64x2048, .f32⟩
  | .local _ .vmem, ⟨4, _⟩ => ⟨S64x2048, .f32⟩
  | .local _ .vmem, ⟨5, _⟩ => ⟨S64x2048, .f32⟩
  | .local _ .vmem, ⟨6, _⟩ => ⟨S64x2048, .f32⟩
  | .local _ .vmem, ⟨7, _⟩ => ⟨S64x2048, .f32⟩
  | .local _ .vmem, ⟨8, _⟩ => ⟨S64x2048, .f32⟩
  | .local _ .vmem, ⟨9, _⟩ => ⟨S64x2048, .f32⟩
  | .local _ .vmem, ⟨10, _⟩ => ⟨S64x2048, .f32⟩
  | .local _ .vmem, ⟨11, _⟩ => ⟨S64x2048, .f32⟩
  | .local _ .vmem, ⟨12, _⟩ => ⟨S64x2048, .f32⟩
  | .local _ .vmem, ⟨13, _⟩ => ⟨S64x2048, .f32⟩
  | .local _ .vmem, ⟨14, _⟩ => ⟨S64x2048, .f32⟩
  | .local _ .vmem, ⟨15, _⟩ => ⟨S64x2048, .f32⟩
  | _, _ => ⟨S8x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x64x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamOutRefIdeal.lean ====
abbrev S8x256x2048 : Shape := ⟨3, ![8, 256, 2048]⟩
abbrev S256x2048 : Shape := ⟨2, ![256, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x256x2048, .bf16⟩
  | .hbm, ⟨1, _⟩ => ⟨S256x2048, .f32⟩
  | .hbm, ⟨2, _⟩ => ⟨S256x2048, .f32⟩
  | .hbm, ⟨3, _⟩ => ⟨S256x2048, .f32⟩
  | .hbm, ⟨4, _⟩ => ⟨S8x256x2048, .f32⟩
  | .hbm, ⟨5, _⟩ => ⟨S_, .f32⟩
  | .hbm, ⟨6, _⟩ => ⟨S256x2048, .f32⟩
  | .hbm, ⟨7, _⟩ => ⟨S_, .f32⟩
  | .hbm, ⟨8, _⟩ => ⟨S256x2048, .f32⟩
  | .hbm, ⟨9, _⟩ => ⟨S256x2048, .f32⟩
  | .hbm, ⟨10, _⟩ => ⟨S_, .f32⟩
  | .hbm, ⟨11, _⟩ => ⟨S256x2048, .f32⟩
  | .hbm, ⟨12, _⟩ => ⟨S256x2048, .f32⟩
  | .hbm, ⟨13, _⟩ => ⟨S256x2048, .f32⟩
  | .hbm, ⟨14, _⟩ => ⟨S_, .f32⟩
  | .hbm, ⟨15, _⟩ => ⟨S256x2048, .f32⟩
  | .hbm, ⟨16, _⟩ => ⟨S256x2048, .f32⟩
  | .hbm, ⟨17, _⟩ => ⟨S256x2048, .f32⟩
  | .hbm, ⟨18, _⟩ => ⟨S_, .f32⟩
  | .hbm, ⟨19, _⟩ => ⟨S256x2048, .f32⟩
  | .hbm, ⟨20, _⟩ => ⟨S256x2048, .f32⟩
  | .hbm, ⟨21, _⟩ => ⟨S256x2048, .f32⟩
  | .hbm, ⟨22, _⟩ => ⟨S_, .f32⟩
  | .hbm, ⟨23, _⟩ => ⟨S256x2048, .f32⟩
  | .hbm, ⟨24, _⟩ => ⟨S256x2048, .f32⟩
  | .hbm, ⟨25, _⟩ => ⟨S_, .f32⟩
  | .hbm, ⟨26, _⟩ => ⟨S256x2048, .f32⟩
  | .hbm, ⟨27, _⟩ => ⟨S256x2048, .f32⟩
  | .hbm, ⟨28, _⟩ => ⟨S256x2048, .f32⟩
  | .hbm, ⟨29, _⟩ => ⟨S_, .f32⟩
  | .hbm, ⟨30, _⟩ => ⟨S256x2048, .f32⟩
  | .hbm, ⟨31, _⟩ => ⟨S256x2048, .f32⟩
  | .hbm, ⟨32, _⟩ => ⟨S256x2048, .f32⟩
  | .hbm, ⟨33, _⟩ => ⟨S_, .f32⟩
  | .hbm, ⟨34, _⟩ => ⟨S256x2048, .f32⟩
  | .hbm, ⟨35, _⟩ => ⟨S256x2048, .f32⟩
  | .hbm, ⟨36, _⟩ => ⟨S256x2048, .f32⟩
  | .hbm, ⟨37, _⟩ => ⟨S_, .f32⟩
  | .hbm, ⟨38, _⟩ => ⟨S256x2048, .f32⟩
  | .hbm, ⟨39, _⟩ => ⟨S256x2048, .f32⟩
  | _, _ => ⟨S8x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamSsm.lean ====
abbrev S8x512x2048 : Shape := ⟨3, ![8, 512, 2048]⟩
abbrev S512x2048 : Shape := ⟨2, ![512, 2048]⟩
abbrev S8x64x2048 : Shape := ⟨3, ![8, 64, 2048]⟩
abbrev S64x2048 : Shape := ⟨2, ![64, 2048]⟩
abbrev S1x64x2048 : Shape := ⟨3, ![1, 64, 2048]⟩

abbrev nBuf : Space → Nat
  | .hbm => 8
  | .vmem => 16
  | .smem => 0
  | _ => 0

abbrev bufTy : (tb : Table) → Fin (tcTables nBuf tb) → BufTy
  | .hbm, ⟨0, _⟩ => ⟨S8x512x2048, .bf16⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .hbm, ⟨7, _⟩ => ⟨S512x2048, .f32⟩
  | .local _ .vmem, ⟨0, _⟩ => ⟨S8x64x2048, .bf16⟩
  | .local _ .vmem, ⟨1, _⟩ => ⟨S8x64x2048, .bf16⟩
  | .local _ .vmem, ⟨2, _⟩ => ⟨S64x2048, .f32⟩
  | .local _ .vmem, ⟨3, _⟩ => ⟨S64x2048, .f32⟩
  | .local _ .vmem, ⟨4, _⟩ => ⟨S64x2048, .f32⟩
  | .local _ .vmem, ⟨5, _⟩ => ⟨S64x2048, .f32⟩
  | .local _ .vmem, ⟨6, _⟩ => ⟨S64x2048, .f32⟩
  | .local _ .vmem, ⟨7, _⟩ => ⟨S64x2048, .f32⟩
  | .local _ .vmem, ⟨8, _⟩ => ⟨S64x2048, .f32⟩
  | .local _ .vmem, ⟨9, _⟩ => ⟨S64x2048, .f32⟩
  | .local _ .vmem, ⟨10, _⟩ => ⟨S64x2048, .f32⟩
  | .local _ .vmem, ⟨11, _⟩ => ⟨S64x2048, .f32⟩
  | .local _ .vmem, ⟨12, _⟩ => ⟨S64x2048, .f32⟩
  | .local _ .vmem, ⟨13, _⟩ => ⟨S64x2048, .f32⟩
  | .local _ .vmem, ⟨14, _⟩ => ⟨S64x2048, .f32⟩
  | .local _ .vmem, ⟨15, _⟩ => ⟨S64x2048, .f32⟩
  | _, _ => ⟨S8x512x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x64x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamSsmRefIdeal.lean ====
abbrev S8x512x2048 : Shape := ⟨3, ![8, 512, 2048]⟩
abbrev S512x2048 : Shape := ⟨2, ![512, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x512x2048, .bf16⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S8x512x2048, .f32⟩
  | .hbm, ⟨5, _⟩ => ⟨S_, .f32⟩
  | .hbm, ⟨6, _⟩ => ⟨S512x2048, .f32⟩
  | .hbm, ⟨7, _⟩ => ⟨S_, .f32⟩
  | .hbm, ⟨8, _⟩ => ⟨S512x2048, .f32⟩
  | .hbm, ⟨9, _⟩ => ⟨S512x2048, .f32⟩
  | .hbm, ⟨10, _⟩ => ⟨S_, .f32⟩
  | .hbm, ⟨11, _⟩ => ⟨S512x2048, .f32⟩
  | .hbm, ⟨12, _⟩ => ⟨S512x2048, .f32⟩
  | .hbm, ⟨13, _⟩ => ⟨S512x2048, .f32⟩
  | .hbm, ⟨14, _⟩ => ⟨S_, .f32⟩
  | .hbm, ⟨15, _⟩ => ⟨S512x2048, .f32⟩
  | .hbm, ⟨16, _⟩ => ⟨S512x2048, .f32⟩
  | .hbm, ⟨17, _⟩ => ⟨S512x2048, .f32⟩
  | .hbm, ⟨18, _⟩ => ⟨S_, .f32⟩
  | .hbm, ⟨19, _⟩ => ⟨S512x2048, .f32⟩
  | .hbm, ⟨20, _⟩ => ⟨S512x2048, .f32⟩
  | .hbm, ⟨21, _⟩ => ⟨S512x2048, .f32⟩
  | .hbm, ⟨22, _⟩ => ⟨S_, .f32⟩
  | .hbm, ⟨23, _⟩ => ⟨S512x2048, .f32⟩
  | .hbm, ⟨24, _⟩ => ⟨S512x2048, .f32⟩
  | .hbm, ⟨25, _⟩ => ⟨S_, .f32⟩
  | .hbm, ⟨26, _⟩ => ⟨S512x2048, .f32⟩
  | .hbm, ⟨27, _⟩ => ⟨S512x2048, .f32⟩
  | .hbm, ⟨28, _⟩ => ⟨S512x2048, .f32⟩
  | .hbm, ⟨29, _⟩ => ⟨S_, .f32⟩
  | .hbm, ⟨30, _⟩ => ⟨S512x2048, .f32⟩
  | .hbm, ⟨31, _⟩ => ⟨S512x2048, .f32⟩
  | .hbm, ⟨32, _⟩ => ⟨S512x2048, .f32⟩
  | .hbm, ⟨33, _⟩ => ⟨S_, .f32⟩
  | .hbm, ⟨34, _⟩ => ⟨S512x2048, .f32⟩
  | .hbm, ⟨35, _⟩ => ⟨S512x2048, .f32⟩
  | .hbm, ⟨36, _⟩ => ⟨S512x2048, .f32⟩
  | .hbm, ⟨37, _⟩ => ⟨S_, .f32⟩
  | .hbm, ⟨38, _⟩ => ⟨S512x2048, .f32⟩
  | .hbm, ⟨39, _⟩ => ⟨S512x2048, .f32⟩
  | _, _ => ⟨S8x512x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamSmall.lean ====
abbrev S8x336x128 : Shape := ⟨3, ![8, 336, 128]⟩
abbrev S336x128 : Shape := ⟨2, ![336, 128]⟩
abbrev S1x336x128 : Shape := ⟨3, ![1, 336, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x336x128, .f32⟩
  | .hbm, ⟨1, _⟩ => ⟨S336x128, .f32⟩
  | .hbm, ⟨2, _⟩ => ⟨S336x128, .f32⟩
  | .hbm, ⟨3, _⟩ => ⟨S336x128, .f32⟩
  | .hbm, ⟨4, _⟩ => ⟨S336x128, .f32⟩
  | .hbm, ⟨5, _⟩ => ⟨S336x128, .f32⟩
  | .hbm, ⟨6, _⟩ => ⟨S336x128, .f32⟩
  | .hbm, ⟨7, _⟩ => ⟨S336x128, .f32⟩
  | .local _ .vmem, ⟨0, _⟩ => ⟨S8x336x128, .f32⟩
  | .local _ .vmem, ⟨1, _⟩ => ⟨S336x128, .f32⟩
  | .local _ .vmem, ⟨2, _⟩ => ⟨S336x128, .f32⟩
  | .local _ .vmem, ⟨3, _⟩ => ⟨S336x128, .f32⟩
  | .local _ .vmem, ⟨4, _⟩ => ⟨S336x128, .f32⟩
  | .local _ .vmem, ⟨5, _⟩ => ⟨S336x128, .f32⟩
  | .local _ .vmem, ⟨6, _⟩ => ⟨S336x128, .f32⟩
  | .local _ .vmem, ⟨7, _⟩ => ⟨S336x128, .f32⟩
  | _, _ => ⟨S8x336x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x336x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S336x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S336x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S336x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S336x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S336x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S336x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S336x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamSmallRefIdeal.lean ====
abbrev S8x336x128 : Shape := ⟨3, ![8, 336, 128]⟩
abbrev S336x128 : Shape := ⟨2, ![336, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x336x128, .f32⟩
  | .hbm, ⟨1, _⟩ => ⟨S336x128, .f32⟩
  | .hbm, ⟨2, _⟩ => ⟨S336x128, .f32⟩
  | .hbm, ⟨3, _⟩ => ⟨S336x128, .f32⟩
  | .hbm, ⟨4, _⟩ => ⟨S_, .f32⟩
  | .hbm, ⟨5, _⟩ => ⟨S336x128, .f32⟩
  | .hbm, ⟨6, _⟩ => ⟨S_, .f32⟩
  | .hbm, ⟨7, _⟩ => ⟨S336x128, .f32⟩
  | .hbm, ⟨8, _⟩ => ⟨S336x128, .f32⟩
  | .hbm, ⟨9, _⟩ => ⟨S_, .f32⟩
  | .hbm, ⟨10, _⟩ => ⟨S336x128, .f32⟩
  | .hbm, ⟨11, _⟩ => ⟨S336x128, .f32⟩
  | .hbm, ⟨12, _⟩ => ⟨S336x128, .f32⟩
  | .hbm, ⟨13, _⟩ => ⟨S_, .f32⟩
  | .hbm, ⟨14, _⟩ => ⟨S336x128, .f32⟩
  | .hbm, ⟨15, _⟩ => ⟨S336x128, .f32⟩
  | .hbm, ⟨16, _⟩ => ⟨S336x128, .f32⟩
  | .hbm, ⟨17, _⟩ => ⟨S_, .f32⟩
  | .hbm, ⟨18, _⟩ => ⟨S336x128, .f32⟩
  | .hbm, ⟨19, _⟩ => ⟨S336x128, .f32⟩
  | .hbm, ⟨20, _⟩ => ⟨S336x128, .f32⟩
  | .hbm, ⟨21, _⟩ => ⟨S_, .f32⟩
  | .hbm, ⟨22, _⟩ => ⟨S336x128, .f32⟩
  | .hbm, ⟨23, _⟩ => ⟨S336x128, .f32⟩
  | .hbm, ⟨24, _⟩ => ⟨S_, .f32⟩
  | .hbm, ⟨25, _⟩ => ⟨S336x128, .f32⟩
  | .hbm, ⟨26, _⟩ => ⟨S336x128, .f32⟩
  | .hbm, ⟨27, _⟩ => ⟨S336x128, .f32⟩
  | .hbm, ⟨28, _⟩ => ⟨S_, .f32⟩
  | .hbm, ⟨29, _⟩ => ⟨S336x128, .f32⟩
  | .hbm, ⟨30, _⟩ => ⟨S336x128, .f32⟩
  | .hbm, ⟨31, _⟩ => ⟨S336x128, .f32⟩
  | .hbm, ⟨32, _⟩ => ⟨S_, .f32⟩
  | .hbm, ⟨33, _⟩ => ⟨S336x128, .f32⟩
  | .hbm, ⟨34, _⟩ => ⟨S336x128, .f32⟩
  | .hbm, ⟨35, _⟩ => ⟨S336x128, .f32⟩
  | .hbm, ⟨36, _⟩ => ⟨S_, .f32⟩
  | .hbm, ⟨37, _⟩ => ⟨S336x128, .f32⟩
  | .hbm, ⟨38, _⟩ => ⟨S336x128, .f32⟩
  | _, _ => ⟨S8x336x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamConv.lean ====
abbrev S24x128 : Shape := ⟨2, ![24, 128]⟩

abbrev nBuf : Space → Nat
  | .hbm => 8
  | .vmem => 8
  | .smem => 0
  | _ => 0

abbrev bufTy : (tb : Table) → Fin (tcTables nBuf tb) → BufTy
  | .hbm, ⟨0, _⟩ => ⟨S24x128, .f32⟩
  | .hbm, ⟨1, _⟩ => ⟨S24x128, .f32⟩
  | .hbm, ⟨2, _⟩ => ⟨S24x128, .f32⟩
  | .hbm, ⟨3, _⟩ => ⟨S24x128, .f32⟩
  | .hbm, ⟨4, _⟩ => ⟨S24x128, .f32⟩
  | .hbm, ⟨5, _⟩ => ⟨S24x128, .f32⟩
  | .hbm, ⟨6, _⟩ => ⟨S24x128, .f32⟩
  | .hbm, ⟨7, _⟩ => ⟨S24x128, .f32⟩
  | .local _ .vmem, ⟨0, _⟩ => ⟨S24x128, .f32⟩
  | .local _ .vmem, ⟨1, _⟩ => ⟨S24x128, .f32⟩
  | .local _ .vmem, ⟨2, _⟩ => ⟨S24x128, .f32⟩
  | .local _ .vmem, ⟨3, _⟩ => ⟨S24x128, .f32⟩
  | .local _ .vmem, ⟨4, _⟩ => ⟨S24x128, .f32⟩
  | .local _ .vmem, ⟨5, _⟩ => ⟨S24x128, .f32⟩
  | .local _ .vmem, ⟨6, _⟩ => ⟨S24x128, .f32⟩
  | .local _ .vmem, ⟨7, _⟩ => ⟨S24x128, .f32⟩
  | _, _ => ⟨S24x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S24x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S24x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S24x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S24x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S24x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S24x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S24x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S24x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamConvRefIdeal.lean ====
abbrev S24x128 : Shape := ⟨2, ![24, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S24x128, .f32⟩
  | .hbm, ⟨1, _⟩ => ⟨S24x128, .f32⟩
  | .hbm, ⟨2, _⟩ => ⟨S24x128, .f32⟩
  | .hbm, ⟨3, _⟩ => ⟨S24x128, .f32⟩
  | .hbm, ⟨4, _⟩ => ⟨S_, .f32⟩
  | .hbm, ⟨5, _⟩ => ⟨S24x128, .f32⟩
  | .hbm, ⟨6, _⟩ => ⟨S24x128, .f32⟩
  | .hbm, ⟨7, _⟩ => ⟨S_, .f32⟩
  | .hbm, ⟨8, _⟩ => ⟨S24x128, .f32⟩
  | .hbm, ⟨9, _⟩ => ⟨S24x128, .f32⟩
  | .hbm, ⟨10, _⟩ => ⟨S24x128, .f32⟩
  | .hbm, ⟨11, _⟩ => ⟨S_, .f32⟩
  | .hbm, ⟨12, _⟩ => ⟨S24x128, .f32⟩
  | .hbm, ⟨13, _⟩ => ⟨S24x128, .f32⟩
  | .hbm, ⟨14, _⟩ => ⟨S24x128, .f32⟩
  | .hbm, ⟨15, _⟩ => ⟨S_, .f32⟩
  | .hbm, ⟨16, _⟩ => ⟨S24x128, .f32⟩
  | .hbm, ⟨17, _⟩ => ⟨S24x128, .f32⟩
  | .hbm, ⟨18, _⟩ => ⟨S24x128, .f32⟩
  | .hbm, ⟨19, _⟩ => ⟨S_, .f32⟩
  | .hbm, ⟨20, _⟩ => ⟨S24x128, .f32⟩
  | .hbm, ⟨21, _⟩ => ⟨S24x128, .f32⟩
  | .hbm, ⟨22, _⟩ => ⟨S_, .f32⟩
  | .hbm, ⟨23, _⟩ => ⟨S24x128, .f32⟩
  | .hbm, ⟨24, _⟩ => ⟨S24x128, .f32⟩
  | .hbm, ⟨25, _⟩ => ⟨S24x128, .f32⟩
  | .hbm, ⟨26, _⟩ => ⟨S_, .f32⟩
  | .hbm, ⟨27, _⟩ => ⟨S24x128, .f32⟩
  | .hbm, ⟨28, _⟩ => ⟨S24x128, .f32⟩
  | .hbm, ⟨29, _⟩ => ⟨S24x128, .f32⟩
  | .hbm, ⟨30, _⟩ => ⟨S_, .f32⟩
  | .hbm, ⟨31, _⟩ => ⟨S24x128, .f32⟩
  | .hbm, ⟨32, _⟩ => ⟨S24x128, .f32⟩
  | .hbm, ⟨33, _⟩ => ⟨S24x128, .f32⟩
  | .hbm, ⟨34, _⟩ => ⟨S_, .f32⟩
  | .hbm, ⟨35, _⟩ => ⟨S24x128, .f32⟩
  | .hbm, ⟨36, _⟩ => ⟨S24x128, .f32⟩
  | _, _ => ⟨S24x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== NormBack.lean ====
abbrev S8192x2048 : Shape := ⟨2, ![8192, 2048]⟩
abbrev S1x2048 : Shape := ⟨2, ![1, 2048]⟩
abbrev S128x2048 : Shape := ⟨2, ![128, 2048]⟩
abbrev S128 : Shape := ⟨1, ![128]⟩
abbrev S128x1 : Shape := ⟨2, ![128, 1]⟩
abbrev S2048 : Shape := ⟨1, ![2048]⟩

abbrev nBuf : Space → Nat
  | .hbm => 7
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S1x2048, .f32⟩
  | .hbm, ⟨4, _⟩ => ⟨S8192x2048, .f32⟩
  | .hbm, ⟨5, _⟩ => ⟨S8192x2048, .f32⟩
  | .hbm, ⟨6, _⟩ => ⟨S1x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S1x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![64], ![false]⟩

def k0_cond1 (i : grid0.Coords) : BitVec 1 :=
  let arg0 : BitVec 32 := BitVec.ofNat 32 (i 0).val
  let c0_i32 : BitVec 32 := 0#32
  let v37 : BitVec 1 := Scalar.cmpi .eq arg0 c0_i32
  let v38 : BitVec 32 := Scalar.extui v37
  let c0_i32_16 : BitVec 32 := 0#32
  let v39 : BitVec 1 := Scalar.cmpi .ne v38 c0_i32_16
  v39

def k0_cond2 (i : grid0.Coords) : BitVec 1 :=
  let arg0 : BitVec 32 := BitVec.ofNat 32 (i 0).val
  let c0_i32_17 : BitVec 32 := 0#32
  let v40 : BitVec 1 := Scalar.cmpi .sgt arg0 c0_i32_17
  let v41 : BitVec 32 := Scalar.extui v40
  let c0_i32_18 : BitVec 32 := 0#32
  let v42 : BitVec 1 := Scalar.cmpi .ne v41 c0_i32_18
  v42

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== NormBackRefIdeal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩

abbrev nBuf : Space → Nat
  | .hbm => 49
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S1x2048, .f32⟩
  | .hbm, ⟨4, _⟩ => ⟨S8192x2048, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S2048, .f32⟩
  | .hbm, ⟨28, _⟩ => ⟨S1x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S_, .f32⟩
  | .hbm, ⟨33, _⟩ => ⟨S8192, .f32⟩
  | .hbm, ⟨34, _⟩ => ⟨S8192x1, .f32⟩
  | .hbm, ⟨35, _⟩ => ⟨S8192x2048, .f32⟩
  | .hbm, ⟨36, _⟩ => ⟨S8192x2048, .f32⟩
  | .hbm, ⟨37, _⟩ => ⟨S8192x1, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S_, .f32⟩
  | .hbm, ⟨42, _⟩ => ⟨S8192, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_cst_6 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩

abbrev nD : Nat := 1
abbrev τ : Topo := Topo.v7x

variable {F : FTy → Type} [FloatOps F]
-- ==== LossBack.lean ====
abbrev S8192x2048 : Shape := ⟨2, ![8192, 2048]⟩
abbrev S1x2048 : Shape := ⟨2, ![1, 2048]⟩
abbrev S1x128 : Shape := ⟨2, ![1, 128]⟩
abbrev S128x2048 : Shape := ⟨2, ![128, 2048]⟩
abbrev S128 : Shape := ⟨1, ![128]⟩
abbrev S128x1 : Shape := ⟨2, ![128, 1]⟩
abbrev S1 : Shape := ⟨1, ![1]⟩
abbrev S1x1 : Shape := ⟨2, ![1, 1]⟩
abbrev S2048 : Shape := ⟨1, ![2048]⟩

abbrev nBuf : Space → Nat
  | .hbm => 7
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S8192x2048, .f32⟩
  | .hbm, ⟨4, _⟩ => ⟨S8192x2048, .f32⟩
  | .hbm, ⟨5, _⟩ => ⟨S1x128, .f32⟩
  | .hbm, ⟨6, _⟩ => ⟨S1x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S1x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S1x128, .f32⟩
  | .local _ .vmem, ⟨10, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![64], ![false]⟩

def k0_cond1 (i : grid0.Coords) : BitVec 1 :=
  let arg0 : BitVec 32 := BitVec.ofNat 32 (i 0).val
  let c0_i32 : BitVec 32 := 0#32
  let v52 : BitVec 1 := Scalar.cmpi .eq arg0 c0_i32
  let v53 : BitVec 32 := Scalar.extui v52
  let c0_i32_20 : BitVec 32 := 0#32
  let v54 : BitVec 1 := Scalar.cmpi .ne v53 c0_i32_20
  v54

def k0_cond2 (i : grid0.Coords) : BitVec 1 :=
  let arg0 : BitVec 32 := BitVec.ofNat 32 (i 0).val
  let c0_i32_21 : BitVec 32 := 0#32
  let v55 : BitVec 1 := Scalar.cmpi .sgt arg0 c0_i32_21
  let v56 : BitVec 32 := Scalar.extui v55
  let c0_i32_22 : BitVec 32 := 0#32
  let v57 : BitVec 1 := Scalar.cmpi .ne v56 c0_i32_22
  v57

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LossBackRefIdeal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩
abbrev S1x128 : Shape := ⟨2, ![1, 128]⟩

abbrev nBuf : Space → Nat
  | .hbm => 71
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S8192x2048, .f32⟩
  | .hbm, ⟨28, _⟩ => ⟨S8192x2048, .f32⟩
  | .hbm, ⟨29, _⟩ => ⟨S_, .f32⟩
  | .hbm, ⟨30, _⟩ => ⟨S8192, .f32⟩
  | .hbm, ⟨31, _⟩ => ⟨S_, .f32⟩
  | .hbm, ⟨32, _⟩ => ⟨S8192, .f32⟩
  | .hbm, ⟨33, _⟩ => ⟨S8192, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S8192, .f32⟩
  | .hbm, ⟨42, _⟩ => ⟨S_, .f32⟩
  | .hbm, ⟨43, _⟩ => ⟨S8192, .f32⟩
  | .hbm, ⟨44, _⟩ => ⟨S8192, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S_, .f32⟩
  | .hbm, ⟨49, _⟩ => ⟨S2048, .f32⟩
  | .hbm, ⟨50, _⟩ => ⟨S1x2048, .f32⟩
  | .hbm, ⟨51, _⟩ => ⟨S8192x2048, .f32⟩
  | .hbm, ⟨52, _⟩ => ⟨S8192x2048, .f32⟩
  | .hbm, ⟨53, _⟩ => ⟨S8192x2048, .f32⟩
  | .hbm, ⟨54, _⟩ => ⟨S_, .f32⟩
  | .hbm, ⟨55, _⟩ => ⟨S8192, .f32⟩
  | .hbm, ⟨56, _⟩ => ⟨S8192x1, .f32⟩
  | .hbm, ⟨57, _⟩ => ⟨S8192x2048, .f32⟩
  | .hbm, ⟨58, _⟩ => ⟨S8192x2048, .f32⟩
  | .hbm, ⟨59, _⟩ => ⟨S8192x1, .f32⟩
  | .hbm, ⟨60, _⟩ => ⟨S_, .f32⟩
  | .hbm, ⟨61, _⟩ => ⟨S8192x1, .f32⟩
  | .hbm, ⟨62, _⟩ => ⟨S8192x1, .f32⟩
  | .hbm, ⟨63, _⟩ => ⟨S_, .f32⟩
  | .hbm, ⟨64, _⟩ => ⟨S8192, .f32⟩
  | .hbm, ⟨65, _⟩ => ⟨S8192x2048, .f32⟩
  | .hbm, ⟨66, _⟩ => ⟨S8192x2048, .f32⟩
  | .hbm, ⟨67, _⟩ => ⟨S8192x2048, .f32⟩
  | .hbm, ⟨68, _⟩ => ⟨S8192x2048, .f32⟩
  | .hbm, ⟨69, _⟩ => ⟨S8192x2048, .f32⟩
  | .hbm, ⟨70, _⟩ => ⟨S1x128, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_cst_8 : Ref sig .tc := ⟨.hbm, 38, rfl⟩
abbrev main_cst_9 : Ref sig .tc := ⟨.hbm, 39, rfl⟩
abbrev main_v25 : Ref sig .tc := ⟨.hbm, 40, rfl⟩
abbrev main_v26 : Ref sig .tc := ⟨.hbm, 41, rfl⟩
abbrev main_cst_10 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_11 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_12 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_13 : Ref sig .tc := ⟨.hbm, 60, rfl⟩
abbrev main_v42 : Ref sig .tc := ⟨.hbm, 61, rfl⟩
abbrev main_v43 : Ref sig .tc := ⟨.hbm, 62, rfl⟩
abbrev main_cst_14 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩

abbrev nD : Nat := 1
abbrev τ : Topo := Topo.v7x

variable {F : FTy → Type} [FloatOps F]
-- ==== NormFwd.lean ====
abbrev S8192x2048 : Shape := ⟨2, ![8192, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormFwdRefIdeal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 18
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== GatedNorm.lean ====
abbrev S8192x4096 : Shape := ⟨2, ![8192, 4096]⟩
abbrev S8192x6144 : Shape := ⟨2, ![8192, 6144]⟩
abbrev S8192x22528 : Shape := ⟨2, ![8192, 22528]⟩
abbrev S1x4096 : Shape := ⟨2, ![1, 4096]⟩
abbrev S128x4096 : Shape := ⟨2, ![128, 4096]⟩
abbrev S128 : Shape := ⟨1, ![128]⟩
abbrev S128x1 : Shape := ⟨2, ![128, 1]⟩

abbrev nBuf : Space → Nat
  | .hbm => 6
  | .vmem => 10
  | .smem => 0
  | _ => 0

abbrev bufTy : (tb : Table) → Fin (tcTables nBuf tb) → BufTy
  | .hbm, ⟨0, _⟩ => ⟨S8192x4096, .f32⟩
  | .hbm, ⟨1, _⟩ => ⟨S8192x6144, .f32⟩
  | .hbm, ⟨2, _⟩ => ⟨S8192x22528, .f32⟩
  | .hbm, ⟨3, _⟩ => ⟨S1x4096, .f32⟩
  | .hbm, ⟨4, _⟩ => ⟨S1x4096, .f32⟩
  | .hbm, ⟨5, _⟩ => ⟨S8192x4096, .bf16⟩
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S128x4096, .f32⟩
  | .local _ .vmem, ⟨5, _⟩ => ⟨S128x4096, .f32⟩
  | .local _ .vmem, ⟨6, _⟩ => ⟨S1x4096, .f32⟩
  | .local _ .vmem, ⟨7, _⟩ => ⟨S1x4096, .f32⟩
  | .local _ .vmem, ⟨8, _⟩ => ⟨S128x4096, .bf16⟩
  | .local _ .vmem, ⟨9, _⟩ => ⟨S128x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== GatedNormRefIdeal.lean ====
abbrev S8192x4096 : Shape := ⟨2, ![8192, 4096]⟩
abbrev S8192x6144 : Shape := ⟨2, ![8192, 6144]⟩
abbrev S8192x22528 : Shape := ⟨2, ![8192, 22528]⟩
abbrev S1x4096 : Shape := ⟨2, ![1, 4096]⟩
abbrev S_ : Shape := ⟨0, ![]⟩
abbrev S8192 : Shape := ⟨1, ![8192]⟩
abbrev S8192x1 : Shape := ⟨2, ![8192, 1]⟩

abbrev nBuf : Space → Nat
  | .hbm => 36
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x6144, .f32⟩
  | .hbm, ⟨2, _⟩ => ⟨S8192x22528, .f32⟩
  | .hbm, ⟨3, _⟩ => ⟨S1x4096, .f32⟩
  | .hbm, ⟨4, _⟩ => ⟨S1x4096, .f32⟩
  | .hbm, ⟨5, _⟩ => ⟨S8192x4096, .f32⟩
  | .hbm, ⟨6, _⟩ => ⟨S8192x4096, .f32⟩
  | .hbm, ⟨7, _⟩ => ⟨S8192x4096, .f32⟩
  | .hbm, ⟨8, _⟩ => ⟨S8192x4096, .f32⟩
  | .hbm, ⟨9, _⟩ => ⟨S8192x4096, .f32⟩
  | .hbm, ⟨10, _⟩ => ⟨S8192x4096, .f32⟩
  | .hbm, ⟨11, _⟩ => ⟨S8192x4096, .f32⟩
  | .hbm, ⟨12, _⟩ => ⟨S_, .f32⟩
  | .hbm, ⟨13, _⟩ => ⟨S8192x4096, .f32⟩
  | .hbm, ⟨14, _⟩ => ⟨S8192x4096, .f32⟩
  | .hbm, ⟨15, _⟩ => ⟨S_, .f32⟩
  | .hbm, ⟨16, _⟩ => ⟨S8192x4096, .f32⟩
  | .hbm, ⟨17, _⟩ => ⟨S8192x4096, .f32⟩
  | .hbm, ⟨18, _⟩ => ⟨S8192x4096, .f32⟩
  | .hbm, ⟨19, _⟩ => ⟨S8192x4096, .f32⟩
  | .hbm, ⟨20, _⟩ => ⟨S8192x4096, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S8192x4096, .f32⟩
  | .hbm, ⟨32, _⟩ => ⟨S8192x4096, .f32⟩
  | .hbm, ⟨33, _⟩ => ⟨S8192x4096, .f32⟩
  | .hbm, ⟨34, _⟩ => ⟨S8192x4096, .f32⟩
  | .hbm, ⟨35, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_cst_0 : Ref sig .tc := ⟨.hbm, 24, rfl⟩
abbrev main_v10 : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩

abbrev nD : Nat := 1
abbrev τ : Topo := Topo.v7x

variable {F : FTy → Type} [FloatOps F]
-- ==== Merge.lean ====
abbrev S8192x2048 : Shape := ⟨2, ![8192, 2048]⟩
abbrev S8192x22528 : Shape := ⟨2, ![8192, 22528]⟩
abbrev S256x2048 : Shape := ⟨2, ![256, 2048]⟩

abbrev nBuf : Space → Nat
  | .hbm => 4
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x22528, .f32⟩
  | .hbm, ⟨3, _⟩ => ⟨S8192x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .bf16⟩
  | .local _ .vmem, ⟨9, _⟩ => ⟨S256x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_3 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MergeRefIdeal.lean ====
abbrev S8192x2048 : Shape := ⟨2, ![8192, 2048]⟩
abbrev S8192x22528 : Shape := ⟨2, ![8192, 22528]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x22528, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S_, .f32⟩
  | .hbm, ⟨8, _⟩ => ⟨S8192x2048, .f32⟩
  | .hbm, ⟨9, _⟩ => ⟨S8192x2048, .f32⟩
  | .hbm, ⟨10, _⟩ => ⟨S_, .f32⟩
  | .hbm, ⟨11, _⟩ => ⟨S8192x2048, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S_, .f32⟩
  | .hbm, ⟨17, _⟩ => ⟨S8192x2048, .f32⟩
  | .hbm, ⟨18, _⟩ => ⟨S8192x2048, .f32⟩
  | .hbm, ⟨19, _⟩ => ⟨S_, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== MergeBack.lean ====
abbrev S8192x2048 : Shape := ⟨2, ![8192, 2048]⟩
abbrev S8192x22528 : Shape := ⟨2, ![8192, 22528]⟩
abbrev S128x2048 : Shape := ⟨2, ![128, 2048]⟩

abbrev nBuf : Space → Nat
  | .hbm => 8
  | .vmem => 18
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x22528, .f32⟩
  | .hbm, ⟨4, _⟩ => ⟨S8192x2048, .bf16⟩
  | .hbm, ⟨5, _⟩ => ⟨S8192x2048, .bf16⟩
  | .hbm, ⟨6, _⟩ => ⟨S8192x2048, .bf16⟩
  | .hbm, ⟨7, _⟩ => ⟨S8192x2048, .bf16⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .bf16⟩
  | .local _ .vmem, ⟨11, _⟩ => ⟨S128x2048, .bf16⟩
  | .local _ .vmem, ⟨12, _⟩ => ⟨S128x2048, .bf16⟩
  | .local _ .vmem, ⟨13, _⟩ => ⟨S128x2048, .bf16⟩
  | .local _ .vmem, ⟨14, _⟩ => ⟨S128x2048, .bf16⟩
  | .local _ .vmem, ⟨15, _⟩ => ⟨S128x2048, .bf16⟩
  | .local _ .vmem, ⟨16, _⟩ => ⟨S128x2048, .bf16⟩
  | .local _ .vmem, ⟨17, _⟩ => ⟨S128x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_4 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MergeBackRefIdeal.lean ====
abbrev S8192x2048 : Shape := ⟨2, ![8192, 2048]⟩
abbrev S8192x22528 : Shape := ⟨2, ![8192, 22528]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x22528, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S_, .f32⟩
  | .hbm, ⟨9, _⟩ => ⟨S8192x2048, .f32⟩
  | .hbm, ⟨10, _⟩ => ⟨S8192x2048, .f32⟩
  | .hbm, ⟨11, _⟩ => ⟨S_, .f32⟩
  | .hbm, ⟨12, _⟩ => ⟨S8192x2048, .f32⟩
  | .hbm, ⟨13, _⟩ => ⟨S8192x2048, .f32⟩
  | .hbm, ⟨14, _⟩ => ⟨S_, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S_, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S8192x2048, .f32⟩
  | .hbm, ⟨26, _⟩ => ⟨S8192x2048, .f32⟩
  | .hbm, ⟨27, _⟩ => ⟨S_, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S8192x2048, .f32⟩
  | .hbm, ⟨41, _⟩ => ⟨S8192x2048, .bf16⟩
  | .hbm, ⟨42, _⟩ => ⟨S8192x2048, .bf16⟩
  | .hbm, ⟨43, _⟩ => ⟨S8192x2048, .bf16⟩
  | .hbm, ⟨44, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩

abbrev nD : Nat := 1
abbrev τ : Topo := Topo.v7x

variable {F : FTy → Type} [FloatOps F]
-- ==== SumThree.lean ====
abbrev S8192x2048 : Shape := ⟨2, ![8192, 2048]⟩
abbrev S256x2048 : Shape := ⟨2, ![256, 2048]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .bf16⟩
  | .local _ .vmem, ⟨7, _⟩ => ⟨S256x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== SumThreeRefIdeal.lean ====
abbrev S8192x2048 : Shape := ⟨2, ![8192, 2048]⟩
abbrev S1x8192x2048 : Shape := ⟨3, ![1, 8192, 2048]⟩
abbrev S3x8192x2048 : Shape := ⟨3, ![3, 8192, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S1x8192x2048, .f32⟩
  | .hbm, ⟨4, _⟩ => ⟨S1x8192x2048, .f32⟩
  | .hbm, ⟨5, _⟩ => ⟨S1x8192x2048, .f32⟩
  | .hbm, ⟨6, _⟩ => ⟨S3x8192x2048, .f32⟩
  | .hbm, ⟨7, _⟩ => ⟨S_, .f32⟩
  | .hbm, ⟨8, _⟩ => ⟨S8192x2048, .f32⟩
  | .hbm, ⟨9, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== OutProj.lean ====
abbrev S8192x2048 : Shape := ⟨2, ![8192, 2048]⟩
abbrev S2048x2048 : Shape := ⟨2, ![2048, 2048]⟩
abbrev S512x2048 : Shape := ⟨2, ![512, 2048]⟩
abbrev S2048x1024 : Shape := ⟨2, ![2048, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutProjRefIdeal.lean ====
abbrev S8192x2048 : Shape := ⟨2, ![8192, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S2048x2048, .f32⟩
  | .hbm, ⟨4, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== OutGrad.lean ====
abbrev S8192x2048 : Shape := ⟨2, ![8192, 2048]⟩
abbrev S2048x2048 : Shape := ⟨2, ![2048, 2048]⟩
abbrev S512x1024 : Shape := ⟨2, ![512, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S2048x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 16], ![false, false, false]⟩

def k0_cond3 (i : grid0.Coords) : BitVec 1 :=
  let arg2 : BitVec 32 := BitVec.ofNat 32 (i 2).val
  let c15_i32 : BitVec 32 := 15#32
  let v10 : BitVec 1 := Scalar.cmpi .eq arg2 c15_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutGradRefIdeal.lean ====
abbrev S8192x2048 : Shape := ⟨2, ![8192, 2048]⟩
abbrev S2048x8192 : Shape := ⟨2, ![2048, 8192]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S8192x2048, .f32⟩
  | .hbm, ⟨3, _⟩ => ⟨S2048x8192, .f32⟩
  | .hbm, ⟨4, _⟩ => ⟨S2048x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MergedGrad.lean ====
abbrev S8192x2048 : Shape := ⟨2, ![8192, 2048]⟩
abbrev S2048x2048 : Shape := ⟨2, ![2048, 2048]⟩
abbrev S512x2048 : Shape := ⟨2, ![512, 2048]⟩
abbrev S1024x2048 : Shape := ⟨2, ![1024, 2048]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x2048, .bf16⟩
  | .hbm, ⟨2, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1024x2048, .bf16⟩
  | .local _ .vmem, ⟨3, _⟩ => ⟨S1024x2048, .bf16⟩
  | .local _ .vmem, ⟨4, _⟩ => ⟨S512x1024, .f32⟩
  | .local _ .vmem, ⟨5, _⟩ => ⟨S512x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MergedGradRefIdeal.lean ====
abbrev S8192x2048 : Shape := ⟨2, ![8192, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== InProj.lean ====
abbrev S8192x2048 : Shape := ⟨2, ![8192, 2048]⟩
abbrev S2048x22528 : Shape := ⟨2, ![2048, 22528]⟩
abbrev S8192x22528 : Shape := ⟨2, ![8192, 22528]⟩
abbrev S512x2048 : Shape := ⟨2, ![512, 2048]⟩
abbrev S2048x1024 : Shape := ⟨2, ![2048, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x22528, .bf16⟩
  | .hbm, ⟨2, _⟩ => ⟨S8192x22528, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![22, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InProjRefIdeal.lean ====
abbrev S8192x2048 : Shape := ⟨2, ![8192, 2048]⟩
abbrev S2048x22528 : Shape := ⟨2, ![2048, 22528]⟩
abbrev S8192x22528 : Shape := ⟨2, ![8192, 22528]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x22528, .bf16⟩
  | .hbm, ⟨2, _⟩ => ⟨S8192x2048, .f32⟩
  | .hbm, ⟨3, _⟩ => ⟨S2048x22528, .f32⟩
  | .hbm, ⟨4, _⟩ => ⟨S8192x22528, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== StepProj.lean ====
abbrev S8192x2048 : Shape := ⟨2, ![8192, 2048]⟩
abbrev S2048x128 : Shape := ⟨2, ![2048, 128]⟩
abbrev S8192x128 : Shape := ⟨2, ![8192, 128]⟩
abbrev S512x2048 : Shape := ⟨2, ![512, 2048]⟩
abbrev S512x128 : Shape := ⟨2, ![512, 128]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S2048x128, .bf16⟩
  | .hbm, ⟨2, _⟩ => ⟨S8192x128, .f32⟩
  | .local _ .vmem, ⟨0, _⟩ => ⟨S512x2048, .bf16⟩
  | .local _ .vmem, ⟨1, _⟩ => ⟨S512x2048, .bf16⟩
  | .local _ .vmem, ⟨2, _⟩ => ⟨S2048x128, .bf16⟩
  | .local _ .vmem, ⟨3, _⟩ => ⟨S512x128, .f32⟩
  | .local _ .vmem, ⟨4, _⟩ => ⟨S512x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== StepProjRefIdeal.lean ====
abbrev S8192x2048 : Shape := ⟨2, ![8192, 2048]⟩
abbrev S2048x128 : Shape := ⟨2, ![2048, 128]⟩
abbrev S8192x128 : Shape := ⟨2, ![8192, 128]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x128, .bf16⟩
  | .hbm, ⟨2, _⟩ => ⟨S8192x2048, .f32⟩
  | .hbm, ⟨3, _⟩ => ⟨S2048x128, .f32⟩
  | .hbm, ⟨4, _⟩ => ⟨S8192x128, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== SsmProj.lean ====
abbrev S8192x4096 : Shape := ⟨2, ![8192, 4096]⟩
abbrev S4096x2048 : Shape := ⟨2, ![4096, 2048]⟩
abbrev S8192x2048 : Shape := ⟨2, ![8192, 2048]⟩
abbrev S512x2048 : Shape := ⟨2, ![512, 2048]⟩
abbrev S2048x1024 : Shape := ⟨2, ![2048, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S4096x2048, .bf16⟩
  | .hbm, ⟨2, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 16, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsmProjRefIdeal.lean ====
abbrev S8192x4096 : Shape := ⟨2, ![8192, 4096]⟩
abbrev S4096x2048 : Shape := ⟨2, ![4096, 2048]⟩
abbrev S8192x2048 : Shape := ⟨2, ![8192, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x2048, .bf16⟩
  | .hbm, ⟨2, _⟩ => ⟨S8192x4096, .f32⟩
  | .hbm, ⟨3, _⟩ => ⟨S4096x2048, .f32⟩
  | .hbm, ⟨4, _⟩ => ⟨S8192x2048, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== SsmGrad.lean ====
abbrev S8192x4096 : Shape := ⟨2, ![8192, 4096]⟩
abbrev S8192x2048 : Shape := ⟨2, ![8192, 2048]⟩
abbrev S4096x2048 : Shape := ⟨2, ![4096, 2048]⟩
abbrev S512x1024 : Shape := ⟨2, ![512, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S8192x2048, .bf16⟩
  | .hbm, ⟨2, _⟩ => ⟨S4096x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 16], ![false, false, false]⟩

def k0_cond3 (i : grid0.Coords) : BitVec 1 :=
  let arg2 : BitVec 32 := BitVec.ofNat 32 (i 2).val
  let c15_i32 : BitVec 32 := 15#32
  let v9 : BitVec 1 := Scalar.cmpi .eq arg2 c15_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsmGradRefIdeal.lean ====
abbrev S8192x4096 : Shape := ⟨2, ![8192, 4096]⟩
abbrev S8192x2048 : Shape := ⟨2, ![8192, 2048]⟩
abbrev S4096x8192 : Shape := ⟨2, ![4096, 8192]⟩
abbrev S4096x2048 : Shape := ⟨2, ![4096, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x2048, .bf16⟩
  | .hbm, ⟨2, _⟩ => ⟨S8192x4096, .f32⟩
  | .hbm, ⟨3, _⟩ => ⟨S4096x8192, .f32⟩
  | .hbm, ⟨4, _⟩ => ⟨S8192x2048, .f32⟩
  | .hbm, ⟨5, _⟩ => ⟨S4096x2048, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== ScanGrad.lean ====
abbrev S8192x2048 : Shape := ⟨2, ![8192, 2048]⟩
abbrev S4096x2048 : Shape := ⟨2, ![4096, 2048]⟩
abbrev S8192x4096 : Shape := ⟨2, ![8192, 4096]⟩
abbrev S512x2048 : Shape := ⟨2, ![512, 2048]⟩
abbrev S1024x2048 : Shape := ⟨2, ![1024, 2048]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S4096x2048, .bf16⟩
  | .hbm, ⟨2, _⟩ => ⟨S8192x4096, .f32⟩
  | .local _ .vmem, ⟨0, _⟩ => ⟨S512x2048, .bf16⟩
  | .local _ .vmem, ⟨1, _⟩ => ⟨S512x2048, .bf16⟩
  | .local _ .vmem, ⟨2, _⟩ => ⟨S1024x2048, .bf16⟩
  | .local _ .vmem, ⟨3, _⟩ => ⟨S1024x2048, .bf16⟩
  | .local _ .vmem, ⟨4, _⟩ => ⟨S512x1024, .f32⟩
  | .local _ .vmem, ⟨5, _⟩ => ⟨S512x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ScanGradRefIdeal.lean ====
abbrev S8192x2048 : Shape := ⟨2, ![8192, 2048]⟩
abbrev S4096x2048 : Shape := ⟨2, ![4096, 2048]⟩
abbrev S2048x4096 : Shape := ⟨2, ![2048, 4096]⟩
abbrev S8192x4096 : Shape := ⟨2, ![8192, 4096]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4096x2048, .bf16⟩
  | .hbm, ⟨2, _⟩ => ⟨S8192x2048, .f32⟩
  | .hbm, ⟨3, _⟩ => ⟨S4096x2048, .f32⟩
  | .hbm, ⟨4, _⟩ => ⟨S2048x4096, .f32⟩
  | .hbm, ⟨5, _⟩ => ⟨S8192x4096, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== MainGrad.lean ====
abbrev S8192x2048 : Shape := ⟨2, ![8192, 2048]⟩
abbrev S8192x22528 : Shape := ⟨2, ![8192, 22528]⟩
abbrev S2048x22528 : Shape := ⟨2, ![2048, 22528]⟩
abbrev S512x1024 : Shape := ⟨2, ![512, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x22528, .bf16⟩
  | .hbm, ⟨2, _⟩ => ⟨S2048x22528, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![22, 2, 16], ![false, false, false]⟩

def k0_cond3 (i : grid0.Coords) : BitVec 1 :=
  let arg2 : BitVec 32 := BitVec.ofNat 32 (i 2).val
  let c15_i32 : BitVec 32 := 15#32
  let v9 : BitVec 1 := Scalar.cmpi .eq arg2 c15_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MainGradRefIdeal.lean ====
abbrev S8192x2048 : Shape := ⟨2, ![8192, 2048]⟩
abbrev S8192x22528 : Shape := ⟨2, ![8192, 22528]⟩
abbrev S2048x8192 : Shape := ⟨2, ![2048, 8192]⟩
abbrev S2048x22528 : Shape := ⟨2, ![2048, 22528]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x22528, .bf16⟩
  | .hbm, ⟨2, _⟩ => ⟨S8192x2048, .f32⟩
  | .hbm, ⟨3, _⟩ => ⟨S2048x8192, .f32⟩
  | .hbm, ⟨4, _⟩ => ⟨S8192x22528, .f32⟩
  | .hbm, ⟨5, _⟩ => ⟨S2048x22528, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== StepGrad.lean ====
abbrev S8192x2048 : Shape := ⟨2, ![8192, 2048]⟩
abbrev S8192x128 : Shape := ⟨2, ![8192, 128]⟩
abbrev S2048x128 : Shape := ⟨2, ![2048, 128]⟩
abbrev S512x1024 : Shape := ⟨2, ![512, 1024]⟩
abbrev S512x128 : Shape := ⟨2, ![512, 128]⟩
abbrev S1024x128 : Shape := ⟨2, ![1024, 128]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x128, .bf16⟩
  | .hbm, ⟨2, _⟩ => ⟨S2048x128, .f32⟩
  | .local _ .vmem, ⟨0, _⟩ => ⟨S512x1024, .bf16⟩
  | .local _ .vmem, ⟨1, _⟩ => ⟨S512x1024, .bf16⟩
  | .local _ .vmem, ⟨2, _⟩ => ⟨S512x128, .bf16⟩
  | .local _ .vmem, ⟨3, _⟩ => ⟨S512x128, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 16], ![false, false, false]⟩

def k0_cond3 (i : grid0.Coords) : BitVec 1 :=
  let arg2 : BitVec 32 := BitVec.ofNat 32 (i 2).val
  let c15_i32 : BitVec 32 := 15#32
  let v9 : BitVec 1 := Scalar.cmpi .eq arg2 c15_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== StepGradRefIdeal.lean ====
abbrev S8192x2048 : Shape := ⟨2, ![8192, 2048]⟩
abbrev S8192x128 : Shape := ⟨2, ![8192, 128]⟩
abbrev S2048x8192 : Shape := ⟨2, ![2048, 8192]⟩
abbrev S2048x128 : Shape := ⟨2, ![2048, 128]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x128, .bf16⟩
  | .hbm, ⟨2, _⟩ => ⟨S8192x2048, .f32⟩
  | .hbm, ⟨3, _⟩ => ⟨S2048x8192, .f32⟩
  | .hbm, ⟨4, _⟩ => ⟨S8192x128, .f32⟩
  | .hbm, ⟨5, _⟩ => ⟨S2048x128, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== HiddenGrad.lean ====
abbrev S8192x22528 : Shape := ⟨2, ![8192, 22528]⟩
abbrev S2048x22528 : Shape := ⟨2, ![2048, 22528]⟩
abbrev S8192x2048 : Shape := ⟨2, ![8192, 2048]⟩
abbrev S512x2048 : Shape := ⟨2, ![512, 2048]⟩
abbrev S1024x2048 : Shape := ⟨2, ![1024, 2048]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x22528, .bf16⟩
  | .hbm, ⟨1, _⟩ => ⟨S2048x22528, .bf16⟩
  | .hbm, ⟨2, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S1024x2048, .bf16⟩
  | .local _ .vmem, ⟨3, _⟩ => ⟨S1024x2048, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x22528, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 16, 11], ![false, false, false]⟩

def k0_cond3 (i : grid0.Coords) : BitVec 1 :=
  let arg2 : BitVec 32 := BitVec.ofNat 32 (i 2).val
  let c10_i32 : BitVec 32 := 10#32
  let v9 : BitVec 1 := Scalar.cmpi .eq arg2 c10_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== HiddenGradRefIdeal.lean ====
abbrev S8192x22528 : Shape := ⟨2, ![8192, 22528]⟩
abbrev S2048x22528 : Shape := ⟨2, ![2048, 22528]⟩
abbrev S22528x2048 : Shape := ⟨2, ![22528, 2048]⟩
abbrev S8192x2048 : Shape := ⟨2, ![8192, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x22528, .bf16⟩
  | .hbm, ⟨1, _⟩ => ⟨S2048x22528, .bf16⟩
  | .hbm, ⟨2, _⟩ => ⟨S8192x22528, .f32⟩
  | .hbm, ⟨3, _⟩ => ⟨S2048x22528, .f32⟩
  | .hbm, ⟨4, _⟩ => ⟨S22528x2048, .f32⟩
  | .hbm, ⟨5, _⟩ => ⟨S8192x2048, .f32⟩
  | _, _ => ⟨S8192x22528, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== HiddenStep.lean ====
abbrev S8192x128 : Shape := ⟨2, ![8192, 128]⟩
abbrev S2048x128 : Shape := ⟨2, ![2048, 128]⟩
abbrev S8192x2048 : Shape := ⟨2, ![8192, 2048]⟩
abbrev S512x128 : Shape := ⟨2, ![512, 128]⟩
abbrev S1024x128 : Shape := ⟨2, ![1024, 128]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x128, .bf16⟩
  | .hbm, ⟨1, _⟩ => ⟨S2048x128, .bf16⟩
  | .hbm, ⟨2, _⟩ => ⟨S8192x2048, .f32⟩
  | .local _ .vmem, ⟨0, _⟩ => ⟨S512x128, .bf16⟩
  | .local _ .vmem, ⟨1, _⟩ => ⟨S512x128, .bf16⟩
  | .local _ .vmem, ⟨2, _⟩ => ⟨S1024x128, .bf16⟩
  | .local _ .vmem, ⟨3, _⟩ => ⟨S1024x128, .bf16⟩
  | .local _ .vmem, ⟨4, _⟩ => ⟨S512x1024, .f32⟩
  | .local _ .vmem, ⟨5, _⟩ => ⟨S512x1024, .f32⟩
  | _, _ => ⟨S8192x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== HiddenStepRefIdeal.lean ====
abbrev S8192x128 : Shape := ⟨2, ![8192, 128]⟩
abbrev S2048x128 : Shape := ⟨2, ![2048, 128]⟩
abbrev S128x2048 : Shape := ⟨2, ![128, 2048]⟩
abbrev S8192x2048 : Shape := ⟨2, ![8192, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x128, .bf16⟩
  | .hbm, ⟨1, _⟩ => ⟨S2048x128, .bf16⟩
  | .hbm, ⟨2, _⟩ => ⟨S8192x128, .f32⟩
  | .hbm, ⟨3, _⟩ => ⟨S2048x128, .f32⟩
  | .hbm, ⟨4, _⟩ => ⟨S128x2048, .f32⟩
  | .hbm, ⟨5, _⟩ => ⟨S8192x2048, .f32⟩
  | _, _ => ⟨S8192x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== GatedNormBack.lean ====
abbrev S8192x4096 : Shape := ⟨2, ![8192, 4096]⟩
abbrev S8192x6144 : Shape := ⟨2, ![8192, 6144]⟩
abbrev S8192x22528 : Shape := ⟨2, ![8192, 22528]⟩
abbrev S1x4096 : Shape := ⟨2, ![1, 4096]⟩
abbrev S128x4096 : Shape := ⟨2, ![128, 4096]⟩
abbrev S128 : Shape := ⟨1, ![128]⟩
abbrev S128x1 : Shape := ⟨2, ![128, 1]⟩
abbrev S4096 : Shape := ⟨1, ![4096]⟩

abbrev nBuf : Space → Nat
  | .hbm => 10
  | .vmem => 16
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S8192x6144, .f32⟩
  | .hbm, ⟨3, _⟩ => ⟨S8192x22528, .f32⟩
  | .hbm, ⟨4, _⟩ => ⟨S1x4096, .f32⟩
  | .hbm, ⟨5, _⟩ => ⟨S1x4096, .f32⟩
  | .hbm, ⟨6, _⟩ => ⟨S8192x4096, .f32⟩
  | .hbm, ⟨7, _⟩ => ⟨S8192x4096, .bf16⟩
  | .hbm, ⟨8, _⟩ => ⟨S1x4096, .f32⟩
  | .hbm, ⟨9, _⟩ => ⟨S1x4096, .f32⟩
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S128x4096, .f32⟩
  | .local _ .vmem, ⟨5, _⟩ => ⟨S128x4096, .f32⟩
  | .local _ .vmem, ⟨6, _⟩ => ⟨S128x4096, .f32⟩
  | .local _ .vmem, ⟨7, _⟩ => ⟨S128x4096, .f32⟩
  | .local _ .vmem, ⟨8, _⟩ => ⟨S1x4096, .f32⟩
  | .local _ .vmem, ⟨9, _⟩ => ⟨S1x4096, .f32⟩
  | .local _ .vmem, ⟨10, _⟩ => ⟨S128x4096, .f32⟩
  | .local _ .vmem, ⟨11, _⟩ => ⟨S128x4096, .f32⟩
  | .local _ .vmem, ⟨12, _⟩ => ⟨S128x4096, .bf16⟩
  | .local _ .vmem, ⟨13, _⟩ => ⟨S128x4096, .bf16⟩
  | .local _ .vmem, ⟨14, _⟩ => ⟨S1x4096, .f32⟩
  | .local _ .vmem, ⟨15, _⟩ => ⟨S1x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![64], ![false]⟩

def k0_cond1 (i : grid0.Coords) : BitVec 1 :=
  let arg0 : BitVec 32 := BitVec.ofNat 32 (i 0).val
  let c0_i32 : BitVec 32 := 0#32
  let v62 : BitVec 1 := Scalar.cmpi .eq arg0 c0_i32
  let v63 : BitVec 32 := Scalar.extui v62
  let c0_i32_26 : BitVec 32 := 0#32
  let v64 : BitVec 1 := Scalar.cmpi .ne v63 c0_i32_26
  v64

def k0_cond2 (i : grid0.Coords) : BitVec 1 :=
  let arg0 : BitVec 32 := BitVec.ofNat 32 (i 0).val
  let c0_i32_27 : BitVec 32 := 0#32
  let v65 : BitVec 1 := Scalar.cmpi .sgt arg0 c0_i32_27
  let v66 : BitVec 32 := Scalar.extui v65
  let c0_i32_28 : BitVec 32 := 0#32
  let v67 : BitVec 1 := Scalar.cmpi .ne v66 c0_i32_28
  v67

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x4096 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== GatedNormBackRefIdeal.lean ====
abbrev S8192x4096 : Shape := ⟨2, ![8192, 4096]⟩
abbrev S8192x6144 : Shape := ⟨2, ![8192, 6144]⟩
abbrev S8192x22528 : Shape := ⟨2, ![8192, 22528]⟩
abbrev S1x4096 : Shape := ⟨2, ![1, 4096]⟩
abbrev S_ : Shape := ⟨0, ![]⟩
abbrev S8192 : Shape := ⟨1, ![8192]⟩
abbrev S8192x1 : Shape := ⟨2, ![8192, 1]⟩
abbrev S4096 : Shape := ⟨1, ![4096]⟩

abbrev nBuf : Space → Nat
  | .hbm => 90
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S8192x6144, .f32⟩
  | .hbm, ⟨3, _⟩ => ⟨S8192x22528, .f32⟩
  | .hbm, ⟨4, _⟩ => ⟨S1x4096, .f32⟩
  | .hbm, ⟨5, _⟩ => ⟨S1x4096, .f32⟩
  | .hbm, ⟨6, _⟩ => ⟨S8192x4096, .f32⟩
  | .hbm, ⟨7, _⟩ => ⟨S8192x4096, .f32⟩
  | .hbm, ⟨8, _⟩ => ⟨S8192x4096, .f32⟩
  | .hbm, ⟨9, _⟩ => ⟨S8192x4096, .f32⟩
  | .hbm, ⟨10, _⟩ => ⟨S8192x4096, .f32⟩
  | .hbm, ⟨11, _⟩ => ⟨S8192x4096, .f32⟩
  | .hbm, ⟨12, _⟩ => ⟨S8192x4096, .f32⟩
  | .hbm, ⟨13, _⟩ => ⟨S_, .f32⟩
  | .hbm, ⟨14, _⟩ => ⟨S8192x4096, .f32⟩
  | .hbm, ⟨15, _⟩ => ⟨S8192x4096, .f32⟩
  | .hbm, ⟨16, _⟩ => ⟨S_, .f32⟩
  | .hbm, ⟨17, _⟩ => ⟨S8192x4096, .f32⟩
  | .hbm, ⟨18, _⟩ => ⟨S8192x4096, .f32⟩
  | .hbm, ⟨19, _⟩ => ⟨S8192x4096, .f32⟩
  | .hbm, ⟨20, _⟩ => ⟨S8192x4096, .f32⟩
  | .hbm, ⟨21, _⟩ => ⟨S8192x4096, .f32⟩
  | .hbm, ⟨22, _⟩ => ⟨S_, .f32⟩
  | .hbm, ⟨23, _⟩ => ⟨S8192, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S8192x4096, .f32⟩
  | .hbm, ⟨37, _⟩ => ⟨S8192x4096, .f32⟩
  | .hbm, ⟨38, _⟩ => ⟨S8192x4096, .f32⟩
  | .hbm, ⟨39, _⟩ => ⟨S8192x4096, .f32⟩
  | .hbm, ⟨40, _⟩ => ⟨S8192x4096, .f32⟩
  | .hbm, ⟨41, _⟩ => ⟨S_, .f32⟩
  | .hbm, ⟨42, _⟩ => ⟨S4096, .f32⟩
  | .hbm, ⟨43, _⟩ => ⟨S1x4096, .f32⟩
  | .hbm, ⟨44, _⟩ => ⟨S8192x4096, .f32⟩
  | .hbm, ⟨45, _⟩ => ⟨S8192x4096, .f32⟩
  | .hbm, ⟨46, _⟩ => ⟨S8192x4096, .f32⟩
  | .hbm, ⟨47, _⟩ => ⟨S_, .f32⟩
  | .hbm, ⟨48, _⟩ => ⟨S8192, .f32⟩
  | .hbm, ⟨49, _⟩ => ⟨S8192x1, .f32⟩
  | .hbm, ⟨50, _⟩ => ⟨S8192x4096, .f32⟩
  | .hbm, ⟨51, _⟩ => ⟨S8192x4096, .f32⟩
  | .hbm, ⟨52, _⟩ => ⟨S8192x1, .f32⟩
  | .hbm, ⟨53, _⟩ => ⟨S_, .f32⟩
  | .hbm, ⟨54, _⟩ => ⟨S8192x1, .f32⟩
  | .hbm, ⟨55, _⟩ => ⟨S8192x1, .f32⟩
  | .hbm, ⟨56, _⟩ => ⟨S_, .f32⟩
  | .hbm, ⟨57, _⟩ => ⟨S8192, .f32⟩
  | .hbm, ⟨58, _⟩ => ⟨S8192x4096, .f32⟩
  | .hbm, ⟨59, _⟩ => ⟨S8192x4096, .f32⟩
  | .hbm, ⟨60, _⟩ => ⟨S8192x4096, .f32⟩
  | .hbm, ⟨61, _⟩ => ⟨S8192x4096, .f32⟩
  | .hbm, ⟨62, _⟩ => ⟨S8192x4096, .f32⟩
  | .hbm, ⟨63, _⟩ => ⟨S8192x4096, .f32⟩
  | .hbm, ⟨64, _⟩ => ⟨S8192x4096, .f32⟩
  | .hbm, ⟨65, _⟩ => ⟨S8192x4096, .f32⟩
  | .hbm, ⟨66, _⟩ => ⟨S_, .f32⟩
  | .hbm, ⟨67, _⟩ => ⟨S4096, .f32⟩
  | .hbm, ⟨68, _⟩ => ⟨S1x4096, .f32⟩
  | .hbm, ⟨69, _⟩ => ⟨S_, .f32⟩
  | .hbm, ⟨70, _⟩ => ⟨S8192x4096, .f32⟩
  | .hbm, ⟨71, _⟩ => ⟨S8192x4096, .f32⟩
  | .hbm, ⟨72, _⟩ => ⟨S8192x4096, .f32⟩
  | .hbm, ⟨73, _⟩ => ⟨S_, .f32⟩
  | .hbm, ⟨74, _⟩ => ⟨S8192x4096, .f32⟩
  | .hbm, ⟨75, _⟩ => ⟨S8192x4096, .f32⟩
  | .hbm, ⟨76, _⟩ => ⟨S_, .f32⟩
  | .hbm, ⟨77, _⟩ => ⟨S8192x4096, .f32⟩
  | .hbm, ⟨78, _⟩ => ⟨S8192x4096, .f32⟩
  | .hbm, ⟨79, _⟩ => ⟨S_, .f32⟩
  | .hbm, ⟨80, _⟩ => ⟨S8192x4096, .f32⟩
  | .hbm, ⟨81, _⟩ => ⟨S8192x4096, .f32⟩
  | .hbm, ⟨82, _⟩ => ⟨S8192x4096, .f32⟩
  | .hbm, ⟨83, _⟩ => ⟨S8192x4096, .f32⟩
  | .hbm, ⟨84, _⟩ => ⟨S8192x4096, .f32⟩
  | .hbm, ⟨85, _⟩ => ⟨S8192x4096, .f32⟩
  | .hbm, ⟨86, _⟩ => ⟨S8192x4096, .f32⟩
  | .hbm, ⟨87, _⟩ => ⟨S8192x4096, .f32⟩
  | .hbm, ⟨88, _⟩ => ⟨S8192x4096, .f32⟩
  | .hbm, ⟨89, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst : Ref sig .tc := ⟨.hbm, 22, rfl⟩
abbrev main_v8 : Ref sig .tc := ⟨.hbm, 23, rfl⟩
abbrev main_v9 : Ref sig .tc := ⟨.hbm, 24, rfl⟩
abbrev main_cst_0 : Ref sig .tc := ⟨.hbm, 25, rfl⟩
abbrev main_v10 : Ref sig .tc := ⟨.hbm, 26, rfl⟩
abbrev main_v11 : Ref sig .tc := ⟨.hbm, 27, rfl⟩
abbrev main_cst_1 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_2 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_3 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_4 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_5 : Ref sig .tc := ⟨.hbm, 53, rfl⟩
abbrev main_v33 : Ref sig .tc := ⟨.hbm, 54, rfl⟩
abbrev main_v34 : Ref sig .tc := ⟨.hbm, 55, rfl⟩
abbrev main_cst_6 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_7 : Ref sig .tc := ⟨.hbm, 66, rfl⟩
abbrev main_v44 : Ref sig .tc := ⟨.hbm, 67, rfl⟩
abbrev main_v45 : Ref sig .tc := ⟨.hbm, 68, rfl⟩
abbrev main_cst_8 : Ref sig .tc := ⟨.hbm, 69, rfl⟩
abbrev main_v46 : Ref sig .tc := ⟨.hbm, 70, rfl⟩
abbrev main_call1_v0 : Ref sig .tc := ⟨.hbm, 71, rfl⟩
abbrev main_call1_v1 : Ref sig .tc := ⟨.hbm, 72, rfl⟩
abbrev main_call1_cst : Ref sig .tc := ⟨.hbm, 73, rfl⟩
abbrev main_call1_v2 : Ref sig .tc := ⟨.hbm, 74, rfl⟩
abbrev main_call1_v3 : Ref sig .tc := ⟨.hbm, 75, rfl⟩
abbrev main_call1_cst_0 : Ref sig .tc := ⟨.hbm, 76, rfl⟩
abbrev main_call1_v4 : Ref sig .tc := ⟨.hbm, 77, rfl⟩
abbrev main_call1_v5 : Ref sig .tc := ⟨.hbm, 78, rfl⟩
abbrev main_call1_cst_1 : Ref sig .tc := ⟨.hbm, 79, rfl⟩
abbrev main_call1_v6 : Ref sig .tc := ⟨.hbm, 80, rfl⟩
abbrev main_call1_v7 : Ref sig .tc := ⟨.hbm, 81, rfl⟩
abbrev main_call1_v8 : Ref sig .tc := ⟨.hbm, 82, rfl⟩
abbrev main_call1_v9 : Ref sig .tc := ⟨.hbm, 83, rfl⟩
abbrev main_v47_0 : Ref sig .tc := ⟨.hbm, 84, rfl⟩
abbrev main_call1_v11 : Ref sig .tc := ⟨.hbm, 85, rfl⟩
abbrev main_call1_v12 : Ref sig .tc := ⟨.hbm, 86, rfl⟩
abbrev main_v47_1 : Ref sig .tc := ⟨.hbm, 87, rfl⟩
abbrev main_v48 : Ref sig .tc := ⟨.hbm, 88, rfl⟩
abbrev main_v49 : Ref sig .tc := ⟨.hbm, 89, rfl⟩

abbrev nD : Nat := 1
abbrev τ : Topo := Topo.v7x

variable {F : FTy → Type} [FloatOps F]
-- ==== Conv.lean ====
abbrev S8192x22528 : Shape := ⟨2, ![8192, 22528]⟩
abbrev S4x6144 : Shape := ⟨2, ![4, 6144]⟩
abbrev S1x6144 : Shape := ⟨2, ![1, 6144]⟩
abbrev S8192x6144 : Shape := ⟨2, ![8192, 6144]⟩
abbrev S512x512 : Shape := ⟨2, ![512, 512]⟩
abbrev S8x512 : Shape := ⟨2, ![8, 512]⟩
abbrev S4x512 : Shape := ⟨2, ![4, 512]⟩
abbrev S1x512 : Shape := ⟨2, ![1, 512]⟩
abbrev S520x512 : Shape := ⟨2, ![520, 512]⟩

abbrev nBuf : Space → Nat
  | .hbm => 4
  | .vmem => 11
  | .smem => 0
  | _ => 0

abbrev bufTy : (tb : Table) → Fin (tcTables nBuf tb) → BufTy
  | .hbm, ⟨0, _⟩ => ⟨S8192x22528, .f32⟩
  | .hbm, ⟨1, _⟩ => ⟨S4x6144, .f32⟩
  | .hbm, ⟨2, _⟩ => ⟨S1x6144, .f32⟩
  | .hbm, ⟨3, _⟩ => ⟨S8192x6144, .f32⟩
  | .local _ .vmem, ⟨0, _⟩ => ⟨S512x512, .f32⟩
  | .local _ .vmem, ⟨1, _⟩ => ⟨S512x512, .f32⟩
  | .local _ .vmem, ⟨2, _⟩ => ⟨S8x512, .f32⟩
  | .local _ .vmem, ⟨3, _⟩ => ⟨S8x512, .f32⟩
  | .local _ .vmem, ⟨4, _⟩ => ⟨S4x512, .f32⟩
  | .local _ .vmem, ⟨5, _⟩ => ⟨S4x512, .f32⟩
  | .local _ .vmem, ⟨6, _⟩ => ⟨S1x512, .f32⟩
  | .local _ .vmem, ⟨7, _⟩ => ⟨S1x512, .f32⟩
  | .local _ .vmem, ⟨8, _⟩ => ⟨S512x512, .f32⟩
  | .local _ .vmem, ⟨9, _⟩ => ⟨S512x512, .f32⟩
  | .local _ .vmem, ⟨10, _⟩ => ⟨S520x512, .f32⟩
  | _, _ => ⟨S8192x22528, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![12, 16], ![false, false]⟩

def cc0_transform_0 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c24_i32 : BitVec 32 := 24#32
  let v3 : BitVec 32 := Scalar.addi c24_i32 arg0
  let c0_i32_0 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ConvRefIdeal.lean ====
abbrev S8192x22528 : Shape := ⟨2, ![8192, 22528]⟩
abbrev S4x6144 : Shape := ⟨2, ![4, 6144]⟩
abbrev S1x6144 : Shape := ⟨2, ![1, 6144]⟩
abbrev S8192x6144 : Shape := ⟨2, ![8192, 6144]⟩
abbrev S_ : Shape := ⟨0, ![]⟩
abbrev S8195x6144 : Shape := ⟨2, ![8195, 6144]⟩
abbrev S6144 : Shape := ⟨1, ![6144]⟩

abbrev nBuf : Space → Nat
  | .hbm => 45
  | .vmem => 0
  | .smem => 0
  | _ => 0

abbrev bufTy : (tb : Table) → Fin (tcTables nBuf tb) → BufTy
  | .hbm, ⟨0, _⟩ => ⟨S8192x22528, .f32⟩
  | .hbm, ⟨1, _⟩ => ⟨S4x6144, .f32⟩
  | .hbm, ⟨2, _⟩ => ⟨S1x6144, .f32⟩
  | .hbm, ⟨3, _⟩ => ⟨S8192x6144, .f32⟩
  | .hbm, ⟨4, _⟩ => ⟨S_, .i32⟩
  | .hbm, ⟨5, _⟩ => ⟨S_, .f32⟩
  | .hbm, ⟨6, _⟩ => ⟨S8195x6144, .f32⟩
  | .hbm, ⟨7, _⟩ => ⟨S1x6144, .f32⟩
  | .hbm, ⟨8, _⟩ => ⟨S6144, .f32⟩
  | .hbm, ⟨9, _⟩ => ⟨S8192x6144, .f32⟩
  | .hbm, ⟨10, _⟩ => ⟨S1x6144, .f32⟩
  | .hbm, ⟨11, _⟩ => ⟨S8192x6144, .f32⟩
  | .hbm, ⟨12, _⟩ => ⟨S8192x6144, .f32⟩
  | .hbm, ⟨13, _⟩ => ⟨S8192x6144, .f32⟩
  | .hbm, ⟨14, _⟩ => ⟨S8192x6144, .f32⟩
  | .hbm, ⟨15, _⟩ => ⟨S1x6144, .f32⟩
  | .hbm, ⟨16, _⟩ => ⟨S6144, .f32⟩
  | .hbm, ⟨17, _⟩ => ⟨S8192x6144, .f32⟩
  | .hbm, ⟨18, _⟩ => ⟨S1x6144, .f32⟩
  | .hbm, ⟨19, _⟩ => ⟨S8192x6144, .f32⟩
  | .hbm, ⟨20, _⟩ => ⟨S8192x6144, .f32⟩
  | .hbm, ⟨21, _⟩ => ⟨S8192x6144, .f32⟩
  | .hbm, ⟨22, _⟩ => ⟨S1x6144, .f32⟩
  | .hbm, ⟨23, _⟩ => ⟨S6144, .f32⟩
  | .hbm, ⟨24, _⟩ => ⟨S8192x6144, .f32⟩
  | .hbm, ⟨25, _⟩ => ⟨S1x6144, .f32⟩
  | .hbm, ⟨26, _⟩ => ⟨S8192x6144, .f32⟩
  | .hbm, ⟨27, _⟩ => ⟨S8192x6144, .f32⟩
  | .hbm, ⟨28, _⟩ => ⟨S8192x6144, .f32⟩
  | .hbm, ⟨29, _⟩ => ⟨S1x6144, .f32⟩
  | .hbm, ⟨30, _⟩ => ⟨S6144, .f32⟩
  | .hbm, ⟨31, _⟩ => ⟨S8192x6144, .f32⟩
  | .hbm, ⟨32, _⟩ => ⟨S1x6144, .f32⟩
  | .hbm, ⟨33, _⟩ => ⟨S8192x6144, .f32⟩
  | .hbm, ⟨34, _⟩ => ⟨S8192x6144, .f32⟩
  | .hbm, ⟨35, _⟩ => ⟨S8192x6144, .f32⟩
  | .hbm, ⟨36, _⟩ => ⟨S8192x6144, .f32⟩
  | .hbm, ⟨37, _⟩ => ⟨S8192x6144, .f32⟩
  | .hbm, ⟨38, _⟩ => ⟨S_, .f32⟩
  | .hbm, ⟨39, _⟩ => ⟨S8192x6144, .f32⟩
  | .hbm, ⟨40, _⟩ => ⟨S8192x6144, .f32⟩
  | .hbm, ⟨41, _⟩ => ⟨S_, .f32⟩
  | .hbm, ⟨42, _⟩ => ⟨S8192x6144, .f32⟩
  | .hbm, ⟨43, _⟩ => ⟨S8192x6144, .f32⟩
  | .hbm, ⟨44, _⟩ => ⟨S8192x6144, .f32⟩
  | _, _ => ⟨S8192x22528, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_call1_v0 : Ref sig .tc := ⟨.hbm, 36, rfl⟩
abbrev main_call1_v1 : Ref sig .tc := ⟨.hbm, 37, rfl⟩
abbrev main_call1_cst : Ref sig .tc := ⟨.hbm, 38, rfl⟩
abbrev main_call1_v2 : Ref sig .tc := ⟨.hbm, 39, rfl⟩
abbrev main_call1_v3 : Ref sig .tc := ⟨.hbm, 40, rfl⟩
abbrev main_call1_cst_0 : Ref sig .tc := ⟨.hbm, 41, rfl⟩
abbrev main_call1_v4 : Ref sig .tc := ⟨.hbm, 42, rfl⟩
abbrev main_call1_v5 : Ref sig .tc := ⟨.hbm, 43, rfl⟩
abbrev main_v31 : Ref sig .tc := ⟨.hbm, 44, rfl⟩

abbrev nD : Nat := 1
abbrev τ : Topo := Topo.v7x

variable {F : FTy → Type} [FloatOps F]
-- ==== ConvBack.lean ====
abbrev S8192x6144 : Shape := ⟨2, ![8192, 6144]⟩
abbrev S4x6144 : Shape := ⟨2, ![4, 6144]⟩
abbrev S512x512 : Shape := ⟨2, ![512, 512]⟩
abbrev S8x512 : Shape := ⟨2, ![8, 512]⟩
abbrev S4x512 : Shape := ⟨2, ![4, 512]⟩
abbrev S520x512 : Shape := ⟨2, ![520, 512]⟩
abbrev S1x512 : Shape := ⟨2, ![1, 512]⟩

abbrev nBuf : Space → Nat
  | .hbm => 3
  | .vmem => 9
  | .smem => 0
  | _ => 0

abbrev bufTy : (tb : Table) → Fin (tcTables nBuf tb) → BufTy
  | .hbm, ⟨0, _⟩ => ⟨S8192x6144, .f32⟩
  | .hbm, ⟨1, _⟩ => ⟨S4x6144, .f32⟩
  | .hbm, ⟨2, _⟩ => ⟨S8192x6144, .bf16⟩
  | .local _ .vmem, ⟨0, _⟩ => ⟨S512x512, .f32⟩
  | .local _ .vmem, ⟨1, _⟩ => ⟨S512x512, .f32⟩
  | .local _ .vmem, ⟨2, _⟩ => ⟨S8x512, .f32⟩
  | .local _ .vmem, ⟨3, _⟩ => ⟨S8x512, .f32⟩
  | .local _ .vmem, ⟨4, _⟩ => ⟨S4x512, .f32⟩
  | .local _ .vmem, ⟨5, _⟩ => ⟨S4x512, .f32⟩
  | .local _ .vmem, ⟨6, _⟩ => ⟨S512x512, .bf16⟩
  | .local _ .vmem, ⟨7, _⟩ => ⟨S512x512, .bf16⟩
  | .local _ .vmem, ⟨8, _⟩ => ⟨S520x512, .f32⟩
  | _, _ => ⟨S8192x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![12, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  ![v2.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ConvBackRefIdeal.lean ====
abbrev S8192x6144 : Shape := ⟨2, ![8192, 6144]⟩
abbrev S4x6144 : Shape := ⟨2, ![4, 6144]⟩
abbrev S_ : Shape := ⟨0, ![]⟩
abbrev S8195x6144 : Shape := ⟨2, ![8195, 6144]⟩
abbrev S1x6144 : Shape := ⟨2, ![1, 6144]⟩
abbrev S6144 : Shape := ⟨1, ![6144]⟩

abbrev nBuf : Space → Nat
  | .hbm => 33
  | .vmem => 0
  | .smem => 0
  | _ => 0

abbrev bufTy : (tb : Table) → Fin (tcTables nBuf tb) → BufTy
  | .hbm, ⟨0, _⟩ => ⟨S8192x6144, .f32⟩
  | .hbm, ⟨1, _⟩ => ⟨S4x6144, .f32⟩
  | .hbm, ⟨2, _⟩ => ⟨S_, .i32⟩
  | .hbm, ⟨3, _⟩ => ⟨S_, .f32⟩
  | .hbm, ⟨4, _⟩ => ⟨S8195x6144, .f32⟩
  | .hbm, ⟨5, _⟩ => ⟨S1x6144, .f32⟩
  | .hbm, ⟨6, _⟩ => ⟨S6144, .f32⟩
  | .hbm, ⟨7, _⟩ => ⟨S8192x6144, .f32⟩
  | .hbm, ⟨8, _⟩ => ⟨S1x6144, .f32⟩
  | .hbm, ⟨9, _⟩ => ⟨S8192x6144, .f32⟩
  | .hbm, ⟨10, _⟩ => ⟨S8192x6144, .f32⟩
  | .hbm, ⟨11, _⟩ => ⟨S1x6144, .f32⟩
  | .hbm, ⟨12, _⟩ => ⟨S6144, .f32⟩
  | .hbm, ⟨13, _⟩ => ⟨S8192x6144, .f32⟩
  | .hbm, ⟨14, _⟩ => ⟨S1x6144, .f32⟩
  | .hbm, ⟨15, _⟩ => ⟨S8192x6144, .f32⟩
  | .hbm, ⟨16, _⟩ => ⟨S8192x6144, .f32⟩
  | .hbm, ⟨17, _⟩ => ⟨S8192x6144, .f32⟩
  | .hbm, ⟨18, _⟩ => ⟨S1x6144, .f32⟩
  | .hbm, ⟨19, _⟩ => ⟨S6144, .f32⟩
  | .hbm, ⟨20, _⟩ => ⟨S8192x6144, .f32⟩
  | .hbm, ⟨21, _⟩ => ⟨S1x6144, .f32⟩
  | .hbm, ⟨22, _⟩ => ⟨S8192x6144, .f32⟩
  | .hbm, ⟨23, _⟩ => ⟨S8192x6144, .f32⟩
  | .hbm, ⟨24, _⟩ => ⟨S8192x6144, .f32⟩
  | .hbm, ⟨25, _⟩ => ⟨S1x6144, .f32⟩
  | .hbm, ⟨26, _⟩ => ⟨S6144, .f32⟩
  | .hbm, ⟨27, _⟩ => ⟨S8192x6144, .f32⟩
  | .hbm, ⟨28, _⟩ => ⟨S1x6144, .f32⟩
  | .hbm, ⟨29, _⟩ => ⟨S8192x6144, .f32⟩
  | .hbm, ⟨30, _⟩ => ⟨S8192x6144, .f32⟩
  | .hbm, ⟨31, _⟩ => ⟨S8192x6144, .f32⟩
  | .hbm, ⟨32, _⟩ => ⟨S8192x6144, .bf16⟩
  | _, _ => ⟨S8192x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩

abbrev nD : Nat := 1
abbrev τ : Topo := Topo.v7x

variable {F : FTy → Type} [FloatOps F]
-- ==== Steps.lean ====
abbrev S8192x128 : Shape := ⟨2, ![8192, 128]⟩
abbrev S1x128 : Shape := ⟨2, ![1, 128]⟩
abbrev S128x128 : Shape := ⟨2, ![128, 128]⟩

abbrev nBuf : Space → Nat
  | .hbm => 5
  | .vmem => 8
  | .smem => 0
  | _ => 0

abbrev bufTy : (tb : Table) → Fin (tcTables nBuf tb) → BufTy
  | .hbm, ⟨0, _⟩ => ⟨S8192x128, .f32⟩
  | .hbm, ⟨1, _⟩ => ⟨S1x128, .f32⟩
  | .hbm, ⟨2, _⟩ => ⟨S1x128, .f32⟩
  | .hbm, ⟨3, _⟩ => ⟨S8192x128, .f32⟩
  | .hbm, ⟨4, _⟩ => ⟨S8192x128, .f32⟩
  | .local _ .vmem, ⟨0, _⟩ => ⟨S128x128, .f32⟩
  | .local _ .vmem, ⟨1, _⟩ => ⟨S128x128, .f32⟩
  | .local _ .vmem, ⟨2, _⟩ => ⟨S1x128, .f32⟩
  | .local _ .vmem, ⟨3, _⟩ => ⟨S1x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== StepsRefIdeal.lean ====
abbrev S8192x128 : Shape := ⟨2, ![8192, 128]⟩
abbrev S1x128 : Shape := ⟨2, ![1, 128]⟩
abbrev S_ : Shape := ⟨0, ![]⟩
abbrev S64x128x128 : Shape := ⟨3, ![64, 128, 128]⟩

abbrev nBuf : Space → Nat
  | .hbm => 28
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S1x128, .f32⟩
  | .hbm, ⟨2, _⟩ => ⟨S1x128, .f32⟩
  | .hbm, ⟨3, _⟩ => ⟨S8192x128, .f32⟩
  | .hbm, ⟨4, _⟩ => ⟨S8192x128, .f32⟩
  | .hbm, ⟨5, _⟩ => ⟨S_, .f32⟩
  | .hbm, ⟨6, _⟩ => ⟨S8192x128, .f32⟩
  | .hbm, ⟨7, _⟩ => ⟨S8192x128, .f32⟩
  | .hbm, ⟨8, _⟩ => ⟨S8192x128, .f32⟩
  | .hbm, ⟨9, _⟩ => ⟨S8192x128, .f32⟩
  | .hbm, ⟨10, _⟩ => ⟨S8192x128, .i1⟩
  | .hbm, ⟨11, _⟩ => ⟨S8192x128, .f32⟩
  | .hbm, ⟨12, _⟩ => ⟨S8192x128, .f32⟩
  | .hbm, ⟨13, _⟩ => ⟨S8192x128, .f32⟩
  | .hbm, ⟨14, _⟩ => ⟨S8192x128, .f32⟩
  | .hbm, ⟨15, _⟩ => ⟨S8192x128, .f32⟩
  | .hbm, ⟨16, _⟩ => ⟨S8192x128, .f32⟩
  | .hbm, ⟨17, _⟩ => ⟨S8192x128, .f32⟩
  | .hbm, ⟨18, _⟩ => ⟨S8192x128, .f32⟩
  | .hbm, ⟨19, _⟩ => ⟨S1x128, .f32⟩
  | .hbm, ⟨20, _⟩ => ⟨S1x128, .f32⟩
  | .hbm, ⟨21, _⟩ => ⟨S8192x128, .f32⟩
  | .hbm, ⟨22, _⟩ => ⟨S8192x128, .f32⟩
  | .hbm, ⟨23, _⟩ => ⟨S64x128x128, .f32⟩
  | .hbm, ⟨24, _⟩ => ⟨S_, .f32⟩
  | .hbm, ⟨25, _⟩ => ⟨S_, .f32⟩
  | .hbm, ⟨26, _⟩ => ⟨S64x128x128, .f32⟩
  | .hbm, ⟨27, _⟩ => ⟨S8192x128, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_call1_call0_cst : Ref sig .tc := ⟨.hbm, 24, rfl⟩
abbrev main_call1_call0_v0 : Ref sig .tc := ⟨.hbm, 25, rfl⟩
abbrev main_v8 : Ref sig .tc := ⟨.hbm, 26, rfl⟩
abbrev main_v9 : Ref sig .tc := ⟨.hbm, 27, rfl⟩

abbrev nD : Nat := 1
abbrev τ : Topo := Topo.v7x

variable {F : FTy → Type} [FloatOps F]
-- ==== GateBack.lean ====
abbrev S8192x2048 : Shape := ⟨2, ![8192, 2048]⟩
abbrev S8192x22528 : Shape := ⟨2, ![8192, 22528]⟩
abbrev S8192x16 : Shape := ⟨2, ![8192, 16]⟩
abbrev S256x2048 : Shape := ⟨2, ![256, 2048]⟩
abbrev S256x16 : Shape := ⟨2, ![256, 16]⟩
abbrev S256x128 : Shape := ⟨2, ![256, 128]⟩
abbrev S256 : Shape := ⟨1, ![256]⟩
abbrev S256x1 : Shape := ⟨2, ![256, 1]⟩

abbrev nBuf : Space → Nat
  | .hbm => 6
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x22528, .f32⟩
  | .hbm, ⟨3, _⟩ => ⟨S8192x2048, .bf16⟩
  | .hbm, ⟨4, _⟩ => ⟨S8192x2048, .bf16⟩
  | .hbm, ⟨5, _⟩ => ⟨S8192x16, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | .local _ .vmem, ⟨10, _⟩ => ⟨S256x16, .f32⟩
  | .local _ .vmem, ⟨11, _⟩ => ⟨S256x16, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== GateBackRefIdeal.lean ====
abbrev S8192x2048 : Shape := ⟨2, ![8192, 2048]⟩
abbrev S8192x22528 : Shape := ⟨2, ![8192, 22528]⟩
abbrev S_ : Shape := ⟨0, ![]⟩
abbrev S8192x16x128 : Shape := ⟨3, ![8192, 16, 128]⟩
abbrev S8192x16 : Shape := ⟨2, ![8192, 16]⟩

abbrev nBuf : Space → Nat
  | .hbm => 42
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x22528, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S_, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x16x128, .f32⟩
  | .hbm, ⟨18, _⟩ => ⟨S_, .f32⟩
  | .hbm, ⟨19, _⟩ => ⟨S8192x16, .f32⟩
  | .hbm, ⟨20, _⟩ => ⟨S8192x2048, .bf16⟩
  | .hbm, ⟨21, _⟩ => ⟨S_, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S8192x2048, .f32⟩
  | .hbm, ⟨27, _⟩ => ⟨S8192x2048, .f32⟩
  | .hbm, ⟨28, _⟩ => ⟨S_, .f32⟩
  | .hbm, ⟨29, _⟩ => ⟨S8192x2048, .f32⟩
  | .hbm, ⟨30, _⟩ => ⟨S8192x2048, .f32⟩
  | .hbm, ⟨31, _⟩ => ⟨S_, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S8192x2048, .f32⟩
  | .hbm, ⟨41, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_call1_v0 : Ref sig .tc := ⟨.hbm, 23, rfl⟩
abbrev main_call1_v1 : Ref sig .tc := ⟨.hbm, 24, rfl⟩
abbrev main_call1_cst : Ref sig .tc := ⟨.hbm, 25, rfl⟩
abbrev main_call1_v2 : Ref sig .tc := ⟨.hbm, 26, rfl⟩
abbrev main_call1_v3 : Ref sig .tc := ⟨.hbm, 27, rfl⟩
abbrev main_call1_cst_0 : Ref sig .tc := ⟨.hbm, 28, rfl⟩
abbrev main_call1_v4 : Ref sig .tc := ⟨.hbm, 29, rfl⟩
abbrev main_call1_v5 : Ref sig .tc := ⟨.hbm, 30, rfl⟩
abbrev main_call1_cst_1 : Ref sig .tc := ⟨.hbm, 31, rfl⟩
abbrev main_call1_v6 : Ref sig .tc := ⟨.hbm, 32, rfl⟩
abbrev main_call1_v7 : Ref sig .tc := ⟨.hbm, 33, rfl⟩
abbrev main_call1_v8 : Ref sig .tc := ⟨.hbm, 34, rfl⟩
abbrev main_call1_v9 : Ref sig .tc := ⟨.hbm, 35, rfl⟩
abbrev main_v10_0 : Ref sig .tc := ⟨.hbm, 36, rfl⟩
abbrev main_call1_v11 : Ref sig .tc := ⟨.hbm, 37, rfl⟩
abbrev main_call1_v12 : Ref sig .tc := ⟨.hbm, 38, rfl⟩
abbrev main_v10_1 : Ref sig .tc := ⟨.hbm, 39, rfl⟩
abbrev main_v11 : Ref sig .tc := ⟨.hbm, 40, rfl⟩
abbrev main_v12 : Ref sig .tc := ⟨.hbm, 41, rfl⟩

abbrev nD : Nat := 1
abbrev τ : Topo := Topo.v7x

variable {F : FTy → Type} [FloatOps F]
-- ==== ConvGrad.lean ====
abbrev S8192x22528 : Shape := ⟨2, ![8192, 22528]⟩
abbrev S8192x6144 : Shape := ⟨2, ![8192, 6144]⟩
abbrev S4x6144 : Shape := ⟨2, ![4, 6144]⟩
abbrev S1x6144 : Shape := ⟨2, ![1, 6144]⟩
abbrev S8x6144 : Shape := ⟨2, ![8, 6144]⟩
abbrev S512x512 : Shape := ⟨2, ![512, 512]⟩
abbrev S8x512 : Shape := ⟨2, ![8, 512]⟩
abbrev S4x512 : Shape := ⟨2, ![4, 512]⟩
abbrev S1x512 : Shape := ⟨2, ![1, 512]⟩
abbrev S520x512 : Shape := ⟨2, ![520, 512]⟩
abbrev S512 : Shape := ⟨1, ![512]⟩

abbrev nBuf : Space → Nat
  | .hbm => 7
  | .vmem => 17
  | .smem => 0
  | _ => 0

abbrev bufTy : (tb : Table) → Fin (tcTables nBuf tb) → BufTy
  | .hbm, ⟨0, _⟩ => ⟨S8192x22528, .f32⟩
  | .hbm, ⟨1, _⟩ => ⟨S8192x6144, .f32⟩
  | .hbm, ⟨2, _⟩ => ⟨S4x6144, .f32⟩
  | .hbm, ⟨3, _⟩ => ⟨S1x6144, .f32⟩
  | .hbm, ⟨4, _⟩ => ⟨S8192x6144, .f32⟩
  | .hbm, ⟨5, _⟩ => ⟨S8x6144, .f32⟩
  | .hbm, ⟨6, _⟩ => ⟨S1x6144, .f32⟩
  | .local _ .vmem, ⟨0, _⟩ => ⟨S512x512, .f32⟩
  | .local _ .vmem, ⟨1, _⟩ => ⟨S512x512, .f32⟩
  | .local _ .vmem, ⟨2, _⟩ => ⟨S8x512, .f32⟩
  | .local _ .vmem, ⟨3, _⟩ => ⟨S8x512, .f32⟩
  | .local _ .vmem, ⟨4, _⟩ => ⟨S512x512, .f32⟩
  | .local _ .vmem, ⟨5, _⟩ => ⟨S512x512, .f32⟩
  | .local _ .vmem, ⟨6, _⟩ => ⟨S4x512, .f32⟩
  | .local _ .vmem, ⟨7, _⟩ => ⟨S4x512, .f32⟩
  | .local _ .vmem, ⟨8, _⟩ => ⟨S1x512, .f32⟩
  | .local _ .vmem, ⟨9, _⟩ => ⟨S1x512, .f32⟩
  | .local _ .vmem, ⟨10, _⟩ => ⟨S512x512, .f32⟩
  | .local _ .vmem, ⟨11, _⟩ => ⟨S512x512, .f32⟩
  | .local _ .vmem, ⟨12, _⟩ => ⟨S8x512, .f32⟩
  | .local _ .vmem, ⟨13, _⟩ => ⟨S8x512, .f32⟩
  | .local _ .vmem, ⟨14, _⟩ => ⟨S1x512, .f32⟩
  | .local _ .vmem, ⟨15, _⟩ => ⟨S1x512, .f32⟩
  | .local _ .vmem, ⟨16, _⟩ => ⟨S520x512, .f32⟩
  | _, _ => ⟨S8192x22528, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![12, 16], ![false, false]⟩

def k0_cond1 (i : grid0.Coords) : BitVec 1 :=
  let arg1 : BitVec 32 := BitVec.ofNat 32 (i 1).val
  let c0_i32_42 : BitVec 32 := 0#32
  let v71 : BitVec 1 := Scalar.cmpi .eq arg1 c0_i32_42
  let v72 : BitVec 32 := Scalar.extui v71
  let c0_i32_43 : BitVec 32 := 0#32
  let v73 : BitVec 1 := Scalar.cmpi .ne v72 c0_i32_43
  v73

def k0_cond2 (i : grid0.Coords) : BitVec 1 :=
  let arg1 : BitVec 32 := BitVec.ofNat 32 (i 1).val
  let c0_i32_44 : BitVec 32 := 0#32
  let v74 : BitVec 1 := Scalar.cmpi .sgt arg1 c0_i32_44
  let v75 : BitVec 32 := Scalar.extui v74
  let c0_i32_45 : BitVec 32 := 0#32
  let v76 : BitVec 1 := Scalar.cmpi .ne v75 c0_i32_45
  v76

def cc0_transform_0 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c24_i32 : BitVec 32 := 24#32
  let v3 : BitVec 32 := Scalar.addi c24_i32 arg0
  let c0_i32_0 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ConvGradRefIdeal.lean ====
abbrev S8192x22528 : Shape := ⟨2, ![8192, 22528]⟩
abbrev S8192x6144 : Shape := ⟨2, ![8192, 6144]⟩
abbrev S4x6144 : Shape := ⟨2, ![4, 6144]⟩
abbrev S1x6144 : Shape := ⟨2, ![1, 6144]⟩
abbrev S_ : Shape := ⟨0, ![]⟩
abbrev S8195x6144 : Shape := ⟨2, ![8195, 6144]⟩
abbrev S6144 : Shape := ⟨1, ![6144]⟩
abbrev S8x6144 : Shape := ⟨2, ![8, 6144]⟩

abbrev nBuf : Space → Nat
  | .hbm => 84
  | .vmem => 0
  | .smem => 0
  | _ => 0

abbrev bufTy : (tb : Table) → Fin (tcTables nBuf tb) → BufTy
  | .hbm, ⟨0, _⟩ => ⟨S8192x22528, .f32⟩
  | .hbm, ⟨1, _⟩ => ⟨S8192x6144, .f32⟩
  | .hbm, ⟨2, _⟩ => ⟨S4x6144, .f32⟩
  | .hbm, ⟨3, _⟩ => ⟨S1x6144, .f32⟩
  | .hbm, ⟨4, _⟩ => ⟨S8192x6144, .f32⟩
  | .hbm, ⟨5, _⟩ => ⟨S_, .i32⟩
  | .hbm, ⟨6, _⟩ => ⟨S_, .f32⟩
  | .hbm, ⟨7, _⟩ => ⟨S8195x6144, .f32⟩
  | .hbm, ⟨8, _⟩ => ⟨S1x6144, .f32⟩
  | .hbm, ⟨9, _⟩ => ⟨S6144, .f32⟩
  | .hbm, ⟨10, _⟩ => ⟨S8192x6144, .f32⟩
  | .hbm, ⟨11, _⟩ => ⟨S1x6144, .f32⟩
  | .hbm, ⟨12, _⟩ => ⟨S8192x6144, .f32⟩
  | .hbm, ⟨13, _⟩ => ⟨S8192x6144, .f32⟩
  | .hbm, ⟨14, _⟩ => ⟨S8192x6144, .f32⟩
  | .hbm, ⟨15, _⟩ => ⟨S8192x6144, .f32⟩
  | .hbm, ⟨16, _⟩ => ⟨S1x6144, .f32⟩
  | .hbm, ⟨17, _⟩ => ⟨S6144, .f32⟩
  | .hbm, ⟨18, _⟩ => ⟨S8192x6144, .f32⟩
  | .hbm, ⟨19, _⟩ => ⟨S1x6144, .f32⟩
  | .hbm, ⟨20, _⟩ => ⟨S8192x6144, .f32⟩
  | .hbm, ⟨21, _⟩ => ⟨S8192x6144, .f32⟩
  | .hbm, ⟨22, _⟩ => ⟨S8192x6144, .f32⟩
  | .hbm, ⟨23, _⟩ => ⟨S1x6144, .f32⟩
  | .hbm, ⟨24, _⟩ => ⟨S6144, .f32⟩
  | .hbm, ⟨25, _⟩ => ⟨S8192x6144, .f32⟩
  | .hbm, ⟨26, _⟩ => ⟨S1x6144, .f32⟩
  | .hbm, ⟨27, _⟩ => ⟨S8192x6144, .f32⟩
  | .hbm, ⟨28, _⟩ => ⟨S8192x6144, .f32⟩
  | .hbm, ⟨29, _⟩ => ⟨S8192x6144, .f32⟩
  | .hbm, ⟨30, _⟩ => ⟨S1x6144, .f32⟩
  | .hbm, ⟨31, _⟩ => ⟨S6144, .f32⟩
  | .hbm, ⟨32, _⟩ => ⟨S8192x6144, .f32⟩
  | .hbm, ⟨33, _⟩ => ⟨S1x6144, .f32⟩
  | .hbm, ⟨34, _⟩ => ⟨S8192x6144, .f32⟩
  | .hbm, ⟨35, _⟩ => ⟨S8192x6144, .f32⟩
  | .hbm, ⟨36, _⟩ => ⟨S8192x6144, .f32⟩
  | .hbm, ⟨37, _⟩ => ⟨S_, .f32⟩
  | .hbm, ⟨38, _⟩ => ⟨S8192x6144, .f32⟩
  | .hbm, ⟨39, _⟩ => ⟨S8192x6144, .f32⟩
  | .hbm, ⟨40, _⟩ => ⟨S8192x6144, .f32⟩
  | .hbm, ⟨41, _⟩ => ⟨S_, .f32⟩
  | .hbm, ⟨42, _⟩ => ⟨S8192x6144, .f32⟩
  | .hbm, ⟨43, _⟩ => ⟨S8192x6144, .f32⟩
  | .hbm, ⟨44, _⟩ => ⟨S_, .f32⟩
  | .hbm, ⟨45, _⟩ => ⟨S8192x6144, .f32⟩
  | .hbm, ⟨46, _⟩ => ⟨S8192x6144, .f32⟩
  | .hbm, ⟨47, _⟩ => ⟨S_, .f32⟩
  | .hbm, ⟨48, _⟩ => ⟨S8192x6144, .f32⟩
  | .hbm, ⟨49, _⟩ => ⟨S8192x6144, .f32⟩
  | .hbm, ⟨50, _⟩ => ⟨S8192x6144, .f32⟩
  | .hbm, ⟨51, _⟩ => ⟨S8192x6144, .f32⟩
  | .hbm, ⟨52, _⟩ => ⟨S8192x6144, .f32⟩
  | .hbm, ⟨53, _⟩ => ⟨S8192x6144, .f32⟩
  | .hbm, ⟨54, _⟩ => ⟨S8192x6144, .f32⟩
  | .hbm, ⟨55, _⟩ => ⟨S8192x6144, .f32⟩
  | .hbm, ⟨56, _⟩ => ⟨S8192x6144, .f32⟩
  | .hbm, ⟨57, _⟩ => ⟨S8192x6144, .f32⟩
  | .hbm, ⟨58, _⟩ => ⟨S8192x6144, .f32⟩
  | .hbm, ⟨59, _⟩ => ⟨S_, .f32⟩
  | .hbm, ⟨60, _⟩ => ⟨S6144, .f32⟩
  | .hbm, ⟨61, _⟩ => ⟨S8192x6144, .f32⟩
  | .hbm, ⟨62, _⟩ => ⟨S8192x6144, .f32⟩
  | .hbm, ⟨63, _⟩ => ⟨S_, .f32⟩
  | .hbm, ⟨64, _⟩ => ⟨S6144, .f32⟩
  | .hbm, ⟨65, _⟩ => ⟨S8192x6144, .f32⟩
  | .hbm, ⟨66, _⟩ => ⟨S8192x6144, .f32⟩
  | .hbm, ⟨67, _⟩ => ⟨S_, .f32⟩
  | .hbm, ⟨68, _⟩ => ⟨S6144, .f32⟩
  | .hbm, ⟨69, _⟩ => ⟨S8192x6144, .f32⟩
  | .hbm, ⟨70, _⟩ => ⟨S8192x6144, .f32⟩
  | .hbm, ⟨71, _⟩ => ⟨S_, .f32⟩
  | .hbm, ⟨72, _⟩ => ⟨S6144, .f32⟩
  | .hbm, ⟨73, _⟩ => ⟨S1x6144, .f32⟩
  | .hbm, ⟨74, _⟩ => ⟨S1x6144, .f32⟩
  | .hbm, ⟨75, _⟩ => ⟨S1x6144, .f32⟩
  | .hbm, ⟨76, _⟩ => ⟨S1x6144, .f32⟩
  | .hbm, ⟨77, _⟩ => ⟨S4x6144, .f32⟩
  | .hbm, ⟨78, _⟩ => ⟨S_, .i32⟩
  | .hbm, ⟨79, _⟩ => ⟨S_, .f32⟩
  | .hbm, ⟨80, _⟩ => ⟨S8x6144, .f32⟩
  | .hbm, ⟨81, _⟩ => ⟨S_, .f32⟩
  | .hbm, ⟨82, _⟩ => ⟨S6144, .f32⟩
  | .hbm, ⟨83, _⟩ => ⟨S1x6144, .f32⟩
  | _, _ => ⟨S8192x22528, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_cst : Ref sig .tc := ⟨.hbm, 37, rfl⟩
abbrev main_v31 : Ref sig .tc := ⟨.hbm, 38, rfl⟩
abbrev main_call1_v0 : Ref sig .tc := ⟨.hbm, 39, rfl⟩
abbrev main_call1_v1 : Ref sig .tc := ⟨.hbm, 40, rfl⟩
abbrev main_call1_cst : Ref sig .tc := ⟨.hbm, 41, rfl⟩
abbrev main_call1_v2 : Ref sig .tc := ⟨.hbm, 42, rfl⟩
abbrev main_call1_v3 : Ref sig .tc := ⟨.hbm, 43, rfl⟩
abbrev main_call1_cst_0 : Ref sig .tc := ⟨.hbm, 44, rfl⟩
abbrev main_call1_v4 : Ref sig .tc := ⟨.hbm, 45, rfl⟩
abbrev main_call1_v5 : Ref sig .tc := ⟨.hbm, 46, rfl⟩
abbrev main_call1_cst_1 : Ref sig .tc := ⟨.hbm, 47, rfl⟩
abbrev main_call1_v6 : Ref sig .tc := ⟨.hbm, 48, rfl⟩
abbrev main_call1_v7 : Ref sig .tc := ⟨.hbm, 49, rfl⟩
abbrev main_call1_v8 : Ref sig .tc := ⟨.hbm, 50, rfl⟩
abbrev main_call1_v9 : Ref sig .tc := ⟨.hbm, 51, rfl⟩
abbrev main_v32_0 : Ref sig .tc := ⟨.hbm, 52, rfl⟩
abbrev main_call1_v11 : Ref sig .tc := ⟨.hbm, 53, rfl⟩
abbrev main_call1_v12 : Ref sig .tc := ⟨.hbm, 54, rfl⟩
abbrev main_v32_1 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_0 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_1 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_2 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_cst_3 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_c_4 : Ref sig .tc := ⟨.hbm, 78, rfl⟩
abbrev main_call2_v0 : Ref sig .tc := ⟨.hbm, 79, rfl⟩
abbrev main_v51 : Ref sig .tc := ⟨.hbm, 80, rfl⟩
abbrev main_cst_5 : Ref sig .tc := ⟨.hbm, 81, rfl⟩
abbrev main_v52 : Ref sig .tc := ⟨.hbm, 82, rfl⟩
abbrev main_v53 : Ref sig .tc := ⟨.hbm, 83, rfl⟩

abbrev nD : Nat := 1
abbrev τ : Topo := Topo.v7x

variable {F : FTy → Type} [FloatOps F]
-- ==== Combine.lean ====
abbrev S8192x2048 : Shape := ⟨2, ![8192, 2048]⟩
abbrev S3x8192x16 : Shape := ⟨3, ![3, 8192, 16]⟩
abbrev S8192x22528 : Shape := ⟨2, ![8192, 22528]⟩
abbrev S8192x16 : Shape := ⟨2, ![8192, 16]⟩
abbrev S256x2048 : Shape := ⟨2, ![256, 2048]⟩
abbrev S3x256x16 : Shape := ⟨3, ![3, 256, 16]⟩
abbrev S256x16 : Shape := ⟨2, ![256, 16]⟩
abbrev S1x256x16 : Shape := ⟨3, ![1, 256, 16]⟩
abbrev S256x1 : Shape := ⟨2, ![256, 1]⟩
abbrev S256x128 : Shape := ⟨2, ![256, 128]⟩

abbrev nBuf : Space → Nat
  | .hbm => 8
  | .vmem => 16
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S3x8192x16, .f32⟩
  | .hbm, ⟨4, _⟩ => ⟨S8192x22528, .f32⟩
  | .hbm, ⟨5, _⟩ => ⟨S8192x2048, .bf16⟩
  | .hbm, ⟨6, _⟩ => ⟨S8192x2048, .f32⟩
  | .hbm, ⟨7, _⟩ => ⟨S8192x16, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S3x256x16, .f32⟩
  | .local _ .vmem, ⟨7, _⟩ => ⟨S3x256x16, .f32⟩
  | .local _ .vmem, ⟨8, _⟩ => ⟨S256x2048, .f32⟩
  | .local _ .vmem, ⟨9, _⟩ => ⟨S256x2048, .f32⟩
  | .local _ .vmem, ⟨10, _⟩ => ⟨S256x2048, .bf16⟩
  | .local _ .vmem, ⟨11, _⟩ => ⟨S256x2048, .bf16⟩
  | .local _ .vmem, ⟨12, _⟩ => ⟨S256x2048, .f32⟩
  | .local _ .vmem, ⟨13, _⟩ => ⟨S256x2048, .f32⟩
  | .local _ .vmem, ⟨14, _⟩ => ⟨S256x16, .f32⟩
  | .local _ .vmem, ⟨15, _⟩ => ⟨S256x16, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x256x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x16 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== CombineRefIdeal.lean ====
abbrev S8192x2048 : Shape := ⟨2, ![8192, 2048]⟩
abbrev S3x8192x16 : Shape := ⟨3, ![3, 8192, 16]⟩
abbrev S8192x22528 : Shape := ⟨2, ![8192, 22528]⟩
abbrev S_ : Shape := ⟨0, ![]⟩
abbrev S8192x16 : Shape := ⟨2, ![8192, 16]⟩
abbrev S1x8192x16 : Shape := ⟨3, ![1, 8192, 16]⟩
abbrev S1x8192x2048 : Shape := ⟨3, ![1, 8192, 2048]⟩
abbrev S3x8192x2048 : Shape := ⟨3, ![3, 8192, 2048]⟩
abbrev S3x8192x16x128 : Shape := ⟨4, ![3, 8192, 16, 128]⟩
abbrev S8192x16x128 : Shape := ⟨3, ![8192, 16, 128]⟩

abbrev nBuf : Space → Nat
  | .hbm => 42
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S3x8192x16, .f32⟩
  | .hbm, ⟨4, _⟩ => ⟨S8192x22528, .f32⟩
  | .hbm, ⟨5, _⟩ => ⟨S_, .f32⟩
  | .hbm, ⟨6, _⟩ => ⟨S8192x16, .f32⟩
  | .hbm, ⟨7, _⟩ => ⟨S_, .f32⟩
  | .hbm, ⟨8, _⟩ => ⟨S8192x16, .f32⟩
  | .hbm, ⟨9, _⟩ => ⟨S8192x16, .f32⟩
  | .hbm, ⟨10, _⟩ => ⟨S1x8192x16, .f32⟩
  | .hbm, ⟨11, _⟩ => ⟨S3x8192x16, .f32⟩
  | .hbm, ⟨12, _⟩ => ⟨S3x8192x16, .f32⟩
  | .hbm, ⟨13, _⟩ => ⟨S3x8192x16, .f32⟩
  | .hbm, ⟨14, _⟩ => ⟨S_, .f32⟩
  | .hbm, ⟨15, _⟩ => ⟨S8192x16, .f32⟩
  | .hbm, ⟨16, _⟩ => ⟨S1x8192x16, .f32⟩
  | .hbm, ⟨17, _⟩ => ⟨S3x8192x16, .f32⟩
  | .hbm, ⟨18, _⟩ => ⟨S3x8192x16, .f32⟩
  | .hbm, ⟨19, _⟩ => ⟨S1x8192x2048, .f32⟩
  | .hbm, ⟨20, _⟩ => ⟨S1x8192x2048, .f32⟩
  | .hbm, ⟨21, _⟩ => ⟨S1x8192x2048, .f32⟩
  | .hbm, ⟨22, _⟩ => ⟨S3x8192x2048, .f32⟩
  | .hbm, ⟨23, _⟩ => ⟨S3x8192x16x128, .f32⟩
  | .hbm, ⟨24, _⟩ => ⟨S8192x16x128, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S_, .f32⟩
  | .hbm, ⟨30, _⟩ => ⟨S8192x2048, .f32⟩
  | .hbm, ⟨31, _⟩ => ⟨S8192x2048, .f32⟩
  | .hbm, ⟨32, _⟩ => ⟨S_, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S8192x2048, .bf16⟩
  | .hbm, ⟨38, _⟩ => ⟨S3x8192x16, .f32⟩
  | .hbm, ⟨39, _⟩ => ⟨S_, .f32⟩
  | .hbm, ⟨40, _⟩ => ⟨S8192x16, .f32⟩
  | .hbm, ⟨41, _⟩ => ⟨S8192x16, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_2 : Ref sig .tc := ⟨.hbm, 39, rfl⟩
abbrev main_v23 : Ref sig .tc := ⟨.hbm, 40, rfl⟩
abbrev main_v24 : Ref sig .tc := ⟨.hbm, 41, rfl⟩

abbrev nD : Nat := 1
abbrev τ : Topo := Topo.v7x

variable {F : FTy → Type} [FloatOps F]
-- ==== StepBack.lean ====
abbrev S8192x128 : Shape := ⟨2, ![8192, 128]⟩
abbrev S1x128 : Shape := ⟨2, ![1, 128]⟩
abbrev S512x128 : Shape := ⟨2, ![512, 128]⟩
abbrev S128 : Shape := ⟨1, ![128]⟩

abbrev nBuf : Space → Nat
  | .hbm => 9
  | .vmem => 14
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S8192x128, .f32⟩
  | .hbm, ⟨3, _⟩ => ⟨S8192x128, .f32⟩
  | .hbm, ⟨4, _⟩ => ⟨S1x128, .f32⟩
  | .hbm, ⟨5, _⟩ => ⟨S1x128, .f32⟩
  | .hbm, ⟨6, _⟩ => ⟨S8192x128, .bf16⟩
  | .hbm, ⟨7, _⟩ => ⟨S1x128, .f32⟩
  | .hbm, ⟨8, _⟩ => ⟨S1x128, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S1x128, .f32⟩
  | .local _ .vmem, ⟨9, _⟩ => ⟨S1x128, .f32⟩
  | .local _ .vmem, ⟨10, _⟩ => ⟨S512x128, .bf16⟩
  | .local _ .vmem, ⟨11, _⟩ => ⟨S512x128, .bf16⟩
  | .local _ .vmem, ⟨12, _⟩ => ⟨S1x128, .f32⟩
  | .local _ .vmem, ⟨13, _⟩ => ⟨S1x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v31 : BitVec 1 := Scalar.cmpi .eq arg0 c0_i32
  let v32 : BitVec 32 := Scalar.extui v31
  let c0_i32_20 : BitVec 32 := 0#32
  let v33 : BitVec 1 := Scalar.cmpi .ne v32 c0_i32_20
  v33

def k0_cond2 (i : grid0.Coords) : BitVec 1 :=
  let arg0 : BitVec 32 := BitVec.ofNat 32 (i 0).val
  let c0_i32_21 : BitVec 32 := 0#32
  let v34 : BitVec 1 := Scalar.cmpi .sgt arg0 c0_i32_21
  let v35 : BitVec 32 := Scalar.extui v34
  let c0_i32_22 : BitVec 32 := 0#32
  let v36 : BitVec 1 := Scalar.cmpi .ne v35 c0_i32_22
  v36

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== StepBackRefIdeal.lean ====
abbrev S8192x128 : Shape := ⟨2, ![8192, 128]⟩
abbrev S1x128 : Shape := ⟨2, ![1, 128]⟩
abbrev S_ : Shape := ⟨0, ![]⟩
abbrev S128 : Shape := ⟨1, ![128]⟩

abbrev nBuf : Space → Nat
  | .hbm => 34
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S8192x128, .f32⟩
  | .hbm, ⟨3, _⟩ => ⟨S8192x128, .f32⟩
  | .hbm, ⟨4, _⟩ => ⟨S1x128, .f32⟩
  | .hbm, ⟨5, _⟩ => ⟨S1x128, .f32⟩
  | .hbm, ⟨6, _⟩ => ⟨S1x128, .f32⟩
  | .hbm, ⟨7, _⟩ => ⟨S1x128, .f32⟩
  | .hbm, ⟨8, _⟩ => ⟨S8192x128, .f32⟩
  | .hbm, ⟨9, _⟩ => ⟨S8192x128, .f32⟩
  | .hbm, ⟨10, _⟩ => ⟨S8192x128, .f32⟩
  | .hbm, ⟨11, _⟩ => ⟨S_, .f32⟩
  | .hbm, ⟨12, _⟩ => ⟨S128, .f32⟩
  | .hbm, ⟨13, _⟩ => ⟨S1x128, .f32⟩
  | .hbm, ⟨14, _⟩ => ⟨S8192x128, .f32⟩
  | .hbm, ⟨15, _⟩ => ⟨S8192x128, .f32⟩
  | .hbm, ⟨16, _⟩ => ⟨S1x128, .f32⟩
  | .hbm, ⟨17, _⟩ => ⟨S1x128, .f32⟩
  | .hbm, ⟨18, _⟩ => ⟨S8192x128, .f32⟩
  | .hbm, ⟨19, _⟩ => ⟨S8192x128, .f32⟩
  | .hbm, ⟨20, _⟩ => ⟨S8192x128, .f32⟩
  | .hbm, ⟨21, _⟩ => ⟨S8192x128, .f32⟩
  | .hbm, ⟨22, _⟩ => ⟨S8192x128, .f32⟩
  | .hbm, ⟨23, _⟩ => ⟨S_, .f32⟩
  | .hbm, ⟨24, _⟩ => ⟨S8192x128, .f32⟩
  | .hbm, ⟨25, _⟩ => ⟨S8192x128, .f32⟩
  | .hbm, ⟨26, _⟩ => ⟨S_, .f32⟩
  | .hbm, ⟨27, _⟩ => ⟨S8192x128, .f32⟩
  | .hbm, ⟨28, _⟩ => ⟨S8192x128, .f32⟩
  | .hbm, ⟨29, _⟩ => ⟨S8192x128, .f32⟩
  | .hbm, ⟨30, _⟩ => ⟨S8192x128, .bf16⟩
  | .hbm, ⟨31, _⟩ => ⟨S_, .f32⟩
  | .hbm, ⟨32, _⟩ => ⟨S128, .f32⟩
  | .hbm, ⟨33, _⟩ => ⟨S1x128, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]
-- ==== ScatterRef.lean ====
abbrev S64x2048x2824 : Shape := ⟨3, ![64, 2048, 2824]⟩
abbrev S64x256x2048 : Shape := ⟨3, ![64, 256, 2048]⟩
abbrev S64x512x2048 : Shape := ⟨3, ![64, 512, 2048]⟩
abbrev S8x8x2048x2824 : Shape := ⟨4, ![8, 8, 2048, 2824]⟩
abbrev S8x8x256x2048 : Shape := ⟨4, ![8, 8, 256, 2048]⟩
abbrev S8x8x512x2048 : Shape := ⟨4, ![8, 8, 512, 2048]⟩

abbrev nBuf : Space → Nat
  | .hbm => 16
  | .vmem => 0
  | .smem => 0
  | _ => 0

abbrev bufTy : (tb : Table) → Fin (tcTables nBuf tb) → BufTy
  | .hbm, ⟨0, _⟩ => ⟨S64x2048x2824, .bf16⟩
  | .hbm, ⟨1, _⟩ => ⟨S64x256x2048, .bf16⟩
  | .hbm, ⟨2, _⟩ => ⟨S64x512x2048, .bf16⟩
  | .hbm, ⟨3, _⟩ => ⟨S64x256x2048, .bf16⟩
  | .hbm, ⟨4, _⟩ => ⟨S8x8x2048x2824, .bf16⟩
  | .hbm, ⟨5, _⟩ => ⟨S8x8x2048x2824, .bf16⟩
  | .hbm, ⟨6, _⟩ => ⟨S64x2048x2824, .bf16⟩
  | .hbm, ⟨7, _⟩ => ⟨S8x8x256x2048, .bf16⟩
  | .hbm, ⟨8, _⟩ => ⟨S8x8x256x2048, .bf16⟩
  | .hbm, ⟨9, _⟩ => ⟨S64x256x2048, .bf16⟩
  | .hbm, ⟨10, _⟩ => ⟨S8x8x512x2048, .bf16⟩
  | .hbm, ⟨11, _⟩ => ⟨S8x8x512x2048, .bf16⟩
  | .hbm, ⟨12, _⟩ => ⟨S64x512x2048, .bf16⟩
  | .hbm, ⟨13, _⟩ => ⟨S8x8x256x2048, .bf16⟩
  | .hbm, ⟨14, _⟩ => ⟨S8x8x256x2048, .bf16⟩
  | .hbm, ⟨15, _⟩ => ⟨S64x256x2048, .bf16⟩
  | _, _ => ⟨S64x2048x2824, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== GatherRef.lean ====
abbrev S2048x22592 : Shape := ⟨2, ![2048, 22592]⟩
abbrev S2048x2048 : Shape := ⟨2, ![2048, 2048]⟩
abbrev S4096x2048 : Shape := ⟨2, ![4096, 2048]⟩
abbrev S4x6144 : Shape := ⟨2, ![4, 6144]⟩
abbrev S2048x8x2824 : Shape := ⟨3, ![2048, 8, 2824]⟩
abbrev S8x2048x2824 : Shape := ⟨3, ![8, 2048, 2824]⟩
abbrev S8x256x2048 : Shape := ⟨3, ![8, 256, 2048]⟩
abbrev S8x512x2048 : Shape := ⟨3, ![8, 512, 2048]⟩
abbrev S4x8x768 : Shape := ⟨3, ![4, 8, 768]⟩
abbrev S8x4x768 : Shape := ⟨3, ![8, 4, 768]⟩

abbrev nBuf : Space → Nat
  | .hbm => 12
  | .vmem => 0
  | .smem => 0
  | _ => 0

abbrev bufTy : (tb : Table) → Fin (tcTables nBuf tb) → BufTy
  | .hbm, ⟨0, _⟩ => ⟨S2048x22592, .bf16⟩
  | .hbm, ⟨1, _⟩ => ⟨S2048x2048, .bf16⟩
  | .hbm, ⟨2, _⟩ => ⟨S4096x2048, .bf16⟩
  | .hbm, ⟨3, _⟩ => ⟨S2048x2048, .bf16⟩
  | .hbm, ⟨4, _⟩ => ⟨S4x6144, .f32⟩
  | .hbm, ⟨5, _⟩ => ⟨S2048x8x2824, .bf16⟩
  | .hbm, ⟨6, _⟩ => ⟨S8x2048x2824, .bf16⟩
  | .hbm, ⟨7, _⟩ => ⟨S8x256x2048, .bf16⟩
  | .hbm, ⟨8, _⟩ => ⟨S8x512x2048, .bf16⟩
  | .hbm, ⟨9, _⟩ => ⟨S8x256x2048, .bf16⟩
  | .hbm, ⟨10, _⟩ => ⟨S4x8x768, .f32⟩
  | .hbm, ⟨11, _⟩ => ⟨S8x4x768, .f32⟩
  | _, _ => ⟨S2048x22592, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== SmallRef.lean ====
abbrev S2688x128 : Shape := ⟨2, ![2688, 128]⟩
abbrev S8x336x128 : Shape := ⟨3, ![8, 336, 128]⟩

abbrev nBuf : Space → Nat
  | .hbm => 2
  | .vmem => 0
  | .smem => 0
  | _ => 0

abbrev bufTy : (tb : Table) → Fin (tcTables nBuf tb) → BufTy
  | .hbm, ⟨0, _⟩ => ⟨S2688x128, .f32⟩
  | .hbm, ⟨1, _⟩ => ⟨S8x336x128, .f32⟩
  | _, _ => ⟨S2688x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Proof.Launch.lean ====
/-
  The launch of a program whose @main enters, before anything else, a kernel region whose cores transfer into each
  other's @main-level buffers WITHOUT a handshake. A core may issue its first transfer while its target has not entered the
  region, so what the transfer needs of the target -- the invariant of the target's receive semaphore, which is scoped
  scratch, and the elements of the target's result buffer -- has to be on the issuer's side at launch. The step `hinit`
  below therefore gets, of ALL cores together, the first region's own semaphores at zero beside the unscoped buffers, and
  makes every core's first thread state out of them. After the first region the program may go on with further segments.
-/
module

public import Idealize.ShloMosaic.Lib.Pipeline.Regions
public import Idealize.ShloMosaic.Lib.Quiescent

@[expose] public section

noncomputable section

namespace Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline Idealize.ShloMosaic.Pipeline.PerCore

set_option Elab.async false

variable {nD : Nat} {τ : Topo} {sig : RefSig} {Val : EltTy → Type}
variable {Ix : Type} [DecidableEq Ix] {Name : Type} [DecidableEq Name] {U : Type} [URA U] {Lvl : Type} [Preorder Lvl]
variable {Λ₀ : Idealize.SL.Sem.Labels} {P : Type} [Fintype P]

local notation "𝕄" => MT nD τ sig Ix Val Name U Lvl

/-- No cell has a level. -/
abbrev noL : GSem nD τ sig → Finset Ix := fun _ => ∅

theorem levAts_none (lv : GSem nD τ sig → Ix → Lvl) : (BI.emp : sProp 𝕄) ⊢ levAts noL lv := by
  refine Entails.of_eq ?_
  rw [show (levAts noL lv : sProp 𝕄) = bigSep Finset.univ fun g : GSem nD τ sig => bigSep (∅ : Finset Ix) fun ι => levAt g ι (lv g ι) from rfl]
  simp only [bigSep_empty]
  exact (BI.bigSep_emp_const _).symm

section

variable (pcs : P → PCfg sig Λ₀ Val) (a : Dev nD → (p : P) → (pcs p).Adm)
  (rdats : (p : P) → (c : Dev nD) → RDat τ Val Ix Name U Lvl (pinD pcs a c p) c) (ι : Ix)
  (phinj : Function.Injective (PerCore.cellOf (nD := nD) (pinD pcs a)))
  (EP : Emb (URounds (GSem nD τ sig) Unit) (MT nD τ sig Ix Val Name U Lvl))
  (defs₀ : Defs nD τ sig Val Λ₀) (𝒱₀ : Variants)
  (lv : GSem nD τ sig → Ix → Lvl)

local notation "𝔻" => Pipeline.defs pcs defs₀
local notation "𝕍" => Variants.lift 𝒱₀

/-- The first region on core `c`, its own semaphores given up at the launch: like a region's step in the library, but the
    boundary comes without them (`cellsSems0` and `idleSems0` are what is left of the scoped semaphores) and is whole
    again after the region. -/
theorem first_region [∀ e, Nonempty (Val e)] [Infinite Name] [EP.LandsIn (upEmb : UEmb _ 𝕄)]
    (p : P) (win : WinFacts₀ (pcs p).spec) (block_pos : ∀ w : Fin (pcs p).W, 0 < ((pcs p).spec w).block.numel)
    (stage_whole : ∀ (w : Fin (pcs p).W) (s : Fin ((pcs p).spec w).nbuf), (((pcs p).spec w).stage s).IsWhole)
    {K : Type} [Fintype K] {osem : K → SemLoc sig} (ho : OwnSemFacts (pcs p).spec osem)
    (c : Dev nD) (hbody : (rdats p c).BodyObligation defs₀ 𝒱₀ ι Set.univ)
    (hwaits : (BI.emp : sProp 𝕄) ⊢ PerCore.RDat.cellsWaits (pinD pcs a) rdats ι p c)
    (T X Y Z T' : sProp 𝕄)
    (hentry : T ⊢ |={Set.univ}=> iprop((rdats p c).arrays (rdats p c).A
        ∗ prefHeld (pcs p).pre c (fun _ => fullShare) (a c p).1 ∗ (rdats p c).owesAt ι 0 ∗ X ∗ Z))
    (hin : iprop(X ∗ prefHeld (pcs p).pre c (fun _ => fullShare) (a c p).1 ∗ scopedRest (pcs p).spec c) ⊢ (rdats p c).Φ 0)
    (hout : (rdats p c).Φ (Fin.last (pinD pcs a c p).N) ⊢ iprop(Y ∗ ownSems0 osem c ∗ scopedRest (pcs p).spec c))
    (hexit : iprop((rdats p c).arraysAt (pinD pcs a c p).N ∗ (rdats p c).owesAt ι (Fin.last (pinD pcs a c p).N) ∗ Y ∗ Z)
      ⊢ |={Set.univ}=> T')
    {α : Type} (k : PUnit → Prog (TpuEff nD τ sig Val (Sig Λ₀ P fun p => (pcs p).Adm) .tc) α) (Q : α → sProp 𝕄) :
    iprop((iprop(boundary (c.tc : Thread nD τ) ∗ T') -∗ wp frame (wpE 𝔻 𝕍 (c.tc : Thread nD τ) none) Set.univ (k ⟨⟩) Q)
        ∗ (scopedBufs (c.tc : Thread nD τ) ∗ (PerCore.cellsSems0 (pinD pcs a) p c ∗ PerCore.idleSems0 (pinD pcs a) phinj p (fun _ => ho) c)
          ∗ opIdle (c.tc : Thread nD τ))
        ∗ T ∗ PerCore.cellsGhost (pinD pcs a) EP p c ∗ PerCore.toksInit (pinD pcs a) EP p c)
      ⊢ wp frame (wpE 𝔻 𝕍 (c.tc : Thread nD τ) none) Set.univ (.op (.customCall (entry p) ()) k) Q := by
  classical
  have hss := PerCore.scopedSems0_split (pinD pcs a) phinj p (fun _ => win) (fun _ => ho) (Ix := Ix) (Val := Val) (Name := Name) (U := U) (Lvl := Lvl) c
  have hsb := PerCore.scopedBufs_split (pinD pcs a) p c win.stage_scoped win.stage_inj stage_whole (nD := nD) (τ := τ) (Ix := Ix) (Val := Val) (Name := Name) (U := U) (Lvl := Lvl)
  have hback : iprop((rdats p c).Φ (Fin.last (pinD pcs a c p).N) ∗ PerCore.cellsSems0 (pinD pcs a) p c ∗ Dat.staging (pinD pcs a c p) c
        ∗ PerCore.idleSems0 (pinD pcs a) phinj p (fun _ => ho) c)
      ⊢ iprop(Y ∗ scopedSems0 (c.tc : Thread nD τ) ∗ scopedBufs (c.tc : Thread nD τ)) := by
    rw [hss, hsb]
    refine (sep_mono_left hout).trans ?_
    iintro ⟨⟨HY, Hos, Hr⟩, Hc, Hs, Hi⟩
    isplitl [HY]; · iexact HY
    isplitl [Hc Hos Hi]
    · isplitr [Hi]
      · isplitl [Hc] <;> iassumption
      · iexact Hi
    · isplitl [Hs] <;> iassumption
  iintro ⟨Hk, ⟨Hsc, ⟨Hcells, Hidle⟩, Hop⟩, HT, Hg, Ht⟩
  iapply (fupd_wp frame (wpE 𝔻 𝕍 (c.tc : Thread nD τ) none) Set.univ _ _)
  imod (PerCore.RDat.cellsInit_alloc (pinD pcs a) rdats EP phinj p c) $$ [Hcells Hg] with ⟨%κ, -, Hinit⟩
  · isplitl [Hcells] <;> iassumption
  imod hentry $$ HT with ⟨Harr, Hpf, HO, HX, HZ⟩
  imodintro
  iapply (PerCore.RDat.wp_customCall_entry_frame pcs a rdats ι EP κ phinj p defs₀ 𝒱₀ (fun _ => fullShare) c Set.univ (fun _ _ => Set.mem_univ _)
      hbody block_pos none (fun u h => nomatch h) (X := X) (Y := Y) (R := scopedRest (pcs p).spec c)
      (I := PerCore.idleSems0 (pinD pcs a) phinj p (fun _ => ho) c) (Entails.of_eq hsb) hin hback (k := k) (Q := Q)) $$ [Harr HO Hinit Ht Hpf HX Hidle Hsc]
  · isplitl [Harr HO Hinit Ht]
    · unfold PerCore.RDat.EntryPre
      isplitl [Harr]; · iexact Harr
      isplitl [HO]; · iexact HO
      isplitr; · iapply hwaits; iempintro
      isplitl [Hinit] <;> iassumption
    isplitl [Hpf]; · iexact Hpf
    isplitl [HX]; · iexact HX
    isplitl [Hidle]; · iexact Hidle
    iexact Hsc
  iintro ⟨Hpost, HY, Hss2, Hsc2⟩
  unfold PerCore.RDat.EntryPost
  icases Hpost with ⟨Ha, HO⟩
  iapply (fupd_wp frame (wpE 𝔻 𝕍 (c.tc : Thread nD τ) none) Set.univ _ _)
  imod hexit $$ [Ha HO HY HZ] with Hpost
  · isplitl [Ha]; · iexact Ha
    isplitl [HO]; · iexact HO
    isplitl [HY] <;> iassumption
  imodintro
  iapply Hk
  isplitr [Hpost]
  · iapply (show iprop(scopedBufs (c.tc : Thread nD τ) ∗ scopedSems0 (c.tc : Thread nD τ) ∗ opIdle (c.tc : Thread nD τ))
      ⊢ boundary (c.tc : Thread nD τ) from BI.Entails.refl _)
    isplitl [Hsc2]; · iexact Hsc2
    isplitl [Hss2] <;> iassumption
  · iexact Hpost

include phinj in
/-- The run of such a program: the first region as in `first_region`, then the segments `segs c`, which enter other
    pipelines. Every weakly fair execution terminates and every final state satisfies `Q`. -/
theorem run_first [DecidableEq P] [∀ e, Nonempty (Val e)] [Infinite Name] [EP.LandsIn (upEmb : UEmb _ 𝕄)]
    (m : (ℓ : Loc nD τ sig) → Buf Val ℓ) (g : Dev nD → PrngReg)
    (main : Dev nD → Prog (TpuEff nD τ sig Val (Sig Λ₀ P fun p => (pcs p).Adm) .tc) PUnit)
    (p : P) (win : WinFacts₀ (pcs p).spec) (block_pos : ∀ w : Fin (pcs p).W, 0 < ((pcs p).spec w).block.numel)
    (stage_whole : ∀ (w : Fin (pcs p).W) (s : Fin ((pcs p).spec w).nbuf), (((pcs p).spec w).stage s).IsWhole)
    {K : Type} [Fintype K] {osem : K → SemLoc sig} (ho : OwnSemFacts (pcs p).spec osem)
    (hbody : ∀ c, (rdats p c).BodyObligation defs₀ 𝒱₀ ι Set.univ)
    (hwaits : ∀ c, (BI.emp : sProp 𝕄) ⊢ PerCore.RDat.cellsWaits (pinD pcs a) rdats ι p c)
    (segs : Dev nD → List (PerCore.RDat.Seg pcs a rdats ι defs₀ 𝒱₀ noL lv))
    (hmain : ∀ c (Q : PUnit → sProp 𝕄), wp frame (wpE 𝔻 𝕍 (c.tc : Thread nD τ) none) Set.univ
        (.op (.customCall (entry p) ()) fun _ => PerCore.RDat.Seg.run (segs c)) Q
      ⊢ wp frame (wpE 𝔻 𝕍 (c.tc : Thread nD τ) none) Set.univ (main c) Q)
    (hnd : ∀ c, (PerCore.RDat.Seg.pipes (segs c)).Nodup) (hp : ∀ c, p ∉ PerCore.RDat.Seg.pipes (segs c))
    (O₀ : Dev nD → CellTallies nD τ sig Ix)
    (G : Dev nD → sProp 𝕄) (u₀ : U)
    (hu₀ : (ownU u₀ : sProp 𝕄)
      ⊢ |={Set.univ}=> iprop(BI.own (EP (initOf (PerCore.cells (pinD pcs a) phinj) (PerCore.launchToks (pinD pcs a) phinj))) ∗ bigSep Finset.univ G))
    (T X Y Z T' Tₙ : Dev nD → sProp 𝕄)
    (hinit : (bigSep Finset.univ fun c : Dev nD => iprop((ownSems0 osem c ∗ unscopedBufs c (fun b => m ((c.tc : Thread nD τ).loc b))
          ∗ owes (c.tc : Thread nD τ) (O₀ c) ∅ ∗ launchCred O₀ c) ∗ G c))
      ⊢ |={Set.univ}=> bigSep Finset.univ T)
    (hentry : ∀ c, T c ⊢ |={Set.univ}=> iprop((rdats p c).arrays (rdats p c).A
        ∗ prefHeld (pcs p).pre c (fun _ => fullShare) (a c p).1 ∗ (rdats p c).owesAt ι 0 ∗ X c ∗ Z c))
    (hin : ∀ c, iprop(X c ∗ prefHeld (pcs p).pre c (fun _ => fullShare) (a c p).1 ∗ scopedRest (pcs p).spec c) ⊢ (rdats p c).Φ 0)
    (hout : ∀ c, (rdats p c).Φ (Fin.last (pinD pcs a c p).N) ⊢ iprop(Y c ∗ ownSems0 osem c ∗ scopedRest (pcs p).spec c))
    (hexit : ∀ c, iprop((rdats p c).arraysAt (pinD pcs a c p).N ∗ (rdats p c).owesAt ι (Fin.last (pinD pcs a c p).N) ∗ Y c ∗ Z c)
      ⊢ |={Set.univ}=> T' c)
    (hch : ∀ c, PerCore.RDat.Seg.ChainsAt c T' (segs c) fun c => iprop(Tₙ c ∗ ∃ W, owes (c.tc : Thread nD τ) (0 : CellTallies nD τ sig Ix) W))
    (QY : Dev nD → MemSt nD τ sig Val → Prop)
    (hfin : ∀ c (s' : Phys nD τ sig Val), iprop(Tₙ c ∗ SI s') ⊢ |={Set.univ}=> iprop(⌜QY c s'.mem⌝ ∗ SI s'))
    {Q : PUnit × MemSt nD τ sig Val → Prop} (hQ : ∀ s : MemSt nD τ sig Val, (∀ c : Dev nD, QY c s) →
      (∀ g' : GSem nD τ sig, (g'.1.2 ≠ .tc ∨ g'.2.isScoped .tc = true) → s.sem g' = 0) → Q (⟨⟩, s)) :
    θ_run 𝔻 (onTc main) ⟨m, fun _ => 0, g⟩ Q := by
  classical
  have hss := fun c => PerCore.scopedSems0_split (pinD pcs a) phinj p (fun _ => win) (fun _ => ho) (Ix := Ix) (Val := Val) (Name := Name) (U := U) (Lvl := Lvl) c
  -- what a core keeps of the region boundary, its own semaphores given up
  let rest : Dev nD → sProp 𝕄 := fun c => iprop(scopedBufs (c.tc : Thread nD τ)
    ∗ (PerCore.cellsSems0 (pinD pcs a) p c ∗ PerCore.idleSems0 (pinD pcs a) phinj p (fun _ => ho) c) ∗ opIdle (c.tc : Thread nD τ))
  let pre : Dev nD → sProp 𝕄 := fun c => iprop(rest c ∗ T c ∗ PerCore.ghostOn pcs a EP Finset.univ c)
  let fin : Dev nD → sProp 𝕄 := fun c => iprop(Tₙ c ∗ boundary (c.tc : Thread nD τ))
  refine (θ_run 𝔻 _ _).mono (Q := fun r => (∀ c : Dev nD, QY c r.2 ∧ ∀ sm : SemLoc sig, sm.isScoped .tc = true → r.2.sem ((c.tc : Thread nD τ), sm) = 0)
      ∧ ∀ g' : GSem nD τ sig, g'.1.2 ≠ .tc → r.2.sem g' = 0)
    (fun r hr => hQ r.2 (fun c => (hr.1 c).1) (sems_of_reads (fun c => (hr.1 c).2) hr.2)) (adequate_tpu 𝔻 _ _ _
    (reflect_intro_fupd_tc_sems (X := Unit) 𝕍 (owing O₀) 0 (noBookings fun _ => le_rfl) (owing_of_ne O₀) u₀ (fun _ => pre) (fun _ => fin)
      (fun _ => iprop(emp)) Set.univ ?_ (fun _ c => ?_) fun _ => ?_))
  · have hcore : ∀ c : Dev nD, (coreInit (Ix := Ix) (Name := Name) (U := U) (Lvl := Lvl) (owing O₀) 0 (⟨m, fun _ => 0, g⟩ : MemSt nD τ sig Val) (c.tc : Thread nD τ) : sProp 𝕄)
        ⊢ iprop(rest c ∗ (ownSems0 osem c ∗ unscopedBufs c (fun b => m ((c.tc : Thread nD τ).loc b))
          ∗ owes (c.tc : Thread nD τ) (O₀ c) ∅ ∗ launchCred O₀ c)) := fun c => by
      refine (coreInit_boundary_owing O₀ m g c).trans ?_
      rw [show (boundary (c.tc : Thread nD τ) : sProp 𝕄)
        = iprop(scopedBufs (c.tc : Thread nD τ) ∗ scopedSems0 (c.tc : Thread nD τ) ∗ opIdle (c.tc : Thread nD τ)) from rfl, hss c]
      dsimp only [rest]
      iintro ⟨⟨Hsb, ⟨⟨Hc, Hos⟩, Hi⟩, Hop⟩, Hub, -, HO, -, -, Hcr⟩
      isplitl [Hsb Hc Hi Hop]
      · isplitl [Hsb]; · iexact Hsb
        isplitr [Hop]
        · isplitl [Hc] <;> iassumption
        · iexact Hop
      isplitl [Hos]; · iexact Hos
      isplitl [Hub]; · iexact Hub
      isplitl [HO] <;> iassumption
    have hghost : iprop((bigSep Finset.univ fun c : Dev nD => bigSep Finset.univ fun p => PerCore.cellsGhost (pinD pcs a) EP p c)
          ∗ (bigSep Finset.univ fun c : Dev nD => bigSep Finset.univ fun p => (PerCore.toksInit (pinD pcs a) EP p c : sProp 𝕄)))
        ⊢ bigSep Finset.univ fun c : Dev nD => PerCore.ghostOn pcs a EP Finset.univ c := by
      rw [← bigSep_sep']
      exact bigSep_mono fun c _ => show iprop((bigSep Finset.univ fun p => PerCore.cellsGhost (pinD pcs a) EP p c)
            ∗ bigSep Finset.univ fun p => (PerCore.toksInit (pinD pcs a) EP p c : sProp 𝕄)) ⊢ PerCore.ghostOn pcs a EP Finset.univ c
        from Entails.of_eq (by unfold PerCore.ghostOn; rw [bigSep_sep'])
    have hall : (bigSep Finset.univ fun c : Dev nD =>
          coreInit (Ix := Ix) (Name := Name) (U := U) (Lvl := Lvl) (owing O₀) 0 (⟨m, fun _ => 0, g⟩ : MemSt nD τ sig Val) (c.tc : Thread nD τ))
        ⊢ iprop((bigSep Finset.univ rest) ∗ bigSep Finset.univ fun c : Dev nD => iprop(ownSems0 osem c
          ∗ unscopedBufs c (fun b => m ((c.tc : Thread nD τ).loc b)) ∗ owes (c.tc : Thread nD τ) (O₀ c) ∅ ∗ launchCred O₀ c)) := by
      rw [← bigSep_sep']
      exact bigSep_mono fun c _ => hcore c
    iintro ⟨Hcores, Hu⟩
    ihave Hc := hall $$ Hcores
    icases Hc with ⟨Hb, Hh⟩
    imod hu₀ $$ Hu with ⟨HP, HG⟩
    imod (PerCore.fund_ghost (pinD pcs a) EP phinj) $$ HP with ⟨Hg, Ht⟩
    imod hinit $$ [Hh HG] with HT
    · iapply (Entails.of_eq (bigSep_sep' _ _ _).symm)
      isplitl [Hh] <;> iassumption
    imodintro
    iexists ()
    isplitr []
    · simp only [pre, bigSep_sep']
      isplitl [Hb]; · iexact Hb
      isplitl [HT]; · iexact HT
      iapply hghost
      isplitl [Hg] <;> iassumption
    · iempintro
  · simp only [pre]
    refine BIBase.Entails.trans ?_ (hmain c _)
    rw [PerCore.ghostOn_erase pcs a EP (Finset.mem_univ p)]
    iintro ⟨Hbd, HT, ⟨Hg, Ht⟩, Hgs⟩
    iapply (first_region pcs a rdats ι phinj EP defs₀ 𝒱₀ p win block_pos stage_whole ho c (hbody c) (hwaits c) (T c) (X c) (Y c) (Z c) (T' c)
      (hentry c) (hin c) (hout c) (hexit c) (fun _ => PerCore.RDat.Seg.run (segs c)) _)
    isplitl [Hgs]
    · iintro ⟨Hbd, HT⟩
      iapply (PerCore.RDat.wp_segs pcs a rdats ι phinj EP defs₀ 𝒱₀ noL lv c (segs c) (Finset.univ.erase p) T' _ (hnd c)
        (fun p' hp' => Finset.mem_erase.mpr ⟨fun h => hp c (h ▸ hp'), Finset.mem_univ p'⟩) (hch c))
      isplitr [Hbd HT Hgs]
      · iintro ⟨Hbd', HT, HW⟩
        unfold post; simp only [liftTc_tc, fin]
        isplitl [HT Hbd']
        · isplitl [HT] <;> iassumption
        iexact HW
      · isplitl [Hbd]; · iexact Hbd
        isplitl [HT]; · iexact HT
        isplitr; · iapply (levAts_none lv); iempintro
        iexact Hgs
    · isplitl [Hbd]; · iexact Hbd
      isplitl [HT]; · iexact HT
      isplitl [Hg] <;> iassumption
  · iintro ⟨H, -, Hsc⟩ %s' HSI
    ihave %hsc := (scSems_read_zero m g s') $$ [Hsc HSI]
    · isplitl [Hsc] <;> iassumption
    imod (posts_fupd Finset.univ (fun c s' => boundary_read c s' (hfin c s')) s') $$ [H HSI] with %h
    · isplitl [H] <;> iassumption
    imodintro
    ipureintro
    exact ⟨fun c => h c (Finset.mem_univ c), hsc⟩

end

end Exchange

end
-- ==== Proof.Exchange.lean ====
/-
  The exchange of the kernel, for any number of arrays: on every device, each array is copied into the device's own slot of
  the output by a local transfer and into the same slot of the output of each of its seven peers by an addressed one; then
  the device waits for its own transfers and for those of its peers. Here the program is a list of effects, computed from
  a record per array of the memrefs and semaphores its transfers name (`Arr`); each array has one semaphore for its local
  copy, and a pair -- send, receive -- per peer. Every semaphore is a cell of the rounds library with ONE round of ONE duty:
  the local copy's hands back its source share with the slot written, a send cell's the source share, a receive cell's the
  slot the peer's transfer wrote. All units a core owes its peers are paid before its first wait, so every wait is
  made owing nothing and no levels are needed.
-/
module

public import Idealize.ShloMosaic.Lib.Pipeline.Regions
public import Idealize.ShloMosaic.Lib.Pipeline.BigSepL
public import Idealize.ShloMosaic.Lib.Quiescent
public import Idealize.ShloMosaic.Lib.Tactic

@[expose] public section

noncomputable section

namespace Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

set_option Elab.async false

variable {nD : Nat} {τ : Topo} {sig : RefSig} {Val : EltTy → Type} {U : Type} [URA U] {Λ : Idealize.SL.Sem.Labels}

local notation "𝕄" => MT nD τ sig Unit Val ℕ U ℕ

/-- The transfers of one array: `src none` is what a device copies into its own slot, `src (some k)` what it sends its
    `k`-th peer, `slot` the slot a device writes, `pslot k` the slot its `k`-th peer writes on it (named by its waits),
    `dev k` the `k`-th peer; the semaphores of the local copy, of the sends and of the receipts. -/
structure Arr (nD : Nat) (sig : RefSig) where
  s : Shape
  e : EltTy
  src : Option (Fin 7) → Dev nD → Memref sig .tc .hbm s e
  slot : Dev nD → Memref sig .tc .hbm s e
  pslot : Fin 7 → Dev nD → Memref sig .tc .hbm s e
  dev : Fin 7 → Dev nD → Dev nD
  loc : DmaSem sig
  snd : Fin 7 → DmaSem sig
  rcv : Fin 7 → DmaSem sig
  src_ok : ∀ o d, (src o d).view.WordExact
  slot_ok : ∀ d, (slot d).view.WordExact
  pslot_ok : ∀ k d, (pslot k d).view.WordExact
  unscratch : ∀ d, (slot d).view.ref.isScScratch = false

namespace Arr

variable (A : Arr nD sig)

/-- The device the job `o` of a device is about: itself, or the peer. -/
abbrev peer : Option (Fin 7) → Dev nD → Dev nD
  | none, d => d
  | some k, d => A.dev k d

/-- The first semaphore of a job: the local copy's, or the send's. -/
abbrev first : Option (Fin 7) → DmaSem sig
  | none => A.loc
  | some k => A.snd k

/-- The transfer of a job. -/
abbrev enq (d : Dev nD) : Option (Fin 7) → TpuEff nD τ sig Val Λ .tc PUnit
  | none => .enqueueDma (A.src none d) (.here (A.slot d)) (.dma A.loc) (A.src_ok none d) (A.slot_ok d) ⟨Or.inl rfl, trivial⟩
  | some k => .enqueueDma (A.src (some k) d) (.remote (Dev.tc (A.dev k d)) (A.slot d) (.dma (A.snd k)) (A.unscratch d))
      (.dma (A.rcv k)) (A.src_ok (some k) d) (A.slot_ok d) ⟨⟨rfl, Or.inl rfl⟩, trivial⟩

/-- The waits of a job. -/
abbrev wts (d : Dev nD) : Option (Fin 7) → List (TpuEff nD τ sig Val Λ .tc PUnit)
  | none => [.waitDma2 A.loc (A.src none d) (A.slot d) (A.src_ok none d) (A.slot_ok d)]
  | some k => [.waitDma2 (A.snd k) (A.pslot k d) (A.src (some k) d) (A.pslot_ok k d) (A.src_ok (some k) d),
      .waitDma2 (A.rcv k) (A.src (some k) d) (A.pslot k d) (A.src_ok (some k) d) (A.pslot_ok k d)]

end Arr

/-- The effects of a list, one after another. -/
def runAll : List (TpuEff nD τ sig Val Λ .tc PUnit) → Prog (TpuEff nD τ sig Val Λ .tc) PUnit
  | [] => .ret ⟨⟩
  | e :: l => .op e fun _ => runAll l

variable {I : Type} [Fintype I] [DecidableEq I]

/-- A job: an array, and which of its transfers. -/
abbrev Job (I : Type) := I × Option (Fin 7)
/-- The semaphores of a device: the first of each job, and the receipts. -/
abbrev Cell (I : Type) := (I × Option (Fin 7)) ⊕ (I × Fin 7)

/-- The order in which a device goes through its jobs: array by array, the local copy first. -/
def jobs (arrs : List I) : List (Job I) :=
  arrs.flatMap fun a => [(a, none), (a, some 0), (a, some 1), (a, some 2), (a, some 3), (a, some 4), (a, some 5), (a, some 6)]

/-- The kernel's body: the device's id, then every transfer, then every wait. -/
def body (X : I → Arr nD sig) (arrs : List I) : Prog (TpuEff nD τ sig Val Λ .tc) PUnit :=
  .op .deviceId fun d => runAll (((jobs arrs).map fun j => (X j.1).enq d j.2) ++ (jobs arrs).flatMap fun j => (X j.1).wts d j.2)

/-! ## What is asked of the arrays -/

/-- The semaphore of a cell. -/
abbrev osem (X : I → Arr nD sig) : Cell I → SemLoc sig
  | .inl j => .dma ((X j.1).first j.2)
  | .inr p => .dma ((X p.1).rcv p.2)

/-- A device's cell. -/
abbrev kcell (X : I → Arr nD sig) (ck : Dev nD × Cell I) : GSem nD τ sig := ((ck.1.tc : Thread nD τ), osem X ck.2)

/-- The facts of the arrays the exchange needs. -/
structure Facts (X : I → Arr nD sig) (N : I → ℕ) : Prop where
  inj : Function.Injective (osem X)
  pos : ∀ a, 0 < N a
  slot_credit : ∀ a d, ((X a).slot d).view.dmaCredit = N a
  pslot_credit : ∀ a k d, ((X a).pslot k d).view.dmaCredit = N a
  src_credit : ∀ a k d, ((X a).src (some k) d).view.dmaCredit = N a
  back : ∀ a k d, (X a).dev k ((X a).dev k d) = d
  bij : ∀ a d, Function.Bijective fun o => (X a).peer o d

theorem Facts.peer_peer {X : I → Arr nD sig} {N : I → ℕ} (H : Facts X N) (a : I) (o : Option (Fin 7)) (d : Dev nD) :
    (X a).peer o ((X a).peer o d) = d := by
  cases o with
  | none => rfl
  | some k => exact H.back a k d

theorem Facts.kcell_inj {X : I → Arr nD sig} {N : I → ℕ} (H : Facts X N) : Function.Injective (kcell (τ := τ) X) := by
  rintro ⟨c, k⟩ ⟨c', k'⟩ h
  have h1 := congrArg (fun g : GSem nD τ sig => g.1.1) h
  have h2 := H.inj (congrArg (fun g : GSem nD τ sig => g.2) h)
  cases h1; cases h2; rfl

section Protocol

variable (X : I → Arr nD sig) (N : I → ℕ) (q : I → Option (Fin 7) → PosShare TreeShare)
  (m : (ℓ : Loc nD τ sig) → Buf Val ℓ)

/-- The array a cell belongs to. -/
abbrev Cell.arr : Cell I → I
  | .inl j => j.1
  | .inr p => p.1

/-- The share of its source that the job `j` of device `c` holds, at the launch contents. -/
def srcPts (j : Job I) (c : Dev nD) : sProp 𝕄 :=
  ((X j.1).src j.2 c).view.loc c.tc ↦[((X j.1).src j.2 c).view.set]{q j.1 j.2} m (((X j.1).src j.2 c).view.loc c.tc)

/-- The slot of device `d` in the output of device `c`, at the launch contents; -/
def slotPts (a : I) (d c : Dev nD) : sProp 𝕄 :=
  ((X a).slot d).view.loc c.tc ↦[((X a).slot d).view.set]{fullShare} m (((X a).slot d).view.loc c.tc)

/-- and what the job `j` of its device (`d`, sending to `c`) writes there. -/
def wrote (j : Job I) (d c : Dev nD) : Buf Val (((X j.1).slot d).view.loc c.tc : Loc nD τ sig) :=
  ((X j.1).slot d).view.write Val (m (((X j.1).slot d).view.loc c.tc)) (((X j.1).src j.2 d).view.read Val (m (((X j.1).src j.2 d).view.loc d.tc))) Finset.univ

def wrotePts (j : Job I) (d c : Dev nD) : sProp 𝕄 :=
  ((X j.1).slot d).view.loc c.tc ↦[((X j.1).slot d).view.set]{fullShare} wrote X m j d c

/-- What a cell's one duty hands its owner. -/
def pay (ck : Dev nD × Cell I) : sProp 𝕄 :=
  match ck.2 with
  | .inl (a, none) => iprop(wrotePts X m (a, none) ck.1 ck.1 ∗ srcPts X q m (a, none) ck.1)
  | .inl (a, some k) => srcPts X q m (a, some k) ck.1
  | .inr (a, k) => wrotePts X m (a, some k) ((X a).dev k ck.1) ck.1

instance srcPts_storable (j : Job I) (c : Dev nD) : BI.Storable (upEmb : UEmb _ 𝕄) (srcPts (U := U) X q m j c) := by
  unfold srcPts; infer_instance
instance wrotePts_storable (j : Job I) (d c : Dev nD) : BI.Storable (upEmb : UEmb _ 𝕄) (wrotePts (U := U) X m j d c) := by
  unfold wrotePts; infer_instance
instance pay_storable (ck : Dev nD × Cell I) : BI.Storable (upEmb : UEmb _ 𝕄) (pay (U := U) X q m ck) := by
  obtain ⟨c, (⟨a, (_ | k)⟩ | ⟨a, k⟩)⟩ := ck <;> unfold pay <;> infer_instance

open Classical in
/-- The schedule: one duty in round 0 of every cell. -/
def sched (hN : ∀ a, 0 < N a) : Rounds.Schedule (GSem nD τ sig) Unit 𝕄 where
  duties g r := if r = 0 ∧ ∃ ck, kcell X ck = g then {()} else ∅
  unitless _ := False
  amount g _ _ := if h : ∃ ck, kcell X ck = g then N h.choose.2.arr else 1
  payload g _ _ := if h : ∃ ck, kcell X ck = g then pay X q m h.choose else iprop(emp)
  amount_pos g _ _ _ := by
    by_cases h : ∃ ck, kcell X ck = g
    · rw [dif_pos h]; exact hN _
    · rw [dif_neg h]; exact Nat.one_pos

instance sched_storable (hN : ∀ a, 0 < N a) (g : GSem nD τ sig) (r : ℕ) (d : Unit) :
    BI.Storable (upEmb : UEmb _ 𝕄) ((sched (U := U) X N q m hN).payload g r d) := by
  classical
  show BI.Storable upEmb (if h : ∃ ck, kcell X ck = g then pay X q m h.choose else iprop(emp))
  split <;> infer_instance

variable (H : Facts X N)

theorem duties0 (ck : Dev nD × Cell I) : (sched (U := U) X N q m H.pos).duties (kcell X ck) 0 = {()} := by
  dsimp only [sched]; exact if_pos ⟨rfl, ck, rfl⟩
theorem duties_later (g : GSem nD τ sig) (r : ℕ) (hr : 0 + 1 ≤ r) : (sched (U := U) X N q m H.pos).duties g r = ∅ := by
  dsimp only [sched]; exact if_neg fun h => by omega
include H in
theorem choose_eq (ck : Dev nD × Cell I) (h : ∃ ck', kcell (τ := τ) X ck' = kcell X ck) : h.choose = ck := H.kcell_inj h.choose_spec
theorem amount0 (ck : Dev nD × Cell I) : (sched (U := U) X N q m H.pos).amount (kcell X ck) 0 () = N ck.2.arr := by
  dsimp only [sched]; rw [dif_pos ⟨ck, rfl⟩, choose_eq X N H]
theorem payload0 (ck : Dev nD × Cell I) : (sched (U := U) X N q m H.pos).payload (kcell X ck) 0 () = pay X q m ck := by
  dsimp only [sched]; rw [dif_pos ⟨ck, rfl⟩, choose_eq X N H]
theorem expect0 (ck : Dev nD × Cell I) : (sched (U := U) X N q m H.pos).expect (kcell X ck) 0 = N ck.2.arr := by
  unfold Schedule.expect Schedule.amountOf; rw [duties0 X N q m H, Finset.sum_singleton, amount0 X N q m H]
theorem rest0 (ck : Dev nD × Cell I) :
    bigSep ((sched (U := U) X N q m H.pos).duties (kcell X ck) 0 \ ∅) (fun u => (sched (U := U) X N q m H.pos).payload (kcell X ck) 0 u)
      = pay X q m ck := by
  rw [Finset.sdiff_empty, duties0 X N q m H, bigSep_singleton, payload0 X N q m H]

/-! ## The device's run -/

variable (ER : Emb (URounds (GSem nD τ sig) Unit) (MT nD τ sig Unit Val ℕ U ℕ))
  (κ : Dev nD × Cell I → ℕ) (defs : Defs nD τ sig Val Λ) (𝒱 : Variants)

/-- Every cell's invariant, and that its round 0 is reached. -/
def invs : sProp 𝕄 := bigSep Finset.univ fun ck : Dev nD × Cell I =>
  iprop(cellInv ER (sched X N q m H.pos) (κ ck) (kcell X ck) ∗ reached ER (kcell X ck) 0)

instance invs_persistent : BI.Persistent (invs X N q m H ER κ) := by unfold invs; infer_instance

theorem invs_get (ck : Dev nD × Cell I) : (invs X N q m H ER κ : sProp 𝕄)
    ⊢ iprop(cellInv ER (sched X N q m H.pos) (κ ck) (kcell X ck) ∗ reached ER (kcell X ck) 0) := by
  unfold invs
  exact BI.bigSep_elim (Finset.mem_univ ck)

/-- What a device owes its peer for a job. -/
def dueOf (c : Dev nD) : Job I → CellTallies nD τ sig Unit
  | (_, none) => 0
  | (a, some k) => tallyAt (kcell X ((X a).dev k c, .inr (a, k))) () (N a)

/-- What the transfer of a job takes: its source share, its slot on the device it is sent to, the tokens of the duties it pays. -/
def enqIn (c : Dev nD) (j : Job I) : sProp 𝕄 :=
  iprop(srcPts X q m j c ∗ slotPts X m j.1 c ((X j.1).peer j.2 c) ∗ dutyTok ER (kcell X (c, .inl j)) 0 ()
    ∗ match j with
      | (_, none) => iprop(emp)
      | (a, some k) => dutyTok ER (kcell X ((X a).dev k c, .inr (a, k))) 0 ())

/-- And leaves: the credit of its first semaphore. -/
def enqOut (c : Dev nD) (j : Job I) : sProp 𝕄 := cred (tallyAt (kcell X (c, .inl j)) () (N j.1))

theorem enq_step [ER.LandsIn (upEmb : UEmb _ 𝕄)] (c : Dev nD) (j : Job I) (O : CellTallies nD τ sig Unit) (W : Waits sig Unit) {α : Type}
    (k : PUnit → Prog (TpuEff nD τ sig Val Λ .tc) α) (Q : α → sProp 𝕄) :
    iprop(invs X N q m H ER κ ∗ enqIn X q m ER c j ∗ owes (c.tc : Thread nD τ) (dueOf X N c j + O) W
        ∗ ((enqOut X N c j ∗ owes (c.tc : Thread nD τ) O W) -∗ wp frame (wpE defs 𝒱 (c.tc : Thread nD τ) none) Set.univ (k ⟨⟩) Q))
      ⊢ wp frame (wpE defs 𝒱 (c.tc : Thread nD τ) none) Set.univ (.op ((X j.1).enq c j.2) k) Q := by
  obtain ⟨a, (_ | i)⟩ := j
  · unfold enqIn enqOut srcPts slotPts
    iintro ⟨#HI, ⟨Hs, Hd, Ht, -⟩, HO, Hk⟩
    ihave Hi := (invs_get X N q m H ER κ (c, .inl (a, none))) $$ HI
    icases Hi with ⟨#Hi, #Hr⟩
    iapply (Rounds.wp_copy_pointsTo 𝒱 ER (sched X N q m H.pos) (c.tc : Thread nD τ) none (r := 0) (d := ())
      (κ := κ (c, .inl (a, none))) (by rw [duties0 X N q m H (c, .inl (a, none))]; exact Finset.mem_singleton_self _) () (N a)
      ((View.amount_dma _ _).trans (H.slot_credit a c)) (amount0 X N q m H (c, .inl (a, none)))
      (by rw [payload0 X N q m H (c, .inl (a, none))]; unfold pay wrotePts srcPts wrote; exact BI.Entails.refl _)) $$ [Hs Hd Ht]
    · isplitr; · iexact Hi
      isplitl [Hs]; · iexact Hs
      isplitl [Hd]; · iexact Hd
      isplitl [Ht]; · iexact Ht
      iexact Hr
    iintro Hc
    iapply Hk
    isplitl [Hc]; · iexact Hc
    rw [show dueOf X N c (a, none) + O = O from zero_add O]
    iexact HO
  · unfold enqIn enqOut srcPts slotPts
    iintro ⟨#HI, ⟨Hs, Hd, Ht, Ht'⟩, HO, Hk⟩
    ihave Hi := (invs_get X N q m H ER κ (c, .inl (a, some i))) $$ HI
    icases Hi with ⟨#Hi, #Hr⟩
    ihave Hi' := (invs_get X N q m H ER κ ((X a).dev i c, .inr (a, i))) $$ HI
    icases Hi' with ⟨#Hi', #Hr'⟩
    iapply (Rounds.wp_send_pointsTo 𝒱 ER (sched X N q m H.pos) (c.tc : Thread nD τ) none (c' := ((X a).dev i c).tc)
      (κ₁ := κ (c, .inl (a, some i))) (κ₂ := κ ((X a).dev i c, .inr (a, i)))
      (r₁ := 0) (r₂ := 0) (d₁ := ()) (d₂ := ())
      (by rw [duties0 X N q m H (c, .inl (a, some i))]; exact Finset.mem_singleton_self _)
      (by rw [duties0 X N q m H ((X a).dev i c, .inr (a, i))]; exact Finset.mem_singleton_self _)
      () () (N a) ((View.amount_dma _ _).trans (H.slot_credit a c))
      (amount0 X N q m H (c, .inl (a, some i))) (amount0 X N q m H ((X a).dev i c, .inr (a, i)))
      O (add_comm _ _) (W := W)
      (by rw [payload0 X N q m H (c, .inl (a, some i))]; unfold pay srcPts; exact BI.Entails.refl _)
      (by rw [payload0 X N q m H ((X a).dev i c, .inr (a, i))]; unfold pay wrotePts wrote; dsimp only; rw [H.back a i c])) $$ [Hs Hd Ht Ht' HO]
    · isplitr; · iexact Hi
      isplitr; · iexact Hi'
      isplitl [Hs]; · iexact Hs
      isplitl [Hd]; · iexact Hd
      isplitl [HO]; · iexact HO
      isplitl [Ht]; · iexact Ht
      isplitr; · iexact Hr
      isplitl [Ht']; · iexact Ht'
      iexact Hr'
    iintro ⟨Hc, HO⟩
    iapply Hk
    isplitl [Hc]; · iexact Hc
    iexact HO

/-- All the transfers of a list of jobs. -/
theorem enq_all [ER.LandsIn (upEmb : UEmb _ 𝕄)] (c : Dev nD) (l : List (Job I)) (rest : List (TpuEff nD τ sig Val Λ .tc PUnit)) (W : Waits sig Unit) (Q : PUnit → sProp 𝕄) :
    iprop(invs X N q m H ER κ ∗ bigSepL l (enqIn X q m ER c) ∗ owes (c.tc : Thread nD τ) ((l.map (dueOf X N c)).sum) W
        ∗ ((bigSepL l (enqOut X N c) ∗ owes (c.tc : Thread nD τ) 0 W)
            -∗ wp frame (wpE defs 𝒱 (c.tc : Thread nD τ) none) Set.univ (runAll rest) Q))
      ⊢ wp frame (wpE defs 𝒱 (c.tc : Thread nD τ) none) Set.univ (runAll ((l.map fun j => (X j.1).enq c j.2) ++ rest)) Q := by
  induction l with
  | nil =>
    iintro ⟨#HI, Hl, HO, Hk⟩
    iapply Hk
    isplitl [Hl]; · iexact Hl
    iexact HO
  | cons j l ih =>
    rw [bigSepL_cons', List.map_cons, List.sum_cons, List.map_cons, List.cons_append, bigSepL_cons']
    iintro ⟨#HI, ⟨Hj, Hl⟩, HO, Hk⟩
    iapply (enq_step X N q m H ER κ defs 𝒱 c j ((l.map (dueOf X N c)).sum) W (fun _ => runAll ((l.map fun j => (X j.1).enq c j.2) ++ rest)) Q)
    isplitr; · iexact HI
    isplitl [Hj]; · iexact Hj
    isplitl [HO]; · iexact HO
    iintro ⟨Ho, HO⟩
    iapply ih
    isplitr; · iexact HI
    isplitl [Hl]; · iexact Hl
    isplitl [HO]; · iexact HO
    iintro ⟨Hl, HO⟩
    iapply Hk
    isplitl [Ho Hl]
    · isplitl [Ho] <;> iassumption
    · iexact HO

/-- What the waits of a job take, beside the credit of its first semaphore: the positions, the credit of the receipt. -/
def waitIn (c : Dev nD) (j : Job I) : sProp 𝕄 :=
  iprop(enqOut X N c j ∗ atPos ER (kcell X (c, .inl j)) 0 ∅ 0
    ∗ match j with
      | (_, none) => iprop(emp)
      | (a, some k) => iprop(cred (tallyAt (kcell X (c, .inr (a, k))) () (N a)) ∗ atPos ER (kcell X (c, .inr (a, k))) 0 ∅ 0))

/-- And leave: the source share, the slot its peer (or itself) wrote, the semaphores at zero. -/
def waitOut (c : Dev nD) (j : Job I) : sProp 𝕄 :=
  iprop(srcPts X q m j c ∗ wrotePts X m j ((X j.1).peer j.2 c) c ∗ semVal (kcell X (c, .inl j)) 0
    ∗ match j with
      | (_, none) => iprop(emp)
      | (a, some k) => semVal (kcell X (c, .inr (a, k))) 0)

/-- One wait: the cell's payload, and its counter at zero. -/
theorem wait_step [ER.LandsIn (upEmb : UEmb _ 𝕄)] (c : Dev nD) (x : Cell I) (w : TpuEff nD τ sig Val Λ .tc PUnit)
    (hw : ∀ K : PUnit → sProp 𝕄, wpE' defs 𝒱 (c.tc : Thread nD τ) none .empty Set.univ w K
      = waitSpec (c.tc : Thread nD τ) Set.univ (osem X x) (N x.arr) K) {α : Type}
    (k : PUnit → Prog (TpuEff nD τ sig Val Λ .tc) α) (Q : α → sProp 𝕄) :
    iprop(invs X N q m H ER κ ∗ cred (tallyAt (kcell X (c, x)) () (N x.arr)) ∗ atPos ER (kcell X (c, x)) 0 ∅ 0
        ∗ (∃ W, owes (c.tc : Thread nD τ) 0 W)
        ∗ ((pay X q m (c, x) ∗ semVal (kcell X (c, x)) 0 ∗ ∃ W, owes (c.tc : Thread nD τ) 0 W)
          -∗ wp frame (wpE defs 𝒱 (c.tc : Thread nD τ) none) Set.univ (k ⟨⟩) Q))
      ⊢ wp frame (wpE defs 𝒱 (c.tc : Thread nD τ) none) Set.univ (.op w k) Q := by
  iintro ⟨#HI, Hc, Ha, ⟨%W, HO⟩, Hk⟩
  ihave Hi := (invs_get X N q m H ER κ (c, x)) $$ HI
  icases Hi with ⟨#Hi, -⟩
  iapply (Rounds.wp_wait_rest_token 𝒱 ER (sched X N q m H.pos) (c.tc : Thread nD τ) none (κ := κ (c, x))
      hw (Set.mem_univ _) () (O := 0) (W := W) (R := 0) (m := 0) (T := ∅)
      (by rw [Nat.zero_add]; exact (expect0 X N q m H (c, x)).symm)) $$ [Hc HO Ha]
  · isplitr; · iexact Hi
    isplitl [Hc]; · iexact Hc
    isplitl [HO]; · iexact HO
    isplitr; · rw [MayWait_zero]; iempintro
    iexact Ha
  iintro ⟨HO, Ha, -, Hp⟩
  ihave Hp := (Entails.of_eq (rest0 X N q m H (c, x))) $$ Hp
  iapply (fupd_wp frame (wpE defs 𝒱 (c.tc : Thread nD τ) none) Set.univ _ _)
  imod (Rounds.cell_close ER (sched X N q m H.pos) (Set.mem_univ (κ (c, x))) (fun h => h) (R := 0 + 1) (duties_later X N q m H (kcell X (c, x)))) $$ [Ha] with Hz
  · isplitr; · iexact Hi
    iexact Ha
  imodintro
  iapply Hk
  isplitl [Hp]; · iexact Hp
  isplitl [Hz]; · iexact Hz
  iexists _; iexact HO

/-- The waits of one job. -/
theorem wait_job [ER.LandsIn (upEmb : UEmb _ 𝕄)] (c : Dev nD) (j : Job I) (rest : List (TpuEff nD τ sig Val Λ .tc PUnit)) (Q : PUnit → sProp 𝕄) :
    iprop(invs X N q m H ER κ ∗ waitIn X N ER c j ∗ (∃ W, owes (c.tc : Thread nD τ) 0 W)
        ∗ ((waitOut X q m c j ∗ ∃ W, owes (c.tc : Thread nD τ) 0 W)
            -∗ wp frame (wpE defs 𝒱 (c.tc : Thread nD τ) none) Set.univ (runAll rest) Q))
      ⊢ wp frame (wpE defs 𝒱 (c.tc : Thread nD τ) none) Set.univ (runAll ((X j.1).wts c j.2 ++ rest)) Q := by
  obtain ⟨a, (_ | i)⟩ := j
  · unfold waitIn enqOut waitOut
    iintro ⟨#HI, ⟨Hc, Ha, -⟩, HO, Hk⟩
    iapply (wait_step X N q m H ER κ defs 𝒱 c (.inl (a, none)) _ (fun K => by rw [wpE_waitDma2_eq, H.slot_credit]) (fun _ => runAll rest) Q)
    isplitr; · iexact HI
    isplitl [Hc]; · iexact Hc
    isplitl [Ha]; · iexact Ha
    isplitl [HO]; · iexact HO
    unfold pay
    iintro ⟨⟨Hw, Hs⟩, Hz, HO⟩
    iapply Hk
    isplitr [HO]
    · isplitl [Hs]; · iexact Hs
      isplitl [Hw]; · iexact Hw
      isplitl [Hz]; · iexact Hz
      iempintro
    · iexact HO
  · unfold waitIn enqOut waitOut
    iintro ⟨#HI, ⟨Hc, Ha, Hc', Ha'⟩, HO, Hk⟩
    iapply (wait_step X N q m H ER κ defs 𝒱 c (.inl (a, some i)) _ (fun K => by rw [wpE_waitDma2_eq, H.src_credit])
      (fun _ => .op (.waitDma2 ((X a).rcv i) ((X a).src (some i) c) ((X a).pslot i c) ((X a).src_ok (some i) c) ((X a).pslot_ok i c)) fun _ => runAll rest) Q)
    isplitr; · iexact HI
    isplitl [Hc]; · iexact Hc
    isplitl [Ha]; · iexact Ha
    isplitl [HO]; · iexact HO
    iintro ⟨Hs, Hz, HO⟩
    iapply (wait_step X N q m H ER κ defs 𝒱 c (.inr (a, i)) _ (fun K => by rw [wpE_waitDma2_eq, H.pslot_credit]) (fun _ => runAll rest) Q)
    isplitr; · iexact HI
    isplitl [Hc']; · iexact Hc'
    isplitl [Ha']; · iexact Ha'
    isplitl [HO]; · iexact HO
    iintro ⟨Hw, Hz', HO⟩
    unfold pay
    iapply Hk
    isplitr [HO]
    · isplitl [Hs]; · iexact Hs
      isplitl [Hw]; · iexact Hw
      isplitl [Hz]; · iexact Hz
      iexact Hz'
    · iexact HO

/-- All the waits of a list of jobs. -/
theorem wait_all [ER.LandsIn (upEmb : UEmb _ 𝕄)] (c : Dev nD) (l : List (Job I)) (Q : PUnit → sProp 𝕄) :
    iprop(invs X N q m H ER κ ∗ bigSepL l (waitIn X N ER c) ∗ (∃ W, owes (c.tc : Thread nD τ) 0 W)
        ∗ ((bigSepL l (waitOut X q m c) ∗ ∃ W, owes (c.tc : Thread nD τ) 0 W) -∗ Q ⟨⟩))
      ⊢ wp frame (wpE defs 𝒱 (c.tc : Thread nD τ) none) Set.univ (runAll (l.flatMap fun j => (X j.1).wts c j.2)) Q := by
  induction l with
  | nil =>
    iintro ⟨#HI, Hl, HO, Hk⟩
    rw [show runAll (([] : List (Job I)).flatMap fun j => (X j.1).wts c j.2) = (.ret ⟨⟩ : Prog (TpuEff nD τ sig Val Λ .tc) PUnit) from rfl, wp_ret]
    imodintro
    iapply Hk
    isplitl [Hl]; · iexact Hl
    iexact HO
  | cons j l ih =>
    rw [bigSepL_cons', List.flatMap_cons, bigSepL_cons']
    iintro ⟨#HI, ⟨Hj, Hl⟩, HO, Hk⟩
    iapply (wait_job X N q m H ER κ defs 𝒱 c j _ Q)
    isplitr; · iexact HI
    isplitl [Hj]; · iexact Hj
    isplitl [HO]; · iexact HO
    iintro ⟨Ho, HO⟩
    iapply ih
    isplitr; · iexact HI
    isplitl [Hl]; · iexact Hl
    isplitl [HO]; · iexact HO
    iintro ⟨Hl, HO⟩
    iapply Hk
    isplitl [Ho Hl]
    · isplitl [Ho] <;> iassumption
    · iexact HO

/-- What the waits of a job take that the transfers have not given. -/
def waitRest (c : Dev nD) (j : Job I) : sProp 𝕄 :=
  iprop(atPos ER (kcell X (c, .inl j)) 0 ∅ 0
    ∗ match j with
      | (_, none) => iprop(emp)
      | (a, some k) => iprop(cred (tallyAt (kcell X (c, .inr (a, k))) () (N a)) ∗ atPos ER (kcell X (c, .inr (a, k))) 0 ∅ 0))

/-- The body, from what all its jobs take to what they leave. -/
theorem wp_body [ER.LandsIn (upEmb : UEmb _ 𝕄)] (arrs : List I) (c : Dev nD) (W : Waits sig Unit) (Q : PUnit → sProp 𝕄) :
    iprop(invs X N q m H ER κ ∗ bigSepL (jobs arrs) (enqIn X q m ER c) ∗ bigSepL (jobs arrs) (waitRest X N ER c)
        ∗ owes (c.tc : Thread nD τ) (((jobs arrs).map (dueOf X N c)).sum) W
        ∗ ((bigSepL (jobs arrs) (waitOut X q m c) ∗ ∃ W, owes (c.tc : Thread nD τ) 0 W) -∗ Q ⟨⟩))
      ⊢ wp frame (wpE defs 𝒱 (c.tc : Thread nD τ) none) Set.univ (body X arrs) Q := by
  have hsep : ∀ l : List (Job I), iprop(bigSepL l (enqOut X N c) ∗ bigSepL l (waitRest X N ER c)) ⊢ (bigSepL l (waitIn X N ER c) : sProp 𝕄) := fun l => by
    induction l with
    | nil => iintro ⟨H, -⟩; iexact H
    | cons j l ih =>
      rw [bigSepL_cons', bigSepL_cons', bigSepL_cons']
      iintro ⟨⟨H1, H2⟩, ⟨H3, H4⟩⟩
      isplitl [H1 H3]
      · unfold waitIn waitRest; isplitl [H1] <;> iassumption
      · iapply ih; isplitl [H2] <;> iassumption
  unfold body
  rw [wp_deviceId]
  iintro ⟨#HI, He, Hw, HO, Hk⟩
  iapply (enq_all X N q m H ER κ defs 𝒱 c (jobs arrs) _ W Q)
  isplitr; · iexact HI
  isplitl [He]; · iexact He
  isplitl [HO]; · iexact HO
  iintro ⟨Ho, HO⟩
  iapply (wait_all X N q m H ER κ defs 𝒱 c (jobs arrs) Q)
  isplitr; · iexact HI
  isplitl [Ho Hw]
  · iapply (hsep (jobs arrs)); isplitl [Ho] <;> iassumption
  isplitl [HO]; · iexists W; iexact HO
  iexact Hk

end Protocol

end Exchange

end
-- ==== Proof.Deal.lean ====
/-
  What the exchange's launch deals: out of every core's semaphores, buffers and credit and the rounds library's ghost
  state, each core's start -- the invariants of all cells, per job the source share, the slot on the device it is sent to
  and the tokens of the duties it pays, per cell its position, per receipt its credit. A slot of a device's output goes to
  the device that writes it, and a receive cell's token to the peer that pays it.
-/
module

public import proofs.«01_k».proof.Proof.Exchange

@[expose] public section

noncomputable section

namespace Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

set_option Elab.async false

variable {nD : Nat} {τ : Topo} {sig : RefSig} {Val : EltTy → Type} {U : Type} [URA U]

local notation "𝕄" => MT nD τ sig Unit Val ℕ U ℕ

variable {I : Type} [Fintype I] [DecidableEq I]

/-! ## Sums over jobs -/

theorem bigSep_option (Φ : Option (Fin 7) → sProp 𝕄) :
    bigSep Finset.univ Φ = iprop(Φ none ∗ bigSep Finset.univ fun k => Φ (some k)) := by
  rw [bigSep_univ_equiv (Equiv.optionEquivSumPUnit.{0, 0} (Fin 7)).symm Φ, bigSep_univ_sum,
    bigSep_univ_of_subsingleton PUnit.unit]
  exact equiv_iff.mp ⟨BI.sep_comm, BI.sep_comm⟩

/-- What only the addressed jobs have, over all jobs. -/
theorem bigSep_addressed (Φ : I → Fin 7 → sProp 𝕄) (Ψ : Job I → sProp 𝕄) (h0 : ∀ a, Ψ (a, none) = iprop(emp))
    (h1 : ∀ a k, Ψ (a, some k) = Φ a k) :
    bigSep Finset.univ Ψ = bigSep Finset.univ fun p : I × Fin 7 => Φ p.1 p.2 := by
  rw [bigSep_univ_prod, bigSep_univ_prod]
  refine bigSep_congr fun a _ => ?_
  rw [bigSep_option, h0]
  simp only [h1]
  exact equiv_iff.mp BI.emp_sep

section

variable (X : I → Arr nD sig) (N : I → ℕ) (q : I → Option (Fin 7) → PosShare TreeShare)
  (m : (ℓ : Loc nD τ sig) → Buf Val ℓ) (H : Facts X N)
  (ER : Emb (URounds (GSem nD τ sig) Unit) (MT nD τ sig Unit Val ℕ U ℕ))
  (arrs : List I)

/-- The cells, and their duties' tokens. -/
def cells : Finset (GSem nD τ sig) := Finset.univ.map ⟨kcell X, H.kcell_inj⟩
def toks : Finset (GSem nD τ sig × ℕ × Unit) :=
  Finset.univ.map ⟨fun ck : Dev nD × Cell I => (kcell X ck, 0, ()), fun _ _ h => H.kcell_inj (congrArg Prod.fst h)⟩

/-- What the rounds library's ghost state gives a device, per cell. -/
def ghost (c : Dev nD) : sProp 𝕄 := bigSep Finset.univ fun k : Cell I =>
  iprop(roundState ER (sched X N q m H.pos) (kcell X (c, k)) 0 ∗ reached ER (kcell X (c, k)) 0
    ∗ atPos ER (kcell X (c, k)) 0 ∅ 0 ∗ dutyTok ER (kcell X (c, k)) 0 ())

theorem fund_ghost : BI.own (ER (initOf (cells X N H) (toks X N H)))
    ⊢ iprop(|==> bigSep Finset.univ (ghost X N q m H ER)) := by
  refine (Rounds.fund ER (sched X N q m H.pos) (cells X N H) (toks X N H)).trans (BI.bupd_mono ?_)
  unfold cells toks ghost
  rw [bigSep_map, bigSep_map, bigSep_map, bigSep_map, bigSep_univ_prod, bigSep_univ_prod, bigSep_univ_prod, bigSep_univ_prod]
  simp only [bigSep_sep']
  exact BI.Entails.refl _

/-- A device's dues at launch. -/
def due (c : Dev nD) : CellTallies nD τ sig Unit := ((jobs arrs).map (dueOf X N c)).sum

variable (hnd : (jobs arrs).Nodup) (hall : ∀ j, j ∈ jobs arrs)

include hall in
theorem jobs_univ : (Finset.univ : Finset (Job I)) = (jobs arrs).toFinset := by
  ext j; simp [hall j]

include H hnd hall in
/-- What all devices together owe a receive cell. -/
theorem credit_recv (c : Dev nD) (p : I × Fin 7) :
    launchCredit (owing (due X N arrs)) 0 (kcell (τ := τ) X (c, .inr p)) = Finsupp.single () (N p.1) := by
  obtain ⟨a, k⟩ := p
  refine Finsupp.ext fun i => ?_
  obtain rfl : i = () := rfl
  rw [launchCredit_owing, Finsupp.single_eq_same]
  have h1 : ∀ d : Dev nD, due X N arrs d (kcell (τ := τ) X (c, .inr (a, k))) () = ∑ j : Job I, dueOf X N d j (kcell (τ := τ) X (c, .inr (a, k))) () := fun d => by
    unfold due
    rw [← List.sum_toFinset _ hnd, ← jobs_univ arrs hall, Finset.sum_apply, Finsupp.finset_sum_apply]
  simp only [h1]
  rw [Finset.sum_eq_single ((X a).dev k c), Finset.sum_eq_single ((a, some k) : Job I)]
  · simp only [dueOf]
    rw [tallyAt_apply, H.back, if_pos ⟨rfl, rfl⟩]
  · rintro ⟨a', (_ | k')⟩ - hne
    · rfl
    · simp only [dueOf]
      rw [tallyAt_apply, if_neg]
      rintro ⟨h, -⟩
      have := H.kcell_inj h
      simp only [Prod.mk.injEq, Sum.inr.injEq] at this
      exact hne (by rw [← this.2.1, ← this.2.2])
  · intro h; exact absurd (Finset.mem_univ _) h
  · intro d _ hne
    refine Finset.sum_eq_zero fun j _ => ?_
    obtain ⟨a', (_ | k')⟩ := j
    · rfl
    · simp only [dueOf]
      rw [tallyAt_apply, if_neg]
      rintro ⟨h, -⟩
      have := H.kcell_inj h
      simp only [Prod.mk.injEq, Sum.inr.injEq] at this
      obtain ⟨h1, rfl, rfl⟩ := this
      exact hne (by rw [h1, H.back])
  · intro h; exact absurd (Finset.mem_univ _) h

include H hnd hall in
/-- The credits of a device's receive cells. -/
theorem cred_recv (c : Dev nD) : (launchCred (due X N arrs) c : sProp 𝕄)
    ⊢ bigSep Finset.univ fun p : I × Fin 7 => cred (tallyAt (kcell X (c, .inr p)) () (N p.1)) := by
  unfold launchCred
  let e : I × Fin 7 ↪ SemLoc sig := ⟨fun p => osem X (.inr p), fun p p' h => Sum.inr_injective (H.inj h)⟩
  refine (BI.bigSep_subset (t := Finset.univ.map e) (Finset.subset_univ _)).trans ?_
  rw [bigSep_map]
  refine bigSep_mono fun p _ => ?_
  rw [show ((c.tc : Thread nD τ), e p) = kcell X (c, .inr p) from rfl, credit_recv X N H arrs hnd hall c p]
  exact BI.Entails.refl _

/-- What a device's body starts from. -/
def start (R : Dev nD → sProp 𝕄) (c : Dev nD) : sProp 𝕄 :=
  iprop(∃ κ : Dev nD × Cell I → ℕ, invs X N q m H ER κ ∗ bigSepL (jobs arrs) (enqIn X q m ER c) ∗ bigSepL (jobs arrs) (waitRest X N ER c)
    ∗ owes (c.tc : Thread nD τ) (due X N arrs c) ∅ ∗ R c)

/-- The involution exchanging a device with its peer. -/
def swap (a : I) (o : Option (Fin 7)) : Dev nD ≃ Dev nD :=
  ⟨(X a).peer o, (X a).peer o, H.peer_peer a o, H.peer_peer a o⟩

/-- The peers of a device, one per job. -/
def peers (a : I) (c : Dev nD) : Option (Fin 7) ≃ Dev nD := Equiv.ofBijective _ (H.bij a c)

include H in
/-- The slots, dealt by the device whose output they lie in, are dealt to the devices that write them. -/
theorem deal_slots :
    (bigSep Finset.univ fun c : Dev nD => bigSep Finset.univ fun a : I => bigSep Finset.univ fun d : Dev nD => (slotPts X m a d c : sProp 𝕄))
      = bigSep Finset.univ fun c : Dev nD => bigSep Finset.univ fun j : Job I => slotPts X m j.1 c ((X j.1).peer j.2 c) := by
  have h1 : ∀ c : Dev nD, (bigSep Finset.univ fun a : I => bigSep Finset.univ fun d : Dev nD => (slotPts X m a d c : sProp 𝕄))
      = bigSep Finset.univ fun j : Job I => slotPts X m j.1 ((X j.1).peer j.2 c) c := fun c => by
    rw [bigSep_univ_prod]
    exact bigSep_congr fun a _ => bigSep_univ_equiv (peers X N H a c) _
  simp only [h1]
  rw [BI.bigSep_univ_comm, BI.bigSep_univ_comm (fun (c : Dev nD) (j : Job I) => (slotPts X m j.1 c ((X j.1).peer j.2 c) : sProp 𝕄))]
  refine bigSep_congr fun j _ => ?_
  rw [bigSep_univ_equiv (swap X N H j.1 j.2)]
  refine bigSep_congr fun c _ => ?_
  show slotPts X m j.1 ((X j.1).peer j.2 ((X j.1).peer j.2 c)) ((X j.1).peer j.2 c) = _
  rw [H.peer_peer]

include H in
/-- The receive cells' tokens go to the peers that pay them. -/
theorem deal_toks :
    (bigSep Finset.univ fun c : Dev nD => bigSep Finset.univ fun p : I × Fin 7 => (dutyTok ER (kcell X (c, .inr p)) 0 () : sProp 𝕄))
      = bigSep Finset.univ fun c : Dev nD => bigSep Finset.univ fun p : I × Fin 7 => dutyTok ER (kcell X ((X p.1).dev p.2 c, .inr p)) 0 () := by
  rw [BI.bigSep_univ_comm, BI.bigSep_univ_comm (fun (c : Dev nD) (p : I × Fin 7) => (dutyTok ER (kcell X ((X p.1).dev p.2 c, .inr p)) 0 () : sProp 𝕄))]
  exact bigSep_congr fun p _ => bigSep_univ_equiv (swap X N H p.1 (some p.2)) _

include H hnd hall in
/-- The deal. -/
theorem deal [ER.LandsIn (upEmb : UEmb _ 𝕄)] (B R : Dev nD → sProp 𝕄)
    (hB : ∀ c, B c ⊢ iprop((bigSep Finset.univ fun j : Job I => srcPts X q m j c)
      ∗ (bigSep Finset.univ fun a : I => bigSep Finset.univ fun d : Dev nD => slotPts X m a d c) ∗ R c)) :
    (bigSep Finset.univ fun c : Dev nD => iprop((ownSems0 (osem X) c ∗ B c
        ∗ owes (c.tc : Thread nD τ) (due X N arrs c) ∅ ∗ launchCred (due X N arrs) c) ∗ ghost X N q m H ER c))
      ⊢ |={Set.univ}=> bigSep Finset.univ (start X N q m H ER arrs R) := by
  have hu := jobs_univ arrs hall
  have hL : ∀ Φ : Job I → sProp 𝕄, bigSepL (jobs arrs) Φ = bigSep Finset.univ Φ := fun Φ =>
    (bigSep_univ_eq_bigSepL (jobs arrs) hu hnd Φ).symm
  have hcell : ∀ (Φ : Dev nD → Cell I → sProp 𝕄), (bigSep Finset.univ fun c : Dev nD => bigSep Finset.univ (Φ c))
      = iprop((bigSep Finset.univ fun c : Dev nD => bigSep Finset.univ fun j : Job I => Φ c (.inl j))
        ∗ bigSep Finset.univ fun c : Dev nD => bigSep Finset.univ fun p : I × Fin 7 => Φ c (.inr p)) := fun Φ => by
    rw [← bigSep_sep']
    exact bigSep_congr fun c _ => bigSep_univ_sum _
  -- every core's own part, each conjunct summed over the cores
  have hstart : ∀ κ : Dev nD × Cell I → ℕ, iprop(invs X N q m H ER κ
      ∗ (bigSep Finset.univ fun c : Dev nD => bigSep Finset.univ fun j : Job I => srcPts X q m j c)
      ∗ (bigSep Finset.univ fun c : Dev nD => bigSep Finset.univ fun j : Job I => slotPts X m j.1 c ((X j.1).peer j.2 c))
      ∗ (bigSep Finset.univ fun c : Dev nD => bigSep Finset.univ fun j : Job I => dutyTok ER (kcell X (c, .inl j)) 0 ())
      ∗ (bigSep Finset.univ fun c : Dev nD => bigSep Finset.univ fun p : I × Fin 7 => dutyTok ER (kcell X ((X p.1).dev p.2 c, .inr p)) 0 ())
      ∗ (bigSep Finset.univ fun c : Dev nD => bigSep Finset.univ fun j : Job I => atPos ER (kcell X (c, .inl j)) 0 ∅ 0)
      ∗ (bigSep Finset.univ fun c : Dev nD => bigSep Finset.univ fun p : I × Fin 7 => atPos ER (kcell X (c, .inr p)) 0 ∅ 0)
      ∗ (bigSep Finset.univ fun c : Dev nD => bigSep Finset.univ fun p : I × Fin 7 => cred (tallyAt (kcell X (c, .inr p)) () (N p.1)))
      ∗ (bigSep Finset.univ fun c : Dev nD => owes (c.tc : Thread nD τ) (due X N arrs c) ∅)
      ∗ bigSep Finset.univ R)
      ⊢ bigSep Finset.univ (start X N q m H ER arrs R) := fun κ => by
    have hcore : ∀ c : Dev nD, iprop(invs X N q m H ER κ
      ∗ (bigSep Finset.univ fun j : Job I => srcPts X q m j c)
      ∗ (bigSep Finset.univ fun j : Job I => slotPts X m j.1 c ((X j.1).peer j.2 c))
      ∗ (bigSep Finset.univ fun j : Job I => dutyTok ER (kcell X (c, .inl j)) 0 ())
      ∗ (bigSep Finset.univ fun p : I × Fin 7 => dutyTok ER (kcell X ((X p.1).dev p.2 c, .inr p)) 0 ())
      ∗ (bigSep Finset.univ fun j : Job I => atPos ER (kcell X (c, .inl j)) 0 ∅ 0)
      ∗ (bigSep Finset.univ fun p : I × Fin 7 => atPos ER (kcell X (c, .inr p)) 0 ∅ 0)
      ∗ (bigSep Finset.univ fun p : I × Fin 7 => cred (tallyAt (kcell X (c, .inr p)) () (N p.1)))
      ∗ owes (c.tc : Thread nD τ) (due X N arrs c) ∅ ∗ R c) ⊢ start X N q m H ER arrs R c := fun c => by
      unfold start
      have e1 := bigSep_addressed (I := I) (fun a k => (dutyTok ER (kcell X ((X a).dev k c, .inr (a, k))) 0 () : sProp 𝕄))
        (fun j => match j with | (_, none) => iprop(emp) | (a, some k) => dutyTok ER (kcell X ((X a).dev k c, .inr (a, k))) 0 ())
        (fun _ => rfl) (fun _ _ => rfl)
      have e2 := bigSep_addressed (I := I) (fun a k => iprop(cred (tallyAt (kcell X (c, .inr (a, k))) () (N a)) ∗ (atPos ER (kcell X (c, .inr (a, k))) 0 ∅ 0 : sProp 𝕄)))
        (fun j => match j with | (_, none) => iprop(emp) | (a, some k) => iprop(cred (tallyAt (kcell X (c, .inr (a, k))) () (N a)) ∗ atPos ER (kcell X (c, .inr (a, k))) 0 ∅ 0))
        (fun _ => rfl) (fun _ _ => rfl)
      have E1 : bigSepL (jobs arrs) (enqIn X q m ER c) = iprop((bigSep Finset.univ fun j : Job I => srcPts X q m j c)
          ∗ (bigSep Finset.univ fun j : Job I => slotPts X m j.1 c ((X j.1).peer j.2 c))
          ∗ (bigSep Finset.univ fun j : Job I => dutyTok ER (kcell X (c, .inl j)) 0 ())
          ∗ bigSep Finset.univ fun p : I × Fin 7 => (dutyTok ER (kcell X ((X p.1).dev p.2 c, .inr p)) 0 () : sProp 𝕄)) := by
        rw [hL]
        refine Eq.trans ?_ (congrArg (fun Z => iprop((bigSep Finset.univ fun j : Job I => srcPts X q m j c)
          ∗ (bigSep Finset.univ fun j : Job I => slotPts X m j.1 c ((X j.1).peer j.2 c))
          ∗ (bigSep Finset.univ fun j : Job I => dutyTok ER (kcell X (c, .inl j)) 0 ()) ∗ Z)) e1)
        rw [← bigSep_sep', ← bigSep_sep', ← bigSep_sep']
        exact bigSep_congr fun j _ => rfl
      have E2 : bigSepL (jobs arrs) (waitRest X N ER c) = iprop((bigSep Finset.univ fun j : Job I => atPos ER (kcell X (c, .inl j)) 0 ∅ 0)
          ∗ (bigSep Finset.univ fun p : I × Fin 7 => cred (tallyAt (kcell X (c, .inr p)) () (N p.1)))
          ∗ bigSep Finset.univ fun p : I × Fin 7 => (atPos ER (kcell X (c, .inr p)) 0 ∅ 0 : sProp 𝕄)) := by
        rw [hL, ← bigSep_sep' Finset.univ (fun p : I × Fin 7 => cred (tallyAt (kcell X (c, .inr p)) () (N p.1)))]
        refine Eq.trans ?_ (congrArg (fun Z => iprop((bigSep Finset.univ fun j : Job I => atPos ER (kcell X (c, .inl j)) 0 ∅ 0) ∗ Z)) e2)
        rw [← bigSep_sep']
        exact bigSep_congr fun j _ => rfl
      rw [E1, E2]
      iintro ⟨#HI, Hs, Hd, Ht, Ht', Ha, Ha', Hc, HO, HR⟩
      iexists κ
      isplitr; · iexact HI
      isplitl [Hs Hd Ht Ht']
      · isplitl [Hs]; · iexact Hs
        isplitl [Hd]; · iexact Hd
        isplitl [Ht] <;> iassumption
      isplitl [Ha Ha' Hc]
      · isplitl [Ha]; · iexact Ha
        isplitl [Hc] <;> iassumption
      isplitl [HO] <;> iassumption
    simp only [← bigSep_sep']
    exact bigSep_with_persistent fun c _ => hcore c
  have hcells : (bigSep Finset.univ fun ck : Dev nD × Cell I => iprop(semVal (kcell X ck) 0 ∗ roundState ER (sched X N q m H.pos) (kcell X ck) 0))
      ⊢ |={Set.univ}=> iprop(∃ κ : Dev nD × Cell I → ℕ, bigSep Finset.univ fun ck => (cellInv ER (sched X N q m H.pos) (κ ck) (kcell X ck) : sProp 𝕄)) :=
    ((bigSep_mono fun ck _ => (Rounds.body_intro ER (sched X N q m H.pos) (kcell X ck)).trans inv_alloc).trans (bigSep_fupd _ _)).trans
      (fupd_mono (BI.bigSep_exists_pi _ _))
  have hpre : (bigSep Finset.univ fun c : Dev nD => iprop((ownSems0 (osem X) c ∗ B c
        ∗ owes (c.tc : Thread nD τ) (due X N arrs c) ∅ ∗ launchCred (due X N arrs) c) ∗ ghost X N q m H ER c))
      ⊢ iprop((bigSep Finset.univ fun ck : Dev nD × Cell I => iprop(semVal (kcell X ck) 0 ∗ roundState ER (sched X N q m H.pos) (kcell X ck) 0))
        ∗ (bigSep Finset.univ fun ck : Dev nD × Cell I => reached ER (kcell X ck) 0)
        ∗ (bigSep Finset.univ fun c : Dev nD => bigSep Finset.univ fun k : Cell I => atPos ER (kcell X (c, k)) 0 ∅ 0)
        ∗ (bigSep Finset.univ fun c : Dev nD => bigSep Finset.univ fun k : Cell I => dutyTok ER (kcell X (c, k)) 0 ())
        ∗ (bigSep Finset.univ fun c : Dev nD => bigSep Finset.univ fun j : Job I => srcPts X q m j c)
        ∗ (bigSep Finset.univ fun c : Dev nD => bigSep Finset.univ fun a : I => bigSep Finset.univ fun d : Dev nD => slotPts X m a d c)
        ∗ (bigSep Finset.univ R)
        ∗ (bigSep Finset.univ fun c : Dev nD => owes (c.tc : Thread nD τ) (due X N arrs c) ∅)
        ∗ bigSep Finset.univ fun c : Dev nD => bigSep Finset.univ fun p : I × Fin 7 => (cred (tallyAt (kcell X (c, .inr p)) () (N p.1)) : sProp 𝕄)) := by
    rw [bigSep_univ_prod, bigSep_univ_prod]
    simp only [← bigSep_sep']
    refine bigSep_mono fun c _ => ?_
    unfold ghost ownSems0
    simp only [bigSep_sep']
    show (_ : sProp 𝕄) ⊢ _
    iintro ⟨⟨Hs, HB, HO, Hc⟩, Hst, Hr, Ha, Ht⟩
    ihave HB := (hB c) $$ HB
    icases HB with ⟨Hsrc, Hsl, HR⟩
    ihave Hc := (cred_recv X N H arrs hnd hall c) $$ Hc
    isplitl [Hs Hst]
    · isplitl [Hs] <;> iassumption
    isplitl [Hr]; · iexact Hr
    isplitl [Ha]; · iexact Ha
    isplitl [Ht]; · iexact Ht
    isplitl [Hsrc]; · iexact Hsrc
    isplitl [Hsl]; · iexact Hsl
    isplitl [HR]; · iexact HR
    isplitl [HO] <;> iassumption
  refine hpre.trans ?_
  rw [deal_slots X N m H, hcell fun c k => atPos ER (kcell X (c, k)) 0 ∅ 0, hcell fun c k => dutyTok ER (kcell X (c, k)) 0 (), deal_toks X N H ER]
  iintro ⟨Hst, Hr, ⟨Ha, Ha'⟩, ⟨Ht, Ht'⟩, Hsrc, Hsl, HR, HO, Hc⟩
  imod hcells $$ Hst with ⟨%κ, Hi⟩
  imodintro
  iapply (hstart κ)
  isplitl [Hi Hr]
  · unfold invs
    rw [bigSep_sep']
    isplitl [Hi] <;> iassumption
  isplitl [Hsrc]; · iexact Hsrc
  isplitl [Hsl]; · iexact Hsl
  isplitl [Ht]; · iexact Ht
  isplitl [Ht']; · iexact Ht'
  isplitl [Ha]; · iexact Ha
  isplitl [Ha']; · iexact Ha'
  isplitl [Hc]; · iexact Hc
  isplitl [HO] <;> iassumption

end

end Exchange

end
-- ==== Proof.Run.lean ====
/-
  The run of a program that is one exchange: its @main enters one region with no staged window, whose body is `body` at
  some arrays. From the deal at the launch, through the body, to every source share at its launch contents and every slot
  written, on every device, with all semaphores at zero.
-/
module

public import proofs.«01_k».proof.Proof.Launch
public import proofs.«01_k».proof.Proof.Deal

@[expose] public section

noncomputable section

namespace Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline Idealize.ShloMosaic.Pipeline.PerCore

set_option Elab.async false

variable {nD : Nat} {τ : Topo} {sig : RefSig} {Val : EltTy → Type} {Λ₀ : Idealize.SL.Sem.Labels}

/-- The ghost state: the pipeline library's, and the exchange's. -/
abbrev U1 (nD : Nat) (τ : Topo) (sig : RefSig) : Type := URounds (GSem nD τ sig) Unit
abbrev U2 (nD : Nat) (τ : Topo) (sig : RefSig) : Type := U1 nD τ sig × U1 nD τ sig

local notation "𝕄" => MT nD τ sig Unit Val ℕ (U2 nD τ sig) ℕ

/-- The pipeline library's part of it, -/
def EP : Emb (U1 nD τ sig) (MT nD τ sig Unit Val ℕ (U2 nD τ sig) ℕ) :=
  (Emb.inl : Emb (U1 nD τ sig) (U2 nD τ sig)).trans (uEmb (nD := nD) (sig := sig) (Ix := Unit) (Val := Val) (Name := ℕ) (U := U2 nD τ sig) (Lvl := ℕ)).toEmb
/-- and the exchange's. -/
def ER : Emb (U1 nD τ sig) (MT nD τ sig Unit Val ℕ (U2 nD τ sig) ℕ) :=
  (Emb.inr : Emb (U1 nD τ sig) (U2 nD τ sig)).trans (uEmb (nD := nD) (sig := sig) (Ix := Unit) (Val := Val) (Name := ℕ) (U := U2 nD τ sig) (Lvl := ℕ)).toEmb

instance EP_landsIn : (EP : Emb (U1 nD τ sig) 𝕄).LandsIn (upEmb : UEmb _ 𝕄) := by unfold EP; infer_instance
instance ER_landsIn : (ER : Emb (U1 nD τ sig) 𝕄).LandsIn (upEmb : UEmb _ 𝕄) := by unfold ER; infer_instance

theorem own_both (x y : U1 nD τ sig) : (ownU (x, y) : sProp 𝕄) ⊢ iprop(BI.own (EP x) ∗ BI.own (ER y)) :=
  BI.own_op_elim ((uEmb (nD := nD) (sig := sig) (Ix := Unit) (Val := Val) (Name := ℕ) (U := U2 nD τ sig) (Lvl := ℕ)).toEmb.op_of_mem
    (Prod.mk_mem_op (URA.mem_op_one x) (URA.mem_one_op y)))

variable {I : Type} [Fintype I] [DecidableEq I]

section

variable (X : I → Arr nD sig) (N : I → ℕ) (q : I → Option (Fin 7) → PosShare TreeShare)
  (m : (ℓ : Loc nD τ sig) → Buf Val ℓ) (H : Facts X N) (arrs : List I) (R : Dev nD → sProp (MT nD τ sig Unit Val ℕ (U2 nD τ sig) ℕ))

/-- What a device's body starts from, its dues apart. -/
def start' (c : Dev nD) : sProp 𝕄 :=
  iprop(∃ κ : Dev nD × Cell I → ℕ, invs X N q m H ER κ ∗ bigSepL (jobs arrs) (enqIn X q m ER c) ∗ bigSepL (jobs arrs) (waitRest X N ER c) ∗ R c)

/-- What the exchange leaves a device: its source shares, its slots written, the rest. -/
def finish (c : Dev nD) : sProp 𝕄 :=
  iprop((bigSep Finset.univ fun j : Job I => srcPts X q m j c)
    ∗ (bigSep Finset.univ fun j : Job I => wrotePts X m j ((X j.1).peer j.2 c) c) ∗ R c)

theorem start_dues (c : Dev nD) : start X N q m H ER arrs R c
    ⊢ iprop(owes (c.tc : Thread nD τ) (due X N arrs c) ∅ ∗ start' X N q m H arrs R c) := by
  unfold start start'
  iintro ⟨%κ, HI, He, Hw, HO, HR⟩
  isplitl [HO]; · iexact HO
  iexists κ
  isplitl [HI]; · iexact HI
  isplitl [He]; · iexact He
  isplitl [Hw] <;> iassumption

variable (hnd : (jobs arrs).Nodup) (hall : ∀ j, j ∈ jobs arrs)

include hnd hall in
theorem collect (c : Dev nD) : iprop(bigSepL (jobs arrs) (waitOut X q m c) ∗ R c)
    ⊢ (iprop(finish X q m R c ∗ ownSems0 (osem X) c) : sProp 𝕄) := by
  rw [← bigSep_univ_eq_bigSepL (jobs arrs) (jobs_univ arrs hall) hnd]
  have e1 := bigSep_addressed (I := I) (fun a k => (semVal (kcell X (c, .inr (a, k))) 0 : sProp 𝕄))
    (fun j => match j with | (_, none) => iprop(emp) | (a, some k) => semVal (kcell X (c, .inr (a, k))) 0)
    (fun _ => rfl) (fun _ _ => rfl)
  have E1 : bigSep Finset.univ (waitOut X q m c) = iprop((bigSep Finset.univ fun j : Job I => srcPts X q m j c)
      ∗ (bigSep Finset.univ fun j : Job I => wrotePts X m j ((X j.1).peer j.2 c) c)
      ∗ (bigSep Finset.univ fun j : Job I => semVal (kcell X (c, .inl j)) 0)
      ∗ bigSep Finset.univ fun p : I × Fin 7 => (semVal (kcell X (c, .inr p)) 0 : sProp 𝕄)) := by
    refine Eq.trans ?_ (congrArg (fun Z => iprop((bigSep Finset.univ fun j : Job I => srcPts X q m j c)
      ∗ (bigSep Finset.univ fun j : Job I => wrotePts X m j ((X j.1).peer j.2 c) c)
      ∗ (bigSep Finset.univ fun j : Job I => semVal (kcell X (c, .inl j)) 0) ∗ Z)) e1)
    rw [← bigSep_sep', ← bigSep_sep', ← bigSep_sep']
    exact bigSep_congr fun j _ => rfl
  have E2 : (ownSems0 (osem X) c : sProp 𝕄) = iprop((bigSep Finset.univ fun j : Job I => semVal (kcell X (c, .inl j)) 0)
      ∗ bigSep Finset.univ fun p : I × Fin 7 => (semVal (kcell X (c, .inr p)) 0 : sProp 𝕄)) := by
    unfold ownSems0
    exact bigSep_univ_sum _
  rw [E1, E2]
  unfold finish
  iintro ⟨⟨Hs, Hw, H1, H2⟩, HR⟩
  isplitl [Hs Hw HR]
  · isplitl [Hs]; · iexact Hs
    isplitl [Hw] <;> iassumption
  isplitl [H1] <;> iassumption

variable (cfg : Cfg sig Λ₀) [IsEmpty (Fin cfg.W)]

/-- The region's data: it stages nothing, and its one point goes from `start'` to `finish`. -/
def dat (_ : Fin 1) (c : Dev nD) : RDat τ Val Unit ℕ (U2 nD τ sig) ℕ cfg c where
  A w := isEmptyElim w
  after w := isEmptyElim w
  Φ t := if t.val = 0 then start' X N q m H arrs R c else iprop(finish X q m R c ∗ ownSems0 (osem X) c)
  q w := isEmptyElim w
  owed t := if t.val = 0 then due X N arrs c else 0

variable (defs₀ : Defs nD τ sig Val Λ₀) (𝒱₀ : Variants) (hN : cfg.N = 1)

include hnd hall hN in
theorem dat_body (c : Dev nD) (hb : ∀ t (Q : sProp 𝕄),
      wp frame (wpE defs₀ 𝒱₀ (c.tc : Thread nD τ) none) Set.univ (body X arrs) (fun _ => Q)
        ⊢ wp frame (wpE defs₀ 𝒱₀ (c.tc : Thread nD τ) none) Set.univ (defs₀ .tc cfg.body (cfg.bodyArgs t (cfg.slots t))) (fun _ => Q)) :
    (dat X N q m H arrs R cfg 0 c).BodyObligation defs₀ 𝒱₀ () Set.univ := by
  intro t Y _
  refine BIBase.Entails.trans ?_ (hb t _)
  have h0 : t.castSucc.val = 0 := by have := t.isLt; simp only [Fin.val_castSucc]; omega
  have h1 : ¬ t.succ.val = 0 := by simp
  have he : ∀ Φ : Fin cfg.W → sProp 𝕄, bigSep Finset.univ Φ = iprop(emp) := fun Φ => by
    rw [Finset.univ_eq_empty]; exact bigSep_empty
  rw [he, he]
  unfold RDat.owesAt owesWithin
  have e1 : (dat X N q m H arrs R cfg 0 c).Φ t.castSucc = start' X N q m H arrs R c := by dsimp only [dat]; rw [if_pos h0]
  have e2 : (dat X N q m H arrs R cfg 0 c).Φ t.succ = iprop(finish X q m R c ∗ ownSems0 (osem X) c) := by dsimp only [dat]; rw [if_neg h1]
  have e3 : (dat X N q m H arrs R cfg 0 c).owed t.castSucc = due X N arrs c := by dsimp only [dat]; rw [if_pos h0]
  have e4 : (dat X N q m H arrs R cfg 0 c).owed t.succ = 0 := by dsimp only [dat]; rw [if_neg h1]
  rw [e1, e2, e3, e4]
  unfold start'
  iintro ⟨⟨%κ, #HI, He, Hw, HR⟩, ⟨%W, -, HO⟩, -⟩
  iapply (wp_body X N q m H ER κ defs₀ 𝒱₀ arrs c W)
  isplitr; · iexact HI
  isplitl [He]; · iexact He
  isplitl [Hw]; · iexact Hw
  isplitl [HO]; · iexact HO
  iintro ⟨Ho, ⟨%W', HO⟩⟩
  isplitl [Ho HR]
  · iapply (collect X q m arrs R hnd hall c)
    isplitl [Ho] <;> iassumption
  isplitl [HO]
  · iexists W'
    isplitr
    · ipureintro
      intro x _
      exact Or.inl trivial
    · iexact HO
  iempintro

include H hnd hall hN in
/-- The run. -/
theorem run_exchange [∀ e, Nonempty (Val e)] (g : Dev nD → PrngReg)
    (main : Dev nD → Prog (TpuEff nD τ sig Val (Sig Λ₀ (Fin 1) fun _ => (cfg.toPCfg (Val := Val)).Adm) .tc) PUnit)
    (win : WinFacts cfg.spec)
    (ho : OwnSemFacts cfg.spec (osem X))
    (hsc : ∀ c, (scopedRest cfg.spec c : sProp 𝕄) = (BI.emp : sProp 𝕄))
    (hb : ∀ (c : Dev nD) (t) (Q : sProp 𝕄),
      wp frame (wpE defs₀ 𝒱₀ (c.tc : Thread nD τ) none) Set.univ (body X arrs) (fun _ => Q)
        ⊢ wp frame (wpE defs₀ 𝒱₀ (c.tc : Thread nD τ) none) Set.univ (defs₀ .tc cfg.body (cfg.bodyArgs t (cfg.slots t))) (fun _ => Q))
    (hmain : ∀ c, main c = .op (.customCall (entry (0 : Fin 1)) ()) fun _ => .ret ⟨⟩)
    (hB : ∀ c, unscopedBufs c (fun b => m ((c.tc : Thread nD τ).loc b)) ⊢ iprop((bigSep Finset.univ fun j : Job I => srcPts X q m j c)
      ∗ (bigSep Finset.univ fun a : I => bigSep Finset.univ fun d : Dev nD => slotPts X m a d c) ∗ R c))
    (QY : Dev nD → MemSt nD τ sig Val → Prop)
    (hfin : ∀ c (s' : Phys nD τ sig Val), iprop(finish X q m R c ∗ SI s') ⊢ |={Set.univ}=> iprop(⌜QY c s'.mem⌝ ∗ SI s'))
    (hs : ∀ sm : SemLoc sig, sm.isScoped .tc = true) :
    θ_run (Pipeline.defs (fun _ : Fin 1 => cfg.toPCfg (Val := Val)) defs₀) (onTc main) ⟨m, fun _ => 0, g⟩
      (fun r => (∀ c : Dev nD, QY c r.2) ∧ r.2.sem = fun _ => 0) := by
  have he : ∀ Φ : Fin cfg.W → sProp 𝕄, bigSep Finset.univ Φ = iprop(emp) := fun Φ => by
    rw [Finset.univ_eq_empty]; exact bigSep_empty
  have h1 : ¬ (Fin.last cfg.N).val = 0 := by simp [hN]
  have phinj : Function.Injective (PerCore.cellOf (nD := nD) (τ := τ) (pinD (fun _ : Fin 1 => cfg.toPCfg (Val := Val)) fun _ _ => cfg.toPCfg_adm)) :=
    fun x => isEmptyElim (α := Fin cfg.W) x.2.2.1
  refine run_first (fun _ : Fin 1 => cfg.toPCfg (Val := Val)) (fun _ _ => cfg.toPCfg_adm) (dat X N q m H arrs R cfg) ()
    phinj EP defs₀ 𝒱₀ (fun _ _ => 0) m g main 0 win.to₀ (fun w => isEmptyElim (α := Fin cfg.W) w) (fun w => isEmptyElim (α := Fin cfg.W) w) ho
    (fun c => dat_body X N q m H arrs R hnd hall cfg defs₀ 𝒱₀ hN c (hb c)) (fun c => ?_) (fun _ => []) (fun c Q => ?_) (fun _ => List.nodup_nil)
    (fun _ h => nomatch h) (due X N arrs) (ghost X N q m H ER)
    (initOf (PerCore.cells (pinD (fun _ : Fin 1 => cfg.toPCfg (Val := Val)) fun _ _ => cfg.toPCfg_adm) phinj)
        (PerCore.launchToks (pinD (fun _ : Fin 1 => cfg.toPCfg (Val := Val)) fun _ _ => cfg.toPCfg_adm) phinj),
      initOf (cells X N H) (toks X N H))
    ?_ (start X N q m H ER arrs R) (start' X N q m H arrs R) (finish X q m R) (fun _ => iprop(emp))
    (fun c => iprop(finish X q m R c ∗ ∃ W, owes (c.tc : Thread nD τ) 0 W)) (finish X q m R)
    ?_ (fun c => ?_) (fun c => ?_) (fun c => ?_) (fun c => ?_) (fun c => ?_) QY hfin (fun s hs' hz => ⟨hs', ?_⟩)
  · unfold PerCore.RDat.cellsWaits
    exact Entails.of_eq (he _).symm
  · rw [hmain c]
    exact BIBase.Entails.rfl
  · iintro Hu
    ihave H := (own_both _ _) $$ Hu
    icases H with ⟨HP, HX⟩
    imod (fund_ghost X N q m H ER) $$ HX with HX
    imodintro
    isplitl [HP] <;> iassumption
  · exact deal X N q m H ER arrs hnd hall _ R hB
  · refine (start_dues X N q m H arrs R c).trans ?_
    have e3 : (dat X N q m H arrs R cfg 0 c).owed 0 = due X N arrs c := by dsimp only [dat]; rw [if_pos (show ((0 : Fin (cfg.N + 1)) : ℕ) = 0 from rfl)]
    unfold RDat.arrays prefHeld RDat.owesAt owesWithin
    rw [he, e3]
    iintro ⟨HO, HX⟩
    imodintro
    isplitr; · iempintro
    isplitr; · iempintro
    isplitl [HO]
    · iexists ∅
      isplitr; · ipureintro; rw [Finset.coe_empty]; exact Set.empty_subset _
      iexact HO
    isplitl [HX]; · iexact HX
    iempintro
  · have e1 : (dat X N q m H arrs R cfg 0 c).Φ 0 = start' X N q m H arrs R c := by dsimp only [dat]; rw [if_pos (show ((0 : Fin (cfg.N + 1)) : ℕ) = 0 from rfl)]
    rw [e1]
    iintro ⟨HX, -, -⟩
    iexact HX
  · have e2 : (dat X N q m H arrs R cfg 0 c).Φ (Fin.last cfg.N) = iprop(finish X q m R c ∗ ownSems0 (osem X) c) := by dsimp only [dat]; rw [if_neg h1]
    refine (Entails.of_eq e2).trans ?_
    iintro ⟨HX, HS⟩
    isplitl [HX]; · iexact HX
    isplitl [HS]; · iexact HS
    iapply (Entails.of_eq (hsc c).symm)
    iempintro
  · have e4 : (dat X N q m H arrs R cfg 0 c).owed (Fin.last cfg.N) = 0 := by dsimp only [dat]; rw [if_neg h1]
    unfold RDat.owesAt owesWithin
    refine BIBase.Entails.trans ?_ fupd_intro
    iintro ⟨-, ⟨%W, -, HO⟩, HX, -⟩
    isplitl [HX]; · iexact HX
    iexists W
    iapply (Entails.of_eq (congrArg (fun o => owes (c.tc : Thread nD τ) o W) e4))
    iexact HO
  · exact BIBase.Entails.rfl
  · funext g'
    exact hz g' (by
      by_cases h : g'.1.2 = .tc
      · exact Or.inr (hs _)
      · exact Or.inl h)

end

end Exchange

end
-- ==== Proof.Read.lean ====
/-
  The run of an exchange between whole arrays, read off the memory: each array of the exchange has one buffer it is read
  from and one it is written to, the program has no other unscoped buffer, and at the end every device's outputs hold, slot
  by slot, what the slot's device sent, and its inputs are as launched. With it how a whole array is dealt to the exchange: an
  input read whole by eight transfers as eight shares of it (`deal_shares`), an array cut in eight slabs along its leading
  axis as the slabs (`deal_slabs`).
-/
module

public import proofs.«01_k».proof.Proof.Run
public import Idealize.ShloMosaic.Lib.ShareLeaves
public import Idealize.ShloMosaic.Lib.ValueLayout

@[expose] public section

noncomputable section

namespace Exchange

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline Idealize.ShloMosaic.Pipeline.PerCore

set_option Elab.async false

variable {nD : Nat} {τ : Topo} {sig : RefSig} {Val : EltTy → Type} {Λ₀ : Idealize.SL.Sem.Labels}

local notation "𝕄" => MT nD τ sig Unit Val ℕ (U2 nD τ sig) ℕ

/-! ## Reading points-tos of parts of buffers -/

theorem read_parts {J : Type} [DecidableEq J] (S : Finset J) (ℓ : J → Loc nD τ sig) (K : (j : J) → Finset (Idx (ℓ j)))
    (F : (j : J) → Buf Val (ℓ j)) (q : J → PosShare TreeShare) (s' : Phys nD τ sig Val) :
    iprop((bigSep S fun j => ((ℓ j) ↦[K j]{q j} F j : sProp 𝕄)) ∗ SI s')
      ⊢ iprop(⌜∀ j ∈ S, ∀ i ∈ K j, s'.mem.mem (ℓ j) i = F j i⌝ ∗ SI s') := by
  classical
  induction S using Finset.induction_on with
  | empty =>
    iintro ⟨-, HSI⟩
    isplitr; · ipureintro; simp
    iexact HSI
  | insert j S hj ih =>
    rw [bigSep_insert hj]
    refine (show iprop((((ℓ j) ↦[K j]{q j} F j) ∗ bigSep S fun j => ((ℓ j) ↦[K j]{q j} F j : sProp 𝕄)) ∗ SI s') ⊢ _ from ?_)
    iintro ⟨⟨Hj, HS⟩, HSI⟩
    icombine HSI Hj gives %h
    ihave H := ih $$ [HS HSI]
    · isplitl [HS] <;> iassumption
    icases H with ⟨%hS, HSI⟩
    isplitr
    · ipureintro
      intro i hi
      rcases Finset.mem_insert.mp hi with rfl | hi
      exacts [h, hS i hi]
    · iexact HSI

variable {I : Type} [Fintype I] [DecidableEq I]

section

variable (X : I → Arr nD sig) (N : I → ℕ) (q : I → Option (Fin 7) → PosShare TreeShare)
  (m : (ℓ : Loc nD τ sig) → Buf Val ℓ)

/-- What the exchange leaves on device `c`: every source as launched, and in every slot what its device sent. -/
def Done (c : Dev nD) (s : MemSt nD τ sig Val) : Prop :=
  (∀ j : Job I, ∀ i ∈ ((X j.1).src j.2 c).view.set,
      s.mem (((X j.1).src j.2 c).view.loc (c.tc : Thread nD τ)) i = m (((X j.1).src j.2 c).view.loc c.tc) i)
    ∧ ∀ j : Job I, ((X j.1).slot ((X j.1).peer j.2 c)).view.read Val (s.mem (((X j.1).slot ((X j.1).peer j.2 c)).view.loc (c.tc : Thread nD τ)))
        = ((X j.1).src j.2 ((X j.1).peer j.2 c)).view.read Val
            (m (((X j.1).src j.2 ((X j.1).peer j.2 c)).view.loc (((X j.1).peer j.2 c).tc : Thread nD τ)))

variable {X N m} in
/-- The slot of device `d` holds what `d` sent to `c` by one of its transfers. -/
theorem Done.slot {c : Dev nD} {s : MemSt nD τ sig Val} (H : Facts X N) (h : Done X m c s) (a : I) (d : Dev nD) :
    ∃ o, (X a).peer o c = d ∧ ((X a).slot d).view.read Val (s.mem (((X a).slot d).view.loc (c.tc : Thread nD τ)))
      = ((X a).src o d).view.read Val (m (((X a).src o d).view.loc (d.tc : Thread nD τ))) := by
  obtain ⟨o, ho⟩ := (H.bij a c).2 d
  dsimp only at ho
  subst ho
  exact ⟨o, rfl, h.2 (a, o)⟩

theorem finish_done (c : Dev nD) (s' : Phys nD τ sig Val) :
    iprop(finish X q m (fun _ => iprop(emp)) c ∗ SI s') ⊢ (|={Set.univ}=> iprop(⌜Done X m c s'.mem⌝ ∗ SI s') : sProp 𝕄) := by
  unfold finish srcPts wrotePts
  iintro ⟨⟨Hs, Hw, -⟩, HSI⟩
  ihave H := (read_parts Finset.univ (fun j : Job I => ((X j.1).src j.2 c).view.loc (c.tc : Thread nD τ)) (fun j => ((X j.1).src j.2 c).view.set)
    (fun j => m (((X j.1).src j.2 c).view.loc (c.tc : Thread nD τ))) (fun j => q j.1 j.2) s') $$ [Hs HSI]
  · isplitl [Hs] <;> iassumption
  icases H with ⟨%h1, HSI⟩
  ihave H := (read_parts Finset.univ (fun j : Job I => ((X j.1).slot ((X j.1).peer j.2 c)).view.loc (c.tc : Thread nD τ))
    (fun j => ((X j.1).slot ((X j.1).peer j.2 c)).view.set) (fun j => wrote X m j ((X j.1).peer j.2 c) c) (fun _ => fullShare) s') $$ [Hw HSI]
  · isplitl [Hw] <;> iassumption
  icases H with ⟨%h2, HSI⟩
  imodintro
  isplitr
  · ipureintro
    refine ⟨fun j => h1 j (Finset.mem_univ j), fun j => ?_⟩
    refine (View.read_congr (h2 j (Finset.mem_univ j))).trans ?_
    exact View.read_write_univ _ _
  · iexact HSI

variable (H : Facts X N) (arrs : List I) (hnd : (jobs arrs).Nodup) (hall : ∀ j, j ∈ jobs arrs)
  (cfg : Cfg sig Λ₀) [IsEmpty (Fin cfg.W)] (defs₀ : Defs nD τ sig Val Λ₀) (𝒱₀ : Variants) (hN : cfg.N = 1)

/-- The unscoped buffers, when they are the arrays' inputs and outputs. -/
theorem bufs_split (inB outB : I → Ref sig .tc) (hinj : Function.Injective (Sum.elim inB outB))
    (hbufs : (Finset.univ.filter fun b : Ref sig .tc => ¬ b.isScoped) = Finset.univ.image (Sum.elim inB outB))
    (hin : ∀ a (c : Dev nD), (((c.tc : Thread nD τ).loc (inB a)) ↦{fullShare} m ((c.tc : Thread nD τ).loc (inB a)) : sProp 𝕄)
      = bigSep Finset.univ fun o => srcPts X q m (a, o) c)
    (hout : ∀ a (c : Dev nD), (((c.tc : Thread nD τ).loc (outB a)) ↦{fullShare} m ((c.tc : Thread nD τ).loc (outB a)) : sProp 𝕄)
      = bigSep Finset.univ fun d => slotPts X m a d c) (c : Dev nD) :
    (unscopedBufs c (fun b => m ((c.tc : Thread nD τ).loc b)) : sProp 𝕄)
      ⊢ iprop((bigSep Finset.univ fun j : Job I => srcPts X q m j c)
        ∗ (bigSep Finset.univ fun a : I => bigSep Finset.univ fun d : Dev nD => slotPts X m a d c) ∗ emp) := by
  unfold unscopedBufs
  rw [hbufs, bigSep_image_of_injOn (hinj.injOn), BI.bigSep_univ_sum, BI.bigSep_univ_prod]
  have e1 : (bigSep Finset.univ fun a : I => bigSep Finset.univ fun o => srcPts X q m (a, o) c : sProp 𝕄)
      = bigSep Finset.univ fun a : I => (((c.tc : Thread nD τ).loc (inB a)) ↦{fullShare} m ((c.tc : Thread nD τ).loc (inB a)) : sProp 𝕄) :=
    bigSep_congr fun a _ => (hin a c).symm
  have e2 : (bigSep Finset.univ fun a : I => bigSep Finset.univ fun d : Dev nD => slotPts X m a d c : sProp 𝕄)
      = bigSep Finset.univ fun a : I => (((c.tc : Thread nD τ).loc (outB a)) ↦{fullShare} m ((c.tc : Thread nD τ).loc (outB a)) : sProp 𝕄) :=
    bigSep_congr fun a _ => (hout a c).symm
  rw [e1, e2]
  refine (show (iprop((bigSep Finset.univ fun a : I => (((c.tc : Thread nD τ).loc (inB a)) ↦{fullShare} m ((c.tc : Thread nD τ).loc (inB a)) : sProp 𝕄))
    ∗ bigSep Finset.univ fun a : I => (((c.tc : Thread nD τ).loc (outB a)) ↦{fullShare} m ((c.tc : Thread nD τ).loc (outB a)) : sProp 𝕄)) : sProp 𝕄) ⊢ _ from ?_)
  iintro ⟨H1, H2⟩
  isplitl [H1]; · iexact H1
  isplitl [H2]; · iexact H2
  iempintro

include H hnd hall hN in
/-- The run of an exchange between whole arrays. -/
theorem run_done [∀ e, Nonempty (Val e)] (g : Dev nD → PrngReg)
    (main : Dev nD → Prog (TpuEff nD τ sig Val (Sig Λ₀ (Fin 1) fun _ => (cfg.toPCfg (Val := Val)).Adm) .tc) PUnit)
    (win : WinFacts cfg.spec)
    (ho : OwnSemFacts cfg.spec (osem X))
    (hsc : ∀ c, (scopedRest cfg.spec c : sProp 𝕄) = (BI.emp : sProp 𝕄))
    (hb : ∀ (c : Dev nD) (t) (Q : sProp 𝕄),
      wp frame (wpE defs₀ 𝒱₀ (c.tc : Thread nD τ) none) Set.univ (body X arrs) (fun _ => Q)
        ⊢ wp frame (wpE defs₀ 𝒱₀ (c.tc : Thread nD τ) none) Set.univ (defs₀ .tc cfg.body (cfg.bodyArgs t (cfg.slots t))) (fun _ => Q))
    (hmain : ∀ c, main c = .op (.customCall (entry (0 : Fin 1)) ()) fun _ => .ret ⟨⟩)
    (hs : ∀ sm : SemLoc sig, sm.isScoped .tc = true)
    (inB outB : I → Ref sig .tc) (hinj : Function.Injective (Sum.elim inB outB))
    (hbufs : (Finset.univ.filter fun b : Ref sig .tc => ¬ b.isScoped) = Finset.univ.image (Sum.elim inB outB))
    (hin : ∀ a (c : Dev nD), (((c.tc : Thread nD τ).loc (inB a)) ↦{fullShare} m ((c.tc : Thread nD τ).loc (inB a)) : sProp 𝕄)
      = bigSep Finset.univ fun o => srcPts X q m (a, o) c)
    (hout : ∀ a (c : Dev nD), (((c.tc : Thread nD τ).loc (outB a)) ↦{fullShare} m ((c.tc : Thread nD τ).loc (outB a)) : sProp 𝕄)
      = bigSep Finset.univ fun d => slotPts X m a d c) :
    θ_run (Pipeline.defs (fun _ : Fin 1 => cfg.toPCfg (Val := Val)) defs₀) (onTc main) ⟨m, fun _ => 0, g⟩
      (fun r => (∀ c : Dev nD, Done X m c r.2) ∧ r.2.sem = fun _ => 0) :=
  run_exchange X N q m H arrs (fun _ => iprop(emp)) hnd hall cfg defs₀ 𝒱₀ hN g main win ho hsc
    hb hmain (bufs_split X q m inB outB hinj hbufs hin hout) (Done X m) (finish_done X q m) hs

end

/-! ## A whole array, in eight shares -/

/-- The eight jobs of an array, counted. -/
def jobEquiv : Option (Fin 7) ≃ Fin (2 ^ 3) := (finSuccEquiv 7).symm

/-- The share of a whole input that a job reads it at. -/
def eighth (o : Option (Fin 7)) : PosShare TreeShare := ShareLeaves.leaf 3 fullShare (jobEquiv o)

theorem deal_shares {ℓ : Loc nD τ sig} (K : Finset (Idx ℓ)) (f : Buf Val ℓ) :
    (ℓ ↦[K]{fullShare} f : sProp 𝕄) = bigSep Finset.univ fun o : Option (Fin 7) => ℓ ↦[K]{eighth o} f := by
  rw [ShareLeaves.pointsTo_leaves K f 3 fullShare, BI.bigSep_univ_equiv jobEquiv]
  rfl

/-! ## An array cut in slabs along its leading axis -/

section Slabs

variable {n r c : Nat} {e : EltTy}

/-- One slab of an array, as a matrix. -/
abbrev slab (M : Memref sig .tc .hbm ⟨3, ![n, r, c]⟩ e) (off : Fin 3 → ℕ)
    (inb : ∀ a, off a + (⟨3, ![1, r, c]⟩ : Shape).size a ≤ (⟨3, ![n, r, c]⟩ : Shape).size a)
    (hq : (⟨3, ![1, r, c]⟩ : Shape).Squeezes ⟨2, ![r, c]⟩) : Memref sig .tc .hbm ⟨2, ![r, c]⟩ e :=
  (M.slice (Rect.unit (s := ⟨3, ![n, r, c]⟩) off (⟨3, ![1, r, c]⟩ : Shape).size inb) (fun _ => rfl)).squeeze ⟨2, ![r, c]⟩ hq

variable (M : Memref sig .tc .hbm ⟨3, ![n, r, c]⟩ e) {off : Fin 3 → ℕ}
    (inb : ∀ a, off a + (⟨3, ![1, r, c]⟩ : Shape).size a ≤ (⟨3, ![n, r, c]⟩ : Shape).size a)
    (hq : (⟨3, ![1, r, c]⟩ : Shape).Squeezes ⟨2, ![r, c]⟩)

theorem slab_emb {k : Fin n} (h : off = ![k.val, 0, 0]) (x : Fin r) (y : Fin c) :
    (slab M off inb hq).view.emb (ix2 x y) = M.view.emb (ix3 k x y) := by
  subst h
  show M.view.emb ((Rect.unit (s := ⟨3, ![n, r, c]⟩) ![k.val, 0, 0] (⟨3, ![1, r, c]⟩ : Shape).size inb).emb (Shape.reshapeEquiv hq.numel_eq (ix2 x y))) = _
  rw [reshapeEquiv_ix2_1ab hq.numel_eq x y]
  refine congrArg M.view.emb (funext fun a => Fin.ext ?_)
  match a with
  | ⟨0, _⟩ => show k.val + 1 * 0 = k.val; omega
  | ⟨1, _⟩ => show 0 + 1 * x.val = x.val; omega
  | ⟨2, _⟩ => show 0 + 1 * y.val = y.val; omega

theorem slab_read {k : Fin n} (h : off = ![k.val, 0, 0]) (f : M.view.ty.Contents Val) (x : Fin r) (y : Fin c) :
    (slab M off inb hq).view.read Val f (ix2 x y) = M.view.read Val f (ix3 k x y) := by
  rw [View.read_apply, View.read_apply, slab_emb M inb hq h x y]

theorem mem_slab {k : Fin n} (h : off = ![k.val, 0, 0]) (i : M.view.ty.Idx) :
    i ∈ (slab M off inb hq).view.set ↔ ∃ x y, M.view.emb (ix3 k x y) = i := by
  unfold View.set
  rw [Finset.mem_map]
  constructor
  · rintro ⟨j, -, rfl⟩
    refine ⟨j 0, j 1, ?_⟩
    rw [eq_ix2 j]
    exact (slab_emb M inb hq h _ _).symm
  · rintro ⟨x, y, rfl⟩
    exact ⟨ix2 x y, Finset.mem_univ _, slab_emb M inb hq h x y⟩

/-- Every element of a whole array is in one of its slabs. -/
theorem slabs_cover {T : Type} (hM : M.view.set = Finset.univ) (off : T → Fin 3 → ℕ)
    (inb : ∀ t a, off t a + (⟨3, ![1, r, c]⟩ : Shape).size a ≤ (⟨3, ![n, r, c]⟩ : Shape).size a) (k : T → Fin n)
    (hk : Function.Surjective k) (h : ∀ t, off t = ![(k t).val, 0, 0]) (i : M.view.ty.Idx) :
    ∃ t, i ∈ (slab M (off t) (inb t) hq).view.set := by
  have hi : i ∈ M.view.set := hM ▸ Finset.mem_univ i
  unfold View.set at hi
  obtain ⟨j, -, rfl⟩ := Finset.mem_map.mp hi
  obtain ⟨t, ht⟩ := hk (j 0)
  refine ⟨t, (mem_slab M (inb t) hq (h t) _).mpr ⟨j 1, j 2, ?_⟩⟩
  rw [ht]
  exact congrArg M.view.emb (eq_ix3 j).symm

/-- A whole array is its slabs. -/
theorem deal_slabs {T : Type} [Fintype T] [DecidableEq T] (hM : M.view.set = Finset.univ) (off : T → Fin 3 → ℕ)
    (inb : ∀ t a, off t a + (⟨3, ![1, r, c]⟩ : Shape).size a ≤ (⟨3, ![n, r, c]⟩ : Shape).size a) (k : T → Fin n)
    (hk : Function.Bijective k) (h : ∀ t, off t = ![(k t).val, 0, 0]) (p : PosShare TreeShare) (d : Dev nD)
    (f : Buf Val (M.view.loc (d.tc : Thread nD τ))) :
    (M.view.loc (d.tc : Thread nD τ) ↦{p} f : sProp 𝕄)
      = bigSep Finset.univ fun t : T => M.view.loc (d.tc : Thread nD τ) ↦[(slab M (off t) (inb t) hq).view.set]{p} f := by
  classical
  have hu : (Finset.univ : Finset T).biUnion (fun t => (slab M (off t) (inb t) hq).view.set) = (Finset.univ : Finset M.view.ty.Idx) := by
    refine Finset.eq_univ_of_forall fun i => ?_
    obtain ⟨t, ht⟩ := slabs_cover M hq hM off inb k hk.2 h i
    exact Finset.mem_biUnion.mpr ⟨t, Finset.mem_univ t, ht⟩
  rw [← pointsTo_biUnion]
  · exact congrArg (fun K => (M.view.loc (d.tc : Thread nD τ) ↦[K]{p} f : sProp 𝕄)) hu.symm
  · intro t _ t' _ hne
    refine Finset.disjoint_left.mpr fun i hi hi' => hne (hk.1 ?_)
    obtain ⟨x, y, rfl⟩ := (mem_slab M (inb t) hq (h t) i).mp hi
    obtain ⟨x', y', e⟩ := (mem_slab M (inb t') hq (h t') _).mp hi'
    exact (congrFun (M.view.emb.injective e) 0).symm

end Slabs

end Exchange

end
-- ==== Proof.Scatter.lean ====
/-
  The exchange of the weights' gradients: four arrays, each of eight slabs, of which every device sends slab `d` to device `d`.
-/
module

public import proofs.«01_k».proof.Proof.Read
public import proofs.«01_k».proof.Proof.Gen.ScatterIdeal.Skeleton
public import proofs.«01_k».proof.Proof.Gen.ScatterIdeal.Launch
public import proofs.«01_k».proof.Proof.Gen.ScatterIdeal.Points

@[expose] public section

noncomputable section

namespace Cert.ScatterIdeal.Run

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline
open Cert.ScatterIdeal Exchange

set_option Elab.async false

variable {F : FTy → Type} [FloatOps F]

/-- The device a job is about: the device itself, or a peer; -/
def pdev (k : Fin 7) (d : Dev nD) : Dev nD :=
  match k with
  | 0 => ⟨k0_dev1 d, Gen.k0_dev1_lt d⟩ | 1 => ⟨k0_dev2 d, Gen.k0_dev2_lt d⟩ | 2 => ⟨k0_dev3 d, Gen.k0_dev3_lt d⟩
  | 3 => ⟨k0_dev4 d, Gen.k0_dev4_lt d⟩ | 4 => ⟨k0_dev5 d, Gen.k0_dev5_lt d⟩ | 5 => ⟨k0_dev6 d, Gen.k0_dev6_lt d⟩ | 6 => ⟨k0_dev7 d, Gen.k0_dev7_lt d⟩
def peer (o : Option (Fin 7)) (d : Dev nD) : Dev nD :=
  match o with
  | none => d
  | some k => pdev k d
/-- the offset of its slab. -/
def off (o : Option (Fin 7)) (d : Dev nD) : Fin 3 → ℕ :=
  match o with
  | none => k0_off1 d
  | some 0 => k0_off2 d | some 1 => k0_off3 d | some 2 => k0_off4 d | some 3 => k0_off5 d | some 4 => k0_off6 d | some 5 => k0_off7 d | some 6 => k0_off8 d

theorem off_eq : ∀ (o : Option (Fin 7)) (d : Dev nD), off o d = ![(peer o d).val, 0, 0] := by decide +kernel
theorem pdev_back : ∀ (k : Fin 7) (d : Dev nD), pdev k (pdev k d) = d := by decide +kernel
theorem peer_bij : ∀ d : Dev nD, Function.Bijective fun o => peer o d := by decide +kernel
theorem peer_back (o : Option (Fin 7)) (d : Dev nD) : peer o (peer o d) = d :=
  match o with
  | none => rfl
  | some k => pdev_back k d

theorem inb_2048x2824 : ∀ (o : Option (Fin 7)) (d : Dev nD) (a : Fin 3), off o d a + S1x2048x2824.size a ≤ S8x2048x2824.size a := by decide +kernel
theorem words_2048x2824 : ∀ (o : Option (Fin 7)) (d : Dev nD),
    (Rect.unit (s := S8x2048x2824) (off o d) S1x2048x2824.size (inb_2048x2824 o d)).WholeWords (EltTy.packing .bf16) := by decide +kernel
theorem inb_256x2048 : ∀ (o : Option (Fin 7)) (d : Dev nD) (a : Fin 3), off o d a + S1x256x2048.size a ≤ S8x256x2048.size a := by decide +kernel
theorem words_256x2048 : ∀ (o : Option (Fin 7)) (d : Dev nD),
    (Rect.unit (s := S8x256x2048) (off o d) S1x256x2048.size (inb_256x2048 o d)).WholeWords (EltTy.packing .bf16) := by decide +kernel
theorem inb_512x2048 : ∀ (o : Option (Fin 7)) (d : Dev nD) (a : Fin 3), off o d a + S1x512x2048.size a ≤ S8x512x2048.size a := by decide +kernel
theorem words_512x2048 : ∀ (o : Option (Fin 7)) (d : Dev nD),
    (Rect.unit (s := S8x512x2048) (off o d) S1x512x2048.size (inb_512x2048 o d)).WholeWords (EltTy.packing .bf16) := by decide +kernel

/-- An array of the exchange: number `a`, read from `M` and written to `M'`. -/
def arr (a : Fin 4) (r c : ℕ) (M M' : Memref sig .tc .hbm ⟨3, ![8, r, c]⟩ .bf16) (hM : M.IsWhole) (hM' : M'.IsWhole)
    (inb : ∀ (o : Option (Fin 7)) (d : Dev nD) (i : Fin 3), off o d i + (⟨3, ![1, r, c]⟩ : Shape).size i ≤ (⟨3, ![8, r, c]⟩ : Shape).size i)
    (words : ∀ (o : Option (Fin 7)) (d : Dev nD),
      (Rect.unit (s := ⟨3, ![8, r, c]⟩) (off o d) (⟨3, ![1, r, c]⟩ : Shape).size (inb o d)).WholeWords (EltTy.packing .bf16))
    (hq : (⟨3, ![1, r, c]⟩ : Shape).Squeezes ⟨2, ![r, c]⟩) (hu : M'.view.ref.isScScratch = false) : Arr nD sig where
  s := ⟨2, ![r, c]⟩
  e := .bf16
  src o d := slab M (off o d) (inb o d) hq
  slot d := slab M' (off none d) (inb none d) hq
  pslot k d := slab M' (off (some k) d) (inb (some k) d) hq
  dev := pdev
  loc := ⟨56 + a.val, by have := a.isLt; show _ < 60; omega⟩
  snd k := ⟨7 * a.val + k.val, by have := a.isLt; have := k.isLt; show _ < 60; omega⟩
  rcv k := ⟨28 + (7 * a.val + k.val), by have := a.isLt; have := k.isLt; show _ < 60; omega⟩
  src_ok o d := (hM.wordExact_slice rfl _ (words o d)).reshape _ _
  slot_ok d := (hM'.wordExact_slice rfl _ (words none d)).reshape _ _
  pslot_ok k d := (hM'.wordExact_slice rfl _ (words (some k) d)).reshape _ _
  unscratch _ := hu

/-- The arrays of the exchange. -/
def X (a : Fin 4) : Arr nD sig :=
  match a with
  | 0 => arr 0 2048 2824 (Memref.whole main_arg0) (Memref.whole main_v1_0) (Memref.isWhole_whole _) (Memref.isWhole_whole _) inb_2048x2824 words_2048x2824
      Gen.squeezes_S1x2048x2824_S2048x2824 rfl
  | 1 => arr 1 256 2048 (Memref.whole main_arg1) (Memref.whole main_v1_1) (Memref.isWhole_whole _) (Memref.isWhole_whole _) inb_256x2048 words_256x2048
      Gen.squeezes_S1x256x2048_S256x2048 rfl
  | 2 => arr 2 512 2048 (Memref.whole main_arg2) (Memref.whole main_v1_2) (Memref.isWhole_whole _) (Memref.isWhole_whole _) inb_512x2048 words_512x2048
      Gen.squeezes_S1x512x2048_S512x2048 rfl
  | 3 => arr 3 256 2048 (Memref.whole main_arg3) (Memref.whole main_v1_3) (Memref.isWhole_whole _) (Memref.isWhole_whole _) inb_256x2048 words_256x2048
      Gen.squeezes_S1x256x2048_S256x2048 rfl

set_option maxRecDepth 65536 in
theorem body_eq (t : Fin cfg0.N) : Gen.bodyAt0 (F := F) t = body X [0, 1, 2, 3] := by
  rfl

/-- The units of an array's transfers. -/
def N (a : Fin 4) : ℕ :=
  match a with
  | 0 => RefSig.tileCredit S2048x2824 .bf16
  | 1 => RefSig.tileCredit S256x2048 .bf16
  | 2 => RefSig.tileCredit S512x2048 .bf16
  | 3 => RefSig.tileCredit S256x2048 .bf16

theorem sems_inj : Function.Injective (osem X) := by decide +kernel
theorem N_pos : ∀ a, 0 < N a
  | 0 => RefSig.tileCredit_pos S2048x2824 .bf16 (by decide)
  | 1 => RefSig.tileCredit_pos S256x2048 .bf16 (by decide)
  | 2 => RefSig.tileCredit_pos S512x2048 .bf16 (by decide)
  | 3 => RefSig.tileCredit_pos S256x2048 .bf16 (by decide)
theorem dev_eq : ∀ (a : Fin 4), (X a).dev = pdev
  | 0 => rfl
  | 1 => rfl
  | 2 => rfl
  | 3 => rfl
theorem slot_credit : ∀ (a : Fin 4) (d : Dev nD), ((X a).slot d).view.dmaCredit = N a
  | 0, _ => rfl
  | 1, _ => rfl
  | 2, _ => rfl
  | 3, _ => rfl
theorem pslot_credit : ∀ (a : Fin 4) (k : Fin 7) (d : Dev nD), ((X a).pslot k d).view.dmaCredit = N a
  | 0, _, _ => rfl
  | 1, _, _ => rfl
  | 2, _, _ => rfl
  | 3, _, _ => rfl
theorem src_credit : ∀ (a : Fin 4) (k : Fin 7) (d : Dev nD), ((X a).src (some k) d).view.dmaCredit = N a
  | 0, _, _ => rfl
  | 1, _, _ => rfl
  | 2, _, _ => rfl
  | 3, _, _ => rfl
theorem X_peer (a : Fin 4) (o : Option (Fin 7)) (d : Dev nD) : (X a).peer o d = peer o d :=
  match o with
  | none => rfl
  | some k => congrFun (congrFun (dev_eq a) k) d

theorem facts : Exchange.Facts X N where
  inj := sems_inj
  pos := N_pos
  slot_credit := slot_credit
  pslot_credit := pslot_credit
  src_credit := src_credit
  back a k d := by rw [dev_eq a]; exact pdev_back k d
  bij a d := by
    rw [show (fun o => (X a).peer o d) = fun o => peer o d from funext fun o => X_peer a o d]
    exact peer_bij d

theorem jobs_nodup : (jobs [(0 : Fin 4), 1, 2, 3]).Nodup := by decide
theorem jobs_all : ∀ j, j ∈ jobs [(0 : Fin 4), 1, 2, 3] := by decide

theorem ownSems : OwnSemFacts cfg0.spec (osem X) := by decide

/-- The buffers the arrays are read from and written to. -/
def inB (a : Fin 4) : Ref sig .tc :=
  match a with
  | 0 => main_arg0
  | 1 => main_arg1
  | 2 => main_arg2
  | 3 => main_arg3
def outB (a : Fin 4) : Ref sig .tc :=
  match a with
  | 0 => main_v1_0
  | 1 => main_v1_1
  | 2 => main_v1_2
  | 3 => main_v1_3

variable (m : (ℓ : Loc nD τ sig) → Buf (Elt F) ℓ) (g : Dev nD → PrngReg)

set_option maxRecDepth 65536 in
/-- The run: every device's inputs as launched, slab `d` of every output what device `d` sent. -/
theorem run : θ_run defs (onTc (τ := τ) (main (F := F))) ⟨m, fun _ => 0, g⟩
    (fun r => (∀ c : Dev nD, Done X m c r.2) ∧ r.2.sem = fun _ => 0) := by
  refine run_done X N (fun _ _ => fullShare) m facts [0, 1, 2, 3] jobs_nodup jobs_all cfg0 defs₀ Variants.none Gen.N_0 g main Gen.winFacts0 ownSems
    Gen.scopedRest0_eq (fun c t Q => ?_) (fun c => rfl) (by decide) inB outB (by decide) (by decide) (fun a c => ?_) (fun a c => ?_)
  · rw [← body_eq t]
    exact BIBase.Entails.rfl
  · match a with
    | 0 =>
      exact deal_slabs (n := 8) (r := 2048) (c := 2824) (Memref.whole main_arg0) Gen.squeezes_S1x2048x2824_S2048x2824 (View.set_whole main_arg0)
        (fun o => off o c) (fun o => inb_2048x2824 o c) (fun o => peer o c) (peer_bij c) (fun o => off_eq o c) fullShare c _
    | 1 =>
      exact deal_slabs (n := 8) (r := 256) (c := 2048) (Memref.whole main_arg1) Gen.squeezes_S1x256x2048_S256x2048 (View.set_whole main_arg1)
        (fun o => off o c) (fun o => inb_256x2048 o c) (fun o => peer o c) (peer_bij c) (fun o => off_eq o c) fullShare c _
    | 2 =>
      exact deal_slabs (n := 8) (r := 512) (c := 2048) (Memref.whole main_arg2) Gen.squeezes_S1x512x2048_S512x2048 (View.set_whole main_arg2)
        (fun o => off o c) (fun o => inb_512x2048 o c) (fun o => peer o c) (peer_bij c) (fun o => off_eq o c) fullShare c _
    | 3 =>
      exact deal_slabs (n := 8) (r := 256) (c := 2048) (Memref.whole main_arg3) Gen.squeezes_S1x256x2048_S256x2048 (View.set_whole main_arg3)
        (fun o => off o c) (fun o => inb_256x2048 o c) (fun o => peer o c) (peer_bij c) (fun o => off_eq o c) fullShare c _
  · match a with
    | 0 =>
      exact deal_slabs (n := 8) (r := 2048) (c := 2824) (Memref.whole main_v1_0) Gen.squeezes_S1x2048x2824_S2048x2824 (View.set_whole main_v1_0)
        (off none) (inb_2048x2824 none) id Function.bijective_id (off_eq none) fullShare c _
    | 1 =>
      exact deal_slabs (n := 8) (r := 256) (c := 2048) (Memref.whole main_v1_1) Gen.squeezes_S1x256x2048_S256x2048 (View.set_whole main_v1_1)
        (off none) (inb_256x2048 none) id Function.bijective_id (off_eq none) fullShare c _
    | 2 =>
      exact deal_slabs (n := 8) (r := 512) (c := 2048) (Memref.whole main_v1_2) Gen.squeezes_S1x512x2048_S512x2048 (View.set_whole main_v1_2)
        (off none) (inb_512x2048 none) id Function.bijective_id (off_eq none) fullShare c _
    | 3 =>
      exact deal_slabs (n := 8) (r := 256) (c := 2048) (Memref.whole main_v1_3) Gen.squeezes_S1x256x2048_S256x2048 (View.set_whole main_v1_3)
        (off none) (inb_256x2048 none) id Function.bijective_id (off_eq none) fullShare c _

variable {m}

theorem in_eq0 {c : Dev nD} {s : MemSt nD τ sig (Elt F)} (h : Done X m c s) :
    s.mem ((c.tc : Thread nD τ).loc main_arg0) = m ((c.tc : Thread nD τ).loc main_arg0) := by
  funext i
  obtain ⟨o, ho⟩ := slabs_cover (n := 8) (r := 2048) (c := 2824) (Memref.whole main_arg0) Gen.squeezes_S1x2048x2824_S2048x2824 (View.set_whole main_arg0)
    (fun o => off o c) (fun o => inb_2048x2824 o c) (fun o => peer o c) (peer_bij c).2 (fun o => off_eq o c) i
  exact h.1 (0, o) i ho

theorem out_eq0 {c : Dev nD} {s : MemSt nD τ sig (Elt F)} (h : Done X m c s) (d : Dev nD) (x : Fin 2048) (y : Fin 2824) :
    s.mem ((c.tc : Thread nD τ).loc main_v1_0) (ix3 (n0 := 8) d x y) = m ((d.tc : Thread nD τ).loc main_arg0) (ix3 (n0 := 8) c x y) := by
  obtain ⟨o, hd, e⟩ := h.slot facts 0 d
  have hc : peer o d = c := by rw [← hd, X_peer]; exact peer_back o c
  exact (slab_read (n := 8) (Memref.whole main_v1_0) (inb_2048x2824 none d) Gen.squeezes_S1x2048x2824_S2048x2824 (k := d) (off_eq none d) _ x y).symm.trans
    ((congrFun e (ix2 x y)).trans
      (slab_read (n := 8) (Memref.whole main_arg0) (inb_2048x2824 o d) Gen.squeezes_S1x2048x2824_S2048x2824 (k := c) ((off_eq o d).trans (by rw [hc])) _ x y))

theorem in_eq1 {c : Dev nD} {s : MemSt nD τ sig (Elt F)} (h : Done X m c s) :
    s.mem ((c.tc : Thread nD τ).loc main_arg1) = m ((c.tc : Thread nD τ).loc main_arg1) := by
  funext i
  obtain ⟨o, ho⟩ := slabs_cover (n := 8) (r := 256) (c := 2048) (Memref.whole main_arg1) Gen.squeezes_S1x256x2048_S256x2048 (View.set_whole main_arg1)
    (fun o => off o c) (fun o => inb_256x2048 o c) (fun o => peer o c) (peer_bij c).2 (fun o => off_eq o c) i
  exact h.1 (1, o) i ho

theorem out_eq1 {c : Dev nD} {s : MemSt nD τ sig (Elt F)} (h : Done X m c s) (d : Dev nD) (x : Fin 256) (y : Fin 2048) :
    s.mem ((c.tc : Thread nD τ).loc main_v1_1) (ix3 (n0 := 8) d x y) = m ((d.tc : Thread nD τ).loc main_arg1) (ix3 (n0 := 8) c x y) := by
  obtain ⟨o, hd, e⟩ := h.slot facts 1 d
  have hc : peer o d = c := by rw [← hd, X_peer]; exact peer_back o c
  exact (slab_read (n := 8) (Memref.whole main_v1_1) (inb_256x2048 none d) Gen.squeezes_S1x256x2048_S256x2048 (k := d) (off_eq none d) _ x y).symm.trans
    ((congrFun e (ix2 x y)).trans
      (slab_read (n := 8) (Memref.whole main_arg1) (inb_256x2048 o d) Gen.squeezes_S1x256x2048_S256x2048 (k := c) ((off_eq o d).trans (by rw [hc])) _ x y))

theorem in_eq2 {c : Dev nD} {s : MemSt nD τ sig (Elt F)} (h : Done X m c s) :
    s.mem ((c.tc : Thread nD τ).loc main_arg2) = m ((c.tc : Thread nD τ).loc main_arg2) := by
  funext i
  obtain ⟨o, ho⟩ := slabs_cover (n := 8) (r := 512) (c := 2048) (Memref.whole main_arg2) Gen.squeezes_S1x512x2048_S512x2048 (View.set_whole main_arg2)
    (fun o => off o c) (fun o => inb_512x2048 o c) (fun o => peer o c) (peer_bij c).2 (fun o => off_eq o c) i
  exact h.1 (2, o) i ho

theorem out_eq2 {c : Dev nD} {s : MemSt nD τ sig (Elt F)} (h : Done X m c s) (d : Dev nD) (x : Fin 512) (y : Fin 2048) :
    s.mem ((c.tc : Thread nD τ).loc main_v1_2) (ix3 (n0 := 8) d x y) = m ((d.tc : Thread nD τ).loc main_arg2) (ix3 (n0 := 8) c x y) := by
  obtain ⟨o, hd, e⟩ := h.slot facts 2 d
  have hc : peer o d = c := by rw [← hd, X_peer]; exact peer_back o c
  exact (slab_read (n := 8) (Memref.whole main_v1_2) (inb_512x2048 none d) Gen.squeezes_S1x512x2048_S512x2048 (k := d) (off_eq none d) _ x y).symm.trans
    ((congrFun e (ix2 x y)).trans
      (slab_read (n := 8) (Memref.whole main_arg2) (inb_512x2048 o d) Gen.squeezes_S1x512x2048_S512x2048 (k := c) ((off_eq o d).trans (by rw [hc])) _ x y))

theorem in_eq3 {c : Dev nD} {s : MemSt nD τ sig (Elt F)} (h : Done X m c s) :
    s.mem ((c.tc : Thread nD τ).loc main_arg3) = m ((c.tc : Thread nD τ).loc main_arg3) := by
  funext i
  obtain ⟨o, ho⟩ := slabs_cover (n := 8) (r := 256) (c := 2048) (Memref.whole main_arg3) Gen.squeezes_S1x256x2048_S256x2048 (View.set_whole main_arg3)
    (fun o => off o c) (fun o => inb_256x2048 o c) (fun o => peer o c) (peer_bij c).2 (fun o => off_eq o c) i
  exact h.1 (3, o) i ho

theorem out_eq3 {c : Dev nD} {s : MemSt nD τ sig (Elt F)} (h : Done X m c s) (d : Dev nD) (x : Fin 256) (y : Fin 2048) :
    s.mem ((c.tc : Thread nD τ).loc main_v1_3) (ix3 (n0 := 8) d x y) = m ((d.tc : Thread nD τ).loc main_arg3) (ix3 (n0 := 8) c x y) := by
  obtain ⟨o, hd, e⟩ := h.slot facts 3 d
  have hc : peer o d = c := by rw [← hd, X_peer]; exact peer_back o c
  exact (slab_read (n := 8) (Memref.whole main_v1_3) (inb_256x2048 none d) Gen.squeezes_S1x256x2048_S256x2048 (k := d) (off_eq none d) _ x y).symm.trans
    ((congrFun e (ix2 x y)).trans
      (slab_read (n := 8) (Memref.whole main_arg3) (inb_256x2048 o d) Gen.squeezes_S1x256x2048_S256x2048 (k := c) ((off_eq o d).trans (by rw [hc])) _ x y))

end Cert.ScatterIdeal.Run

end
-- ==== Proof.Value.lean ====
/-
  The exchanges' results, index by index, as the reference computes them from the whole arrays: the blocks of a matrix cut
  along its rows or its columns stacked (`stack_rows`, `stack_cols`), and the stacks of slabs with source and destination
  swapped (`swap_slabs`).
-/
module

public import Idealize.ShloMosaic.Lib.ValueLayout
public import Idealize.ShloMosaic.Lib.Layout

@[expose] public section

noncomputable section

namespace Exchange

open Idealize.ShloMosaic Idealize.ShloMosaic.ValueIdx

variable {α : Type} {r c R C : Nat}

theorem stack_rows (v : (⟨2, ![R, c]⟩ : Shape).Idx → α) (h : Layout.Tiles ⟨2, ![r, c]⟩ ⟨2, ![R, c]⟩ 0 8)
    (hs : (⟨2, ![R, c]⟩ : Shape).ShapeCasts ⟨3, ![8, r, c]⟩) (d : Fin 8) (x : Fin r) (y : Fin c) :
    Layout.block ⟨2, ![r, c]⟩ ⟨2, ![R, c]⟩ 0 8 d v h (ix2 x y) = shapeCast ⟨3, ![8, r, c]⟩ v hs (ix3 d x y) := by
  rw [Layout.block_apply]
  refine (shapeCast_apply v hs _ _ ?_).symm
  rw [Shape.rowMajor_val_two, Shape.rowMajor_val_three]
  rfl

theorem stack_cols (v : (⟨2, ![r, C]⟩ : Shape).Idx → α) (h : Layout.Tiles ⟨2, ![r, c]⟩ ⟨2, ![r, C]⟩ 1 8)
    (hs : (⟨2, ![r, C]⟩ : Shape).ShapeCasts ⟨3, ![r, 8, c]⟩)
    (ht : (⟨3, ![r, 8, c]⟩ : Shape).Transposes [1, 0, 2] ⟨3, ![8, r, c]⟩) (d : Fin 8) (x : Fin r) (y : Fin c) :
    Layout.block ⟨2, ![r, c]⟩ ⟨2, ![r, C]⟩ 1 8 d v h (ix2 x y)
      = transpose ⟨3, ![8, r, c]⟩ [1, 0, 2] (shapeCast ⟨3, ![r, 8, c]⟩ v hs) ht (ix3 d x y) := by
  have hC : C = 8 * c := h.2 1
  rw [Layout.block_apply, transpose_apply _ _ ht (ix3 d x y) (ix3 x d y) (fun a => match a with | ⟨0, _⟩ => rfl | ⟨1, _⟩ => rfl | ⟨2, _⟩ => rfl)]
  refine (shapeCast_apply v hs _ _ ?_).symm
  rw [Shape.rowMajor_val_two, Shape.rowMajor_val_three]
  show x.val * C + (d.val * c + y.val) = (x.val * 8 + d.val) * c + y.val
  rw [hC, Nat.add_mul, Nat.mul_assoc, Nat.add_assoc]

theorem swap_slabs (v : (⟨3, ![64, r, c]⟩ : Shape).Idx → α) (h : Layout.Tiles ⟨3, ![8, r, c]⟩ ⟨3, ![64, r, c]⟩ 0 8)
    (h1 : (⟨3, ![64, r, c]⟩ : Shape).ShapeCasts ⟨4, ![8, 8, r, c]⟩)
    (ht : (⟨4, ![8, 8, r, c]⟩ : Shape).Transposes [1, 0, 2, 3] ⟨4, ![8, 8, r, c]⟩)
    (h2 : (⟨4, ![8, 8, r, c]⟩ : Shape).ShapeCasts ⟨3, ![64, r, c]⟩) (d e : Fin 8) (x : Fin r) (y : Fin c) :
    Layout.block ⟨3, ![8, r, c]⟩ ⟨3, ![64, r, c]⟩ 0 8 d v h (ix3 e x y)
      = Layout.block ⟨3, ![8, r, c]⟩ ⟨3, ![64, r, c]⟩ 0 8 e (shapeCast ⟨3, ![64, r, c]⟩ (transpose ⟨4, ![8, 8, r, c]⟩ [1, 0, 2, 3]
          (shapeCast ⟨4, ![8, 8, r, c]⟩ v h1) ht) h2) h (ix3 d x y) := by
  rw [Layout.block_apply, Layout.block_apply, shapeCast_apply _ h2 _ (ix4 e d x y) ?_,
    transpose_apply _ _ ht (ix4 e d x y) (ix4 d e x y) (fun a => match a with | ⟨0, _⟩ => rfl | ⟨1, _⟩ => rfl | ⟨2, _⟩ => rfl | ⟨3, _⟩ => rfl)]
  · refine (shapeCast_apply v h1 _ _ ?_).symm
    rw [Shape.rowMajor_val_three, Shape.rowMajor_val_four]
    rfl
  · rw [Shape.rowMajor_val_three, Shape.rowMajor_val_four]
    rfl

end Exchange

end
-- ==== Proof.ScatterClaims.lean ====
/-
  The claims of the exchange of the weights' gradients.
-/
module

public import proofs.«01_k».proof.Defs
public import proofs.«01_k».proof.Proof.Scatter
public import proofs.«01_k».proof.Proof.Value
public import proofs.«01_k».proof.Proof.Gen.Scatter
public import proofs.«01_k».proof.Proof.Gen.ScatterRefIdeal.Run
public import proofs.«01_k».proof.Proof.Gen.ScatterRef.Run
public import Idealize.ShloMosaic.Lib.Quiescent

@[expose] public section

noncomputable section

namespace Cert.ScatterIdeal.Run

open Idealize.ShloMosaic Idealize.ShloMosaic.TcCoe Idealize.ShloMosaic.ValueIdx Idealize.SL.Sem
open Cert.ScatterIdeal Exchange

variable {F : FTy → Type} [FloatOps F]
variable (m : (ℓ : Loc nD τ sig) → Buf (Elt F) ℓ) (g : Dev nD → PrngReg)

/-- Every device's inputs end as launched, and every counter at zero. -/
theorem frame : θ_run defs (onTc (τ := τ) (main (F := F))) ⟨m, fun _ => 0, g⟩ (fun r =>
    (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))
      ∧ r.2.sem = fun _ => 0) :=
  (θ_run defs _ _).mono (fun _ h => ⟨fun c => ⟨in_eq0 (h.1 c), in_eq1 (h.1 c), in_eq2 (h.1 c), in_eq3 (h.1 c)⟩, h.2⟩) (run m g)

variable {m} in
theorem result0 (A0 : Shape.Idx ⟨3, ![64, 2048, 2824]⟩ → Elt F .bf16)
    (h0 : Shape.ShapeCasts ⟨3, ![64, 2048, 2824]⟩ ⟨4, ![8, 8, 2048, 2824]⟩) (t0 : Shape.Transposes (s := ⟨4, ![8, 8, 2048, 2824]⟩) [1, 0, 2, 3] ⟨4, ![8, 8, 2048, 2824]⟩) (k0 : Shape.ShapeCasts ⟨4, ![8, 8, 2048, 2824]⟩ ⟨3, ![64, 2048, 2824]⟩)
    (hA : ∀ c : Dev nD, m ((c.tc : Thread nD τ).loc main_arg0) = Layout.block ⟨3, ![8, 2048, 2824]⟩ ⟨3, ![64, 2048, 2824]⟩ 0 8 c A0)
    {c : Dev nD} {s : MemSt nD τ sig (Elt F)} (h : Done X m c s) :
    s.mem ((c.tc : Thread nD τ).loc main_v1_0) = Layout.block ⟨3, ![8, 2048, 2824]⟩ ⟨3, ![64, 2048, 2824]⟩ 0 8 c (shapeCast ⟨3, ![64, 2048, 2824]⟩ (transpose ⟨4, ![8, 8, 2048, 2824]⟩ [1, 0, 2, 3] (shapeCast ⟨4, ![8, 8, 2048, 2824]⟩ A0 h0) t0) k0) := by
  refine funext fun (i : Shape.Idx ⟨3, ![8, 2048, 2824]⟩) => ?_
  obtain ⟨d, x, y, rfl⟩ : ∃ d x y, i = ix3 d x y := ⟨_, _, _, eq_ix3 i⟩
  exact (out_eq0 h d x y).trans ((congrFun (hA d) _).trans (swap_slabs A0 _ h0 t0 k0 d c x y))

variable {m} in
theorem result1 (A1 : Shape.Idx ⟨3, ![64, 256, 2048]⟩ → Elt F .bf16)
    (h1 : Shape.ShapeCasts ⟨3, ![64, 256, 2048]⟩ ⟨4, ![8, 8, 256, 2048]⟩) (t1 : Shape.Transposes (s := ⟨4, ![8, 8, 256, 2048]⟩) [1, 0, 2, 3] ⟨4, ![8, 8, 256, 2048]⟩) (k1 : Shape.ShapeCasts ⟨4, ![8, 8, 256, 2048]⟩ ⟨3, ![64, 256, 2048]⟩)
    (hA : ∀ c : Dev nD, m ((c.tc : Thread nD τ).loc main_arg1) = Layout.block ⟨3, ![8, 256, 2048]⟩ ⟨3, ![64, 256, 2048]⟩ 0 8 c A1)
    {c : Dev nD} {s : MemSt nD τ sig (Elt F)} (h : Done X m c s) :
    s.mem ((c.tc : Thread nD τ).loc main_v1_1) = Layout.block ⟨3, ![8, 256, 2048]⟩ ⟨3, ![64, 256, 2048]⟩ 0 8 c (shapeCast ⟨3, ![64, 256, 2048]⟩ (transpose ⟨4, ![8, 8, 256, 2048]⟩ [1, 0, 2, 3] (shapeCast ⟨4, ![8, 8, 256, 2048]⟩ A1 h1) t1) k1) := by
  refine funext fun (i : Shape.Idx ⟨3, ![8, 256, 2048]⟩) => ?_
  obtain ⟨d, x, y, rfl⟩ : ∃ d x y, i = ix3 d x y := ⟨_, _, _, eq_ix3 i⟩
  exact (out_eq1 h d x y).trans ((congrFun (hA d) _).trans (swap_slabs A1 _ h1 t1 k1 d c x y))

variable {m} in
theorem result2 (A2 : Shape.Idx ⟨3, ![64, 512, 2048]⟩ → Elt F .bf16)
    (h2 : Shape.ShapeCasts ⟨3, ![64, 512, 2048]⟩ ⟨4, ![8, 8, 512, 2048]⟩) (t2 : Shape.Transposes (s := ⟨4, ![8, 8, 512, 2048]⟩) [1, 0, 2, 3] ⟨4, ![8, 8, 512, 2048]⟩) (k2 : Shape.ShapeCasts ⟨4, ![8, 8, 512, 2048]⟩ ⟨3, ![64, 512, 2048]⟩)
    (hA : ∀ c : Dev nD, m ((c.tc : Thread nD τ).loc main_arg2) = Layout.block ⟨3, ![8, 512, 2048]⟩ ⟨3, ![64, 512, 2048]⟩ 0 8 c A2)
    {c : Dev nD} {s : MemSt nD τ sig (Elt F)} (h : Done X m c s) :
    s.mem ((c.tc : Thread nD τ).loc main_v1_2) = Layout.block ⟨3, ![8, 512, 2048]⟩ ⟨3, ![64, 512, 2048]⟩ 0 8 c (shapeCast ⟨3, ![64, 512, 2048]⟩ (transpose ⟨4, ![8, 8, 512, 2048]⟩ [1, 0, 2, 3] (shapeCast ⟨4, ![8, 8, 512, 2048]⟩ A2 h2) t2) k2) := by
  refine funext fun (i : Shape.Idx ⟨3, ![8, 512, 2048]⟩) => ?_
  obtain ⟨d, x, y, rfl⟩ : ∃ d x y, i = ix3 d x y := ⟨_, _, _, eq_ix3 i⟩
  exact (out_eq2 h d x y).trans ((congrFun (hA d) _).trans (swap_slabs A2 _ h2 t2 k2 d c x y))

variable {m} in
theorem result3 (A3 : Shape.Idx ⟨3, ![64, 256, 2048]⟩ → Elt F .bf16)
    (h3 : Shape.ShapeCasts ⟨3, ![64, 256, 2048]⟩ ⟨4, ![8, 8, 256, 2048]⟩) (t3 : Shape.Transposes (s := ⟨4, ![8, 8, 256, 2048]⟩) [1, 0, 2, 3] ⟨4, ![8, 8, 256, 2048]⟩) (k3 : Shape.ShapeCasts ⟨4, ![8, 8, 256, 2048]⟩ ⟨3, ![64, 256, 2048]⟩)
    (hA : ∀ c : Dev nD, m ((c.tc : Thread nD τ).loc main_arg3) = Layout.block ⟨3, ![8, 256, 2048]⟩ ⟨3, ![64, 256, 2048]⟩ 0 8 c A3)
    {c : Dev nD} {s : MemSt nD τ sig (Elt F)} (h : Done X m c s) :
    s.mem ((c.tc : Thread nD τ).loc main_v1_3) = Layout.block ⟨3, ![8, 256, 2048]⟩ ⟨3, ![64, 256, 2048]⟩ 0 8 c (shapeCast ⟨3, ![64, 256, 2048]⟩ (transpose ⟨4, ![8, 8, 256, 2048]⟩ [1, 0, 2, 3] (shapeCast ⟨4, ![8, 8, 256, 2048]⟩ A3 h3) t3) k3) := by
  refine funext fun (i : Shape.Idx ⟨3, ![8, 256, 2048]⟩) => ?_
  obtain ⟨d, x, y, rfl⟩ : ∃ d x y, i = ix3 d x y := ⟨_, _, _, eq_ix3 i⟩
  exact (out_eq3 h d x y).trans ((congrFun (hA d) _).trans (swap_slabs A3 _ h3 t3 k3 d c x y))

/-- From the parts of whole arrays, every device ends with its part of the whole results. -/
theorem value
    (A0 : Shape.Idx ⟨3, ![64, 2048, 2824]⟩ → Elt F .bf16) (h0 : Shape.ShapeCasts ⟨3, ![64, 2048, 2824]⟩ ⟨4, ![8, 8, 2048, 2824]⟩) (t0 : Shape.Transposes (s := ⟨4, ![8, 8, 2048, 2824]⟩) [1, 0, 2, 3] ⟨4, ![8, 8, 2048, 2824]⟩) (k0 : Shape.ShapeCasts ⟨4, ![8, 8, 2048, 2824]⟩ ⟨3, ![64, 2048, 2824]⟩)
    (A1 : Shape.Idx ⟨3, ![64, 256, 2048]⟩ → Elt F .bf16) (h1 : Shape.ShapeCasts ⟨3, ![64, 256, 2048]⟩ ⟨4, ![8, 8, 256, 2048]⟩) (t1 : Shape.Transposes (s := ⟨4, ![8, 8, 256, 2048]⟩) [1, 0, 2, 3] ⟨4, ![8, 8, 256, 2048]⟩) (k1 : Shape.ShapeCasts ⟨4, ![8, 8, 256, 2048]⟩ ⟨3, ![64, 256, 2048]⟩)
    (A2 : Shape.Idx ⟨3, ![64, 512, 2048]⟩ → Elt F .bf16) (h2 : Shape.ShapeCasts ⟨3, ![64, 512, 2048]⟩ ⟨4, ![8, 8, 512, 2048]⟩) (t2 : Shape.Transposes (s := ⟨4, ![8, 8, 512, 2048]⟩) [1, 0, 2, 3] ⟨4, ![8, 8, 512, 2048]⟩) (k2 : Shape.ShapeCasts ⟨4, ![8, 8, 512, 2048]⟩ ⟨3, ![64, 512, 2048]⟩)
    (A3 : Shape.Idx ⟨3, ![64, 256, 2048]⟩ → Elt F .bf16) (h3 : Shape.ShapeCasts ⟨3, ![64, 256, 2048]⟩ ⟨4, ![8, 8, 256, 2048]⟩) (t3 : Shape.Transposes (s := ⟨4, ![8, 8, 256, 2048]⟩) [1, 0, 2, 3] ⟨4, ![8, 8, 256, 2048]⟩) (k3 : Shape.ShapeCasts ⟨4, ![8, 8, 256, 2048]⟩ ⟨3, ![64, 256, 2048]⟩)
    (hA : ∀ c : Dev nD, m ((c.tc : Thread nD τ).loc main_arg0) = Layout.block ⟨3, ![8, 2048, 2824]⟩ ⟨3, ![64, 2048, 2824]⟩ 0 8 c A0
      ∧ m ((c.tc : Thread nD τ).loc main_arg1) = Layout.block ⟨3, ![8, 256, 2048]⟩ ⟨3, ![64, 256, 2048]⟩ 0 8 c A1
      ∧ m ((c.tc : Thread nD τ).loc main_arg2) = Layout.block ⟨3, ![8, 512, 2048]⟩ ⟨3, ![64, 512, 2048]⟩ 0 8 c A2
      ∧ m ((c.tc : Thread nD τ).loc main_arg3) = Layout.block ⟨3, ![8, 256, 2048]⟩ ⟨3, ![64, 256, 2048]⟩ 0 8 c A3) :
    θ_run defs (onTc (τ := τ) (main (F := F))) ⟨m, fun _ => 0, g⟩ (fun r => ∀ c : Dev nD,
      r.2.mem ((c.tc : Thread nD τ).loc main_v1_0) = Layout.block ⟨3, ![8, 2048, 2824]⟩ ⟨3, ![64, 2048, 2824]⟩ 0 8 c (shapeCast ⟨3, ![64, 2048, 2824]⟩ (transpose ⟨4, ![8, 8, 2048, 2824]⟩ [1, 0, 2, 3] (shapeCast ⟨4, ![8, 8, 2048, 2824]⟩ A0 h0) t0) k0)
        ∧ r.2.mem ((c.tc : Thread nD τ).loc main_v1_1) = Layout.block ⟨3, ![8, 256, 2048]⟩ ⟨3, ![64, 256, 2048]⟩ 0 8 c (shapeCast ⟨3, ![64, 256, 2048]⟩ (transpose ⟨4, ![8, 8, 256, 2048]⟩ [1, 0, 2, 3] (shapeCast ⟨4, ![8, 8, 256, 2048]⟩ A1 h1) t1) k1)
        ∧ r.2.mem ((c.tc : Thread nD τ).loc main_v1_2) = Layout.block ⟨3, ![8, 512, 2048]⟩ ⟨3, ![64, 512, 2048]⟩ 0 8 c (shapeCast ⟨3, ![64, 512, 2048]⟩ (transpose ⟨4, ![8, 8, 512, 2048]⟩ [1, 0, 2, 3] (shapeCast ⟨4, ![8, 8, 512, 2048]⟩ A2 h2) t2) k2)
        ∧ r.2.mem ((c.tc : Thread nD τ).loc main_v1_3) = Layout.block ⟨3, ![8, 256, 2048]⟩ ⟨3, ![64, 256, 2048]⟩ 0 8 c (shapeCast ⟨3, ![64, 256, 2048]⟩ (transpose ⟨4, ![8, 8, 256, 2048]⟩ [1, 0, 2, 3] (shapeCast ⟨4, ![8, 8, 256, 2048]⟩ A3 h3) t3) k3)
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)) :=
  (θ_run defs _ _).mono (fun _ h c => ⟨result0 A0 h0 t0 k0 (fun c => (hA c).1) (h.1 c),
      result1 A1 h1 t1 k1 (fun c => (hA c).2.1) (h.1 c),
      result2 A2 h2 t2 k2 (fun c => (hA c).2.2.1) (h.1 c),
      result3 A3 h3 t3 k3 (fun c => (hA c).2.2.2) (h.1 c),
      in_eq0 (h.1 c), in_eq1 (h.1 c), in_eq2 (h.1 c), in_eq3 (h.1 c)⟩) (run m g)

end Cert.ScatterIdeal.Run

namespace Cert.Proof.Scatter

open Idealize.ShloMosaic Idealize.SL.Sem

theorem frame_kernel : Cert.quiescent_Scatter := fun m g _ =>
  (θ_run Cert.ScatterIdeal.defs _ _).mono (fun _ h => h) (Cert.ScatterIdeal.Run.frame (F := Bits) m g)

theorem frame_ideal : Cert.quiescent_ScatterIdeal := fun m g _ => Cert.ScatterIdeal.Run.frame m g

theorem frame_refIdeal : Cert.quiescent_ScatterRefIdeal := fun m g _ =>
  (θ_run Cert.ScatterRefIdeal.defs _ _).mono (fun r h => ⟨fun c => (h c).2.2.2.2, sem_eq_zero_of_no_sems (by decide) r.2⟩)
    (Cert.ScatterRefIdeal.Value.run m g)

theorem frame_ref : Cert.quiescent_ScatterRef := fun m g _ =>
  (θ_run Cert.ScatterRef.defs _ _).mono (fun r h => ⟨fun c => (h c).2.2.2.2, sem_eq_zero_of_no_sems (by decide) r.2⟩)
    (Cert.ScatterRef.Value.run m g)

theorem algebraic : Cert.algebraic_ScatterIdeal_ScatterRefIdeal := fun m g m' g' _ hA =>
  ⟨_, _, _, _, Cert.ScatterIdeal.Run.value m g
      _ Cert.ScatterRefIdeal.Gen.shapeCasts_S64x2048x2824_S8x8x2048x2824 Cert.ScatterRefIdeal.Gen.transposes_S8x8x2048x2824_S8x8x2048x2824_1_0_2_3 Cert.ScatterRefIdeal.Gen.shapeCasts_S8x8x2048x2824_S64x2048x2824
      _ Cert.ScatterRefIdeal.Gen.shapeCasts_S64x256x2048_S8x8x256x2048 Cert.ScatterRefIdeal.Gen.transposes_S8x8x256x2048_S8x8x256x2048_1_0_2_3 Cert.ScatterRefIdeal.Gen.shapeCasts_S8x8x256x2048_S64x256x2048
      _ Cert.ScatterRefIdeal.Gen.shapeCasts_S64x512x2048_S8x8x512x2048 Cert.ScatterRefIdeal.Gen.transposes_S8x8x512x2048_S8x8x512x2048_1_0_2_3 Cert.ScatterRefIdeal.Gen.shapeCasts_S8x8x512x2048_S64x512x2048
      _ Cert.ScatterRefIdeal.Gen.shapeCasts_S64x256x2048_S8x8x256x2048 Cert.ScatterRefIdeal.Gen.transposes_S8x8x256x2048_S8x8x256x2048_1_0_2_3 Cert.ScatterRefIdeal.Gen.shapeCasts_S8x8x256x2048_S64x256x2048 hA,
    (θ_run Cert.ScatterRefIdeal.defs _ _).mono (fun _ h => h 0) (Cert.ScatterRefIdeal.Value.run m' g')⟩

theorem bitexact : Cert.bitexact_Scatter_ScatterRef := fun m g m' g' _ hA =>
  ⟨_, _, _, _, (θ_run Cert.ScatterIdeal.defs _ _).mono (fun _ h => h) (Cert.ScatterIdeal.Run.value (F := Bits) m g
      _ Cert.ScatterRef.Gen.shapeCasts_S64x2048x2824_S8x8x2048x2824 Cert.ScatterRef.Gen.transposes_S8x8x2048x2824_S8x8x2048x2824_1_0_2_3 Cert.ScatterRef.Gen.shapeCasts_S8x8x2048x2824_S64x2048x2824
      _ Cert.ScatterRef.Gen.shapeCasts_S64x256x2048_S8x8x256x2048 Cert.ScatterRef.Gen.transposes_S8x8x256x2048_S8x8x256x2048_1_0_2_3 Cert.ScatterRef.Gen.shapeCasts_S8x8x256x2048_S64x256x2048
      _ Cert.ScatterRef.Gen.shapeCasts_S64x512x2048_S8x8x512x2048 Cert.ScatterRef.Gen.transposes_S8x8x512x2048_S8x8x512x2048_1_0_2_3 Cert.ScatterRef.Gen.shapeCasts_S8x8x512x2048_S64x512x2048
      _ Cert.ScatterRef.Gen.shapeCasts_S64x256x2048_S8x8x256x2048 Cert.ScatterRef.Gen.transposes_S8x8x256x2048_S8x8x256x2048_1_0_2_3 Cert.ScatterRef.Gen.shapeCasts_S8x8x256x2048_S64x256x2048 hA),
    (θ_run Cert.ScatterRef.defs _ _).mono (fun _ h => h 0) (Cert.ScatterRef.Value.run m' g')⟩

end Cert.Proof.Scatter

end
-- ==== Proof.Gather.lean ====
/-
  The exchange of the weights: five arrays, of each of which every device sends all of its part to all.
-/
module

public import proofs.«01_k».proof.Proof.Read
public import proofs.«01_k».proof.Proof.Gen.GatherIdeal.Skeleton
public import proofs.«01_k».proof.Proof.Gen.GatherIdeal.Launch
public import proofs.«01_k».proof.Proof.Gen.GatherIdeal.Points

@[expose] public section

noncomputable section

namespace Cert.GatherIdeal.Run

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline
open Cert.GatherIdeal Exchange

set_option Elab.async false

variable {F : FTy → Type} [FloatOps F]

local notation "𝕄" => MT nD τ sig Unit (Elt F) ℕ (U2 nD τ sig) ℕ

/-- The peers of a device; -/
def pdev (k : Fin 7) (d : Dev nD) : Dev nD :=
  match k with
  | 0 => ⟨k0_dev1 d, Gen.k0_dev1_lt d⟩ | 1 => ⟨k0_dev2 d, Gen.k0_dev2_lt d⟩ | 2 => ⟨k0_dev3 d, Gen.k0_dev3_lt d⟩
  | 3 => ⟨k0_dev4 d, Gen.k0_dev4_lt d⟩ | 4 => ⟨k0_dev5 d, Gen.k0_dev5_lt d⟩ | 5 => ⟨k0_dev6 d, Gen.k0_dev6_lt d⟩ | 6 => ⟨k0_dev7 d, Gen.k0_dev7_lt d⟩
/-- the offset of the device's slab, and of a peer's. -/
def off (o : Option (Fin 7)) (d : Dev nD) : Fin 3 → ℕ :=
  match o with
  | none => k0_off1 d
  | some 0 => k0_off5 d | some 1 => k0_off6 d | some 2 => k0_off7 d | some 3 => k0_off8 d | some 4 => k0_off9 d | some 5 => k0_off10 d | some 6 => k0_off11 d

theorem off_me : ∀ d : Dev nD, off none d = ![d.val, 0, 0] := by decide +kernel
theorem pdev_back : ∀ (k : Fin 7) (d : Dev nD), pdev k (pdev k d) = d := by decide +kernel

theorem inb_2048x2824 : ∀ (o : Option (Fin 7)) (d : Dev nD) (a : Fin 3), off o d a + S1x2048x2824.size a ≤ S8x2048x2824.size a := by decide +kernel
theorem words_2048x2824 : ∀ (o : Option (Fin 7)) (d : Dev nD),
    (Rect.unit (s := S8x2048x2824) (off o d) S1x2048x2824.size (inb_2048x2824 o d)).WholeWords (EltTy.packing .bf16) := by decide +kernel
theorem inb_256x2048 : ∀ (o : Option (Fin 7)) (d : Dev nD) (a : Fin 3), off o d a + S1x256x2048.size a ≤ S8x256x2048.size a := by decide +kernel
theorem words_256x2048 : ∀ (o : Option (Fin 7)) (d : Dev nD),
    (Rect.unit (s := S8x256x2048) (off o d) S1x256x2048.size (inb_256x2048 o d)).WholeWords (EltTy.packing .bf16) := by decide +kernel
theorem inb_512x2048 : ∀ (o : Option (Fin 7)) (d : Dev nD) (a : Fin 3), off o d a + S1x512x2048.size a ≤ S8x512x2048.size a := by decide +kernel
theorem words_512x2048 : ∀ (o : Option (Fin 7)) (d : Dev nD),
    (Rect.unit (s := S8x512x2048) (off o d) S1x512x2048.size (inb_512x2048 o d)).WholeWords (EltTy.packing .bf16) := by decide +kernel
theorem inb_4x768 : ∀ (o : Option (Fin 7)) (d : Dev nD) (a : Fin 3), off o d a + S1x4x768.size a ≤ S8x4x768.size a := by decide +kernel

/-- An array of the exchange: number `a`, read from `M` and written to `M'`. -/
def arr (a : Fin 5) (r c : ℕ) (e : EltTy) (M : Memref sig .tc .hbm ⟨2, ![r, c]⟩ e) (M' : Memref sig .tc .hbm ⟨3, ![8, r, c]⟩ e)
    (hM : M.IsWhole)
    (inb : ∀ (o : Option (Fin 7)) (d : Dev nD) (i : Fin 3), off o d i + (⟨3, ![1, r, c]⟩ : Shape).size i ≤ (⟨3, ![8, r, c]⟩ : Shape).size i)
    (hq : (⟨3, ![1, r, c]⟩ : Shape).Squeezes ⟨2, ![r, c]⟩)
    (ok : ∀ (o : Option (Fin 7)) (d : Dev nD), (slab M' (off o d) (inb o d) hq).view.WordExact)
    (hu : M'.view.ref.isScScratch = false) : Arr nD sig where
  s := ⟨2, ![r, c]⟩
  e := e
  src _ _ := M
  slot d := slab M' (off none d) (inb none d) hq
  pslot k d := slab M' (off (some k) d) (inb (some k) d) hq
  dev := pdev
  loc := ⟨70 + a.val, by have := a.isLt; show _ < 75; omega⟩
  snd k := ⟨7 * a.val + k.val, by have := a.isLt; have := k.isLt; show _ < 75; omega⟩
  rcv k := ⟨35 + (7 * a.val + k.val), by have := a.isLt; have := k.isLt; show _ < 75; omega⟩
  src_ok _ _ := hM.wordExact
  slot_ok := ok none
  pslot_ok k := ok (some k)
  unscratch _ := hu

/-- The arrays of the exchange. -/
def X (a : Fin 5) : Arr nD sig :=
  match a with
  | 0 => arr 0 2048 2824 .bf16 (Memref.whole main_arg0) (Memref.whole main_v1_0) (Memref.isWhole_whole _) inb_2048x2824 Gen.squeezes_S1x2048x2824_S2048x2824
      (fun o d => ((Memref.isWhole_whole _).wordExact_slice rfl _ (words_2048x2824 o d)).reshape _ _) rfl
  | 1 => arr 1 256 2048 .bf16 (Memref.whole main_arg1) (Memref.whole main_v1_1) (Memref.isWhole_whole _) inb_256x2048 Gen.squeezes_S1x256x2048_S256x2048
      (fun o d => ((Memref.isWhole_whole _).wordExact_slice rfl _ (words_256x2048 o d)).reshape _ _) rfl
  | 2 => arr 2 512 2048 .bf16 (Memref.whole main_arg2) (Memref.whole main_v1_2) (Memref.isWhole_whole _) inb_512x2048 Gen.squeezes_S1x512x2048_S512x2048
      (fun o d => ((Memref.isWhole_whole _).wordExact_slice rfl _ (words_512x2048 o d)).reshape _ _) rfl
  | 3 => arr 3 256 2048 .bf16 (Memref.whole main_arg3) (Memref.whole main_v1_3) (Memref.isWhole_whole _) inb_256x2048 Gen.squeezes_S1x256x2048_S256x2048
      (fun o d => ((Memref.isWhole_whole _).wordExact_slice rfl _ (words_256x2048 o d)).reshape _ _) rfl
  | 4 => arr 4 4 768 .f32 (Memref.whole main_arg4) (Memref.whole main_v1_4) (Memref.isWhole_whole _) inb_4x768 Gen.squeezes_S1x4x768_S4x768
      (fun _ _ => (View.wordExact_bits rfl).reshape _ _) rfl

set_option maxRecDepth 65536 in
theorem body_eq (t : Fin cfg0.N) : Gen.bodyAt0 (F := F) t = body X [0, 1, 2, 3, 4] := by
  rfl

/-- The units of an array's transfers. -/
def N (a : Fin 5) : ℕ :=
  match a with
  | 0 => RefSig.tileCredit S2048x2824 .bf16
  | 1 => RefSig.tileCredit S256x2048 .bf16
  | 2 => RefSig.tileCredit S512x2048 .bf16
  | 3 => RefSig.tileCredit S256x2048 .bf16
  | 4 => RefSig.tileCredit S4x768 .f32

theorem sems_inj : Function.Injective (osem X) := by decide +kernel
theorem N_pos : ∀ a, 0 < N a
  | 0 => RefSig.tileCredit_pos S2048x2824 .bf16 (by decide)
  | 1 => RefSig.tileCredit_pos S256x2048 .bf16 (by decide)
  | 2 => RefSig.tileCredit_pos S512x2048 .bf16 (by decide)
  | 3 => RefSig.tileCredit_pos S256x2048 .bf16 (by decide)
  | 4 => RefSig.tileCredit_pos S4x768 .f32 (by decide)
theorem dev_eq : ∀ (a : Fin 5), (X a).dev = pdev
  | 0 => rfl
  | 1 => rfl
  | 2 => rfl
  | 3 => rfl
  | 4 => rfl
theorem slot_credit : ∀ (a : Fin 5) (d : Dev nD), ((X a).slot d).view.dmaCredit = N a
  | 0, _ => rfl
  | 1, _ => rfl
  | 2, _ => rfl
  | 3, _ => rfl
  | 4, _ => rfl
theorem pslot_credit : ∀ (a : Fin 5) (k : Fin 7) (d : Dev nD), ((X a).pslot k d).view.dmaCredit = N a
  | 0, _, _ => rfl
  | 1, _, _ => rfl
  | 2, _, _ => rfl
  | 3, _, _ => rfl
  | 4, _, _ => rfl
theorem src_credit : ∀ (a : Fin 5) (k : Fin 7) (d : Dev nD), ((X a).src (some k) d).view.dmaCredit = N a
  | 0, _, _ => rfl
  | 1, _, _ => rfl
  | 2, _, _ => rfl
  | 3, _, _ => rfl
  | 4, _, _ => rfl
theorem peer_bij : ∀ (a : Fin 5) (d : Dev nD), Function.Bijective fun o => (X a).peer o d := by decide +kernel

theorem facts : Exchange.Facts X N where
  inj := sems_inj
  pos := N_pos
  slot_credit := slot_credit
  pslot_credit := pslot_credit
  src_credit := src_credit
  back a k d := by rw [dev_eq a]; exact pdev_back k d
  bij := peer_bij

theorem jobs_nodup : (jobs [(0 : Fin 5), 1, 2, 3, 4]).Nodup := by decide
theorem jobs_all : ∀ j, j ∈ jobs [(0 : Fin 5), 1, 2, 3, 4] := by decide

theorem ownSems : OwnSemFacts cfg0.spec (osem X) := by decide

/-- The buffers the arrays are read from and written to. -/
def inB (a : Fin 5) : Ref sig .tc :=
  match a with
  | 0 => main_arg0
  | 1 => main_arg1
  | 2 => main_arg2
  | 3 => main_arg3
  | 4 => main_arg4
def outB (a : Fin 5) : Ref sig .tc :=
  match a with
  | 0 => main_v1_0
  | 1 => main_v1_1
  | 2 => main_v1_2
  | 3 => main_v1_3
  | 4 => main_v1_4

variable (m : (ℓ : Loc nD τ sig) → Buf (Elt F) ℓ) (g : Dev nD → PrngReg)

/-- An input is dealt to the jobs that read it. -/
theorem deal_in (B : Ref sig .tc) (c : Dev nD) :
    (((c.tc : Thread nD τ).loc B) ↦{fullShare} m ((c.tc : Thread nD τ).loc B) : sProp 𝕄)
      = bigSep Finset.univ fun o : Option (Fin 7) => ((c.tc : Thread nD τ).loc B) ↦[(View.whole B).set]{eighth o} m ((c.tc : Thread nD τ).loc B) := by
  rw [View.set_whole]
  exact deal_shares Finset.univ _

set_option maxRecDepth 65536 in
/-- The run: every device's inputs as launched, slab `d` of every output what device `d` sent. -/
theorem run : θ_run defs (onTc (τ := τ) (main (F := F))) ⟨m, fun _ => 0, g⟩
    (fun r => (∀ c : Dev nD, Done X m c r.2) ∧ r.2.sem = fun _ => 0) := by
  refine run_done X N (fun _ => eighth) m facts [0, 1, 2, 3, 4] jobs_nodup jobs_all cfg0 defs₀ Variants.none Gen.N_0 g main Gen.winFacts0 ownSems
    Gen.scopedRest0_eq (fun c t Q => ?_) (fun c => rfl) (by decide) inB outB (by decide) (by decide) (fun a c => ?_) (fun a c => ?_)
  · rw [← body_eq t]
    exact BIBase.Entails.rfl
  · match a with
    | 0 => exact deal_in m main_arg0 c
    | 1 => exact deal_in m main_arg1 c
    | 2 => exact deal_in m main_arg2 c
    | 3 => exact deal_in m main_arg3 c
    | 4 => exact deal_in m main_arg4 c
  · match a with
    | 0 =>
      exact deal_slabs (n := 8) (r := 2048) (c := 2824) (Memref.whole main_v1_0) Gen.squeezes_S1x2048x2824_S2048x2824 (View.set_whole main_v1_0)
        (off none) (inb_2048x2824 none) id Function.bijective_id off_me fullShare c _
    | 1 =>
      exact deal_slabs (n := 8) (r := 256) (c := 2048) (Memref.whole main_v1_1) Gen.squeezes_S1x256x2048_S256x2048 (View.set_whole main_v1_1)
        (off none) (inb_256x2048 none) id Function.bijective_id off_me fullShare c _
    | 2 =>
      exact deal_slabs (n := 8) (r := 512) (c := 2048) (Memref.whole main_v1_2) Gen.squeezes_S1x512x2048_S512x2048 (View.set_whole main_v1_2)
        (off none) (inb_512x2048 none) id Function.bijective_id off_me fullShare c _
    | 3 =>
      exact deal_slabs (n := 8) (r := 256) (c := 2048) (Memref.whole main_v1_3) Gen.squeezes_S1x256x2048_S256x2048 (View.set_whole main_v1_3)
        (off none) (inb_256x2048 none) id Function.bijective_id off_me fullShare c _
    | 4 =>
      exact deal_slabs (n := 8) (r := 4) (c := 768) (Memref.whole main_v1_4) Gen.squeezes_S1x4x768_S4x768 (View.set_whole main_v1_4)
        (off none) (inb_4x768 none) id Function.bijective_id off_me fullShare c _

variable {m}

theorem in_eq0 {c : Dev nD} {s : MemSt nD τ sig (Elt F)} (h : Done X m c s) :
    s.mem ((c.tc : Thread nD τ).loc main_arg0) = m ((c.tc : Thread nD τ).loc main_arg0) := by
  funext i
  exact h.1 (0, none) i (by show i ∈ (View.whole main_arg0).set; rw [View.set_whole]; exact Finset.mem_univ i)

theorem out_eq0 {c : Dev nD} {s : MemSt nD τ sig (Elt F)} (h : Done X m c s) (d : Dev nD) (x : Fin 2048) (y : Fin 2824) :
    s.mem ((c.tc : Thread nD τ).loc main_v1_0) (ix3 (n0 := 8) d x y) = m ((d.tc : Thread nD τ).loc main_arg0) (ix2 x y) := by
  obtain ⟨o, -, e⟩ := h.slot facts 0 d
  exact (slab_read (n := 8) (Memref.whole main_v1_0) (inb_2048x2824 none d) Gen.squeezes_S1x2048x2824_S2048x2824 (k := d) (off_me d) _ x y).symm.trans
    (congrFun e (ix2 x y))

theorem in_eq1 {c : Dev nD} {s : MemSt nD τ sig (Elt F)} (h : Done X m c s) :
    s.mem ((c.tc : Thread nD τ).loc main_arg1) = m ((c.tc : Thread nD τ).loc main_arg1) := by
  funext i
  exact h.1 (1, none) i (by show i ∈ (View.whole main_arg1).set; rw [View.set_whole]; exact Finset.mem_univ i)

theorem out_eq1 {c : Dev nD} {s : MemSt nD τ sig (Elt F)} (h : Done X m c s) (d : Dev nD) (x : Fin 256) (y : Fin 2048) :
    s.mem ((c.tc : Thread nD τ).loc main_v1_1) (ix3 (n0 := 8) d x y) = m ((d.tc : Thread nD τ).loc main_arg1) (ix2 x y) := by
  obtain ⟨o, -, e⟩ := h.slot facts 1 d
  exact (slab_read (n := 8) (Memref.whole main_v1_1) (inb_256x2048 none d) Gen.squeezes_S1x256x2048_S256x2048 (k := d) (off_me d) _ x y).symm.trans
    (congrFun e (ix2 x y))

theorem in_eq2 {c : Dev nD} {s : MemSt nD τ sig (Elt F)} (h : Done X m c s) :
    s.mem ((c.tc : Thread nD τ).loc main_arg2) = m ((c.tc : Thread nD τ).loc main_arg2) := by
  funext i
  exact h.1 (2, none) i (by show i ∈ (View.whole main_arg2).set; rw [View.set_whole]; exact Finset.mem_univ i)

theorem out_eq2 {c : Dev nD} {s : MemSt nD τ sig (Elt F)} (h : Done X m c s) (d : Dev nD) (x : Fin 512) (y : Fin 2048) :
    s.mem ((c.tc : Thread nD τ).loc main_v1_2) (ix3 (n0 := 8) d x y) = m ((d.tc : Thread nD τ).loc main_arg2) (ix2 x y) := by
  obtain ⟨o, -, e⟩ := h.slot facts 2 d
  exact (slab_read (n := 8) (Memref.whole main_v1_2) (inb_512x2048 none d) Gen.squeezes_S1x512x2048_S512x2048 (k := d) (off_me d) _ x y).symm.trans
    (congrFun e (ix2 x y))

theorem in_eq3 {c : Dev nD} {s : MemSt nD τ sig (Elt F)} (h : Done X m c s) :
    s.mem ((c.tc : Thread nD τ).loc main_arg3) = m ((c.tc : Thread nD τ).loc main_arg3) := by
  funext i
  exact h.1 (3, none) i (by show i ∈ (View.whole main_arg3).set; rw [View.set_whole]; exact Finset.mem_univ i)

theorem out_eq3 {c : Dev nD} {s : MemSt nD τ sig (Elt F)} (h : Done X m c s) (d : Dev nD) (x : Fin 256) (y : Fin 2048) :
    s.mem ((c.tc : Thread nD τ).loc main_v1_3) (ix3 (n0 := 8) d x y) = m ((d.tc : Thread nD τ).loc main_arg3) (ix2 x y) := by
  obtain ⟨o, -, e⟩ := h.slot facts 3 d
  exact (slab_read (n := 8) (Memref.whole main_v1_3) (inb_256x2048 none d) Gen.squeezes_S1x256x2048_S256x2048 (k := d) (off_me d) _ x y).symm.trans
    (congrFun e (ix2 x y))

theorem in_eq4 {c : Dev nD} {s : MemSt nD τ sig (Elt F)} (h : Done X m c s) :
    s.mem ((c.tc : Thread nD τ).loc main_arg4) = m ((c.tc : Thread nD τ).loc main_arg4) := by
  funext i
  exact h.1 (4, none) i (by show i ∈ (View.whole main_arg4).set; rw [View.set_whole]; exact Finset.mem_univ i)

theorem out_eq4 {c : Dev nD} {s : MemSt nD τ sig (Elt F)} (h : Done X m c s) (d : Dev nD) (x : Fin 4) (y : Fin 768) :
    s.mem ((c.tc : Thread nD τ).loc main_v1_4) (ix3 (n0 := 8) d x y) = m ((d.tc : Thread nD τ).loc main_arg4) (ix2 x y) := by
  obtain ⟨o, -, e⟩ := h.slot facts 4 d
  exact (slab_read (n := 8) (Memref.whole main_v1_4) (inb_4x768 none d) Gen.squeezes_S1x4x768_S4x768 (k := d) (off_me d) _ x y).symm.trans
    (congrFun e (ix2 x y))

end Cert.GatherIdeal.Run

end
-- ==== Proof.GatherClaims.lean ====
/-
  The claims of the exchange of the weights.
-/
module

public import proofs.«01_k».proof.Defs
public import proofs.«01_k».proof.Proof.Gather
public import proofs.«01_k».proof.Proof.Value
public import proofs.«01_k».proof.Proof.Gen.Gather
public import proofs.«01_k».proof.Proof.Gen.GatherRefIdeal.Run
public import proofs.«01_k».proof.Proof.Gen.GatherRef.Run
public import Idealize.ShloMosaic.Lib.Quiescent

@[expose] public section

noncomputable section

namespace Cert.GatherIdeal.Run

open Idealize.ShloMosaic Idealize.ShloMosaic.TcCoe Idealize.ShloMosaic.ValueIdx Idealize.SL.Sem
open Cert.GatherIdeal Exchange

variable {F : FTy → Type} [FloatOps F]
variable (m : (ℓ : Loc nD τ sig) → Buf (Elt F) ℓ) (g : Dev nD → PrngReg)

/-- Every device's inputs end as launched, and every counter at zero. -/
theorem frame : θ_run defs (onTc (τ := τ) (main (F := F))) ⟨m, fun _ => 0, g⟩ (fun r =>
    (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4))
      ∧ r.2.sem = fun _ => 0) :=
  (θ_run defs _ _).mono (fun _ h => ⟨fun c => ⟨in_eq0 (h.1 c), in_eq1 (h.1 c), in_eq2 (h.1 c), in_eq3 (h.1 c), in_eq4 (h.1 c)⟩, h.2⟩) (run m g)

variable {m} in
theorem result0 (A0 : Shape.Idx ⟨2, ![2048, 22592]⟩ → Elt F .bf16)
    (h0 : Shape.ShapeCasts ⟨2, ![2048, 22592]⟩ ⟨3, ![2048, 8, 2824]⟩) (t0 : Shape.Transposes (s := ⟨3, ![2048, 8, 2824]⟩) [1, 0, 2] ⟨3, ![8, 2048, 2824]⟩)
    (hA : ∀ c : Dev nD, m ((c.tc : Thread nD τ).loc main_arg0) = Layout.block ⟨2, ![2048, 2824]⟩ ⟨2, ![2048, 22592]⟩ 1 8 c A0)
    {c : Dev nD} {s : MemSt nD τ sig (Elt F)} (h : Done X m c s) :
    s.mem ((c.tc : Thread nD τ).loc main_v1_0) = transpose ⟨3, ![8, 2048, 2824]⟩ [1, 0, 2] (shapeCast ⟨3, ![2048, 8, 2824]⟩ A0 h0) t0 := by
  refine funext fun (i : Shape.Idx ⟨3, ![8, 2048, 2824]⟩) => ?_
  obtain ⟨d, x, y, rfl⟩ : ∃ d x y, i = ix3 d x y := ⟨_, _, _, eq_ix3 i⟩
  exact (out_eq0 h d x y).trans ((congrFun (hA d) _).trans (stack_cols A0 _ h0 t0 d x y))

variable {m} in
theorem result1 (A1 : Shape.Idx ⟨2, ![2048, 2048]⟩ → Elt F .bf16)
    (h1 : Shape.ShapeCasts ⟨2, ![2048, 2048]⟩ ⟨3, ![8, 256, 2048]⟩)
    (hA : ∀ c : Dev nD, m ((c.tc : Thread nD τ).loc main_arg1) = Layout.block ⟨2, ![256, 2048]⟩ ⟨2, ![2048, 2048]⟩ 0 8 c A1)
    {c : Dev nD} {s : MemSt nD τ sig (Elt F)} (h : Done X m c s) :
    s.mem ((c.tc : Thread nD τ).loc main_v1_1) = shapeCast ⟨3, ![8, 256, 2048]⟩ A1 h1 := by
  refine funext fun (i : Shape.Idx ⟨3, ![8, 256, 2048]⟩) => ?_
  obtain ⟨d, x, y, rfl⟩ : ∃ d x y, i = ix3 d x y := ⟨_, _, _, eq_ix3 i⟩
  exact (out_eq1 h d x y).trans ((congrFun (hA d) _).trans (stack_rows A1 _ h1 d x y))

variable {m} in
theorem result2 (A2 : Shape.Idx ⟨2, ![4096, 2048]⟩ → Elt F .bf16)
    (h2 : Shape.ShapeCasts ⟨2, ![4096, 2048]⟩ ⟨3, ![8, 512, 2048]⟩)
    (hA : ∀ c : Dev nD, m ((c.tc : Thread nD τ).loc main_arg2) = Layout.block ⟨2, ![512, 2048]⟩ ⟨2, ![4096, 2048]⟩ 0 8 c A2)
    {c : Dev nD} {s : MemSt nD τ sig (Elt F)} (h : Done X m c s) :
    s.mem ((c.tc : Thread nD τ).loc main_v1_2) = shapeCast ⟨3, ![8, 512, 2048]⟩ A2 h2 := by
  refine funext fun (i : Shape.Idx ⟨3, ![8, 512, 2048]⟩) => ?_
  obtain ⟨d, x, y, rfl⟩ : ∃ d x y, i = ix3 d x y := ⟨_, _, _, eq_ix3 i⟩
  exact (out_eq2 h d x y).trans ((congrFun (hA d) _).trans (stack_rows A2 _ h2 d x y))

variable {m} in
theorem result3 (A3 : Shape.Idx ⟨2, ![2048, 2048]⟩ → Elt F .bf16)
    (h3 : Shape.ShapeCasts ⟨2, ![2048, 2048]⟩ ⟨3, ![8, 256, 2048]⟩)
    (hA : ∀ c : Dev nD, m ((c.tc : Thread nD τ).loc main_arg3) = Layout.block ⟨2, ![256, 2048]⟩ ⟨2, ![2048, 2048]⟩ 0 8 c A3)
    {c : Dev nD} {s : MemSt nD τ sig (Elt F)} (h : Done X m c s) :
    s.mem ((c.tc : Thread nD τ).loc main_v1_3) = shapeCast ⟨3, ![8, 256, 2048]⟩ A3 h3 := by
  refine funext fun (i : Shape.Idx ⟨3, ![8, 256, 2048]⟩) => ?_
  obtain ⟨d, x, y, rfl⟩ : ∃ d x y, i = ix3 d x y := ⟨_, _, _, eq_ix3 i⟩
  exact (out_eq3 h d x y).trans ((congrFun (hA d) _).trans (stack_rows A3 _ h3 d x y))

variable {m} in
theorem result4 (A4 : Shape.Idx ⟨2, ![4, 6144]⟩ → Elt F .f32)
    (h4 : Shape.ShapeCasts ⟨2, ![4, 6144]⟩ ⟨3, ![4, 8, 768]⟩) (t4 : Shape.Transposes (s := ⟨3, ![4, 8, 768]⟩) [1, 0, 2] ⟨3, ![8, 4, 768]⟩)
    (hA : ∀ c : Dev nD, m ((c.tc : Thread nD τ).loc main_arg4) = Layout.block ⟨2, ![4, 768]⟩ ⟨2, ![4, 6144]⟩ 1 8 c A4)
    {c : Dev nD} {s : MemSt nD τ sig (Elt F)} (h : Done X m c s) :
    s.mem ((c.tc : Thread nD τ).loc main_v1_4) = transpose ⟨3, ![8, 4, 768]⟩ [1, 0, 2] (shapeCast ⟨3, ![4, 8, 768]⟩ A4 h4) t4 := by
  refine funext fun (i : Shape.Idx ⟨3, ![8, 4, 768]⟩) => ?_
  obtain ⟨d, x, y, rfl⟩ : ∃ d x y, i = ix3 d x y := ⟨_, _, _, eq_ix3 i⟩
  exact (out_eq4 h d x y).trans ((congrFun (hA d) _).trans (stack_cols A4 _ h4 t4 d x y))

/-- From the parts of whole arrays, every device ends with its part of the whole results. -/
theorem value
    (A0 : Shape.Idx ⟨2, ![2048, 22592]⟩ → Elt F .bf16) (h0 : Shape.ShapeCasts ⟨2, ![2048, 22592]⟩ ⟨3, ![2048, 8, 2824]⟩) (t0 : Shape.Transposes (s := ⟨3, ![2048, 8, 2824]⟩) [1, 0, 2] ⟨3, ![8, 2048, 2824]⟩)
    (A1 : Shape.Idx ⟨2, ![2048, 2048]⟩ → Elt F .bf16) (h1 : Shape.ShapeCasts ⟨2, ![2048, 2048]⟩ ⟨3, ![8, 256, 2048]⟩)
    (A2 : Shape.Idx ⟨2, ![4096, 2048]⟩ → Elt F .bf16) (h2 : Shape.ShapeCasts ⟨2, ![4096, 2048]⟩ ⟨3, ![8, 512, 2048]⟩)
    (A3 : Shape.Idx ⟨2, ![2048, 2048]⟩ → Elt F .bf16) (h3 : Shape.ShapeCasts ⟨2, ![2048, 2048]⟩ ⟨3, ![8, 256, 2048]⟩)
    (A4 : Shape.Idx ⟨2, ![4, 6144]⟩ → Elt F .f32) (h4 : Shape.ShapeCasts ⟨2, ![4, 6144]⟩ ⟨3, ![4, 8, 768]⟩) (t4 : Shape.Transposes (s := ⟨3, ![4, 8, 768]⟩) [1, 0, 2] ⟨3, ![8, 4, 768]⟩)
    (hA : ∀ c : Dev nD, m ((c.tc : Thread nD τ).loc main_arg0) = Layout.block ⟨2, ![2048, 2824]⟩ ⟨2, ![2048, 22592]⟩ 1 8 c A0
      ∧ m ((c.tc : Thread nD τ).loc main_arg1) = Layout.block ⟨2, ![256, 2048]⟩ ⟨2, ![2048, 2048]⟩ 0 8 c A1
      ∧ m ((c.tc : Thread nD τ).loc main_arg2) = Layout.block ⟨2, ![512, 2048]⟩ ⟨2, ![4096, 2048]⟩ 0 8 c A2
      ∧ m ((c.tc : Thread nD τ).loc main_arg3) = Layout.block ⟨2, ![256, 2048]⟩ ⟨2, ![2048, 2048]⟩ 0 8 c A3
      ∧ m ((c.tc : Thread nD τ).loc main_arg4) = Layout.block ⟨2, ![4, 768]⟩ ⟨2, ![4, 6144]⟩ 1 8 c A4) :
    θ_run defs (onTc (τ := τ) (main (F := F))) ⟨m, fun _ => 0, g⟩ (fun r => ∀ c : Dev nD,
      r.2.mem ((c.tc : Thread nD τ).loc main_v1_0) = transpose ⟨3, ![8, 2048, 2824]⟩ [1, 0, 2] (shapeCast ⟨3, ![2048, 8, 2824]⟩ A0 h0) t0
        ∧ r.2.mem ((c.tc : Thread nD τ).loc main_v1_1) = shapeCast ⟨3, ![8, 256, 2048]⟩ A1 h1
        ∧ r.2.mem ((c.tc : Thread nD τ).loc main_v1_2) = shapeCast ⟨3, ![8, 512, 2048]⟩ A2 h2
        ∧ r.2.mem ((c.tc : Thread nD τ).loc main_v1_3) = shapeCast ⟨3, ![8, 256, 2048]⟩ A3 h3
        ∧ r.2.mem ((c.tc : Thread nD τ).loc main_v1_4) = transpose ⟨3, ![8, 4, 768]⟩ [1, 0, 2] (shapeCast ⟨3, ![4, 8, 768]⟩ A4 h4) t4
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)) :=
  (θ_run defs _ _).mono (fun _ h c => ⟨result0 A0 h0 t0 (fun c => (hA c).1) (h.1 c),
      result1 A1 h1 (fun c => (hA c).2.1) (h.1 c),
      result2 A2 h2 (fun c => (hA c).2.2.1) (h.1 c),
      result3 A3 h3 (fun c => (hA c).2.2.2.1) (h.1 c),
      result4 A4 h4 t4 (fun c => (hA c).2.2.2.2) (h.1 c),
      in_eq0 (h.1 c), in_eq1 (h.1 c), in_eq2 (h.1 c), in_eq3 (h.1 c), in_eq4 (h.1 c)⟩) (run m g)

end Cert.GatherIdeal.Run

namespace Cert.Proof.Gather

open Idealize.ShloMosaic Idealize.SL.Sem

theorem frame_kernel : Cert.quiescent_Gather := fun m g _ =>
  (θ_run Cert.GatherIdeal.defs _ _).mono (fun _ h => h) (Cert.GatherIdeal.Run.frame (F := Bits) m g)

theorem frame_ideal : Cert.quiescent_GatherIdeal := fun m g _ => Cert.GatherIdeal.Run.frame m g

theorem frame_refIdeal : Cert.quiescent_GatherRefIdeal := fun m g _ =>
  (θ_run Cert.GatherRefIdeal.defs _ _).mono (fun r h => ⟨fun c => (h c).2.2.2.2.2, sem_eq_zero_of_no_sems (by decide) r.2⟩)
    (Cert.GatherRefIdeal.Value.run m g)

theorem frame_ref : Cert.quiescent_GatherRef := fun m g _ =>
  (θ_run Cert.GatherRef.defs _ _).mono (fun r h => ⟨fun c => (h c).2.2.2.2.2, sem_eq_zero_of_no_sems (by decide) r.2⟩)
    (Cert.GatherRef.Value.run m g)

theorem algebraic : Cert.algebraic_GatherIdeal_GatherRefIdeal := fun m g m' g' _ hA =>
  ⟨_, _, _, _, _, Cert.GatherIdeal.Run.value m g
      _ Cert.GatherRefIdeal.Gen.shapeCasts_S2048x22592_S2048x8x2824 Cert.GatherRefIdeal.Gen.transposes_S2048x8x2824_S8x2048x2824_1_0_2
      _ Cert.GatherRefIdeal.Gen.shapeCasts_S2048x2048_S8x256x2048
      _ Cert.GatherRefIdeal.Gen.shapeCasts_S4096x2048_S8x512x2048
      _ Cert.GatherRefIdeal.Gen.shapeCasts_S2048x2048_S8x256x2048
      _ Cert.GatherRefIdeal.Gen.shapeCasts_S4x6144_S4x8x768 Cert.GatherRefIdeal.Gen.transposes_S4x8x768_S8x4x768_1_0_2 hA,
    (θ_run Cert.GatherRefIdeal.defs _ _).mono (fun _ h => h 0) (Cert.GatherRefIdeal.Value.run m' g')⟩

theorem bitexact : Cert.bitexact_Gather_GatherRef := fun m g m' g' _ hA =>
  ⟨_, _, _, _, _, (θ_run Cert.GatherIdeal.defs _ _).mono (fun _ h => h) (Cert.GatherIdeal.Run.value (F := Bits) m g
      _ Cert.GatherRef.Gen.shapeCasts_S2048x22592_S2048x8x2824 Cert.GatherRef.Gen.transposes_S2048x8x2824_S8x2048x2824_1_0_2
      _ Cert.GatherRef.Gen.shapeCasts_S2048x2048_S8x256x2048
      _ Cert.GatherRef.Gen.shapeCasts_S4096x2048_S8x512x2048
      _ Cert.GatherRef.Gen.shapeCasts_S2048x2048_S8x256x2048
      _ Cert.GatherRef.Gen.shapeCasts_S4x6144_S4x8x768 Cert.GatherRef.Gen.transposes_S4x8x768_S8x4x768_1_0_2 hA),
    (θ_run Cert.GatherRef.defs _ _).mono (fun _ h => h 0) (Cert.GatherRef.Value.run m' g')⟩

end Cert.Proof.Gather

end
-- ==== Proof.Small.lean ====
/-
  The exchange of the small gradients: one array, every device sending all of its rows to all.
-/
module

public import proofs.«01_k».proof.Proof.Read
public import proofs.«01_k».proof.Proof.Gen.SmallIdeal.Skeleton
public import proofs.«01_k».proof.Proof.Gen.SmallIdeal.Launch
public import proofs.«01_k».proof.Proof.Gen.SmallIdeal.Points

@[expose] public section

noncomputable section

namespace Cert.SmallIdeal.Run

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline
open Cert.SmallIdeal Exchange

set_option Elab.async false

variable {F : FTy → Type} [FloatOps F]

local notation "𝕄" => MT nD τ sig Unit (Elt F) ℕ (U2 nD τ sig) ℕ

/-- The slot of a peer, as an offset; -/
def poff (k : Fin 7) (d : Dev nD) : Fin 3 → ℕ :=
  match k with
  | 0 => k0_off2 d | 1 => k0_off3 d | 2 => k0_off4 d | 3 => k0_off5 d | 4 => k0_off6 d | 5 => k0_off7 d | 6 => k0_off8 d
/-- the peer. -/
def pdev (k : Fin 7) (d : Dev nD) : Dev nD :=
  match k with
  | 0 => ⟨k0_dev1 d, Gen.k0_dev1_lt d⟩ | 1 => ⟨k0_dev2 d, Gen.k0_dev2_lt d⟩ | 2 => ⟨k0_dev3 d, Gen.k0_dev3_lt d⟩
  | 3 => ⟨k0_dev4 d, Gen.k0_dev4_lt d⟩ | 4 => ⟨k0_dev5 d, Gen.k0_dev5_lt d⟩ | 5 => ⟨k0_dev6 d, Gen.k0_dev6_lt d⟩ | 6 => ⟨k0_dev7 d, Gen.k0_dev7_lt d⟩

theorem off_me : ∀ d : Dev nD, k0_off1 d = ![d.val, 0, 0] := by decide +kernel
theorem poff_inb : ∀ (k : Fin 7) (d : Dev nD) (a : Fin 3), poff k d a + S1x336x128.size a ≤ S8x336x128.size a := by decide +kernel
theorem pdev_back : ∀ (k : Fin 7) (d : Dev nD), pdev k (pdev k d) = d := by decide +kernel

/-- The array of the exchange. -/
def X (_ : Unit) : Arr nD sig where
  s := S336x128
  e := .f32
  src _ _ := Memref.whole main_arg0
  slot d := slab (n := 8) (r := 336) (c := 128) (Memref.whole main_v1) (k0_off1 d) (Gen.k0_off1_inb d) Gen.squeezes_S1x336x128_S336x128
  pslot k d := slab (n := 8) (r := 336) (c := 128) (Memref.whole main_v1) (poff k d) (poff_inb k d) Gen.squeezes_S1x336x128_S336x128
  dev := pdev
  loc := ⟨14, by decide⟩
  snd k := ⟨k.val, by have := k.isLt; show _ < 15; omega⟩
  rcv k := ⟨7 + k.val, by have := k.isLt; show _ < 15; omega⟩
  src_ok _ _ := (Memref.isWhole_whole _).wordExact
  slot_ok _ := (View.wordExact_bits rfl).reshape _ _
  pslot_ok _ _ := (View.wordExact_bits rfl).reshape _ _
  unscratch _ := rfl

set_option maxRecDepth 65536 in
theorem body_eq (t : Fin cfg0.N) : Gen.bodyAt0 (F := F) t = body X [()] := by
  rfl

/-- The units of the array's transfers. -/
def N (_ : Unit) : ℕ := RefSig.tileCredit S336x128 .f32

theorem sems_inj : Function.Injective (osem X) := by decide +kernel
theorem N_pos : ∀ a, 0 < N a := fun _ => RefSig.tileCredit_pos S336x128 .f32 (by decide)
theorem peer_bij : ∀ (a : Unit) (d : Dev nD), Function.Bijective fun o => (X a).peer o d := by decide +kernel

theorem slot_credit (a : Unit) (d : Dev nD) : ((X a).slot d).view.dmaCredit = N a := rfl
theorem pslot_credit (a : Unit) (k : Fin 7) (d : Dev nD) : ((X a).pslot k d).view.dmaCredit = N a := rfl
theorem src_credit (a : Unit) (k : Fin 7) (d : Dev nD) : ((X a).src (some k) d).view.dmaCredit = N a := rfl

theorem facts : Exchange.Facts X N where
  inj := sems_inj
  pos := N_pos
  slot_credit := slot_credit
  pslot_credit := pslot_credit
  src_credit := src_credit
  back _ := pdev_back
  bij := peer_bij

theorem jobs_nodup : (jobs [()]).Nodup := by decide
theorem jobs_all : ∀ j, j ∈ jobs [()] := by decide

theorem ownSems : OwnSemFacts cfg0.spec (osem X) := by decide

variable (m : (ℓ : Loc nD τ sig) → Buf (Elt F) ℓ) (g : Dev nD → PrngReg)

/-- The run: every device's input as launched, slot `d` of its output what device `d` sent. -/
theorem run : θ_run defs (onTc (τ := τ) (main (F := F))) ⟨m, fun _ => 0, g⟩
    (fun r => (∀ c : Dev nD, Done X m c r.2) ∧ r.2.sem = fun _ => 0) := by
  refine run_done X N (fun _ => eighth) m facts [()] jobs_nodup jobs_all cfg0 defs₀ Variants.none Gen.N_0 g main Gen.winFacts0 ownSems Gen.scopedRest0_eq
    (fun c t Q => ?_) (fun c => rfl) (by decide) (fun _ => main_arg0) (fun _ => main_v1) (by decide) (by decide) (fun _ c => ?_) (fun _ c => ?_)
  · rw [← body_eq t]
    exact BIBase.Entails.rfl
  · refine (deal_shares Finset.univ _).trans (bigSep_congr fun o _ => ?_)
    unfold srcPts
    exact congrArg (fun K => (((c.tc : Thread nD τ).loc main_arg0) ↦[K]{eighth o} m ((c.tc : Thread nD τ).loc main_arg0) : sProp 𝕄))
      (View.set_whole main_arg0).symm
  · exact deal_slabs (n := 8) (r := 336) (c := 128) (Memref.whole main_v1) Gen.squeezes_S1x336x128_S336x128 (View.set_whole main_v1) k0_off1 Gen.k0_off1_inb id
      Function.bijective_id off_me fullShare c _

variable {m} in
theorem in_eq {c : Dev nD} {s : MemSt nD τ sig (Elt F)} (h : Done X m c s) :
    s.mem ((c.tc : Thread nD τ).loc main_arg0) = m ((c.tc : Thread nD τ).loc main_arg0) := by
  funext i
  exact h.1 ((), none) i (by show i ∈ (View.whole main_arg0).set; rw [View.set_whole]; exact Finset.mem_univ i)

variable {m} in
theorem out_eq {c : Dev nD} {s : MemSt nD τ sig (Elt F)} (h : Done X m c s) (d : Dev nD) (x : Fin 336) (y : Fin 128) :
    s.mem ((c.tc : Thread nD τ).loc main_v1) (ix3 (n0 := 8) d x y) = m ((d.tc : Thread nD τ).loc main_arg0) (ix2 x y) := by
  obtain ⟨o, -, e⟩ := h.slot facts () d
  exact (slab_read (n := 8) (Memref.whole main_v1) (Gen.k0_off1_inb d) Gen.squeezes_S1x336x128_S336x128 (k := d) (off_me d) _ x y).symm.trans
    (congrFun e (ix2 x y))

end Cert.SmallIdeal.Run

end
-- ==== Proof.SmallClaims.lean ====
/-
  The claims of the exchange of the small gradients.
-/
module

public import proofs.«01_k».proof.Defs
public import proofs.«01_k».proof.Proof.Small
public import proofs.«01_k».proof.Proof.Value
public import proofs.«01_k».proof.Proof.Gen.Small
public import proofs.«01_k».proof.Proof.Gen.SmallRefIdeal.Run
public import proofs.«01_k».proof.Proof.Gen.SmallRef.Run
public import Idealize.ShloMosaic.Lib.Quiescent

@[expose] public section

noncomputable section

namespace Cert.SmallIdeal.Run

open Idealize.ShloMosaic Idealize.ShloMosaic.TcCoe Idealize.ShloMosaic.ValueIdx Idealize.SL.Sem
open Cert.SmallIdeal Exchange

variable {F : FTy → Type} [FloatOps F]
variable (m : (ℓ : Loc nD τ sig) → Buf (Elt F) ℓ) (g : Dev nD → PrngReg)

/-- Every device's input ends as launched, and every counter at zero. -/
theorem frame : θ_run defs (onTc (τ := τ) (main (F := F))) ⟨m, fun _ => 0, g⟩ (fun r =>
    (∀ c : Dev nD, r.2.mem ((c.tc : Thread nD τ).loc main_arg0) = m ((c.tc : Thread nD τ).loc main_arg0)) ∧ r.2.sem = fun _ => 0) :=
  (θ_run defs _ _).mono (fun _ h => ⟨fun c => in_eq (h.1 c), h.2⟩) (run m g)

/-- From the blocks of an array, every device ends with the blocks stacked. -/
theorem value (A : Shape.Idx ⟨2, ![2688, 128]⟩ → Elt F .f32) (hs : Shape.ShapeCasts ⟨2, ![2688, 128]⟩ ⟨3, ![8, 336, 128]⟩)
    (hA : ∀ c : Dev nD, m ((c.tc : Thread nD τ).loc main_arg0) = Layout.block ⟨2, ![336, 128]⟩ ⟨2, ![2688, 128]⟩ 0 8 c A) :
    θ_run defs (onTc (τ := τ) (main (F := F))) ⟨m, fun _ => 0, g⟩ (fun r => ∀ c : Dev nD,
      r.2.mem ((c.tc : Thread nD τ).loc main_v1) = shapeCast ⟨3, ![8, 336, 128]⟩ A hs
      ∧ r.2.mem ((c.tc : Thread nD τ).loc main_arg0) = m ((c.tc : Thread nD τ).loc main_arg0)) := by
  refine (θ_run defs _ _).mono (fun r h c => ⟨?_, in_eq (h.1 c)⟩) (run m g)
  refine funext fun (i : Shape.Idx ⟨3, ![8, 336, 128]⟩) => ?_
  obtain ⟨d, x, y, rfl⟩ : ∃ d x y, i = ix3 d x y := ⟨_, _, _, eq_ix3 i⟩
  exact (out_eq (h.1 c) d x y).trans ((congrFun (hA d) _).trans (stack_rows A _ hs d x y))

end Cert.SmallIdeal.Run

namespace Cert.Proof.Small

open Idealize.ShloMosaic Idealize.SL.Sem

theorem frame_kernel : Cert.quiescent_Small := fun m g _ =>
  (θ_run Cert.SmallIdeal.defs _ _).mono (fun _ h => h) (Cert.SmallIdeal.Run.frame (F := Bits) m g)

theorem frame_ideal : Cert.quiescent_SmallIdeal := fun m g _ => Cert.SmallIdeal.Run.frame m g

theorem frame_refIdeal : Cert.quiescent_SmallRefIdeal := fun m g _ =>
  (θ_run Cert.SmallRefIdeal.defs _ _).mono (fun r h => ⟨fun c => (h c).2, sem_eq_zero_of_no_sems (by decide) r.2⟩)
    (Cert.SmallRefIdeal.Value.run m g)

theorem frame_ref : Cert.quiescent_SmallRef := fun m g _ =>
  (θ_run Cert.SmallRef.defs _ _).mono (fun r h => ⟨fun c => (h c).2, sem_eq_zero_of_no_sems (by decide) r.2⟩)
    (Cert.SmallRef.Value.run m g)

theorem algebraic : Cert.algebraic_SmallIdeal_SmallRefIdeal := fun m g m' g' _ hA =>
  ⟨_, Cert.SmallIdeal.Run.value m g _ Cert.SmallRefIdeal.Gen.shapeCasts_S2688x128_S8x336x128 hA,
    (θ_run Cert.SmallRefIdeal.defs _ _).mono (fun _ h => h 0) (Cert.SmallRefIdeal.Value.run m' g')⟩

theorem bitexact : Cert.bitexact_Small_SmallRef := fun m g m' g' _ hA =>
  ⟨_, (θ_run Cert.SmallIdeal.defs _ _).mono (fun _ h => h)
      (Cert.SmallIdeal.Run.value (F := Bits) m g _ Cert.SmallRef.Gen.shapeCasts_S2688x128_S8x336x128 hA),
    (θ_run Cert.SmallRef.defs _ _).mono (fun _ h => h 0) (Cert.SmallRef.Value.run m' g')⟩

end Cert.Proof.Small

end
-- ==== Proof.Adam.lean ====
/-
  AdamW's step on one element (`moment`, `square`, `delta`), the sum of eight partial gradients (`total`), and the same over
  whole arrays as the reference's operations compute it at the ideal values (`ref_total` and on). A kernel that reads the
  partial gradients slab by slab reads them at the slab's number (`slab_apply`).
-/
module

public import proofs.«01_k».proof.Defs
public import Idealize.ShloMosaic.Lib.ValueLayout
public import Idealize.ShloMosaic.Lib.IdealHost
public import Idealize.ShloMosaic.Lib.Pipeline.Value
public import Idealize.ShloMosaic.Lib.Pointwise.Reduce
public import Idealize.ShloMosaic.Lib.Pointwise
public import Idealize.ShloMosaic.Lib.KernelVsHost
public import Idealize.ShloMosaic.Lib.Quiescent
public import Idealize.ShloMosaic.Lib.Tactic

@[expose] public section

noncomputable section

namespace Adam

open Idealize.ShloMosaic

section Element

variable {F : FTy → Type} [FloatOps F]

/-- The new first moment. -/
def moment (g x : F .f32) : F .f32 :=
  FloatOps.addf (FloatOps.mulf (Scalar.ofBits .f32 0x3F666666#32) x) (FloatOps.mulf (Scalar.ofBits .f32 0x3DCCCCCD#32) g)

/-- The new second moment. -/
def square (g x : F .f32) : F .f32 :=
  FloatOps.addf (FloatOps.mulf (Scalar.ofBits .f32 0x3F7FBE77#32) x)
    (FloatOps.mulf (Scalar.ofBits .f32 0x3A83126F#32) (FloatOps.mulf g g))

/-- The weight's change. -/
def delta (g w x y : F .f32) : F .f32 :=
  FloatOps.mulf (Scalar.ofBits .f32 0xBA83126F#32)
    (FloatOps.addf
      (FloatOps.divf (FloatOps.divf (moment g x) (Scalar.ofBits .f32 0x3F26BD02#32))
        (FloatOps.addf (FloatOps.sqrt (FloatOps.divf (square g y) (Scalar.ofBits .f32 0x3C231ACC#32)))
          (Scalar.ofBits .f32 0x322BCC77#32)))
      (FloatOps.mulf (Scalar.ofBits .f32 0x3C23D70A#32) w))

/-- Eight values added from the first on. -/
def total (p : Fin 8 → F .f32) : F .f32 :=
  FloatOps.addf (FloatOps.addf (FloatOps.addf (FloatOps.addf (FloatOps.addf (FloatOps.addf (FloatOps.addf (p 0) (p 1)) (p 2)) (p 3)) (p 4))
    (p 5)) (p 6)) (p 7)

variable {r c : Nat}

/-- The parts at every place, added. -/
def grad (x : Vec F ⟨3, ![8, r, c]⟩ .bf16) (i : (⟨2, ![r, c]⟩ : Shape).Idx) : F .f32 :=
  total fun k => FloatOps.extf .f32 (by decide) (x (ValueIdx.ix3 k (i 0) (i 1)))

variable (g w x y : Vec F ⟨2, ![r, c]⟩ .f32)

/-- The new first moments. -/
abbrev moments : Vec F ⟨2, ![r, c]⟩ .f32 := fun i => moment (g i) (x i)

/-- The new second moments. -/
abbrev squares : Vec F ⟨2, ![r, c]⟩ .f32 := fun i => square (g i) (x i)

/-- The weights' changes. -/
abbrev deltas : Vec F ⟨2, ![r, c]⟩ .f32 := fun i => delta (g i) (w i) (x i) (y i)

end Element

variable {α : Type} {r c : Nat}

theorem zero2 : (![0, 0] : Fin 2 → Nat) = fun _ => 0 := funext fun a => by fin_cases a <;> rfl

/-- A place of a table is a row and a column. -/
theorem place (y : (⟨2, ![r, c]⟩ : Shape).Idx) : ∃ (p : Fin r) (q : Fin c), y = ValueIdx.ix2 p q := ⟨y 0, y 1, ValueIdx.eq_ix2 y⟩

/-- One slab loaded from a stack and its unit axis dropped. -/
theorem slab_apply (x : (⟨3, ![8, r, c]⟩ : Shape).Idx → α) (n : Nat) (k : Fin 8) (hk : k.val = n)
    (inb : ∀ a, (![n, 0, 0] : Fin 3 → Nat) a + (![1, r, c] : Fin 3 → Nat) a ≤ (![8, r, c] : Fin 3 → Nat) a)
    (h : (⟨3, ![1, r, c]⟩ : Shape).ShapeCasts ⟨2, ![r, c]⟩) (y : (⟨2, ![r, c]⟩ : Shape).Idx) :
    shapeCast ⟨2, ![r, c]⟩ (fun i => x ((Rect.unit (s := ⟨3, ![8, r, c]⟩) ![n, 0, 0] ![1, r, c] inb).idx i)) h y
      = x (ValueIdx.ix3 k (y 0) (y 1)) := by
  refine (shapeCast_apply _ h y (ValueIdx.ix3 0 (y 0) (y 1)) ?_).trans (congrArg x ?_)
  · rw [Shape.rowMajor_val_three, Shape.rowMajor_val_two]
    show (0 * r + (y 0).val) * c + (y 1).val = (y 0).val * c + (y 1).val
    rw [Nat.zero_mul, Nat.zero_add]
  · funext a; apply Fin.ext
    match a with
    | ⟨0, _⟩ => show n + 1 * 0 = k.val; omega
    | ⟨1, _⟩ => show 0 + 1 * (y 0).val = (y 0).val; omega
    | ⟨2, _⟩ => show 0 + 1 * (y 1).val = (y 1).val; omega

/-- Blocks of `b` rows, one after another, meet every row. -/
theorem covered {R n b : Nat} (hR : R = n * b) (hb : 0 < b) (row : Fin n → (⟨2, ![b, c]⟩ : Shape).Idx → (⟨2, ![R, c]⟩ : Shape).Idx)
    (h0 : ∀ t y, (row t y 0).val = t.val * b + (y 0).val) (h1 : ∀ t y, (row t y 1).val = (y 1).val) (i : (⟨2, ![R, c]⟩ : Shape).Idx) :
    ∃ t y, row t y = i := by
  have hi : (i 0).val < n * b := hR ▸ (i 0).isLt
  refine ⟨⟨(i 0).val / b, Nat.div_lt_of_lt_mul (Nat.mul_comm n b ▸ hi)⟩, ValueIdx.ix2 ⟨(i 0).val % b, Nat.mod_lt _ hb⟩ (i 1), ?_⟩
  funext a; apply Fin.ext
  match a with
  | ⟨0, _⟩ => exact (h0 _ _).trans (Nat.div_add_mod' _ _)
  | ⟨1, _⟩ => exact h1 _ _

/-! ## The reference's operations, at an index -/

section Reference

variable (p : FVec Ideal ⟨3, ![8, r, c]⟩ .f32) (g w x y : FVec Ideal ⟨2, ![r, c]⟩ .f32) (j : (⟨2, ![r, c]⟩ : Shape).Idx)
variable (b : (⟨0, ![]⟩ : Shape).BroadcastsInDim ⟨2, ![r, c]⟩ ![])

/-- A constant of every place. -/
abbrev fill (v : BitVec 32) : FVec Ideal ⟨2, ![r, c]⟩ .f32 := broadcastInDim ⟨2, ![r, c]⟩ ![] b (constant ⟨0, ![]⟩ .f32 v)

theorem ref_total (h : (⟨3, ![8, r, c]⟩ : Shape).ReducesTo [0] ⟨2, ![r, c]⟩) (hu : 0 < (⟨0, ![]⟩ : Shape).numel) :
    Host.reduceAdd p (constant ⟨0, ![]⟩ .f32 0x00000000#32) h hu j = total (fun k => p (ValueIdx.ix3 k (j 0) (j 1))) := by
  rw [ValueIdx.hostReduceAdd_apply, Ideal.hostReduceAdd_r3_a0, Fin.sum_univ_eight]
  have h0 : (constant (F := Ideal) ⟨0, ![]⟩ .f32 0x00000000#32 (Shape.Idx.first hu) : EReal) = 0 := Ideal.ofBits_zero_f32
  rw [h0, zero_add]
  rfl

theorem ref_moment : addf (mulf (fill b 0x3F666666#32) x) (mulf (fill b 0x3DCCCCCD#32) g) j = moment (g j) (x j) := rfl

theorem ref_square : addf (mulf (fill b 0x3F7FBE77#32) x) (mulf (fill b 0x3A83126F#32) (mulf g g)) j = square (g j) (x j) := rfl

theorem ref_delta :
    mulf (fill b 0xBA83126F#32)
      (addf (Host.divf (Host.divf (addf (mulf (fill b 0x3F666666#32) x) (mulf (fill b 0x3DCCCCCD#32) g)) (fill b 0x3F26BD02#32))
          (addf (Host.sqrt (Host.divf (addf (mulf (fill b 0x3F7FBE77#32) y) (mulf (fill b 0x3A83126F#32) (mulf g g))) (fill b 0x3C231ACC#32)))
            (fill b 0x322BCC77#32)))
        (mulf (fill b 0x3C23D70A#32) w)) j = delta (g j) (w j) (x j) (y j) := rfl

end Reference

end Adam

end
-- ==== Proof.Gates.lean ====
/-
  The gate `1 / (1 + exp (-z))` on the extended reals, as a kernel writes it (with `0 - z`) and as the reference does, and the
  reference's gate of a whole array at an index (`ref_gate`).
-/
module

public import Idealize.ShloMosaic.Lib.ValueLayout
public import Idealize.ShloMosaic.Lib.IdealHost
public import Idealize.ShloMosaic.Lib.Pipeline.Value
public import Idealize.ShloMosaic.Lib.Pointwise

@[expose] public section

noncomputable section

namespace Gates

open Idealize.ShloMosaic

/-- The gate. -/
def gate (z : EReal) : EReal := Ideal.div 1 (1 + Ideal.exp (-z))

theorem kernel_gate (z : EReal) : Ideal.div 1 (1 + Ideal.exp (0 - z)) = gate z := by
  rw [sub_eq_add_neg, zero_add]; rfl

abbrev Full : Shape := ⟨2, ![8192, 2048]⟩
abbrev Wide : Shape := ⟨2, ![8192, 22528]⟩
abbrev Unit : Shape := ⟨0, ![]⟩

section Reference

variable {r c : Nat} (z : FVec Ideal ⟨2, ![r, c]⟩ .f32) (b : Unit.BroadcastsInDim ⟨2, ![r, c]⟩ ![])

/-- One at every place. -/
abbrev ones : FVec Ideal ⟨2, ![r, c]⟩ .f32 := broadcastInDim ⟨2, ![r, c]⟩ ![] b (constant Unit .f32 0x3F800000#32)

/-- The gate at every place. -/
abbrev gates : FVec Ideal ⟨2, ![r, c]⟩ .f32 := Host.divf (ones b) (addf (ones b) (Host.exp (Host.negf z)))

theorem ref_gate (j : (⟨2, ![r, c]⟩ : Shape).Idx) : gates z b j = gate (z j) := by
  unfold gates ones gate
  pointwise

end Reference

end Gates

end
-- ==== Proof.Slopes.lean ====
/-
  The slope of the gated input `z / (1 + exp (-z))` on the extended reals: what a kernel writes, `s (1 + z (1 - s))` with the
  gate `s`, and what differentiating the gated input gives, `s + z (s (1 - s))`, are equal at every place, the infinities
  among them (`slope_eq`); the reference's slope of a whole array at an index (`ref_slope`).
-/
module

public import proofs.«01_k».proof.Proof.Gates

@[expose] public section

noncomputable section

namespace Slopes

open Idealize.ShloMosaic Gates

/-- The slope of the gated input. -/
def slope (z : EReal) : EReal := gate z * (1 + z * (1 - gate z))

theorem gate_top : gate ⊤ = 1 := by
  unfold gate
  rw [EReal.neg_top, Ideal.exp_bot, add_zero]
  simpa using Ideal.div_coe (y := 1) one_ne_zero 1

theorem gate_bot : gate ⊥ = 0 := by
  unfold gate
  rw [EReal.neg_bot, Ideal.exp_top, EReal.add_top_of_ne_bot (by decide), Ideal.div, if_neg (by decide), EReal.inv_top, mul_zero]

theorem gate_coe (z : ℝ) : gate z = ((1 / (1 + Real.exp (-z)) : ℝ) : EReal) := by
  have h : (1 + Real.exp (-z) : ℝ) ≠ 0 := by positivity
  unfold gate
  rw [← EReal.coe_neg, Ideal.exp_coe, ← EReal.coe_one, ← EReal.coe_add, Ideal.div_coe h, ← EReal.coe_mul, one_mul]

theorem slope_eq (z : EReal) : gate z + z * (gate z * (1 - gate z)) = slope z := by
  unfold slope
  induction z with
  | bot =>
    rw [gate_bot]
    simp
  | top =>
    rw [gate_top]
    have h : (1 - 1 : EReal) = 0 := by
      rw [← EReal.coe_one, ← EReal.coe_sub, sub_self, EReal.coe_zero]
    rw [h]
    simp
  | coe z =>
    rw [gate_coe]
    norm_cast
    push_cast
    ring_nf

section Reference

variable {r c : Nat} (z : FVec Ideal ⟨2, ![r, c]⟩ .f32) (b : Unit.BroadcastsInDim ⟨2, ![r, c]⟩ ![])

/-- The slope at every place, as differentiating with the direction one at every place gives it. -/
abbrev slopes : FVec Ideal ⟨2, ![r, c]⟩ .f32 :=
  addf (mulf (ones b) (gates z b)) (mulf z (mulf (ones b) (mulf (gates z b) (subf (ones b) (gates z b)))))

theorem ref_slope (j : (⟨2, ![r, c]⟩ : Shape).Idx) : slopes z b j = slope (z j) := by
  refine Eq.trans ?_ (slope_eq (z j))
  rw [← ref_gate z b j]
  have e : (ones b j : EReal) = 1 := by
    unfold ones
    pointwise
  show (ones b j : EReal) * gates z b j + z j * (ones b j * (gates z b j * (ones b j - gates z b j))) = _
  rw [e, one_mul, one_mul]

end Reference

end Slopes

end
-- ==== Proof.GateBackClaims.lean ====
/-
  The claims of the gradient through the attention branch's gate: the two gradients are functions of the same place of the
  operands (`mix`, `toGate`); each head's dot product is summed over the head's 128 lanes and stored as a column
  (`heads_apply`).
-/
module

public import proofs.«01_k».proof.Proof.Adam
public import proofs.«01_k».proof.Proof.Slopes
public import proofs.«01_k».proof.Proof.Gen.GateBack.Frame
public import proofs.«01_k».proof.Proof.Gen.GateBackIdeal.Frame
public import proofs.«01_k».proof.Proof.Gen.GateBackRefIdeal.Run

@[expose] public section

noncomputable section

namespace Cert.GateBackIdeal.Run

open Idealize.ShloMosaic Idealize.ShloMosaic.TcCoe Idealize.SL.Sem
open Cert.GateBackIdeal Cert.GateBackIdeal.Gen

/-- The mixed heads' gradient at one place. -/
def mix (d z : EReal) : EReal := d * (z * Gates.gate z)

/-- The gate's gradient at one place. -/
def toGate (d o z : EReal) : EReal := d * o * Slopes.slope z

/-- The column that is lane `e` of head `n`. -/
def lane (n : Fin 16) (e : Fin 128) : Fin 2048 := ⟨n.val * 128 + e.val, by
  have := n.isLt
  have := e.isLt
  omega⟩

section Block

variable (d o z : Vec Ideal S256x2048 .f32) (y : S256x2048.Idx)

theorem out_mix : out0_3 d o z y = mix (d y) (z y) := by
  rw [out0_3, View.canon_unit_zero Adam.zero2]
  simp only [View.ld_unit_zero (S := S256x2048) Adam.zero2]
  unfold mix
  rw [← Gates.kernel_gate]
  unfold k0_pay9 k0_pay8 k0_pay7
  pointwise

theorem out_toGate : out0_4 d o z y = toGate (d y) (o y) (z y) := by
  rw [out0_4, View.canon_unit_zero Adam.zero2]
  simp only [View.ld_unit_zero (S := S256x2048) Adam.zero2]
  unfold toGate Slopes.slope
  rw [← Gates.kernel_gate]
  unfold k0_pay10 k0_pay7
  pointwise

theorem prod_apply : k0_pay11 z d o y = mix (d y) (z y) * o y := by
  unfold mix
  rw [← Gates.kernel_gate]
  unfold k0_pay11 k0_pay8 k0_pay7
  pointwise

/-- Every head's sum over its lanes. -/
def sums (u : Vec Ideal S256x2048 .f32) : Vec Ideal S256x16 .f32 := fun y => ∑ e : Fin 128, (u (ix2 (y 0) (lane (y 1) e)) : EReal)

theorem piece (u : FVec Ideal S256x2048 .f32) (b n : Nat) (hn : n < 16) (hb : b = n * 128) (h : S256x2048.Slices ![0, b] S256x128)
    (i : ∀ a, (![0, n] : Fin 2 → Nat) a + S256x1.size a ≤ S256x16.size a) (x : S256x1.Idx) :
    shapeCast S256x1 (multiReduction .add [1] S256 (extractStridedSlice S256x128 ![0, b] u h) 0x00000000#32 reduces_S256x128_S256
      (.inl rfl) rfl) shapeCasts_S256_S256x1 x = sums u ((Rect.unit (s := S256x16) ![0, n] S256x1.size i).idx x) := by
  subst hb
  obtain ⟨r, q, rfl⟩ : ∃ (r : Fin 256) (q : Fin 1), x = ix2 r q := ⟨x 0, x 1, eq_ix2 x⟩
  obtain rfl : q = 0 := Subsingleton.elim _ _
  have e : (Rect.unit (s := S256x16) ![0, n] S256x1.size i).idx (ix2 r 0) = ix2 r ⟨n, hn⟩ := by
    funext a; apply Fin.ext
    match a with
    | ⟨0, _⟩ => show 0 + 1 * r.val = r.val; omega
    | ⟨1, _⟩ => show n + 1 * 0 = n; omega
  rw [e]
  unfold sums lane
  pointwise

theorem out_sums (y : S256x16.Idx) : out0_5 d o z y = sums (k0_pay11 z d o) y := by
  unfold out0_5 k0_pay23
  simp only [View.ld_unit_zero (S := S256x2048) Adam.zero2]
  refine View.canon_apply_of_pieces (sums (k0_pay11 z d o)) _ ?_ y (cover0_5 _ _ _ _ _ _ _ _ _ _ _ _ _ _ _ _ y)
  intro pc hpc
  simp only [List.mem_cons, List.not_mem_nil, or_false] at hpc
  rcases hpc with rfl | rfl | rfl | rfl | rfl | rfl | rfl | rfl | rfl | rfl | rfl | rfl | rfl | rfl | rfl | rfl
  all_goals
    refine fun x => piece (k0_pay11 z d o) _ _ ?_ ?_ ?_ ?_ x
    all_goals first | exact slices_S256x2048_o0_256_S256x128 | rfl | decide

end Block

variable (m : (ℓ : Loc nD τ sig) → Buf (Elt Ideal) ℓ) (c : Dev nD)

/-- The row of the arrays that is row `r` of point `t`'s block. -/
def row (t : Fin cfg0.N) (r : Fin 256) : Fin 8192 := ⟨t.val * 256 + r.val, by
  have h : t.val < 32 := lt_of_lt_of_eq t.isLt N_0
  have := r.isLt
  omega⟩

/-- The column of the projections that is column `k` of the gate. -/
def gateCol (k : Fin 2048) : Fin 22528 := ⟨6144 + k.val, by have := k.isLt; omega⟩

theorem index_rows : ∀ t : Fin cfg0.N, win0_3.index t (0 : Fin 2) = t.val ∧ win0_3.index t (1 : Fin 2) = 0 :=
  (by decide +kernel : ∀ t : Fin grid0.N, _)

theorem index_gate : ∀ t : Fin cfg0.N, win0_2.index t (0 : Fin 2) = t.val ∧ win0_2.index t (1 : Fin 2) = 3 :=
  (by decide +kernel : ∀ t : Fin grid0.N, _)

theorem index_sums : ∀ t : Fin cfg0.N, win0_5.index t (0 : Fin 2) = t.val ∧ win0_5.index t (1 : Fin 2) = 0 :=
  (by decide +kernel : ∀ t : Fin grid0.N, _)

theorem emb_rows (t : Fin cfg0.N) (r : Fin 256) (k : Fin 2048) : ((cfg0.win 3).blk t).view.emb (ix2 r k) = ix2 (row t r) k := by
  obtain ⟨h0, h1⟩ := index_rows t
  funext a; apply Fin.ext
  match a with
  | ⟨0, _⟩ => show win0_3.index t (0 : Fin 2) * 256 + 1 * r.val = t.val * 256 + r.val; omega
  | ⟨1, _⟩ => show win0_3.index t (1 : Fin 2) * 2048 + 1 * k.val = k.val; omega

theorem emb_gate (t : Fin cfg0.N) (r : Fin 256) (k : Fin 2048) : ((cfg0.win 2).blk t).view.emb (ix2 r k) = ix2 (row t r) (gateCol k) := by
  obtain ⟨h0, h1⟩ := index_gate t
  funext a; apply Fin.ext
  match a with
  | ⟨0, _⟩ => show win0_2.index t (0 : Fin 2) * 256 + 1 * r.val = t.val * 256 + r.val; omega
  | ⟨1, _⟩ => show win0_2.index t (1 : Fin 2) * 2048 + 1 * k.val = 6144 + k.val; omega

theorem emb_sums (t : Fin cfg0.N) (r : Fin 256) (n : Fin 16) : ((cfg0.win 5).blk t).view.emb (ix2 r n) = ix2 (row t r) n := by
  obtain ⟨h0, h1⟩ := index_sums t
  funext a; apply Fin.ext
  match a with
  | ⟨0, _⟩ => show win0_5.index t (0 : Fin 2) * 256 + 1 * r.val = t.val * 256 + r.val; omega
  | ⟨1, _⟩ => show win0_5.index t (1 : Fin 2) * 16 + 1 * n.val = n.val; omega

theorem covered (i : S8192x2048.Idx) : ∃ (t : Fin cfg0.N) (y : S256x2048.Idx), ((cfg0.win 3).blk t).view.emb y = i :=
  Adam.covered (n := cfg0.N) (b := 256) rfl (by decide) (fun t (y : S256x2048.Idx) => ix2 (row t (y 0)) (y 1)) (fun _ _ => rfl) (fun _ _ => rfl) i
    |>.imp fun t h => h.imp fun y e => ((congrArg _ (eq_ix2 y)).trans (emb_rows t (y 0) (y 1))).trans e

theorem covered_sums (i : S8192x16.Idx) : ∃ (t : Fin cfg0.N) (y : S256x16.Idx), ((cfg0.win 5).blk t).view.emb y = i :=
  Adam.covered (n := cfg0.N) (b := 256) rfl (by decide) (fun t (y : S256x16.Idx) => ix2 (row t (y 0)) (y 1)) (fun _ _ => rfl) (fun _ _ => rfl) i
    |>.imp fun t h => h.imp fun y e => ((congrArg _ (eq_ix2 y)).trans (emb_sums t (y 0) (y 1))).trans e

theorem block_d (t : Fin cfg0.N) (r : Fin 256) (k : Fin 2048) : iblk m c 0 t (ix2 r k) = V m c main_arg0 (ix2 (row t r) k) :=
  congrArg (V m c main_arg0) (emb_rows t r k)
theorem block_o (t : Fin cfg0.N) (r : Fin 256) (k : Fin 2048) : iblk m c 1 t (ix2 r k) = V m c main_arg1 (ix2 (row t r) k) :=
  congrArg (V m c main_arg1) (emb_rows t r k)
theorem block_z (t : Fin cfg0.N) (r : Fin 256) (k : Fin 2048) : iblk m c 2 t (ix2 r k) = V m c main_arg2 (ix2 (row t r) (gateCol k)) :=
  congrArg (V m c main_arg2) (emb_gate t r k)

/-- The mixed heads' gradient. -/
def mixed (d : Vec Ideal S8192x2048 .f32) (p : Vec Ideal S8192x22528 .f32) : Vec Ideal S8192x2048 .bf16 := fun j =>
  mix (d (ix2 (j 0) (j 1))) (p (ix2 (j 0) (gateCol (j 1))))

/-- The gate's gradient. -/
def gates (d o : Vec Ideal S8192x2048 .f32) (p : Vec Ideal S8192x22528 .f32) : Vec Ideal S8192x2048 .bf16 := fun j =>
  toGate (d (ix2 (j 0) (j 1))) (o (ix2 (j 0) (j 1))) (p (ix2 (j 0) (gateCol (j 1))))

/-- Every head's dot product of its gradient and its output. -/
def heads (d o : Vec Ideal S8192x2048 .f32) (p : Vec Ideal S8192x22528 .f32) : Vec Ideal S8192x16 .f32 := fun j =>
  ∑ e : Fin 128, mix (d (ix2 (j 0) (lane (j 1) e))) (p (ix2 (j 0) (gateCol (lane (j 1) e)))) * (o (ix2 (j 0) (lane (j 1) e)) : EReal)

theorem final_mixed : (dats m 0 c).arrAt 3 cfg0.N = mixed (V m c main_arg0) (V m c main_arg2) :=
  (dats m 0 c).arrAt_eq_of_cover 3 (mixed (V m c main_arg0) (V m c main_arg2))
    (fun t _ => by
      show (cfg0.win 3).cut (grid0.coords t) ((dats m 0 c).after 3 t) = _
      rw [after0_3]
      refine funext fun (y : S256x2048.Idx) => ?_
      obtain ⟨r, k, rfl⟩ := Adam.place y
      refine Eq.trans (?_ : _ = (mixed (V m c main_arg0) (V m c main_arg2)) (ix2 (row t r) k)) (congrArg (mixed (V m c main_arg0) (V m c main_arg2)) (emb_rows t r k).symm)
      refine (out_mix (iblk m c 0 t) (iblk m c 1 t) (iblk m c 2 t) (ix2 r k)).trans ?_
      rw [block_d, block_z]
      rfl)
    (fun (i : S8192x2048.Idx) => let ⟨t, y, h⟩ := covered i; ⟨t, flush0_3 t, h ▸ ((cfg0.win 3).blk t).view.emb_mem_set y⟩)

theorem final_gates : (dats m 0 c).arrAt 4 cfg0.N = gates (V m c main_arg0) (V m c main_arg1) (V m c main_arg2) :=
  (dats m 0 c).arrAt_eq_of_cover 4 (gates (V m c main_arg0) (V m c main_arg1) (V m c main_arg2))
    (fun t _ => by
      show (cfg0.win 4).cut (grid0.coords t) ((dats m 0 c).after 4 t) = _
      rw [after0_4]
      refine funext fun (y : S256x2048.Idx) => ?_
      obtain ⟨r, k, rfl⟩ := Adam.place y
      refine Eq.trans (?_ : _ = (gates (V m c main_arg0) (V m c main_arg1) (V m c main_arg2)) (ix2 (row t r) k)) (congrArg (gates (V m c main_arg0) (V m c main_arg1) (V m c main_arg2)) (emb_rows t r k).symm)
      refine (out_toGate (iblk m c 0 t) (iblk m c 1 t) (iblk m c 2 t) (ix2 r k)).trans ?_
      rw [block_d, block_o, block_z]
      rfl)
    (fun (i : S8192x2048.Idx) => let ⟨t, y, h⟩ := covered i; ⟨t, flush0_4 t, h ▸ ((cfg0.win 4).blk t).view.emb_mem_set y⟩)

theorem heads_apply (t : Fin cfg0.N) (r : Fin 256) (n : Fin 16) :
    out0_5 (iblk m c 0 t) (iblk m c 1 t) (iblk m c 2 t) (ix2 r n) = heads (V m c main_arg0) (V m c main_arg1) (V m c main_arg2) (ix2 (row t r) n) := by
  refine (out_sums (iblk m c 0 t) (iblk m c 1 t) (iblk m c 2 t) (ix2 r n)).trans (Finset.sum_congr rfl fun e _ => ?_)
  refine (prod_apply _ _ _ _).trans ?_
  show mix (iblk m c 0 t (ix2 r (lane n e))) (iblk m c 2 t (ix2 r (lane n e))) * (iblk m c 1 t (ix2 r (lane n e)) : EReal) = _
  rw [block_d, block_o, block_z]
  rfl

theorem final_heads : (dats m 0 c).arrAt 5 cfg0.N = heads (V m c main_arg0) (V m c main_arg1) (V m c main_arg2) :=
  (dats m 0 c).arrAt_eq_of_cover 5 (heads (V m c main_arg0) (V m c main_arg1) (V m c main_arg2))
    (fun t _ => by
      show (cfg0.win 5).cut (grid0.coords t) ((dats m 0 c).after 5 t) = _
      rw [after0_5]
      refine funext fun (y : S256x16.Idx) => ?_
      obtain ⟨r, n, rfl⟩ := Adam.place y
      exact (heads_apply m c t r n).trans (congrArg (heads (V m c main_arg0) (V m c main_arg1) (V m c main_arg2)) (emb_sums t r n).symm))
    (fun (i : S8192x16.Idx) => let ⟨t, y, h⟩ := covered_sums i; ⟨t, flush0_5 t, h ▸ ((cfg0.win 5).blk t).view.emb_mem_set y⟩)

end Cert.GateBackIdeal.Run

namespace Cert.Proof.GateBack

open Idealize.ShloMosaic Idealize.ShloMosaic.TcCoe Idealize.SL.Sem

theorem frame_refIdeal : Cert.quiescent_GateBackRefIdeal := fun m g _ =>
  (θ_run Cert.GateBackRefIdeal.defs _ _).mono
    (fun r h => ⟨fun c => (h c).2.2.2, sem_eq_zero_of_no_sems (by decide) r.2⟩) (Cert.GateBackRefIdeal.Value.run m g)

open Gates (Full Wide Unit gate)

abbrev Heads : Shape := ⟨3, ![8192, 16, 128]⟩
abbrev Sums : Shape := ⟨2, ![8192, 16]⟩

section Reference

variable (d o : FVec Ideal Full .f32) (p : FVec Ideal Wide .f32) (b : Unit.BroadcastsInDim Full ![])
  (h : Wide.Slices ![0, 6144] Full) (hb : FTy.bf16.bits < FTy.f32.bits)

theorem part_at (i : Fin 8192) (k : Fin 2048) : extractStridedSlice Full ![0, 6144] p h (ix2 i k)
    = p (ix2 i (Cert.GateBackIdeal.Run.gateCol k)) := by
  unfold Cert.GateBackIdeal.Run.gateCol
  pointwise

/-- The reference's gradient of the mixed heads before its rounding. -/
abbrev refMix : FVec Ideal Full .f32 :=
  mulf d (mulf (extractStridedSlice Full ![0, 6144] p h) (Gates.gates (extractStridedSlice Full ![0, 6144] p h) b))

theorem mix_at (i : Fin 8192) (k : Fin 2048) : refMix d p b h (ix2 i k)
    = Cert.GateBackIdeal.Run.mix (d (ix2 i k)) (p (ix2 i (Cert.GateBackIdeal.Run.gateCol k))) := by
  show d (ix2 i k) * (extractStridedSlice Full ![0, 6144] p h (ix2 i k)
    * Gates.gates (extractStridedSlice Full ![0, 6144] p h) b (ix2 i k)) = (_ : EReal)
  rw [Gates.ref_gate, part_at p h i k]
  rfl

theorem ref_mixed : truncf .bf16 (refMix d p b h) hb = Cert.GateBackIdeal.Run.mixed d p := by
  refine funext fun (j : Full.Idx) => ?_
  obtain ⟨i, k, rfl⟩ := Adam.place j
  exact mix_at d p b h i k

theorem ref_gates : truncf .bf16 (mulf (mulf o d) (Slopes.slopes (extractStridedSlice Full ![0, 6144] p h) b)) hb
    = Cert.GateBackIdeal.Run.gates d o p := by
  refine funext fun (j : Full.Idx) => ?_
  obtain ⟨i, k, rfl⟩ := Adam.place j
  have e := (Slopes.ref_slope (extractStridedSlice Full ![0, 6144] p h) b (ix2 i k)).trans (congrArg Slopes.slope (part_at p h i k))
  exact congrArg₂ (fun u v : EReal => u * v) (mul_comm (o (ix2 i k) : EReal) (d (ix2 i k))) e

theorem ref_heads (hc : Full.ShapeCasts Heads) (hr : Heads.ReducesTo [2] Sums) (h0 : 0 < Unit.numel) :
    Host.reduceAdd (shapeCast Heads (mulf (refMix d p b h) o) hc) (constant Unit .f32 0x00000000#32) hr h0
      = Cert.GateBackIdeal.Run.heads d o p := by
  refine funext fun (j : Sums.Idx) => ?_
  obtain ⟨i, n, rfl⟩ := Adam.place j
  unfold Cert.GateBackIdeal.Run.heads
  simp only [ix2_0, ix2_1, ← mix_at d p b h]
  generalize refMix d p b h = u
  unfold Cert.GateBackIdeal.Run.lane
  pointwise

end Reference

theorem algebraic : Cert.algebraic_GateBackIdeal_GateBackRefIdeal := fun m g m' g' _ hA => by
  refine ⟨_, _, _, (θ_run Cert.GateBackIdeal.defs _ _).mono (fun r h c => ⟨((h.1 c).1 3).trans (Cert.GateBackIdeal.Run.final_mixed m c), ((h.1 c).1 4).trans (Cert.GateBackIdeal.Run.final_gates m c),
      ((h.1 c).1 5).trans (Cert.GateBackIdeal.Run.final_heads m c), h.2 c⟩)
      (θ_run_and (Cert.GateBackIdeal.Gen.run_main (F := Ideal) m g) (Cert.GateBackIdeal.Gen.unchanged (F := Ideal) m g)),
    (θ_run Cert.GateBackRefIdeal.defs _ _).mono (fun r h c => ?_) (Cert.GateBackRefIdeal.Value.run m' g')⟩
  obtain ⟨h0, h1, h2, hk⟩ := h c
  obtain ⟨a0, a1, a2⟩ := hA c
  rw [a0, a2] at h0
  rw [a0, a1, a2] at h1 h2
  have e0 := h0.trans (ref_mixed ..)
  clear h0
  have e1 := h1.trans (ref_gates ..)
  clear h1
  have e2 := h2.trans (ref_heads ..)
  clear h2
  exact ⟨e0, e1, e2, hk⟩

end Cert.Proof.GateBack

end
-- ==== Proof.CombineClaims.lean ====
/-
  The claims of the mix of the three attention patterns, for finite `lse`: the kernel weighs each pattern by the exponential of
  its `lse` less the total, and the reference by a softmax; at reals both are `exp x / (exp a + exp b + exp c)`
  (`total_coe`, `weight_coe`, `soft_coe`).
-/
module

public import proofs.«01_k».proof.Proof.Adam
public import proofs.«01_k».proof.Proof.Gates
public import proofs.«01_k».proof.Proof.GateBackClaims
public import proofs.«01_k».proof.Proof.Gen.Combine.Frame
public import proofs.«01_k».proof.Proof.Gen.CombineIdeal.Frame
public import proofs.«01_k».proof.Proof.Gen.CombineRefIdeal.Run
public import Idealize.ShloMosaic.Lib.ReduceAll

@[expose] public section

noncomputable section

namespace Cert.CombineIdeal.Run

open Idealize.ShloMosaic Idealize.ShloMosaic.TcCoe Idealize.SL.Sem
open Cert.CombineIdeal Cert.CombineIdeal.Gen
open Cert.GateBackIdeal.Run (lane gateCol mix)

/-- The largest of the three. -/
def top (l : Fin 3 → EReal) : EReal := max (max (l 0) (l 1)) (l 2)

/-- The logarithm of the sum of the exponentials, as the kernel computes it. -/
def total (l : Fin 3 → EReal) : EReal :=
  top l + Ideal.log (0 + Ideal.exp (l 0 - top l) + Ideal.exp (l 1 - top l) + Ideal.exp (l 2 - top l))

/-- Pattern `p`'s weight. -/
def weight (l : Fin 3 → EReal) (p : Fin 3) : EReal := Ideal.exp (l p - total l)

/-- The three patterns' outputs weighted and added. -/
def blend (w o : Fin 3 → EReal) : EReal := 0 + w 0 * o 0 + w 1 * o 1 + w 2 * o 2

section Reals

variable (l : Fin 3 → ℝ)

/-- The sum of the exponentials. -/
def mass : ℝ := Real.exp (l 0) + Real.exp (l 1) + Real.exp (l 2)

theorem mass_pos : 0 < mass l := by unfold mass; positivity

theorem top_coe : ∃ m : ℝ, top (fun p => (l p : EReal)) = m :=
  ⟨max (max (l 0) (l 1)) (l 2), by
    unfold top
    rw [← EReal.coe_strictMono.monotone.map_max, ← EReal.coe_strictMono.monotone.map_max]⟩

theorem shifted (m : ℝ) : (0 : EReal) + Ideal.exp (l 0 - m) + Ideal.exp (l 1 - m) + Ideal.exp (l 2 - m)
    = ((Real.exp (-m) * mass l : ℝ) : EReal) := by
  unfold mass
  rw [zero_add, ← EReal.coe_sub, ← EReal.coe_sub, ← EReal.coe_sub, Ideal.exp_coe, Ideal.exp_coe, Ideal.exp_coe, ← EReal.coe_add,
    ← EReal.coe_add, mul_add, mul_add, ← Real.exp_add, ← Real.exp_add, ← Real.exp_add]
  simp only [sub_eq_neg_add]

theorem log_mass (x : ℝ) (h : 0 < x) : Ideal.log (x : EReal) = (Real.log x : EReal) := by
  rw [Ideal.log_coe, if_neg (not_le.2 h)]

theorem total_coe : total (fun p => (l p : EReal)) = (Real.log (mass l) : EReal) := by
  obtain ⟨m, h⟩ := top_coe l
  have p := mass_pos l
  unfold total
  rw [h, shifted, log_mass _ (by positivity), ← EReal.coe_add, Real.log_mul (Real.exp_ne_zero _) p.ne', Real.log_exp]
  simp

theorem weight_coe (p : Fin 3) : weight (fun p => (l p : EReal)) p = ((Real.exp (l p) / mass l : ℝ) : EReal) := by
  unfold weight
  rw [total_coe, ← EReal.coe_sub, Ideal.exp_coe, Real.exp_sub, Real.exp_log (mass_pos l)]

theorem soft_coe (p : Fin 3) (m : ℝ) : Ideal.div (Ideal.exp (l p - m))
    (0 + Ideal.exp (l 0 - m) + Ideal.exp (l 1 - m) + Ideal.exp (l 2 - m)) = weight (fun p => (l p : EReal)) p := by
  have h := mass_pos l
  rw [shifted, weight_coe, ← EReal.coe_sub, Ideal.exp_coe, Ideal.div_coe (by positivity), ← EReal.coe_mul, sub_eq_neg_add, Real.exp_add]
  congr 1
  field_simp

end Reals

section Block

variable (x0 x1 x2 : Vec Ideal S256x2048 .f32) (x3 : Vec Ideal S3x256x16 .f32) (x4 : Vec Ideal S256x2048 .f32)

/-- The three `lse` of a row and a head. -/
def lses (r : Fin 256) (n : Fin 16) (p : Fin 3) : EReal := x3 (ix3 p r n)

theorem flat (u : FVec Ideal S1x256x16 .f32) (r : Fin 256) (n : Fin 16) :
    shapeCast S256x16 u shapeCasts_S1x256x16_S256x16 (ix2 r n) = u (ix3 0 r n) := by
  pointwise

theorem load (p : Fin 3) (h : ∀ a, (![p.val, 0, 0] : Fin 3 → Nat) a + S1x256x16.size a ≤ S3x256x16.size a) (r : Fin 256) (n : Fin 16) :
    shapeCast S256x16 (View.ld x3 (Rect.unit (s := S3x256x16) ![p.val, 0, 0] S1x256x16.size h)) shapeCasts_S1x256x16_S256x16 (ix2 r n)
      = lses x3 r n p := by
  refine (flat _ r n).trans (congrArg x3 (funext fun a => Fin.ext ?_))
  match a with
  | ⟨0, _⟩ => show p.val + 1 * 0 = p.val; omega
  | ⟨1, _⟩ => show 0 + 1 * r.val = r.val; omega
  | ⟨2, _⟩ => show 0 + 1 * n.val = n.val; omega

theorem out_total (r : Fin 256) (n : Fin 16) : k0_pay5 (View.ld x3 r0_0) (View.ld x3 r0_1) (View.ld x3 r0_2) (ix2 r n)
    = total (lses x3 r n) := by
  unfold total top
  rw [← load x3 0 inb_S3x256x16_S1x256x16_0_0_0 r n, ← load x3 1 inb_S3x256x16_S1x256x16_1_0_0 r n, ← load x3 2 inb_S3x256x16_S1x256x16_2_0_0 r n]
  unfold k0_pay5 k0_pay4 k0_pay3 k0_pay2
  pointwise

/-- Every head's weight of pattern `p`. -/
def weights (p : Fin 3) : FVec Ideal S256x16 .f32 := fun y => weight (lses x3 (y 0) (y 1)) p

theorem out_weights : k0_pay54 x0 x1 x2 x3 x4 = weights x3 0 ∧ k0_pay55 x0 x1 x2 x3 x4 = weights x3 1
    ∧ k0_pay56 x0 x1 x2 x3 x4 = weights x3 2 := by
  refine ⟨funext fun (y : S256x16.Idx) => ?_, funext fun (y : S256x16.Idx) => ?_, funext fun (y : S256x16.Idx) => ?_⟩
  all_goals
    obtain ⟨r, n, rfl⟩ : ∃ (r : Fin 256) (n : Fin 16), y = ix2 r n := ⟨y 0, y 1, eq_ix2 y⟩
    unfold weights weight
    simp only [ix2_0, ix2_1]
    rw [← out_total]
  · exact congrArg (fun u : EReal => Ideal.exp (u - _)) (load x3 0 inb_S3x256x16_S1x256x16_0_0_0 r n)
  · exact congrArg (fun u : EReal => Ideal.exp (u - _)) (load x3 1 inb_S3x256x16_S1x256x16_1_0_0 r n)
  · exact congrArg (fun u : EReal => Ideal.exp (u - _)) (load x3 2 inb_S3x256x16_S1x256x16_2_0_0 r n)

/-- The head of a column. -/
def head (k : Fin 2048) : Fin 16 := ⟨k.val / 128, by have := k.isLt; omega⟩

variable (w0 w1 w2 : FVec Ideal S256x16 .f32)

/-- The blend at every place of a block, from the weights. -/
def blended : Vec Ideal S256x2048 .f32 := fun y =>
  blend ![w0 (ix2 (y 0) (head (y 1))), w1 (ix2 (y 0) (head (y 1))), w2 (ix2 (y 0) (head (y 1)))] ![x0 y, x1 y, x2 y]

/-- One head's part as the kernel computes it. -/
abbrev part (u0 u1 u2 : Vec Ideal S256x128 .f32) (n : Nat) (h : S256x16.Slices ![0, n] S256x1) : FVec Ideal S256x128 .f32 :=
  addf (addf (addf (broadcast S256x128 (Scalar.ofBits .f32 0x00000000#32))
    (mulf (broadcastTo S256x128 (extractStridedSlice S256x1 ![0, n] w0 h) broadcasts_S256x1_S256x128) u0))
    (mulf (broadcastTo S256x128 (extractStridedSlice S256x1 ![0, n] w1 h) broadcasts_S256x1_S256x128) u1))
    (mulf (broadcastTo S256x128 (extractStridedSlice S256x1 ![0, n] w2 h) broadcasts_S256x1_S256x128) u2)

theorem part_apply (b n : Nat) (hn : n < 16) (hb : b = n * 128) (h : S256x16.Slices ![0, n] S256x1)
    (i : ∀ a, (![0, b] : Fin 2 → Nat) a + S256x128.size a ≤ S256x2048.size a) (x : S256x128.Idx) :
    part w0 w1 w2 (View.ld x0 (Rect.unit (s := S256x2048) ![0, b] S256x128.size i)) (View.ld x1 (Rect.unit (s := S256x2048) ![0, b] S256x128.size i))
      (View.ld x2 (Rect.unit (s := S256x2048) ![0, b] S256x128.size i)) n h x
      = blended x0 x1 x2 w0 w1 w2 ((Rect.unit (s := S256x2048) ![0, b] S256x128.size i).idx x) := by
  subst hb
  obtain ⟨r, q, rfl⟩ : ∃ (r : Fin 256) (q : Fin 128), x = ix2 r q := ⟨x 0, x 1, eq_ix2 x⟩
  have e : ∀ w : FVec Ideal S256x16 .f32, broadcastTo S256x128 (extractStridedSlice S256x1 ![0, n] w h) broadcasts_S256x1_S256x128 (ix2 r q)
      = w (ix2 r ⟨n, hn⟩) := fun w => by pointwise
  have e0 : (Rect.unit (s := S256x2048) ![0, n * 128] S256x128.size i).idx (ix2 r q) 0 = r := Fin.ext (by show 0 + 1 * r.val = r.val; omega)
  have e1 : head ((Rect.unit (s := S256x2048) ![0, n * 128] S256x128.size i).idx (ix2 r q) 1) = ⟨n, hn⟩ := Fin.ext (by
    show (n * 128 + 1 * q.val) / 128 = n
    have := q.isLt
    omega)
  unfold blended blend
  rw [e0, e1]
  show Ideal.ofBits .f32 0x00000000#32 + _ * _ + _ * _ + _ * _ = (_ : EReal)
  rw [e, e, e, Ideal.ofBits_zero_f32]
  rfl

/-- One head's part gated, as the kernel computes it. -/
abbrev gatedPart (u z : FVec Ideal S256x128 .f32) : FVec Ideal S256x128 .bf16 :=
  truncf .bf16 (mulf u (mulf z (divf (broadcast S256x128 (Scalar.ofBits .f32 0x3F800000#32))
    (addf (broadcast S256x128 (Scalar.ofBits .f32 0x3F800000#32)) (exp (subf (broadcast S256x128 (Scalar.ofBits .f32 0x00000000#32)) z)))))) bitsLt_bf16_f32

theorem gatedPart_apply (u z : FVec Ideal S256x128 .f32) (x : S256x128.Idx) : gatedPart u z x = mix (u x) (z x) := by
  unfold mix
  rw [← Gates.kernel_gate]
  pointwise

theorem out_blended (y : S256x2048.Idx) : out0_6 x0 x1 x2 x3 x4 y
    = blended x0 x1 x2 (weights x3 0) (weights x3 1) (weights x3 2) y := by
  obtain ⟨e0, e1, e2⟩ := out_weights x0 x1 x2 x3 x4
  rw [← e0, ← e1, ← e2]
  unfold out0_6 k0_pay50 k0_pay46 k0_pay35 k0_pay32 k0_pay22 k0_pay11 k0_pay67 k0_pay66 k0_pay65 k0_pay64 k0_pay63 k0_pay62 k0_pay61 k0_pay60
    k0_pay59 k0_pay58 k0_pay57 k0_pay49 k0_pay48 k0_pay45 k0_pay44 k0_pay34 k0_pay31 k0_pay21 k0_pay20 k0_pay10 k0_pay9
  refine View.canon_apply_of_pieces (blended x0 x1 x2 (k0_pay54 x0 x1 x2 x3 x4) (k0_pay55 x0 x1 x2 x3 x4) (k0_pay56 x0 x1 x2 x3 x4)) _ ?_ y
    (cover0_6 _ _ _ _ _ _ _ _ _ _ _ _ _ _ _ _ y)
  intro pc hpc
  simp only [List.mem_cons, List.not_mem_nil, or_false] at hpc
  rcases hpc with rfl | rfl | rfl | rfl | rfl | rfl | rfl | rfl | rfl | rfl | rfl | rfl | rfl | rfl | rfl | rfl
  all_goals
    refine fun x => part_apply x0 x1 x2 _ _ _ _ _ ?_ ?_ ?_ _ x
    all_goals first | rfl | decide

theorem out_gated (y : S256x2048.Idx) : out0_5 x0 x1 x2 x3 x4 y
    = mix (blended x0 x1 x2 (weights x3 0) (weights x3 1) (weights x3 2) y) (x4 y) := by
  obtain ⟨e0, e1, e2⟩ := out_weights x0 x1 x2 x3 x4
  rw [← e0, ← e1, ← e2]
  unfold out0_5 k0_pay67 k0_pay66 k0_pay65 k0_pay64 k0_pay63 k0_pay62 k0_pay61 k0_pay60 k0_pay59 k0_pay58 k0_pay57 k0_pay53 k0_pay51
    k0_pay50 k0_pay49 k0_pay48 k0_pay47 k0_pay46 k0_pay45 k0_pay44 k0_pay41 k0_pay40 k0_pay38 k0_pay36 k0_pay35 k0_pay34 k0_pay33
    k0_pay32 k0_pay31 k0_pay28 k0_pay27 k0_pay25 k0_pay23 k0_pay22 k0_pay21 k0_pay20 k0_pay15 k0_pay14 k0_pay12 k0_pay11 k0_pay10
    k0_pay9 k0_pay1
  refine View.canon_apply_of_pieces (Val := Elt Ideal) (fun y => mix (blended x0 x1 x2 (k0_pay54 x0 x1 x2 x3 x4) (k0_pay55 x0 x1 x2 x3 x4) (k0_pay56 x0 x1 x2 x3 x4) y) (x4 y)) _ ?_ y
    (cover0_5 _ _ _ _ _ _ _ _ _ _ _ _ _ _ _ _ y)
  intro pc hpc
  simp only [List.mem_cons, List.not_mem_nil, or_false] at hpc
  rcases hpc with rfl | rfl | rfl | rfl | rfl | rfl | rfl | rfl | rfl | rfl | rfl | rfl | rfl | rfl | rfl | rfl
  all_goals
    refine fun x => (gatedPart_apply _ _ x).trans (congrArg (mix · _) (part_apply x0 x1 x2 _ _ _ _ _ ?_ ?_ ?_ _ x))
    all_goals first | rfl | decide

end Block
variable (m : (ℓ : Loc nD τ sig) → Buf (Elt Ideal) ℓ) (ρ : Dev nD → PrngReg) (c : Dev nD)

/-- The row of the arrays that is row `r` of point `t`'s block. -/
def row (t : Fin cfg0.N) (r : Fin 256) : Fin 8192 := ⟨t.val * 256 + r.val, by
  have h : t.val < 32 := lt_of_lt_of_eq t.isLt N_0
  have := r.isLt
  omega⟩

theorem index_rows : ∀ t : Fin cfg0.N, win0_6.index t (0 : Fin 2) = t.val ∧ win0_6.index t (1 : Fin 2) = 0 :=
  (by decide +kernel : ∀ t : Fin grid0.N, _)
theorem index_gate : ∀ t : Fin cfg0.N, win0_4.index t (0 : Fin 2) = t.val ∧ win0_4.index t (1 : Fin 2) = 3 :=
  (by decide +kernel : ∀ t : Fin grid0.N, _)
theorem index_total : ∀ t : Fin cfg0.N, win0_7.index t (0 : Fin 2) = t.val ∧ win0_7.index t (1 : Fin 2) = 0 :=
  (by decide +kernel : ∀ t : Fin grid0.N, _)
theorem index_lse : ∀ t : Fin cfg0.N, win0_3.index t (0 : Fin 3) = 0 ∧ win0_3.index t (1 : Fin 3) = t.val ∧ win0_3.index t (2 : Fin 3) = 0 :=
  (by decide +kernel : ∀ t : Fin grid0.N, _)

theorem emb_rows (t : Fin cfg0.N) (r : Fin 256) (k : Fin 2048) : ((cfg0.win 6).blk t).view.emb (ix2 r k) = ix2 (row t r) k := by
  obtain ⟨h0, h1⟩ := index_rows t
  funext a; apply Fin.ext
  match a with
  | ⟨0, _⟩ => show win0_6.index t (0 : Fin 2) * 256 + 1 * r.val = t.val * 256 + r.val; omega
  | ⟨1, _⟩ => show win0_6.index t (1 : Fin 2) * 2048 + 1 * k.val = k.val; omega

theorem emb_gate (t : Fin cfg0.N) (r : Fin 256) (k : Fin 2048) : ((cfg0.win 4).blk t).view.emb (ix2 r k) = ix2 (row t r) (gateCol k) := by
  obtain ⟨h0, h1⟩ := index_gate t
  funext a; apply Fin.ext
  match a with
  | ⟨0, _⟩ => show win0_4.index t (0 : Fin 2) * 256 + 1 * r.val = t.val * 256 + r.val; omega
  | ⟨1, _⟩ => show win0_4.index t (1 : Fin 2) * 2048 + 1 * k.val = 6144 + k.val; omega

theorem emb_total (t : Fin cfg0.N) (r : Fin 256) (n : Fin 16) : ((cfg0.win 7).blk t).view.emb (ix2 r n) = ix2 (row t r) n := by
  obtain ⟨h0, h1⟩ := index_total t
  funext a; apply Fin.ext
  match a with
  | ⟨0, _⟩ => show win0_7.index t (0 : Fin 2) * 256 + 1 * r.val = t.val * 256 + r.val; omega
  | ⟨1, _⟩ => show win0_7.index t (1 : Fin 2) * 16 + 1 * n.val = n.val; omega

theorem emb_lse (t : Fin cfg0.N) (p : Fin 3) (r : Fin 256) (n : Fin 16) : ((cfg0.win 3).blk t).view.emb (ix3 p r n) = ix3 p (row t r) n := by
  obtain ⟨h0, h1, h2⟩ := index_lse t
  funext a; apply Fin.ext
  match a with
  | ⟨0, _⟩ => show win0_3.index t (0 : Fin 3) * 3 + 1 * p.val = p.val; omega
  | ⟨1, _⟩ => show win0_3.index t (1 : Fin 3) * 256 + 1 * r.val = t.val * 256 + r.val; omega
  | ⟨2, _⟩ => show win0_3.index t (2 : Fin 3) * 16 + 1 * n.val = n.val; omega

theorem covered (i : S8192x2048.Idx) : ∃ (t : Fin cfg0.N) (y : S256x2048.Idx), ((cfg0.win 6).blk t).view.emb y = i :=
  Adam.covered (n := cfg0.N) (b := 256) rfl (by decide) (fun t (y : S256x2048.Idx) => ix2 (row t (y 0)) (y 1)) (fun _ _ => rfl) (fun _ _ => rfl) i
    |>.imp fun t h => h.imp fun y e => ((congrArg _ (eq_ix2 y)).trans (emb_rows t (y 0) (y 1))).trans e

theorem covered_total (i : S8192x16.Idx) : ∃ (t : Fin cfg0.N) (y : S256x16.Idx), ((cfg0.win 7).blk t).view.emb y = i :=
  Adam.covered (n := cfg0.N) (b := 256) rfl (by decide) (fun t (y : S256x16.Idx) => ix2 (row t (y 0)) (y 1)) (fun _ _ => rfl) (fun _ _ => rfl) i
    |>.imp fun t h => h.imp fun y e => ((congrArg _ (eq_ix2 y)).trans (emb_total t (y 0) (y 1))).trans e

/-- The logarithms of every head's sums. -/
def totals (l : Vec Ideal S3x8192x16 .f32) : Vec Ideal S8192x16 .f32 := fun j => total fun p => l (ix3 p (j 0) (j 1))

/-- The patterns' outputs weighted and added. -/
def blends (o0 o1 o2 : Vec Ideal S8192x2048 .f32) (l : Vec Ideal S3x8192x16 .f32) : Vec Ideal S8192x2048 .f32 := fun j =>
  blend (weight fun p => l (ix3 p (j 0) (head (j 1)))) ![o0 (ix2 (j 0) (j 1)), o1 (ix2 (j 0) (j 1)), o2 (ix2 (j 0) (j 1))]

/-- The gated sum. -/
def gated (o0 o1 o2 : Vec Ideal S8192x2048 .f32) (l : Vec Ideal S3x8192x16 .f32) (p : Vec Ideal S8192x22528 .f32) :
    Vec Ideal S8192x2048 .bf16 := fun j => mix (blends o0 o1 o2 l j) (p (ix2 (j 0) (gateCol (j 1))))

theorem lses_at (t : Fin cfg0.N) (r : Fin 256) (n : Fin 16) : lses (iblk m c 3 t) r n = fun p => V m c main_arg3 (ix3 p (row t r) n) :=
  funext fun p => congrArg (V m c main_arg3) (emb_lse t p r n)

theorem blended_at (t : Fin cfg0.N) (r : Fin 256) (k : Fin 2048) : blended (iblk m c 0 t) (iblk m c 1 t) (iblk m c 2 t)
      (weights (iblk m c 3 t) 0) (weights (iblk m c 3 t) 1) (weights (iblk m c 3 t) 2) (ix2 r k)
    = blends (V m c main_arg0) (V m c main_arg1) (V m c main_arg2) (V m c main_arg3) (ix2 (row t r) k) := by
  have e0 : iblk m c 0 t (ix2 r k) = V m c main_arg0 (ix2 (row t r) k) := congrArg (V m c main_arg0) (emb_rows t r k)
  have e1 : iblk m c 1 t (ix2 r k) = V m c main_arg1 (ix2 (row t r) k) := congrArg (V m c main_arg1) (emb_rows t r k)
  have e2 : iblk m c 2 t (ix2 r k) = V m c main_arg2 (ix2 (row t r) k) := congrArg (V m c main_arg2) (emb_rows t r k)
  unfold blended weights blends
  simp only [ix2_0, ix2_1, lses_at, e0, e1, e2]
  rfl

theorem final_total : (dats m 0 c).arrAt 7 cfg0.N = totals (V m c main_arg3) :=
  (dats m 0 c).arrAt_eq_of_cover 7 (totals _)
    (fun t _ => by
      show (cfg0.win 7).cut (grid0.coords t) ((dats m 0 c).after 7 t) = _
      rw [after0_7]
      refine funext fun (y : S256x16.Idx) => ?_
      obtain ⟨r, n, rfl⟩ := Adam.place y
      refine Eq.trans ?_ (congrArg (totals _) (emb_total t r n).symm)
      show out0_7 _ _ _ _ _ (ix2 r n) = _
      rw [out0_7, View.canon_unit_zero Adam.zero2]
      exact (out_total _ r n).trans (congrArg total (lses_at m c t r n)))
    (fun (i : S8192x16.Idx) => let ⟨t, y, h⟩ := covered_total i; ⟨t, flush0_7 t, h ▸ ((cfg0.win 7).blk t).view.emb_mem_set y⟩)

theorem final_blend : (dats m 0 c).arrAt 6 cfg0.N = blends (V m c main_arg0) (V m c main_arg1) (V m c main_arg2) (V m c main_arg3) :=
  (dats m 0 c).arrAt_eq_of_cover 6 (blends _ _ _ _)
    (fun t _ => by
      show (cfg0.win 6).cut (grid0.coords t) ((dats m 0 c).after 6 t) = _
      rw [after0_6]
      refine funext fun (y : S256x2048.Idx) => ?_
      obtain ⟨r, k, rfl⟩ := Adam.place y
      refine Eq.trans ?_ (congrArg (blends _ _ _ _) (emb_rows t r k).symm)
      exact (out_blended _ _ _ _ _ _).trans (blended_at m c t r k))
    (fun (i : S8192x2048.Idx) => let ⟨t, y, h⟩ := covered i; ⟨t, flush0_6 t, h ▸ ((cfg0.win 6).blk t).view.emb_mem_set y⟩)

theorem final_gated : (dats m 0 c).arrAt 5 cfg0.N
    = gated (V m c main_arg0) (V m c main_arg1) (V m c main_arg2) (V m c main_arg3) (V m c main_arg4) :=
  (dats m 0 c).arrAt_eq_of_cover 5 (gated _ _ _ _ _)
    (fun t _ => by
      show (cfg0.win 5).cut (grid0.coords t) ((dats m 0 c).after 5 t) = _
      rw [after0_5]
      refine funext fun (y : S256x2048.Idx) => ?_
      obtain ⟨r, k, rfl⟩ := Adam.place y
      refine Eq.trans ?_ (congrArg (gated _ _ _ _ _) (emb_rows t r k).symm)
      exact (out_gated _ _ _ _ _ _).trans (congrArg₂ mix (blended_at m c t r k) (congrArg (V m c main_arg4) (emb_gate t r k))))
    (fun (i : S8192x2048.Idx) => let ⟨t, y, h⟩ := covered i; ⟨t, flush0_5 t, h ▸ ((cfg0.win 5).blk t).view.emb_mem_set y⟩)

end Cert.CombineIdeal.Run

namespace Cert.Proof.Combine

open Idealize.ShloMosaic Idealize.ShloMosaic.TcCoe Idealize.SL.Sem
open Cert.CombineRefIdeal Cert.CombineRefIdeal.Gen
open Cert.CombineIdeal.Run (total weight blend totals blends gated head mass mass_pos log_mass total_coe top_coe soft_coe)
open Cert.GateBackIdeal.Run (gateCol lane)
open ValueIdx (contrEquiv1 contrEquiv1_symm_val)

theorem frame_refIdeal : Cert.quiescent_CombineRefIdeal := fun m g _ =>
  (θ_run Cert.CombineRefIdeal.defs _ _).mono
    (fun r h => ⟨fun c => (h c).2.2.2, sem_eq_zero_of_no_sems (by decide) r.2⟩) (Cert.CombineRefIdeal.Value.run m g)

/-- What lies below the infinite word in size is a real. -/
theorem real_of (x : EReal) (e : Ideal.cmp .olt (max x (-x)) (Ideal.ofBits .f32 0x7F800000#32) = 1#1) : ∃ r : ℝ, x = r := by
  have t : Ideal.ofBits .f32 0x7F800000#32 = ⊤ := by simp [Ideal.ofBits, Ideal.ieee]
  rw [t] at e
  induction x with
  | bot => simp [Ideal.cmp] at e
  | top => simp [Ideal.cmp] at e
  | coe r => exact ⟨r, rfl⟩

instance facts : Cert.Pre_finite_lse.Facts := ⟨by decide, by decide, by decide⟩

section Finite

variable [Cert.Pre_finite_lse.Facts]

theorem frame_refIdeal_pre : Cert.quiescent_CombineRefIdeal_pre_finite_lse := fun m g _ => frame_refIdeal m g trivial

/-- The precondition says that every `lse` is a real. -/
theorem reals (a0 a1 a2 : FVec Ideal S8192x2048 .f32) (l : FVec Ideal S3x8192x16 .f32) (a4 : FVec Ideal S8192x22528 .f32)
    (h : Cert.Pre_finite_lse.fn (F := Ideal) a0 a1 a2 l a4 = fun _ => 1#1) : ∃ L : S3x8192x16.Idx → ℝ, l = fun i => (L i : EReal) := by
  have f (i : S3x8192x16.Idx) : ∃ r : ℝ, l i = (r : EReal) := by
    haveI : Subsingleton (Cert.Pre_finite_lse.S_).Idx := ⟨fun a b => funext fun k => k.elim0⟩
    exact real_of _ (Host.reduce_andi_all _ _ _ _ _ (congrFun h (fun k => k.elim0)) i)
  choose L hL using f
  exact ⟨L, funext hL⟩

end Finite

section Reference

variable (L : S3x8192x16.Idx → ℝ) (o0 o1 o2 : FVec Ideal S8192x2048 .f32) (p : FVec Ideal S8192x22528 .f32)

/-- The dimension numbers of the reference's weighted sum. -/
abbrev dims := dot_S3x8192x16_S3x8192x16x128_S8192x16x128_0_0_n_3_12_12

/-- The sum over the patterns. -/
abbrev added (x : FVec Ideal S3x8192x16 .f32) : FVec Ideal S8192x16 .f32 := Host.reduceAdd x (constant S_ .f32 0x00000000#32) reducesTo_S3x8192x16_S8192x16_d0 h_S_

/-- The reals as an array. -/
abbrev arr : FVec Ideal S3x8192x16 .f32 := fun i => (L i : EReal)

theorem ref_totals : Host.log (added (Host.exp (arr L)))
    = totals (arr L) := by
  refine funext fun (j : S8192x16.Idx) => ?_
  obtain ⟨i, n, rfl⟩ := Adam.place j
  have e := total_coe fun q => L (ix3 q i n)
  refine Eq.trans ?_ e.symm
  have s : added (Host.exp (arr L)) (ix2 i n)
      = ((mass fun q => L (ix3 q i n) : ℝ) : EReal) := by
    unfold mass
    rw [EReal.coe_add, EReal.coe_add]
    pointwise
    rw [Fin.sum_univ_three]
    rfl
  refine Eq.trans ?_ (log_mass _ (mass_pos fun q => L (ix3 q i n)))
  rw [← s]
  generalize added (Host.exp (arr L)) = u
  rfl

/-- The reference's largest `lse`. -/
abbrev tops : FVec Ideal S8192x16 .f32 := maximumf (broadcastInDim S8192x16 ![] bcast_S_S8192x16 (constant S_ .f32 0xFF800000#32))
  (Host.reduce FloatOps.maximumf (arr L) (constant S_ .f32 0xFF800000#32) reducesTo_S3x8192x16_S8192x16_d0 h_S_)

theorem tops_coe (i : Fin 8192) (n : Fin 16) : ∃ m : ℝ, tops L (ix2 i n) = (m : EReal) := by
  obtain ⟨m, h⟩ := top_coe fun q => L (ix3 q i n)
  refine ⟨m, Eq.trans ?_ h⟩
  have t : Ideal.ofBits .f32 0xFF800000#32 = ⊥ := by simp [Ideal.ofBits, Ideal.ieee]
  have u : (Finset.univ : Finset (Fin 3)) = {0, 1, 2} := rfl
  unfold tops Cert.CombineIdeal.Run.top
  pointwise
  simp [u, t, max_assoc]

/-- A value for every row and head, repeated for every pattern. -/
abbrev spread (u : FVec Ideal S8192x16 .f32) : FVec Ideal S3x8192x16 .f32 :=
  broadcastInDim S3x8192x16 ![0, 1, 2] bcast_S1x8192x16_S3x8192x16_0_1_2 (broadcastInDim S1x8192x16 ![1, 2] bcast_S8192x16_S1x8192x16_1_2 u)

theorem spread_at (u : FVec Ideal S8192x16 .f32) (q : Fin 3) (i : Fin 8192) (n : Fin 16) : spread u (ix3 q i n) = u (ix2 i n) := by
  unfold spread
  pointwise

theorem shifted_at (l : FVec Ideal S3x8192x16 .f32) (u : FVec Ideal S8192x16 .f32) (q : Fin 3) (i : Fin 8192) (n : Fin 16) :
    Host.exp (subf l (spread u)) (ix3 q i n) = Ideal.exp (l (ix3 q i n) - u (ix2 i n)) := by
  rw [← spread_at u q i n]
  generalize spread u = v
  rfl

theorem over_at (l : FVec Ideal S3x8192x16 .f32) (u : FVec Ideal S8192x16 .f32) (q : Fin 3) (i : Fin 8192) (n : Fin 16) :
    Host.divf l (spread u) (ix3 q i n) = Ideal.div (l (ix3 q i n)) (u (ix2 i n)) := by
  rw [← spread_at u q i n]
  generalize spread u = v
  rfl

/-- The reference's exponentials before they are divided by their sum. -/
abbrev exps : FVec Ideal S3x8192x16 .f32 := Host.exp (subf (arr L) (spread (tops L)))

/-- The reference's weights. -/
abbrev soft : FVec Ideal S3x8192x16 .f32 := Host.divf (exps L)
  (spread (added (exps L)))

theorem soft_at (q : Fin 3) (i : Fin 8192) (n : Fin 16) : soft L (ix3 q i n) = weight (fun q => arr L (ix3 q i n)) q := by
  obtain ⟨m, h⟩ := tops_coe L i n
  refine Eq.trans ?_ (soft_coe (fun q => L (ix3 q i n)) q m)
  have e (q : Fin 3) : exps L (ix3 q i n) = Ideal.exp (L (ix3 q i n) - m) :=
    (shifted_at (arr L) (tops L) q i n).trans (congrArg (fun u : EReal => Ideal.exp (L (ix3 q i n) - u)) h)
  have s : added (exps L) (ix2 i n)
      = 0 + exps L (ix3 0 i n) + exps L (ix3 1 i n) + exps L (ix3 2 i n) := by
    generalize exps L = u
    rw [zero_add]
    pointwise
    rw [Fin.sum_univ_three]
  rw [e, e, e] at s
  exact (over_at _ _ q i n).trans (congrArg₂ Ideal.div (e q) s)

/-- The patterns' outputs by head. -/
abbrev outs : FVec Ideal S3x8192x16x128 .f32 := shapeCast S3x8192x16x128 (concatenate S3x8192x2048 0
  [⟨S1x8192x2048, (broadcastInDim S1x8192x2048 ![1, 2] bcast_S8192x2048_S1x8192x2048_1_2 o0 : FVec Ideal S1x8192x2048 .f32)⟩,
   ⟨S1x8192x2048, (broadcastInDim S1x8192x2048 ![1, 2] bcast_S8192x2048_S1x8192x2048_1_2 o1 : FVec Ideal S1x8192x2048 .f32)⟩,
   ⟨S1x8192x2048, (broadcastInDim S1x8192x2048 ![1, 2] bcast_S8192x2048_S1x8192x2048_1_2 o2 : FVec Ideal S1x8192x2048 .f32)⟩]
  concatenates_S1x8192x2048_S1x8192x2048_S1x8192x2048_S3x8192x2048_d0) shapeCasts_S3x8192x2048_S3x8192x16x128

/-- The lane of a column within its head. -/
def laneOf (k : Fin 2048) : Fin 128 := ⟨k.val % 128, Nat.mod_lt _ (by decide)⟩

theorem column (k : Fin 2048) : lane (head k) (laneOf k) = k :=
  Fin.ext (by show k.val / 128 * 128 + k.val % 128 = k.val; omega)

theorem outs_at (q : Fin 3) (i : Fin 8192) (k : Fin 2048) :
    outs o0 o1 o2 (ix4 q i (head k) (laneOf k)) = (![o0 (ix2 i k), o1 (ix2 i k), o2 (ix2 i k)] : Fin 3 → EReal) q := by
  conv_rhs => rw [← column k]
  generalize head k = n
  generalize laneOf k = e
  unfold lane
  fin_cases q <;> pointwise

/-- The reference's weighted sum. -/
abbrev sums : FVec Ideal S8192x2048 .f32 := shapeCast S8192x2048
  (Host.dotGeneral dims none (soft L) (outs o0 o1 o2)) shapeCasts_S8192x16x128_S8192x2048

theorem dot_at (w : FVec Ideal S3x8192x16 .f32) (o : FVec Ideal S3x8192x16x128 .f32) (i : Fin 8192) (n : Fin 16) (e : Fin 128) :
    Host.dotGeneral dims none w o (ix3 i n e) = ∑ q : Fin 3, w (ix3 q i n) * o (ix4 q i n e) := by
  show FloatOps.dotGeneral _ none _ w o (ix3 i n e) = _
  rw [Ideal.dotGeneral_apply, ← Equiv.sum_comp (contrEquiv1 dims 3 rfl rfl).symm]
  refine Finset.sum_congr rfl fun q _ => ?_
  have v := contrEquiv1_symm_val dims 3 rfl rfl q
  refine congrArg₂ (fun u v : EReal => u * v) (congrArg w (funext fun a => Fin.ext ?_)) (congrArg o (funext fun a => Fin.ext ?_))
  · match a with
    | ⟨0, _⟩ => exact v
    | ⟨1, _⟩ => rfl
    | ⟨2, _⟩ => rfl
  · match a with
    | ⟨0, _⟩ => exact v
    | ⟨1, _⟩ => rfl
    | ⟨2, _⟩ => rfl
    | ⟨3, _⟩ => rfl

theorem sums_at (i : Fin 8192) (k : Fin 2048) : sums L o0 o1 o2 (ix2 i k) = blends o0 o1 o2 (arr L) (ix2 i k) := by
  have c : sums L o0 o1 o2 (ix2 i k) = Host.dotGeneral dims none (soft L) (outs o0 o1 o2)
      (ix3 i (head k) (laneOf k)) :=
    shapeCast_apply _ _ _ _ (by
      rw [Shape.rowMajor_val_three, Shape.rowMajor_val_two]
      show (i.val * 16 + k.val / 128) * 128 + k.val % 128 = i.val * 2048 + k.val
      omega)
  rw [c, dot_at, Fin.sum_univ_three, soft_at, soft_at, soft_at, outs_at, outs_at, outs_at]
  unfold blends blend
  rw [zero_add]
  rfl

theorem ref_blends : sums L o0 o1 o2 = blends o0 o1 o2 (arr L) := by
  refine funext fun (j : S8192x2048.Idx) => ?_
  obtain ⟨i, k, rfl⟩ := Adam.place j
  exact sums_at L o0 o1 o2 i k

theorem ref_gated : truncf .bf16 (mulf (sums L o0 o1 o2) (mulf (extractStridedSlice S8192x2048 ![0, 6144] p slices_S8192x22528_S8192x2048_0_6144)
    (Gates.gates (extractStridedSlice S8192x2048 ![0, 6144] p slices_S8192x22528_S8192x2048_0_6144) bcast_S_S8192x2048))) bitsLt_bf16_f32
    = gated o0 o1 o2 (arr L) p := by
  refine funext fun (j : S8192x2048.Idx) => ?_
  obtain ⟨i, k, rfl⟩ := Adam.place j
  exact congrArg₂ (fun u v : EReal => u * v) (sums_at L o0 o1 o2 i k)
    ((congrArg (_ * ·) (Gates.ref_gate _ _ _)).trans
      (congrArg (fun z : EReal => z * Gates.gate z) (Cert.Proof.GateBack.part_at p slices_S8192x22528_S8192x2048_0_6144 i k)))

end Reference

theorem algebraic [Cert.Pre_finite_lse.Facts] : Cert.algebraic_CombineIdeal_CombineRefIdeal_pre_finite_lse := fun m g m' g' hp hA => by
  refine ⟨_, _, _, (θ_run Cert.CombineIdeal.defs _ _).mono (fun r h c => ⟨((h.1 c).1 5).trans (Cert.CombineIdeal.Run.final_gated m c),
      ((h.1 c).1 6).trans (Cert.CombineIdeal.Run.final_blend m c), ((h.1 c).1 7).trans (Cert.CombineIdeal.Run.final_total m c), h.2 c⟩)
      (θ_run_and (Cert.CombineIdeal.Gen.run_main (F := Ideal) m g) (Cert.CombineIdeal.Gen.unchanged (F := Ideal) m g)),
    (θ_run Cert.CombineRefIdeal.defs _ _).mono (fun r h c => ?_) (Cert.CombineRefIdeal.Value.run m' g')⟩
  obtain ⟨h0, h1, h2, hk⟩ := h c
  obtain ⟨a0, a1, a2, a3, a4⟩ := hA c
  obtain ⟨L, hL⟩ := reals _ _ _ _ _ (hp c)
  have e3 := a3.trans hL
  rw [a0, a1, a2, e3, a4] at h0
  rw [a0, a1, a2, e3] at h1
  rw [e3] at h2
  have v3 : Cert.CombineIdeal.Gen.V m c Cert.CombineIdeal.main_arg3 = arr L := hL
  rw [v3]
  have e0 := h0.trans (ref_gated ..)
  clear h0
  have e1 := h1.trans (ref_blends ..)
  clear h1
  exact ⟨e0, e1, h2.trans (ref_totals L), hk⟩

end Cert.Proof.Combine

end
-- ==== Proof.Norm.lean ====
/-
  One row's normalization to unit mean square, on the extended reals: the factor (`factor`), the gradient through it as the
  kernel writes it (`back`) and as the derivative of the formula reads (`back_eq`), and a sum taken block by block
  (`blocks_sum`). Nothing is assumed of the row: where an entry is infinite the factor is zero, and both forms still agree.
-/
module

public import Idealize.ShloMosaic.Lib.ValueLayout
public import Idealize.ShloMosaic.Lib.IdealHost
public import Idealize.ShloMosaic.Lib.Pipeline.Value
public import Idealize.ShloMosaic.Lib.Pointwise

@[expose] public section

noncomputable section

namespace Norm

open Idealize.ShloMosaic

/-! ## The constants -/

theorem width : Ideal.ofBits .f32 0x45000000#32 = ((2048 : ℝ) : EReal) := by
  simp [Ideal.ofBits, Ideal.ieee, -EReal.coe_mul]; norm_num

theorem half : Ideal.ofBits .f32 0x3F000000#32 = ((1 / 2 : ℝ) : EReal) := by
  simp [Ideal.ofBits, Ideal.ieee, -EReal.coe_mul]; norm_num

theorem minus_half : Ideal.ofBits .f32 0xBF000000#32 = ((-(1 / 2) : ℝ) : EReal) := by
  simp [Ideal.ofBits, Ideal.ieee, -EReal.coe_mul, -EReal.coe_neg]; norm_num

theorem two : Ideal.ofBits .f32 0x40000000#32 = ((2 : ℝ) : EReal) := by
  simp [Ideal.ofBits, Ideal.ieee, -EReal.coe_mul]; norm_num

theorem inverse_width : Ideal.ofBits .f32 0x3A000000#32 = ((1 / 2048 : ℝ) : EReal) := by
  simp [Ideal.ofBits, Ideal.ieee, -EReal.coe_mul]; norm_num

theorem eps_pos : 0 < Ideal.ofBits .f32 0x358637BD#32 := by
  simp [Ideal.ofBits, Ideal.ieee, -EReal.coe_mul]

/-! ## A row -/

variable {n : Nat}

/-- The mean over the 2048 places. -/
def mean (x : Fin n → EReal) : EReal := Ideal.div (∑ k, x k) (Ideal.ofBits .f32 0x45000000#32)

/-- The mean square and the small constant. -/
def square (x : Fin n → EReal) : EReal := mean (fun k => x k * x k) + Ideal.ofBits .f32 0x358637BD#32

/-- The row's factor. -/
def factor (x : Fin n → EReal) : EReal := Ideal.rsqrt (square x)

/-- The gradient through the normalization at one place, from the gradient `g` of the normed row. -/
def back (x g : Fin n → EReal) (k : Fin n) : EReal :=
  factor x * g k - (x k * (factor x * factor x * factor x)) * mean (fun k => g k * x k)

theorem mean_eq (x : Fin n → EReal) : mean x = (∑ k, x k) * ((1 / 2048 : ℝ) : EReal) := by
  rw [mean, width, Ideal.div_coe (by norm_num)]

theorem self_mul_nonneg (a : EReal) : 0 ≤ a * a := by
  induction a with
  | bot => simp
  | top => simp
  | coe r => rw [← EReal.coe_mul]; exact EReal.coe_nonneg.mpr (mul_self_nonneg r)

theorem mean_nonneg (x : Fin n → EReal) (h : ∀ k, 0 ≤ x k) : 0 ≤ mean x := by
  rw [mean_eq]
  exact mul_nonneg (Finset.sum_nonneg fun k _ => h k) (EReal.coe_nonneg.mpr (by norm_num))

theorem square_pos (x : Fin n → EReal) : 0 < square x :=
  lt_of_lt_of_le eps_pos (le_add_of_nonneg_left (mean_nonneg _ fun k => self_mul_nonneg (x k)))

/-- A positive value's inverse root, cubed, is the inverse root over the value. -/
theorem rsqrt_div (v : EReal) (h : 0 < v) : Ideal.div (Ideal.rsqrt v) v = Ideal.rsqrt v * Ideal.rsqrt v * Ideal.rsqrt v := by
  induction v with
  | bot => simp at h
  | top =>
    have e : Ideal.rsqrt ⊤ = 0 := rfl
    simp [Ideal.div, e]
  | coe r =>
    have hr : 0 < r := EReal.coe_pos.mp h
    rw [Ideal.div_coe hr.ne']
    have e : Ideal.rsqrt (r : EReal) = (((Real.sqrt r)⁻¹ : ℝ) : EReal) := by
      show (if r < 0 then ⊥ else if r = 0 then ⊤ else (((Real.sqrt r)⁻¹ : ℝ) : EReal)) = _
      rw [if_neg (not_lt.mpr hr.le), if_neg hr.ne']
    rw [e, ← EReal.coe_mul, ← EReal.coe_mul, ← EReal.coe_mul]
    congr 1
    have := Real.mul_self_sqrt hr.le
    rw [mul_assoc, ← mul_inv, this, one_div]

/-- Twice the negated half of a value, added, takes the value away. -/
theorem add_minus_halves (a y : EReal) :
    (a + ((-(1 / 2) : ℝ) : EReal) * y) + ((-(1 / 2) : ℝ) : EReal) * y = a - y := by
  rw [add_assoc, sub_eq_add_neg]
  congr 1
  induction y with
  | bot => rw [EReal.coe_mul_bot_of_neg (by norm_num)]; rfl
  | top => rw [EReal.coe_mul_top_of_neg (by norm_num)]; rfl
  | coe r => rw [← EReal.coe_mul, ← EReal.coe_add, ← EReal.coe_neg]; congr 1; ring

/-- The derivative's form of the gradient at one place is the kernel's. -/
theorem back_eq (x g : Fin n → EReal) (k : Fin n) :
    (g k * factor x
      + x k * Ideal.div ((∑ k, x k * g k) * (Ideal.ofBits .f32 0xBF000000#32 * Ideal.div (factor x) (square x))) (Ideal.ofBits .f32 0x45000000#32))
      + Ideal.div ((∑ k, x k * g k) * (Ideal.ofBits .f32 0xBF000000#32 * Ideal.div (factor x) (square x))) (Ideal.ofBits .f32 0x45000000#32) * x k
      = back x g k := by
  have e : Ideal.div (factor x) (square x) = factor x * factor x * factor x := rsqrt_div _ (square_pos x)
  rw [e, width, Ideal.div_coe (by norm_num), minus_half, back, mean_eq, ← add_minus_halves, mul_comm (factor x) (g k)]
  simp only [mul_comm (g _) (x _)]
  congr 1
  · congr 1; ac_rfl
  · ac_rfl

/-! ## A sum block by block -/

/-- The blocks' sums up to block `t`. -/
def upto (p : Nat → EReal) : Nat → EReal
  | 0 => p 0
  | t + 1 => upto p t + p (t + 1)

theorem upto_eq (p : Nat → EReal) (t : Nat) : upto p t = ∑ k : Fin (t + 1), p k.val := by
  induction t with
  | zero => simp [upto]
  | succ t ih => rw [upto, ih, Fin.sum_univ_castSucc (n := t + 1)]; rfl

/-- A sum over all rows is the blocks' sums, added. -/
theorem upto_rows {b J N : Nat} (hN : (J + 1) * b = N) (f : Fin N → EReal) (p : Nat → EReal)
    (h : ∀ t (ht : t < J + 1), p t = ∑ k : Fin b, f ⟨t * b + k.val, by
      have := k.isLt; subst hN
      calc t * b + k.val < t * b + b := by omega
        _ = (t + 1) * b := by rw [Nat.add_mul, Nat.one_mul]
        _ ≤ (J + 1) * b := Nat.mul_le_mul_right _ (by omega)⟩) : upto p J = ∑ k, f k := by
  rw [upto_eq, Fin.sum_univ_tiles (J + 1) b hN]
  exact Finset.sum_congr rfl fun t _ => h t.val t.isLt

/-- A real factor comes out of a sum. -/
theorem sum_factor {N : Nat} (r : ℝ) (hr : 0 ≤ r) (f : Fin N → EReal) (h : ∀ k, 0 ≤ f k) : ∑ k, (r : EReal) * f k = (r : EReal) * ∑ k, f k := by
  induction N with
  | zero => simp
  | succ N ih =>
    rw [Fin.sum_univ_succ, Fin.sum_univ_succ, ih _ fun k => h k.succ,
      EReal.left_distrib_of_nonneg (h 0) (Finset.sum_nonneg fun k _ => h k.succ)]

/-! ## The loss: half the mean square of the difference from the target, row by row -/

/-- The difference from the target at one place of a row. -/
def miss (x w t : Fin n → EReal) (k : Fin n) : EReal := x k * factor x * w k - t k

/-- The row's part of the loss. -/
def loss (x w t : Fin n → EReal) : EReal := Ideal.ofBits .f32 0x3F000000#32 * mean (fun k => miss x w t k * miss x w t k)

/-- The gradient at the normed and weighted row. -/
def slope (x w t : Fin n → EReal) (k : Fin n) : EReal := miss x w t k * Ideal.ofBits .f32 0x3A000000#32

/-- The derivative of half a mean square at one place: half, over the width, of twice the difference. -/
theorem slope_eq (a : EReal) :
    Ideal.div (Ideal.ofBits .f32 0x3F000000#32 * Ideal.ofBits .f32 0x3F800000#32) (Ideal.ofBits .f32 0x45000000#32)
      * (Ideal.ofBits .f32 0x40000000#32 * a) = a * Ideal.ofBits .f32 0x3A000000#32 := by
  rw [width, Ideal.div_coe (by norm_num), half, two, inverse_width, Ideal.ofBits_one_f32, mul_one, ← mul_assoc, ← EReal.coe_mul,
    ← EReal.coe_mul, mul_comm a]
  norm_num

/-- The rows' parts of the loss added are half the sum of the rows' mean squares. -/
theorem loss_sum {N : Nat} (x t : Fin N → Fin n → EReal) (w : Fin n → EReal) :
    ∑ i, loss (x i) w (t i) = Ideal.ofBits .f32 0x3F000000#32 * ∑ i, mean (fun k => miss (x i) w (t i) k * miss (x i) w (t i) k) := by
  unfold loss
  rw [half]
  exact sum_factor (1 / 2) (by norm_num) _ fun i => mean_nonneg _ fun k => self_mul_nonneg _

/-! ## The reference's operations, at an index -/

section Reference

abbrev Full : Shape := ⟨2, ![8192, 2048]⟩
abbrev Rows : Shape := ⟨1, ![8192]⟩
abbrev Column : Shape := ⟨2, ![8192, 1]⟩
abbrev Unit : Shape := ⟨0, ![]⟩

variable (x g : FVec Ideal Full .f32) (hu : 0 < Unit.numel) (hr : Full.ReducesTo [1] Rows) (hs : Column.ReducesTo [1] Rows)
  (bc : Rows.BroadcastsInDim Column ![0]) (bu : Unit.BroadcastsInDim Column ![]) (bf : Column.BroadcastsInDim Full ![0, 1])
  (bq : Rows.BroadcastsInDim Full ![0]) (hc : Rows.ShapeCasts Column)

/-- Every row's mean square and the small constant. -/
abbrev squares : FVec Ideal Column .f32 :=
  addf (Host.divf (broadcastInDim Column ![0] bc (Host.reduceAdd (mulf x x) (constant Unit .f32 0x00000000#32) hr hu))
    (broadcastInDim Column ![] bu (constant Unit .f32 0x45000000#32))) (broadcastInDim Column ![] bu (constant Unit .f32 0x358637BD#32))

/-- Every row's factor. -/
abbrev factors : FVec Ideal Column .f32 := Host.rsqrt (squares x hu hr bc bu)

/-- Every row's share of the gradient that its mean square passes on, at every place of the row. -/
abbrev shares : FVec Ideal Full .f32 :=
  broadcastInDim Full ![0] bq (Host.reduceAdd (Host.divf (mulf (shapeCast Column (Host.reduceAdd (mulf x g) (constant Unit .f32 0x00000000#32) hr hu) hc)
    (mulf (broadcastInDim Column ![] bu (constant Unit .f32 0xBF000000#32)) (Host.divf (factors x hu hr bc bu) (squares x hu hr bc bu))))
    (broadcastInDim Column ![] bu (constant Unit .f32 0x45000000#32))) (constant Unit .f32 0x00000000#32) hs hu)

theorem ref_factor (i : Fin 8192) : factors x hu hr bc bu (ix2 i 0) = factor (fun k => x (ix2 i k)) := by
  unfold factor square mean factors squares
  pointwise

theorem ref_back (i : Fin 8192) (k : Fin 2048) :
    addf (addf (mulf g (broadcastInDim Full ![0, 1] bf (factors x hu hr bc bu))) (mulf x (shares x g hu hr hs bc bu bq hc)))
      (mulf (shares x g hu hr hs bc bu bq hc) x) (ix2 i k) = back (fun k => x (ix2 i k)) (fun k => g (ix2 i k)) k := by
  refine Eq.trans ?_ (back_eq (fun k => x (ix2 i k)) (fun k => g (ix2 i k)) k)
  unfold factor square mean shares factors squares
  pointwise
  simp only [Finset.univ_unique, Finset.sum_singleton]

end Reference

end Norm

end
-- ==== Proof.StepBackClaims.lean ====
/-
  The claims of the gradient through the scan's steps, for finite gradients, steps and logarithms of the decays. The kernel walks
  the rows in blocks of 512; the second and the third result are rows kept from point to point (`kept`). In the third every block's
  sum is multiplied by the decay before it is added; with real factors this is the whole sum times the decay (`sum_mul`).
-/
module

public import proofs.«01_k».proof.Proof.Norm
public import proofs.«01_k».proof.Proof.CombineClaims
public import proofs.«01_k».proof.Proof.Gen.StepBack.Frame
public import proofs.«01_k».proof.Proof.Gen.StepBackIdeal.Value
public import proofs.«01_k».proof.Proof.Gen.StepBackRefIdeal.Run

@[expose] public section

noncomputable section

namespace Cert.StepBackIdeal.Run

open Idealize.ShloMosaic Idealize.ShloMosaic.TcCoe Idealize.SL.Sem
open Cert.StepBackIdeal Cert.StepBackIdeal.Gen Cert.StepBackIdeal.Value

section Block

variable {F : FTy → Type} [FloatOps F] (c : Dev nD) (i : grid0.Coords)
  (a1 : Memref sig .tc .vmem S512x128 .f32) (h1 : a1.IsWhole)
  (a2 : Memref sig .tc .vmem S512x128 .f32) (h2 : a2.IsWhole)
  (a3 : Memref sig .tc .vmem S512x128 .f32) (h3 : a3.IsWhole)
  (a4 : Memref sig .tc .vmem S512x128 .f32) (h4 : a4.IsWhole)
  (a5 : Memref sig .tc .vmem S1x128 .f32) (h5 : a5.IsWhole)
  (a6 : Memref sig .tc .vmem S1x128 .f32) (h6 : a6.IsWhole)
  (a7 : Memref sig .tc .vmem S512x128 .bf16) (h7 : a7.IsWhole)
  (a8 : Memref sig .tc .vmem S1x128 .f32) (h8 : a8.IsWhole)
  (a9 : Memref sig .tc .vmem S1x128 .f32) (h9 : a9.IsWhole)
  (x0 x1 x2 x3 : Vec F S512x128 .f32) (x4 x5 y z : Vec F S1x128 .f32)

theorem first (hc : cond0_0 i) (hc' : ¬cond0_1 i) :
    (out0_A_6 c i a1 h1 a2 h2 a3 h3 a4 h4 a5 h5 a6 h6 a7 h7 a8 h8 a9 h9 hc hc' x0 x1 x2 x3 x4 x5,
      out0_A_7 c i a1 h1 a2 h2 a3 h3 a4 h4 a5 h5 a6 h6 a7 h7 a8 h8 a9 h9 hc hc' x0 x1 x2 x3 x4 x5,
      out0_A_8 c i a1 h1 a2 h2 a3 h3 a4 h4 a5 h5 a6 h6 a7 h7 a8 h8 a9 h9 hc hc' x0 x1 x2 x3 x4 x5)
      = (k0_pay5 x5 x0 x1 x2 x4, k0_pay6 x5 x0 x1 x2 x4, k0_pay7 x5 x1 x3) := by
  unfold out0_A_6 out0_A_7 out0_A_8
  rw [View.read_writes_eq_canon _ _ _ (cover0_A_6 c i a1 h1 a2 h2 a3 h3 a4 h4 a5 h5 a6 h6 a7 h7 a8 h8 a9 h9 hc hc' x0 x1 x2 x3 x4 x5),
    View.read_writes_eq_canon _ _ _ (cover0_A_7 c i a1 h1 a2 h2 a3 h3 a4 h4 a5 h5 a6 h6 a7 h7 a8 h8 a9 h9 hc hc' x0 x1 x2 x3 x4 x5),
    View.read_writes_eq_canon _ _ _ (cover0_A_8 c i a1 h1 a2 h2 a3 h3 a4 h4 a5 h5 a6 h6 a7 h7 a8 h8 a9 h9 hc hc' x0 x1 x2 x3 x4 x5)]
  unfold kernelRun0_A
  dsimp only
  sl_unfold_words
  rw [View.canon_unit_zero Adam.zero2, View.canon_unit_zero Adam.zero2, View.canon_unit_zero Adam.zero2]
  simp only [View.readAt_eq_ld, h1.read_unread, h2.read_unread, h3.read_unread, h4.read_unread, h5.read_unread, h6.read_unread,
    View.ld_unit_zero (S := S512x128) Adam.zero2, View.ld_unit_zero (S := S1x128) Adam.zero2]

theorem next (hc : ¬cond0_0 i) (hc' : cond0_1 i) :
    (out0_B_6 c i a1 h1 a2 h2 a3 h3 a4 h4 a5 h5 a6 h6 a7 h7 a8 h8 a9 h9 hc hc' x0 x1 x2 x3 x4 x5 y z,
      out0_B_7 c i a1 h1 a2 h2 a3 h3 a4 h4 a5 h5 a6 h6 a7 h7 a8 h8 a9 h9 hc hc' x0 x1 x2 x3 x4 x5 y z,
      out0_B_8 c i a1 h1 a2 h2 a3 h3 a4 h4 a5 h5 a6 h6 a7 h7 a8 h8 a9 h9 hc hc' x0 x1 x2 x3 x4 x5 y z)
      = (k0_pay5 x5 x0 x1 x2 x4, addf y (k0_pay6 x5 x0 x1 x2 x4), addf z (k0_pay7 x5 x1 x3)) := by
  unfold out0_B_6 out0_B_7 out0_B_8
  rw [View.read_writes_eq_canon _ _ _ (cover0_B_6 c i a1 h1 a2 h2 a3 h3 a4 h4 a5 h5 a6 h6 a7 h7 a8 h8 a9 h9 hc hc' x0 x1 x2 x3 x4 x5 y z),
    View.read_writes_eq_canon _ _ _ (cover0_B_7 c i a1 h1 a2 h2 a3 h3 a4 h4 a5 h5 a6 h6 a7 h7 a8 h8 a9 h9 hc hc' x0 x1 x2 x3 x4 x5 y z),
    View.read_writes_eq_canon _ _ _ (cover0_B_8 c i a1 h1 a2 h2 a3 h3 a4 h4 a5 h5 a6 h6 a7 h7 a8 h8 a9 h9 hc hc' x0 x1 x2 x3 x4 x5 y z)]
  unfold kernelRun0_B
  dsimp only
  sl_unfold_words
  rw [View.canon_unit_zero Adam.zero2, View.canon_unit_zero Adam.zero2, View.canon_unit_zero Adam.zero2]
  unfold k0_pay1 k0_pay2
  simp only [View.readAt_eq_ld, h1.read_unread, h2.read_unread, h3.read_unread, h4.read_unread, h5.read_unread, h6.read_unread, h8.read_unread, h9.read_unread,
    View.ld_unit_zero (S := S512x128) Adam.zero2, View.ld_unit_zero (S := S1x128) Adam.zero2, shapeCast_self]

end Block

/-- The gradient of a step's raw value, from the gradients of the step and of its decay. -/
def slope (x d u b a : EReal) : EReal := (x + d * -Ideal.exp a) * Gates.gate (u + b)

theorem pay_slope (a b : Vec Ideal S1x128 .f32) (x d u : Vec Ideal S512x128 .f32) (r : Fin 512) (q : Fin 128) :
    k0_pay4 a x d u b (ix2 r q) = slope (x (ix2 r q)) (d (ix2 r q)) (u (ix2 r q)) (b (ix2 0 q)) (a (ix2 0 q)) := by
  unfold slope
  rw [← Gates.kernel_gate, ← zero_add (-Ideal.exp _), ← sub_eq_add_neg]
  unfold k0_pay4 k0_pay3
  pointwise

theorem pay_sum (a b : Vec Ideal S1x128 .f32) (x d u : Vec Ideal S512x128 .f32) (q : Fin 128) :
    k0_pay6 a x d u b (ix2 0 q) = ∑ r : Fin 512, slope (x (ix2 r q)) (d (ix2 r q)) (u (ix2 r q)) (b (ix2 0 q)) (a (ix2 0 q)) := by
  simp only [← pay_slope]
  unfold k0_pay6
  generalize k0_pay4 a x d u b = v
  pointwise

theorem pay_rate (a : Vec Ideal S1x128 .f32) (d s : Vec Ideal S512x128 .f32) (q : Fin 128) :
    k0_pay7 a d s (ix2 0 q) = (∑ r : Fin 512, d (ix2 r q) * s (ix2 r q)) * -Ideal.exp (a (ix2 0 q)) := by
  rw [← zero_add (-Ideal.exp _), ← sub_eq_add_neg]
  unfold k0_pay7 k0_pay3
  pointwise

/-- A real factor goes into a sum of reals. -/
theorem sum_mul {N : Nat} (f : Fin N → EReal) (a : EReal) (hf : ∀ k, ∃ r : ℝ, f k = r) (ha : ∃ r : ℝ, a = r) :
    (∑ k, f k) * a = ∑ k, f k * a := by
  choose g hg using hf
  obtain ⟨b, rfl⟩ := ha
  have e (h : Fin N → ℝ) : ∑ k, (h k : EReal) = (∑ k, h k : ℝ) := (map_sum (⟨⟨Real.toEReal, rfl⟩, EReal.coe_add⟩ : ℝ →+ EReal) h _).symm
  simp only [hg, ← EReal.coe_mul, e, Finset.sum_mul]

variable (m : (ℓ : Loc nD τ sig) → Buf (Elt Ideal) ℓ) (c : Dev nD)

/-- The row of the arrays that is row `r` of point `t`'s block. -/
def row (t : Fin cfg0.N) (r : Fin 512) : Fin 8192 := ⟨t.val * 512 + r.val, by
  have h : t.val < 16 := lt_of_lt_of_eq t.isLt N_0
  have := r.isLt
  omega⟩

theorem index : ∀ t : Fin cfg0.N, win0_6.index t (0 : Fin 2) = t.val ∧ win0_6.index t (1 : Fin 2) = 0
    ∧ win0_7.index t (0 : Fin 2) = 0 ∧ win0_7.index t (1 : Fin 2) = 0 :=
  (by decide +kernel : ∀ t : Fin grid0.N, _)

theorem emb_rows (t : Fin cfg0.N) (r : Fin 512) (q : Fin 128) : ((cfg0.win 6).blk t).view.emb (ix2 r q) = ix2 (row t r) q := by
  obtain ⟨h0, h1, _⟩ := index t
  funext a; apply Fin.ext
  match a with
  | ⟨0, _⟩ => show win0_6.index t (0 : Fin 2) * 512 + 1 * r.val = t.val * 512 + r.val; omega
  | ⟨1, _⟩ => show win0_6.index t (1 : Fin 2) * 128 + 1 * q.val = q.val; omega

theorem emb_one (t : Fin cfg0.N) (y : S1x128.Idx) : ((cfg0.win 7).blk t).view.emb y = y := by
  obtain ⟨_, _, h0, h1⟩ := index t
  funext a; apply Fin.ext
  match a with
  | ⟨0, _⟩ => show win0_7.index t (0 : Fin 2) * 1 + 1 * (y 0).val = (y 0).val; omega
  | ⟨1, _⟩ => show win0_7.index t (1 : Fin 2) * 128 + 1 * (y 1).val = (y 1).val; omega

theorem cut_one (t : Fin cfg0.N) (G : Vec Ideal S1x128 .f32) :
    (cfg0.win 7).cut (grid0.coords t) G = ((cfg0.win 7).blk t).view.read (Elt Ideal) G :=
  funext fun (y : S1x128.Idx) => congrArg G (emb_one t y).symm

theorem mem_one (t : Fin cfg0.N) (i : S1x128.Idx) : i ∈ ((cfg0.win 7).blk t).view.set :=
  (congrArg (· ∈ ((cfg0.win 7).blk t).view.set) (emb_one t i)).mp (((cfg0.win 7).blk t).view.emb_mem_set i)

theorem mem_last (t : Fin cfg0.N) (i : S1x128.Idx) : i ∈ ((cfg0.win 8).blk t).view.set :=
  (congrArg (· ∈ ((cfg0.win 8).blk t).view.set) (show ((cfg0.win 8).blk t).view.emb i = i from emb_one t i)).mp
    (((cfg0.win 8).blk t).view.emb_mem_set i)

theorem block_x (t : Fin cfg0.N) (r : Fin 512) (q : Fin 128) : iblk m c 0 t (ix2 r q) = V m c main_arg0 (ix2 (row t r) q) :=
  congrArg (V m c main_arg0) (emb_rows t r q)
theorem block_d (t : Fin cfg0.N) (r : Fin 512) (q : Fin 128) : iblk m c 1 t (ix2 r q) = V m c main_arg1 (ix2 (row t r) q) :=
  congrArg (V m c main_arg1) (emb_rows t r q)
theorem block_u (t : Fin cfg0.N) (r : Fin 512) (q : Fin 128) : iblk m c 2 t (ix2 r q) = V m c main_arg2 (ix2 (row t r) q) :=
  congrArg (V m c main_arg2) (emb_rows t r q)
theorem block_s (t : Fin cfg0.N) (r : Fin 512) (q : Fin 128) : iblk m c 3 t (ix2 r q) = V m c main_arg3 (ix2 (row t r) q) :=
  congrArg (V m c main_arg3) (emb_rows t r q)
theorem block_b (t : Fin cfg0.N) (y : S1x128.Idx) : iblk m c 4 t y = V m c main_arg4 y := congrArg (V m c main_arg4) (emb_one t y)
theorem block_a (t : Fin cfg0.N) (y : S1x128.Idx) : iblk m c 5 t y = V m c main_arg5 y := congrArg (V m c main_arg5) (emb_one t y)

/-- The gradients of the raw steps. -/
def slopes (x d u : Vec Ideal S8192x128 .f32) (b a : Vec Ideal S1x128 .f32) : Vec Ideal S8192x128 .f32 := fun j =>
  slope (x j) (d j) (u j) (b (ix2 0 (j 1))) (a (ix2 0 (j 1)))

/-- The gradient of the bias. -/
def biases (x d u : Vec Ideal S8192x128 .f32) (b a : Vec Ideal S1x128 .f32) : Vec Ideal S1x128 .f32 := fun j =>
  ∑ i : Fin 8192, slopes x d u b a (ix2 i (j 1))

/-- A gradient times its step. -/
abbrev prod (d s : Vec Ideal S8192x128 .f32) (j : S8192x128.Idx) : EReal := d j * s j

/-- The gradient of the logarithms of the decays. -/
def rates (d s : Vec Ideal S8192x128 .f32) (a : Vec Ideal S1x128 .f32) : Vec Ideal S1x128 .f32 := fun j =>
  (∑ i : Fin 8192, prod d s (ix2 i (j 1))) * -Ideal.exp (a (ix2 0 (j 1)))

/-- The first result at the arguments. -/
abbrev out : Vec Ideal S8192x128 .f32 := slopes (V m c main_arg0) (V m c main_arg1) (V m c main_arg2) (V m c main_arg4) (V m c main_arg5)

/-- A block's sum of a column, by the block's number. -/
def blockSum (f : Fin 8192 → EReal) (n : Nat) : EReal := if h : n < cfg0.N then ∑ r : Fin 512, f (row ⟨n, h⟩ r) else 0

theorem upto_last (f : Fin 8192 → EReal) : Norm.upto (blockSum f) 15 = ∑ i, f i :=
  Norm.upto_rows (b := 512) (J := 15) (by decide) _ _ fun t ht => dif_pos (lt_of_lt_of_eq ht N_0.symm)

theorem point_slope (t : Fin cfg0.N) (r : Fin 512) (q : Fin 128) :
    k0_pay4 (iblk m c 5 t) (iblk m c 0 t) (iblk m c 1 t) (iblk m c 2 t) (iblk m c 4 t) (ix2 r q) = out m c (ix2 (row t r) q) := by
  rw [pay_slope]
  simp only [block_x, block_d, block_u, block_b, block_a]
  rfl

theorem point_sum (t : Fin cfg0.N) (q : Fin 128) : k0_pay6 (iblk m c 5 t) (iblk m c 0 t) (iblk m c 1 t) (iblk m c 2 t) (iblk m c 4 t) (ix2 0 q)
    = blockSum (fun i => out m c (ix2 i q)) t.val := by
  rw [pay_sum, blockSum, dif_pos t.isLt]
  simp only [block_x, block_d, block_u, block_b, block_a]
  rfl

/-- The gradients and the steps, and the logarithms of the decays, are real. -/
def Real : Prop := (∀ j, ∃ r : ℝ, V m c main_arg1 j = (r : EReal)) ∧ (∀ j, ∃ r : ℝ, V m c main_arg3 j = (r : EReal))
  ∧ ∀ j, ∃ r : ℝ, V m c main_arg5 j = (r : EReal)

variable (hr : Real m c)
include hr

theorem real_prod (j : S8192x128.Idx) : ∃ r : ℝ, prod (V m c main_arg1) (V m c main_arg3) j = (r : EReal) := by
  obtain ⟨p, hp⟩ := hr.1 j
  obtain ⟨q, hq⟩ := hr.2.1 j
  exact ⟨p * q, (congrArg₂ (fun y z : EReal => y * z) hp hq).trans (EReal.coe_mul p q).symm⟩

theorem real_rate (j : S1x128.Idx) : ∃ r : ℝ, -Ideal.exp (V m c main_arg5 j) = (r : EReal) := by
  obtain ⟨p, hp⟩ := hr.2.2 j
  exact ⟨-_root_.Real.exp p, by rw [hp, Ideal.exp_coe, EReal.coe_neg]⟩

theorem point_rate (t : Fin cfg0.N) (q : Fin 128) : k0_pay7 (iblk m c 5 t) (iblk m c 1 t) (iblk m c 3 t) (ix2 0 q)
    = blockSum (fun i => prod (V m c main_arg1) (V m c main_arg3) (ix2 i q) * -Ideal.exp (V m c main_arg5 (ix2 0 q))) t.val := by
  rw [pay_rate, blockSum, dif_pos t.isLt]
  simp only [block_d, block_s, block_a]
  exact sum_mul _ _ (fun r => real_prod m c hr _) (real_rate m c hr _)

/-- What the points up to `n` leave. -/
theorem kept (q : Fin 128) : ∀ (n : Nat) (h : n < cfg0.N), (outsAt0 m c n h).1
      = k0_pay5 (iblk m c 5 ⟨n, h⟩) (iblk m c 0 ⟨n, h⟩) (iblk m c 1 ⟨n, h⟩) (iblk m c 2 ⟨n, h⟩) (iblk m c 4 ⟨n, h⟩)
    ∧ (outsAt0 m c n h).2.1 (ix2 0 q) = Norm.upto (blockSum fun i => out m c (ix2 i q)) n
    ∧ (outsAt0 m c n h).2.2 (ix2 0 q) = Norm.upto
      (blockSum fun i => prod (V m c main_arg1) (V m c main_arg3) (ix2 i q) * -Ideal.exp (V m c main_arg5 (ix2 0 q))) n
  | 0, h => by
    have e := (outsAt0_A m c ⟨0, h⟩ rfl (show ¬1 ≤ 0 by decide)).trans (first ..)
    dsimp only at e
    rw [e]
    exact ⟨rfl, point_sum m c ⟨0, h⟩ q, point_rate m c hr ⟨0, h⟩ q⟩
  | n + 1, h => by
    have hN : n + 1 < 16 := lt_of_lt_of_eq h N_0
    have e := (outsAt0_B m c ⟨n + 1, h⟩ (by dsimp only; omega) (by dsimp only; omega)).trans (next ..)
    dsimp only at e
    rw [e]
    have k := kept q n (Nat.lt_of_succ_lt h)
    exact ⟨rfl, congrArg₂ (fun x y : EReal => x + y) k.2.1 (point_sum m c ⟨n + 1, h⟩ q),
      congrArg₂ (fun x y : EReal => x + y) k.2.2 (point_rate m c hr ⟨n + 1, h⟩ q)⟩

theorem kept_last (n : Nat) (h : n < cfg0.N) (hn : n = 15) :
    (outsAt0 m c n h).2.1 = biases (V m c main_arg0) (V m c main_arg1) (V m c main_arg2) (V m c main_arg4) (V m c main_arg5)
    ∧ (outsAt0 m c n h).2.2 = rates (V m c main_arg1) (V m c main_arg3) (V m c main_arg5) := by
  have e (y : S1x128.Idx) : ∃ q, y = ix2 0 q := ⟨y 1, (eq_ix2 y).trans (congrArg (fun i => ix2 i (y 1)) (Fin.fin_one_eq_zero (y 0)))⟩
  refine ⟨funext fun (y : S1x128.Idx) => ?_, funext fun (y : S1x128.Idx) => ?_⟩
  · obtain ⟨q, rfl⟩ := e y
    rw [(kept m c hr q n h).2.1, hn, upto_last]
    rfl
  · obtain ⟨q, rfl⟩ := e y
    rw [(kept m c hr q n h).2.2, hn, upto_last]
    exact (sum_mul _ _ (fun i => real_prod m c hr (ix2 i q)) (real_rate m c hr _)).symm

theorem final_slopes : (dats m 0 c).arrAt 6 cfg0.N = out m c :=
  (dats m 0 c).arrAt_eq_of_cover 6 (out m c)
    (fun t _ => by
      rw [flushed6, (kept m c hr 0 t.val t.isLt).1]
      refine funext fun (y : S512x128.Idx) => ?_
      rw [eq_ix2 y]
      exact (point_slope m c t (y 0) (y 1)).trans (congrArg (out m c) (emb_rows t (y 0) (y 1)).symm))
    (fun (i : S8192x128.Idx) => by
      obtain ⟨t, y, h⟩ := Adam.covered (n := cfg0.N) (b := 512) rfl (by decide) (fun t (y : S512x128.Idx) => ix2 (row t (y 0)) (y 1))
        (fun _ _ => rfl) (fun _ _ => rfl) i
      have e := ((congrArg _ (eq_ix2 y)).trans (emb_rows t (y 0) (y 1))).trans h
      exact ⟨t, flush0_6 t, e ▸ ((cfg0.win 6).blk t).view.emb_mem_set y⟩)

omit hr in
theorem last (t : Fin cfg0.N) (h : t.val % 16 = 15) : t.val = 15 := by
  have : t.val < 16 := lt_of_lt_of_eq t.isLt N_0
  omega

theorem final_biases : (dats m 0 c).arrAt 7 cfg0.N
    = biases (V m c main_arg0) (V m c main_arg1) (V m c main_arg2) (V m c main_arg4) (V m c main_arg5) := by
  refine (dats m 0 c).arrAt_eq_of_cover 7 _ (fun t hf => ?_)
    (fun (i : S1x128.Idx) => ⟨⟨15, lt_of_lt_of_eq (by decide) N_0.symm⟩, (flush0_7 _).mpr rfl, mem_one _ i⟩)
  rw [flushed7, (kept_last m c hr t.val t.isLt (last t ((flush0_7 t).mp hf))).1]
  exact cut_one t _

theorem final_rates : (dats m 0 c).arrAt 8 cfg0.N = rates (V m c main_arg1) (V m c main_arg3) (V m c main_arg5) := by
  refine (dats m 0 c).arrAt_eq_of_cover 8 _ (fun t hf => ?_)
    (fun (i : S1x128.Idx) => ⟨⟨15, lt_of_lt_of_eq (by decide) N_0.symm⟩, (flush0_8 _).mpr rfl, mem_last _ i⟩)
  rw [flushed8, (kept_last m c hr t.val t.isLt (last t ((flush0_8 t).mp hf))).2]
  exact cut_one t _

end Cert.StepBackIdeal.Run

namespace Cert.Proof.StepBack

open Idealize.ShloMosaic Idealize.ShloMosaic.TcCoe Idealize.SL.Sem
open Cert.StepBackRefIdeal Cert.StepBackRefIdeal.Gen
open Cert.StepBackIdeal.Run (slope slopes biases rates)

theorem frame_refIdeal : Cert.quiescent_StepBackRefIdeal := fun m g _ =>
  (θ_run Cert.StepBackRefIdeal.defs _ _).mono
    (fun r h => ⟨fun c => (h c).2.2.2, sem_eq_zero_of_no_sems (by decide) r.2⟩) (Cert.StepBackRefIdeal.Value.run m g)

instance facts : Cert.Pre_finite_rates.Facts := ⟨by decide, by decide, by decide, by decide, by decide⟩

section Finite

variable [Cert.Pre_finite_rates.Facts]

theorem frame_refIdeal_pre : Cert.quiescent_StepBackRefIdeal_pre_finite_rates := fun m g _ => frame_refIdeal m g trivial

theorem both : ∀ a b : BitVec 1, IntOp.andi a b = 1#1 → a = 1#1 ∧ b = 1#1 := by decide

/-- The precondition says that the gradients, the steps and the logarithms of the decays are reals. -/
theorem reals (x d u s : FVec Ideal S8192x128 .f32) (b a : FVec Ideal S1x128 .f32)
    (h : Cert.Pre_finite_rates.fn (F := Ideal) x d u s b a = fun _ => 1#1) :
    (∀ j, ∃ r : ℝ, d j = (r : EReal)) ∧ (∀ j, ∃ r : ℝ, s j = (r : EReal)) ∧ ∀ j, ∃ r : ℝ, a j = (r : EReal) := by
  haveI : Subsingleton (Cert.Pre_finite_rates.S_).Idx := ⟨fun a b => funext fun k => k.elim0⟩
  obtain ⟨h01, h2⟩ := both _ _ (congrFun h (fun k => k.elim0))
  obtain ⟨h0, h1⟩ := both _ _ h01
  exact ⟨fun j => Combine.real_of _ (Host.reduce_andi_all _ _ _ _ _ h0 j), fun j => Combine.real_of _ (Host.reduce_andi_all _ _ _ _ _ h1 j),
    fun j => Combine.real_of _ (Host.reduce_andi_all _ _ _ _ _ h2 j)⟩

end Finite

section Reference

variable (x d u s : FVec Ideal S8192x128 .f32) (b a : FVec Ideal S1x128 .f32) (ho : S_.BroadcastsInDim S8192x128 ![])
  (hb : S1x128.BroadcastsInDim S8192x128 ![0, 1])

/-- The first result before its rounding, as the reference takes it. -/
abbrev refSlopes : FVec Ideal S8192x128 .f32 :=
  mulf (addf x (mulf d (broadcastInDim S8192x128 ![0, 1] hb (Host.negf (Host.exp a)))))
    (Gates.gates (addf u (broadcastInDim S8192x128 ![0, 1] hb b)) ho)

theorem ref_slopes : refSlopes x d u b a ho hb = slopes x d u b a := by
  refine funext fun (j : S8192x128.Idx) => ?_
  rw [eq_ix2 j]
  refine congrArg₂ (fun y z : EReal => y * z) ?_ ((Gates.ref_gate _ ho _).trans (congrArg Gates.gate ?_))
  all_goals pointwise

theorem ref_biases (hr : S8192x128.ReducesTo [0] S128) (h : 0 < S_.numel) (hs : S128.BroadcastsInDim S1x128 ![1]) :
    broadcastInDim S1x128 ![1] hs (Host.reduceAdd (refSlopes x d u b a ho hb) (constant S_ .f32 0x00000000#32) hr h) = biases x d u b a := by
  rw [ref_slopes]
  refine funext fun (j : S1x128.Idx) => ?_
  unfold biases
  generalize slopes x d u b a = v
  rw [eq_ix2 j]
  pointwise

theorem ref_rates (hr : S8192x128.ReducesTo [0] S128) (h : 0 < S_.numel) (hs : S128.ShapeCasts S1x128) :
    mulf (Host.negf (shapeCast S1x128 (Host.reduceAdd (mulf s d) (constant S_ .f32 0x00000000#32) hr h) hs)) (Host.exp a) = rates d s a := by
  refine funext fun (j : S1x128.Idx) => ?_
  unfold rates Cert.StepBackIdeal.Run.prod
  rw [mul_neg, ← neg_mul]
  simp only [mul_comm (d _)]
  rw [eq_ix2 j, Fin.fin_one_eq_zero (j 0)]
  pointwise

end Reference

theorem algebraic [Cert.Pre_finite_rates.Facts] : Cert.algebraic_StepBackIdeal_StepBackRefIdeal_pre_finite_rates := fun m g m' g' hp hA => by
  refine ⟨_, _, _, (θ_run Cert.StepBackIdeal.defs _ _).mono (fun r h c =>
      have f := reals _ _ _ _ _ _ (hp c)
      ⟨(h c).1.trans (Cert.StepBackIdeal.Run.final_slopes m c f), (h c).2.1.trans (Cert.StepBackIdeal.Run.final_biases m c f),
        (h c).2.2.1.trans (Cert.StepBackIdeal.Run.final_rates m c f), (h c).2.2.2⟩) (Cert.StepBackIdeal.Value.run_blocks m g),
    (θ_run Cert.StepBackRefIdeal.defs _ _).mono (fun r h c => ?_) (Cert.StepBackRefIdeal.Value.run m' g')⟩
  obtain ⟨h0, h1, h2, hk⟩ := h c
  obtain ⟨a0, a1, a2, a3, a4, a5⟩ := hA c
  rw [a0, a1, a2, a4, a5] at h0 h1
  rw [a1, a3, a5] at h2
  exact ⟨h0.trans (ref_slopes ..), h1.trans (ref_biases ..), h2.trans (ref_rates ..), hk⟩

end Cert.Proof.StepBack

end
-- ==== Proof.LossBackClaims.lean ====
/-
  The claims of the loss and its gradient at the output. The kernel walks the rows in blocks of 128: a point's blocks are rows
  of the arrays (`emb_rows`), so that the gradient is written block by block (`final_rows`), and the loss and the gradient of
  the weights, each one row kept from point to point, are the blocks' sums added (`kept_sums`) and so sums over all rows
  (`final_loss`, `final_weight`).
-/
module

public import proofs.«01_k».proof.Proof.Adam
public import proofs.«01_k».proof.Proof.Norm
public import proofs.«01_k».proof.Proof.Gen.LossBack.Frame
public import proofs.«01_k».proof.Proof.Gen.LossBackIdeal.Value
public import proofs.«01_k».proof.Proof.Gen.LossBackRefIdeal.Run

@[expose] public section

noncomputable section

namespace Cert.LossBackIdeal.Run

open Idealize.ShloMosaic Idealize.ShloMosaic.TcCoe Idealize.SL.Sem
open Cert.LossBackIdeal Cert.LossBackIdeal.Gen Cert.LossBackIdeal.Value

/-! ## What a point leaves -/

section Block

variable {F : FTy → Type} [FloatOps F]

/-- A block of the gradient. -/
abbrev payRows (x0 x1 x3 : Vec F S128x2048 .f32) (x2 : Vec F S1x2048 .f32) : Vec F S128x2048 .f32 :=
  k0_pay1 (k0_pay12 x0 x1 x2 x3) (k0_pay13 x0 x1) (k0_pay14 x0 x1 x2 x3)

/-- A block's part of the gradient of the weights. -/
abbrev payWeight (x0 x1 x3 : Vec F S128x2048 .f32) (x2 : Vec F S1x2048 .f32) : Vec F S1x2048 .f32 :=
  k0_pay2 (k0_pay7 x0 x1) (k0_pay10 x0 x1 x2 x3)

variable (c : Dev nD) (i : grid0.Coords) (a1 : Memref sig .tc .vmem S128x2048 .f32) (h1 : a1.IsWhole)
  (a2 : Memref sig .tc .vmem S128x2048 .f32) (h2 : a2.IsWhole) (a3 : Memref sig .tc .vmem S1x2048 .f32) (h3 : a3.IsWhole)
  (a4 : Memref sig .tc .vmem S128x2048 .f32) (h4 : a4.IsWhole) (a5 : Memref sig .tc .vmem S128x2048 .f32) (h5 : a5.IsWhole)
  (a6 : Memref sig .tc .vmem S1x128 .f32) (h6 : a6.IsWhole) (a7 : Memref sig .tc .vmem S1x2048 .f32) (h7 : a7.IsWhole)
  (x0 x1 : Vec F S128x2048 .f32) (x2 : Vec F S1x2048 .f32) (x3 : Vec F S128x2048 .f32) (xo5 : Vec F S1x128 .f32) (xo6 : Vec F S1x2048 .f32)

theorem rows_first (hc : cond0_0 i) (hc' : ¬cond0_1 i) :
    out0_A_4 c i a1 h1 a2 h2 a3 h3 a4 h4 a5 h5 a6 h6 a7 h7 hc hc' x0 x1 x2 x3 = payRows x0 x1 x3 x2 := by
  unfold out0_A_4
  rw [View.read_writes_eq_canon _ _ _ (cover0_A_4 c i a1 h1 a2 h2 a3 h3 a4 h4 a5 h5 a6 h6 a7 h7 hc hc' x0 x1 x2 x3)]
  unfold kernelRun0_A
  dsimp only
  sl_unfold_words
  rw [View.canon_unit_zero Adam.zero2]
  simp only [View.readAt_eq_ld, h1.read_unread, h2.read_unread, h3.read_unread, h4.read_unread,
    View.ld_unit_zero (S := S128x2048) Adam.zero2, View.ld_unit_zero (S := S1x2048) Adam.zero2]

theorem rows_next (hc : ¬cond0_0 i) (hc' : cond0_1 i) :
    out0_B_4 c i a1 h1 a2 h2 a3 h3 a4 h4 a5 h5 a6 h6 a7 h7 hc hc' x0 x1 x2 x3 xo5 xo6 = payRows x0 x1 x3 x2 := by
  unfold out0_B_4
  rw [View.read_writes_eq_canon _ _ _ (cover0_B_4 c i a1 h1 a2 h2 a3 h3 a4 h4 a5 h5 a6 h6 a7 h7 hc hc' x0 x1 x2 x3 xo5 xo6)]
  unfold kernelRun0_B
  dsimp only
  sl_unfold_words
  rw [View.canon_unit_zero Adam.zero2]
  simp only [View.readAt_eq_ld, h1.read_unread, h2.read_unread, h3.read_unread, h4.read_unread,
    View.ld_unit_zero (S := S128x2048) Adam.zero2, View.ld_unit_zero (S := S1x2048) Adam.zero2]

theorem loss_first (hc : cond0_0 i) (hc' : ¬cond0_1 i) :
    out0_A_5 c i a1 h1 a2 h2 a3 h3 a4 h4 a5 h5 a6 h6 a7 h7 hc hc' x0 x1 x2 x3 = k0_pay9 x0 x1 x2 x3 := by
  unfold out0_A_5
  rw [View.read_writes_eq_canon _ _ _ (cover0_A_5 c i a1 h1 a2 h2 a3 h3 a4 h4 a5 h5 a6 h6 a7 h7 hc hc' x0 x1 x2 x3)]
  unfold kernelRun0_A
  dsimp only
  sl_unfold_words
  rw [View.canon_unit_zero Adam.zero2]
  simp only [View.readAt_eq_ld, h1.read_unread, h2.read_unread, h3.read_unread, h4.read_unread,
    View.ld_unit_zero (S := S128x2048) Adam.zero2, View.ld_unit_zero (S := S1x2048) Adam.zero2]

theorem loss_next (hc : ¬cond0_0 i) (hc' : cond0_1 i) :
    out0_B_5 c i a1 h1 a2 h2 a3 h3 a4 h4 a5 h5 a6 h6 a7 h7 hc hc' x0 x1 x2 x3 xo5 xo6 = addf xo5 (k0_pay9 x0 x1 x2 x3) := by
  unfold out0_B_5
  rw [View.read_writes_eq_canon _ _ _ (cover0_B_5 c i a1 h1 a2 h2 a3 h3 a4 h4 a5 h5 a6 h6 a7 h7 hc hc' x0 x1 x2 x3 xo5 xo6)]
  unfold kernelRun0_B
  dsimp only
  sl_unfold_words
  rw [View.canon_unit_zero Adam.zero2]
  unfold k0_pay4
  simp only [View.readAt_eq_ld, h1.read_unread, h2.read_unread, h3.read_unread, h4.read_unread, h6.read_unread, h7.read_unread,
    View.ld_unit_zero (S := S128x2048) Adam.zero2, View.ld_unit_zero (S := S1x2048) Adam.zero2, View.ld_unit_zero (S := S1x128) Adam.zero2, shapeCast_self]

theorem weight_first (hc : cond0_0 i) (hc' : ¬cond0_1 i) :
    out0_A_6 c i a1 h1 a2 h2 a3 h3 a4 h4 a5 h5 a6 h6 a7 h7 hc hc' x0 x1 x2 x3 = payWeight x0 x1 x3 x2 := by
  unfold out0_A_6
  rw [View.read_writes_eq_canon _ _ _ (cover0_A_6 c i a1 h1 a2 h2 a3 h3 a4 h4 a5 h5 a6 h6 a7 h7 hc hc' x0 x1 x2 x3)]
  unfold kernelRun0_A
  dsimp only
  sl_unfold_words
  rw [View.canon_unit_zero Adam.zero2]
  simp only [View.readAt_eq_ld, h1.read_unread, h2.read_unread, h3.read_unread, h4.read_unread,
    View.ld_unit_zero (S := S128x2048) Adam.zero2, View.ld_unit_zero (S := S1x2048) Adam.zero2]

theorem weight_next (hc : ¬cond0_0 i) (hc' : cond0_1 i) :
    out0_B_6 c i a1 h1 a2 h2 a3 h3 a4 h4 a5 h5 a6 h6 a7 h7 hc hc' x0 x1 x2 x3 xo5 xo6 = addf xo6 (payWeight x0 x1 x3 x2) := by
  unfold out0_B_6
  rw [View.read_writes_eq_canon _ _ _ (cover0_B_6 c i a1 h1 a2 h2 a3 h3 a4 h4 a5 h5 a6 h6 a7 h7 hc hc' x0 x1 x2 x3 xo5 xo6)]
  unfold kernelRun0_B
  dsimp only
  sl_unfold_words
  rw [View.canon_unit_zero Adam.zero2]
  unfold k0_pay3
  simp only [View.readAt_eq_ld, h1.read_unread, h2.read_unread, h3.read_unread, h4.read_unread, h6.read_unread, h7.read_unread,
    View.ld_unit_zero (S := S128x2048) Adam.zero2, View.ld_unit_zero (S := S1x2048) Adam.zero2, View.ld_unit_zero (S := S1x128) Adam.zero2, shapeCast_self]

end Block

/-! ## A point's values at an index -/

/-- A row of the output from its two parts. -/
abbrev sum2 {n : Nat} (x s : Fin n → EReal) (k : Fin n) : EReal := x k + s k

theorem pay_rows (x s t : Vec Ideal S128x2048 .f32) (w : Vec Ideal S1x2048 .f32) (r : Fin 128) (k : Fin 2048) :
    payRows x s t w (ix2 r k)
      = Norm.back (sum2 (fun k => x (ix2 r k)) (fun k => s (ix2 r k)))
        (fun k => Norm.slope (sum2 (fun k => x (ix2 r k)) (fun k => s (ix2 r k))) (fun k => w (ix2 0 k)) (fun k => t (ix2 r k)) k * w (ix2 0 k)) k := by
  unfold payRows k0_pay1 k0_pay12 k0_pay13 k0_pay14 k0_pay11 k0_pay10 k0_pay8 k0_pay7 k0_pay6 k0_pay5 sum2
  unfold Norm.slope Norm.miss Norm.back Norm.factor Norm.square Norm.mean
  pointwise

theorem pay_loss (x s t : Vec Ideal S128x2048 .f32) (w : Vec Ideal S1x2048 .f32) (k : Fin 128) :
    k0_pay9 x s w t (ix2 0 k)
      = ∑ r : Fin 128, Norm.loss (sum2 (fun k => x (ix2 r k)) (fun k => s (ix2 r k))) (fun k => w (ix2 0 k)) (fun k => t (ix2 r k)) := by
  unfold k0_pay9 k0_pay8 k0_pay7 k0_pay6 k0_pay5 sum2
  unfold Norm.loss Norm.miss Norm.factor Norm.square Norm.mean
  pointwise

theorem pay_weight (x s t : Vec Ideal S128x2048 .f32) (w : Vec Ideal S1x2048 .f32) (k : Fin 2048) :
    payWeight x s t w (ix2 0 k)
      = ∑ r : Fin 128, Norm.slope (sum2 (fun k => x (ix2 r k)) (fun k => s (ix2 r k))) (fun k => w (ix2 0 k)) (fun k => t (ix2 r k)) k
        * ((x (ix2 r k) + s (ix2 r k)) * Norm.factor (sum2 (fun k => x (ix2 r k)) (fun k => s (ix2 r k)))) := by
  unfold payWeight k0_pay2 k0_pay10 k0_pay8 k0_pay7 k0_pay6 k0_pay5 sum2
  unfold Norm.slope Norm.miss Norm.factor Norm.square Norm.mean
  pointwise

/-! ## A point's blocks -/

variable (m : (ℓ : Loc nD τ sig) → Buf (Elt Ideal) ℓ) (c : Dev nD)

/-- The row of the arrays that is row `r` of point `t`'s block. -/
def row (t : Fin cfg0.N) (r : Fin 128) : Fin 8192 := ⟨t.val * 128 + r.val, by
  have h : t.val < 64 := lt_of_lt_of_eq t.isLt N_0
  have := r.isLt
  omega⟩

theorem index_rows : ∀ t : Fin cfg0.N, win0_4.index t (0 : Fin 2) = t.val ∧ win0_4.index t (1 : Fin 2) = 0 :=
  (by decide +kernel : ∀ t : Fin grid0.N, _)

theorem index_whole : ∀ t : Fin cfg0.N, (win0_2.index t (0 : Fin 2) = 0 ∧ win0_2.index t (1 : Fin 2) = 0)
    ∧ (win0_5.index t (0 : Fin 2) = 0 ∧ win0_5.index t (1 : Fin 2) = 0) ∧ win0_6.index t (0 : Fin 2) = 0 ∧ win0_6.index t (1 : Fin 2) = 0 :=
  (by decide +kernel : ∀ t : Fin grid0.N, _)

theorem emb_rows (t : Fin cfg0.N) (r : Fin 128) (k : Fin 2048) : ((cfg0.win 4).blk t).view.emb (ix2 r k) = ix2 (row t r) k := by
  obtain ⟨h0, h1⟩ := index_rows t
  funext a; apply Fin.ext
  match a with
  | ⟨0, _⟩ => show win0_4.index t (0 : Fin 2) * 128 + 1 * r.val = t.val * 128 + r.val; omega
  | ⟨1, _⟩ => show win0_4.index t (1 : Fin 2) * 2048 + 1 * k.val = k.val; omega

theorem block_x (t : Fin cfg0.N) (r : Fin 128) (k : Fin 2048) : iblk m c 0 t (ix2 r k) = V m c main_arg0 (ix2 (row t r) k) :=
  congrArg (V m c main_arg0) (emb_rows t r k)
theorem block_s (t : Fin cfg0.N) (r : Fin 128) (k : Fin 2048) : iblk m c 1 t (ix2 r k) = V m c main_arg1 (ix2 (row t r) k) :=
  congrArg (V m c main_arg1) (emb_rows t r k)
theorem block_t (t : Fin cfg0.N) (r : Fin 128) (k : Fin 2048) : iblk m c 3 t (ix2 r k) = V m c main_arg3 (ix2 (row t r) k) :=
  congrArg (V m c main_arg3) (emb_rows t r k)

theorem emb_weight (t : Fin cfg0.N) (y : S1x2048.Idx) : ((cfg0.win 6).blk t).view.emb y = y := by
  obtain ⟨-, -, h0, h1⟩ := index_whole t
  funext a; apply Fin.ext
  match a with
  | ⟨0, _⟩ => show win0_6.index t (0 : Fin 2) * 1 + 1 * (y 0).val = (y 0).val; omega
  | ⟨1, _⟩ => show win0_6.index t (1 : Fin 2) * 2048 + 1 * (y 1).val = (y 1).val; omega

theorem emb_loss (t : Fin cfg0.N) (y : S1x128.Idx) : ((cfg0.win 5).blk t).view.emb y = y := by
  obtain ⟨-, ⟨h0, h1⟩, -⟩ := index_whole t
  funext a; apply Fin.ext
  match a with
  | ⟨0, _⟩ => show win0_5.index t (0 : Fin 2) * 1 + 1 * (y 0).val = (y 0).val; omega
  | ⟨1, _⟩ => show win0_5.index t (1 : Fin 2) * 128 + 1 * (y 1).val = (y 1).val; omega

theorem block_w (t : Fin cfg0.N) (k : Fin 2048) : iblk m c 2 t (ix2 0 k) = V m c main_arg2 (ix2 0 k) :=
  congrArg (V m c main_arg2) (emb_weight t (ix2 0 k))

/-! ## The arrays after the run -/

section Sums

variable (x s : Vec Ideal S8192x2048 .f32) (w : Vec Ideal S1x2048 .f32) (t : Vec Ideal S8192x2048 .f32)

/-- A row of the output. -/
abbrev outRow (i : Fin 8192) (k : Fin 2048) : EReal := sum2 (fun k => x (ix2 i k)) (fun k => s (ix2 i k)) k

/-- The gradient of the output. -/
def rows : Vec Ideal S8192x2048 .f32 := fun j =>
  Norm.back (outRow x s (j 0)) (fun k => Norm.slope (outRow x s (j 0)) (fun k => w (ix2 0 k)) (fun k => t (ix2 (j 0) k)) k * w (ix2 0 k)) (j 1)

/-- One row's part of the loss. -/
def lossPart (i : Fin 8192) : EReal := Norm.loss (outRow x s i) (fun k => w (ix2 0 k)) (fun k => t (ix2 i k))

/-- One row's part of the gradient of the weights. -/
def weightPart (k : Fin 2048) (i : Fin 8192) : EReal :=
  Norm.slope (outRow x s i) (fun k => w (ix2 0 k)) (fun k => t (ix2 i k)) k * ((x (ix2 i k) + s (ix2 i k)) * Norm.factor (outRow x s i))

/-- The loss, at every lane. -/
def loss : Vec Ideal S1x128 .f32 := fun _ => ∑ i, lossPart x s w t i

/-- The gradient of the weights. -/
def weight : Vec Ideal S1x2048 .f32 := fun j => ∑ i, weightPart x s w t (j 1) i

end Sums

theorem kept_rows (t : Fin cfg0.N) : (outsAt0 m c t.val t.isLt).1 = payRows (iblk m c 0 t) (iblk m c 1 t) (iblk m c 3 t) (iblk m c 2 t) := by
  have hN : t.val < 64 := lt_of_lt_of_eq t.isLt N_0
  by_cases h : t.val = 0
  · rw [outsAt0_A m c t (by omega) (by omega)]
    dsimp only
    rw [rows_first]
  · rw [outsAt0_B m c t (by omega) (by omega)]
    dsimp only
    rw [rows_next]

theorem point_rows (t : Fin cfg0.N) (r : Fin 128) (k : Fin 2048) :
    payRows (iblk m c 0 t) (iblk m c 1 t) (iblk m c 3 t) (iblk m c 2 t) (ix2 r k)
      = rows (V m c main_arg0) (V m c main_arg1) (V m c main_arg2) (V m c main_arg3) (ix2 (row t r) k) := by
  rw [pay_rows]
  simp only [block_x, block_s, block_w, block_t]
  rfl

theorem covered (i : S8192x2048.Idx) : ∃ (t : Fin cfg0.N) (y : S128x2048.Idx), ((cfg0.win 4).blk t).view.emb y = i :=
  Adam.covered (n := cfg0.N) (b := 128) rfl (by decide) (fun t (y : S128x2048.Idx) => ix2 (row t (y 0)) (y 1)) (fun _ _ => rfl) (fun _ _ => rfl) i
    |>.imp fun t h => h.imp fun y e => ((congrArg _ (eq_ix2 y)).trans (emb_rows t (y 0) (y 1))).trans e

theorem final_rows : (dats m 0 c).arrAt 4 cfg0.N = rows (V m c main_arg0) (V m c main_arg1) (V m c main_arg2) (V m c main_arg3) :=
  (dats m 0 c).arrAt_eq_of_cover 4 (rows (V m c main_arg0) (V m c main_arg1) (V m c main_arg2) (V m c main_arg3))
    (fun t _ => by
      rw [flushed4, kept_rows]
      refine funext fun (y : S128x2048.Idx) => ?_
      rw [eq_ix2 y]
      exact (point_rows m c t (y 0) (y 1)).trans
        (congrArg (rows (V m c main_arg0) (V m c main_arg1) (V m c main_arg2) (V m c main_arg3)) (emb_rows t (y 0) (y 1)).symm))
    (fun (i : S8192x2048.Idx) => let ⟨t, y, h⟩ := covered i; ⟨t, flush0_4 t, h ▸ ((cfg0.win 4).blk t).view.emb_mem_set y⟩)

/-- A block's sum of the rows' parts, by the block's number. -/
def blockSum (p : Fin 8192 → EReal) (n : Nat) : EReal := if h : n < cfg0.N then ∑ r : Fin 128, p (row ⟨n, h⟩ r) else 0

theorem blockSum_all (p : Fin 8192 → EReal) : Norm.upto (blockSum p) 63 = ∑ i, p i :=
  Norm.upto_rows (b := 128) (J := 63) (by decide) _ _ fun t ht => dif_pos (lt_of_lt_of_eq ht N_0.symm)

theorem point_loss (t : Fin cfg0.N) (k : Fin 128) : k0_pay9 (iblk m c 0 t) (iblk m c 1 t) (iblk m c 2 t) (iblk m c 3 t) (ix2 0 k)
    = blockSum (lossPart (V m c main_arg0) (V m c main_arg1) (V m c main_arg2) (V m c main_arg3)) t.val := by
  rw [pay_loss, blockSum, dif_pos t.isLt]
  simp only [block_x, block_s, block_w, block_t]
  rfl

theorem point_weight (t : Fin cfg0.N) (k : Fin 2048) : payWeight (iblk m c 0 t) (iblk m c 1 t) (iblk m c 3 t) (iblk m c 2 t) (ix2 0 k)
    = blockSum (weightPart (V m c main_arg0) (V m c main_arg1) (V m c main_arg2) (V m c main_arg3) k) t.val := by
  rw [pay_weight, blockSum, dif_pos t.isLt]
  simp only [block_x, block_s, block_w, block_t]
  rfl

theorem kept_sums (l : Fin 128) (k : Fin 2048) : ∀ (n : Nat) (h : n < cfg0.N),
    (outsAt0 m c n h).2.1 (ix2 0 l) = Norm.upto (blockSum (lossPart (V m c main_arg0) (V m c main_arg1) (V m c main_arg2) (V m c main_arg3))) n
      ∧ (outsAt0 m c n h).2.2 (ix2 0 k)
        = Norm.upto (blockSum (weightPart (V m c main_arg0) (V m c main_arg1) (V m c main_arg2) (V m c main_arg3) k)) n
  | 0, h => by
    have e : outsAt0 m c 0 h = _ := outsAt0_A m c ⟨0, h⟩ rfl (show ¬1 ≤ 0 by decide)
    rw [e]
    dsimp only
    rw [loss_first, weight_first]
    exact ⟨point_loss m c ⟨0, h⟩ l, point_weight m c ⟨0, h⟩ k⟩
  | n + 1, h => by
    have hN : n + 1 < 64 := lt_of_lt_of_eq h N_0
    have e : outsAt0 m c (n + 1) h = _ := outsAt0_B m c ⟨n + 1, h⟩ (by dsimp only; omega) (by dsimp only; omega)
    have i := kept_sums l k n (Nat.lt_of_succ_lt h)
    rw [e]
    dsimp only
    rw [loss_next, weight_next]
    exact ⟨congrArg₂ (fun x y : EReal => x + y) i.1 (point_loss m c ⟨n + 1, h⟩ l),
      congrArg₂ (fun x y : EReal => x + y) i.2 (point_weight m c ⟨n + 1, h⟩ k)⟩

theorem eq_row {n : Nat} (y : (⟨2, ![1, n]⟩ : Shape).Idx) : ∃ k, y = ix2 0 k :=
  ⟨y 1, (eq_ix2 y).trans (congrArg (fun i => ix2 i (y 1)) (Fin.fin_one_eq_zero (y 0)))⟩

theorem kept_loss (n : Nat) (h : n < cfg0.N) (hn : n = 63) :
    (outsAt0 m c n h).2.1 = loss (V m c main_arg0) (V m c main_arg1) (V m c main_arg2) (V m c main_arg3) := by
  refine funext fun (y : S1x128.Idx) => ?_
  obtain ⟨k, rfl⟩ := eq_row y
  subst hn
  exact (kept_sums m c k 0 63 h).1.trans (blockSum_all _)

theorem kept_weight (n : Nat) (h : n < cfg0.N) (hn : n = 63) :
    (outsAt0 m c n h).2.2 = weight (V m c main_arg0) (V m c main_arg1) (V m c main_arg2) (V m c main_arg3) := by
  refine funext fun (y : S1x2048.Idx) => ?_
  obtain ⟨k, rfl⟩ := eq_row y
  subst hn
  exact (kept_sums m c 0 k 63 h).2.trans (blockSum_all _)

theorem last (t : Fin cfg0.N) (h : t.val % 64 = 63) : t.val = 63 := by
  have : t.val < 64 := lt_of_lt_of_eq t.isLt N_0
  omega

theorem final_loss : (dats m 0 c).arrAt 5 cfg0.N = loss (V m c main_arg0) (V m c main_arg1) (V m c main_arg2) (V m c main_arg3) := by
  refine (dats m 0 c).arrAt_eq_of_cover 5 (loss (V m c main_arg0) (V m c main_arg1) (V m c main_arg2) (V m c main_arg3)) (fun t hf => ?_)
    (fun (i : S1x128.Idx) => ⟨⟨63, lt_of_lt_of_eq (by decide) N_0.symm⟩, (flush0_5 _).mpr rfl, ?_⟩)
  · rw [flushed5, kept_loss m c t.val t.isLt (last t ((flush0_5 t).mp hf))]
    have e (G : Vec Ideal S1x128 .f32) : (cfg0.win 5).cut (grid0.coords t) G = ((cfg0.win 5).blk t).view.read (Elt Ideal) G :=
      funext fun (y : S1x128.Idx) => congrArg G (emb_loss t y).symm
    exact e _
  · exact (emb_loss _ i) ▸ ((cfg0.win 5).blk _).view.emb_mem_set i

theorem final_weight : (dats m 0 c).arrAt 6 cfg0.N = weight (V m c main_arg0) (V m c main_arg1) (V m c main_arg2) (V m c main_arg3) := by
  refine (dats m 0 c).arrAt_eq_of_cover 6 (weight (V m c main_arg0) (V m c main_arg1) (V m c main_arg2) (V m c main_arg3)) (fun t hf => ?_)
    (fun (i : S1x2048.Idx) => ⟨⟨63, lt_of_lt_of_eq (by decide) N_0.symm⟩, (flush0_6 _).mpr rfl, ?_⟩)
  · rw [flushed6, kept_weight m c t.val t.isLt (last t ((flush0_6 t).mp hf))]
    have e (G : Vec Ideal S1x2048 .f32) : (cfg0.win 6).cut (grid0.coords t) G = ((cfg0.win 6).blk t).view.read (Elt Ideal) G :=
      funext fun (y : S1x2048.Idx) => congrArg G (emb_weight t y).symm
    exact e _
  · exact (emb_weight _ i) ▸ ((cfg0.win 6).blk _).view.emb_mem_set i

end Cert.LossBackIdeal.Run

namespace Cert.Proof.LossBack

open Idealize.ShloMosaic Idealize.ShloMosaic.TcCoe Idealize.SL.Sem

theorem frame_refIdeal : Cert.quiescent_LossBackRefIdeal := fun m g _ =>
  (θ_run Cert.LossBackRefIdeal.defs _ _).mono
    (fun r h => ⟨fun c => (h c).2.2.2, sem_eq_zero_of_no_sems (by decide) r.2⟩) (Cert.LossBackRefIdeal.Value.run m g)

section Reference

open Cert.LossBackIdeal.Run (outRow sum2)
open Norm (Full Rows Column Unit)

variable (x s t : FVec Ideal Full .f32) (w : FVec Ideal ⟨2, ![1, 2048]⟩ .f32)
  (hu : 0 < Unit.numel) (hr : Full.ReducesTo [1] Rows) (hs : Column.ReducesTo [1] Rows)
  (bc : Rows.BroadcastsInDim Column ![0]) (bu : Unit.BroadcastsInDim Column ![]) (bf : Column.BroadcastsInDim Full ![0, 1])
  (bq : Rows.BroadcastsInDim Full ![0]) (hc : Rows.ShapeCasts Column) (bw : (⟨2, ![1, 2048]⟩ : Shape).BroadcastsInDim Full ![0, 1])
  (ht : Full.ReducesTo [0] ⟨1, ![2048]⟩) (hw : (⟨1, ![2048]⟩ : Shape).ShapeCasts ⟨2, ![1, 2048]⟩)
  (br : Unit.BroadcastsInDim Rows ![]) (bt : Unit.BroadcastsInDim Full ![]) (bl : Unit.BroadcastsInDim ⟨2, ![1, 128]⟩ ![])
  (hl : Rows.ReducesTo [0] Unit)

/-- The normed rows. -/
abbrev normed : FVec Ideal Full .f32 := mulf (addf x s) (broadcastInDim Full ![0, 1] bf (Norm.factors (addf x s) hu hr bc bu))

/-- The difference from the target. -/
abbrev misses : FVec Ideal Full .f32 := subf (mulf (normed x s hu hr bc bu bf) (broadcastInDim Full ![0, 1] bw w)) t

/-- The gradient at the normed and weighted rows. -/
abbrev slopes : FVec Ideal Full .f32 :=
  mulf (broadcastInDim Full ![0] bq (Host.divf (broadcastInDim Rows ![] br (mulf (constant Unit .f32 0x3F000000#32) (constant Unit .f32 0x3F800000#32)))
    (broadcastInDim Rows ![] br (constant Unit .f32 0x45000000#32))))
    (mulf (broadcastInDim Full ![] bt (constant Unit .f32 0x40000000#32)) (misses x s t w hu hr bc bu bf bw))

theorem ref_normed (i : Fin 8192) (k : Fin 2048) :
    normed x s hu hr bc bu bf (ix2 i k) = (x (ix2 i k) + s (ix2 i k)) * Norm.factor (outRow x s i) := by
  have e : Norm.factors (addf x s) hu hr bc bu (ix2 i 0) = Norm.factor (outRow x s i) := Norm.ref_factor (addf x s) hu hr bc bu i
  unfold normed
  generalize Norm.factors (addf x s) hu hr bc bu = f at e ⊢
  rw [← e]
  pointwise

theorem ref_miss (i : Fin 8192) (k : Fin 2048) :
    misses x s t w hu hr bc bu bf bw (ix2 i k) = Norm.miss (outRow x s i) (fun k => w (ix2 0 k)) (fun k => t (ix2 i k)) k := by
  have e := ref_normed x s hu hr bc bu bf i k
  unfold misses
  generalize normed x s hu hr bc bu bf = y at e ⊢
  unfold Norm.miss
  rw [← e]
  pointwise

theorem ref_slope (i : Fin 8192) (k : Fin 2048) :
    slopes x s t w hu hr bc bu bf bq bw br bt (ix2 i k) = Norm.slope (outRow x s i) (fun k => w (ix2 0 k)) (fun k => t (ix2 i k)) k := by
  have e := ref_miss x s t w hu hr bc bu bf bw i k
  unfold slopes
  generalize misses x s t w hu hr bc bu bf bw = y at e ⊢
  unfold Norm.slope
  rw [← e, ← Norm.slope_eq]
  pointwise

theorem ref_rows :
    addf (addf (mulf (mulf (slopes x s t w hu hr bc bu bf bq bw br bt) (broadcastInDim Full ![0, 1] bw w))
        (broadcastInDim Full ![0, 1] bf (Norm.factors (addf x s) hu hr bc bu)))
      (mulf (addf x s) (Norm.shares (addf x s) (mulf (slopes x s t w hu hr bc bu bf bq bw br bt) (broadcastInDim Full ![0, 1] bw w)) hu hr hs bc bu bq hc)))
      (mulf (Norm.shares (addf x s) (mulf (slopes x s t w hu hr bc bu bf bq bw br bt) (broadcastInDim Full ![0, 1] bw w)) hu hr hs bc bu bq hc) (addf x s))
      = Cert.LossBackIdeal.Run.rows x s w t := by
  refine funext fun (j : Full.Idx) => ?_
  rw [eq_ix2 j]
  refine (Norm.ref_back (addf x s) _ hu hr hs bc bu bf bq hc (j 0) (j 1)).trans ?_
  refine congrArg (fun g => Norm.back (outRow x s (j 0)) g (j 1)) (funext fun k => ?_)
  have e := ref_slope x s t w hu hr bc bu bf bq bw br bt (j 0) k
  generalize slopes x s t w hu hr bc bu bf bq bw br bt = y at e ⊢
  refine Eq.trans ?_ (congrArg (· * w (ix2 0 k)) e)
  pointwise

theorem ref_loss :
    broadcastInDim ⟨2, ![1, 128]⟩ ![] bl (mulf (constant Unit .f32 0x3F000000#32)
      (Host.reduceAdd (Host.divf (Host.reduceAdd (mulf (misses x s t w hu hr bc bu bf bw) (misses x s t w hu hr bc bu bf bw))
        (constant Unit .f32 0x00000000#32) hr hu) (broadcastInDim Rows ![] br (constant Unit .f32 0x45000000#32)))
        (constant Unit .f32 0x00000000#32) hl hu)) = Cert.LossBackIdeal.Run.loss x s w t := by
  refine funext fun (j : (⟨2, ![1, 128]⟩ : Shape).Idx) => ?_
  refine Eq.trans ?_ (Norm.loss_sum (outRow x s) (fun i k => t (ix2 i k)) (fun k => w (ix2 0 k))).symm
  simp only [← ref_miss x s t w hu hr bc bu bf bw]
  generalize misses x s t w hu hr bc bu bf bw = y
  unfold Norm.mean
  pointwise

theorem ref_weight :
    shapeCast ⟨2, ![1, 2048]⟩ (Host.reduceAdd (mulf (normed x s hu hr bc bu bf) (slopes x s t w hu hr bc bu bf bq bw br bt))
      (constant Unit .f32 0x00000000#32) ht hu) hw = Cert.LossBackIdeal.Run.weight x s w t := by
  refine funext fun (j : (⟨2, ![1, 2048]⟩ : Shape).Idx) => ?_
  have e i := ref_slope x s t w hu hr bc bu bf bq bw br bt i (j 1)
  have e' i := ref_normed x s hu hr bc bu bf i (j 1)
  generalize slopes x s t w hu hr bc bu bf bq bw br bt = y at e ⊢
  generalize normed x s hu hr bc bu bf = z at e' ⊢
  refine Eq.trans ?_ (Finset.sum_congr rfl fun i _ => congrArg₂ (fun a b : EReal => a * b) (e i) (e' i))
  pointwise
  exact Finset.sum_congr rfl fun i _ => mul_comm _ _

end Reference

theorem algebraic : Cert.algebraic_LossBackIdeal_LossBackRefIdeal := fun m g m' g' _ hA => by
  refine ⟨_, _, _, (θ_run Cert.LossBackIdeal.defs _ _).mono (fun _ h c => ⟨(h c).1.trans (Cert.LossBackIdeal.Run.final_rows m c), (h c).2.1.trans (Cert.LossBackIdeal.Run.final_loss m c),
      (h c).2.2.1.trans (Cert.LossBackIdeal.Run.final_weight m c), (h c).2.2.2⟩)
      (Cert.LossBackIdeal.Value.run_blocks m g),
    (θ_run Cert.LossBackRefIdeal.defs _ _).mono (fun r h c => ?_) (Cert.LossBackRefIdeal.Value.run m' g')⟩
  obtain ⟨h0, h1, h2, hk⟩ := h c
  obtain ⟨a0, a1, a2, a3⟩ := hA c
  unfold Cert.LossBackRefIdeal.Value.res_main_v49 at h0
  rw [a0, a1, a2, a3] at h0 h1 h2
  exact ⟨h0.trans (ref_rows ..), h1.trans (ref_loss ..), h2.trans (ref_weight ..), hk⟩

end Cert.Proof.LossBack

end
-- ==== Proof.NormFwdClaims.lean ====
/-
  The claims of the input's normalization. The kernel walks the rows in blocks of 256, and each row's result is a function of
  that row alone (`out_apply`), so the blocks written back are the blocks of one array (`final`).
-/
module

public import proofs.«01_k».proof.Proof.Adam
public import proofs.«01_k».proof.Proof.Norm
public import proofs.«01_k».proof.Proof.Gen.NormFwd.Frame
public import proofs.«01_k».proof.Proof.Gen.NormFwdIdeal.Value
public import proofs.«01_k».proof.Proof.Gen.NormFwdRefIdeal.Run

@[expose] public section

noncomputable section

namespace Cert.NormFwdIdeal.Run

open Idealize.ShloMosaic Idealize.ShloMosaic.TcCoe Idealize.SL.Sem
open Cert.NormFwdIdeal Cert.NormFwdIdeal.Gen Cert.NormFwdIdeal.Value

theorem out_apply (x : Vec Ideal S256x2048 .f32) (w : Vec Ideal S1x2048 .f32) (r : Fin 256) (k : Fin 2048) :
    out0_2 x w (ix2 r k) = x (ix2 r k) * Norm.factor (fun k => x (ix2 r k)) * w (ix2 0 k) := by
  rw [out0_2, View.canon_unit_zero Adam.zero2, View.ld_unit_zero Adam.zero2, View.ld_unit_zero Adam.zero2]
  unfold k0_pay1 Norm.factor Norm.square Norm.mean
  pointwise

variable (m : (ℓ : Loc nD τ sig) → Buf (Elt Ideal) ℓ) (ρ : Dev nD → PrngReg) (c : Dev nD)

/-- The row of the arrays that is row `r` of point `t`'s block. -/
def row (t : Fin cfg0.N) (r : Fin 256) : Fin 8192 := ⟨t.val * 256 + r.val, by
  have h : t.val < 32 := lt_of_lt_of_eq t.isLt N_0
  have := r.isLt
  omega⟩

theorem index_rows : ∀ t : Fin cfg0.N, win0_2.index t (0 : Fin 2) = t.val ∧ win0_2.index t (1 : Fin 2) = 0 :=
  (by decide +kernel : ∀ t : Fin grid0.N, _)

theorem index_weight : ∀ t : Fin cfg0.N, win0_1.index t (0 : Fin 2) = 0 ∧ win0_1.index t (1 : Fin 2) = 0 :=
  (by decide +kernel : ∀ t : Fin grid0.N, _)

theorem emb_rows (t : Fin cfg0.N) (r : Fin 256) (k : Fin 2048) : ((cfg0.win 2).blk t).view.emb (ix2 r k) = ix2 (row t r) k := by
  obtain ⟨h0, h1⟩ := index_rows t
  funext a; apply Fin.ext
  match a with
  | ⟨0, _⟩ => show win0_2.index t (0 : Fin 2) * 256 + 1 * r.val = t.val * 256 + r.val; omega
  | ⟨1, _⟩ => show win0_2.index t (1 : Fin 2) * 2048 + 1 * k.val = k.val; omega

theorem block_x (t : Fin cfg0.N) (r : Fin 256) (k : Fin 2048) : iblk m c 0 t (ix2 r k) = V m c main_arg0 (ix2 (row t r) k) :=
  congrArg (V m c main_arg0) (emb_rows t r k)

theorem block_w (t : Fin cfg0.N) (k : Fin 2048) : iblk m c 1 t (ix2 0 k) = V m c main_arg1 (ix2 0 k) := by
  obtain ⟨h0, h1⟩ := index_weight t
  refine congrArg (V m c main_arg1) (?_ : ((cfg0.win 1).blk t).view.emb (ix2 0 k) = _)
  funext a; apply Fin.ext
  match a with
  | ⟨0, _⟩ => show win0_1.index t (0 : Fin 2) * 1 + 1 * 0 = 0; omega
  | ⟨1, _⟩ => show win0_1.index t (1 : Fin 2) * 2048 + 1 * k.val = k.val; omega

/-- The normed and weighted rows. -/
def rows (x : Vec Ideal S8192x2048 .f32) (w : Vec Ideal S1x2048 .f32) : Vec Ideal S8192x2048 .bf16 := fun j =>
  x (ix2 (j 0) (j 1)) * Norm.factor (fun k => x (ix2 (j 0) k)) * w (ix2 0 (j 1))

theorem point (t : Fin cfg0.N) (r : Fin 256) (k : Fin 2048) :
    out0_2 (iblk m c 0 t) (iblk m c 1 t) (ix2 r k) = rows (V m c main_arg0) (V m c main_arg1) (ix2 (row t r) k) := by
  rw [out_apply]
  simp only [block_x, block_w]
  rfl

theorem covered (i : S8192x2048.Idx) : ∃ (t : Fin cfg0.N) (y : S256x2048.Idx), ((cfg0.win 2).blk t).view.emb y = i :=
  Adam.covered (n := cfg0.N) (b := 256) rfl (by decide) (fun t (y : S256x2048.Idx) => ix2 (row t (y 0)) (y 1)) (fun _ _ => rfl) (fun _ _ => rfl) i
    |>.imp fun t h => h.imp fun y e => ((congrArg _ (eq_ix2 y)).trans (emb_rows t (y 0) (y 1))).trans e

theorem final : (dats m 0 c).arrAt 2 cfg0.N = rows (V m c main_arg0) (V m c main_arg1) :=
  (dats m 0 c).arrAt_eq_of_cover 2 (rows (V m c main_arg0) (V m c main_arg1))
    (fun t _ => by
      rw [flushed2]
      refine funext fun (y : S256x2048.Idx) => ?_
      rw [eq_ix2 y]
      exact (point m c t (y 0) (y 1)).trans (congrArg (rows (V m c main_arg0) (V m c main_arg1)) (emb_rows t (y 0) (y 1)).symm))
    (fun (i : S8192x2048.Idx) => let ⟨t, y, h⟩ := covered i; ⟨t, flush0_2 t, h ▸ ((cfg0.win 2).blk t).view.emb_mem_set y⟩)

end Cert.NormFwdIdeal.Run

namespace Cert.Proof.NormFwd

open Idealize.ShloMosaic Idealize.ShloMosaic.TcCoe Idealize.SL.Sem
open Norm (Full Rows Column Unit)

theorem frame_refIdeal : Cert.quiescent_NormFwdRefIdeal := fun m g _ =>
  (θ_run Cert.NormFwdRefIdeal.defs _ _).mono
    (fun r h => ⟨fun c => (h c).2, sem_eq_zero_of_no_sems (by decide) r.2⟩) (Cert.NormFwdRefIdeal.Value.run m g)

theorem ref_rows (x : FVec Ideal Full .f32) (w : FVec Ideal ⟨2, ![1, 2048]⟩ .f32)
    (hu : 0 < Unit.numel) (hr : Full.ReducesTo [1] Rows) (bc : Rows.BroadcastsInDim Column ![0]) (bu : Unit.BroadcastsInDim Column ![])
    (bf : Column.BroadcastsInDim Full ![0, 1]) (bw : (⟨2, ![1, 2048]⟩ : Shape).BroadcastsInDim Full ![0, 1]) (hb : FTy.bf16.bits < FTy.f32.bits) :
    truncf .bf16 (mulf (mulf x (broadcastInDim Full ![0, 1] bf (Norm.factors x hu hr bc bu))) (broadcastInDim Full ![0, 1] bw w)) hb
      = Cert.NormFwdIdeal.Run.rows x w := by
  refine funext fun (j : Full.Idx) => ?_
  obtain ⟨i, k, rfl⟩ : ∃ (i : Fin 8192) (k : Fin 2048), j = ix2 i k := ⟨j 0, j 1, eq_ix2 j⟩
  have e (i : Fin 8192) := Norm.ref_factor x hu hr bc bu i
  generalize Norm.factors x hu hr bc bu = f at e ⊢
  show _ = x (ix2 i k) * Norm.factor (fun k => x (ix2 i k)) * w (ix2 0 k)
  pointwise
  rw [e]

theorem algebraic : Cert.algebraic_NormFwdIdeal_NormFwdRefIdeal := fun m g m' g' _ hA => by
  refine ⟨_, (θ_run Cert.NormFwdIdeal.defs _ _).mono (fun r h c => ⟨(h c).1.trans (Cert.NormFwdIdeal.Run.final m c), (h c).2⟩)
      (Cert.NormFwdIdeal.Value.run_blocks m g),
    (θ_run Cert.NormFwdRefIdeal.defs _ _).mono (fun r h c => ?_) (Cert.NormFwdRefIdeal.Value.run m' g')⟩
  obtain ⟨h0, hk⟩ := h c
  obtain ⟨a0, a1⟩ := hA c
  rw [a0, a1] at h0
  exact ⟨h0.trans (ref_rows ..), hk⟩

end Cert.Proof.NormFwd

end
-- ==== Proof.GatedNormClaims.lean ====
/-
  The claims of the gated normalization of the scan's output. The kernel walks the rows in blocks of 128; it reads the convolved
  channels' first 4096 columns and the projections' columns from 8192 on where they lie in the wide arrays (`block_conv`,
  `block_gate`), and each row's result is a function of that row alone (`out_apply`).
-/
module

public import proofs.«01_k».proof.Proof.Adam
public import proofs.«01_k».proof.Proof.Gates
public import proofs.«01_k».proof.Proof.Gen.GatedNorm.Frame
public import proofs.«01_k».proof.Proof.Gen.GatedNormIdeal.Value
public import proofs.«01_k».proof.Proof.Gen.GatedNormRefIdeal.Run

@[expose] public section

noncomputable section

namespace Cert.GatedNormIdeal.Run

open Idealize.ShloMosaic Idealize.ShloMosaic.TcCoe Idealize.SL.Sem
open Cert.GatedNormIdeal Cert.GatedNormIdeal.Gen Cert.GatedNormIdeal.Value

/-! ## A point's value -/

/-- A gated value: the scan's output with the skip connection, times the gate's input and the gate. -/
def gated (y d x z : EReal) : EReal := (y + d * x) * (z * Gates.gate z)

/-- A row's factor: the inverse root of its mean square over 4096 places and the small constant. -/
def factor (u : Fin 4096 → EReal) : EReal :=
  Ideal.rsqrt (Ideal.div (∑ k, u k * u k) (Ideal.ofBits .f32 0x45800000#32) + Ideal.ofBits .f32 0x358637BD#32)

theorem out_eq {F : FTy → Type} [FloatOps F] (c : Dev nD) (i : grid0.Coords)
    (a1 : Memref sig .tc .vmem S128x4096 .f32) (h1 : a1.IsWhole) (a2 : Memref sig .tc .vmem S128x4096 .f32) (h2 : a2.IsWhole)
    (a3 : Memref sig .tc .vmem S128x4096 .f32) (h3 : a3.IsWhole) (a4 : Memref sig .tc .vmem S1x4096 .f32) (h4 : a4.IsWhole)
    (a5 : Memref sig .tc .vmem S1x4096 .f32) (h5 : a5.IsWhole) (a6 : Memref sig .tc .vmem S128x4096 .bf16) (h6 : a6.IsWhole)
    (x0 x1 x2 : Vec F S128x4096 .f32) (x3 x4 : Vec F S1x4096 .f32) :
    out0_A_5 c i a1 h1 a2 h2 a3 h3 a4 h4 a5 h5 a6 h6 x0 x1 x2 x3 x4 = k0_pay1 x2 x0 x3 x1 x4 := by
  unfold out0_A_5
  rw [View.read_writes_eq_canon _ _ _ (cover0_A_5 c i a1 h1 a2 h2 a3 h3 a4 h4 a5 h5 a6 h6 x0 x1 x2 x3 x4)]
  unfold kernelRun0_A
  dsimp only
  sl_unfold_words
  rw [View.canon_unit_zero Adam.zero2]
  simp only [View.readAt_eq_ld, h1.read_unread, h2.read_unread, h3.read_unread, h4.read_unread, h5.read_unread,
    View.ld_unit_zero (S := S128x4096) Adam.zero2, View.ld_unit_zero (S := S1x4096) Adam.zero2]

theorem out_apply (z y x : Vec Ideal S128x4096 .f32) (d w : Vec Ideal S1x4096 .f32) (r : Fin 128) (k : Fin 4096) :
    k0_pay1 z y d x w (ix2 r k)
      = gated (y (ix2 r k)) (d (ix2 0 k)) (x (ix2 r k)) (z (ix2 r k))
        * factor (fun k => gated (y (ix2 r k)) (d (ix2 0 k)) (x (ix2 r k)) (z (ix2 r k))) * w (ix2 0 k) := by
  unfold gated factor
  simp only [← Gates.kernel_gate]
  unfold k0_pay1
  pointwise

/-! ## A point's blocks -/

variable (m : (ℓ : Loc nD τ sig) → Buf (Elt Ideal) ℓ) (ρ : Dev nD → PrngReg) (c : Dev nD)

/-- The row of the arrays that is row `r` of point `t`'s block. -/
def row (t : Fin cfg0.N) (r : Fin 128) : Fin 8192 := ⟨t.val * 128 + r.val, by
  have h : t.val < 64 := lt_of_lt_of_eq t.isLt N_0
  have := r.isLt
  omega⟩

/-- The column of the convolved channels that is column `k` of a block. -/
def convCol (k : Fin 4096) : Fin 6144 := ⟨k.val, by have := k.isLt; omega⟩

/-- The column of the projections that is column `k` of a block. -/
def gateCol (k : Fin 4096) : Fin 22528 := ⟨8192 + k.val, by have := k.isLt; omega⟩

theorem index_rows : ∀ t : Fin cfg0.N, win0_5.index t (0 : Fin 2) = t.val ∧ win0_5.index t (1 : Fin 2) = 0 :=
  (by decide +kernel : ∀ t : Fin grid0.N, _)

theorem index_conv : ∀ t : Fin cfg0.N, win0_1.index t (0 : Fin 2) = t.val ∧ win0_1.index t (1 : Fin 2) = 0 :=
  (by decide +kernel : ∀ t : Fin grid0.N, _)

theorem index_gate : ∀ t : Fin cfg0.N, win0_2.index t (0 : Fin 2) = t.val ∧ win0_2.index t (1 : Fin 2) = 2 :=
  (by decide +kernel : ∀ t : Fin grid0.N, _)

theorem index_skip : ∀ t : Fin cfg0.N, win0_3.index t (0 : Fin 2) = 0 ∧ win0_3.index t (1 : Fin 2) = 0 :=
  (by decide +kernel : ∀ t : Fin grid0.N, _)

theorem emb_rows (t : Fin cfg0.N) (r : Fin 128) (k : Fin 4096) : ((cfg0.win 5).blk t).view.emb (ix2 r k) = ix2 (row t r) k := by
  obtain ⟨h0, h1⟩ := index_rows t
  funext a; apply Fin.ext
  match a with
  | ⟨0, _⟩ => show win0_5.index t (0 : Fin 2) * 128 + 1 * r.val = t.val * 128 + r.val; omega
  | ⟨1, _⟩ => show win0_5.index t (1 : Fin 2) * 4096 + 1 * k.val = k.val; omega

theorem emb_skip (t : Fin cfg0.N) (k : Fin 4096) : ((cfg0.win 3).blk t).view.emb (ix2 0 k) = ix2 0 k := by
  obtain ⟨h0, h1⟩ := index_skip t
  funext a; apply Fin.ext
  match a with
  | ⟨0, _⟩ => show win0_3.index t (0 : Fin 2) * 1 + 1 * 0 = 0; omega
  | ⟨1, _⟩ => show win0_3.index t (1 : Fin 2) * 4096 + 1 * k.val = k.val; omega

theorem block_y (t : Fin cfg0.N) (r : Fin 128) (k : Fin 4096) : iblk m c 0 t (ix2 r k) = V m c main_arg0 (ix2 (row t r) k) :=
  congrArg (V m c main_arg0) (emb_rows t r k)
theorem block_skip (t : Fin cfg0.N) (k : Fin 4096) : iblk m c 3 t (ix2 0 k) = V m c main_arg3 (ix2 0 k) :=
  congrArg (V m c main_arg3) (emb_skip t k)
theorem block_w (t : Fin cfg0.N) (k : Fin 4096) : iblk m c 4 t (ix2 0 k) = V m c main_arg4 (ix2 0 k) :=
  congrArg (V m c main_arg4) (emb_skip t k)

theorem block_conv (t : Fin cfg0.N) (r : Fin 128) (k : Fin 4096) : X0_1 m c t (ix2 r k) = V m c main_arg1 (ix2 (row t r) (convCol k)) := by
  obtain ⟨h0, h1⟩ := index_conv t
  unfold X0_1 Pipeline.Window.fill
  rw [dif_pos (moved0_1 t _)]
  refine congrArg (V m c main_arg1) (?_ : ((cfg0.win 1).blk t).view.emb _ = _)
  funext a; apply Fin.ext
  match a with
  | ⟨0, _⟩ => show win0_1.index t (0 : Fin 2) * 128 + 1 * r.val = t.val * 128 + r.val; omega
  | ⟨1, _⟩ => show win0_1.index t (1 : Fin 2) * 4096 + 1 * k.val = k.val; omega

theorem block_gate (t : Fin cfg0.N) (r : Fin 128) (k : Fin 4096) : X0_2 m c t (ix2 r k) = V m c main_arg2 (ix2 (row t r) (gateCol k)) := by
  obtain ⟨h0, h1⟩ := index_gate t
  unfold X0_2 Pipeline.Window.fill
  rw [dif_pos (moved0_2 t _)]
  refine congrArg (V m c main_arg2) (?_ : ((cfg0.win 2).blk t).view.emb _ = _)
  funext a; apply Fin.ext
  match a with
  | ⟨0, _⟩ => show win0_2.index t (0 : Fin 2) * 128 + 1 * r.val = t.val * 128 + r.val; omega
  | ⟨1, _⟩ => show win0_2.index t (1 : Fin 2) * 4096 + 1 * k.val = 8192 + k.val; omega

/-! ## The array after the run -/

/-- The gated value at one place of the arrays. -/
def mixed (y : Vec Ideal S8192x4096 .f32) (x : Vec Ideal S8192x6144 .f32) (p : Vec Ideal S8192x22528 .f32) (d : Vec Ideal S1x4096 .f32)
    (i : Fin 8192) (k : Fin 4096) : EReal :=
  gated (y (ix2 i k)) (d (ix2 0 k)) (x (ix2 i (convCol k))) (p (ix2 i (gateCol k)))

/-- The gated, normed and weighted rows. -/
def rows (y : Vec Ideal S8192x4096 .f32) (x : Vec Ideal S8192x6144 .f32) (p : Vec Ideal S8192x22528 .f32) (d w : Vec Ideal S1x4096 .f32) :
    Vec Ideal S8192x4096 .bf16 := fun j =>
  mixed y x p d (j 0) (j 1) * factor (mixed y x p d (j 0)) * w (ix2 0 (j 1))

theorem point (t : Fin cfg0.N) (r : Fin 128) (k : Fin 4096) :
    k0_pay1 (X0_2 m c t) (iblk m c 0 t) (iblk m c 3 t) (X0_1 m c t) (iblk m c 4 t) (ix2 r k)
      = rows (V m c main_arg0) (V m c main_arg1) (V m c main_arg2) (V m c main_arg3) (V m c main_arg4) (ix2 (row t r) k) := by
  rw [out_apply]
  simp only [block_y, block_conv, block_gate, block_skip, block_w]
  rfl

theorem covered (i : S8192x4096.Idx) : ∃ (t : Fin cfg0.N) (y : S128x4096.Idx), ((cfg0.win 5).blk t).view.emb y = i :=
  Adam.covered (n := cfg0.N) (b := 128) rfl (by decide) (fun t (y : S128x4096.Idx) => ix2 (row t (y 0)) (y 1)) (fun _ _ => rfl) (fun _ _ => rfl) i
    |>.imp fun t h => h.imp fun y e => ((congrArg _ (eq_ix2 y)).trans (emb_rows t (y 0) (y 1))).trans e

theorem final : (dats m 0 c).arrAt 5 cfg0.N
    = rows (V m c main_arg0) (V m c main_arg1) (V m c main_arg2) (V m c main_arg3) (V m c main_arg4) :=
  (dats m 0 c).arrAt_eq_of_cover 5 (rows (V m c main_arg0) (V m c main_arg1) (V m c main_arg2) (V m c main_arg3) (V m c main_arg4))
    (fun t _ => by
      have e (G : Vec Ideal S8192x4096 .bf16) (y : S128x4096.Idx) :
          ((cfg0.win 5).blk t).view.read (Elt Ideal) G y = G (ix2 (row t (y 0)) (y 1)) :=
        congrArg G ((congrArg _ (eq_ix2 y)).trans (emb_rows t (y 0) (y 1)))
      rw [flushed5_A, out_eq]
      refine funext fun (y : S128x4096.Idx) => ?_
      refine Eq.trans ?_ (e _ y).symm
      rw [eq_ix2 y]
      exact point m c t (y 0) (y 1))
    (fun (i : S8192x4096.Idx) => let ⟨t, y, h⟩ := covered i; ⟨t, flush0_5 t, h ▸ ((cfg0.win 5).blk t).view.emb_mem_set y⟩)

end Cert.GatedNormIdeal.Run

namespace Cert.Proof.GatedNorm

open Idealize.ShloMosaic Idealize.ShloMosaic.TcCoe Idealize.SL.Sem

theorem frame_refIdeal : Cert.quiescent_GatedNormRefIdeal := fun m g _ =>
  (θ_run Cert.GatedNormRefIdeal.defs _ _).mono
    (fun r h => ⟨fun c => (h c).2, sem_eq_zero_of_no_sems (by decide) r.2⟩) (Cert.GatedNormRefIdeal.Value.run m g)

section Reference

open Cert.GatedNormRefIdeal Cert.GatedNormRefIdeal.Gen

variable (y : FVec Ideal S8192x4096 .f32) (x : FVec Ideal S8192x6144 .f32) (p : FVec Ideal S8192x22528 .f32) (d w : FVec Ideal S1x4096 .f32)

/-- The gate's inputs. -/
abbrev inputs : FVec Ideal S8192x4096 .f32 := extractStridedSlice S8192x4096 ![0, 8192] p slices_S8192x22528_S8192x4096_0_8192

/-- The gated values. -/
abbrev values : FVec Ideal S8192x4096 .f32 :=
  mulf (addf y (mulf (broadcastInDim S8192x4096 ![0, 1] bcast_S1x4096_S8192x4096_0_1 d)
      (extractStridedSlice S8192x4096 ![0, 0] x slices_S8192x6144_S8192x4096_0_0)))
    (mulf (inputs p) (Gates.gates (inputs p) bcast_S_S8192x4096))

theorem ref_values (i : Fin 8192) (k : Fin 4096) : values y x p d (ix2 i k) = Cert.GatedNormIdeal.Run.mixed y x p d i k := by
  have e := Gates.ref_gate (inputs p) bcast_S_S8192x4096 (ix2 i k)
  unfold values
  generalize Gates.gates (inputs p) bcast_S_S8192x4096 = g at e ⊢
  unfold Cert.GatedNormIdeal.Run.mixed Cert.GatedNormIdeal.Run.gated Cert.GatedNormIdeal.Run.convCol Cert.GatedNormIdeal.Run.gateCol
  pointwise
  rw [e]
  unfold inputs
  pointwise

theorem ref_rows (u : FVec Ideal S8192x4096 .f32) (i : Fin 8192) (k : Fin 4096) :
    truncf .bf16 (mulf (mulf u (broadcastInDim S8192x4096 ![0, 1] bcast_S8192x1_S8192x4096_0_1
        (Host.rsqrt (addf (Host.divf (broadcastInDim S8192x1 ![0] bcast_S8192_S8192x1_0
            (Host.reduceAdd (mulf u u) (constant S_ .f32 0x00000000#32) reducesTo_S8192x4096_S8192_d1 h_S_))
          (broadcastInDim S8192x1 ![] bcast_S_S8192x1 (constant S_ .f32 0x45800000#32)))
        (broadcastInDim S8192x1 ![] bcast_S_S8192x1 (constant S_ .f32 0x358637BD#32))))))
      (broadcastInDim S8192x4096 ![0, 1] bcast_S1x4096_S8192x4096_0_1 w)) bitsLt_bf16_f32 (ix2 i k)
      = u (ix2 i k) * Cert.GatedNormIdeal.Run.factor (fun k => u (ix2 i k)) * w (ix2 0 k) := by
  unfold Cert.GatedNormIdeal.Run.factor
  pointwise

theorem ref_eq :
    truncf .bf16 (mulf (mulf (values y x p d) (broadcastInDim S8192x4096 ![0, 1] bcast_S8192x1_S8192x4096_0_1
        (Host.rsqrt (addf (Host.divf (broadcastInDim S8192x1 ![0] bcast_S8192_S8192x1_0
            (Host.reduceAdd (mulf (values y x p d) (values y x p d)) (constant S_ .f32 0x00000000#32) reducesTo_S8192x4096_S8192_d1 h_S_))
          (broadcastInDim S8192x1 ![] bcast_S_S8192x1 (constant S_ .f32 0x45800000#32)))
        (broadcastInDim S8192x1 ![] bcast_S_S8192x1 (constant S_ .f32 0x358637BD#32))))))
      (broadcastInDim S8192x4096 ![0, 1] bcast_S1x4096_S8192x4096_0_1 w)) bitsLt_bf16_f32
      = Cert.GatedNormIdeal.Run.rows y x p d w := by
  have e (i : Fin 8192) (k : Fin 4096) := ref_values y x p d i k
  generalize values y x p d = u at e ⊢
  refine funext fun (j : S8192x4096.Idx) => ?_
  obtain ⟨i, k, rfl⟩ : ∃ (i : Fin 8192) (k : Fin 4096), j = ix2 i k := ⟨j 0, j 1, eq_ix2 j⟩
  rw [ref_rows]
  simp only [e]
  rfl

end Reference

theorem algebraic : Cert.algebraic_GatedNormIdeal_GatedNormRefIdeal := fun m g m' g' _ hA => by
  refine ⟨_, (θ_run Cert.GatedNormIdeal.defs _ _).mono (fun r h c => ⟨(h c).1.trans (Cert.GatedNormIdeal.Run.final m c), (h c).2⟩)
      (Cert.GatedNormIdeal.Value.run_blocks m g),
    (θ_run Cert.GatedNormRefIdeal.defs _ _).mono (fun r h c => ?_) (Cert.GatedNormRefIdeal.Value.run m' g')⟩
  obtain ⟨h0, hk⟩ := h c
  obtain ⟨a0, a1, a2, a3, a4⟩ := hA c
  rw [a0, a1, a2, a3, a4] at h0
  exact ⟨h0.trans (ref_eq ..), hk⟩

end Cert.Proof.GatedNorm

end
-- ==== Proof.MergeClaims.lean ====
/-
  The claims of the gated merge of the two branches: every place of the result is a function of the same place of the branches and
  of the two gates' columns of the projections (`final`).
-/
module

public import proofs.«01_k».proof.Proof.Adam
public import proofs.«01_k».proof.Proof.Gates
public import proofs.«01_k».proof.Proof.Gen.Merge.Frame
public import proofs.«01_k».proof.Proof.Gen.MergeIdeal.Value
public import proofs.«01_k».proof.Proof.Gen.MergeRefIdeal.Run

@[expose] public section

noncomputable section

namespace Cert.MergeIdeal.Run

open Idealize.ShloMosaic Idealize.ShloMosaic.TcCoe Idealize.SL.Sem
open Cert.MergeIdeal Cert.MergeIdeal.Gen Cert.MergeIdeal.Value

theorem out_apply (a s ga gs : Vec Ideal S256x2048 .f32) (y : S256x2048.Idx) :
    out0_4 a s ga gs y = Gates.gate (ga y) * a y + Gates.gate (gs y) * s y := by
  rw [out0_4, View.canon_unit_zero Adam.zero2]
  simp only [View.ld_unit_zero (S := S256x2048) Adam.zero2]
  rw [← Gates.kernel_gate, ← Gates.kernel_gate]
  unfold k0_pay1
  pointwise

variable (m : (ℓ : Loc nD τ sig) → Buf (Elt Ideal) ℓ) (ρ : Dev nD → PrngReg) (c : Dev nD)

/-- The row of the arrays that is row `r` of point `t`'s block. -/
def row (t : Fin cfg0.N) (r : Fin 256) : Fin 8192 := ⟨t.val * 256 + r.val, by
  have h : t.val < 32 := lt_of_lt_of_eq t.isLt N_0
  have := r.isLt
  omega⟩

theorem index_rows : ∀ t : Fin cfg0.N, win0_4.index t (0 : Fin 2) = t.val ∧ win0_4.index t (1 : Fin 2) = 0 :=
  (by decide +kernel : ∀ t : Fin grid0.N, _)

theorem emb_rows (t : Fin cfg0.N) (r : Fin 256) (k : Fin 2048) : ((cfg0.win 4).blk t).view.emb (ix2 r k) = ix2 (row t r) k := by
  obtain ⟨h0, h1⟩ := index_rows t
  funext a; apply Fin.ext
  match a with
  | ⟨0, _⟩ => show win0_4.index t (0 : Fin 2) * 256 + 1 * r.val = t.val * 256 + r.val; omega
  | ⟨1, _⟩ => show win0_4.index t (1 : Fin 2) * 2048 + 1 * k.val = k.val; omega

theorem covered (i : S8192x2048.Idx) : ∃ (t : Fin cfg0.N) (y : S256x2048.Idx), ((cfg0.win 4).blk t).view.emb y = i :=
  Adam.covered (n := cfg0.N) (b := 256) rfl (by decide) (fun t (y : S256x2048.Idx) => ix2 (row t (y 0)) (y 1)) (fun _ _ => rfl) (fun _ _ => rfl) i
    |>.imp fun t h => h.imp fun y e => ((congrArg _ (eq_ix2 y)).trans (emb_rows t (y 0) (y 1))).trans e

/-- The column of the wide array that is column `k` of its `n`-th part. -/
def col (n : Nat) (hn : n < 11) (k : Fin 2048) : Fin 22528 := ⟨n * 2048 + k.val, by have := k.isLt; omega⟩

theorem index_ga : ∀ t : Fin cfg0.N, win0_2.index t (0 : Fin 2) = t.val ∧ win0_2.index t (1 : Fin 2) = 9 :=
  (by decide +kernel : ∀ t : Fin grid0.N, _)

theorem emb_ga (t : Fin cfg0.N) (r : Fin 256) (k : Fin 2048) : ((cfg0.win 2).blk t).view.emb (ix2 r k) = ix2 (row t r) (col 9 (by decide) k) := by
  obtain ⟨h0, h1⟩ := index_ga t
  funext a; apply Fin.ext
  match a with
  | ⟨0, _⟩ => show win0_2.index t (0 : Fin 2) * 256 + 1 * r.val = t.val * 256 + r.val; omega
  | ⟨1, _⟩ => show win0_2.index t (1 : Fin 2) * 2048 + 1 * k.val = 9 * 2048 + k.val; omega

theorem index_gs : ∀ t : Fin cfg0.N, win0_3.index t (0 : Fin 2) = t.val ∧ win0_3.index t (1 : Fin 2) = 10 :=
  (by decide +kernel : ∀ t : Fin grid0.N, _)

theorem emb_gs (t : Fin cfg0.N) (r : Fin 256) (k : Fin 2048) : ((cfg0.win 3).blk t).view.emb (ix2 r k) = ix2 (row t r) (col 10 (by decide) k) := by
  obtain ⟨h0, h1⟩ := index_gs t
  funext a; apply Fin.ext
  match a with
  | ⟨0, _⟩ => show win0_3.index t (0 : Fin 2) * 256 + 1 * r.val = t.val * 256 + r.val; omega
  | ⟨1, _⟩ => show win0_3.index t (1 : Fin 2) * 2048 + 1 * k.val = 10 * 2048 + k.val; omega

/-- The merged branches. -/
def merged (a s : Vec Ideal S8192x2048 .f32) (p : Vec Ideal S8192x22528 .f32) : Vec Ideal S8192x2048 .bf16 := fun j =>
  Gates.gate (p (ix2 (j 0) (col 9 (by decide) (j 1)))) * a (ix2 (j 0) (j 1)) + Gates.gate (p (ix2 (j 0) (col 10 (by decide) (j 1)))) * s (ix2 (j 0) (j 1))

theorem block_a (t : Fin cfg0.N) (r : Fin 256) (k : Fin 2048) : iblk m c 0 t (ix2 r k) = V m c main_arg0 (ix2 (row t r) k) :=
  congrArg (V m c main_arg0) (emb_rows t r k)
theorem block_s (t : Fin cfg0.N) (r : Fin 256) (k : Fin 2048) : iblk m c 1 t (ix2 r k) = V m c main_arg1 (ix2 (row t r) k) :=
  congrArg (V m c main_arg1) (emb_rows t r k)
theorem block_ga (t : Fin cfg0.N) (r : Fin 256) (k : Fin 2048) : iblk m c 2 t (ix2 r k) = V m c main_arg2 (ix2 (row t r) (col 9 (by decide) k)) :=
  congrArg (V m c main_arg2) (emb_ga t r k)
theorem block_gs (t : Fin cfg0.N) (r : Fin 256) (k : Fin 2048) : iblk m c 3 t (ix2 r k) = V m c main_arg2 (ix2 (row t r) (col 10 (by decide) k)) :=
  congrArg (V m c main_arg2) (emb_gs t r k)

theorem point (t : Fin cfg0.N) (r : Fin 256) (k : Fin 2048) :
    out0_4 (iblk m c 0 t) (iblk m c 1 t) (iblk m c 2 t) (iblk m c 3 t) (ix2 r k)
      = merged (V m c main_arg0) (V m c main_arg1) (V m c main_arg2) (ix2 (row t r) k) := by
  rw [out_apply]
  simp only [block_a, block_s, block_ga, block_gs]
  rfl

theorem final : (dats m 0 c).arrAt 4 cfg0.N = merged (V m c main_arg0) (V m c main_arg1) (V m c main_arg2) :=
  (dats m 0 c).arrAt_eq_of_cover 4 (merged (V m c main_arg0) (V m c main_arg1) (V m c main_arg2))
    (fun t _ => by
      rw [flushed4]
      refine funext fun (y : S256x2048.Idx) => ?_
      rw [eq_ix2 y]
      exact (point m c t (y 0) (y 1)).trans (congrArg (merged (V m c main_arg0) (V m c main_arg1) (V m c main_arg2)) (emb_rows t (y 0) (y 1)).symm))
    (fun (i : S8192x2048.Idx) => let ⟨t, y, h⟩ := covered i; ⟨t, flush0_4 t, h ▸ ((cfg0.win 4).blk t).view.emb_mem_set y⟩)

end Cert.MergeIdeal.Run

namespace Cert.Proof.Merge

open Idealize.ShloMosaic Idealize.ShloMosaic.TcCoe Idealize.SL.Sem

theorem frame_refIdeal : Cert.quiescent_MergeRefIdeal := fun m g _ =>
  (θ_run Cert.MergeRefIdeal.defs _ _).mono
    (fun r h => ⟨fun c => (h c).2, sem_eq_zero_of_no_sems (by decide) r.2⟩) (Cert.MergeRefIdeal.Value.run m g)

open Gates (Full Wide Unit gates)

theorem ref_merged (a s : FVec Ideal Full .f32) (p : FVec Ideal Wide .f32) (b : Unit.BroadcastsInDim Full ![])
    (h9 : Wide.Slices ![0, 18432] Full) (h10 : Wide.Slices ![0, 20480] Full) (hb : FTy.bf16.bits < FTy.f32.bits) :
    truncf .bf16 (addf (mulf (gates (extractStridedSlice Full ![0, 18432] p h9) b) a) (mulf (gates (extractStridedSlice Full ![0, 20480] p h10) b) s)) hb
      = Cert.MergeIdeal.Run.merged a s p := by
  refine funext fun (j : Full.Idx) => ?_
  obtain ⟨i, k, rfl⟩ : ∃ (i : Fin 8192) (k : Fin 2048), j = ix2 i k := ⟨j 0, j 1, eq_ix2 j⟩
  have e9 := Gates.ref_gate (extractStridedSlice Full ![0, 18432] p h9) b (ix2 i k)
  have e10 := Gates.ref_gate (extractStridedSlice Full ![0, 20480] p h10) b (ix2 i k)
  refine (congrArg₂ (fun u v : EReal => u * a (ix2 i k) + v * s (ix2 i k)) e9 e10).trans ?_
  unfold Cert.MergeIdeal.Run.merged Cert.MergeIdeal.Run.col
  pointwise

theorem algebraic : Cert.algebraic_MergeIdeal_MergeRefIdeal := fun m g m' g' _ hA => by
  refine ⟨_, (θ_run Cert.MergeIdeal.defs _ _).mono (fun r h c => ⟨(h c).1.trans (Cert.MergeIdeal.Run.final m c), (h c).2⟩)
      (Cert.MergeIdeal.Value.run_blocks m g),
    (θ_run Cert.MergeRefIdeal.defs _ _).mono (fun r h c => ?_) (Cert.MergeRefIdeal.Value.run m' g')⟩
  obtain ⟨h0, hk⟩ := h c
  obtain ⟨a0, a1, a2⟩ := hA c
  rw [a0, a1, a2] at h0
  exact ⟨h0.trans (ref_merged ..), hk⟩

end Cert.Proof.Merge

end
-- ==== Proof.MergeBackClaims.lean ====
/-
  The claims of the gradient through the gated merge: every place of the four results is a function of the same place of the
  merged rows' gradient, of the branch and of the gate (`through`, `slope`); the results' blocks lie alike (`emb_rows`).
-/
module

public import proofs.«01_k».proof.Proof.Adam
public import proofs.«01_k».proof.Proof.Gates
public import proofs.«01_k».proof.Proof.Gen.MergeBack.Frame
public import proofs.«01_k».proof.Proof.Gen.MergeBackIdeal.Value
public import proofs.«01_k».proof.Proof.Gen.MergeBackRefIdeal.Run

@[expose] public section

noncomputable section

namespace Cert.MergeBackIdeal.Run

open Idealize.ShloMosaic Idealize.ShloMosaic.TcCoe Idealize.SL.Sem
open Cert.MergeBackIdeal Cert.MergeBackIdeal.Gen Cert.MergeBackIdeal.Value

/-- A branch's gradient at one place. -/
def through (d z : EReal) : EReal := d * Gates.gate z

/-- A gate's gradient at one place. -/
def slope (d x z : EReal) : EReal := d * x * (Gates.gate z * (1 - Gates.gate z))

section Block

variable (d a s ga gs : Vec Ideal S128x2048 .f32) (y : S128x2048.Idx)

theorem out_da : out0_5 d a s ga gs y = through (d y) (ga y) := by
  rw [out0_5, View.canon_unit_zero Adam.zero2]
  simp only [View.ld_unit_zero (S := S128x2048) Adam.zero2]
  unfold through
  rw [← Gates.kernel_gate]
  unfold k0_pay4 k0_pay2
  pointwise

theorem out_ds : out0_6 d a s ga gs y = through (d y) (gs y) := by
  rw [out0_6, View.canon_unit_zero Adam.zero2]
  simp only [View.ld_unit_zero (S := S128x2048) Adam.zero2]
  unfold through
  rw [← Gates.kernel_gate]
  unfold k0_pay5 k0_pay3
  pointwise

theorem out_dga : out0_7 d a s ga gs y = slope (d y) (a y) (ga y) := by
  rw [out0_7, View.canon_unit_zero Adam.zero2]
  simp only [View.ld_unit_zero (S := S128x2048) Adam.zero2]
  unfold slope
  rw [← Gates.kernel_gate]
  unfold k0_pay6 k0_pay2
  pointwise

theorem out_dgs : out0_8 d a s ga gs y = slope (d y) (s y) (gs y) := by
  rw [out0_8, View.canon_unit_zero Adam.zero2]
  simp only [View.ld_unit_zero (S := S128x2048) Adam.zero2]
  unfold slope
  rw [← Gates.kernel_gate]
  unfold k0_pay1 k0_pay7 k0_pay3
  pointwise

end Block

variable (m : (ℓ : Loc nD τ sig) → Buf (Elt Ideal) ℓ) (ρ : Dev nD → PrngReg) (c : Dev nD)

/-- The row of the arrays that is row `r` of point `t`'s block. -/
def row (t : Fin cfg0.N) (r : Fin 128) : Fin 8192 := ⟨t.val * 128 + r.val, by
  have h : t.val < 64 := lt_of_lt_of_eq t.isLt N_0
  have := r.isLt
  omega⟩

theorem index_rows : ∀ t : Fin cfg0.N, win0_5.index t (0 : Fin 2) = t.val ∧ win0_5.index t (1 : Fin 2) = 0 :=
  (by decide +kernel : ∀ t : Fin grid0.N, _)

theorem emb_rows (t : Fin cfg0.N) (r : Fin 128) (k : Fin 2048) : ((cfg0.win 5).blk t).view.emb (ix2 r k) = ix2 (row t r) k := by
  obtain ⟨h0, h1⟩ := index_rows t
  funext a; apply Fin.ext
  match a with
  | ⟨0, _⟩ => show win0_5.index t (0 : Fin 2) * 128 + 1 * r.val = t.val * 128 + r.val; omega
  | ⟨1, _⟩ => show win0_5.index t (1 : Fin 2) * 2048 + 1 * k.val = k.val; omega

theorem covered (i : S8192x2048.Idx) : ∃ (t : Fin cfg0.N) (y : S128x2048.Idx), ((cfg0.win 5).blk t).view.emb y = i :=
  Adam.covered (n := cfg0.N) (b := 128) rfl (by decide) (fun t (y : S128x2048.Idx) => ix2 (row t (y 0)) (y 1)) (fun _ _ => rfl) (fun _ _ => rfl) i
    |>.imp fun t h => h.imp fun y e => ((congrArg _ (eq_ix2 y)).trans (emb_rows t (y 0) (y 1))).trans e

/-- The column of the wide array that is column `k` of its `n`-th part. -/
def col (n : Nat) (hn : n < 11) (k : Fin 2048) : Fin 22528 := ⟨n * 2048 + k.val, by have := k.isLt; omega⟩

theorem index_ga : ∀ t : Fin cfg0.N, win0_3.index t (0 : Fin 2) = t.val ∧ win0_3.index t (1 : Fin 2) = 9 :=
  (by decide +kernel : ∀ t : Fin grid0.N, _)

theorem emb_ga (t : Fin cfg0.N) (r : Fin 128) (k : Fin 2048) : ((cfg0.win 3).blk t).view.emb (ix2 r k) = ix2 (row t r) (col 9 (by decide) k) := by
  obtain ⟨h0, h1⟩ := index_ga t
  funext a; apply Fin.ext
  match a with
  | ⟨0, _⟩ => show win0_3.index t (0 : Fin 2) * 128 + 1 * r.val = t.val * 128 + r.val; omega
  | ⟨1, _⟩ => show win0_3.index t (1 : Fin 2) * 2048 + 1 * k.val = 9 * 2048 + k.val; omega

theorem index_gs : ∀ t : Fin cfg0.N, win0_4.index t (0 : Fin 2) = t.val ∧ win0_4.index t (1 : Fin 2) = 10 :=
  (by decide +kernel : ∀ t : Fin grid0.N, _)

theorem emb_gs (t : Fin cfg0.N) (r : Fin 128) (k : Fin 2048) : ((cfg0.win 4).blk t).view.emb (ix2 r k) = ix2 (row t r) (col 10 (by decide) k) := by
  obtain ⟨h0, h1⟩ := index_gs t
  funext a; apply Fin.ext
  match a with
  | ⟨0, _⟩ => show win0_4.index t (0 : Fin 2) * 128 + 1 * r.val = t.val * 128 + r.val; omega
  | ⟨1, _⟩ => show win0_4.index t (1 : Fin 2) * 2048 + 1 * k.val = 10 * 2048 + k.val; omega

theorem block_d (t : Fin cfg0.N) (r : Fin 128) (k : Fin 2048) : iblk m c 0 t (ix2 r k) = V m c main_arg0 (ix2 (row t r) k) :=
  congrArg (V m c main_arg0) (emb_rows t r k)
theorem block_a (t : Fin cfg0.N) (r : Fin 128) (k : Fin 2048) : iblk m c 1 t (ix2 r k) = V m c main_arg1 (ix2 (row t r) k) :=
  congrArg (V m c main_arg1) (emb_rows t r k)
theorem block_s (t : Fin cfg0.N) (r : Fin 128) (k : Fin 2048) : iblk m c 2 t (ix2 r k) = V m c main_arg2 (ix2 (row t r) k) :=
  congrArg (V m c main_arg2) (emb_rows t r k)
theorem block_ga (t : Fin cfg0.N) (r : Fin 128) (k : Fin 2048) : iblk m c 3 t (ix2 r k) = V m c main_arg3 (ix2 (row t r) (col 9 (by decide) k)) :=
  congrArg (V m c main_arg3) (emb_ga t r k)
theorem block_gs (t : Fin cfg0.N) (r : Fin 128) (k : Fin 2048) : iblk m c 4 t (ix2 r k) = V m c main_arg3 (ix2 (row t r) (col 10 (by decide) k)) :=
  congrArg (V m c main_arg3) (emb_gs t r k)

/-- The gradient of a branch whose gate is the projections' `n`-th part. -/
def branch (n : Nat) (hn : n < 11) (d : Vec Ideal S8192x2048 .f32) (p : Vec Ideal S8192x22528 .f32) : Vec Ideal S8192x2048 .bf16 := fun j =>
  through (d (ix2 (j 0) (j 1))) (p (ix2 (j 0) (col n hn (j 1))))

/-- The gradient of a gate that is the projections' `n`-th part. -/
def gated (n : Nat) (hn : n < 11) (d x : Vec Ideal S8192x2048 .f32) (p : Vec Ideal S8192x22528 .f32) : Vec Ideal S8192x2048 .bf16 := fun j =>
  slope (d (ix2 (j 0) (j 1))) (x (ix2 (j 0) (j 1))) (p (ix2 (j 0) (col n hn (j 1))))

theorem final_da : (dats m 0 c).arrAt 5 cfg0.N = branch 9 (by decide) (V m c main_arg0) (V m c main_arg3) :=
  (dats m 0 c).arrAt_eq_of_cover 5 (branch 9 (by decide) (V m c main_arg0) (V m c main_arg3))
    (fun t _ => by
      rw [flushed5]
      refine funext fun (y : S128x2048.Idx) => ?_
      obtain ⟨r, k, rfl⟩ := Adam.place y
      refine Eq.trans (?_ : _ = (branch 9 (by decide) (V m c main_arg0) (V m c main_arg3)) (ix2 (row t r) k)) (congrArg (branch 9 (by decide) (V m c main_arg0) (V m c main_arg3)) (emb_rows t r k).symm)
      refine (out_da (iblk m c 0 t) (iblk m c 1 t) (iblk m c 2 t) (iblk m c 3 t) (iblk m c 4 t) (ix2 r k)).trans ?_
      rw [block_d, block_ga]
      rfl)
    (fun (i : S8192x2048.Idx) => let ⟨t, y, h⟩ := covered i; ⟨t, flush0_5 t, h ▸ ((cfg0.win 5).blk t).view.emb_mem_set y⟩)

theorem final_ds : (dats m 0 c).arrAt 6 cfg0.N = branch 10 (by decide) (V m c main_arg0) (V m c main_arg3) :=
  (dats m 0 c).arrAt_eq_of_cover 6 (branch 10 (by decide) (V m c main_arg0) (V m c main_arg3))
    (fun t _ => by
      rw [flushed6]
      refine funext fun (y : S128x2048.Idx) => ?_
      obtain ⟨r, k, rfl⟩ := Adam.place y
      refine Eq.trans (?_ : _ = (branch 10 (by decide) (V m c main_arg0) (V m c main_arg3)) (ix2 (row t r) k)) (congrArg (branch 10 (by decide) (V m c main_arg0) (V m c main_arg3)) (emb_rows t r k).symm)
      refine (out_ds (iblk m c 0 t) (iblk m c 1 t) (iblk m c 2 t) (iblk m c 3 t) (iblk m c 4 t) (ix2 r k)).trans ?_
      rw [block_d, block_gs]
      rfl)
    (fun (i : S8192x2048.Idx) => let ⟨t, y, h⟩ := covered i; ⟨t, flush0_6 t, h ▸ ((cfg0.win 6).blk t).view.emb_mem_set y⟩)

theorem final_dga : (dats m 0 c).arrAt 7 cfg0.N = gated 9 (by decide) (V m c main_arg0) (V m c main_arg1) (V m c main_arg3) :=
  (dats m 0 c).arrAt_eq_of_cover 7 (gated 9 (by decide) (V m c main_arg0) (V m c main_arg1) (V m c main_arg3))
    (fun t _ => by
      rw [flushed7]
      refine funext fun (y : S128x2048.Idx) => ?_
      obtain ⟨r, k, rfl⟩ := Adam.place y
      refine Eq.trans (?_ : _ = (gated 9 (by decide) (V m c main_arg0) (V m c main_arg1) (V m c main_arg3)) (ix2 (row t r) k)) (congrArg (gated 9 (by decide) (V m c main_arg0) (V m c main_arg1) (V m c main_arg3)) (emb_rows t r k).symm)
      refine (out_dga (iblk m c 0 t) (iblk m c 1 t) (iblk m c 2 t) (iblk m c 3 t) (iblk m c 4 t) (ix2 r k)).trans ?_
      rw [block_d, block_a, block_ga]
      rfl)
    (fun (i : S8192x2048.Idx) => let ⟨t, y, h⟩ := covered i; ⟨t, flush0_7 t, h ▸ ((cfg0.win 7).blk t).view.emb_mem_set y⟩)

theorem final_dgs : (dats m 0 c).arrAt 8 cfg0.N = gated 10 (by decide) (V m c main_arg0) (V m c main_arg2) (V m c main_arg3) :=
  (dats m 0 c).arrAt_eq_of_cover 8 (gated 10 (by decide) (V m c main_arg0) (V m c main_arg2) (V m c main_arg3))
    (fun t _ => by
      rw [flushed8]
      refine funext fun (y : S128x2048.Idx) => ?_
      obtain ⟨r, k, rfl⟩ := Adam.place y
      refine Eq.trans (?_ : _ = (gated 10 (by decide) (V m c main_arg0) (V m c main_arg2) (V m c main_arg3)) (ix2 (row t r) k)) (congrArg (gated 10 (by decide) (V m c main_arg0) (V m c main_arg2) (V m c main_arg3)) (emb_rows t r k).symm)
      refine (out_dgs (iblk m c 0 t) (iblk m c 1 t) (iblk m c 2 t) (iblk m c 3 t) (iblk m c 4 t) (ix2 r k)).trans ?_
      rw [block_d, block_s, block_gs]
      rfl)
    (fun (i : S8192x2048.Idx) => let ⟨t, y, h⟩ := covered i; ⟨t, flush0_8 t, h ▸ ((cfg0.win 8).blk t).view.emb_mem_set y⟩)

end Cert.MergeBackIdeal.Run

namespace Cert.Proof.MergeBack

open Idealize.ShloMosaic Idealize.ShloMosaic.TcCoe Idealize.SL.Sem

theorem frame_refIdeal : Cert.quiescent_MergeBackRefIdeal := fun m g _ =>
  (θ_run Cert.MergeBackRefIdeal.defs _ _).mono
    (fun r h => ⟨fun c => (h c).2.2.2.2, sem_eq_zero_of_no_sems (by decide) r.2⟩) (Cert.MergeBackRefIdeal.Value.run m g)

open Gates (Full Wide Unit gates ones)

section Reference

variable (d x : FVec Ideal Full .f32) (p : FVec Ideal Wide .f32) (b : Unit.BroadcastsInDim Full ![]) (hd : Full.ShapeCasts Full)
  (n : Nat) (hn : n < 11) (h : Wide.Slices ![0, n * 2048] Full) (hb : FTy.bf16.bits < FTy.f32.bits)

theorem part_at (i : Fin 8192) (k : Fin 2048) : gates (extractStridedSlice Full ![0, n * 2048] p h) b (ix2 i k)
    = Gates.gate (p (ix2 i (Cert.MergeBackIdeal.Run.col n hn k))) := by
  refine (Gates.ref_gate _ b (ix2 i k)).trans (congrArg Gates.gate ?_)
  unfold Cert.MergeBackIdeal.Run.col
  pointwise

theorem ref_branch : truncf .bf16 (mulf (gates (extractStridedSlice Full ![0, n * 2048] p h) b) (shapeCast Full d hd)) hb
    = Cert.MergeBackIdeal.Run.branch n hn d p := by
  refine funext fun (j : Full.Idx) => ?_
  obtain ⟨i, k, rfl⟩ := Adam.place j
  rw [shapeCast_self]
  exact (congrArg (fun u : EReal => u * d (ix2 i k)) (part_at p b n hn h i k)).trans (mul_comm _ _)

theorem ref_gated : truncf .bf16 (mulf (mulf (shapeCast Full d hd) x) (mulf (gates (extractStridedSlice Full ![0, n * 2048] p h) b)
      (subf (ones b) (gates (extractStridedSlice Full ![0, n * 2048] p h) b)))) hb
    = Cert.MergeBackIdeal.Run.gated n hn d x p := by
  refine funext fun (j : Full.Idx) => ?_
  obtain ⟨i, k, rfl⟩ := Adam.place j
  rw [shapeCast_self]
  have e : (ones b (ix2 i k) : EReal) = 1 := by
    unfold ones
    pointwise
  exact congrArg₂ (fun u v : EReal => d (ix2 i k) * x (ix2 i k) * (u * (v - u))) (part_at p b n hn h i k) e

end Reference

theorem algebraic : Cert.algebraic_MergeBackIdeal_MergeBackRefIdeal := fun m g m' g' _ hA => by
  refine ⟨_, _, _, _, (θ_run Cert.MergeBackIdeal.defs _ _).mono (fun r h c =>
      ⟨(h c).1.trans (Cert.MergeBackIdeal.Run.final_da m c), (h c).2.1.trans (Cert.MergeBackIdeal.Run.final_ds m c),
        (h c).2.2.1.trans (Cert.MergeBackIdeal.Run.final_dga m c), (h c).2.2.2.1.trans (Cert.MergeBackIdeal.Run.final_dgs m c), (h c).2.2.2.2⟩)
      (Cert.MergeBackIdeal.Value.run_blocks m g),
    (θ_run Cert.MergeBackRefIdeal.defs _ _).mono (fun r h c => ?_) (Cert.MergeBackRefIdeal.Value.run m' g')⟩
  obtain ⟨h0, h1, h2, h3, hk⟩ := h c
  obtain ⟨a0, a1, a2, a3⟩ := hA c
  rw [a0, a3] at h0 h1
  rw [a0, a1, a3] at h2
  rw [a0, a2, a3] at h3
  exact ⟨h0.trans (ref_branch _ _ _ _ 9 (by decide) ..), h1.trans (ref_branch _ _ _ _ 10 (by decide) ..),
    h2.trans (ref_gated _ _ _ _ _ 9 (by decide) ..), h3.trans (ref_gated _ _ _ _ _ 10 (by decide) ..), hk⟩

end Cert.Proof.MergeBack

end
-- ==== Proof.SumThreeClaims.lean ====
/-
  The claims of the sum of the three attention patterns' gradients: every place of the result is the sum of that place's three
  entries (`final`).
-/
module

public import proofs.«01_k».proof.Proof.Adam
public import proofs.«01_k».proof.Proof.Gen.SumThree.Frame
public import proofs.«01_k».proof.Proof.Gen.SumThreeIdeal.Value
public import proofs.«01_k».proof.Proof.Gen.SumThreeRefIdeal.Run

@[expose] public section

noncomputable section

namespace Cert.SumThreeIdeal.Run

open Idealize.ShloMosaic Idealize.ShloMosaic.TcCoe Idealize.SL.Sem
open Cert.SumThreeIdeal Cert.SumThreeIdeal.Gen Cert.SumThreeIdeal.Value

theorem out_apply (a b d : Vec Ideal S256x2048 .f32) (y : S256x2048.Idx) : out0_3 a b d y = (a y : EReal) + b y + d y := by
  rw [out0_3, View.canon_unit_zero Adam.zero2]
  simp only [View.ld_unit_zero (S := S256x2048) Adam.zero2]
  rfl

variable (m : (ℓ : Loc nD τ sig) → Buf (Elt Ideal) ℓ) (ρ : Dev nD → PrngReg) (c : Dev nD)

/-- The row of the arrays that is row `r` of point `t`'s block. -/
def row (t : Fin cfg0.N) (r : Fin 256) : Fin 8192 := ⟨t.val * 256 + r.val, by
  have h : t.val < 32 := lt_of_lt_of_eq t.isLt N_0
  have := r.isLt
  omega⟩

theorem index_rows : ∀ t : Fin cfg0.N, win0_3.index t (0 : Fin 2) = t.val ∧ win0_3.index t (1 : Fin 2) = 0 :=
  (by decide +kernel : ∀ t : Fin grid0.N, _)

theorem emb_rows (t : Fin cfg0.N) (r : Fin 256) (k : Fin 2048) : ((cfg0.win 3).blk t).view.emb (ix2 r k) = ix2 (row t r) k := by
  obtain ⟨h0, h1⟩ := index_rows t
  funext a; apply Fin.ext
  match a with
  | ⟨0, _⟩ => show win0_3.index t (0 : Fin 2) * 256 + 1 * r.val = t.val * 256 + r.val; omega
  | ⟨1, _⟩ => show win0_3.index t (1 : Fin 2) * 2048 + 1 * k.val = k.val; omega

theorem covered (i : S8192x2048.Idx) : ∃ (t : Fin cfg0.N) (y : S256x2048.Idx), ((cfg0.win 3).blk t).view.emb y = i :=
  Adam.covered (n := cfg0.N) (b := 256) rfl (by decide) (fun t (y : S256x2048.Idx) => ix2 (row t (y 0)) (y 1)) (fun _ _ => rfl) (fun _ _ => rfl) i
    |>.imp fun t h => h.imp fun y e => ((congrArg _ (eq_ix2 y)).trans (emb_rows t (y 0) (y 1))).trans e

/-- The sum, place by place. -/
def total (a b d : Vec Ideal S8192x2048 .f32) : Vec Ideal S8192x2048 .bf16 := fun j => (a j : EReal) + b j + d j

theorem final : (dats m 0 c).arrAt 3 cfg0.N = total (V m c main_arg0) (V m c main_arg1) (V m c main_arg2) :=
  (dats m 0 c).arrAt_eq_of_cover 3 (total (V m c main_arg0) (V m c main_arg1) (V m c main_arg2))
    (fun t _ => by
      rw [flushed3]
      exact funext fun (y : S256x2048.Idx) => out_apply _ _ _ y)
    (fun (i : S8192x2048.Idx) => let ⟨t, y, h⟩ := covered i; ⟨t, flush0_3 t, h ▸ ((cfg0.win 3).blk t).view.emb_mem_set y⟩)

end Cert.SumThreeIdeal.Run

namespace Cert.Proof.SumThree

open Idealize.ShloMosaic Idealize.ShloMosaic.TcCoe Idealize.SL.Sem

theorem frame_refIdeal : Cert.quiescent_SumThreeRefIdeal := fun m g _ =>
  (θ_run Cert.SumThreeRefIdeal.defs _ _).mono
    (fun r h => ⟨fun c => (h c).2, sem_eq_zero_of_no_sems (by decide) r.2⟩) (Cert.SumThreeRefIdeal.Value.run m g)

abbrev Full : Shape := ⟨2, ![8192, 2048]⟩
abbrev Slab : Shape := ⟨3, ![1, 8192, 2048]⟩
abbrev Stack : Shape := ⟨3, ![3, 8192, 2048]⟩
abbrev Unit : Shape := ⟨0, ![]⟩

theorem ref_total (a b d : FVec Ideal Full .f32) (hb : Full.BroadcastsInDim Slab ![1, 2]) (hc : Shape.Concatenates [Slab, Slab, Slab] Stack 0)
    (hr : Stack.ReducesTo [0] Full) (hu : 0 < Unit.numel) (hl : FTy.bf16.bits < FTy.f32.bits) :
    truncf .bf16 (Host.reduceAdd (concatenate Stack 0 [⟨Slab, (broadcastInDim Slab ![1, 2] hb a : FVec Ideal Slab .f32)⟩,
      ⟨Slab, (broadcastInDim Slab ![1, 2] hb b : FVec Ideal Slab .f32)⟩, ⟨Slab, (broadcastInDim Slab ![1, 2] hb d : FVec Ideal Slab .f32)⟩] hc)
      (constant Unit .f32 0x00000000#32) hr hu) hl = Cert.SumThreeIdeal.Run.total a b d := by
  refine funext fun (j : Full.Idx) => ?_
  obtain ⟨i, k, rfl⟩ : ∃ (i : Fin 8192) (k : Fin 2048), j = ix2 i k := ⟨j 0, j 1, eq_ix2 j⟩
  unfold Cert.SumThreeIdeal.Run.total
  pointwise
  simp only [Fin.sum_univ_three]
  pointwise

theorem algebraic : Cert.algebraic_SumThreeIdeal_SumThreeRefIdeal := fun m g m' g' _ hA => by
  refine ⟨_, (θ_run Cert.SumThreeIdeal.defs _ _).mono (fun r h c => ⟨(h c).1.trans (Cert.SumThreeIdeal.Run.final m c), (h c).2⟩)
      (Cert.SumThreeIdeal.Value.run_blocks m g),
    (θ_run Cert.SumThreeRefIdeal.defs _ _).mono (fun r h c => ?_) (Cert.SumThreeRefIdeal.Value.run m' g')⟩
  obtain ⟨h0, hk⟩ := h c
  obtain ⟨a0, a1, a2⟩ := hA c
  rw [a0, a1, a2] at h0
  exact ⟨h0.trans (ref_total ..), hk⟩

end Cert.Proof.SumThree

end
-- ==== Proof.OutProjClaims.lean ====
/-
  The claims of the output projection. Point `t` multiplies a block of 512 rows by a block of 1024 columns, over the whole inner
  length, so that its block of the result is the block of the whole product (`point`).
-/
module

public import proofs.«01_k».proof.Proof.Adam
public import proofs.«01_k».proof.Proof.Gen.OutProj.Frame
public import proofs.«01_k».proof.Proof.Gen.OutProjIdeal.Value
public import proofs.«01_k».proof.Proof.Gen.OutProjRefIdeal.Run

@[expose] public section

noncomputable section

namespace Cert.OutProjIdeal.Run

open Idealize.ShloMosaic Idealize.ShloMosaic.TcCoe Idealize.SL.Sem
open Cert.OutProjIdeal Cert.OutProjIdeal.Gen Cert.OutProjIdeal.Value

theorem out_apply (a : Vec Ideal S512x2048 .bf16) (b : Vec Ideal S2048x1024 .bf16) (r : Fin 512) (q : Fin 1024) :
    out0_2 a b (ix2 r q) = ∑ k : Fin 2048, (a (ix2 r k) : EReal) * b (ix2 k q) := by
  rw [out0_2, View.canon_unit_zero Adam.zero2, View.ld_unit_zero Adam.zero2, View.ld_unit_zero Adam.zero2]
  unfold k0_pay1
  pointwise

variable (m : (ℓ : Loc nD τ sig) → Buf (Elt Ideal) ℓ) (ρ : Dev nD → PrngReg) (c : Dev nD)

/-- The row of the arrays that is row `r` of point `t`'s block. -/
def row (t : Fin cfg0.N) (r : Fin 512) : Fin 8192 := ⟨t.val % 16 * 512 + r.val, by
  have := r.isLt
  omega⟩

/-- The column of the arrays that is column `q` of point `t`'s block. -/
def col (t : Fin cfg0.N) (q : Fin 1024) : Fin 2048 := ⟨t.val / 16 * 1024 + q.val, by
  have h : t.val < 32 := lt_of_lt_of_eq t.isLt N_0
  have := q.isLt
  omega⟩

theorem index_a : ∀ t : Fin cfg0.N, win0_0.index t (0 : Fin 2) = t.val % 16 ∧ win0_0.index t (1 : Fin 2) = 0 :=
  (by decide +kernel : ∀ t : Fin grid0.N, _)

theorem index_b : ∀ t : Fin cfg0.N, win0_1.index t (0 : Fin 2) = 0 ∧ win0_1.index t (1 : Fin 2) = t.val / 16 :=
  (by decide +kernel : ∀ t : Fin grid0.N, _)

theorem index_out : ∀ t : Fin cfg0.N, win0_2.index t (0 : Fin 2) = t.val % 16 ∧ win0_2.index t (1 : Fin 2) = t.val / 16 :=
  (by decide +kernel : ∀ t : Fin grid0.N, _)

theorem block_a (t : Fin cfg0.N) (r : Fin 512) (k : Fin 2048) : iblk m c 0 t (ix2 r k) = V m c main_arg0 (ix2 (row t r) k) := by
  obtain ⟨h0, h1⟩ := index_a t
  refine congrArg (V m c main_arg0) (?_ : ((cfg0.win 0).blk t).view.emb (ix2 r k) = _)
  funext a; apply Fin.ext
  match a with
  | ⟨0, _⟩ => show win0_0.index t (0 : Fin 2) * 512 + 1 * r.val = t.val % 16 * 512 + r.val; omega
  | ⟨1, _⟩ => show win0_0.index t (1 : Fin 2) * 2048 + 1 * k.val = k.val; omega

theorem block_b (t : Fin cfg0.N) (k : Fin 2048) (q : Fin 1024) : iblk m c 1 t (ix2 k q) = V m c main_arg1 (ix2 k (col t q)) := by
  obtain ⟨h0, h1⟩ := index_b t
  refine congrArg (V m c main_arg1) (?_ : ((cfg0.win 1).blk t).view.emb (ix2 k q) = _)
  funext a; apply Fin.ext
  match a with
  | ⟨0, _⟩ => show win0_1.index t (0 : Fin 2) * 2048 + 1 * k.val = k.val; omega
  | ⟨1, _⟩ => show win0_1.index t (1 : Fin 2) * 1024 + 1 * q.val = t.val / 16 * 1024 + q.val; omega

theorem emb_out (t : Fin cfg0.N) (r : Fin 512) (q : Fin 1024) : ((cfg0.win 2).blk t).view.emb (ix2 r q) = ix2 (row t r) (col t q) := by
  obtain ⟨h0, h1⟩ := index_out t
  funext a; apply Fin.ext
  match a with
  | ⟨0, _⟩ => show win0_2.index t (0 : Fin 2) * 512 + 1 * r.val = t.val % 16 * 512 + r.val; omega
  | ⟨1, _⟩ => show win0_2.index t (1 : Fin 2) * 1024 + 1 * q.val = t.val / 16 * 1024 + q.val; omega

/-- The product. -/
def product (a : Vec Ideal S8192x2048 .bf16) (b : Vec Ideal S2048x2048 .bf16) : Vec Ideal S8192x2048 .f32 := fun j =>
  ∑ k : Fin 2048, (a (ix2 (j 0) k) : EReal) * b (ix2 k (j 1))

theorem point (t : Fin cfg0.N) (r : Fin 512) (q : Fin 1024) :
    out0_2 (iblk m c 0 t) (iblk m c 1 t) (ix2 r q) = product (V m c main_arg0) (V m c main_arg1) (ix2 (row t r) (col t q)) := by
  rw [out_apply]
  simp only [block_a, block_b]
  rfl

theorem covered (i : S8192x2048.Idx) : ∃ (t : Fin cfg0.N) (y : S512x1024.Idx), ((cfg0.win 2).blk t).view.emb y = i := by
  obtain ⟨p, q, rfl⟩ : ∃ (p : Fin 8192) (q : Fin 2048), i = ix2 p q := ⟨i 0, i 1, eq_ix2 i⟩
  have hp := p.isLt
  have hq := q.isLt
  refine ⟨⟨q.val / 1024 * 16 + p.val / 512, lt_of_lt_of_eq (by omega) N_0.symm⟩,
    ix2 ⟨p.val % 512, Nat.mod_lt _ (by decide)⟩ ⟨q.val % 1024, Nat.mod_lt _ (by decide)⟩, ?_⟩
  rw [emb_out]
  exact congrArg₂ ix2 (Fin.ext (by show (q.val / 1024 * 16 + p.val / 512) % 16 * 512 + p.val % 512 = p.val; omega))
    (Fin.ext (by show (q.val / 1024 * 16 + p.val / 512) / 16 * 1024 + q.val % 1024 = q.val; omega))

theorem final : (dats m 0 c).arrAt 2 cfg0.N = product (V m c main_arg0) (V m c main_arg1) :=
  (dats m 0 c).arrAt_eq_of_cover 2 (product (V m c main_arg0) (V m c main_arg1))
    (fun t _ => by
      rw [flushed2]
      refine funext fun (y : S512x1024.Idx) => ?_
      rw [eq_ix2 y]
      exact (point m c t (y 0) (y 1)).trans (congrArg (product (V m c main_arg0) (V m c main_arg1)) (emb_out t (y 0) (y 1)).symm))
    (fun (i : S8192x2048.Idx) => let ⟨t, y, h⟩ := covered i; ⟨t, flush0_2 t, h ▸ ((cfg0.win 2).blk t).view.emb_mem_set y⟩)

end Cert.OutProjIdeal.Run

namespace Cert.Proof.OutProj

open Idealize.ShloMosaic Idealize.ShloMosaic.TcCoe Idealize.SL.Sem

theorem frame_refIdeal : Cert.quiescent_OutProjRefIdeal := fun m g _ =>
  (θ_run Cert.OutProjRefIdeal.defs _ _).mono
    (fun r h => ⟨fun c => (h c).2, sem_eq_zero_of_no_sems (by decide) r.2⟩) (Cert.OutProjRefIdeal.Value.run m g)

open Cert.OutProjRefIdeal Cert.OutProjRefIdeal.Gen in
theorem ref_product (a : FVec Ideal S8192x2048 .bf16) (b : FVec Ideal S2048x2048 .bf16) :
    Host.dotGeneral dot_S8192x2048_S2048x2048_S8192x2048_1_0_0_1_n_n none (extf .f32 a bitsLt_bf16_f32) (extf .f32 b bitsLt_bf16_f32)
      = Cert.OutProjIdeal.Run.product a b := by
  refine funext fun (j : S8192x2048.Idx) => ?_
  obtain ⟨i, q, rfl⟩ : ∃ (i : Fin 8192) (q : Fin 2048), j = ix2 i q := ⟨j 0, j 1, eq_ix2 j⟩
  unfold Cert.OutProjIdeal.Run.product
  pointwise

theorem algebraic : Cert.algebraic_OutProjIdeal_OutProjRefIdeal := fun m g m' g' _ hA => by
  refine ⟨_, (θ_run Cert.OutProjIdeal.defs _ _).mono (fun r h c => ⟨(h c).1.trans (Cert.OutProjIdeal.Run.final m c), (h c).2⟩)
      (Cert.OutProjIdeal.Value.run_blocks m g),
    (θ_run Cert.OutProjRefIdeal.defs _ _).mono (fun r h c => ?_) (Cert.OutProjRefIdeal.Value.run m' g')⟩
  obtain ⟨h0, hk⟩ := h c
  obtain ⟨a0, a1⟩ := hA c
  rw [a0, a1] at h0
  exact ⟨h0.trans (ref_product ..), hk⟩

end Cert.Proof.OutProj

end
-- ==== Proof.OutGradClaims.lean ====
/-
  The claims of the gradient of the output projection's weights. The product's inner length, the 8192 rows, is walked in 16
  blocks of 512: the points of a block of the result add their blocks' products in a scratch (`kept`), and the last of them
  writes the sum, the block of the whole product (`stored`).
-/
module

public import proofs.«01_k».proof.Proof.Adam
public import proofs.«01_k».proof.Proof.Norm
public import proofs.«01_k».proof.Proof.Gen.OutGrad.Frame
public import proofs.«01_k».proof.Proof.Gen.OutGradIdeal.Value
public import proofs.«01_k».proof.Proof.Gen.OutGradRefIdeal.Run

@[expose] public section

noncomputable section

namespace Cert.OutGradIdeal.Run

open Idealize.ShloMosaic Idealize.ShloMosaic.TcCoe Idealize.SL.Sem
open Cert.OutGradIdeal Cert.OutGradIdeal.Gen Cert.OutGradIdeal.Value

/-! ## What a point leaves -/

section Block

variable {F : FTy → Type} [FloatOps F]
variable (c : Dev nD) (i : grid0.Coords) (a3 : Memref sig .tc .vmem S512x1024 .bf16) (h3 : a3.IsWhole)
  (a4 : Memref sig .tc .vmem S512x1024 .f32) (h4 : a4.IsWhole) (a5 : Memref sig .tc .vmem S1024x1024 .f32) (h5 : a5.IsWhole)
  (a6 : Memref sig .tc .vmem S1024x1024 .f32) (h6 : a6.IsWhole)
  (x0 : Vec F S512x1024 .bf16) (x1 : Vec F S512x1024 .f32) (xs : Vec F S1024x1024 .f32)

theorem scratch_first (hc : cond0_0 i) (hc1 : ¬cond0_1 i) (hc2 : ¬cond0_2 i) :
    sout0_A_0 c i a3 h3 a4 h4 a5 h5 a6 h6 hc hc1 hc2 x0 x1 = k0_pay1 x0 x1 := by
  unfold sout0_A_0
  rw [View.read_writes_eq_canon _ _ _ (scover0_A_0 c i a3 h3 a4 h4 a5 h5 a6 h6 hc hc1 hc2 x0 x1)]
  unfold kernelRun0_A
  dsimp only
  sl_unfold_words
  rw [View.canon_unit_zero Adam.zero2]
  unfold k0_pay2
  simp only [View.readAt_eq_ld, h3.read_unread, h4.read_unread, View.ld_unit_zero (S := S512x1024) Adam.zero2, shapeCast_self]

theorem scratch_next (hc : ¬cond0_0 i) (hc1 : cond0_1 i) (hc2 : ¬cond0_2 i) :
    sout0_B_0 c i a3 h3 a4 h4 a5 h5 a6 h6 hc hc1 hc2 x0 x1 xs = addf xs (k0_pay1 x0 x1) := by
  unfold sout0_B_0
  rw [View.read_writes_eq_canon _ _ _ (scover0_B_0 c i a3 h3 a4 h4 a5 h5 a6 h6 hc hc1 hc2 x0 x1 xs)]
  unfold kernelRun0_B
  dsimp only
  sl_unfold_words
  rw [View.canon_unit_zero Adam.zero2]
  unfold k0_pay3
  simp only [View.readAt_eq_ld, h3.read_unread, h4.read_unread, h6.read_unread, View.ld_unit_zero (S := S512x1024) Adam.zero2,
    View.ld_unit_zero (S := S1024x1024) Adam.zero2, shapeCast_self]

theorem stored_last (hc : ¬cond0_0 i) (hc1 : cond0_1 i) (hc2 : cond0_2 i) :
    out0_C_2 c i a3 h3 a4 h4 a5 h5 a6 h6 hc hc1 hc2 x0 x1 xs = addf xs (k0_pay1 x0 x1) := by
  unfold out0_C_2
  rw [View.read_writes_eq_canon _ _ _ (cover0_C_2 c i a3 h3 a4 h4 a5 h5 a6 h6 hc hc1 hc2 x0 x1 xs)]
  unfold kernelRun0_C
  dsimp only
  sl_unfold_words
  rw [View.canon_unit_zero Adam.zero2, View.readCov_cons_toLoadRect]
  unfold k0_pay3
  simp only [View.readAt_eq_ld, h3.read_unread, h4.read_unread, h6.read_unread, View.ld_unit_zero (S := S512x1024) Adam.zero2,
    View.ld_unit_zero (S := S1024x1024) Adam.zero2, shapeCast_self]

end Block

theorem pay_apply (a : Vec Ideal S512x1024 .bf16) (b : Vec Ideal S512x1024 .f32) (p q : Fin 1024) :
    k0_pay1 a b (ix2 p q) = ∑ k : Fin 512, (a (ix2 k p) : EReal) * b (ix2 k q) := by
  unfold k0_pay1
  pointwise

theorem next_apply (xs : Vec Ideal S1024x1024 .f32) (a : Vec Ideal S512x1024 .bf16) (b : Vec Ideal S512x1024 .f32) (p q : Fin 1024) :
    addf xs (k0_pay1 a b) (ix2 p q) = (xs (ix2 p q) : EReal) + k0_pay1 a b (ix2 p q) := rfl

/-! ## A point's blocks -/

variable (m : (ℓ : Loc nD τ sig) → Buf (Elt Ideal) ℓ) (ρ : Dev nD → PrngReg) (c : Dev nD)

theorem lt_points (t : Fin cfg0.N) : t.val < 64 := lt_of_lt_of_eq t.isLt N_0

/-- The row of the two arrays that is row `k` of point `n`'s blocks. -/
def inner (n : Nat) (k : Fin 512) : Fin 8192 := ⟨n % 16 * 512 + k.val, by
  have := k.isLt
  omega⟩

/-- The row of the result that is row `p` of point `n`'s block. -/
def row (n : Nat) (p : Fin 1024) : Fin 2048 := ⟨n / 16 % 2 * 1024 + p.val, by
  have := p.isLt
  omega⟩

/-- The column of the result that is column `q` of point `n`'s block. -/
def col (n : Nat) (q : Fin 1024) : Fin 2048 := ⟨n / 32 % 2 * 1024 + q.val, by
  have := q.isLt
  omega⟩

theorem index_a : ∀ t : Fin cfg0.N, win0_0.index t (0 : Fin 2) = t.val % 16 ∧ win0_0.index t (1 : Fin 2) = t.val / 16 % 2 :=
  (by decide +kernel : ∀ t : Fin grid0.N, _)

theorem index_b : ∀ t : Fin cfg0.N, win0_1.index t (0 : Fin 2) = t.val % 16 ∧ win0_1.index t (1 : Fin 2) = t.val / 32 % 2 :=
  (by decide +kernel : ∀ t : Fin grid0.N, _)

theorem index_out : ∀ t : Fin cfg0.N, win0_2.index t (0 : Fin 2) = t.val / 16 % 2 ∧ win0_2.index t (1 : Fin 2) = t.val / 32 % 2 :=
  (by decide +kernel : ∀ t : Fin grid0.N, _)

theorem block_a (t : Fin cfg0.N) (k : Fin 512) (p : Fin 1024) : iblk m c 0 t (ix2 k p) = V m c main_arg0 (ix2 (inner t.val k) (row t.val p)) := by
  obtain ⟨h0, h1⟩ := index_a t
  refine congrArg (V m c main_arg0) (?_ : ((cfg0.win 0).blk t).view.emb (ix2 k p) = _)
  funext a; apply Fin.ext
  match a with
  | ⟨0, _⟩ => show win0_0.index t (0 : Fin 2) * 512 + 1 * k.val = t.val % 16 * 512 + k.val; omega
  | ⟨1, _⟩ => show win0_0.index t (1 : Fin 2) * 1024 + 1 * p.val = t.val / 16 % 2 * 1024 + p.val; omega

theorem block_b (t : Fin cfg0.N) (k : Fin 512) (q : Fin 1024) : iblk m c 1 t (ix2 k q) = V m c main_arg1 (ix2 (inner t.val k) (col t.val q)) := by
  obtain ⟨h0, h1⟩ := index_b t
  refine congrArg (V m c main_arg1) (?_ : ((cfg0.win 1).blk t).view.emb (ix2 k q) = _)
  funext a; apply Fin.ext
  match a with
  | ⟨0, _⟩ => show win0_1.index t (0 : Fin 2) * 512 + 1 * k.val = t.val % 16 * 512 + k.val; omega
  | ⟨1, _⟩ => show win0_1.index t (1 : Fin 2) * 1024 + 1 * q.val = t.val / 32 % 2 * 1024 + q.val; omega

theorem emb_out (t : Fin cfg0.N) (p q : Fin 1024) : ((cfg0.win 2).blk t).view.emb (ix2 p q) = ix2 (row t.val p) (col t.val q) := by
  obtain ⟨h0, h1⟩ := index_out t
  funext a; apply Fin.ext
  match a with
  | ⟨0, _⟩ => show win0_2.index t (0 : Fin 2) * 1024 + 1 * p.val = t.val / 16 % 2 * 1024 + p.val; omega
  | ⟨1, _⟩ => show win0_2.index t (1 : Fin 2) * 1024 + 1 * q.val = t.val / 32 % 2 * 1024 + q.val; omega

/-! ## The sums from point to point -/

/-- The product of the first array's transpose and the second. -/
def product (a : Vec Ideal S8192x2048 .bf16) (b : Vec Ideal S8192x2048 .f32) : Vec Ideal S2048x2048 .f32 := fun j =>
  ∑ k : Fin 8192, (a (ix2 k (j 0)) : EReal) * b (ix2 k (j 1))

/-- The part of an entry that block `d` of the inner length brings. -/
def part (a : Vec Ideal S8192x2048 .bf16) (b : Vec Ideal S8192x2048 .f32) (i j : Fin 2048) (d : Nat) : EReal :=
  ∑ k : Fin 512, (a (ix2 (inner d k) i) : EReal) * b (ix2 (inner d k) j)

theorem whole_eq (a : Vec Ideal S8192x2048 .bf16) (b : Vec Ideal S8192x2048 .f32) (i j : Fin 2048) :
    Norm.upto (part a b i j) 15 = product a b (ix2 i j) := by
  refine Norm.upto_rows (b := 512) (J := 15) (by decide) (fun k => (a (ix2 k i) : EReal) * b (ix2 k j)) (part a b i j) fun d hd => ?_
  have ei (k : Fin 512) : inner d k = ⟨d * 512 + k.val, by have := k.isLt; omega⟩ := Fin.ext (by show d % 16 * 512 + k.val = d * 512 + k.val; omega)
  unfold part
  simp only [ei]

theorem pay_part (t : Fin cfg0.N) (p q : Fin 1024) :
    k0_pay1 (iblk m c 0 t) (iblk m c 1 t) (ix2 p q) = part (V m c main_arg0) (V m c main_arg1) (row t.val p) (col t.val q) (t.val % 16) := by
  have e (k : Fin 512) : inner (t.val % 16) k = inner t.val k := Fin.ext (by show t.val % 16 % 16 * 512 + k.val = t.val % 16 * 512 + k.val; omega)
  rw [pay_apply, part]
  simp only [block_a, block_b, e]

theorem kept (p q : Fin 1024) : ∀ (n : Nat) (h : n < cfg0.N), n % 16 ≠ 15 →
    (outsAt0 m c n h).2 (ix2 p q) = Norm.upto (part (V m c main_arg0) (V m c main_arg1) (row n p) (col n q)) (n % 16)
  | 0, h, _ => by
    have e : outsAt0 m c 0 h = _ := outsAt0_A m c ⟨0, h⟩ rfl (show ¬1 ≤ 0 by decide) (show ¬0 = 15 by decide)
    rw [e]
    dsimp only
    rw [scratch_first]
    exact pay_part m c ⟨0, h⟩ p q
  | n + 1, h, hn => by
    by_cases h0 : (n + 1) % 16 = 0
    · have e : outsAt0 m c (n + 1) h = _ := outsAt0_A m c ⟨n + 1, h⟩ h0 (by dsimp only; omega) (by dsimp only; omega)
      rw [e]
      dsimp only
      rw [scratch_first, pay_part, h0]
      rfl
    · have e : outsAt0 m c (n + 1) h = _ := outsAt0_B m c ⟨n + 1, h⟩ h0 (by dsimp only; omega) hn
      have hr : row n p = row (n + 1) p := Fin.ext (by show n / 16 % 2 * 1024 + p.val = (n + 1) / 16 % 2 * 1024 + p.val; omega)
      have hq : col n q = col (n + 1) q := Fin.ext (by show n / 32 % 2 * 1024 + q.val = (n + 1) / 32 % 2 * 1024 + q.val; omega)
      have hd : (n + 1) % 16 = n % 16 + 1 := by omega
      have ih := kept p q n (Nat.lt_of_succ_lt h) (by omega)
      have hp := pay_part m c ⟨n + 1, h⟩ p q
      rw [hr, hq] at ih
      rw [e]
      dsimp only at hp ⊢
      rw [hd] at hp
      rw [scratch_next, next_apply, hd]
      erw [ih, hp]
      rfl

theorem stored (t : Fin cfg0.N) (h : t.val % 16 = 15) (p q : Fin 1024) :
    (outsAt0 m c t.val t.isLt).1 (ix2 p q) = product (V m c main_arg0) (V m c main_arg1) (ix2 (row t.val p) (col t.val q)) := by
  obtain ⟨n, hn⟩ := t
  obtain ⟨n, rfl⟩ : ∃ k, n = k + 1 := ⟨n - 1, by dsimp only at h; omega⟩
  dsimp only at h ⊢
  have e : outsAt0 m c (n + 1) hn = _ := outsAt0_C m c ⟨n + 1, hn⟩ (by dsimp only; omega) (by dsimp only; omega) h
  have hr : row n p = row (n + 1) p := Fin.ext (by show n / 16 % 2 * 1024 + p.val = (n + 1) / 16 % 2 * 1024 + p.val; omega)
  have hq : col n q = col (n + 1) q := Fin.ext (by show n / 32 % 2 * 1024 + q.val = (n + 1) / 32 % 2 * 1024 + q.val; omega)
  have hk := kept m c p q n (Nat.lt_of_succ_lt hn) (by omega)
  have hp := pay_part m c ⟨n + 1, hn⟩ p q
  have hd : n % 16 = 14 := by omega
  dsimp only at hp
  rw [hr, hq, hd] at hk
  rw [h] at hp
  rw [e]
  dsimp only
  rw [stored_last, next_apply]
  erw [hk, hp]
  exact whole_eq _ _ _ _

/-! ## The array after the run -/

theorem covered (i : S2048x2048.Idx) : ∃ (t : Fin cfg0.N) (y : S1024x1024.Idx), t.val % 16 = 15 ∧ ((cfg0.win 2).blk t).view.emb y = i := by
  obtain ⟨p, q, rfl⟩ : ∃ p q : Fin 2048, i = ix2 p q := ⟨i 0, i 1, eq_ix2 i⟩
  have hp := p.isLt
  have hq := q.isLt
  refine ⟨⟨q.val / 1024 * 32 + p.val / 1024 * 16 + 15, lt_of_lt_of_eq (by omega) N_0.symm⟩,
    ix2 ⟨p.val % 1024, Nat.mod_lt _ (by decide)⟩ ⟨q.val % 1024, Nat.mod_lt _ (by decide)⟩, by dsimp only; omega, ?_⟩
  rw [emb_out]
  exact congrArg₂ ix2
    (Fin.ext (by show (q.val / 1024 * 32 + p.val / 1024 * 16 + 15) / 16 % 2 * 1024 + p.val % 1024 = p.val; omega))
    (Fin.ext (by show (q.val / 1024 * 32 + p.val / 1024 * 16 + 15) / 32 % 2 * 1024 + q.val % 1024 = q.val; omega))

theorem final : (dats m 0 c).arrAt 2 cfg0.N = product (V m c main_arg0) (V m c main_arg1) :=
  (dats m 0 c).arrAt_eq_of_cover 2 (product (V m c main_arg0) (V m c main_arg1))
    (fun t hf => by
      have h := (flush0_2 t).mp hf
      rw [flushed2]
      have e (G : Vec Ideal S2048x2048 .f32) (y : S1024x1024.Idx) :
          ((cfg0.win 2).blk t).view.read (Elt Ideal) G y = G (ix2 (row t.val (y 0)) (col t.val (y 1))) :=
        congrArg G ((congrArg _ (eq_ix2 y)).trans (emb_out t (y 0) (y 1)))
      refine funext fun (y : S1024x1024.Idx) => ?_
      refine Eq.trans ?_ (e _ y).symm
      rw [eq_ix2 y]
      exact stored m c t h (y 0) (y 1))
    (fun (i : S2048x2048.Idx) => let ⟨t, y, ht, h⟩ := covered i; ⟨t, (flush0_2 t).mpr ht, h ▸ ((cfg0.win 2).blk t).view.emb_mem_set y⟩)

end Cert.OutGradIdeal.Run

namespace Cert.Proof.OutGrad

open Idealize.ShloMosaic Idealize.ShloMosaic.TcCoe Idealize.SL.Sem

theorem frame_refIdeal : Cert.quiescent_OutGradRefIdeal := fun m g _ =>
  (θ_run Cert.OutGradRefIdeal.defs _ _).mono
    (fun r h => ⟨fun c => (h c).2, sem_eq_zero_of_no_sems (by decide) r.2⟩) (Cert.OutGradRefIdeal.Value.run m g)

open Cert.OutGradRefIdeal Cert.OutGradRefIdeal.Gen in
theorem ref_product (a : FVec Ideal S8192x2048 .bf16) (b : FVec Ideal S8192x2048 .f32) :
    Host.dotGeneral dot_S2048x8192_S8192x2048_S2048x2048_1_0_0_1_n_n none
        (transpose S2048x8192 [1, 0] (extf .f32 a bitsLt_bf16_f32) transposes_S8192x2048_S2048x8192_1_0) b
      = Cert.OutGradIdeal.Run.product a b := by
  refine funext fun (j : S2048x2048.Idx) => ?_
  obtain ⟨i, q, rfl⟩ : ∃ (i : Fin 2048) (q : Fin 2048), j = ix2 i q := ⟨j 0, j 1, eq_ix2 j⟩
  unfold Cert.OutGradIdeal.Run.product
  pointwise

theorem algebraic : Cert.algebraic_OutGradIdeal_OutGradRefIdeal := fun m g m' g' _ hA => by
  refine ⟨_, (θ_run Cert.OutGradIdeal.defs _ _).mono (fun r h c => ⟨(h c).1.trans (Cert.OutGradIdeal.Run.final m c), (h c).2⟩)
      (Cert.OutGradIdeal.Value.run_blocks m g),
    (θ_run Cert.OutGradRefIdeal.defs _ _).mono (fun r h c => ?_) (Cert.OutGradRefIdeal.Value.run m' g')⟩
  obtain ⟨h0, hk⟩ := h c
  obtain ⟨a0, a1⟩ := hA c
  rw [a0, a1] at h0
  exact ⟨h0.trans (ref_product ..), hk⟩

end Cert.Proof.OutGrad

end
-- ==== Proof.MergedGradClaims.lean ====
/-
  The claims of the gradient of the merged branches. Point `t` multiplies a block of 512 rows by a block of 1024 rows, transposed, over the whole inner
  length, so that its block of the result is the block of the whole product (`point`).
-/
module

public import proofs.«01_k».proof.Proof.Adam
public import proofs.«01_k».proof.Proof.Gen.MergedGrad.Frame
public import proofs.«01_k».proof.Proof.Gen.MergedGradIdeal.Value
public import proofs.«01_k».proof.Proof.Gen.MergedGradRefIdeal.Run

@[expose] public section

noncomputable section

namespace Cert.MergedGradIdeal.Run

open Idealize.ShloMosaic Idealize.ShloMosaic.TcCoe Idealize.SL.Sem
open Cert.MergedGradIdeal Cert.MergedGradIdeal.Gen Cert.MergedGradIdeal.Value

theorem out_apply (a : Vec Ideal S512x2048 .f32) (b : Vec Ideal S1024x2048 .bf16) (r : Fin 512) (q : Fin 1024) :
    out0_2 a b (ix2 r q) = ∑ k : Fin 2048, (a (ix2 r k) : EReal) * b (ix2 q k) := by
  rw [out0_2, View.canon_unit_zero Adam.zero2, View.ld_unit_zero Adam.zero2, View.ld_unit_zero Adam.zero2]
  unfold k0_pay1
  pointwise

variable (m : (ℓ : Loc nD τ sig) → Buf (Elt Ideal) ℓ) (ρ : Dev nD → PrngReg) (c : Dev nD)

/-- The row of the arrays that is row `r` of point `t`'s block. -/
def row (t : Fin cfg0.N) (r : Fin 512) : Fin 8192 := ⟨t.val % 16 * 512 + r.val, by
  have := r.isLt
  omega⟩

/-- The column of the arrays that is column `q` of point `t`'s block. -/
def col (t : Fin cfg0.N) (q : Fin 1024) : Fin 2048 := ⟨t.val / 16 * 1024 + q.val, by
  have h : t.val < 32 := lt_of_lt_of_eq t.isLt N_0
  have := q.isLt
  omega⟩

theorem index_a : ∀ t : Fin cfg0.N, win0_0.index t (0 : Fin 2) = t.val % 16 ∧ win0_0.index t (1 : Fin 2) = 0 :=
  (by decide +kernel : ∀ t : Fin grid0.N, _)

theorem index_b : ∀ t : Fin cfg0.N, win0_1.index t (0 : Fin 2) = t.val / 16 ∧ win0_1.index t (1 : Fin 2) = 0 :=
  (by decide +kernel : ∀ t : Fin grid0.N, _)

theorem index_out : ∀ t : Fin cfg0.N, win0_2.index t (0 : Fin 2) = t.val % 16 ∧ win0_2.index t (1 : Fin 2) = t.val / 16 :=
  (by decide +kernel : ∀ t : Fin grid0.N, _)

theorem block_a (t : Fin cfg0.N) (r : Fin 512) (k : Fin 2048) : iblk m c 0 t (ix2 r k) = V m c main_arg0 (ix2 (row t r) k) := by
  obtain ⟨h0, h1⟩ := index_a t
  refine congrArg (V m c main_arg0) (?_ : ((cfg0.win 0).blk t).view.emb (ix2 r k) = _)
  funext a; apply Fin.ext
  match a with
  | ⟨0, _⟩ => show win0_0.index t (0 : Fin 2) * 512 + 1 * r.val = t.val % 16 * 512 + r.val; omega
  | ⟨1, _⟩ => show win0_0.index t (1 : Fin 2) * 2048 + 1 * k.val = k.val; omega

theorem block_b (t : Fin cfg0.N) (k : Fin 2048) (q : Fin 1024) : iblk m c 1 t (ix2 q k) = V m c main_arg1 (ix2 (col t q) k) := by
  obtain ⟨h0, h1⟩ := index_b t
  refine congrArg (V m c main_arg1) (?_ : ((cfg0.win 1).blk t).view.emb (ix2 q k) = _)
  funext a; apply Fin.ext
  match a with
  | ⟨0, _⟩ => show win0_1.index t (0 : Fin 2) * 1024 + 1 * q.val = t.val / 16 * 1024 + q.val; omega
  | ⟨1, _⟩ => show win0_1.index t (1 : Fin 2) * 2048 + 1 * k.val = k.val; omega

theorem emb_out (t : Fin cfg0.N) (r : Fin 512) (q : Fin 1024) : ((cfg0.win 2).blk t).view.emb (ix2 r q) = ix2 (row t r) (col t q) := by
  obtain ⟨h0, h1⟩ := index_out t
  funext a; apply Fin.ext
  match a with
  | ⟨0, _⟩ => show win0_2.index t (0 : Fin 2) * 512 + 1 * r.val = t.val % 16 * 512 + r.val; omega
  | ⟨1, _⟩ => show win0_2.index t (1 : Fin 2) * 1024 + 1 * q.val = t.val / 16 * 1024 + q.val; omega

/-- The product. -/
def product (a : Vec Ideal S8192x2048 .f32) (b : Vec Ideal S2048x2048 .bf16) : Vec Ideal S8192x2048 .f32 := fun j =>
  ∑ k : Fin 2048, (a (ix2 (j 0) k) : EReal) * b (ix2 (j 1) k)

theorem point (t : Fin cfg0.N) (r : Fin 512) (q : Fin 1024) :
    out0_2 (iblk m c 0 t) (iblk m c 1 t) (ix2 r q) = product (V m c main_arg0) (V m c main_arg1) (ix2 (row t r) (col t q)) := by
  rw [out_apply]
  simp only [block_a, block_b]
  rfl

theorem covered (i : S8192x2048.Idx) : ∃ (t : Fin cfg0.N) (y : S512x1024.Idx), ((cfg0.win 2).blk t).view.emb y = i := by
  obtain ⟨p, q, rfl⟩ : ∃ (p : Fin 8192) (q : Fin 2048), i = ix2 p q := ⟨i 0, i 1, eq_ix2 i⟩
  have hp := p.isLt
  have hq := q.isLt
  refine ⟨⟨q.val / 1024 * 16 + p.val / 512, lt_of_lt_of_eq (by omega) N_0.symm⟩,
    ix2 ⟨p.val % 512, Nat.mod_lt _ (by decide)⟩ ⟨q.val % 1024, Nat.mod_lt _ (by decide)⟩, ?_⟩
  rw [emb_out]
  exact congrArg₂ ix2 (Fin.ext (by show (q.val / 1024 * 16 + p.val / 512) % 16 * 512 + p.val % 512 = p.val; omega))
    (Fin.ext (by show (q.val / 1024 * 16 + p.val / 512) / 16 * 1024 + q.val % 1024 = q.val; omega))

theorem final : (dats m 0 c).arrAt 2 cfg0.N = product (V m c main_arg0) (V m c main_arg1) :=
  (dats m 0 c).arrAt_eq_of_cover 2 (product (V m c main_arg0) (V m c main_arg1))
    (fun t _ => by
      rw [flushed2]
      refine funext fun (y : S512x1024.Idx) => ?_
      rw [eq_ix2 y]
      exact (point m c t (y 0) (y 1)).trans (congrArg (product (V m c main_arg0) (V m c main_arg1)) (emb_out t (y 0) (y 1)).symm))
    (fun (i : S8192x2048.Idx) => let ⟨t, y, h⟩ := covered i; ⟨t, flush0_2 t, h ▸ ((cfg0.win 2).blk t).view.emb_mem_set y⟩)

end Cert.MergedGradIdeal.Run

namespace Cert.Proof.MergedGrad

open Idealize.ShloMosaic Idealize.ShloMosaic.TcCoe Idealize.SL.Sem

theorem frame_refIdeal : Cert.quiescent_MergedGradRefIdeal := fun m g _ =>
  (θ_run Cert.MergedGradRefIdeal.defs _ _).mono
    (fun r h => ⟨fun c => (h c).2, sem_eq_zero_of_no_sems (by decide) r.2⟩) (Cert.MergedGradRefIdeal.Value.run m g)

open Cert.MergedGradRefIdeal Cert.MergedGradRefIdeal.Gen in
theorem ref_product (a : FVec Ideal S8192x2048 .f32) (b : FVec Ideal S2048x2048 .bf16) :
    Host.dotGeneral dot_S8192x2048_S2048x2048_S8192x2048_1_0_0_1_n_n none a (transpose S2048x2048 [1, 0] (extf .f32 b bitsLt_bf16_f32) transposes_S2048x2048_S2048x2048_1_0)
      = Cert.MergedGradIdeal.Run.product a b := by
  refine funext fun (j : S8192x2048.Idx) => ?_
  obtain ⟨i, q, rfl⟩ : ∃ (i : Fin 8192) (q : Fin 2048), j = ix2 i q := ⟨j 0, j 1, eq_ix2 j⟩
  unfold Cert.MergedGradIdeal.Run.product
  pointwise

theorem algebraic : Cert.algebraic_MergedGradIdeal_MergedGradRefIdeal := fun m g m' g' _ hA => by
  refine ⟨_, (θ_run Cert.MergedGradIdeal.defs _ _).mono (fun r h c => ⟨(h c).1.trans (Cert.MergedGradIdeal.Run.final m c), (h c).2⟩)
      (Cert.MergedGradIdeal.Value.run_blocks m g),
    (θ_run Cert.MergedGradRefIdeal.defs _ _).mono (fun r h c => ?_) (Cert.MergedGradRefIdeal.Value.run m' g')⟩
  obtain ⟨h0, hk⟩ := h c
  obtain ⟨a0, a1⟩ := hA c
  rw [a0, a1] at h0
  exact ⟨h0.trans (ref_product ..), hk⟩

end Cert.Proof.MergedGrad

end
-- ==== Proof.InProjClaims.lean ====
/-
  The claims of the input projection. Point `t` multiplies a block of the one operand by a block of the other, over the whole
  inner length, so that its block of the result is the block of the whole product (`point`).
-/
module

public import proofs.«01_k».proof.Proof.Adam
public import proofs.«01_k».proof.Proof.Gen.InProj.Frame
public import proofs.«01_k».proof.Proof.Gen.InProjIdeal.Value
public import proofs.«01_k».proof.Proof.Gen.InProjRefIdeal.Run

@[expose] public section

noncomputable section

namespace Cert.InProjIdeal.Run

open Idealize.ShloMosaic Idealize.ShloMosaic.TcCoe Idealize.SL.Sem
open Cert.InProjIdeal Cert.InProjIdeal.Gen Cert.InProjIdeal.Value

theorem out_apply (a : Vec Ideal S512x2048 .bf16) (b : Vec Ideal S2048x1024 .bf16) (p : Fin 512) (q : Fin 1024) :
    out0_2 a b (ix2 p q) = ∑ k : Fin 2048, (a (ix2 p k) : EReal) * b (ix2 k q) := by
  rw [out0_2, View.canon_unit_zero Adam.zero2, View.ld_unit_zero Adam.zero2, View.ld_unit_zero Adam.zero2]
  unfold k0_pay1
  pointwise

/-! ## A point's blocks -/

variable (m : (ℓ : Loc nD τ sig) → Buf (Elt Ideal) ℓ) (c : Dev nD)

/-- The row of the result that is row `p` of point `n`'s block. -/
def row (n : Nat) (p : Fin 512) : Fin 8192 := ⟨n % 16 * 512 + p.val, by
  have := p.isLt
  omega⟩

/-- The column of the result that is column `q` of point `n`'s block. -/
def col (n : Nat) (q : Fin 1024) : Fin 22528 := ⟨n / 16 % 22 * 1024 + q.val, by
  have := q.isLt
  omega⟩

theorem index_a : ∀ t : Fin cfg0.N, win0_0.index t (0 : Fin 2) = t.val % 16 ∧ win0_0.index t (1 : Fin 2) = 0 :=
  (by decide +kernel : ∀ t : Fin grid0.N, _)

theorem index_b : ∀ t : Fin cfg0.N, win0_1.index t (0 : Fin 2) = 0 ∧ win0_1.index t (1 : Fin 2) = t.val / 16 % 22 :=
  (by decide +kernel : ∀ t : Fin grid0.N, _)

theorem index_out : ∀ t : Fin cfg0.N, win0_2.index t (0 : Fin 2) = t.val % 16 ∧ win0_2.index t (1 : Fin 2) = t.val / 16 % 22 :=
  (by decide +kernel : ∀ t : Fin grid0.N, _)

theorem block_a (t : Fin cfg0.N) (k : Fin 2048) (p : Fin 512) : iblk m c 0 t (ix2 p k) = V m c main_arg0 (ix2 (row t.val p) k) := by
  obtain ⟨h0, h1⟩ := index_a t
  refine congrArg (V m c main_arg0) (?_ : ((cfg0.win 0).blk t).view.emb (ix2 p k) = _)
  funext a; apply Fin.ext
  match a with
  | ⟨0, _⟩ => show win0_0.index t (0 : Fin 2) * 512 + 1 * p.val = t.val % 16 * 512 + p.val; omega
  | ⟨1, _⟩ => show win0_0.index t (1 : Fin 2) * 2048 + 1 * k.val = k.val; omega

theorem block_b (t : Fin cfg0.N) (k : Fin 2048) (q : Fin 1024) : iblk m c 1 t (ix2 k q) = V m c main_arg1 (ix2 k (col t.val q)) := by
  obtain ⟨h0, h1⟩ := index_b t
  refine congrArg (V m c main_arg1) (?_ : ((cfg0.win 1).blk t).view.emb (ix2 k q) = _)
  funext a; apply Fin.ext
  match a with
  | ⟨0, _⟩ => show win0_1.index t (0 : Fin 2) * 2048 + 1 * k.val = k.val; omega
  | ⟨1, _⟩ => show win0_1.index t (1 : Fin 2) * 1024 + 1 * q.val = t.val / 16 % 22 * 1024 + q.val; omega

theorem emb_out (t : Fin cfg0.N) (p : Fin 512) (q : Fin 1024) :
    ((cfg0.win 2).blk t).view.emb (ix2 p q) = ix2 (row t.val p) (col t.val q) := by
  obtain ⟨h0, h1⟩ := index_out t
  funext a; apply Fin.ext
  match a with
  | ⟨0, _⟩ => show win0_2.index t (0 : Fin 2) * 512 + 1 * p.val = t.val % 16 * 512 + p.val; omega
  | ⟨1, _⟩ => show win0_2.index t (1 : Fin 2) * 1024 + 1 * q.val = t.val / 16 % 22 * 1024 + q.val; omega

/-- The product. -/
def product (a : Vec Ideal S8192x2048 .bf16) (b : Vec Ideal S2048x22528 .bf16) : Vec Ideal S8192x22528 .f32 := fun j =>
  ∑ k : Fin 2048, (a (ix2 (j 0) k) : EReal) * b (ix2 k (j 1))

theorem point (t : Fin cfg0.N) (p : Fin 512) (q : Fin 1024) :
    out0_2 (iblk m c 0 t) (iblk m c 1 t) (ix2 p q) = product (V m c main_arg0) (V m c main_arg1) (ix2 (row t.val p) (col t.val q)) := by
  rw [out_apply]
  simp only [block_a, block_b]
  rfl

/-! ## The array after the run -/

theorem covered (i : S8192x22528.Idx) : ∃ (t : Fin cfg0.N) (y : S512x1024.Idx), ((cfg0.win 2).blk t).view.emb y = i := by
  obtain ⟨p, q, rfl⟩ : ∃ (p : Fin 8192) (q : Fin 22528), i = ix2 p q := ⟨i 0, i 1, eq_ix2 i⟩
  have hp := p.isLt
  have hq := q.isLt
  refine ⟨⟨q.val / 1024 * 16 + p.val / 512, lt_of_lt_of_eq (by omega) N_0.symm⟩,
    ix2 ⟨p.val % 512, Nat.mod_lt _ (by decide)⟩ ⟨q.val % 1024, Nat.mod_lt _ (by decide)⟩, ?_⟩
  rw [emb_out]
  exact congrArg₂ ix2
    (Fin.ext (by show (q.val / 1024 * 16 + p.val / 512) % 16 * 512 + p.val % 512 = p.val; omega))
    (Fin.ext (by show (q.val / 1024 * 16 + p.val / 512) / 16 % 22 * 1024 + q.val % 1024 = q.val; omega))

theorem final : (dats m 0 c).arrAt 2 cfg0.N = product (V m c main_arg0) (V m c main_arg1) :=
  (dats m 0 c).arrAt_eq_of_cover 2 (product (V m c main_arg0) (V m c main_arg1))
    (fun t _ => by
      rw [flushed2]
      have e (G : Vec Ideal S8192x22528 .f32) (y : S512x1024.Idx) :
          ((cfg0.win 2).blk t).view.read (Elt Ideal) G y = G (ix2 (row t.val (y 0)) (col t.val (y 1))) :=
        congrArg G ((congrArg _ (eq_ix2 y)).trans (emb_out t (y 0) (y 1)))
      refine funext fun (y : S512x1024.Idx) => ?_
      refine Eq.trans ?_ (e _ y).symm
      rw [eq_ix2 y]
      exact point m c t (y 0) (y 1))
    (fun (i : S8192x22528.Idx) => let ⟨t, y, h⟩ := covered i; ⟨t, flush0_2 t, h ▸ ((cfg0.win 2).blk t).view.emb_mem_set y⟩)

end Cert.InProjIdeal.Run

namespace Cert.Proof.InProj

open Idealize.ShloMosaic Idealize.ShloMosaic.TcCoe Idealize.SL.Sem

theorem frame_refIdeal : Cert.quiescent_InProjRefIdeal := fun m g _ =>
  (θ_run Cert.InProjRefIdeal.defs _ _).mono
    (fun r h => ⟨fun c => (h c).2, sem_eq_zero_of_no_sems (by decide) r.2⟩) (Cert.InProjRefIdeal.Value.run m g)

open Cert.InProjRefIdeal Cert.InProjRefIdeal.Gen in
theorem ref_product (a : FVec Ideal S8192x2048 .bf16) (b : FVec Ideal S2048x22528 .bf16) :
    Host.dotGeneral dot_S8192x2048_S2048x22528_S8192x22528_1_0_0_1_n_n none (extf .f32 a bitsLt_bf16_f32) (extf .f32 b bitsLt_bf16_f32)
      = Cert.InProjIdeal.Run.product a b := by
  refine funext fun (j : S8192x22528.Idx) => ?_
  obtain ⟨i, q, rfl⟩ : ∃ (i : Fin 8192) (q : Fin 22528), j = ix2 i q := ⟨j 0, j 1, eq_ix2 j⟩
  unfold Cert.InProjIdeal.Run.product
  pointwise

theorem algebraic : Cert.algebraic_InProjIdeal_InProjRefIdeal := fun m g m' g' _ hA => by
  refine ⟨_, (θ_run Cert.InProjIdeal.defs _ _).mono (fun r h c => ⟨(h c).1.trans (Cert.InProjIdeal.Run.final m c), (h c).2⟩)
      (Cert.InProjIdeal.Value.run_blocks m g),
    (θ_run Cert.InProjRefIdeal.defs _ _).mono (fun r h c => ?_) (Cert.InProjRefIdeal.Value.run m' g')⟩
  obtain ⟨h0, hk⟩ := h c
  obtain ⟨a0, a1⟩ := hA c
  rw [a0, a1] at h0
  exact ⟨h0.trans (ref_product ..), hk⟩

end Cert.Proof.InProj

end
-- ==== Proof.StepProjClaims.lean ====
/-
  The claims of the projection to the step sizes. Point `t` multiplies a block of the one operand by a block of the other, over the whole
  inner length, so that its block of the result is the block of the whole product (`point`).
-/
module

public import proofs.«01_k».proof.Proof.Adam
public import proofs.«01_k».proof.Proof.Gen.StepProj.Frame
public import proofs.«01_k».proof.Proof.Gen.StepProjIdeal.Value
public import proofs.«01_k».proof.Proof.Gen.StepProjRefIdeal.Run

@[expose] public section

noncomputable section

namespace Cert.StepProjIdeal.Run

open Idealize.ShloMosaic Idealize.ShloMosaic.TcCoe Idealize.SL.Sem
open Cert.StepProjIdeal Cert.StepProjIdeal.Gen Cert.StepProjIdeal.Value

theorem out_apply (a : Vec Ideal S512x2048 .bf16) (b : Vec Ideal S2048x128 .bf16) (p : Fin 512) (q : Fin 128) :
    out0_2 a b (ix2 p q) = ∑ k : Fin 2048, (a (ix2 p k) : EReal) * b (ix2 k q) := by
  rw [out0_2, View.canon_unit_zero Adam.zero2, View.ld_unit_zero Adam.zero2, View.ld_unit_zero Adam.zero2]
  unfold k0_pay1
  pointwise

/-! ## A point's blocks -/

variable (m : (ℓ : Loc nD τ sig) → Buf (Elt Ideal) ℓ) (c : Dev nD)

/-- The row of the result that is row `p` of point `n`'s block. -/
def row (n : Nat) (p : Fin 512) : Fin 8192 := ⟨n % 16 * 512 + p.val, by
  have := p.isLt
  omega⟩

/-- The column of the result that is column `q` of point `n`'s block. -/
def col (n : Nat) (q : Fin 128) : Fin 128 := ⟨n / 16 % 1 * 128 + q.val, by
  have := q.isLt
  omega⟩

theorem index_a : ∀ t : Fin cfg0.N, win0_0.index t (0 : Fin 2) = t.val % 16 ∧ win0_0.index t (1 : Fin 2) = 0 :=
  (by decide +kernel : ∀ t : Fin grid0.N, _)

theorem index_b : ∀ t : Fin cfg0.N, win0_1.index t (0 : Fin 2) = 0 ∧ win0_1.index t (1 : Fin 2) = t.val / 16 % 1 :=
  (by decide +kernel : ∀ t : Fin grid0.N, _)

theorem index_out : ∀ t : Fin cfg0.N, win0_2.index t (0 : Fin 2) = t.val % 16 ∧ win0_2.index t (1 : Fin 2) = t.val / 16 % 1 :=
  (by decide +kernel : ∀ t : Fin grid0.N, _)

theorem block_a (t : Fin cfg0.N) (k : Fin 2048) (p : Fin 512) : iblk m c 0 t (ix2 p k) = V m c main_arg0 (ix2 (row t.val p) k) := by
  obtain ⟨h0, h1⟩ := index_a t
  refine congrArg (V m c main_arg0) (?_ : ((cfg0.win 0).blk t).view.emb (ix2 p k) = _)
  funext a; apply Fin.ext
  match a with
  | ⟨0, _⟩ => show win0_0.index t (0 : Fin 2) * 512 + 1 * p.val = t.val % 16 * 512 + p.val; omega
  | ⟨1, _⟩ => show win0_0.index t (1 : Fin 2) * 2048 + 1 * k.val = k.val; omega

theorem block_b (t : Fin cfg0.N) (k : Fin 2048) (q : Fin 128) : iblk m c 1 t (ix2 k q) = V m c main_arg1 (ix2 k (col t.val q)) := by
  obtain ⟨h0, h1⟩ := index_b t
  refine congrArg (V m c main_arg1) (?_ : ((cfg0.win 1).blk t).view.emb (ix2 k q) = _)
  funext a; apply Fin.ext
  match a with
  | ⟨0, _⟩ => show win0_1.index t (0 : Fin 2) * 2048 + 1 * k.val = k.val; omega
  | ⟨1, _⟩ => show win0_1.index t (1 : Fin 2) * 128 + 1 * q.val = t.val / 16 % 1 * 128 + q.val; omega

theorem emb_out (t : Fin cfg0.N) (p : Fin 512) (q : Fin 128) :
    ((cfg0.win 2).blk t).view.emb (ix2 p q) = ix2 (row t.val p) (col t.val q) := by
  obtain ⟨h0, h1⟩ := index_out t
  funext a; apply Fin.ext
  match a with
  | ⟨0, _⟩ => show win0_2.index t (0 : Fin 2) * 512 + 1 * p.val = t.val % 16 * 512 + p.val; omega
  | ⟨1, _⟩ => show win0_2.index t (1 : Fin 2) * 128 + 1 * q.val = t.val / 16 % 1 * 128 + q.val; omega

/-- The product. -/
def product (a : Vec Ideal S8192x2048 .bf16) (b : Vec Ideal S2048x128 .bf16) : Vec Ideal S8192x128 .f32 := fun j =>
  ∑ k : Fin 2048, (a (ix2 (j 0) k) : EReal) * b (ix2 k (j 1))

theorem point (t : Fin cfg0.N) (p : Fin 512) (q : Fin 128) :
    out0_2 (iblk m c 0 t) (iblk m c 1 t) (ix2 p q) = product (V m c main_arg0) (V m c main_arg1) (ix2 (row t.val p) (col t.val q)) := by
  rw [out_apply]
  simp only [block_a, block_b]
  rfl

/-! ## The array after the run -/

theorem covered (i : S8192x128.Idx) : ∃ (t : Fin cfg0.N) (y : S512x128.Idx), ((cfg0.win 2).blk t).view.emb y = i := by
  obtain ⟨p, q, rfl⟩ : ∃ (p : Fin 8192) (q : Fin 128), i = ix2 p q := ⟨i 0, i 1, eq_ix2 i⟩
  have hp := p.isLt
  have hq := q.isLt
  refine ⟨⟨q.val / 128 * 16 + p.val / 512, lt_of_lt_of_eq (by omega) N_0.symm⟩,
    ix2 ⟨p.val % 512, Nat.mod_lt _ (by decide)⟩ ⟨q.val % 128, Nat.mod_lt _ (by decide)⟩, ?_⟩
  rw [emb_out]
  exact congrArg₂ ix2
    (Fin.ext (by show (q.val / 128 * 16 + p.val / 512) % 16 * 512 + p.val % 512 = p.val; omega))
    (Fin.ext (by show (q.val / 128 * 16 + p.val / 512) / 16 % 1 * 128 + q.val % 128 = q.val; omega))

theorem final : (dats m 0 c).arrAt 2 cfg0.N = product (V m c main_arg0) (V m c main_arg1) :=
  (dats m 0 c).arrAt_eq_of_cover 2 (product (V m c main_arg0) (V m c main_arg1))
    (fun t _ => by
      rw [flushed2]
      have e (G : Vec Ideal S8192x128 .f32) (y : S512x128.Idx) :
          ((cfg0.win 2).blk t).view.read (Elt Ideal) G y = G (ix2 (row t.val (y 0)) (col t.val (y 1))) :=
        congrArg G ((congrArg _ (eq_ix2 y)).trans (emb_out t (y 0) (y 1)))
      refine funext fun (y : S512x128.Idx) => ?_
      refine Eq.trans ?_ (e _ y).symm
      rw [eq_ix2 y]
      exact point m c t (y 0) (y 1))
    (fun (i : S8192x128.Idx) => let ⟨t, y, h⟩ := covered i; ⟨t, flush0_2 t, h ▸ ((cfg0.win 2).blk t).view.emb_mem_set y⟩)

end Cert.StepProjIdeal.Run

namespace Cert.Proof.StepProj

open Idealize.ShloMosaic Idealize.ShloMosaic.TcCoe Idealize.SL.Sem

theorem frame_refIdeal : Cert.quiescent_StepProjRefIdeal := fun m g _ =>
  (θ_run Cert.StepProjRefIdeal.defs _ _).mono
    (fun r h => ⟨fun c => (h c).2, sem_eq_zero_of_no_sems (by decide) r.2⟩) (Cert.StepProjRefIdeal.Value.run m g)

open Cert.StepProjRefIdeal Cert.StepProjRefIdeal.Gen in
theorem ref_product (a : FVec Ideal S8192x2048 .bf16) (b : FVec Ideal S2048x128 .bf16) :
    Host.dotGeneral dot_S8192x2048_S2048x128_S8192x128_1_0_0_1_n_n none (extf .f32 a bitsLt_bf16_f32) (extf .f32 b bitsLt_bf16_f32)
      = Cert.StepProjIdeal.Run.product a b := by
  refine funext fun (j : S8192x128.Idx) => ?_
  obtain ⟨i, q, rfl⟩ : ∃ (i : Fin 8192) (q : Fin 128), j = ix2 i q := ⟨j 0, j 1, eq_ix2 j⟩
  unfold Cert.StepProjIdeal.Run.product
  pointwise

theorem algebraic : Cert.algebraic_StepProjIdeal_StepProjRefIdeal := fun m g m' g' _ hA => by
  refine ⟨_, (θ_run Cert.StepProjIdeal.defs _ _).mono (fun r h c => ⟨(h c).1.trans (Cert.StepProjIdeal.Run.final m c), (h c).2⟩)
      (Cert.StepProjIdeal.Value.run_blocks m g),
    (θ_run Cert.StepProjRefIdeal.defs _ _).mono (fun r h c => ?_) (Cert.StepProjRefIdeal.Value.run m' g')⟩
  obtain ⟨h0, hk⟩ := h c
  obtain ⟨a0, a1⟩ := hA c
  rw [a0, a1] at h0
  exact ⟨h0.trans (ref_product ..), hk⟩

end Cert.Proof.StepProj

end
-- ==== Proof.Products.lean ====
/-
  A matrix product whose inner length is walked in blocks: the points of one block of the result add their blocks' products in a
  scratch, and the last of them writes the sum. `stored` is the fact about one entry, whatever the shapes.
-/
module

public import proofs.«01_k».proof.Proof.Norm

@[expose] public section

namespace Products

variable {N n : Nat} (kept out val : ∀ i, i < N → EReal)

/-- Along one block's points the scratch holds the sum of the values so far. -/
theorem kept_eq (first : ∀ i (h : i < N), i % n = 0 → kept i h = val i h)
    (next : ∀ i (h : i + 1 < N), (i + 1) % n ≠ 0 → (i + 1) % n ≠ n - 1 → kept (i + 1) h = kept i (Nat.lt_of_succ_lt h) + val (i + 1) h)
    (p : Nat → EReal) (s : Nat) (hs : s % n = 0) : ∀ d (hd : d + 1 < n) (h : s + d < N),
    (∀ e (he : e ≤ d), p e = val (s + e) (by omega)) → kept (s + d) h = Norm.upto p d
  | 0, _, h, hp => (first s h hs).trans (hp 0 (Nat.le_refl 0)).symm
  | d + 1, hd, h, hp => by
    have hm : (s + d + 1) % n = d + 1 := by
      rw [Nat.add_assoc, Nat.add_mod, hs, Nat.zero_add, Nat.mod_mod, Nat.mod_eq_of_lt (by omega)]
    refine (next (s + d) h (by omega) (by omega)).trans ?_
    rw [kept_eq first next p s hs d (by omega) (by omega) fun e he => hp e (by omega)]
    exact congrArg (Norm.upto p d + ·) (hp (d + 1) (Nat.le_refl _)).symm

/-- The entry that the last of a block's points writes is the sum over the whole inner length. -/
theorem stored {b K : Nat} (h2 : 2 ≤ n) (hK : n * b = K)
    (first : ∀ i (h : i < N), i % n = 0 → kept i h = val i h)
    (next : ∀ i (h : i + 1 < N), (i + 1) % n ≠ 0 → (i + 1) % n ≠ n - 1 → kept (i + 1) h = kept i (Nat.lt_of_succ_lt h) + val (i + 1) h)
    (last : ∀ i (h : i + 1 < N), (i + 1) % n = n - 1 → out (i + 1) h = kept i (Nat.lt_of_succ_lt h) + val (i + 1) h)
    (t : Nat) (h : t < N) (ht : t % n = n - 1) (g : Fin K → EReal)
    (blocks : ∀ d (hd : d < n) (h' : t - (n - 1) + d < N), val (t - (n - 1) + d) h' = ∑ k : Fin b, g ⟨d * b + k.val, by
      have := k.isLt; subst hK
      calc d * b + k.val < d * b + b := by omega
        _ = (d + 1) * b := by rw [Nat.add_mul, Nat.one_mul]
        _ ≤ n * b := Nat.mul_le_mul_right _ (by omega)⟩) : out t h = ∑ k, g k := by
  obtain ⟨m, rfl⟩ : ∃ m, n = m + 2 := ⟨n - 2, by omega⟩
  have hle : m + 1 ≤ t := by have := Nat.mod_le t (m + 2); omega
  obtain ⟨s, rfl⟩ : ∃ s, t = s + m + 1 := ⟨t - (m + 1), by omega⟩
  have hs : s % (m + 2) = 0 := by
    have e := Nat.div_add_mod (s + m + 1) (m + 2)
    have : s = (m + 2) * ((s + m + 1) / (m + 2)) := by omega
    rw [this, Nat.mul_mod_right]
  have es (d : Nat) : s + m + 1 - (m + 2 - 1) + d = s + d := by omega
  let p : Nat → EReal := fun d => if h : s + d < N then val (s + d) h else 0
  have hp (d : Nat) (hd : s + d < N) : p d = val (s + d) hd := dif_pos hd
  rw [last (s + m) h ht, kept_eq kept val first next p s hs m (by omega) (by omega) fun e he => hp e (by omega)]
  refine (congrArg (Norm.upto p m + ·) (hp (m + 1) h).symm).trans ?_
  refine Norm.upto_rows (b := b) (J := m + 1) hK g p fun d hd => ?_
  have hl : s + d < N := by omega
  rw [hp d hl]
  have e := blocks d hd (by rw [es]; exact hl)
  simp only [es] at e
  exact e

end Products

end
-- ==== Proof.SsmProjClaims.lean ====
/-
  The claims of the projection of the second branch. The inner length is walked in 2 blocks: the points of a block of the
  result add their blocks' products in a scratch, and the last of them writes the sum (`stored`).
-/
module

public import proofs.«01_k».proof.Proof.Adam
public import proofs.«01_k».proof.Proof.Products
public import proofs.«01_k».proof.Proof.Gen.SsmProj.Frame
public import proofs.«01_k».proof.Proof.Gen.SsmProjIdeal.Value
public import proofs.«01_k».proof.Proof.Gen.SsmProjRefIdeal.Run

@[expose] public section

noncomputable section

namespace Cert.SsmProjIdeal.Run

open Idealize.ShloMosaic Idealize.ShloMosaic.TcCoe Idealize.SL.Sem
open Cert.SsmProjIdeal Cert.SsmProjIdeal.Gen Cert.SsmProjIdeal.Value

/-! ## What a point leaves -/

section Block

variable {F : FTy → Type} [FloatOps F]
variable (c : Dev nD) (i : grid0.Coords) (a3 : Memref sig .tc .vmem S512x2048 .bf16) (h3 : a3.IsWhole)
  (a4 : Memref sig .tc .vmem S2048x1024 .bf16) (h4 : a4.IsWhole) (a5 : Memref sig .tc .vmem S512x1024 .f32) (h5 : a5.IsWhole)
  (a6 : Memref sig .tc .vmem S512x1024 .f32) (h6 : a6.IsWhole)
  (x0 : Vec F S512x2048 .bf16) (x1 : Vec F S2048x1024 .bf16) (xs : Vec F S512x1024 .f32)

theorem scratch_first (hc : cond0_0 i) (hc1 : ¬cond0_1 i) (hc2 : ¬cond0_2 i) :
    sout0_A_0 c i a3 h3 a4 h4 a5 h5 a6 h6 hc hc1 hc2 x0 x1 = k0_pay1 x0 x1 := by
  unfold sout0_A_0
  rw [View.read_writes_eq_canon _ _ _ (scover0_A_0 c i a3 h3 a4 h4 a5 h5 a6 h6 hc hc1 hc2 x0 x1)]
  unfold kernelRun0_A
  dsimp only
  sl_unfold_words
  rw [View.canon_unit_zero Adam.zero2]
  unfold k0_pay2
  simp only [View.readAt_eq_ld, h3.read_unread, h4.read_unread,
    View.ld_unit_zero (S := S512x2048) Adam.zero2, View.ld_unit_zero (S := S2048x1024) Adam.zero2, shapeCast_self]

theorem stored_last (hc : ¬cond0_0 i) (hc1 : cond0_1 i) (hc2 : cond0_2 i) :
    out0_B_2 c i a3 h3 a4 h4 a5 h5 a6 h6 hc hc1 hc2 x0 x1 xs = addf xs (k0_pay1 x0 x1) := by
  unfold out0_B_2
  rw [View.read_writes_eq_canon _ _ _ (cover0_B_2 c i a3 h3 a4 h4 a5 h5 a6 h6 hc hc1 hc2 x0 x1 xs)]
  unfold kernelRun0_B
  dsimp only
  sl_unfold_words
  rw [View.canon_unit_zero Adam.zero2, View.readCov_cons_toLoadRect]
  unfold k0_pay3
  simp only [View.readAt_eq_ld, h3.read_unread, h4.read_unread, h6.read_unread,
    View.ld_unit_zero (S := S512x2048) Adam.zero2, View.ld_unit_zero (S := S2048x1024) Adam.zero2, View.ld_unit_zero (S := S512x1024) Adam.zero2, shapeCast_self]

end Block

theorem pay_apply (a : Vec Ideal S512x2048 .bf16) (b : Vec Ideal S2048x1024 .bf16) (p : Fin 512) (q : Fin 1024) :
    k0_pay1 a b (ix2 p q) = ∑ k : Fin 2048, (a (ix2 p k) : EReal) * b (ix2 k q) := by
  unfold k0_pay1
  pointwise

theorem next_apply (xs : Vec Ideal S512x1024 .f32) (a : Vec Ideal S512x2048 .bf16) (b : Vec Ideal S2048x1024 .bf16) (p : Fin 512) (q : Fin 1024) :
    addf xs (k0_pay1 a b) (ix2 p q) = (xs (ix2 p q) : EReal) + k0_pay1 a b (ix2 p q) := rfl

/-! ## A point's blocks -/

variable (m : (ℓ : Loc nD τ sig) → Buf (Elt Ideal) ℓ) (c : Dev nD)

/-- The row of the result that is row `p` of point `n`'s block. -/
def row (n : Nat) (p : Fin 512) : Fin 8192 := ⟨n / 2 % 16 * 512 + p.val, by
  have := p.isLt
  omega⟩

/-- The column of the result that is column `q` of point `n`'s block. -/
def col (n : Nat) (q : Fin 1024) : Fin 2048 := ⟨n / 32 % 2 * 1024 + q.val, by
  have := q.isLt
  omega⟩

/-- The place of the inner length that is place `k` of point `n`'s blocks. -/
def inner (n : Nat) (k : Fin 2048) : Fin 4096 := ⟨n % 2 * 2048 + k.val, by
  have := k.isLt
  omega⟩

theorem index_a : ∀ t : Fin cfg0.N, win0_0.index t (0 : Fin 2) = t.val / 2 % 16 ∧ win0_0.index t (1 : Fin 2) = t.val % 2 :=
  (by decide +kernel : ∀ t : Fin grid0.N, _)

theorem index_b : ∀ t : Fin cfg0.N, win0_1.index t (0 : Fin 2) = t.val % 2 ∧ win0_1.index t (1 : Fin 2) = t.val / 32 % 2 :=
  (by decide +kernel : ∀ t : Fin grid0.N, _)

theorem index_out : ∀ t : Fin cfg0.N, win0_2.index t (0 : Fin 2) = t.val / 2 % 16 ∧ win0_2.index t (1 : Fin 2) = t.val / 32 % 2 :=
  (by decide +kernel : ∀ t : Fin grid0.N, _)

theorem block_a (t : Fin cfg0.N) (k : Fin 2048) (p : Fin 512) : iblk m c 0 t (ix2 p k) = V m c main_arg0 (ix2 (row t.val p) (inner t.val k)) := by
  obtain ⟨h0, h1⟩ := index_a t
  refine congrArg (V m c main_arg0) (?_ : ((cfg0.win 0).blk t).view.emb (ix2 p k) = _)
  funext a; apply Fin.ext
  match a with
  | ⟨0, _⟩ => show win0_0.index t (0 : Fin 2) * 512 + 1 * p.val = t.val / 2 % 16 * 512 + p.val; omega
  | ⟨1, _⟩ => show win0_0.index t (1 : Fin 2) * 2048 + 1 * k.val = t.val % 2 * 2048 + k.val; omega

theorem block_b (t : Fin cfg0.N) (k : Fin 2048) (q : Fin 1024) : iblk m c 1 t (ix2 k q) = V m c main_arg1 (ix2 (inner t.val k) (col t.val q)) := by
  obtain ⟨h0, h1⟩ := index_b t
  refine congrArg (V m c main_arg1) (?_ : ((cfg0.win 1).blk t).view.emb (ix2 k q) = _)
  funext a; apply Fin.ext
  match a with
  | ⟨0, _⟩ => show win0_1.index t (0 : Fin 2) * 2048 + 1 * k.val = t.val % 2 * 2048 + k.val; omega
  | ⟨1, _⟩ => show win0_1.index t (1 : Fin 2) * 1024 + 1 * q.val = t.val / 32 % 2 * 1024 + q.val; omega

theorem emb_out (t : Fin cfg0.N) (p : Fin 512) (q : Fin 1024) :
    ((cfg0.win 2).blk t).view.emb (ix2 p q) = ix2 (row t.val p) (col t.val q) := by
  obtain ⟨h0, h1⟩ := index_out t
  funext a; apply Fin.ext
  match a with
  | ⟨0, _⟩ => show win0_2.index t (0 : Fin 2) * 512 + 1 * p.val = t.val / 2 % 16 * 512 + p.val; omega
  | ⟨1, _⟩ => show win0_2.index t (1 : Fin 2) * 1024 + 1 * q.val = t.val / 32 % 2 * 1024 + q.val; omega

/-- The product. -/
def product (a : Vec Ideal S8192x4096 .bf16) (b : Vec Ideal S4096x2048 .bf16) : Vec Ideal S8192x2048 .f32 := fun j =>
  ∑ k : Fin 4096, (a (ix2 (j 0) k) : EReal) * b (ix2 k (j 1))

theorem stored (t : Fin cfg0.N) (h : t.val % 2 = 1) (p : Fin 512) (q : Fin 1024) :
    (outsAt0 m c t.val t.isLt).1 (ix2 p q) = product (V m c main_arg0) (V m c main_arg1) (ix2 (row t.val p) (col t.val q)) := by
  refine Products.stored (n := 2) (b := 2048) (K := 4096) (fun n h => (outsAt0 m c n h).2 (ix2 p q)) (fun n h => (outsAt0 m c n h).1 (ix2 p q))
    (fun n h => k0_pay1 (iblk m c 0 ⟨n, h⟩) (iblk m c 1 ⟨n, h⟩) (ix2 p q)) (by decide) (by decide) ?_ ?_ ?_ t.val t.isLt h _ ?_
  · intro n hn h0
    have e : outsAt0 m c n hn = _ := outsAt0_A m c ⟨n, hn⟩ h0 (by dsimp only; omega) (by dsimp only; omega)
    rw [e]
    dsimp only
    rw [scratch_first]
  · intro n hn h0 h1
    omega
  · intro n hn h0
    have e : outsAt0 m c (n + 1) hn = _ := outsAt0_B m c ⟨n + 1, hn⟩ (by dsimp only; omega) (by dsimp only; omega) h0
    rw [e]
    dsimp only
    rw [stored_last, next_apply]
    rfl
  · intro d hd h'
    have er : row (t.val - 1 + d) p = row t.val p := Fin.ext (by
      show (t.val - 1 + d) / 2 % 16 * 512 + p.val = t.val / 2 % 16 * 512 + p.val
      omega)
    have ec : col (t.val - 1 + d) q = col t.val q := Fin.ext (by
      show (t.val - 1 + d) / 32 % 2 * 1024 + q.val = t.val / 32 % 2 * 1024 + q.val
      omega)
    have ei (k : Fin 2048) : inner (t.val - 1 + d) k = ⟨d * 2048 + k.val, by have := k.isLt; omega⟩ := Fin.ext (by
      show (t.val - 1 + d) % 2 * 2048 + k.val = d * 2048 + k.val
      omega)
    refine (pay_apply _ _ p q).trans (Finset.sum_congr rfl fun k _ => ?_)
    refine (congrArg₂ (fun x y : EReal => x * y) (block_a m c ⟨t.val - 1 + d, h'⟩ k p) (block_b m c ⟨t.val - 1 + d, h'⟩ k q)).trans ?_
    dsimp only
    rw [er, ec, ei]
    rfl

/-! ## The array after the run -/

theorem covered (i : S8192x2048.Idx) : ∃ (t : Fin cfg0.N) (y : S512x1024.Idx), t.val % 2 = 1 ∧ ((cfg0.win 2).blk t).view.emb y = i := by
  obtain ⟨p, q, rfl⟩ : ∃ (p : Fin 8192) (q : Fin 2048), i = ix2 p q := ⟨i 0, i 1, eq_ix2 i⟩
  have hp := p.isLt
  have hq := q.isLt
  refine ⟨⟨q.val / 1024 * 32 + p.val / 512 * 2 + 1, lt_of_lt_of_eq (by omega) N_0.symm⟩,
    ix2 ⟨p.val % 512, Nat.mod_lt _ (by decide)⟩ ⟨q.val % 1024, Nat.mod_lt _ (by decide)⟩, by dsimp only; omega, ?_⟩
  rw [emb_out]
  exact congrArg₂ ix2
    (Fin.ext (by show (q.val / 1024 * 32 + p.val / 512 * 2 + 1) / 2 % 16 * 512 + p.val % 512 = p.val; omega))
    (Fin.ext (by show (q.val / 1024 * 32 + p.val / 512 * 2 + 1) / 32 % 2 * 1024 + q.val % 1024 = q.val; omega))

theorem final : (dats m 0 c).arrAt 2 cfg0.N = product (V m c main_arg0) (V m c main_arg1) :=
  (dats m 0 c).arrAt_eq_of_cover 2 (product (V m c main_arg0) (V m c main_arg1))
    (fun t hf => by
      have h := (flush0_2 t).mp hf
      rw [flushed2]
      have e (G : Vec Ideal S8192x2048 .f32) (y : S512x1024.Idx) :
          ((cfg0.win 2).blk t).view.read (Elt Ideal) G y = G (ix2 (row t.val (y 0)) (col t.val (y 1))) :=
        congrArg G ((congrArg _ (eq_ix2 y)).trans (emb_out t (y 0) (y 1)))
      refine funext fun (y : S512x1024.Idx) => ?_
      refine Eq.trans ?_ (e _ y).symm
      rw [eq_ix2 y]
      exact stored m c t h (y 0) (y 1))
    (fun (i : S8192x2048.Idx) => let ⟨t, y, ht, h⟩ := covered i; ⟨t, (flush0_2 t).mpr ht, h ▸ ((cfg0.win 2).blk t).view.emb_mem_set y⟩)

end Cert.SsmProjIdeal.Run

namespace Cert.Proof.SsmProj

open Idealize.ShloMosaic Idealize.ShloMosaic.TcCoe Idealize.SL.Sem

theorem frame_refIdeal : Cert.quiescent_SsmProjRefIdeal := fun m g _ =>
  (θ_run Cert.SsmProjRefIdeal.defs _ _).mono
    (fun r h => ⟨fun c => (h c).2, sem_eq_zero_of_no_sems (by decide) r.2⟩) (Cert.SsmProjRefIdeal.Value.run m g)

open Cert.SsmProjRefIdeal Cert.SsmProjRefIdeal.Gen in
theorem ref_product (a : FVec Ideal S8192x4096 .bf16) (b : FVec Ideal S4096x2048 .bf16) :
    Host.dotGeneral dot_S8192x4096_S4096x2048_S8192x2048_1_0_0_1_n_n none (extf .f32 a bitsLt_bf16_f32) (extf .f32 b bitsLt_bf16_f32)
      = Cert.SsmProjIdeal.Run.product a b := by
  refine funext fun (j : S8192x2048.Idx) => ?_
  obtain ⟨i, q, rfl⟩ : ∃ (i : Fin 8192) (q : Fin 2048), j = ix2 i q := ⟨j 0, j 1, eq_ix2 j⟩
  unfold Cert.SsmProjIdeal.Run.product
  pointwise

theorem algebraic : Cert.algebraic_SsmProjIdeal_SsmProjRefIdeal := fun m g m' g' _ hA => by
  refine ⟨_, (θ_run Cert.SsmProjIdeal.defs _ _).mono (fun r h c => ⟨(h c).1.trans (Cert.SsmProjIdeal.Run.final m c), (h c).2⟩)
      (Cert.SsmProjIdeal.Value.run_blocks m g),
    (θ_run Cert.SsmProjRefIdeal.defs _ _).mono (fun r h c => ?_) (Cert.SsmProjRefIdeal.Value.run m' g')⟩
  obtain ⟨h0, hk⟩ := h c
  obtain ⟨a0, a1⟩ := hA c
  rw [a0, a1] at h0
  exact ⟨h0.trans (ref_product ..), hk⟩

end Cert.Proof.SsmProj

end
-- ==== Proof.SsmGradClaims.lean ====
/-
  The claims of the gradient of the second branch's weights. The inner length is walked in 16 blocks: the points of a block of the
  result add their blocks' products in a scratch, and the last of them writes the sum (`stored`).
-/
module

public import proofs.«01_k».proof.Proof.Adam
public import proofs.«01_k».proof.Proof.Products
public import proofs.«01_k».proof.Proof.Gen.SsmGrad.Frame
public import proofs.«01_k».proof.Proof.Gen.SsmGradIdeal.Value
public import proofs.«01_k».proof.Proof.Gen.SsmGradRefIdeal.Run

@[expose] public section

noncomputable section

namespace Cert.SsmGradIdeal.Run

open Idealize.ShloMosaic Idealize.ShloMosaic.TcCoe Idealize.SL.Sem
open Cert.SsmGradIdeal Cert.SsmGradIdeal.Gen Cert.SsmGradIdeal.Value

/-! ## What a point leaves -/

section Block

variable {F : FTy → Type} [FloatOps F]
variable (c : Dev nD) (i : grid0.Coords) (a3 : Memref sig .tc .vmem S512x1024 .bf16) (h3 : a3.IsWhole)
  (a4 : Memref sig .tc .vmem S512x1024 .bf16) (h4 : a4.IsWhole) (a5 : Memref sig .tc .vmem S1024x1024 .f32) (h5 : a5.IsWhole)
  (a6 : Memref sig .tc .vmem S1024x1024 .f32) (h6 : a6.IsWhole)
  (x0 : Vec F S512x1024 .bf16) (x1 : Vec F S512x1024 .bf16) (xs : Vec F S1024x1024 .f32)

theorem scratch_first (hc : cond0_0 i) (hc1 : ¬cond0_1 i) (hc2 : ¬cond0_2 i) :
    sout0_A_0 c i a3 h3 a4 h4 a5 h5 a6 h6 hc hc1 hc2 x0 x1 = k0_pay1 x0 x1 := by
  unfold sout0_A_0
  rw [View.read_writes_eq_canon _ _ _ (scover0_A_0 c i a3 h3 a4 h4 a5 h5 a6 h6 hc hc1 hc2 x0 x1)]
  unfold kernelRun0_A
  dsimp only
  sl_unfold_words
  rw [View.canon_unit_zero Adam.zero2]
  unfold k0_pay2
  simp only [View.readAt_eq_ld, h3.read_unread, h4.read_unread,
    View.ld_unit_zero (S := S512x1024) Adam.zero2, shapeCast_self]

theorem scratch_next (hc : ¬cond0_0 i) (hc1 : cond0_1 i) (hc2 : ¬cond0_2 i) :
    sout0_B_0 c i a3 h3 a4 h4 a5 h5 a6 h6 hc hc1 hc2 x0 x1 xs = addf xs (k0_pay1 x0 x1) := by
  unfold sout0_B_0
  rw [View.read_writes_eq_canon _ _ _ (scover0_B_0 c i a3 h3 a4 h4 a5 h5 a6 h6 hc hc1 hc2 x0 x1 xs)]
  unfold kernelRun0_B
  dsimp only
  sl_unfold_words
  rw [View.canon_unit_zero Adam.zero2]
  unfold k0_pay3
  simp only [View.readAt_eq_ld, h3.read_unread, h4.read_unread, h6.read_unread,
    View.ld_unit_zero (S := S512x1024) Adam.zero2, View.ld_unit_zero (S := S1024x1024) Adam.zero2, shapeCast_self]

theorem stored_last (hc : ¬cond0_0 i) (hc1 : cond0_1 i) (hc2 : cond0_2 i) :
    out0_C_2 c i a3 h3 a4 h4 a5 h5 a6 h6 hc hc1 hc2 x0 x1 xs = addf xs (k0_pay1 x0 x1) := by
  unfold out0_C_2
  rw [View.read_writes_eq_canon _ _ _ (cover0_C_2 c i a3 h3 a4 h4 a5 h5 a6 h6 hc hc1 hc2 x0 x1 xs)]
  unfold kernelRun0_C
  dsimp only
  sl_unfold_words
  rw [View.canon_unit_zero Adam.zero2, View.readCov_cons_toLoadRect]
  unfold k0_pay3
  simp only [View.readAt_eq_ld, h3.read_unread, h4.read_unread, h6.read_unread,
    View.ld_unit_zero (S := S512x1024) Adam.zero2, View.ld_unit_zero (S := S1024x1024) Adam.zero2, shapeCast_self]

end Block

theorem pay_apply (a : Vec Ideal S512x1024 .bf16) (b : Vec Ideal S512x1024 .bf16) (p : Fin 1024) (q : Fin 1024) :
    k0_pay1 a b (ix2 p q) = ∑ k : Fin 512, (a (ix2 k p) : EReal) * b (ix2 k q) := by
  unfold k0_pay1
  pointwise

theorem next_apply (xs : Vec Ideal S1024x1024 .f32) (a : Vec Ideal S512x1024 .bf16) (b : Vec Ideal S512x1024 .bf16) (p : Fin 1024) (q : Fin 1024) :
    addf xs (k0_pay1 a b) (ix2 p q) = (xs (ix2 p q) : EReal) + k0_pay1 a b (ix2 p q) := rfl

/-! ## A point's blocks -/

variable (m : (ℓ : Loc nD τ sig) → Buf (Elt Ideal) ℓ) (c : Dev nD)

/-- The row of the result that is row `p` of point `n`'s block. -/
def row (n : Nat) (p : Fin 1024) : Fin 4096 := ⟨n / 16 % 4 * 1024 + p.val, by
  have := p.isLt
  omega⟩

/-- The column of the result that is column `q` of point `n`'s block. -/
def col (n : Nat) (q : Fin 1024) : Fin 2048 := ⟨n / 64 % 2 * 1024 + q.val, by
  have := q.isLt
  omega⟩

/-- The place of the inner length that is place `k` of point `n`'s blocks. -/
def inner (n : Nat) (k : Fin 512) : Fin 8192 := ⟨n % 16 * 512 + k.val, by
  have := k.isLt
  omega⟩

theorem index_a : ∀ t : Fin cfg0.N, win0_0.index t (0 : Fin 2) = t.val % 16 ∧ win0_0.index t (1 : Fin 2) = t.val / 16 % 4 :=
  (by decide +kernel : ∀ t : Fin grid0.N, _)

theorem index_b : ∀ t : Fin cfg0.N, win0_1.index t (0 : Fin 2) = t.val % 16 ∧ win0_1.index t (1 : Fin 2) = t.val / 64 % 2 :=
  (by decide +kernel : ∀ t : Fin grid0.N, _)

theorem index_out : ∀ t : Fin cfg0.N, win0_2.index t (0 : Fin 2) = t.val / 16 % 4 ∧ win0_2.index t (1 : Fin 2) = t.val / 64 % 2 :=
  (by decide +kernel : ∀ t : Fin grid0.N, _)

theorem block_a (t : Fin cfg0.N) (k : Fin 512) (p : Fin 1024) : iblk m c 0 t (ix2 k p) = V m c main_arg0 (ix2 (inner t.val k) (row t.val p)) := by
  obtain ⟨h0, h1⟩ := index_a t
  refine congrArg (V m c main_arg0) (?_ : ((cfg0.win 0).blk t).view.emb (ix2 k p) = _)
  funext a; apply Fin.ext
  match a with
  | ⟨0, _⟩ => show win0_0.index t (0 : Fin 2) * 512 + 1 * k.val = t.val % 16 * 512 + k.val; omega
  | ⟨1, _⟩ => show win0_0.index t (1 : Fin 2) * 1024 + 1 * p.val = t.val / 16 % 4 * 1024 + p.val; omega

theorem block_b (t : Fin cfg0.N) (k : Fin 512) (q : Fin 1024) : iblk m c 1 t (ix2 k q) = V m c main_arg1 (ix2 (inner t.val k) (col t.val q)) := by
  obtain ⟨h0, h1⟩ := index_b t
  refine congrArg (V m c main_arg1) (?_ : ((cfg0.win 1).blk t).view.emb (ix2 k q) = _)
  funext a; apply Fin.ext
  match a with
  | ⟨0, _⟩ => show win0_1.index t (0 : Fin 2) * 512 + 1 * k.val = t.val % 16 * 512 + k.val; omega
  | ⟨1, _⟩ => show win0_1.index t (1 : Fin 2) * 1024 + 1 * q.val = t.val / 64 % 2 * 1024 + q.val; omega

theorem emb_out (t : Fin cfg0.N) (p : Fin 1024) (q : Fin 1024) :
    ((cfg0.win 2).blk t).view.emb (ix2 p q) = ix2 (row t.val p) (col t.val q) := by
  obtain ⟨h0, h1⟩ := index_out t
  funext a; apply Fin.ext
  match a with
  | ⟨0, _⟩ => show win0_2.index t (0 : Fin 2) * 1024 + 1 * p.val = t.val / 16 % 4 * 1024 + p.val; omega
  | ⟨1, _⟩ => show win0_2.index t (1 : Fin 2) * 1024 + 1 * q.val = t.val / 64 % 2 * 1024 + q.val; omega

/-- The product. -/
def product (a : Vec Ideal S8192x4096 .bf16) (b : Vec Ideal S8192x2048 .bf16) : Vec Ideal S4096x2048 .f32 := fun j =>
  ∑ k : Fin 8192, (a (ix2 k (j 0)) : EReal) * b (ix2 k (j 1))

theorem stored (t : Fin cfg0.N) (h : t.val % 16 = 15) (p : Fin 1024) (q : Fin 1024) :
    (outsAt0 m c t.val t.isLt).1 (ix2 p q) = product (V m c main_arg0) (V m c main_arg1) (ix2 (row t.val p) (col t.val q)) := by
  refine Products.stored (n := 16) (b := 512) (K := 8192) (fun n h => (outsAt0 m c n h).2 (ix2 p q)) (fun n h => (outsAt0 m c n h).1 (ix2 p q))
    (fun n h => k0_pay1 (iblk m c 0 ⟨n, h⟩) (iblk m c 1 ⟨n, h⟩) (ix2 p q)) (by decide) (by decide) ?_ ?_ ?_ t.val t.isLt h _ ?_
  · intro n hn h0
    have e : outsAt0 m c n hn = _ := outsAt0_A m c ⟨n, hn⟩ h0 (by dsimp only; omega) (by dsimp only; omega)
    rw [e]
    dsimp only
    rw [scratch_first]
  · intro n hn h0 h1
    have e : outsAt0 m c (n + 1) hn = _ := outsAt0_B m c ⟨n + 1, hn⟩ h0 (by dsimp only; omega) h1
    rw [e]
    dsimp only
    rw [scratch_next, next_apply]
    rfl
  · intro n hn h0
    have e : outsAt0 m c (n + 1) hn = _ := outsAt0_C m c ⟨n + 1, hn⟩ (by dsimp only; omega) (by dsimp only; omega) h0
    rw [e]
    dsimp only
    rw [stored_last, next_apply]
    rfl
  · intro d hd h'
    have er : row (t.val - 15 + d) p = row t.val p := Fin.ext (by
      show (t.val - 15 + d) / 16 % 4 * 1024 + p.val = t.val / 16 % 4 * 1024 + p.val
      omega)
    have ec : col (t.val - 15 + d) q = col t.val q := Fin.ext (by
      show (t.val - 15 + d) / 64 % 2 * 1024 + q.val = t.val / 64 % 2 * 1024 + q.val
      omega)
    have ei (k : Fin 512) : inner (t.val - 15 + d) k = ⟨d * 512 + k.val, by have := k.isLt; omega⟩ := Fin.ext (by
      show (t.val - 15 + d) % 16 * 512 + k.val = d * 512 + k.val
      omega)
    refine (pay_apply _ _ p q).trans (Finset.sum_congr rfl fun k _ => ?_)
    refine (congrArg₂ (fun x y : EReal => x * y) (block_a m c ⟨t.val - 15 + d, h'⟩ k p) (block_b m c ⟨t.val - 15 + d, h'⟩ k q)).trans ?_
    dsimp only
    rw [er, ec, ei]
    rfl

/-! ## The array after the run -/

theorem covered (i : S4096x2048.Idx) : ∃ (t : Fin cfg0.N) (y : S1024x1024.Idx), t.val % 16 = 15 ∧ ((cfg0.win 2).blk t).view.emb y = i := by
  obtain ⟨p, q, rfl⟩ : ∃ (p : Fin 4096) (q : Fin 2048), i = ix2 p q := ⟨i 0, i 1, eq_ix2 i⟩
  have hp := p.isLt
  have hq := q.isLt
  refine ⟨⟨q.val / 1024 * 64 + p.val / 1024 * 16 + 15, lt_of_lt_of_eq (by omega) N_0.symm⟩,
    ix2 ⟨p.val % 1024, Nat.mod_lt _ (by decide)⟩ ⟨q.val % 1024, Nat.mod_lt _ (by decide)⟩, by dsimp only; omega, ?_⟩
  rw [emb_out]
  exact congrArg₂ ix2
    (Fin.ext (by show (q.val / 1024 * 64 + p.val / 1024 * 16 + 15) / 16 % 4 * 1024 + p.val % 1024 = p.val; omega))
    (Fin.ext (by show (q.val / 1024 * 64 + p.val / 1024 * 16 + 15) / 64 % 2 * 1024 + q.val % 1024 = q.val; omega))

theorem final : (dats m 0 c).arrAt 2 cfg0.N = product (V m c main_arg0) (V m c main_arg1) :=
  (dats m 0 c).arrAt_eq_of_cover 2 (product (V m c main_arg0) (V m c main_arg1))
    (fun t hf => by
      have h := (flush0_2 t).mp hf
      rw [flushed2]
      have e (G : Vec Ideal S4096x2048 .f32) (y : S1024x1024.Idx) :
          ((cfg0.win 2).blk t).view.read (Elt Ideal) G y = G (ix2 (row t.val (y 0)) (col t.val (y 1))) :=
        congrArg G ((congrArg _ (eq_ix2 y)).trans (emb_out t (y 0) (y 1)))
      refine funext fun (y : S1024x1024.Idx) => ?_
      refine Eq.trans ?_ (e _ y).symm
      rw [eq_ix2 y]
      exact stored m c t h (y 0) (y 1))
    (fun (i : S4096x2048.Idx) => let ⟨t, y, ht, h⟩ := covered i; ⟨t, (flush0_2 t).mpr ht, h ▸ ((cfg0.win 2).blk t).view.emb_mem_set y⟩)

end Cert.SsmGradIdeal.Run

namespace Cert.Proof.SsmGrad

open Idealize.ShloMosaic Idealize.ShloMosaic.TcCoe Idealize.SL.Sem

theorem frame_refIdeal : Cert.quiescent_SsmGradRefIdeal := fun m g _ =>
  (θ_run Cert.SsmGradRefIdeal.defs _ _).mono
    (fun r h => ⟨fun c => (h c).2, sem_eq_zero_of_no_sems (by decide) r.2⟩) (Cert.SsmGradRefIdeal.Value.run m g)

open Cert.SsmGradRefIdeal Cert.SsmGradRefIdeal.Gen in
theorem ref_product (a : FVec Ideal S8192x4096 .bf16) (b : FVec Ideal S8192x2048 .bf16) :
    Host.dotGeneral dot_S4096x8192_S8192x2048_S4096x2048_1_0_0_1_n_n none (transpose S4096x8192 [1, 0] (extf .f32 a bitsLt_bf16_f32) transposes_S8192x4096_S4096x8192_1_0) (extf .f32 b bitsLt_bf16_f32)
      = Cert.SsmGradIdeal.Run.product a b := by
  refine funext fun (j : S4096x2048.Idx) => ?_
  obtain ⟨i, q, rfl⟩ : ∃ (i : Fin 4096) (q : Fin 2048), j = ix2 i q := ⟨j 0, j 1, eq_ix2 j⟩
  unfold Cert.SsmGradIdeal.Run.product
  pointwise

theorem algebraic : Cert.algebraic_SsmGradIdeal_SsmGradRefIdeal := fun m g m' g' _ hA => by
  refine ⟨_, (θ_run Cert.SsmGradIdeal.defs _ _).mono (fun r h c => ⟨(h c).1.trans (Cert.SsmGradIdeal.Run.final m c), (h c).2⟩)
      (Cert.SsmGradIdeal.Value.run_blocks m g),
    (θ_run Cert.SsmGradRefIdeal.defs _ _).mono (fun r h c => ?_) (Cert.SsmGradRefIdeal.Value.run m' g')⟩
  obtain ⟨h0, hk⟩ := h c
  obtain ⟨a0, a1⟩ := hA c
  rw [a0, a1] at h0
  exact ⟨h0.trans (ref_product ..), hk⟩

end Cert.Proof.SsmGrad

end
-- ==== Proof.ScanGradClaims.lean ====
/-
  The claims of the gradient of the gated norm's output. Point `t` multiplies a block of the one operand by a block of the other, over the whole
  inner length, so that its block of the result is the block of the whole product (`point`).
-/
module

public import proofs.«01_k».proof.Proof.Adam
public import proofs.«01_k».proof.Proof.Gen.ScanGrad.Frame
public import proofs.«01_k».proof.Proof.Gen.ScanGradIdeal.Value
public import proofs.«01_k».proof.Proof.Gen.ScanGradRefIdeal.Run

@[expose] public section

noncomputable section

namespace Cert.ScanGradIdeal.Run

open Idealize.ShloMosaic Idealize.ShloMosaic.TcCoe Idealize.SL.Sem
open Cert.ScanGradIdeal Cert.ScanGradIdeal.Gen Cert.ScanGradIdeal.Value

theorem out_apply (a : Vec Ideal S512x2048 .bf16) (b : Vec Ideal S1024x2048 .bf16) (p : Fin 512) (q : Fin 1024) :
    out0_2 a b (ix2 p q) = ∑ k : Fin 2048, (a (ix2 p k) : EReal) * b (ix2 q k) := by
  rw [out0_2, View.canon_unit_zero Adam.zero2, View.ld_unit_zero Adam.zero2, View.ld_unit_zero Adam.zero2]
  unfold k0_pay1
  pointwise

/-! ## A point's blocks -/

variable (m : (ℓ : Loc nD τ sig) → Buf (Elt Ideal) ℓ) (c : Dev nD)

/-- The row of the result that is row `p` of point `n`'s block. -/
def row (n : Nat) (p : Fin 512) : Fin 8192 := ⟨n % 16 * 512 + p.val, by
  have := p.isLt
  omega⟩

/-- The column of the result that is column `q` of point `n`'s block. -/
def col (n : Nat) (q : Fin 1024) : Fin 4096 := ⟨n / 16 % 4 * 1024 + q.val, by
  have := q.isLt
  omega⟩

theorem index_a : ∀ t : Fin cfg0.N, win0_0.index t (0 : Fin 2) = t.val % 16 ∧ win0_0.index t (1 : Fin 2) = 0 :=
  (by decide +kernel : ∀ t : Fin grid0.N, _)

theorem index_b : ∀ t : Fin cfg0.N, win0_1.index t (0 : Fin 2) = t.val / 16 % 4 ∧ win0_1.index t (1 : Fin 2) = 0 :=
  (by decide +kernel : ∀ t : Fin grid0.N, _)

theorem index_out : ∀ t : Fin cfg0.N, win0_2.index t (0 : Fin 2) = t.val % 16 ∧ win0_2.index t (1 : Fin 2) = t.val / 16 % 4 :=
  (by decide +kernel : ∀ t : Fin grid0.N, _)

theorem block_a (t : Fin cfg0.N) (k : Fin 2048) (p : Fin 512) : iblk m c 0 t (ix2 p k) = V m c main_arg0 (ix2 (row t.val p) k) := by
  obtain ⟨h0, h1⟩ := index_a t
  refine congrArg (V m c main_arg0) (?_ : ((cfg0.win 0).blk t).view.emb (ix2 p k) = _)
  funext a; apply Fin.ext
  match a with
  | ⟨0, _⟩ => show win0_0.index t (0 : Fin 2) * 512 + 1 * p.val = t.val % 16 * 512 + p.val; omega
  | ⟨1, _⟩ => show win0_0.index t (1 : Fin 2) * 2048 + 1 * k.val = k.val; omega

theorem block_b (t : Fin cfg0.N) (k : Fin 2048) (q : Fin 1024) : iblk m c 1 t (ix2 q k) = V m c main_arg1 (ix2 (col t.val q) k) := by
  obtain ⟨h0, h1⟩ := index_b t
  refine congrArg (V m c main_arg1) (?_ : ((cfg0.win 1).blk t).view.emb (ix2 q k) = _)
  funext a; apply Fin.ext
  match a with
  | ⟨0, _⟩ => show win0_1.index t (0 : Fin 2) * 1024 + 1 * q.val = t.val / 16 % 4 * 1024 + q.val; omega
  | ⟨1, _⟩ => show win0_1.index t (1 : Fin 2) * 2048 + 1 * k.val = k.val; omega

theorem emb_out (t : Fin cfg0.N) (p : Fin 512) (q : Fin 1024) :
    ((cfg0.win 2).blk t).view.emb (ix2 p q) = ix2 (row t.val p) (col t.val q) := by
  obtain ⟨h0, h1⟩ := index_out t
  funext a; apply Fin.ext
  match a with
  | ⟨0, _⟩ => show win0_2.index t (0 : Fin 2) * 512 + 1 * p.val = t.val % 16 * 512 + p.val; omega
  | ⟨1, _⟩ => show win0_2.index t (1 : Fin 2) * 1024 + 1 * q.val = t.val / 16 % 4 * 1024 + q.val; omega

/-- The product. -/
def product (a : Vec Ideal S8192x2048 .bf16) (b : Vec Ideal S4096x2048 .bf16) : Vec Ideal S8192x4096 .f32 := fun j =>
  ∑ k : Fin 2048, (a (ix2 (j 0) k) : EReal) * b (ix2 (j 1) k)

theorem point (t : Fin cfg0.N) (p : Fin 512) (q : Fin 1024) :
    out0_2 (iblk m c 0 t) (iblk m c 1 t) (ix2 p q) = product (V m c main_arg0) (V m c main_arg1) (ix2 (row t.val p) (col t.val q)) := by
  rw [out_apply]
  simp only [block_a, block_b]
  rfl

/-! ## The array after the run -/

theorem covered (i : S8192x4096.Idx) : ∃ (t : Fin cfg0.N) (y : S512x1024.Idx), ((cfg0.win 2).blk t).view.emb y = i := by
  obtain ⟨p, q, rfl⟩ : ∃ (p : Fin 8192) (q : Fin 4096), i = ix2 p q := ⟨i 0, i 1, eq_ix2 i⟩
  have hp := p.isLt
  have hq := q.isLt
  refine ⟨⟨q.val / 1024 * 16 + p.val / 512, lt_of_lt_of_eq (by omega) N_0.symm⟩,
    ix2 ⟨p.val % 512, Nat.mod_lt _ (by decide)⟩ ⟨q.val % 1024, Nat.mod_lt _ (by decide)⟩, ?_⟩
  rw [emb_out]
  exact congrArg₂ ix2
    (Fin.ext (by show (q.val / 1024 * 16 + p.val / 512) % 16 * 512 + p.val % 512 = p.val; omega))
    (Fin.ext (by show (q.val / 1024 * 16 + p.val / 512) / 16 % 4 * 1024 + q.val % 1024 = q.val; omega))

theorem final : (dats m 0 c).arrAt 2 cfg0.N = product (V m c main_arg0) (V m c main_arg1) :=
  (dats m 0 c).arrAt_eq_of_cover 2 (product (V m c main_arg0) (V m c main_arg1))
    (fun t _ => by
      rw [flushed2]
      have e (G : Vec Ideal S8192x4096 .f32) (y : S512x1024.Idx) :
          ((cfg0.win 2).blk t).view.read (Elt Ideal) G y = G (ix2 (row t.val (y 0)) (col t.val (y 1))) :=
        congrArg G ((congrArg _ (eq_ix2 y)).trans (emb_out t (y 0) (y 1)))
      refine funext fun (y : S512x1024.Idx) => ?_
      refine Eq.trans ?_ (e _ y).symm
      rw [eq_ix2 y]
      exact point m c t (y 0) (y 1))
    (fun (i : S8192x4096.Idx) => let ⟨t, y, h⟩ := covered i; ⟨t, flush0_2 t, h ▸ ((cfg0.win 2).blk t).view.emb_mem_set y⟩)

end Cert.ScanGradIdeal.Run

namespace Cert.Proof.ScanGrad

open Idealize.ShloMosaic Idealize.ShloMosaic.TcCoe Idealize.SL.Sem

theorem frame_refIdeal : Cert.quiescent_ScanGradRefIdeal := fun m g _ =>
  (θ_run Cert.ScanGradRefIdeal.defs _ _).mono
    (fun r h => ⟨fun c => (h c).2, sem_eq_zero_of_no_sems (by decide) r.2⟩) (Cert.ScanGradRefIdeal.Value.run m g)

open Cert.ScanGradRefIdeal Cert.ScanGradRefIdeal.Gen in
theorem ref_product (a : FVec Ideal S8192x2048 .bf16) (b : FVec Ideal S4096x2048 .bf16) :
    Host.dotGeneral dot_S8192x2048_S2048x4096_S8192x4096_1_0_0_1_n_n none (extf .f32 a bitsLt_bf16_f32) (transpose S2048x4096 [1, 0] (extf .f32 b bitsLt_bf16_f32) transposes_S4096x2048_S2048x4096_1_0)
      = Cert.ScanGradIdeal.Run.product a b := by
  refine funext fun (j : S8192x4096.Idx) => ?_
  obtain ⟨i, q, rfl⟩ : ∃ (i : Fin 8192) (q : Fin 4096), j = ix2 i q := ⟨j 0, j 1, eq_ix2 j⟩
  unfold Cert.ScanGradIdeal.Run.product
  pointwise

theorem algebraic : Cert.algebraic_ScanGradIdeal_ScanGradRefIdeal := fun m g m' g' _ hA => by
  refine ⟨_, (θ_run Cert.ScanGradIdeal.defs _ _).mono (fun r h c => ⟨(h c).1.trans (Cert.ScanGradIdeal.Run.final m c), (h c).2⟩)
      (Cert.ScanGradIdeal.Value.run_blocks m g),
    (θ_run Cert.ScanGradRefIdeal.defs _ _).mono (fun r h c => ?_) (Cert.ScanGradRefIdeal.Value.run m' g')⟩
  obtain ⟨h0, hk⟩ := h c
  obtain ⟨a0, a1⟩ := hA c
  rw [a0, a1] at h0
  exact ⟨h0.trans (ref_product ..), hk⟩

end Cert.Proof.ScanGrad

end
-- ==== Proof.MainGradClaims.lean ====
/-
  The claims of the gradient of the input projection's weights. The inner length is walked in 16 blocks: the points of a block of the
  result add their blocks' products in a scratch, and the last of them writes the sum (`stored`).
-/
module

public import proofs.«01_k».proof.Proof.Adam
public import proofs.«01_k».proof.Proof.Products
public import proofs.«01_k».proof.Proof.Gen.MainGrad.Frame
public import proofs.«01_k».proof.Proof.Gen.MainGradIdeal.Value
public import proofs.«01_k».proof.Proof.Gen.MainGradRefIdeal.Run

@[expose] public section

noncomputable section

namespace Cert.MainGradIdeal.Run

open Idealize.ShloMosaic Idealize.ShloMosaic.TcCoe Idealize.SL.Sem
open Cert.MainGradIdeal Cert.MainGradIdeal.Gen Cert.MainGradIdeal.Value

/-! ## What a point leaves -/

section Block

variable {F : FTy → Type} [FloatOps F]
variable (c : Dev nD) (i : grid0.Coords) (a3 : Memref sig .tc .vmem S512x1024 .bf16) (h3 : a3.IsWhole)
  (a4 : Memref sig .tc .vmem S512x1024 .bf16) (h4 : a4.IsWhole) (a5 : Memref sig .tc .vmem S1024x1024 .f32) (h5 : a5.IsWhole)
  (a6 : Memref sig .tc .vmem S1024x1024 .f32) (h6 : a6.IsWhole)
  (x0 : Vec F S512x1024 .bf16) (x1 : Vec F S512x1024 .bf16) (xs : Vec F S1024x1024 .f32)

theorem scratch_first (hc : cond0_0 i) (hc1 : ¬cond0_1 i) (hc2 : ¬cond0_2 i) :
    sout0_A_0 c i a3 h3 a4 h4 a5 h5 a6 h6 hc hc1 hc2 x0 x1 = k0_pay1 x0 x1 := by
  unfold sout0_A_0
  rw [View.read_writes_eq_canon _ _ _ (scover0_A_0 c i a3 h3 a4 h4 a5 h5 a6 h6 hc hc1 hc2 x0 x1)]
  unfold kernelRun0_A
  dsimp only
  sl_unfold_words
  rw [View.canon_unit_zero Adam.zero2]
  unfold k0_pay2
  simp only [View.readAt_eq_ld, h3.read_unread, h4.read_unread,
    View.ld_unit_zero (S := S512x1024) Adam.zero2, shapeCast_self]

theorem scratch_next (hc : ¬cond0_0 i) (hc1 : cond0_1 i) (hc2 : ¬cond0_2 i) :
    sout0_B_0 c i a3 h3 a4 h4 a5 h5 a6 h6 hc hc1 hc2 x0 x1 xs = addf xs (k0_pay1 x0 x1) := by
  unfold sout0_B_0
  rw [View.read_writes_eq_canon _ _ _ (scover0_B_0 c i a3 h3 a4 h4 a5 h5 a6 h6 hc hc1 hc2 x0 x1 xs)]
  unfold kernelRun0_B
  dsimp only
  sl_unfold_words
  rw [View.canon_unit_zero Adam.zero2]
  unfold k0_pay3
  simp only [View.readAt_eq_ld, h3.read_unread, h4.read_unread, h6.read_unread,
    View.ld_unit_zero (S := S512x1024) Adam.zero2, View.ld_unit_zero (S := S1024x1024) Adam.zero2, shapeCast_self]

theorem stored_last (hc : ¬cond0_0 i) (hc1 : cond0_1 i) (hc2 : cond0_2 i) :
    out0_C_2 c i a3 h3 a4 h4 a5 h5 a6 h6 hc hc1 hc2 x0 x1 xs = addf xs (k0_pay1 x0 x1) := by
  unfold out0_C_2
  rw [View.read_writes_eq_canon _ _ _ (cover0_C_2 c i a3 h3 a4 h4 a5 h5 a6 h6 hc hc1 hc2 x0 x1 xs)]
  unfold kernelRun0_C
  dsimp only
  sl_unfold_words
  rw [View.canon_unit_zero Adam.zero2, View.readCov_cons_toLoadRect]
  unfold k0_pay3
  simp only [View.readAt_eq_ld, h3.read_unread, h4.read_unread, h6.read_unread,
    View.ld_unit_zero (S := S512x1024) Adam.zero2, View.ld_unit_zero (S := S1024x1024) Adam.zero2, shapeCast_self]

end Block

theorem pay_apply (a : Vec Ideal S512x1024 .bf16) (b : Vec Ideal S512x1024 .bf16) (p : Fin 1024) (q : Fin 1024) :
    k0_pay1 a b (ix2 p q) = ∑ k : Fin 512, (a (ix2 k p) : EReal) * b (ix2 k q) := by
  unfold k0_pay1
  pointwise

theorem next_apply (xs : Vec Ideal S1024x1024 .f32) (a : Vec Ideal S512x1024 .bf16) (b : Vec Ideal S512x1024 .bf16) (p : Fin 1024) (q : Fin 1024) :
    addf xs (k0_pay1 a b) (ix2 p q) = (xs (ix2 p q) : EReal) + k0_pay1 a b (ix2 p q) := rfl

/-! ## A point's blocks -/

variable (m : (ℓ : Loc nD τ sig) → Buf (Elt Ideal) ℓ) (c : Dev nD)

/-- The row of the result that is row `p` of point `n`'s block. -/
def row (n : Nat) (p : Fin 1024) : Fin 2048 := ⟨n / 16 % 2 * 1024 + p.val, by
  have := p.isLt
  omega⟩

/-- The column of the result that is column `q` of point `n`'s block. -/
def col (n : Nat) (q : Fin 1024) : Fin 22528 := ⟨n / 32 % 22 * 1024 + q.val, by
  have := q.isLt
  omega⟩

/-- The place of the inner length that is place `k` of point `n`'s blocks. -/
def inner (n : Nat) (k : Fin 512) : Fin 8192 := ⟨n % 16 * 512 + k.val, by
  have := k.isLt
  omega⟩

theorem index_a : ∀ t : Fin cfg0.N, win0_0.index t (0 : Fin 2) = t.val % 16 ∧ win0_0.index t (1 : Fin 2) = t.val / 16 % 2 :=
  (by decide +kernel : ∀ t : Fin grid0.N, _)

theorem index_b : ∀ t : Fin cfg0.N, win0_1.index t (0 : Fin 2) = t.val % 16 ∧ win0_1.index t (1 : Fin 2) = t.val / 32 % 22 :=
  (by decide +kernel : ∀ t : Fin grid0.N, _)

theorem index_out : ∀ t : Fin cfg0.N, win0_2.index t (0 : Fin 2) = t.val / 16 % 2 ∧ win0_2.index t (1 : Fin 2) = t.val / 32 % 22 :=
  (by decide +kernel : ∀ t : Fin grid0.N, _)

theorem block_a (t : Fin cfg0.N) (k : Fin 512) (p : Fin 1024) : iblk m c 0 t (ix2 k p) = V m c main_arg0 (ix2 (inner t.val k) (row t.val p)) := by
  obtain ⟨h0, h1⟩ := index_a t
  refine congrArg (V m c main_arg0) (?_ : ((cfg0.win 0).blk t).view.emb (ix2 k p) = _)
  funext a; apply Fin.ext
  match a with
  | ⟨0, _⟩ => show win0_0.index t (0 : Fin 2) * 512 + 1 * k.val = t.val % 16 * 512 + k.val; omega
  | ⟨1, _⟩ => show win0_0.index t (1 : Fin 2) * 1024 + 1 * p.val = t.val / 16 % 2 * 1024 + p.val; omega

theorem block_b (t : Fin cfg0.N) (k : Fin 512) (q : Fin 1024) : iblk m c 1 t (ix2 k q) = V m c main_arg1 (ix2 (inner t.val k) (col t.val q)) := by
  obtain ⟨h0, h1⟩ := index_b t
  refine congrArg (V m c main_arg1) (?_ : ((cfg0.win 1).blk t).view.emb (ix2 k q) = _)
  funext a; apply Fin.ext
  match a with
  | ⟨0, _⟩ => show win0_1.index t (0 : Fin 2) * 512 + 1 * k.val = t.val % 16 * 512 + k.val; omega
  | ⟨1, _⟩ => show win0_1.index t (1 : Fin 2) * 1024 + 1 * q.val = t.val / 32 % 22 * 1024 + q.val; omega

theorem emb_out (t : Fin cfg0.N) (p : Fin 1024) (q : Fin 1024) :
    ((cfg0.win 2).blk t).view.emb (ix2 p q) = ix2 (row t.val p) (col t.val q) := by
  obtain ⟨h0, h1⟩ := index_out t
  funext a; apply Fin.ext
  match a with
  | ⟨0, _⟩ => show win0_2.index t (0 : Fin 2) * 1024 + 1 * p.val = t.val / 16 % 2 * 1024 + p.val; omega
  | ⟨1, _⟩ => show win0_2.index t (1 : Fin 2) * 1024 + 1 * q.val = t.val / 32 % 22 * 1024 + q.val; omega

/-- The product. -/
def product (a : Vec Ideal S8192x2048 .bf16) (b : Vec Ideal S8192x22528 .bf16) : Vec Ideal S2048x22528 .f32 := fun j =>
  ∑ k : Fin 8192, (a (ix2 k (j 0)) : EReal) * b (ix2 k (j 1))

theorem stored (t : Fin cfg0.N) (h : t.val % 16 = 15) (p : Fin 1024) (q : Fin 1024) :
    (outsAt0 m c t.val t.isLt).1 (ix2 p q) = product (V m c main_arg0) (V m c main_arg1) (ix2 (row t.val p) (col t.val q)) := by
  refine Products.stored (n := 16) (b := 512) (K := 8192) (fun n h => (outsAt0 m c n h).2 (ix2 p q)) (fun n h => (outsAt0 m c n h).1 (ix2 p q))
    (fun n h => k0_pay1 (iblk m c 0 ⟨n, h⟩) (iblk m c 1 ⟨n, h⟩) (ix2 p q)) (by decide) (by decide) ?_ ?_ ?_ t.val t.isLt h _ ?_
  · intro n hn h0
    have e : outsAt0 m c n hn = _ := outsAt0_A m c ⟨n, hn⟩ h0 (by dsimp only; omega) (by dsimp only; omega)
    rw [e]
    dsimp only
    rw [scratch_first]
  · intro n hn h0 h1
    have e : outsAt0 m c (n + 1) hn = _ := outsAt0_B m c ⟨n + 1, hn⟩ h0 (by dsimp only; omega) h1
    rw [e]
    dsimp only
    rw [scratch_next, next_apply]
    rfl
  · intro n hn h0
    have e : outsAt0 m c (n + 1) hn = _ := outsAt0_C m c ⟨n + 1, hn⟩ (by dsimp only; omega) (by dsimp only; omega) h0
    rw [e]
    dsimp only
    rw [stored_last, next_apply]
    rfl
  · intro d hd h'
    have er : row (t.val - 15 + d) p = row t.val p := Fin.ext (by
      show (t.val - 15 + d) / 16 % 2 * 1024 + p.val = t.val / 16 % 2 * 1024 + p.val
      omega)
    have ec : col (t.val - 15 + d) q = col t.val q := Fin.ext (by
      show (t.val - 15 + d) / 32 % 22 * 1024 + q.val = t.val / 32 % 22 * 1024 + q.val
      omega)
    have ei (k : Fin 512) : inner (t.val - 15 + d) k = ⟨d * 512 + k.val, by have := k.isLt; omega⟩ := Fin.ext (by
      show (t.val - 15 + d) % 16 * 512 + k.val = d * 512 + k.val
      omega)
    refine (pay_apply _ _ p q).trans (Finset.sum_congr rfl fun k _ => ?_)
    refine (congrArg₂ (fun x y : EReal => x * y) (block_a m c ⟨t.val - 15 + d, h'⟩ k p) (block_b m c ⟨t.val - 15 + d, h'⟩ k q)).trans ?_
    dsimp only
    rw [er, ec, ei]
    rfl

/-! ## The array after the run -/

theorem covered (i : S2048x22528.Idx) : ∃ (t : Fin cfg0.N) (y : S1024x1024.Idx), t.val % 16 = 15 ∧ ((cfg0.win 2).blk t).view.emb y = i := by
  obtain ⟨p, q, rfl⟩ : ∃ (p : Fin 2048) (q : Fin 22528), i = ix2 p q := ⟨i 0, i 1, eq_ix2 i⟩
  have hp := p.isLt
  have hq := q.isLt
  refine ⟨⟨q.val / 1024 * 32 + p.val / 1024 * 16 + 15, lt_of_lt_of_eq (by omega) N_0.symm⟩,
    ix2 ⟨p.val % 1024, Nat.mod_lt _ (by decide)⟩ ⟨q.val % 1024, Nat.mod_lt _ (by decide)⟩, by dsimp only; omega, ?_⟩
  rw [emb_out]
  exact congrArg₂ ix2
    (Fin.ext (by show (q.val / 1024 * 32 + p.val / 1024 * 16 + 15) / 16 % 2 * 1024 + p.val % 1024 = p.val; omega))
    (Fin.ext (by show (q.val / 1024 * 32 + p.val / 1024 * 16 + 15) / 32 % 22 * 1024 + q.val % 1024 = q.val; omega))

theorem final : (dats m 0 c).arrAt 2 cfg0.N = product (V m c main_arg0) (V m c main_arg1) :=
  (dats m 0 c).arrAt_eq_of_cover 2 (product (V m c main_arg0) (V m c main_arg1))
    (fun t hf => by
      have h := (flush0_2 t).mp hf
      rw [flushed2]
      have e (G : Vec Ideal S2048x22528 .f32) (y : S1024x1024.Idx) :
          ((cfg0.win 2).blk t).view.read (Elt Ideal) G y = G (ix2 (row t.val (y 0)) (col t.val (y 1))) :=
        congrArg G ((congrArg _ (eq_ix2 y)).trans (emb_out t (y 0) (y 1)))
      refine funext fun (y : S1024x1024.Idx) => ?_
      refine Eq.trans ?_ (e _ y).symm
      rw [eq_ix2 y]
      exact stored m c t h (y 0) (y 1))
    (fun (i : S2048x22528.Idx) => let ⟨t, y, ht, h⟩ := covered i; ⟨t, (flush0_2 t).mpr ht, h ▸ ((cfg0.win 2).blk t).view.emb_mem_set y⟩)

end Cert.MainGradIdeal.Run

namespace Cert.Proof.MainGrad

open Idealize.ShloMosaic Idealize.ShloMosaic.TcCoe Idealize.SL.Sem

theorem frame_refIdeal : Cert.quiescent_MainGradRefIdeal := fun m g _ =>
  (θ_run Cert.MainGradRefIdeal.defs _ _).mono
    (fun r h => ⟨fun c => (h c).2, sem_eq_zero_of_no_sems (by decide) r.2⟩) (Cert.MainGradRefIdeal.Value.run m g)

open Cert.MainGradRefIdeal Cert.MainGradRefIdeal.Gen in
theorem ref_product (a : FVec Ideal S8192x2048 .bf16) (b : FVec Ideal S8192x22528 .bf16) :
    Host.dotGeneral dot_S2048x8192_S8192x22528_S2048x22528_1_0_0_1_n_n none (transpose S2048x8192 [1, 0] (extf .f32 a bitsLt_bf16_f32) transposes_S8192x2048_S2048x8192_1_0) (extf .f32 b bitsLt_bf16_f32)
      = Cert.MainGradIdeal.Run.product a b := by
  refine funext fun (j : S2048x22528.Idx) => ?_
  obtain ⟨i, q, rfl⟩ : ∃ (i : Fin 2048) (q : Fin 22528), j = ix2 i q := ⟨j 0, j 1, eq_ix2 j⟩
  unfold Cert.MainGradIdeal.Run.product
  pointwise

theorem algebraic : Cert.algebraic_MainGradIdeal_MainGradRefIdeal := fun m g m' g' _ hA => by
  refine ⟨_, (θ_run Cert.MainGradIdeal.defs _ _).mono (fun r h c => ⟨(h c).1.trans (Cert.MainGradIdeal.Run.final m c), (h c).2⟩)
      (Cert.MainGradIdeal.Value.run_blocks m g),
    (θ_run Cert.MainGradRefIdeal.defs _ _).mono (fun r h c => ?_) (Cert.MainGradRefIdeal.Value.run m' g')⟩
  obtain ⟨h0, hk⟩ := h c
  obtain ⟨a0, a1⟩ := hA c
  rw [a0, a1] at h0
  exact ⟨h0.trans (ref_product ..), hk⟩

end Cert.Proof.MainGrad

end
-- ==== Proof.StepGradClaims.lean ====
/-
  The claims of the gradient of the step sizes' weights. The inner length is walked in 16 blocks: the points of a block of the
  result add their blocks' products in a scratch, and the last of them writes the sum (`stored`).
-/
module

public import proofs.«01_k».proof.Proof.Adam
public import proofs.«01_k».proof.Proof.Products
public import proofs.«01_k».proof.Proof.Gen.StepGrad.Frame
public import proofs.«01_k».proof.Proof.Gen.StepGradIdeal.Value
public import proofs.«01_k».proof.Proof.Gen.StepGradRefIdeal.Run

@[expose] public section

noncomputable section

namespace Cert.StepGradIdeal.Run

open Idealize.ShloMosaic Idealize.ShloMosaic.TcCoe Idealize.SL.Sem
open Cert.StepGradIdeal Cert.StepGradIdeal.Gen Cert.StepGradIdeal.Value

/-! ## What a point leaves -/

section Block

variable {F : FTy → Type} [FloatOps F]
variable (c : Dev nD) (i : grid0.Coords) (a3 : Memref sig .tc .vmem S512x1024 .bf16) (h3 : a3.IsWhole)
  (a4 : Memref sig .tc .vmem S512x128 .bf16) (h4 : a4.IsWhole) (a5 : Memref sig .tc .vmem S1024x128 .f32) (h5 : a5.IsWhole)
  (a6 : Memref sig .tc .vmem S1024x128 .f32) (h6 : a6.IsWhole)
  (x0 : Vec F S512x1024 .bf16) (x1 : Vec F S512x128 .bf16) (xs : Vec F S1024x128 .f32)

theorem scratch_first (hc : cond0_0 i) (hc1 : ¬cond0_1 i) (hc2 : ¬cond0_2 i) :
    sout0_A_0 c i a3 h3 a4 h4 a5 h5 a6 h6 hc hc1 hc2 x0 x1 = k0_pay1 x0 x1 := by
  unfold sout0_A_0
  rw [View.read_writes_eq_canon _ _ _ (scover0_A_0 c i a3 h3 a4 h4 a5 h5 a6 h6 hc hc1 hc2 x0 x1)]
  unfold kernelRun0_A
  dsimp only
  sl_unfold_words
  rw [View.canon_unit_zero Adam.zero2]
  unfold k0_pay2
  simp only [View.readAt_eq_ld, h3.read_unread, h4.read_unread,
    View.ld_unit_zero (S := S512x1024) Adam.zero2, View.ld_unit_zero (S := S512x128) Adam.zero2, shapeCast_self]

theorem scratch_next (hc : ¬cond0_0 i) (hc1 : cond0_1 i) (hc2 : ¬cond0_2 i) :
    sout0_B_0 c i a3 h3 a4 h4 a5 h5 a6 h6 hc hc1 hc2 x0 x1 xs = addf xs (k0_pay1 x0 x1) := by
  unfold sout0_B_0
  rw [View.read_writes_eq_canon _ _ _ (scover0_B_0 c i a3 h3 a4 h4 a5 h5 a6 h6 hc hc1 hc2 x0 x1 xs)]
  unfold kernelRun0_B
  dsimp only
  sl_unfold_words
  rw [View.canon_unit_zero Adam.zero2]
  unfold k0_pay3
  simp only [View.readAt_eq_ld, h3.read_unread, h4.read_unread, h6.read_unread,
    View.ld_unit_zero (S := S512x1024) Adam.zero2, View.ld_unit_zero (S := S512x128) Adam.zero2, View.ld_unit_zero (S := S1024x128) Adam.zero2, shapeCast_self]

theorem stored_last (hc : ¬cond0_0 i) (hc1 : cond0_1 i) (hc2 : cond0_2 i) :
    out0_C_2 c i a3 h3 a4 h4 a5 h5 a6 h6 hc hc1 hc2 x0 x1 xs = addf xs (k0_pay1 x0 x1) := by
  unfold out0_C_2
  rw [View.read_writes_eq_canon _ _ _ (cover0_C_2 c i a3 h3 a4 h4 a5 h5 a6 h6 hc hc1 hc2 x0 x1 xs)]
  unfold kernelRun0_C
  dsimp only
  sl_unfold_words
  rw [View.canon_unit_zero Adam.zero2, View.readCov_cons_toLoadRect]
  unfold k0_pay3
  simp only [View.readAt_eq_ld, h3.read_unread, h4.read_unread, h6.read_unread,
    View.ld_unit_zero (S := S512x1024) Adam.zero2, View.ld_unit_zero (S := S512x128) Adam.zero2, View.ld_unit_zero (S := S1024x128) Adam.zero2, shapeCast_self]

end Block

theorem pay_apply (a : Vec Ideal S512x1024 .bf16) (b : Vec Ideal S512x128 .bf16) (p : Fin 1024) (q : Fin 128) :
    k0_pay1 a b (ix2 p q) = ∑ k : Fin 512, (a (ix2 k p) : EReal) * b (ix2 k q) := by
  unfold k0_pay1
  pointwise

theorem next_apply (xs : Vec Ideal S1024x128 .f32) (a : Vec Ideal S512x1024 .bf16) (b : Vec Ideal S512x128 .bf16) (p : Fin 1024) (q : Fin 128) :
    addf xs (k0_pay1 a b) (ix2 p q) = (xs (ix2 p q) : EReal) + k0_pay1 a b (ix2 p q) := rfl

/-! ## A point's blocks -/

variable (m : (ℓ : Loc nD τ sig) → Buf (Elt Ideal) ℓ) (c : Dev nD)

/-- The row of the result that is row `p` of point `n`'s block. -/
def row (n : Nat) (p : Fin 1024) : Fin 2048 := ⟨n / 16 % 2 * 1024 + p.val, by
  have := p.isLt
  omega⟩

/-- The column of the result that is column `q` of point `n`'s block. -/
def col (n : Nat) (q : Fin 128) : Fin 128 := ⟨n / 32 % 1 * 128 + q.val, by
  have := q.isLt
  omega⟩

/-- The place of the inner length that is place `k` of point `n`'s blocks. -/
def inner (n : Nat) (k : Fin 512) : Fin 8192 := ⟨n % 16 * 512 + k.val, by
  have := k.isLt
  omega⟩

theorem index_a : ∀ t : Fin cfg0.N, win0_0.index t (0 : Fin 2) = t.val % 16 ∧ win0_0.index t (1 : Fin 2) = t.val / 16 % 2 :=
  (by decide +kernel : ∀ t : Fin grid0.N, _)

theorem index_b : ∀ t : Fin cfg0.N, win0_1.index t (0 : Fin 2) = t.val % 16 ∧ win0_1.index t (1 : Fin 2) = t.val / 32 % 1 :=
  (by decide +kernel : ∀ t : Fin grid0.N, _)

theorem index_out : ∀ t : Fin cfg0.N, win0_2.index t (0 : Fin 2) = t.val / 16 % 2 ∧ win0_2.index t (1 : Fin 2) = t.val / 32 % 1 :=
  (by decide +kernel : ∀ t : Fin grid0.N, _)

theorem block_a (t : Fin cfg0.N) (k : Fin 512) (p : Fin 1024) : iblk m c 0 t (ix2 k p) = V m c main_arg0 (ix2 (inner t.val k) (row t.val p)) := by
  obtain ⟨h0, h1⟩ := index_a t
  refine congrArg (V m c main_arg0) (?_ : ((cfg0.win 0).blk t).view.emb (ix2 k p) = _)
  funext a; apply Fin.ext
  match a with
  | ⟨0, _⟩ => show win0_0.index t (0 : Fin 2) * 512 + 1 * k.val = t.val % 16 * 512 + k.val; omega
  | ⟨1, _⟩ => show win0_0.index t (1 : Fin 2) * 1024 + 1 * p.val = t.val / 16 % 2 * 1024 + p.val; omega

theorem block_b (t : Fin cfg0.N) (k : Fin 512) (q : Fin 128) : iblk m c 1 t (ix2 k q) = V m c main_arg1 (ix2 (inner t.val k) (col t.val q)) := by
  obtain ⟨h0, h1⟩ := index_b t
  refine congrArg (V m c main_arg1) (?_ : ((cfg0.win 1).blk t).view.emb (ix2 k q) = _)
  funext a; apply Fin.ext
  match a with
  | ⟨0, _⟩ => show win0_1.index t (0 : Fin 2) * 512 + 1 * k.val = t.val % 16 * 512 + k.val; omega
  | ⟨1, _⟩ => show win0_1.index t (1 : Fin 2) * 128 + 1 * q.val = t.val / 32 % 1 * 128 + q.val; omega

theorem emb_out (t : Fin cfg0.N) (p : Fin 1024) (q : Fin 128) :
    ((cfg0.win 2).blk t).view.emb (ix2 p q) = ix2 (row t.val p) (col t.val q) := by
  obtain ⟨h0, h1⟩ := index_out t
  funext a; apply Fin.ext
  match a with
  | ⟨0, _⟩ => show win0_2.index t (0 : Fin 2) * 1024 + 1 * p.val = t.val / 16 % 2 * 1024 + p.val; omega
  | ⟨1, _⟩ => show win0_2.index t (1 : Fin 2) * 128 + 1 * q.val = t.val / 32 % 1 * 128 + q.val; omega

/-- The product. -/
def product (a : Vec Ideal S8192x2048 .bf16) (b : Vec Ideal S8192x128 .bf16) : Vec Ideal S2048x128 .f32 := fun j =>
  ∑ k : Fin 8192, (a (ix2 k (j 0)) : EReal) * b (ix2 k (j 1))

theorem stored (t : Fin cfg0.N) (h : t.val % 16 = 15) (p : Fin 1024) (q : Fin 128) :
    (outsAt0 m c t.val t.isLt).1 (ix2 p q) = product (V m c main_arg0) (V m c main_arg1) (ix2 (row t.val p) (col t.val q)) := by
  refine Products.stored (n := 16) (b := 512) (K := 8192) (fun n h => (outsAt0 m c n h).2 (ix2 p q)) (fun n h => (outsAt0 m c n h).1 (ix2 p q))
    (fun n h => k0_pay1 (iblk m c 0 ⟨n, h⟩) (iblk m c 1 ⟨n, h⟩) (ix2 p q)) (by decide) (by decide) ?_ ?_ ?_ t.val t.isLt h _ ?_
  · intro n hn h0
    have e : outsAt0 m c n hn = _ := outsAt0_A m c ⟨n, hn⟩ h0 (by dsimp only; omega) (by dsimp only; omega)
    rw [e]
    dsimp only
    rw [scratch_first]
  · intro n hn h0 h1
    have e : outsAt0 m c (n + 1) hn = _ := outsAt0_B m c ⟨n + 1, hn⟩ h0 (by dsimp only; omega) h1
    rw [e]
    dsimp only
    rw [scratch_next, next_apply]
    rfl
  · intro n hn h0
    have e : outsAt0 m c (n + 1) hn = _ := outsAt0_C m c ⟨n + 1, hn⟩ (by dsimp only; omega) (by dsimp only; omega) h0
    rw [e]
    dsimp only
    rw [stored_last, next_apply]
    rfl
  · intro d hd h'
    have er : row (t.val - 15 + d) p = row t.val p := Fin.ext (by
      show (t.val - 15 + d) / 16 % 2 * 1024 + p.val = t.val / 16 % 2 * 1024 + p.val
      omega)
    have ec : col (t.val - 15 + d) q = col t.val q := Fin.ext (by
      show (t.val - 15 + d) / 32 % 1 * 128 + q.val = t.val / 32 % 1 * 128 + q.val
      omega)
    have ei (k : Fin 512) : inner (t.val - 15 + d) k = ⟨d * 512 + k.val, by have := k.isLt; omega⟩ := Fin.ext (by
      show (t.val - 15 + d) % 16 * 512 + k.val = d * 512 + k.val
      omega)
    refine (pay_apply _ _ p q).trans (Finset.sum_congr rfl fun k _ => ?_)
    refine (congrArg₂ (fun x y : EReal => x * y) (block_a m c ⟨t.val - 15 + d, h'⟩ k p) (block_b m c ⟨t.val - 15 + d, h'⟩ k q)).trans ?_
    dsimp only
    rw [er, ec, ei]
    rfl

/-! ## The array after the run -/

theorem covered (i : S2048x128.Idx) : ∃ (t : Fin cfg0.N) (y : S1024x128.Idx), t.val % 16 = 15 ∧ ((cfg0.win 2).blk t).view.emb y = i := by
  obtain ⟨p, q, rfl⟩ : ∃ (p : Fin 2048) (q : Fin 128), i = ix2 p q := ⟨i 0, i 1, eq_ix2 i⟩
  have hp := p.isLt
  have hq := q.isLt
  refine ⟨⟨q.val / 128 * 32 + p.val / 1024 * 16 + 15, lt_of_lt_of_eq (by omega) N_0.symm⟩,
    ix2 ⟨p.val % 1024, Nat.mod_lt _ (by decide)⟩ ⟨q.val % 128, Nat.mod_lt _ (by decide)⟩, by dsimp only; omega, ?_⟩
  rw [emb_out]
  exact congrArg₂ ix2
    (Fin.ext (by show (q.val / 128 * 32 + p.val / 1024 * 16 + 15) / 16 % 2 * 1024 + p.val % 1024 = p.val; omega))
    (Fin.ext (by show (q.val / 128 * 32 + p.val / 1024 * 16 + 15) / 32 % 1 * 128 + q.val % 128 = q.val; omega))

theorem final : (dats m 0 c).arrAt 2 cfg0.N = product (V m c main_arg0) (V m c main_arg1) :=
  (dats m 0 c).arrAt_eq_of_cover 2 (product (V m c main_arg0) (V m c main_arg1))
    (fun t hf => by
      have h := (flush0_2 t).mp hf
      rw [flushed2]
      have e (G : Vec Ideal S2048x128 .f32) (y : S1024x128.Idx) :
          ((cfg0.win 2).blk t).view.read (Elt Ideal) G y = G (ix2 (row t.val (y 0)) (col t.val (y 1))) :=
        congrArg G ((congrArg _ (eq_ix2 y)).trans (emb_out t (y 0) (y 1)))
      refine funext fun (y : S1024x128.Idx) => ?_
      refine Eq.trans ?_ (e _ y).symm
      rw [eq_ix2 y]
      exact stored m c t h (y 0) (y 1))
    (fun (i : S2048x128.Idx) => let ⟨t, y, ht, h⟩ := covered i; ⟨t, (flush0_2 t).mpr ht, h ▸ ((cfg0.win 2).blk t).view.emb_mem_set y⟩)

end Cert.StepGradIdeal.Run

namespace Cert.Proof.StepGrad

open Idealize.ShloMosaic Idealize.ShloMosaic.TcCoe Idealize.SL.Sem

theorem frame_refIdeal : Cert.quiescent_StepGradRefIdeal := fun m g _ =>
  (θ_run Cert.StepGradRefIdeal.defs _ _).mono
    (fun r h => ⟨fun c => (h c).2, sem_eq_zero_of_no_sems (by decide) r.2⟩) (Cert.StepGradRefIdeal.Value.run m g)

open Cert.StepGradRefIdeal Cert.StepGradRefIdeal.Gen in
theorem ref_product (a : FVec Ideal S8192x2048 .bf16) (b : FVec Ideal S8192x128 .bf16) :
    Host.dotGeneral dot_S2048x8192_S8192x128_S2048x128_1_0_0_1_n_n none (transpose S2048x8192 [1, 0] (extf .f32 a bitsLt_bf16_f32) transposes_S8192x2048_S2048x8192_1_0) (extf .f32 b bitsLt_bf16_f32)
      = Cert.StepGradIdeal.Run.product a b := by
  refine funext fun (j : S2048x128.Idx) => ?_
  obtain ⟨i, q, rfl⟩ : ∃ (i : Fin 2048) (q : Fin 128), j = ix2 i q := ⟨j 0, j 1, eq_ix2 j⟩
  unfold Cert.StepGradIdeal.Run.product
  pointwise

theorem algebraic : Cert.algebraic_StepGradIdeal_StepGradRefIdeal := fun m g m' g' _ hA => by
  refine ⟨_, (θ_run Cert.StepGradIdeal.defs _ _).mono (fun r h c => ⟨(h c).1.trans (Cert.StepGradIdeal.Run.final m c), (h c).2⟩)
      (Cert.StepGradIdeal.Value.run_blocks m g),
    (θ_run Cert.StepGradRefIdeal.defs _ _).mono (fun r h c => ?_) (Cert.StepGradRefIdeal.Value.run m' g')⟩
  obtain ⟨h0, hk⟩ := h c
  obtain ⟨a0, a1⟩ := hA c
  rw [a0, a1] at h0
  exact ⟨h0.trans (ref_product ..), hk⟩

end Cert.Proof.StepGrad

end
-- ==== Proof.HiddenGradClaims.lean ====
/-
  The claims of the normed input's gradient through the projections. The inner length is walked in 11 blocks: the points of a block of the
  result add their blocks' products in a scratch, and the last of them writes the sum (`stored`).
-/
module

public import proofs.«01_k».proof.Proof.Adam
public import proofs.«01_k».proof.Proof.Products
public import proofs.«01_k».proof.Proof.Gen.HiddenGrad.Frame
public import proofs.«01_k».proof.Proof.Gen.HiddenGradIdeal.Value
public import proofs.«01_k».proof.Proof.Gen.HiddenGradRefIdeal.Run

@[expose] public section

noncomputable section

namespace Cert.HiddenGradIdeal.Run

open Idealize.ShloMosaic Idealize.ShloMosaic.TcCoe Idealize.SL.Sem
open Cert.HiddenGradIdeal Cert.HiddenGradIdeal.Gen Cert.HiddenGradIdeal.Value

/-! ## What a point leaves -/

section Block

variable {F : FTy → Type} [FloatOps F]
variable (c : Dev nD) (i : grid0.Coords) (a3 : Memref sig .tc .vmem S512x2048 .bf16) (h3 : a3.IsWhole)
  (a4 : Memref sig .tc .vmem S1024x2048 .bf16) (h4 : a4.IsWhole) (a5 : Memref sig .tc .vmem S512x1024 .f32) (h5 : a5.IsWhole)
  (a6 : Memref sig .tc .vmem S512x1024 .f32) (h6 : a6.IsWhole)
  (x0 : Vec F S512x2048 .bf16) (x1 : Vec F S1024x2048 .bf16) (xs : Vec F S512x1024 .f32)

theorem scratch_first (hc : cond0_0 i) (hc1 : ¬cond0_1 i) (hc2 : ¬cond0_2 i) :
    sout0_A_0 c i a3 h3 a4 h4 a5 h5 a6 h6 hc hc1 hc2 x0 x1 = k0_pay1 x0 x1 := by
  unfold sout0_A_0
  rw [View.read_writes_eq_canon _ _ _ (scover0_A_0 c i a3 h3 a4 h4 a5 h5 a6 h6 hc hc1 hc2 x0 x1)]
  unfold kernelRun0_A
  dsimp only
  sl_unfold_words
  rw [View.canon_unit_zero Adam.zero2]
  unfold k0_pay2
  simp only [View.readAt_eq_ld, h3.read_unread, h4.read_unread,
    View.ld_unit_zero (S := S512x2048) Adam.zero2, View.ld_unit_zero (S := S1024x2048) Adam.zero2, shapeCast_self]

theorem scratch_next (hc : ¬cond0_0 i) (hc1 : cond0_1 i) (hc2 : ¬cond0_2 i) :
    sout0_B_0 c i a3 h3 a4 h4 a5 h5 a6 h6 hc hc1 hc2 x0 x1 xs = addf xs (k0_pay1 x0 x1) := by
  unfold sout0_B_0
  rw [View.read_writes_eq_canon _ _ _ (scover0_B_0 c i a3 h3 a4 h4 a5 h5 a6 h6 hc hc1 hc2 x0 x1 xs)]
  unfold kernelRun0_B
  dsimp only
  sl_unfold_words
  rw [View.canon_unit_zero Adam.zero2]
  unfold k0_pay3
  simp only [View.readAt_eq_ld, h3.read_unread, h4.read_unread, h6.read_unread,
    View.ld_unit_zero (S := S512x2048) Adam.zero2, View.ld_unit_zero (S := S1024x2048) Adam.zero2, View.ld_unit_zero (S := S512x1024) Adam.zero2, shapeCast_self]

theorem stored_last (hc : ¬cond0_0 i) (hc1 : cond0_1 i) (hc2 : cond0_2 i) :
    out0_C_2 c i a3 h3 a4 h4 a5 h5 a6 h6 hc hc1 hc2 x0 x1 xs = addf xs (k0_pay1 x0 x1) := by
  unfold out0_C_2
  rw [View.read_writes_eq_canon _ _ _ (cover0_C_2 c i a3 h3 a4 h4 a5 h5 a6 h6 hc hc1 hc2 x0 x1 xs)]
  unfold kernelRun0_C
  dsimp only
  sl_unfold_words
  rw [View.canon_unit_zero Adam.zero2, View.readCov_cons_toLoadRect]
  unfold k0_pay3
  simp only [View.readAt_eq_ld, h3.read_unread, h4.read_unread, h6.read_unread,
    View.ld_unit_zero (S := S512x2048) Adam.zero2, View.ld_unit_zero (S := S1024x2048) Adam.zero2, View.ld_unit_zero (S := S512x1024) Adam.zero2, shapeCast_self]

end Block

theorem pay_apply (a : Vec Ideal S512x2048 .bf16) (b : Vec Ideal S1024x2048 .bf16) (p : Fin 512) (q : Fin 1024) :
    k0_pay1 a b (ix2 p q) = ∑ k : Fin 2048, (a (ix2 p k) : EReal) * b (ix2 q k) := by
  unfold k0_pay1
  pointwise

theorem next_apply (xs : Vec Ideal S512x1024 .f32) (a : Vec Ideal S512x2048 .bf16) (b : Vec Ideal S1024x2048 .bf16) (p : Fin 512) (q : Fin 1024) :
    addf xs (k0_pay1 a b) (ix2 p q) = (xs (ix2 p q) : EReal) + k0_pay1 a b (ix2 p q) := rfl

/-! ## A point's blocks -/

variable (m : (ℓ : Loc nD τ sig) → Buf (Elt Ideal) ℓ) (c : Dev nD)

/-- The row of the result that is row `p` of point `n`'s block. -/
def row (n : Nat) (p : Fin 512) : Fin 8192 := ⟨n / 11 % 16 * 512 + p.val, by
  have := p.isLt
  omega⟩

/-- The column of the result that is column `q` of point `n`'s block. -/
def col (n : Nat) (q : Fin 1024) : Fin 2048 := ⟨n / 176 % 2 * 1024 + q.val, by
  have := q.isLt
  omega⟩

/-- The place of the inner length that is place `k` of point `n`'s blocks. -/
def inner (n : Nat) (k : Fin 2048) : Fin 22528 := ⟨n % 11 * 2048 + k.val, by
  have := k.isLt
  omega⟩

theorem index_a : ∀ t : Fin cfg0.N, win0_0.index t (0 : Fin 2) = t.val / 11 % 16 ∧ win0_0.index t (1 : Fin 2) = t.val % 11 :=
  (by decide +kernel : ∀ t : Fin grid0.N, _)

theorem index_b : ∀ t : Fin cfg0.N, win0_1.index t (0 : Fin 2) = t.val / 176 % 2 ∧ win0_1.index t (1 : Fin 2) = t.val % 11 :=
  (by decide +kernel : ∀ t : Fin grid0.N, _)

theorem index_out : ∀ t : Fin cfg0.N, win0_2.index t (0 : Fin 2) = t.val / 11 % 16 ∧ win0_2.index t (1 : Fin 2) = t.val / 176 % 2 :=
  (by decide +kernel : ∀ t : Fin grid0.N, _)

theorem block_a (t : Fin cfg0.N) (k : Fin 2048) (p : Fin 512) : iblk m c 0 t (ix2 p k) = V m c main_arg0 (ix2 (row t.val p) (inner t.val k)) := by
  obtain ⟨h0, h1⟩ := index_a t
  refine congrArg (V m c main_arg0) (?_ : ((cfg0.win 0).blk t).view.emb (ix2 p k) = _)
  funext a; apply Fin.ext
  match a with
  | ⟨0, _⟩ => show win0_0.index t (0 : Fin 2) * 512 + 1 * p.val = t.val / 11 % 16 * 512 + p.val; omega
  | ⟨1, _⟩ => show win0_0.index t (1 : Fin 2) * 2048 + 1 * k.val = t.val % 11 * 2048 + k.val; omega

theorem block_b (t : Fin cfg0.N) (k : Fin 2048) (q : Fin 1024) : iblk m c 1 t (ix2 q k) = V m c main_arg1 (ix2 (col t.val q) (inner t.val k)) := by
  obtain ⟨h0, h1⟩ := index_b t
  refine congrArg (V m c main_arg1) (?_ : ((cfg0.win 1).blk t).view.emb (ix2 q k) = _)
  funext a; apply Fin.ext
  match a with
  | ⟨0, _⟩ => show win0_1.index t (0 : Fin 2) * 1024 + 1 * q.val = t.val / 176 % 2 * 1024 + q.val; omega
  | ⟨1, _⟩ => show win0_1.index t (1 : Fin 2) * 2048 + 1 * k.val = t.val % 11 * 2048 + k.val; omega

theorem emb_out (t : Fin cfg0.N) (p : Fin 512) (q : Fin 1024) :
    ((cfg0.win 2).blk t).view.emb (ix2 p q) = ix2 (row t.val p) (col t.val q) := by
  obtain ⟨h0, h1⟩ := index_out t
  funext a; apply Fin.ext
  match a with
  | ⟨0, _⟩ => show win0_2.index t (0 : Fin 2) * 512 + 1 * p.val = t.val / 11 % 16 * 512 + p.val; omega
  | ⟨1, _⟩ => show win0_2.index t (1 : Fin 2) * 1024 + 1 * q.val = t.val / 176 % 2 * 1024 + q.val; omega

/-- The product. -/
def product (a : Vec Ideal S8192x22528 .bf16) (b : Vec Ideal S2048x22528 .bf16) : Vec Ideal S8192x2048 .f32 := fun j =>
  ∑ k : Fin 22528, (a (ix2 (j 0) k) : EReal) * b (ix2 (j 1) k)

theorem stored (t : Fin cfg0.N) (h : t.val % 11 = 10) (p : Fin 512) (q : Fin 1024) :
    (outsAt0 m c t.val t.isLt).1 (ix2 p q) = product (V m c main_arg0) (V m c main_arg1) (ix2 (row t.val p) (col t.val q)) := by
  refine Products.stored (n := 11) (b := 2048) (K := 22528) (fun n h => (outsAt0 m c n h).2 (ix2 p q)) (fun n h => (outsAt0 m c n h).1 (ix2 p q))
    (fun n h => k0_pay1 (iblk m c 0 ⟨n, h⟩) (iblk m c 1 ⟨n, h⟩) (ix2 p q)) (by decide) (by decide) ?_ ?_ ?_ t.val t.isLt h _ ?_
  · intro n hn h0
    have e : outsAt0 m c n hn = _ := outsAt0_A m c ⟨n, hn⟩ h0 (by dsimp only; omega) (by dsimp only; omega)
    rw [e]
    dsimp only
    rw [scratch_first]
  · intro n hn h0 h1
    have e : outsAt0 m c (n + 1) hn = _ := outsAt0_B m c ⟨n + 1, hn⟩ h0 (by dsimp only; omega) h1
    rw [e]
    dsimp only
    rw [scratch_next, next_apply]
    rfl
  · intro n hn h0
    have e : outsAt0 m c (n + 1) hn = _ := outsAt0_C m c ⟨n + 1, hn⟩ (by dsimp only; omega) (by dsimp only; omega) h0
    rw [e]
    dsimp only
    rw [stored_last, next_apply]
    rfl
  · intro d hd h'
    have er : row (t.val - 10 + d) p = row t.val p := Fin.ext (by
      show (t.val - 10 + d) / 11 % 16 * 512 + p.val = t.val / 11 % 16 * 512 + p.val
      omega)
    have ec : col (t.val - 10 + d) q = col t.val q := Fin.ext (by
      show (t.val - 10 + d) / 176 % 2 * 1024 + q.val = t.val / 176 % 2 * 1024 + q.val
      omega)
    have ei (k : Fin 2048) : inner (t.val - 10 + d) k = ⟨d * 2048 + k.val, by have := k.isLt; omega⟩ := Fin.ext (by
      show (t.val - 10 + d) % 11 * 2048 + k.val = d * 2048 + k.val
      omega)
    refine (pay_apply _ _ p q).trans (Finset.sum_congr rfl fun k _ => ?_)
    refine (congrArg₂ (fun x y : EReal => x * y) (block_a m c ⟨t.val - 10 + d, h'⟩ k p) (block_b m c ⟨t.val - 10 + d, h'⟩ k q)).trans ?_
    dsimp only
    rw [er, ec, ei]
    rfl

/-! ## The array after the run -/

theorem covered (i : S8192x2048.Idx) : ∃ (t : Fin cfg0.N) (y : S512x1024.Idx), t.val % 11 = 10 ∧ ((cfg0.win 2).blk t).view.emb y = i := by
  obtain ⟨p, q, rfl⟩ : ∃ (p : Fin 8192) (q : Fin 2048), i = ix2 p q := ⟨i 0, i 1, eq_ix2 i⟩
  have hp := p.isLt
  have hq := q.isLt
  refine ⟨⟨q.val / 1024 * 176 + p.val / 512 * 11 + 10, lt_of_lt_of_eq (by omega) N_0.symm⟩,
    ix2 ⟨p.val % 512, Nat.mod_lt _ (by decide)⟩ ⟨q.val % 1024, Nat.mod_lt _ (by decide)⟩, by dsimp only; omega, ?_⟩
  rw [emb_out]
  exact congrArg₂ ix2
    (Fin.ext (by show (q.val / 1024 * 176 + p.val / 512 * 11 + 10) / 11 % 16 * 512 + p.val % 512 = p.val; omega))
    (Fin.ext (by show (q.val / 1024 * 176 + p.val / 512 * 11 + 10) / 176 % 2 * 1024 + q.val % 1024 = q.val; omega))

theorem final : (dats m 0 c).arrAt 2 cfg0.N = product (V m c main_arg0) (V m c main_arg1) :=
  (dats m 0 c).arrAt_eq_of_cover 2 (product (V m c main_arg0) (V m c main_arg1))
    (fun t hf => by
      have h := (flush0_2 t).mp hf
      rw [flushed2]
      have e (G : Vec Ideal S8192x2048 .f32) (y : S512x1024.Idx) :
          ((cfg0.win 2).blk t).view.read (Elt Ideal) G y = G (ix2 (row t.val (y 0)) (col t.val (y 1))) :=
        congrArg G ((congrArg _ (eq_ix2 y)).trans (emb_out t (y 0) (y 1)))
      refine funext fun (y : S512x1024.Idx) => ?_
      refine Eq.trans ?_ (e _ y).symm
      rw [eq_ix2 y]
      exact stored m c t h (y 0) (y 1))
    (fun (i : S8192x2048.Idx) => let ⟨t, y, ht, h⟩ := covered i; ⟨t, (flush0_2 t).mpr ht, h ▸ ((cfg0.win 2).blk t).view.emb_mem_set y⟩)

end Cert.HiddenGradIdeal.Run

namespace Cert.Proof.HiddenGrad

open Idealize.ShloMosaic Idealize.ShloMosaic.TcCoe Idealize.SL.Sem

theorem frame_refIdeal : Cert.quiescent_HiddenGradRefIdeal := fun m g _ =>
  (θ_run Cert.HiddenGradRefIdeal.defs _ _).mono
    (fun r h => ⟨fun c => (h c).2, sem_eq_zero_of_no_sems (by decide) r.2⟩) (Cert.HiddenGradRefIdeal.Value.run m g)

open Cert.HiddenGradRefIdeal Cert.HiddenGradRefIdeal.Gen in
theorem ref_product (a : FVec Ideal S8192x22528 .bf16) (b : FVec Ideal S2048x22528 .bf16) :
    Host.dotGeneral dot_S8192x22528_S22528x2048_S8192x2048_1_0_0_1_n_n none (extf .f32 a bitsLt_bf16_f32) (transpose S22528x2048 [1, 0] (extf .f32 b bitsLt_bf16_f32) transposes_S2048x22528_S22528x2048_1_0)
      = Cert.HiddenGradIdeal.Run.product a b := by
  refine funext fun (j : S8192x2048.Idx) => ?_
  obtain ⟨i, q, rfl⟩ : ∃ (i : Fin 8192) (q : Fin 2048), j = ix2 i q := ⟨j 0, j 1, eq_ix2 j⟩
  unfold Cert.HiddenGradIdeal.Run.product
  pointwise

theorem algebraic : Cert.algebraic_HiddenGradIdeal_HiddenGradRefIdeal := fun m g m' g' _ hA => by
  refine ⟨_, (θ_run Cert.HiddenGradIdeal.defs _ _).mono (fun r h c => ⟨(h c).1.trans (Cert.HiddenGradIdeal.Run.final m c), (h c).2⟩)
      (Cert.HiddenGradIdeal.Value.run_blocks m g),
    (θ_run Cert.HiddenGradRefIdeal.defs _ _).mono (fun r h c => ?_) (Cert.HiddenGradRefIdeal.Value.run m' g')⟩
  obtain ⟨h0, hk⟩ := h c
  obtain ⟨a0, a1⟩ := hA c
  rw [a0, a1] at h0
  exact ⟨h0.trans (ref_product ..), hk⟩

end Cert.Proof.HiddenGrad

end
-- ==== Proof.HiddenStepClaims.lean ====
/-
  The claims of the normed input's gradient through the step sizes. Point `t` multiplies a block of the one operand by a block of the other, over the whole
  inner length, so that its block of the result is the block of the whole product (`point`).
-/
module

public import proofs.«01_k».proof.Proof.Adam
public import proofs.«01_k».proof.Proof.Gen.HiddenStep.Frame
public import proofs.«01_k».proof.Proof.Gen.HiddenStepIdeal.Value
public import proofs.«01_k».proof.Proof.Gen.HiddenStepRefIdeal.Run

@[expose] public section

noncomputable section

namespace Cert.HiddenStepIdeal.Run

open Idealize.ShloMosaic Idealize.ShloMosaic.TcCoe Idealize.SL.Sem
open Cert.HiddenStepIdeal Cert.HiddenStepIdeal.Gen Cert.HiddenStepIdeal.Value

theorem out_apply (a : Vec Ideal S512x128 .bf16) (b : Vec Ideal S1024x128 .bf16) (p : Fin 512) (q : Fin 1024) :
    out0_2 a b (ix2 p q) = ∑ k : Fin 128, (a (ix2 p k) : EReal) * b (ix2 q k) := by
  rw [out0_2, View.canon_unit_zero Adam.zero2, View.ld_unit_zero Adam.zero2, View.ld_unit_zero Adam.zero2]
  unfold k0_pay1
  pointwise

/-! ## A point's blocks -/

variable (m : (ℓ : Loc nD τ sig) → Buf (Elt Ideal) ℓ) (c : Dev nD)

/-- The row of the result that is row `p` of point `n`'s block. -/
def row (n : Nat) (p : Fin 512) : Fin 8192 := ⟨n % 16 * 512 + p.val, by
  have := p.isLt
  omega⟩

/-- The column of the result that is column `q` of point `n`'s block. -/
def col (n : Nat) (q : Fin 1024) : Fin 2048 := ⟨n / 16 % 2 * 1024 + q.val, by
  have := q.isLt
  omega⟩

theorem index_a : ∀ t : Fin cfg0.N, win0_0.index t (0 : Fin 2) = t.val % 16 ∧ win0_0.index t (1 : Fin 2) = 0 :=
  (by decide +kernel : ∀ t : Fin grid0.N, _)

theorem index_b : ∀ t : Fin cfg0.N, win0_1.index t (0 : Fin 2) = t.val / 16 % 2 ∧ win0_1.index t (1 : Fin 2) = 0 :=
  (by decide +kernel : ∀ t : Fin grid0.N, _)

theorem index_out : ∀ t : Fin cfg0.N, win0_2.index t (0 : Fin 2) = t.val % 16 ∧ win0_2.index t (1 : Fin 2) = t.val / 16 % 2 :=
  (by decide +kernel : ∀ t : Fin grid0.N, _)

theorem block_a (t : Fin cfg0.N) (k : Fin 128) (p : Fin 512) : iblk m c 0 t (ix2 p k) = V m c main_arg0 (ix2 (row t.val p) k) := by
  obtain ⟨h0, h1⟩ := index_a t
  refine congrArg (V m c main_arg0) (?_ : ((cfg0.win 0).blk t).view.emb (ix2 p k) = _)
  funext a; apply Fin.ext
  match a with
  | ⟨0, _⟩ => show win0_0.index t (0 : Fin 2) * 512 + 1 * p.val = t.val % 16 * 512 + p.val; omega
  | ⟨1, _⟩ => show win0_0.index t (1 : Fin 2) * 128 + 1 * k.val = k.val; omega

theorem block_b (t : Fin cfg0.N) (k : Fin 128) (q : Fin 1024) : iblk m c 1 t (ix2 q k) = V m c main_arg1 (ix2 (col t.val q) k) := by
  obtain ⟨h0, h1⟩ := index_b t
  refine congrArg (V m c main_arg1) (?_ : ((cfg0.win 1).blk t).view.emb (ix2 q k) = _)
  funext a; apply Fin.ext
  match a with
  | ⟨0, _⟩ => show win0_1.index t (0 : Fin 2) * 1024 + 1 * q.val = t.val / 16 % 2 * 1024 + q.val; omega
  | ⟨1, _⟩ => show win0_1.index t (1 : Fin 2) * 128 + 1 * k.val = k.val; omega

theorem emb_out (t : Fin cfg0.N) (p : Fin 512) (q : Fin 1024) :
    ((cfg0.win 2).blk t).view.emb (ix2 p q) = ix2 (row t.val p) (col t.val q) := by
  obtain ⟨h0, h1⟩ := index_out t
  funext a; apply Fin.ext
  match a with
  | ⟨0, _⟩ => show win0_2.index t (0 : Fin 2) * 512 + 1 * p.val = t.val % 16 * 512 + p.val; omega
  | ⟨1, _⟩ => show win0_2.index t (1 : Fin 2) * 1024 + 1 * q.val = t.val / 16 % 2 * 1024 + q.val; omega

/-- The product. -/
def product (a : Vec Ideal S8192x128 .bf16) (b : Vec Ideal S2048x128 .bf16) : Vec Ideal S8192x2048 .f32 := fun j =>
  ∑ k : Fin 128, (a (ix2 (j 0) k) : EReal) * b (ix2 (j 1) k)

theorem point (t : Fin cfg0.N) (p : Fin 512) (q : Fin 1024) :
    out0_2 (iblk m c 0 t) (iblk m c 1 t) (ix2 p q) = product (V m c main_arg0) (V m c main_arg1) (ix2 (row t.val p) (col t.val q)) := by
  rw [out_apply]
  simp only [block_a, block_b]
  rfl

/-! ## The array after the run -/

theorem covered (i : S8192x2048.Idx) : ∃ (t : Fin cfg0.N) (y : S512x1024.Idx), ((cfg0.win 2).blk t).view.emb y = i := by
  obtain ⟨p, q, rfl⟩ : ∃ (p : Fin 8192) (q : Fin 2048), i = ix2 p q := ⟨i 0, i 1, eq_ix2 i⟩
  have hp := p.isLt
  have hq := q.isLt
  refine ⟨⟨q.val / 1024 * 16 + p.val / 512, lt_of_lt_of_eq (by omega) N_0.symm⟩,
    ix2 ⟨p.val % 512, Nat.mod_lt _ (by decide)⟩ ⟨q.val % 1024, Nat.mod_lt _ (by decide)⟩, ?_⟩
  rw [emb_out]
  exact congrArg₂ ix2
    (Fin.ext (by show (q.val / 1024 * 16 + p.val / 512) % 16 * 512 + p.val % 512 = p.val; omega))
    (Fin.ext (by show (q.val / 1024 * 16 + p.val / 512) / 16 % 2 * 1024 + q.val % 1024 = q.val; omega))

theorem final : (dats m 0 c).arrAt 2 cfg0.N = product (V m c main_arg0) (V m c main_arg1) :=
  (dats m 0 c).arrAt_eq_of_cover 2 (product (V m c main_arg0) (V m c main_arg1))
    (fun t _ => by
      rw [flushed2]
      have e (G : Vec Ideal S8192x2048 .f32) (y : S512x1024.Idx) :
          ((cfg0.win 2).blk t).view.read (Elt Ideal) G y = G (ix2 (row t.val (y 0)) (col t.val (y 1))) :=
        congrArg G ((congrArg _ (eq_ix2 y)).trans (emb_out t (y 0) (y 1)))
      refine funext fun (y : S512x1024.Idx) => ?_
      refine Eq.trans ?_ (e _ y).symm
      rw [eq_ix2 y]
      exact point m c t (y 0) (y 1))
    (fun (i : S8192x2048.Idx) => let ⟨t, y, h⟩ := covered i; ⟨t, flush0_2 t, h ▸ ((cfg0.win 2).blk t).view.emb_mem_set y⟩)

end Cert.HiddenStepIdeal.Run

namespace Cert.Proof.HiddenStep

open Idealize.ShloMosaic Idealize.ShloMosaic.TcCoe Idealize.SL.Sem

theorem frame_refIdeal : Cert.quiescent_HiddenStepRefIdeal := fun m g _ =>
  (θ_run Cert.HiddenStepRefIdeal.defs _ _).mono
    (fun r h => ⟨fun c => (h c).2, sem_eq_zero_of_no_sems (by decide) r.2⟩) (Cert.HiddenStepRefIdeal.Value.run m g)

open Cert.HiddenStepRefIdeal Cert.HiddenStepRefIdeal.Gen in
theorem ref_product (a : FVec Ideal S8192x128 .bf16) (b : FVec Ideal S2048x128 .bf16) :
    Host.dotGeneral dot_S8192x128_S128x2048_S8192x2048_1_0_0_1_n_n none (extf .f32 a bitsLt_bf16_f32) (transpose S128x2048 [1, 0] (extf .f32 b bitsLt_bf16_f32) transposes_S2048x128_S128x2048_1_0)
      = Cert.HiddenStepIdeal.Run.product a b := by
  refine funext fun (j : S8192x2048.Idx) => ?_
  obtain ⟨i, q, rfl⟩ : ∃ (i : Fin 8192) (q : Fin 2048), j = ix2 i q := ⟨j 0, j 1, eq_ix2 j⟩
  unfold Cert.HiddenStepIdeal.Run.product
  pointwise

theorem algebraic : Cert.algebraic_HiddenStepIdeal_HiddenStepRefIdeal := fun m g m' g' _ hA => by
  refine ⟨_, (θ_run Cert.HiddenStepIdeal.defs _ _).mono (fun r h c => ⟨(h c).1.trans (Cert.HiddenStepIdeal.Run.final m c), (h c).2⟩)
      (Cert.HiddenStepIdeal.Value.run_blocks m g),
    (θ_run Cert.HiddenStepRefIdeal.defs _ _).mono (fun r h c => ?_) (Cert.HiddenStepRefIdeal.Value.run m' g')⟩
  obtain ⟨h0, hk⟩ := h c
  obtain ⟨a0, a1⟩ := hA c
  rw [a0, a1] at h0
  exact ⟨h0.trans (ref_product ..), hk⟩

end Cert.Proof.HiddenStep

end
-- ==== Proof.WideNorm.lean ====
/-
  The gradient through one row's normalization over 4096 places: as the kernel writes it (`back`), as the derivative of the
  formula reads (`back_eq`), and the reference's at an index (`ref_back`). The row's factor is the forward pass's.
-/
module

public import proofs.«01_k».proof.Proof.GatedNormClaims
public import proofs.«01_k».proof.Proof.Norm

@[expose] public section

noncomputable section

namespace Cert.Proof.WideNorm

open Idealize.ShloMosaic
open Cert.GatedNormIdeal.Run (factor)

theorem width : Ideal.ofBits .f32 0x45800000#32 = ((4096 : ℝ) : EReal) := by
  simp [Ideal.ofBits, Ideal.ieee, -EReal.coe_mul]; norm_num

/-- The mean over the 4096 places. -/
def mean (x : Fin 4096 → EReal) : EReal := Ideal.div (∑ k, x k) (Ideal.ofBits .f32 0x45800000#32)

/-- The mean square and the small constant. -/
def square (x : Fin 4096 → EReal) : EReal := mean (fun k => x k * x k) + Ideal.ofBits .f32 0x358637BD#32

/-- The gradient through the normalization at one place, from the gradient `g` of the normed row. -/
def back (x g : Fin 4096 → EReal) (k : Fin 4096) : EReal :=
  factor x * g k - (x k * (factor x * factor x * factor x)) * mean (fun k => g k * x k)

theorem mean_eq (x : Fin 4096 → EReal) : mean x = (∑ k, x k) * ((1 / 4096 : ℝ) : EReal) := by
  rw [mean, width, Ideal.div_coe (by norm_num)]

theorem square_pos (x : Fin 4096 → EReal) : 0 < square x := by
  refine lt_of_lt_of_le Norm.eps_pos (le_add_of_nonneg_left ?_)
  rw [mean_eq]
  exact mul_nonneg (Finset.sum_nonneg fun k _ => Norm.self_mul_nonneg (x k)) (EReal.coe_nonneg.mpr (by norm_num))

/-- The row's share of the gradient that its mean square passes on, as the derivative of the formula reads. -/
def share (x g : Fin 4096 → EReal) : EReal :=
  Ideal.div ((∑ k, x k * g k) * (Ideal.ofBits .f32 0xBF000000#32 * Ideal.div (factor x) (square x))) (Ideal.ofBits .f32 0x45800000#32)

/-- The derivative's form of the gradient at one place is the kernel's. -/
theorem back_eq (x g : Fin 4096 → EReal) (k : Fin 4096) : (g k * factor x + x k * share x g) + share x g * x k = back x g k := by
  have e : Ideal.div (factor x) (square x) = factor x * factor x * factor x := Norm.rsqrt_div _ (square_pos x)
  have h : x k * share x g
      = ((-(1 / 2) : ℝ) : EReal) * ((x k * (factor x * factor x * factor x)) * ((∑ k, x k * g k) * ((1 / 4096 : ℝ) : EReal))) := by
    rw [share, e, width, Ideal.div_coe (by norm_num), Norm.minus_half]
    ac_rfl
  rw [mul_comm (share x g), h, Norm.add_minus_halves, back, mean_eq, mul_comm (factor x) (g k)]
  simp only [mul_comm (g _) (x _)]

section Reference

abbrev Full : Shape := ⟨2, ![8192, 4096]⟩
abbrev Rows : Shape := ⟨1, ![8192]⟩
abbrev Column : Shape := ⟨2, ![8192, 1]⟩
abbrev Unit : Shape := ⟨0, ![]⟩

variable (x g : FVec Ideal Full .f32) (hu : 0 < Unit.numel) (hr : Full.ReducesTo [1] Rows) (hs : Column.ReducesTo [1] Rows)
  (bc : Rows.BroadcastsInDim Column ![0]) (bu : Unit.BroadcastsInDim Column ![]) (bf : Column.BroadcastsInDim Full ![0, 1])
  (bq : Rows.BroadcastsInDim Full ![0]) (hc : Rows.ShapeCasts Column)

/-- Every row's mean square and the small constant. -/
abbrev squares : FVec Ideal Column .f32 :=
  addf (Host.divf (broadcastInDim Column ![0] bc (Host.reduceAdd (mulf x x) (constant Unit .f32 0x00000000#32) hr hu))
    (broadcastInDim Column ![] bu (constant Unit .f32 0x45800000#32))) (broadcastInDim Column ![] bu (constant Unit .f32 0x358637BD#32))

/-- Every row's factor. -/
abbrev factors : FVec Ideal Column .f32 := Host.rsqrt (squares x hu hr bc bu)

/-- Every row's share, at every place of the row. -/
abbrev shares : FVec Ideal Full .f32 :=
  broadcastInDim Full ![0] bq (Host.reduceAdd (Host.divf (mulf (shapeCast Column (Host.reduceAdd (mulf x g) (constant Unit .f32 0x00000000#32) hr hu) hc)
    (mulf (broadcastInDim Column ![] bu (constant Unit .f32 0xBF000000#32)) (Host.divf (factors x hu hr bc bu) (squares x hu hr bc bu))))
    (broadcastInDim Column ![] bu (constant Unit .f32 0x45800000#32))) (constant Unit .f32 0x00000000#32) hs hu)

/-- The gradient through the normalization of every row. -/
abbrev backs : FVec Ideal Full .f32 :=
  addf (addf (mulf g (broadcastInDim Full ![0, 1] bf (factors x hu hr bc bu))) (mulf x (shares x g hu hr hs bc bu bq hc)))
    (mulf (shares x g hu hr hs bc bu bq hc) x)

theorem ref_square (i : Fin 8192) : squares x hu hr bc bu (ix2 i 0) = square (fun k => x (ix2 i k)) := by
  unfold square mean squares
  pointwise

theorem ref_factor (i : Fin 8192) : factors x hu hr bc bu (ix2 i 0) = factor (fun k => x (ix2 i k)) :=
  congrArg Ideal.rsqrt (ref_square x hu hr bc bu i)

theorem spread_factor (f : FVec Ideal Column .f32) (i : Fin 8192) (k : Fin 4096) : broadcastInDim Full ![0, 1] bf f (ix2 i k) = f (ix2 i 0) := by
  pointwise

theorem ref_share (i : Fin 8192) (k : Fin 4096) :
    shares x g hu hr hs bc bu bq hc (ix2 i k) = share (fun k => x (ix2 i k)) (fun k => g (ix2 i k)) := by
  have ef := ref_factor x hu hr bc bu i
  have es := ref_square x hu hr bc bu i
  unfold shares
  generalize factors x hu hr bc bu = f at ef ⊢
  generalize squares x hu hr bc bu = s at es ⊢
  unfold share
  rw [← ef, ← es]
  pointwise
  simp only [Finset.univ_unique, Finset.sum_singleton]
  rfl

theorem ref_back (i : Fin 8192) (k : Fin 4096) :
    backs x g hu hr hs bc bu bf bq hc (ix2 i k) = back (fun k => x (ix2 i k)) (fun k => g (ix2 i k)) k := by
  rw [← back_eq]
  show ((g (ix2 i k) : EReal) * broadcastInDim Full ![0, 1] bf (factors x hu hr bc bu) (ix2 i k) + x (ix2 i k) * shares x g hu hr hs bc bu bq hc (ix2 i k))
    + shares x g hu hr hs bc bu bq hc (ix2 i k) * x (ix2 i k) = _
  rw [spread_factor, ref_factor, ref_share]

end Reference

end Cert.Proof.WideNorm

end
-- ==== Proof.GatedNormBackClaims.lean ====
/-
  The claims of the gradient through the gated normalization of the scan's output. The kernel walks the rows in blocks of 128; two
  results are written block by block (`final_y`, `final_z`), and two are one row each, kept from point to point, so that they are
  the blocks' sums added (`kept_weight`, `kept_skip`) and so the sums over all rows (`final_weight`, `final_skip`).
-/
module

public import proofs.«01_k».proof.Proof.Adam
public import proofs.«01_k».proof.Proof.Slopes
public import proofs.«01_k».proof.Proof.WideNorm
public import proofs.«01_k».proof.Proof.Gen.GatedNormBack.Frame
public import proofs.«01_k».proof.Proof.Gen.GatedNormBackIdeal.Value
public import proofs.«01_k».proof.Proof.Gen.GatedNormBackRefIdeal.Run

@[expose] public section

noncomputable section

namespace Cert.GatedNormBackIdeal.Run

open Idealize.ShloMosaic Idealize.ShloMosaic.TcCoe Idealize.SL.Sem
open Cert.GatedNormBackIdeal Cert.GatedNormBackIdeal.Gen Cert.GatedNormBackIdeal.Value
open Cert.GatedNormIdeal.Run (gated factor mixed convCol gateCol)
open Cert.Proof.WideNorm (back mean)

/-! ## What a point leaves -/

section Block

variable {F : FTy → Type} [FloatOps F]
variable (c : Dev nD) (i : grid0.Coords) (a1 : Memref sig .tc .vmem S128x4096 .f32) (h1 : a1.IsWhole)
  (a2 : Memref sig .tc .vmem S128x4096 .f32) (h2 : a2.IsWhole) (a3 : Memref sig .tc .vmem S128x4096 .f32) (h3 : a3.IsWhole)
  (a4 : Memref sig .tc .vmem S128x4096 .f32) (h4 : a4.IsWhole) (a5 : Memref sig .tc .vmem S1x4096 .f32) (h5 : a5.IsWhole)
  (a6 : Memref sig .tc .vmem S1x4096 .f32) (h6 : a6.IsWhole) (a7 : Memref sig .tc .vmem S128x4096 .f32) (h7 : a7.IsWhole)
  (a8 : Memref sig .tc .vmem S128x4096 .bf16) (h8 : a8.IsWhole) (a9 : Memref sig .tc .vmem S1x4096 .f32) (h9 : a9.IsWhole)
  (a10 : Memref sig .tc .vmem S1x4096 .f32) (h10 : a10.IsWhole)
  (g y x z : Vec F S128x4096 .f32) (d w : Vec F S1x4096 .f32) (o o' : Vec F S1x4096 .f32)

/-- A block's gradient at the scan's output. -/
def atY : FVec F S128x4096 .f32 := k0_pay2 (k0_pay9 z) (k0_pay14 z x y d g w) (k0_pay15 z x y d) (k0_pay16 z x y d g w)
/-- A block's gradient at the gate's input. -/
def atZ : FVec F S128x4096 .bf16 :=
  k0_pay3 z (k0_pay8 z) (k0_pay10 x y d) (k0_pay14 z x y d g w) (k0_pay15 z x y d) (k0_pay16 z x y d g w)
/-- A block's part of the gradient of the weights. -/
def atW : FVec F S1x4096 .f32 := k0_pay4 (k0_pay11 z x y d) (k0_pay12 z x y d) g
/-- A block's part of the gradient of the skip connection's factors. -/
def atD : FVec F S1x4096 .f32 := k0_pay5 (k0_pay9 z) x (k0_pay14 z x y d g w) (k0_pay15 z x y d) (k0_pay16 z x y d g w)

theorem y_first (hc : cond0_0 i) (hc' : ¬cond0_1 i) :
    out0_A_6 c i a1 h1 a2 h2 a3 h3 a4 h4 a5 h5 a6 h6 a7 h7 a8 h8 a9 h9 a10 h10 hc hc' g y x z d w = atY g y x z d w := by
  unfold out0_A_6
  rw [View.read_writes_eq_canon _ _ _ (cover0_A_6 c i a1 h1 a2 h2 a3 h3 a4 h4 a5 h5 a6 h6 a7 h7 a8 h8 a9 h9 a10 h10 hc hc' g y x z d w)]
  unfold kernelRun0_A
  dsimp only
  sl_unfold_words
  rw [View.canon_unit_zero Adam.zero2]
  unfold atY
  simp only [View.readAt_eq_ld, h1.read_unread, h2.read_unread, h3.read_unread, h4.read_unread, h5.read_unread, h6.read_unread,
    View.ld_unit_zero (S := S128x4096) Adam.zero2, View.ld_unit_zero (S := S1x4096) Adam.zero2]

theorem y_next (hc : ¬cond0_0 i) (hc' : cond0_1 i) :
    out0_B_6 c i a1 h1 a2 h2 a3 h3 a4 h4 a5 h5 a6 h6 a7 h7 a8 h8 a9 h9 a10 h10 hc hc' g y x z d w o o' = atY g y x z d w := by
  unfold out0_B_6
  rw [View.read_writes_eq_canon _ _ _ (cover0_B_6 c i a1 h1 a2 h2 a3 h3 a4 h4 a5 h5 a6 h6 a7 h7 a8 h8 a9 h9 a10 h10 hc hc' g y x z d w o o')]
  unfold kernelRun0_B
  dsimp only
  sl_unfold_words
  rw [View.canon_unit_zero Adam.zero2]
  unfold atY
  simp only [View.readAt_eq_ld, h1.read_unread, h2.read_unread, h3.read_unread, h4.read_unread, h5.read_unread, h6.read_unread,
    View.ld_unit_zero (S := S128x4096) Adam.zero2, View.ld_unit_zero (S := S1x4096) Adam.zero2]

theorem z_first (hc : cond0_0 i) (hc' : ¬cond0_1 i) :
    out0_A_7 c i a1 h1 a2 h2 a3 h3 a4 h4 a5 h5 a6 h6 a7 h7 a8 h8 a9 h9 a10 h10 hc hc' g y x z d w = atZ g y x z d w := by
  unfold out0_A_7
  rw [View.read_writes_eq_canon _ _ _ (cover0_A_7 c i a1 h1 a2 h2 a3 h3 a4 h4 a5 h5 a6 h6 a7 h7 a8 h8 a9 h9 a10 h10 hc hc' g y x z d w)]
  unfold kernelRun0_A
  dsimp only
  sl_unfold_words
  rw [View.canon_unit_zero Adam.zero2]
  unfold atZ
  simp only [View.readAt_eq_ld, h1.read_unread, h2.read_unread, h3.read_unread, h4.read_unread, h5.read_unread, h6.read_unread,
    View.ld_unit_zero (S := S128x4096) Adam.zero2, View.ld_unit_zero (S := S1x4096) Adam.zero2]

theorem z_next (hc : ¬cond0_0 i) (hc' : cond0_1 i) :
    out0_B_7 c i a1 h1 a2 h2 a3 h3 a4 h4 a5 h5 a6 h6 a7 h7 a8 h8 a9 h9 a10 h10 hc hc' g y x z d w o o' = atZ g y x z d w := by
  unfold out0_B_7
  rw [View.read_writes_eq_canon _ _ _ (cover0_B_7 c i a1 h1 a2 h2 a3 h3 a4 h4 a5 h5 a6 h6 a7 h7 a8 h8 a9 h9 a10 h10 hc hc' g y x z d w o o')]
  unfold kernelRun0_B
  dsimp only
  sl_unfold_words
  rw [View.canon_unit_zero Adam.zero2]
  unfold atZ
  simp only [View.readAt_eq_ld, h1.read_unread, h2.read_unread, h3.read_unread, h4.read_unread, h5.read_unread, h6.read_unread,
    View.ld_unit_zero (S := S128x4096) Adam.zero2, View.ld_unit_zero (S := S1x4096) Adam.zero2]

theorem weight_first (hc : cond0_0 i) (hc' : ¬cond0_1 i) :
    out0_A_8 c i a1 h1 a2 h2 a3 h3 a4 h4 a5 h5 a6 h6 a7 h7 a8 h8 a9 h9 a10 h10 hc hc' g y x z d w = atW g y x z d := by
  unfold out0_A_8
  rw [View.read_writes_eq_canon _ _ _ (cover0_A_8 c i a1 h1 a2 h2 a3 h3 a4 h4 a5 h5 a6 h6 a7 h7 a8 h8 a9 h9 a10 h10 hc hc' g y x z d w)]
  unfold kernelRun0_A
  dsimp only
  sl_unfold_words
  rw [View.canon_unit_zero Adam.zero2]
  unfold atW
  simp only [View.readAt_eq_ld, h1.read_unread, h2.read_unread, h3.read_unread, h4.read_unread, h5.read_unread, h6.read_unread,
    View.ld_unit_zero (S := S128x4096) Adam.zero2, View.ld_unit_zero (S := S1x4096) Adam.zero2]

theorem weight_next (hc : ¬cond0_0 i) (hc' : cond0_1 i) :
    out0_B_8 c i a1 h1 a2 h2 a3 h3 a4 h4 a5 h5 a6 h6 a7 h7 a8 h8 a9 h9 a10 h10 hc hc' g y x z d w o o' = addf o (atW g y x z d) := by
  unfold out0_B_8
  rw [View.read_writes_eq_canon _ _ _ (cover0_B_8 c i a1 h1 a2 h2 a3 h3 a4 h4 a5 h5 a6 h6 a7 h7 a8 h8 a9 h9 a10 h10 hc hc' g y x z d w o o')]
  unfold kernelRun0_B
  dsimp only
  sl_unfold_words
  rw [View.canon_unit_zero Adam.zero2]
  unfold atW
  unfold k0_pay6
  simp only [View.readAt_eq_ld, h1.read_unread, h2.read_unread, h3.read_unread, h4.read_unread, h5.read_unread, h6.read_unread, h9.read_unread,
    View.ld_unit_zero (S := S128x4096) Adam.zero2, View.ld_unit_zero (S := S1x4096) Adam.zero2, shapeCast_self]

theorem skip_first (hc : cond0_0 i) (hc' : ¬cond0_1 i) :
    out0_A_9 c i a1 h1 a2 h2 a3 h3 a4 h4 a5 h5 a6 h6 a7 h7 a8 h8 a9 h9 a10 h10 hc hc' g y x z d w = atD g y x z d w := by
  unfold out0_A_9
  rw [View.read_writes_eq_canon _ _ _ (cover0_A_9 c i a1 h1 a2 h2 a3 h3 a4 h4 a5 h5 a6 h6 a7 h7 a8 h8 a9 h9 a10 h10 hc hc' g y x z d w)]
  unfold kernelRun0_A
  dsimp only
  sl_unfold_words
  rw [View.canon_unit_zero Adam.zero2]
  unfold atD
  simp only [View.readAt_eq_ld, h1.read_unread, h2.read_unread, h3.read_unread, h4.read_unread, h5.read_unread, h6.read_unread,
    View.ld_unit_zero (S := S128x4096) Adam.zero2, View.ld_unit_zero (S := S1x4096) Adam.zero2]

theorem skip_next (hc : ¬cond0_0 i) (hc' : cond0_1 i) :
    out0_B_9 c i a1 h1 a2 h2 a3 h3 a4 h4 a5 h5 a6 h6 a7 h7 a8 h8 a9 h9 a10 h10 hc hc' g y x z d w o o' = addf o' (atD g y x z d w) := by
  unfold out0_B_9
  rw [View.read_writes_eq_canon _ _ _ (cover0_B_9 c i a1 h1 a2 h2 a3 h3 a4 h4 a5 h5 a6 h6 a7 h7 a8 h8 a9 h9 a10 h10 hc hc' g y x z d w o o')]
  unfold kernelRun0_B
  dsimp only
  sl_unfold_words
  rw [View.canon_unit_zero Adam.zero2]
  unfold atD
  unfold k0_pay7
  simp only [View.readAt_eq_ld, h1.read_unread, h2.read_unread, h3.read_unread, h4.read_unread, h5.read_unread, h6.read_unread, h10.read_unread,
    View.ld_unit_zero (S := S128x4096) Adam.zero2, View.ld_unit_zero (S := S1x4096) Adam.zero2, shapeCast_self]

end Block

/-! ## A point's values at an index -/

section Value

variable (g y x z : Vec Ideal S128x4096 .f32) (d w : Vec Ideal S1x4096 .f32) (r : Fin 128) (k : Fin 4096)

/-- A block's gated values, row by row. -/
def mix (k : Fin 4096) : EReal := gated (y (ix2 r k)) (d (ix2 0 k)) (x (ix2 r k)) (z (ix2 r k))

/-- A block's gradient at the gated values, row by row. -/
def through : EReal := back (mix y x z d r) (fun k => g (ix2 r k) * w (ix2 0 k)) k

theorem gate_at : k0_pay8 z (ix2 r k) = Gates.gate (z (ix2 r k)) := by
  rw [← Gates.kernel_gate]
  unfold k0_pay8
  pointwise

theorem gain_at : k0_pay9 z (ix2 r k) = z (ix2 r k) * Gates.gate (z (ix2 r k)) :=
  congrArg (fun e : EReal => z (ix2 r k) * e) (gate_at z r k)

theorem skip_at : k0_pay10 x y d (ix2 r k) = y (ix2 r k) + d (ix2 0 k) * x (ix2 r k) := by
  unfold k0_pay10
  pointwise

theorem mix_at : k0_pay11 z x y d (ix2 r k) = mix y x z d r k :=
  congrArg₂ (fun a b : EReal => a * b) (skip_at y x d r k) (gain_at z r k)

theorem factor_at : k0_pay12 z x y d (ix2 r 0) = factor (mix y x z d r) := by
  have e (k : Fin 4096) := mix_at y x z d r k
  unfold k0_pay12 factor
  generalize k0_pay11 z x y d = u at e ⊢
  simp only [← e]
  pointwise

theorem inner_at : k0_pay13 g w (ix2 r k) = g (ix2 r k) * w (ix2 0 k) := by
  unfold k0_pay13
  pointwise

theorem direct_at : k0_pay14 z x y d g w (ix2 r k) = factor (mix y x z d r) * (g (ix2 r k) * w (ix2 0 k)) := by
  rw [← factor_at, ← inner_at]
  unfold k0_pay14
  generalize k0_pay12 z x y d = f
  generalize k0_pay13 g w = h
  pointwise

theorem spread_at : k0_pay15 z x y d (ix2 r k)
    = mix y x z d r k * (factor (mix y x z d r) * factor (mix y x z d r) * factor (mix y x z d r)) := by
  rw [← factor_at, ← mix_at]
  unfold k0_pay15
  generalize k0_pay12 z x y d = f
  generalize k0_pay11 z x y d = u
  pointwise

theorem mean_at : k0_pay16 z x y d g w (ix2 r 0) = mean (fun k => g (ix2 r k) * w (ix2 0 k) * mix y x z d r k) := by
  have eg (k : Fin 4096) := inner_at g w r k
  have eu (k : Fin 4096) := mix_at y x z d r k
  unfold mean k0_pay16
  generalize k0_pay13 g w = h at eg ⊢
  generalize k0_pay11 z x y d = u at eu ⊢
  simp only [← eg, ← eu]
  pointwise

theorem take_at (a b : FVec Ideal S128x4096 .f32) (s : FVec Ideal S128x1 .f32) :
    k0_pay1 a b s (ix2 r k) = a (ix2 r k) - b (ix2 r k) * s (ix2 r 0) := by
  unfold k0_pay1
  pointwise

theorem through_at : k0_pay1 (k0_pay14 z x y d g w) (k0_pay15 z x y d) (k0_pay16 z x y d g w) (ix2 r k) = through g y x z d w r k := by
  rw [take_at, direct_at, spread_at, mean_at]
  rfl

theorem atY_at : atY g y x z d w (ix2 r k) = through g y x z d w r k * (z (ix2 r k) * Gates.gate (z (ix2 r k))) :=
  congrArg₂ (fun a b : EReal => a * b) (through_at g y x z d w r k) (gain_at z r k)

theorem slope_at (v s q : FVec Ideal S128x4096 .f32) (a b : FVec Ideal S128x4096 .f32) (e : FVec Ideal S128x1 .f32) :
    k0_pay3 q v s a b e (ix2 r k)
      = k0_pay1 a b e (ix2 r k) * s (ix2 r k) * (v (ix2 r k) * (1 + q (ix2 r k) * (1 - v (ix2 r k)))) := by
  unfold k0_pay3
  generalize k0_pay1 a b e = f
  pointwise

theorem atZ_at : atZ g y x z d w (ix2 r k)
    = through g y x z d w r k * (y (ix2 r k) + d (ix2 0 k) * x (ix2 r k)) * Slopes.slope (z (ix2 r k)) := by
  unfold atZ
  rw [slope_at, through_at, skip_at, gate_at]
  rfl

theorem sum_at (u : FVec Ideal S128x4096 .f32) (f : FVec Ideal S128x1 .f32) :
    k0_pay4 u f g (ix2 0 k) = ∑ r : Fin 128, g (ix2 r k) * (u (ix2 r k) * f (ix2 r 0)) := by
  unfold k0_pay4
  pointwise

theorem atW_at : atW g y x z d (ix2 0 k) = ∑ r : Fin 128, g (ix2 r k) * (mix y x z d r k * factor (mix y x z d r)) := by
  unfold atW
  rw [sum_at]
  simp only [mix_at, factor_at]

theorem total_at (v q a b : FVec Ideal S128x4096 .f32) (e : FVec Ideal S128x1 .f32) :
    k0_pay5 v q a b e (ix2 0 k) = ∑ r : Fin 128, k0_pay2 v a b e (ix2 r k) * q (ix2 r k) := by
  unfold k0_pay5
  generalize k0_pay2 v a b e = f
  pointwise

theorem atD_at : atD g y x z d w (ix2 0 k)
    = ∑ r : Fin 128, through g y x z d w r k * (z (ix2 r k) * Gates.gate (z (ix2 r k))) * x (ix2 r k) :=
  (total_at k _ _ _ _ _).trans (Finset.sum_congr rfl fun r _ => congrArg (fun e : EReal => e * x (ix2 r k)) (atY_at g y x z d w r k))

end Value

/-! ## A point's blocks -/

variable (m : (ℓ : Loc nD τ sig) → Buf (Elt Ideal) ℓ) (c : Dev nD)

/-- The row of the arrays that is row `r` of point `t`'s block. -/
def row (t : Fin cfg0.N) (r : Fin 128) : Fin 8192 := ⟨t.val * 128 + r.val, by
  have h : t.val < 64 := lt_of_lt_of_eq t.isLt N_0
  have := r.isLt
  omega⟩

theorem index_rows : ∀ t : Fin cfg0.N, win0_6.index t (0 : Fin 2) = t.val ∧ win0_6.index t (1 : Fin 2) = 0 :=
  (by decide +kernel : ∀ t : Fin grid0.N, _)

theorem index_conv : ∀ t : Fin cfg0.N, win0_2.index t (0 : Fin 2) = t.val ∧ win0_2.index t (1 : Fin 2) = 0 :=
  (by decide +kernel : ∀ t : Fin grid0.N, _)

theorem index_gate : ∀ t : Fin cfg0.N, win0_3.index t (0 : Fin 2) = t.val ∧ win0_3.index t (1 : Fin 2) = 2 :=
  (by decide +kernel : ∀ t : Fin grid0.N, _)

theorem index_row : ∀ t : Fin cfg0.N, win0_4.index t (0 : Fin 2) = 0 ∧ win0_4.index t (1 : Fin 2) = 0 :=
  (by decide +kernel : ∀ t : Fin grid0.N, _)

theorem emb_rows (t : Fin cfg0.N) (r : Fin 128) (k : Fin 4096) : ((cfg0.win 6).blk t).view.emb (ix2 r k) = ix2 (row t r) k := by
  obtain ⟨h0, h1⟩ := index_rows t
  funext a; apply Fin.ext
  match a with
  | ⟨0, _⟩ => show win0_6.index t (0 : Fin 2) * 128 + 1 * r.val = t.val * 128 + r.val; omega
  | ⟨1, _⟩ => show win0_6.index t (1 : Fin 2) * 4096 + 1 * k.val = k.val; omega

theorem emb_row (t : Fin cfg0.N) (y : S1x4096.Idx) : ((cfg0.win 4).blk t).view.emb y = y := by
  obtain ⟨h0, h1⟩ := index_row t
  funext a; apply Fin.ext
  match a with
  | ⟨0, _⟩ => show win0_4.index t (0 : Fin 2) * 1 + 1 * (y 0).val = (y 0).val; omega
  | ⟨1, _⟩ => show win0_4.index t (1 : Fin 2) * 4096 + 1 * (y 1).val = (y 1).val; omega

theorem block_g (t : Fin cfg0.N) (r : Fin 128) (k : Fin 4096) : iblk m c 0 t (ix2 r k) = V m c main_arg0 (ix2 (row t r) k) :=
  congrArg (V m c main_arg0) (emb_rows t r k)
theorem block_y (t : Fin cfg0.N) (r : Fin 128) (k : Fin 4096) : iblk m c 1 t (ix2 r k) = V m c main_arg1 (ix2 (row t r) k) :=
  congrArg (V m c main_arg1) (emb_rows t r k)
theorem block_d (t : Fin cfg0.N) (k : Fin 4096) : iblk m c 4 t (ix2 0 k) = V m c main_arg4 (ix2 0 k) :=
  congrArg (V m c main_arg4) (emb_row t _)
theorem block_w (t : Fin cfg0.N) (k : Fin 4096) : iblk m c 5 t (ix2 0 k) = V m c main_arg5 (ix2 0 k) :=
  congrArg (V m c main_arg5) (emb_row t _)

theorem block_x (t : Fin cfg0.N) (r : Fin 128) (k : Fin 4096) : X0_2 m c t (ix2 r k) = V m c main_arg2 (ix2 (row t r) (convCol k)) := by
  obtain ⟨h0, h1⟩ := index_conv t
  unfold X0_2 Pipeline.Window.fill
  rw [dif_pos (moved0_2 t _)]
  refine congrArg (V m c main_arg2) (?_ : ((cfg0.win 2).blk t).view.emb _ = _)
  funext a; apply Fin.ext
  match a with
  | ⟨0, _⟩ => show win0_2.index t (0 : Fin 2) * 128 + 1 * r.val = t.val * 128 + r.val; omega
  | ⟨1, _⟩ => show win0_2.index t (1 : Fin 2) * 4096 + 1 * k.val = k.val; omega

theorem block_z (t : Fin cfg0.N) (r : Fin 128) (k : Fin 4096) : X0_3 m c t (ix2 r k) = V m c main_arg3 (ix2 (row t r) (gateCol k)) := by
  obtain ⟨h0, h1⟩ := index_gate t
  unfold X0_3 Pipeline.Window.fill
  rw [dif_pos (moved0_3 t _)]
  refine congrArg (V m c main_arg3) (?_ : ((cfg0.win 3).blk t).view.emb _ = _)
  funext a; apply Fin.ext
  match a with
  | ⟨0, _⟩ => show win0_3.index t (0 : Fin 2) * 128 + 1 * r.val = t.val * 128 + r.val; omega
  | ⟨1, _⟩ => show win0_3.index t (1 : Fin 2) * 4096 + 1 * k.val = 8192 + k.val; omega

/-! ## The results, as functions of the arguments -/

section Results

variable (g y : Vec Ideal S8192x4096 .f32) (x : Vec Ideal S8192x6144 .f32) (p : Vec Ideal S8192x22528 .f32) (d w : Vec Ideal S1x4096 .f32)

/-- The gradient at the gated values. -/
def grad (i : Fin 8192) (k : Fin 4096) : EReal := back (mixed y x p d i) (fun k => g (ix2 i k) * w (ix2 0 k)) k

/-- The gradient at the scan's output, with its skip connection. -/
def gradY : Vec Ideal S8192x4096 .f32 := fun j =>
  grad g y x p d w (j 0) (j 1) * (p (ix2 (j 0) (gateCol (j 1))) * Gates.gate (p (ix2 (j 0) (gateCol (j 1)))))

/-- The gradient at the gate's input. -/
def gradZ : Vec Ideal S8192x4096 .bf16 := fun j =>
  grad g y x p d w (j 0) (j 1) * (y (ix2 (j 0) (j 1)) + d (ix2 0 (j 1)) * x (ix2 (j 0) (convCol (j 1))))
    * Slopes.slope (p (ix2 (j 0) (gateCol (j 1))))

/-- One row's part of the gradient of the weights. -/
def partW (k : Fin 4096) (i : Fin 8192) : EReal := g (ix2 i k) * (mixed y x p d i k * factor (mixed y x p d i))

/-- One row's part of the gradient of the skip connection's factors. -/
def partD (k : Fin 4096) (i : Fin 8192) : EReal :=
  grad g y x p d w i k * (p (ix2 i (gateCol k)) * Gates.gate (p (ix2 i (gateCol k)))) * x (ix2 i (convCol k))

/-- The gradient of the weights. -/
def weight : Vec Ideal S1x4096 .f32 := fun j => ∑ i, partW g y x p d (j 1) i

/-- The gradient of the skip connection's factors. -/
def skip : Vec Ideal S1x4096 .f32 := fun j => ∑ i, partD g y x p d w (j 1) i

end Results

/-! ## The arrays after the run -/

/-- The four results, of the arrays as the run finds them. -/
abbrev endY : Vec Ideal S8192x4096 .f32 := gradY (V m c main_arg0) (V m c main_arg1) (V m c main_arg2) (V m c main_arg3) (V m c main_arg4) (V m c main_arg5)
abbrev endZ : Vec Ideal S8192x4096 .bf16 := gradZ (V m c main_arg0) (V m c main_arg1) (V m c main_arg2) (V m c main_arg3) (V m c main_arg4) (V m c main_arg5)
abbrev endW : Vec Ideal S1x4096 .f32 := weight (V m c main_arg0) (V m c main_arg1) (V m c main_arg2) (V m c main_arg3) (V m c main_arg4)
abbrev endD : Vec Ideal S1x4096 .f32 := skip (V m c main_arg0) (V m c main_arg1) (V m c main_arg2) (V m c main_arg3) (V m c main_arg4) (V m c main_arg5)

/-- The four values of point `t`'s blocks. -/
abbrev ptY (t : Fin cfg0.N) : FVec Ideal S128x4096 .f32 := atY (iblk m c 0 t) (iblk m c 1 t) (X0_2 m c t) (X0_3 m c t) (iblk m c 4 t) (iblk m c 5 t)
abbrev ptZ (t : Fin cfg0.N) : FVec Ideal S128x4096 .bf16 := atZ (iblk m c 0 t) (iblk m c 1 t) (X0_2 m c t) (X0_3 m c t) (iblk m c 4 t) (iblk m c 5 t)
abbrev ptW (t : Fin cfg0.N) : FVec Ideal S1x4096 .f32 := atW (iblk m c 0 t) (iblk m c 1 t) (X0_2 m c t) (X0_3 m c t) (iblk m c 4 t)
abbrev ptD (t : Fin cfg0.N) : FVec Ideal S1x4096 .f32 := atD (iblk m c 0 t) (iblk m c 1 t) (X0_2 m c t) (X0_3 m c t) (iblk m c 4 t) (iblk m c 5 t)

theorem mix_block (t : Fin cfg0.N) (r : Fin 128) :
    mix (iblk m c 1 t) (X0_2 m c t) (X0_3 m c t) (iblk m c 4 t) r
      = mixed (V m c main_arg1) (V m c main_arg2) (V m c main_arg3) (V m c main_arg4) (row t r) := by
  refine funext fun k => ?_
  unfold mix mixed
  rw [block_y, block_x, block_z, block_d]

theorem through_block (t : Fin cfg0.N) (r : Fin 128) (k : Fin 4096) :
    through (iblk m c 0 t) (iblk m c 1 t) (X0_2 m c t) (X0_3 m c t) (iblk m c 4 t) (iblk m c 5 t) r k = grad (V m c main_arg0) (V m c main_arg1) (V m c main_arg2) (V m c main_arg3) (V m c main_arg4) (V m c main_arg5) (row t r) k := by
  unfold through grad
  rw [mix_block]
  simp only [block_g, block_w]

theorem ptY_at (t : Fin cfg0.N) (r : Fin 128) (k : Fin 4096) : ptY m c t (ix2 r k) = endY m c (ix2 (row t r) k) := by
  unfold ptY
  rw [atY_at, through_block, block_z]
  rfl

theorem ptZ_at (t : Fin cfg0.N) (r : Fin 128) (k : Fin 4096) : ptZ m c t (ix2 r k) = endZ m c (ix2 (row t r) k) := by
  unfold ptZ
  rw [atZ_at, through_block, block_z, block_y, block_x, block_d]
  rfl

/-- A block's part of a sum over all rows, by the block's number. -/
def blockPart (f : Fin 8192 → EReal) (n : Nat) : EReal := if h : n < cfg0.N then ∑ r : Fin 128, f (row ⟨n, h⟩ r) else 0

theorem upto_all (f : Fin 8192 → EReal) : Norm.upto (blockPart f) 63 = ∑ i, f i :=
  Norm.upto_rows (b := 128) (J := 63) (by decide) _ _ fun _ ht => dif_pos (lt_of_lt_of_eq ht N_0.symm)

theorem ptW_at (t : Fin cfg0.N) (k : Fin 4096) : ptW m c t (ix2 0 k) = blockPart (partW (V m c main_arg0) (V m c main_arg1) (V m c main_arg2) (V m c main_arg3) (V m c main_arg4) k) t.val := by
  unfold ptW
  rw [atW_at, blockPart, dif_pos t.isLt]
  simp only [mix_block, block_g]
  rfl

theorem ptD_at (t : Fin cfg0.N) (k : Fin 4096) : ptD m c t (ix2 0 k) = blockPart (partD (V m c main_arg0) (V m c main_arg1) (V m c main_arg2) (V m c main_arg3) (V m c main_arg4) (V m c main_arg5) k) t.val := by
  unfold ptD
  rw [atD_at, blockPart, dif_pos t.isLt]
  simp only [through_block, block_z, block_x]
  rfl

/-- What the first point leaves. -/
theorem left_first (t : Fin cfg0.N) (h : t.val = 0) : outsAt0 m c t.val t.isLt = (ptY m c t, ptZ m c t, ptW m c t, ptD m c t) := by
  rw [outsAt0_A m c t (by omega) (by omega), y_first, z_first, weight_first, skip_first]

/-- What a later point leaves. -/
theorem left_next (n : Nat) (h : n + 1 < cfg0.N) : outsAt0 m c (n + 1) h
    = (ptY m c ⟨n + 1, h⟩, ptZ m c ⟨n + 1, h⟩, addf (outsAt0 m c n (Nat.lt_of_succ_lt h)).2.2.1 (ptW m c ⟨n + 1, h⟩),
      addf (outsAt0 m c n (Nat.lt_of_succ_lt h)).2.2.2 (ptD m c ⟨n + 1, h⟩)) := by
  have hN : n + 1 < 64 := lt_of_lt_of_eq h N_0
  have e : outsAt0 m c (n + 1) h = _ := outsAt0_B m c ⟨n + 1, h⟩ (by dsimp only; omega) (by dsimp only; omega)
  rw [e, y_next, z_next, weight_next, skip_next]
  rfl

theorem left_rows : ∀ t : Fin cfg0.N, (outsAt0 m c t.val t.isLt).1 = ptY m c t ∧ (outsAt0 m c t.val t.isLt).2.1 = ptZ m c t
  | ⟨0, h⟩ => by
    have e := left_first m c ⟨0, h⟩ rfl
    exact ⟨congrArg (·.1) e, congrArg (·.2.1) e⟩
  | ⟨n + 1, h⟩ => by
    have e := left_next m c n h
    exact ⟨congrArg (·.1) e, congrArg (·.2.1) e⟩

theorem left_sums (k : Fin 4096) : ∀ (n : Nat) (h : n < cfg0.N),
    (outsAt0 m c n h).2.2.1 (ix2 0 k) = Norm.upto (blockPart (partW (V m c main_arg0) (V m c main_arg1) (V m c main_arg2) (V m c main_arg3) (V m c main_arg4) k)) n
      ∧ (outsAt0 m c n h).2.2.2 (ix2 0 k) = Norm.upto (blockPart (partD (V m c main_arg0) (V m c main_arg1) (V m c main_arg2) (V m c main_arg3) (V m c main_arg4) (V m c main_arg5) k)) n
  | 0, h => by
    have e := left_first m c ⟨0, h⟩ rfl
    exact ⟨(congrArg (fun q => q.2.2.1 (ix2 0 k)) e).trans (ptW_at m c ⟨0, h⟩ k),
      (congrArg (fun q => q.2.2.2 (ix2 0 k)) e).trans (ptD_at m c ⟨0, h⟩ k)⟩
  | n + 1, h => by
    have e := left_next m c n h
    obtain ⟨iw, id⟩ := left_sums k n (Nat.lt_of_succ_lt h)
    exact ⟨(congrArg (fun q => q.2.2.1 (ix2 0 k)) e).trans (congrArg₂ (fun a b : EReal => a + b) iw (ptW_at m c ⟨n + 1, h⟩ k)),
      (congrArg (fun q => q.2.2.2 (ix2 0 k)) e).trans (congrArg₂ (fun a b : EReal => a + b) id (ptD_at m c ⟨n + 1, h⟩ k))⟩

theorem left_last (n : Nat) (h : n < cfg0.N) (hn : n = 63) :
    (outsAt0 m c n h).2.2.1 = endW m c ∧ (outsAt0 m c n h).2.2.2 = endD m c := by
  subst hn
  have el (y : S1x4096.Idx) : ∃ k, y = ix2 0 k := ⟨y 1, (eq_ix2 y).trans (congrArg (fun i => ix2 i (y 1)) (Fin.fin_one_eq_zero (y 0)))⟩
  refine ⟨funext fun (y : S1x4096.Idx) => ?_, funext fun (y : S1x4096.Idx) => ?_⟩
  · obtain ⟨k, rfl⟩ := el y
    exact (left_sums m c k 63 h).1.trans (upto_all _)
  · obtain ⟨k, rfl⟩ := el y
    exact (left_sums m c k 63 h).2.trans (upto_all _)

theorem covered (i : S8192x4096.Idx) : ∃ (t : Fin cfg0.N) (y : S128x4096.Idx), ((cfg0.win 6).blk t).view.emb y = i :=
  Adam.covered (n := cfg0.N) (b := 128) rfl (by decide) (fun t (y : S128x4096.Idx) => ix2 (row t (y 0)) (y 1)) (fun _ _ => rfl) (fun _ _ => rfl) i
    |>.imp fun t h => h.imp fun y e => ((congrArg _ (eq_ix2 y)).trans (emb_rows t (y 0) (y 1))).trans e

theorem final_y : (dats m 0 c).arrAt 6 cfg0.N = endY m c :=
  (dats m 0 c).arrAt_eq_of_cover 6 (endY m c)
    (fun t _ => by
      have e (G : Vec Ideal S8192x4096 .f32) (y : S128x4096.Idx) :
          ((cfg0.win 6).blk t).view.read (Elt Ideal) G y = G (ix2 (row t (y 0)) (y 1)) :=
        congrArg G ((congrArg _ (eq_ix2 y)).trans (emb_rows t (y 0) (y 1)))
      rw [flushed6, (left_rows m c t).1]
      refine funext fun (y : S128x4096.Idx) => ?_
      refine Eq.trans ?_ (e _ y).symm
      rw [eq_ix2 y]
      exact ptY_at m c t (y 0) (y 1))
    (fun (i : S8192x4096.Idx) => let ⟨t, y, h⟩ := covered i; ⟨t, flush0_6 t, h ▸ ((cfg0.win 6).blk t).view.emb_mem_set y⟩)

theorem final_z : (dats m 0 c).arrAt 7 cfg0.N = endZ m c :=
  (dats m 0 c).arrAt_eq_of_cover 7 (endZ m c)
    (fun t _ => by
      have e (G : Vec Ideal S8192x4096 .bf16) (y : S128x4096.Idx) :
          ((cfg0.win 7).blk t).view.read (Elt Ideal) G y = G (ix2 (row t (y 0)) (y 1)) :=
        congrArg G ((congrArg _ (eq_ix2 y)).trans (emb_rows t (y 0) (y 1)))
      rw [flushed7, (left_rows m c t).2]
      refine funext fun (y : S128x4096.Idx) => ?_
      refine Eq.trans ?_ (e _ y).symm
      rw [eq_ix2 y]
      exact ptZ_at m c t (y 0) (y 1))
    (fun (i : S8192x4096.Idx) => let ⟨t, y, h⟩ := covered i; ⟨t, flush0_7 t, h ▸ ((cfg0.win 7).blk t).view.emb_mem_set y⟩)

theorem final_weight : (dats m 0 c).arrAt 8 cfg0.N = endW m c := by
  have hN : cfg0.N = 64 := N_0
  have he (t : Fin cfg0.N) (y : S1x4096.Idx) : ((cfg0.win 8).blk t).view.emb y = y := emb_row t y
  refine (dats m 0 c).arrAt_eq_of_cover 8 (endW m c) (fun t hf => ?_)
    (fun (i : S1x4096.Idx) => ⟨⟨63, lt_of_lt_of_eq (by decide) hN.symm⟩, (flush0_8 _).mpr rfl, ?_⟩)
  · have h63 := (flush0_8 t).mp hf
    have ht : t.val = 63 := by have : t.val < 64 := lt_of_lt_of_eq t.isLt hN; omega
    rw [flushed8, (left_last m c t.val t.isLt ht).1]
    have e (G : Vec Ideal S1x4096 .f32) : (cfg0.win 8).cut (grid0.coords t) G = ((cfg0.win 8).blk t).view.read (Elt Ideal) G :=
      funext fun (y : S1x4096.Idx) => congrArg G (emb_row t y).symm
    exact e _
  · exact (he _ i) ▸ ((cfg0.win 8).blk _).view.emb_mem_set i

theorem final_skip : (dats m 0 c).arrAt 9 cfg0.N = endD m c := by
  have hN : cfg0.N = 64 := N_0
  have he (t : Fin cfg0.N) (y : S1x4096.Idx) : ((cfg0.win 9).blk t).view.emb y = y := emb_row t y
  refine (dats m 0 c).arrAt_eq_of_cover 9 (endD m c) (fun t hf => ?_)
    (fun (i : S1x4096.Idx) => ⟨⟨63, lt_of_lt_of_eq (by decide) hN.symm⟩, (flush0_9 _).mpr rfl, ?_⟩)
  · have h63 := (flush0_9 t).mp hf
    have ht : t.val = 63 := by have : t.val < 64 := lt_of_lt_of_eq t.isLt hN; omega
    rw [flushed9, (left_last m c t.val t.isLt ht).2]
    have e (G : Vec Ideal S1x4096 .f32) : (cfg0.win 9).cut (grid0.coords t) G = ((cfg0.win 9).blk t).view.read (Elt Ideal) G :=
      funext fun (y : S1x4096.Idx) => congrArg G (emb_row t y).symm
    exact e _
  · exact (he _ i) ▸ ((cfg0.win 9).blk _).view.emb_mem_set i

end Cert.GatedNormBackIdeal.Run

namespace Cert.Proof.GatedNormBack

open Idealize.ShloMosaic Idealize.ShloMosaic.TcCoe Idealize.SL.Sem

theorem frame_refIdeal : Cert.quiescent_GatedNormBackRefIdeal := fun m g _ =>
  (θ_run Cert.GatedNormBackRefIdeal.defs _ _).mono
    (fun r h => ⟨fun c => (h c).2.2.2.2, sem_eq_zero_of_no_sems (by decide) r.2⟩) (Cert.GatedNormBackRefIdeal.Value.run m g)

section Reference

open Cert.GatedNormBackRefIdeal Cert.GatedNormBackRefIdeal.Gen
open Cert.GatedNormBackIdeal.Run (grad gradY gradZ weight skip partW partD)
open Cert.GatedNormIdeal.Run (mixed convCol gateCol factor)

variable (g y : FVec Ideal S8192x4096 .f32) (x : FVec Ideal S8192x6144 .f32) (p : FVec Ideal S8192x22528 .f32) (d w : FVec Ideal S1x4096 .f32)

/-- The gate's inputs, the channels, the skip connection's sum and the gated inputs. -/
abbrev zs : FVec Ideal S8192x4096 .f32 := extractStridedSlice S8192x4096 ![0, 8192] p slices_S8192x22528_S8192x4096_0_8192
abbrev xs : FVec Ideal S8192x4096 .f32 := extractStridedSlice S8192x4096 ![0, 0] x slices_S8192x6144_S8192x4096_0_0
abbrev skips : FVec Ideal S8192x4096 .f32 := addf y (mulf (broadcastInDim S8192x4096 ![0, 1] bcast_S1x4096_S8192x4096_0_1 d) (xs x))
abbrev gains : FVec Ideal S8192x4096 .f32 := mulf (zs p) (Gates.gates (zs p) bcast_S_S8192x4096)

/-- The gated values and the gradient of the normed ones. -/
abbrev mixes : FVec Ideal S8192x4096 .f32 := mulf (skips y x d) (gains p)
abbrev inners : FVec Ideal S8192x4096 .f32 := mulf g (broadcastInDim S8192x4096 ![0, 1] bcast_S1x4096_S8192x4096_0_1 w)

/-- The rows' factors and the gradient at the gated values. -/
abbrev scales : FVec Ideal S8192x1 .f32 :=
  WideNorm.factors (mixes y x p d) h_S_ reducesTo_S8192x4096_S8192_d1 bcast_S8192_S8192x1_0 bcast_S_S8192x1
abbrev grads : FVec Ideal S8192x4096 .f32 :=
  WideNorm.backs (mixes y x p d) (inners g w) h_S_ reducesTo_S8192x4096_S8192_d1 reducesTo_S8192x1_S8192_d1 bcast_S8192_S8192x1_0 bcast_S_S8192x1
    bcast_S8192x1_S8192x4096_0_1 bcast_S8192_S8192x4096_0 shapeCasts_S8192_S8192x1

theorem zs_at (i : Fin 8192) (k : Fin 4096) : zs p (ix2 i k) = p (ix2 i (gateCol k)) := by
  unfold zs gateCol
  pointwise

theorem xs_at (i : Fin 8192) (k : Fin 4096) : xs x (ix2 i k) = x (ix2 i (convCol k)) := by
  unfold xs convCol
  pointwise

theorem skips_at (i : Fin 8192) (k : Fin 4096) : skips y x d (ix2 i k) = y (ix2 i k) + d (ix2 0 k) * x (ix2 i (convCol k)) := by
  rw [← xs_at x i k]
  unfold skips
  generalize xs x = v
  pointwise

theorem gains_at (i : Fin 8192) (k : Fin 4096) : gains p (ix2 i k) = p (ix2 i (gateCol k)) * Gates.gate (p (ix2 i (gateCol k))) := by
  have e := (Gates.ref_gate (zs p) bcast_S_S8192x4096 (ix2 i k)).trans (congrArg Gates.gate (zs_at p i k))
  exact congrArg₂ (fun a b : EReal => a * b) (zs_at p i k) e

theorem mixes_at (i : Fin 8192) (k : Fin 4096) : mixes y x p d (ix2 i k) = mixed y x p d i k :=
  congrArg₂ (fun a b : EReal => a * b) (skips_at y x d i k) (gains_at p i k)

theorem inners_at (i : Fin 8192) (k : Fin 4096) : inners g w (ix2 i k) = g (ix2 i k) * w (ix2 0 k) := by
  unfold inners
  pointwise

theorem scales_at (i : Fin 8192) : scales y x p d (ix2 i 0) = factor (mixed y x p d i) :=
  (WideNorm.ref_factor _ _ _ _ _ i).trans (congrArg factor (funext fun k => mixes_at y x p d i k))

theorem grads_at (i : Fin 8192) (k : Fin 4096) : grads g y x p d w (ix2 i k) = grad g y x p d w i k :=
  (WideNorm.ref_back (mixes y x p d) (inners g w) _ _ _ _ _ _ _ _ i k).trans
    (congrArg₂ (fun u v => WideNorm.back u v k) (funext fun k => mixes_at y x p d i k) (funext fun k => inners_at g w i k))

theorem ref_y : mulf (grads g y x p d w) (gains p) = gradY g y x p d w := by
  refine funext fun (j : S8192x4096.Idx) => ?_
  rw [eq_ix2 j]
  exact congrArg₂ (fun a b : EReal => a * b) (grads_at g y x p d w (j 0) (j 1)) (gains_at p (j 0) (j 1))

theorem ref_z : (truncf .bf16 (mulf (mulf (skips y x d) (grads g y x p d w)) (Slopes.slopes (zs p) bcast_S_S8192x4096)) bitsLt_bf16_f32 :
    FVec Ideal S8192x4096 .bf16) = gradZ g y x p d w := by
  refine funext fun (j : S8192x4096.Idx) => ?_
  rw [eq_ix2 j]
  have es := (Slopes.ref_slope (zs p) bcast_S_S8192x4096 (ix2 (j 0) (j 1))).trans (congrArg Slopes.slope (zs_at p (j 0) (j 1)))
  refine (congrArg₂ (fun a b : EReal => a * b)
    (congrArg₂ (fun a b : EReal => a * b) (skips_at y x d (j 0) (j 1)) (grads_at g y x p d w (j 0) (j 1))) es).trans ?_
  exact congrArg (fun a : EReal => a * Slopes.slope (p (ix2 (j 0) (gateCol (j 1))))) (mul_comm _ _)

theorem sums_at (u : FVec Ideal S8192x4096 .f32) (k : Fin 4096) :
    shapeCast S1x4096 (Host.reduceAdd u (constant S_ .f32 0x00000000#32) reducesTo_S8192x4096_S4096_d0 h_S_) shapeCasts_S4096_S1x4096 (ix2 0 k)
      = ∑ i : Fin 8192, u (ix2 i k) := by
  pointwise

theorem ref_weight : shapeCast S1x4096 (Host.reduceAdd (mulf (mulf (mixes y x p d)
      (broadcastInDim S8192x4096 ![0, 1] bcast_S8192x1_S8192x4096_0_1 (scales y x p d))) g)
      (constant S_ .f32 0x00000000#32) reducesTo_S8192x4096_S4096_d0 h_S_) shapeCasts_S4096_S1x4096 = weight g y x p d := by
  refine funext fun (j : S1x4096.Idx) => ?_
  obtain ⟨k, rfl⟩ : ∃ k, j = ix2 0 k := ⟨j 1, (eq_ix2 j).trans (congrArg (fun i => ix2 i (j 1)) (Fin.fin_one_eq_zero (j 0)))⟩
  refine (sums_at _ k).trans (Finset.sum_congr rfl fun i _ => ?_)
  refine Eq.trans (mul_comm _ _) (congrArg (fun e : EReal => g (ix2 i k) * e) (congrArg₂ (fun a b : EReal => a * b) (mixes_at y x p d i k) ?_))
  exact (WideNorm.spread_factor _ _ i k).trans (scales_at y x p d i)

theorem ref_skip : shapeCast S1x4096 (Host.reduceAdd (mulf (mulf (grads g y x p d w) (gains p)) (xs x))
      (constant S_ .f32 0x00000000#32) reducesTo_S8192x4096_S4096_d0 h_S_) shapeCasts_S4096_S1x4096 = skip g y x p d w := by
  refine funext fun (j : S1x4096.Idx) => ?_
  obtain ⟨k, rfl⟩ : ∃ k, j = ix2 0 k := ⟨j 1, (eq_ix2 j).trans (congrArg (fun i => ix2 i (j 1)) (Fin.fin_one_eq_zero (j 0)))⟩
  refine (sums_at _ k).trans (Finset.sum_congr rfl fun i _ => ?_)
  exact congrArg₂ (fun a b : EReal => a * b)
    (congrArg₂ (fun a b : EReal => a * b) (grads_at g y x p d w i k) (gains_at p i k)) (xs_at x i k)

end Reference

theorem algebraic : Cert.algebraic_GatedNormBackIdeal_GatedNormBackRefIdeal := fun m g m' g' _ hA => by
  refine ⟨_, _, _, _, (θ_run Cert.GatedNormBackIdeal.defs _ _).mono (fun _ h c => ⟨(h c).1.trans (Cert.GatedNormBackIdeal.Run.final_y m c),
      (h c).2.1.trans (Cert.GatedNormBackIdeal.Run.final_z m c), (h c).2.2.1.trans (Cert.GatedNormBackIdeal.Run.final_weight m c),
      (h c).2.2.2.1.trans (Cert.GatedNormBackIdeal.Run.final_skip m c), (h c).2.2.2.2⟩)
      (Cert.GatedNormBackIdeal.Value.run_blocks m g),
    (θ_run Cert.GatedNormBackRefIdeal.defs _ _).mono (fun r h c => ?_) (Cert.GatedNormBackRefIdeal.Value.run m' g')⟩
  obtain ⟨h0, h1, h2, h3, hk⟩ := h c
  obtain ⟨a0, a1, a2, a3, a4, a5⟩ := hA c
  unfold Cert.GatedNormBackRefIdeal.Value.res_main_v42 at h0
  unfold Cert.GatedNormBackRefIdeal.Value.res_main_v49 at h1
  unfold Cert.GatedNormBackRefIdeal.Value.res_main_v45 at h3
  rw [a0, a1, a2, a3, a4, a5] at h0 h1 h3
  rw [a0, a1, a2, a3, a4] at h2
  exact ⟨h0.trans (ref_y ..), h1.trans (ref_z ..), h2.trans (ref_weight ..), h3.trans (ref_skip ..), hk⟩

end Cert.Proof.GatedNormBack

end
-- ==== Proof.Stage.lean ====
/-
  A scratch that two stores fill, `a` rows and `b` rows below them, read back at any rows (`read_rows`); and the
  reference's row of weights at every row (`spread_at`).
-/
module

public import proofs.«01_k».proof.Defs
public import Idealize.ShloMosaic.Lib.Pipeline.Value
public import Idealize.ShloMosaic.Lib.Pointwise

@[expose] public section

noncomputable section

namespace Cert.Proof.Stage

open Idealize.ShloMosaic Idealize.ShloMosaic.TcCoe Idealize.SL.Sem

/-- The row that is row `r` from row `j` on. -/
abbrev down (j : Nat) (hj : j ≤ 8) (r : Fin 512) : Fin 520 := ⟨j + r.val, by have := r.isLt; omega⟩

section Fill

variable {a b : Nat} (hab : a + b = 520) (u : Vec Ideal (⟨2, ![a, 512]⟩ : Shape) .f32) (w : Vec Ideal (⟨2, ![b, 512]⟩ : Shape) .f32)

/-- The `a` rows, and the `b` rows below them. -/
def stage : Vec Ideal (⟨2, ![520, 512]⟩ : Shape) .f32 := fun y =>
  if h : (y 0).val < a then u (ix2 ⟨(y 0).val, h⟩ (y 1))
  else w (ix2 ⟨(y 0).val - a, by have h' : (y 0).val < 520 := (y 0).isLt; omega⟩ (y 1))

theorem stage_low (R : Fin 520) (q : Fin 512) (r : Fin a) (h : R.val = r.val) : stage hab u w (ix2 R q) = u (ix2 r q) := by
  have hr : R.val < a := h ▸ r.isLt
  refine (dif_pos hr).trans ?_
  exact congrArg u (congrArg₂ ix2 (Fin.ext h) rfl)

theorem stage_high (R : Fin 520) (q : Fin 512) (r : Fin b) (h : R.val = a + r.val) : stage hab u w (ix2 R q) = w (ix2 r q) := by
  have hr : ¬ R.val < a := by omega
  refine (dif_neg hr).trans ?_
  exact congrArg w (congrArg₂ ix2 (Fin.ext (by show R.val - a = r.val; omega)) rfl)

theorem at_idx {n : Nat} (j : Nat) (ib : ∀ x, (![j, 0] : Fin 2 → Nat) x + (⟨2, ![n, 512]⟩ : Shape).size x ≤ (⟨2, ![520, 512]⟩ : Shape).size x)
    (r : Fin n) (q : Fin 512) (R : Fin 520) (h : R.val = j + r.val) :
    (Rect.unit (s := (⟨2, ![520, 512]⟩ : Shape)) ![j, 0] (⟨2, ![n, 512]⟩ : Shape).size ib).idx (ix2 r q) = ix2 R q := by
  funext x; apply Fin.ext
  match x with
  | ⟨0, _⟩ => show j + 1 * r.val = R.val; omega
  | ⟨1, _⟩ => show 0 + 1 * q.val = q.val; omega

/-- Both stores write what `stage` says, and every place is in one of them. -/
theorem read_rows {sig : RefSig} (v : View sig .tc .vmem (⟨2, ![520, 512]⟩ : Shape) .f32)
    (ia : ∀ x, (![0, 0] : Fin 2 → Nat) x + (⟨2, ![a, 512]⟩ : Shape).size x ≤ (⟨2, ![520, 512]⟩ : Shape).size x)
    (ib : ∀ x, (![a, 0] : Fin 2 → Nat) x + (⟨2, ![b, 512]⟩ : Shape).size x ≤ (⟨2, ![520, 512]⟩ : Shape).size x)
    (j : Nat) (hj : j ≤ 8)
    (ij : ∀ x, (![j, 0] : Fin 2 → Nat) x + (⟨2, ![512, 512]⟩ : Shape).size x ≤ (⟨2, ![520, 512]⟩ : Shape).size x) (r q : Fin 512) :
    v.readCov (Val := Elt Ideal) [⟨Rect.unit ![a, 0] (⟨2, ![b, 512]⟩ : Shape).size ib, w⟩, ⟨Rect.unit ![0, 0] (⟨2, ![a, 512]⟩ : Shape).size ia, u⟩]
      (Rect.unit (s := (⟨2, ![520, 512]⟩ : Shape)) ![j, 0] (⟨2, ![512, 512]⟩ : Shape).size ij).toLoadRect (ix2 r q)
      = stage hab u w (ix2 (down j hj r) q) := by
  rw [View.readCov_eq_canon']
  refine (congrArg _ (at_idx j ij r q (down j hj r) rfl)).trans ?_
  refine View.canon_apply_of_pieces (stage hab u w) _ ?_ _ ?_
  · intro pc hpc
    simp only [List.mem_cons, List.not_mem_nil, or_false] at hpc
    rcases hpc.symm with rfl | rfl
    · refine fun (x : (⟨2, ![a, 512]⟩ : Shape).Idx) => ?_
      obtain ⟨r, q, rfl⟩ : ∃ (r : Fin a) (q : Fin 512), x = ix2 r q := ⟨x 0, x 1, eq_ix2 x⟩
      have hr : r.val < 520 := by have := r.isLt; omega
      exact ((congrArg (stage hab u w) (at_idx 0 ia r q ⟨r.val, hr⟩ (Nat.zero_add _).symm)).trans (stage_low hab u w _ q r rfl)).symm
    · refine fun (x : (⟨2, ![b, 512]⟩ : Shape).Idx) => ?_
      obtain ⟨r, q, rfl⟩ : ∃ (r : Fin b) (q : Fin 512), x = ix2 r q := ⟨x 0, x 1, eq_ix2 x⟩
      have hr : a + r.val < 520 := by have := r.isLt; omega
      exact ((congrArg (stage hab u w) (at_idx a ib r q ⟨a + r.val, hr⟩ rfl)).trans (stage_high hab u w _ q r rfl)).symm
  · by_cases h : j + r.val < a
    · refine ⟨_, List.mem_cons_of_mem _ (List.mem_singleton.mpr rfl), ?_⟩
      exact (at_idx 0 ia ⟨j + r.val, h⟩ q (down j hj r) (Nat.zero_add _).symm) ▸ LoadRect.idx_mem _ _
    · refine ⟨_, List.mem_cons_self, ?_⟩
      have hr := r.isLt
      exact (at_idx a ib ⟨j + r.val - a, by omega⟩ q (down j hj r) (by show j + r.val = a + (j + r.val - a); omega)) ▸ LoadRect.idx_mem _ _

end Fill

theorem weight_row (x : Vec Ideal (⟨2, ![4, 512]⟩ : Shape) .f32) (k : Nat) (hk : k < 4)
    (ib : ∀ a, (![k, 0] : Fin 2 → Nat) a + (⟨2, ![1, 512]⟩ : Shape).size a ≤ (⟨2, ![4, 512]⟩ : Shape).size a) (q : Fin 512) :
    View.ld x (Rect.unit (s := (⟨2, ![4, 512]⟩ : Shape)) ![k, 0] (⟨2, ![1, 512]⟩ : Shape).size ib) (ix2 0 q) = x (ix2 ⟨k, hk⟩ q) := by
  refine congrArg x ?_
  funext a; apply Fin.ext
  match a with
  | ⟨0, _⟩ => show k + 1 * 0 = k; omega
  | ⟨1, _⟩ => show 0 + 1 * q.val = q.val; omega

abbrev Unit : Shape := ⟨0, ![]⟩
abbrev Full : Shape := ⟨2, ![8192, 6144]⟩
abbrev Tall : Shape := ⟨2, ![8195, 6144]⟩
abbrev Taps : Shape := ⟨2, ![4, 6144]⟩
abbrev Row : Shape := ⟨2, ![1, 6144]⟩
abbrev Flat : Shape := ⟨1, ![6144]⟩

theorem zero_int (h0 : 0 < Unit.numel) : (sitofp .f32 (constantI Unit 32 0#32) : FVec Ideal Unit .f32) (Shape.Idx.first h0) = (0 : EReal) := by
  show (((0#32 : BitVec 32).toInt : ℝ) : EReal) = 0
  simp

/-- Row `k` of the weights at every row. -/
abbrev spread (w : FVec Ideal Taps .f32) (k : Nat) (hs : Taps.Slices ![k, 0] Row) (hc : Row.ShapeCasts Flat) (hf : Flat.BroadcastsInDim Row (![1] : Fin 1 → Fin 2))
    (hb : Row.BroadcastsInDim Full (![0, 1] : Fin 2 → Fin 2)) : FVec Ideal Full .f32 :=
  broadcastInDim Full ![0, 1] hb (broadcastInDim Row ![1] hf (shapeCast Flat (extractStridedSlice Row ![k, 0] w hs) hc))

theorem spread_at (w : FVec Ideal Taps .f32) (k : Nat) (hk : k < 4) (hs) (hc) (hf) (hb) (R : Fin 8192) (q : Fin 6144) :
    spread w k hs hc hf hb (ix2 R q) = w (ix2 ⟨k, hk⟩ q) := by
  unfold spread
  pointwise

end Cert.Proof.Stage
end
-- ==== Proof.ConvClaims.lean ====
/-
  The claims of the causal convolution: a block's scratch holds the last rows of the block before (zeros at the start of the
  sequence) and, below them, the block's rows, so its row `r + s` is a row of the whole sequence with three rows of zeros
  before it (`scratch_at`), which is what the reference's padding says (`padded_at`).
-/
module

public import proofs.«01_k».proof.Proof.Adam
public import proofs.«01_k».proof.Proof.Gates
public import proofs.«01_k».proof.Proof.Stage
public import proofs.«01_k».proof.Proof.Gen.Conv.Frame
public import proofs.«01_k».proof.Proof.Gen.ConvIdeal.Value
public import proofs.«01_k».proof.Proof.Gen.ConvRefIdeal.Run

@[expose] public section

noncomputable section

namespace Cert.ConvIdeal.Run

open Idealize.ShloMosaic Idealize.ShloMosaic.TcCoe Idealize.SL.Sem
open Cert.ConvIdeal Cert.ConvIdeal.Gen Cert.ConvIdeal.Value
open Cert.Proof.Stage

theorem split : 8 + 512 = 520 := rfl

section Block

variable (x0 : Vec Ideal S512x512 .f32)

/-- A bias and four weights against four values, through its own gate. -/
def taps (b w0 e0 w1 e1 w2 e2 w3 e3 : EReal) : EReal := b + w0 * e0 + w1 * e1 + w2 * e2 + w3 * e3

/-- A value times its gate. -/
def gated (u : EReal) : EReal := u * Gates.gate u

theorem taps_apply (b w0 w1 w2 : Vec Ideal S1x512 .f32) (e0 e1 e2 : Vec Ideal S512x512 .f32) (r q : Fin 512) :
    k0_pay4 b w0 e0 w1 e1 w2 e2 (ix2 r q)
      = (b (ix2 0 q) : EReal) + w0 (ix2 0 q) * e0 (ix2 r q) + w1 (ix2 0 q) * e1 (ix2 r q) + w2 (ix2 0 q) * e2 (ix2 r q) := by
  unfold k0_pay4
  pointwise

theorem gated_apply (v : FVec Ideal S512x512 .f32) (w3 : Vec Ideal S1x512 .f32) (e3 : Vec Ideal S512x512 .f32) (r q : Fin 512) :
    k0_pay1 v w3 e3 (ix2 r q) = gated (v (ix2 r q) + w3 (ix2 0 q) * e3 (ix2 r q)) := by
  unfold gated
  rw [← Gates.kernel_gate]
  unfold k0_pay1
  pointwise

theorem out_apply (c : Dev nD) (i : grid0.Coords)
    (a2 : Memref sig .tc .vmem S512x512 .f32) (h2 : a2.IsWhole) (a3 : Memref sig .tc .vmem S8x512 .f32) (h3 : a3.IsWhole)
    (a4 : Memref sig .tc .vmem S4x512 .f32) (h4 : a4.IsWhole) (a5 : Memref sig .tc .vmem S1x512 .f32) (h5 : a5.IsWhole)
    (a6 : Memref sig .tc .vmem S512x512 .f32) (h6 : a6.IsWhole) (a7 : Memref sig .tc .vmem S520x512 .f32) (h7 : a7.IsWhole)
    (x1 : Vec Ideal S8x512 .f32) (x2 : Vec Ideal S4x512 .f32) (x3 : Vec Ideal S1x512 .f32) (r q : Fin 512) :
    out0_A_4 c i a2 h2 a3 h3 a4 h4 a5 h5 a6 h6 a7 h7 x0 x1 x2 x3 (ix2 r q)
      = gated (taps (x3 (ix2 0 q)) (x2 (ix2 0 q)) (stage split (k0_pay2 i x1) x0 (ix2 (down 5 (by decide) r) q))
        (x2 (ix2 1 q)) (stage split (k0_pay2 i x1) x0 (ix2 (down 6 (by decide) r) q))
        (x2 (ix2 2 q)) (stage split (k0_pay2 i x1) x0 (ix2 (down 7 (by decide) r) q))
        (x2 (ix2 3 q)) (stage split (k0_pay2 i x1) x0 (ix2 (down 8 (by decide) r) q))) := by
  have e : k0_pay3 x0 = x0 := shapeCast_self x0 _
  unfold out0_A_4
  rw [View.read_writes_eq_canon _ _ _ (cover0_A_4 c i a2 h2 a3 h3 a4 h4 a5 h5 a6 h6 a7 h7 x0 x1 x2 x3)]
  unfold kernelRun0_A
  dsimp only
  sl_unfold_words
  rw [View.canon_unit_zero Adam.zero2]
  simp only [View.readAt_eq_ld, h2.read_unread, h3.read_unread, h4.read_unread, h5.read_unread]
  simp only [View.ld_unit_zero (S := S512x512) Adam.zero2, View.ld_unit_zero (S := S8x512) Adam.zero2,
    View.ld_unit_zero (S := S1x512) Adam.zero2, e]
  refine (gated_apply _ _ _ r q).trans (congrArg gated ?_)
  rw [taps_apply]
  rw [weight_row x2 3 (by decide), weight_row x2 2 (by decide), weight_row x2 1 (by decide), weight_row x2 0 (by decide),
    read_rows split (k0_pay2 i x1) x0 _ _ _ 5 (by decide), read_rows split (k0_pay2 i x1) x0 _ _ _ 6 (by decide),
    read_rows split (k0_pay2 i x1) x0 _ _ _ 7 (by decide), read_rows split (k0_pay2 i x1) x0 _ _ _ 8 (by decide)]
  rfl

end Block

variable (m : (ℓ : Loc nD τ sig) → Buf (Elt Ideal) ℓ) (c : Dev nD)

theorem bound (t : Fin cfg0.N) : t.val < 192 := lt_of_lt_of_eq t.isLt N_0

/-- The row of the arrays that is row `r` of point `t`'s block. -/
def row (t : Fin cfg0.N) (r : Fin 512) : Fin 8192 := ⟨t.val % 16 * 512 + r.val, by have := r.isLt; omega⟩

/-- The column of the arrays that is column `q` of point `t`'s block. -/
def col (t : Fin cfg0.N) (q : Fin 512) : Fin 6144 := ⟨t.val / 16 * 512 + q.val, by
  have := bound t
  have := q.isLt
  omega⟩

/-- The column of the projections that is column `q` of the convolution. -/
def inCol (q : Fin 6144) : Fin 22528 := ⟨12288 + q.val, by have := q.isLt; omega⟩

/-- The sequence with three rows of zeros before it. -/
def before (p : Vec Ideal S8192x22528 .f32) (n : Nat) (q : Fin 6144) : EReal :=
  if h : 3 ≤ n ∧ n < 8195 then p (ix2 ⟨n - 3, by omega⟩ (inCol q)) else 0

theorem before_in (p : Vec Ideal S8192x22528 .f32) (R : Fin 8192) (q : Fin 6144) (n : Nat) (h : n = R.val + 3) :
    before p n q = p (ix2 R (inCol q)) := by
  subst h
  have := R.isLt
  exact dif_pos (by omega)

theorem before_out (p : Vec Ideal S8192x22528 .f32) (n : Nat) (q : Fin 6144) (h : n < 3) : before p n q = 0 := dif_neg (by omega)

theorem index_block : ∀ t : Fin cfg0.N, win0_0.index t (0 : Fin 2) = t.val % 16 ∧ win0_0.index t (1 : Fin 2) = 24 + t.val / 16 :=
  (by decide +kernel : ∀ t : Fin grid0.N, _)

theorem index_above : ∀ t : Fin cfg0.N, win0_1.index t (0 : Fin 2) = t.val % 16 * 64 - 1 ∧ win0_1.index t (1 : Fin 2) = 24 + t.val / 16 :=
  (by decide +kernel : ∀ t : Fin grid0.N, _)

theorem index_weights : ∀ t : Fin cfg0.N, win0_2.index t (0 : Fin 2) = 0 ∧ win0_2.index t (1 : Fin 2) = t.val / 16 :=
  (by decide +kernel : ∀ t : Fin grid0.N, _)

theorem index_bias : ∀ t : Fin cfg0.N, win0_3.index t (0 : Fin 2) = 0 ∧ win0_3.index t (1 : Fin 2) = t.val / 16 :=
  (by decide +kernel : ∀ t : Fin grid0.N, _)

theorem index_out : ∀ t : Fin cfg0.N, win0_4.index t (0 : Fin 2) = t.val % 16 ∧ win0_4.index t (1 : Fin 2) = t.val / 16 :=
  (by decide +kernel : ∀ t : Fin grid0.N, _)

theorem first_flag : ∀ t : Fin cfg0.N, Scalar.cmpi .eq (BitVec.ofNat 32 (grid0.coords t 1).val) 0#32 = if t.val % 16 = 0 then 1#1 else 0#1 :=
  (by decide +kernel : ∀ t : Fin grid0.N, _)

theorem emb_block (t : Fin cfg0.N) (r q : Fin 512) : ((cfg0.win 0).blk t).view.emb (ix2 r q) = ix2 (row t r) (inCol (col t q)) := by
  obtain ⟨h0, h1⟩ := index_block t
  funext a; apply Fin.ext
  match a with
  | ⟨0, _⟩ => show win0_0.index t (0 : Fin 2) * 512 + 1 * r.val = t.val % 16 * 512 + r.val; omega
  | ⟨1, _⟩ => show win0_0.index t (1 : Fin 2) * 512 + 1 * q.val = 12288 + (t.val / 16 * 512 + q.val); omega

theorem emb_out (t : Fin cfg0.N) (r q : Fin 512) : ((cfg0.win 4).blk t).view.emb (ix2 r q) = ix2 (row t r) (col t q) := by
  obtain ⟨h0, h1⟩ := index_out t
  funext a; apply Fin.ext
  match a with
  | ⟨0, _⟩ => show win0_4.index t (0 : Fin 2) * 512 + 1 * r.val = t.val % 16 * 512 + r.val; omega
  | ⟨1, _⟩ => show win0_4.index t (1 : Fin 2) * 512 + 1 * q.val = t.val / 16 * 512 + q.val; omega

theorem emb_above (t : Fin cfg0.N) (ht : 0 < t.val % 16) (r : Fin 8) (q : Fin 512) :
    ((cfg0.win 1).blk t).view.emb (ix2 r q) = ix2 ⟨t.val % 16 * 512 - 8 + r.val, by have := r.isLt; omega⟩ (inCol (col t q)) := by
  obtain ⟨h0, h1⟩ := index_above t
  funext a; apply Fin.ext
  match a with
  | ⟨0, _⟩ => show win0_1.index t (0 : Fin 2) * 8 + 1 * r.val = t.val % 16 * 512 - 8 + r.val; omega
  | ⟨1, _⟩ => show win0_1.index t (1 : Fin 2) * 512 + 1 * q.val = 12288 + (t.val / 16 * 512 + q.val); omega

theorem emb_bias (t : Fin cfg0.N) (k : Fin 1) (q : Fin 512) : ((cfg0.win 3).blk t).view.emb (ix2 k q) = ix2 k (col t q) := by
  obtain ⟨h0, h1⟩ := index_bias t
  funext a; apply Fin.ext
  match a with
  | ⟨0, _⟩ => show win0_3.index t (0 : Fin 2) * 1 + 1 * k.val = k.val; omega
  | ⟨1, _⟩ => show win0_3.index t (1 : Fin 2) * 512 + 1 * q.val = t.val / 16 * 512 + q.val; omega

theorem emb_weights (t : Fin cfg0.N) (k : Fin 4) (q : Fin 512) : ((cfg0.win 2).blk t).view.emb (ix2 k q) = ix2 k (col t q) := by
  obtain ⟨h0, h1⟩ := index_weights t
  funext a; apply Fin.ext
  match a with
  | ⟨0, _⟩ => show win0_2.index t (0 : Fin 2) * 4 + 1 * k.val = k.val; omega
  | ⟨1, _⟩ => show win0_2.index t (1 : Fin 2) * 512 + 1 * q.val = t.val / 16 * 512 + q.val; omega

theorem covered (i : S8192x6144.Idx) : ∃ (t : Fin cfg0.N) (y : S512x512.Idx), ((cfg0.win 4).blk t).view.emb y = i := by
  obtain ⟨R, q, rfl⟩ := Adam.place i
  have hR := R.isLt
  have hq := q.isLt
  have ht : q.val / 512 * 16 + R.val / 512 < cfg0.N := lt_of_lt_of_eq (by omega : _ < 192) N_0.symm
  refine ⟨⟨q.val / 512 * 16 + R.val / 512, ht⟩, ix2 (⟨R.val % 512, by omega⟩ : Fin 512) (⟨q.val % 512, by omega⟩ : Fin 512), ?_⟩
  refine (emb_out _ _ _).trans (congrArg₂ ix2 (Fin.ext ?_) (Fin.ext ?_))
  · show (q.val / 512 * 16 + R.val / 512) % 16 * 512 + R.val % 512 = R.val; omega
  · show (q.val / 512 * 16 + R.val / 512) / 16 * 512 + q.val % 512 = q.val; omega

theorem flagged (t : Fin cfg0.N) (x : Vec Ideal S8x512 .f32) (r : Fin 8) (q : Fin 512) :
    k0_pay2 (grid0.coords t) x (ix2 r q) = if t.val % 16 = 0 then (0 : EReal) else x (ix2 r q) := by
  unfold k0_pay2
  dsimp only
  rw [shapeCast_self, first_flag]
  by_cases h : t.val % 16 = 0
  · rw [if_pos h, if_pos h]
    show Ideal.ofBits .f32 0x00000000#32 = 0
    exact Ideal.ofBits_zero _
  · rw [if_neg h, if_neg h]; rfl

/-- Row `r + 5 + k` of a point's scratch is the sequence's, three rows of zeros before it. -/
theorem scratch_at (t : Fin cfg0.N) (s k : Nat) (hs : s ≤ 8) (hk : s = 5 + k) (r q : Fin 512) :
    stage split (k0_pay2 (grid0.coords t) (iblk m c 1 t)) (iblk m c 0 t) (ix2 (down s hs r) q)
      = before (V m c main_arg0) (t.val % 16 * 512 + r.val + k) (col t q) := by
  have hr := r.isLt
  subst hk
  by_cases h : 5 + k + r.val < 8
  · refine (stage_low split _ _ _ q ⟨5 + k + r.val, h⟩ rfl).trans ?_
    rw [flagged]
    by_cases h' : t.val % 16 = 0
    · rw [if_pos h']
      exact (before_out _ _ _ (by omega)).symm
    · rw [if_neg h']
      refine (congrArg (V m c main_arg0) (emb_above t (by omega) _ q)).trans (before_in _ _ _ _ ?_).symm
      show _ = t.val % 16 * 512 - 8 + (5 + k + r.val) + 3
      omega
  · refine (stage_high split _ _ _ q ⟨5 + k + r.val - 8, by omega⟩ (by show 5 + k + r.val = 8 + (5 + k + r.val - 8); omega)).trans ?_
    refine (congrArg (V m c main_arg0) (emb_block t _ q)).trans (before_in _ _ _ _ ?_).symm
    show _ = t.val % 16 * 512 + (5 + k + r.val - 8) + 3
    omega

/-- The convolution: at every place the bias and the four weights against its row and the three rows before it, gated. -/
def conv (p : Vec Ideal S8192x22528 .f32) (w : Vec Ideal S4x6144 .f32) (b : Vec Ideal S1x6144 .f32) : Vec Ideal S8192x6144 .f32 := fun j =>
  gated (taps (b (ix2 0 (j 1))) (w (ix2 0 (j 1))) (before p (j 0).val (j 1)) (w (ix2 1 (j 1))) (before p ((j 0).val + 1) (j 1))
    (w (ix2 2 (j 1))) (before p ((j 0).val + 2) (j 1)) (w (ix2 3 (j 1))) (before p ((j 0).val + 3) (j 1)))

theorem block_apply (t : Fin cfg0.N) (r q : Fin 512) :
    outsAt0 m c t (ix2 r q) = conv (V m c main_arg0) (V m c main_arg1) (V m c main_arg2) (ix2 (row t r) (col t q)) := by
  unfold outsAt0
  refine (out_apply _ _ _ _ _ _ _ _ _ _ _ _ _ _ _ _ _ _ r q).trans ?_
  have hw (k : Fin 4) : iblk m c 2 t (ix2 k q) = V m c main_arg1 (ix2 k (col t q)) := congrArg (V m c main_arg1) (emb_weights t k q)
  have hb : iblk m c 3 t (ix2 0 q) = V m c main_arg2 (ix2 0 (col t q)) := congrArg (V m c main_arg2) (emb_bias t 0 q)
  rw [hw, hw, hw, hw, hb, scratch_at m c t 5 0 _ rfl, scratch_at m c t 6 1 _ rfl, scratch_at m c t 7 2 _ rfl, scratch_at m c t 8 3 _ rfl]
  rfl

theorem final : (dats m 0 c).arrAt 4 cfg0.N = conv (V m c main_arg0) (V m c main_arg1) (V m c main_arg2) :=
  (dats m 0 c).arrAt_eq_of_cover 4 (conv (V m c main_arg0) (V m c main_arg1) (V m c main_arg2))
    (fun t _ => by
      rw [flushed4]
      refine funext fun (y : S512x512.Idx) => ?_
      obtain ⟨r, q, rfl⟩ := Adam.place y
      exact (block_apply m c t r q).trans (congrArg (conv (V m c main_arg0) (V m c main_arg1) (V m c main_arg2)) (emb_out t r q).symm))
    (fun (i : S8192x6144.Idx) => let ⟨t, y, h⟩ := covered i; ⟨t, flush0_4 t, h ▸ ((cfg0.win 4).blk t).view.emb_mem_set y⟩)

end Cert.ConvIdeal.Run

namespace Cert.Proof.Conv

open Idealize.ShloMosaic Idealize.ShloMosaic.TcCoe Idealize.SL.Sem
open Cert.ConvIdeal.Run (before before_in before_out taps gated conv inCol)
open Cert.Proof.Stage

theorem frame_refIdeal : Cert.quiescent_ConvRefIdeal := fun m g _ =>
  (θ_run Cert.ConvRefIdeal.defs _ _).mono
    (fun r h => ⟨fun c => (h c).2, sem_eq_zero_of_no_sems (by decide) r.2⟩) (Cert.ConvRefIdeal.Value.run m g)

section Reference

abbrev Wide : Shape := ⟨2, ![8192, 22528]⟩

variable (p : FVec Ideal Wide .f32) (w : FVec Ideal Taps .f32) (b : FVec Ideal Row .f32) (hx : Wide.Slices ![0, 12288] Full)
  (hp : Full.Pads (![3, 0] : Fin 2 → Nat) ![0, 0] ![0, 0] Tall) (h0 : 0 < Unit.numel)

/-- The sequence with three rows of zeros above it. -/
abbrev padded : FVec Ideal Tall .f32 :=
  pad Tall ![3, 0] ![0, 0] ![0, 0] (extractStridedSlice Full ![0, 12288] p hx) (sitofp .f32 (constantI Unit 32 0#32)) hp h0

theorem part_at (R : Fin 8192) (q : Fin 6144) : extractStridedSlice Full ![0, 12288] p hx (ix2 R q) = p (ix2 R (inCol q)) := by
  unfold inCol
  pointwise

theorem padded_at (R : Fin 8195) (q : Fin 6144) : padded p hx hp h0 (ix2 R q) = before p R.val q := by
  have hR := R.isLt
  by_cases h : 3 ≤ R.val
  · have hk : R.val - 3 < 8192 := by omega
    refine Eq.trans ?_ (before_in p ⟨R.val - 3, hk⟩ q R.val (by show R.val = R.val - 3 + 3; omega)).symm
    refine (pad_apply_of_inside _ _ _ _ _ hp h0 _ (ix2 (⟨R.val - 3, hk⟩ : Fin 8192) q) ?_).trans (part_at p hx _ q)
    intro a
    match a with
    | ⟨0, _⟩ => show R.val = 3 + (R.val - 3) * 1; omega
    | ⟨1, _⟩ => show q.val = 0 + q.val * 1; omega
  · refine Eq.trans ?_ (before_out p R.val q (by omega)).symm
    refine (pad_apply_of_not_inside _ _ _ _ _ hp h0 _ 0 ?_).trans (zero_int h0)
    intro hin
    exact h hin.1

theorem slice_at (k : Nat) (hk : k < 4) (hs : Tall.Slices ![k, 0] Full) (R : Fin 8192) (q : Fin 6144) :
    extractStridedSlice Full ![k, 0] (padded p hx hp h0) hs (ix2 R q) = before p (R.val + k) q := by
  have hR := R.isLt
  refine Eq.trans ?_ (padded_at p hx hp h0 ⟨R.val + k, by omega⟩ q)
  unfold extractStridedSlice
  refine congrArg (padded p hx hp h0) ?_
  funext a; apply Fin.ext
  match a with
  | ⟨0, _⟩ => show k + R.val = R.val + k; omega
  | ⟨1, _⟩ => show 0 + q.val = q.val; omega

variable (s0 : Taps.Slices ![0, 0] Row) (s1 : Taps.Slices ![1, 0] Row) (s2 : Taps.Slices ![2, 0] Row) (s3 : Taps.Slices ![3, 0] Row)
  (t0 : Tall.Slices ![0, 0] Full) (t1 : Tall.Slices ![1, 0] Full) (t2 : Tall.Slices ![2, 0] Full) (t3 : Tall.Slices ![3, 0] Full)
  (hc : Row.ShapeCasts Flat) (hf : Flat.BroadcastsInDim Row (![1] : Fin 1 → Fin 2)) (hb : Row.BroadcastsInDim Full (![0, 1] : Fin 2 → Fin 2))

/-- The reference's convolution before its gate. -/
abbrev refSum : FVec Ideal Full .f32 :=
  addf (addf (addf (addf (broadcastInDim Full ![0, 1] hb b) (mulf (spread w 0 s0 hc hf hb) (extractStridedSlice Full ![0, 0] (padded p hx hp h0) t0)))
    (mulf (spread w 1 s1 hc hf hb) (extractStridedSlice Full ![1, 0] (padded p hx hp h0) t1)))
    (mulf (spread w 2 s2 hc hf hb) (extractStridedSlice Full ![2, 0] (padded p hx hp h0) t2)))
    (mulf (spread w 3 s3 hc hf hb) (extractStridedSlice Full ![3, 0] (padded p hx hp h0) t3))

theorem bias_at (R : Fin 8192) (q : Fin 6144) :
    broadcastInDim Full ![0, 1] hb b (ix2 R q) = b (ix2 0 q) := by pointwise

theorem sum_at (R : Fin 8192) (q : Fin 6144) :
    refSum p w b hx hp h0 s0 s1 s2 s3 t0 t1 t2 t3 hc hf hb (ix2 R q)
      = taps (b (ix2 0 q)) (w (ix2 0 q)) (before p R.val q) (w (ix2 1 q)) (before p (R.val + 1) q)
        (w (ix2 2 q)) (before p (R.val + 2) q) (w (ix2 3 q)) (before p (R.val + 3) q) := by
  show taps (broadcastInDim Full ![0, 1] hb b (ix2 R q))
    (spread w 0 s0 hc hf hb (ix2 R q)) (extractStridedSlice Full ![0, 0] (padded p hx hp h0) t0 (ix2 R q))
    (spread w 1 s1 hc hf hb (ix2 R q)) (extractStridedSlice Full ![1, 0] (padded p hx hp h0) t1 (ix2 R q))
    (spread w 2 s2 hc hf hb (ix2 R q)) (extractStridedSlice Full ![2, 0] (padded p hx hp h0) t2 (ix2 R q))
    (spread w 3 s3 hc hf hb (ix2 R q)) (extractStridedSlice Full ![3, 0] (padded p hx hp h0) t3 (ix2 R q)) = _
  rw [spread_at w 3 (by decide), spread_at w 2 (by decide), spread_at w 1 (by decide), spread_at w 0 (by decide), bias_at,
    slice_at p hx hp h0 0 (by decide), slice_at p hx hp h0 1 (by decide), slice_at p hx hp h0 2 (by decide), slice_at p hx hp h0 3 (by decide)]
  rfl

theorem gated_at (u : FVec Ideal Full .f32) (ho : Unit.BroadcastsInDim Full ![]) (j : Full.Idx) : mulf u (Gates.gates u ho) j = gated (u j) := by
  show (u j : EReal) * Gates.gates u ho j = _
  rw [Gates.ref_gate]
  rfl

theorem ref_eq (ho : Unit.BroadcastsInDim Full ![]) :
    mulf (refSum p w b hx hp h0 s0 s1 s2 s3 t0 t1 t2 t3 hc hf hb) (Gates.gates (refSum p w b hx hp h0 s0 s1 s2 s3 t0 t1 t2 t3 hc hf hb) ho)
      = conv p w b := by
  refine funext fun (j : Full.Idx) => ?_
  obtain ⟨R, q, rfl⟩ := Adam.place j
  exact (gated_at _ ho _).trans (congrArg gated (sum_at p w b hx hp h0 s0 s1 s2 s3 t0 t1 t2 t3 hc hf hb R q))

end Reference

theorem algebraic : Cert.algebraic_ConvIdeal_ConvRefIdeal := fun m g m' g' _ hA => by
  refine ⟨_, (θ_run Cert.ConvIdeal.defs _ _).mono (fun r h c => ⟨(h c).1.trans (Cert.ConvIdeal.Run.final m c), (h c).2⟩)
      (Cert.ConvIdeal.Value.run_blocks m g),
    (θ_run Cert.ConvRefIdeal.defs _ _).mono (fun r h c => ?_) (Cert.ConvRefIdeal.Value.run m' g')⟩
  obtain ⟨h0, hk⟩ := h c
  obtain ⟨a0, a1, a2⟩ := hA c
  unfold Cert.ConvRefIdeal.Value.res_main_v31 at h0
  rw [a0, a1, a2] at h0
  exact ⟨h0.trans (ref_eq ..), hk⟩

end Cert.Proof.Conv
end
-- ==== Proof.ConvGradClaims.lean ====
/-
  The claims of the first half of the gradient of the causal convolution: the gradient before the gate is written block by block
  (`final_rows`); the gradients of the weights and of the bias are kept through a column block's sixteen points, so that they are
  the blocks' sums added (`kept`) and so the sums over all rows (`final_weights`, `final_bias`).
-/
module

public import proofs.«01_k».proof.Proof.Adam
public import proofs.«01_k».proof.Proof.Slopes
public import proofs.«01_k».proof.Proof.Norm
public import proofs.«01_k».proof.Proof.ConvClaims
public import proofs.«01_k».proof.Proof.Gen.ConvGrad.Frame
public import proofs.«01_k».proof.Proof.Gen.ConvGradIdeal.Value
public import proofs.«01_k».proof.Proof.Gen.ConvGradRefIdeal.Run

@[expose] public section

noncomputable section

namespace Cert.ConvGradIdeal.Run

open Idealize.ShloMosaic Idealize.ShloMosaic.TcCoe Idealize.SL.Sem
open Cert.ConvGradIdeal Cert.ConvGradIdeal.Gen Cert.ConvGradIdeal.Value
open Cert.ConvIdeal.Run (split taps before before_in before_out inCol)
open Cert.Proof.Stage

/-! ## What a point leaves -/

section Block

/-- The 512 rows of a point's scratch from row `s` on. -/
def rows (i : grid0.Coords) (x0 : Vec Ideal S512x512 .f32) (x1 : Vec Ideal S8x512 .f32) (s : Nat) (hs : s ≤ 8) : Vec Ideal S512x512 .f32 :=
  fun y => stage split (k0_pay4 i x1) x0 (ix2 (down s hs (y 0)) (y 1))

/-- Row `k` of the weights. -/
def wrow (x3 : Vec Ideal S4x512 .f32) (k : Fin 4) : Vec Ideal S1x512 .f32 := fun y => x3 (ix2 k (y 1))

theorem one_row (y : S1x512.Idx) : ∃ q : Fin 512, y = ix2 0 q :=
  ⟨y 1, (eq_ix2 y).trans (congrArg (fun e => ix2 e (y 1)) (Fin.fin_one_eq_zero (y 0)))⟩

theorem wrow_eq (x3 : Vec Ideal S4x512 .f32) (k : Nat) (hk : k < 4)
    (ib : ∀ a, (![k, 0] : Fin 2 → Nat) a + S1x512.size a ≤ S4x512.size a) :
    View.ld x3 (Rect.unit (s := S4x512) ![k, 0] S1x512.size ib) = wrow x3 ⟨k, hk⟩ := by
  refine funext fun (y : S1x512.Idx) => ?_
  obtain ⟨q, rfl⟩ := one_row y
  exact weight_row x3 k hk ib q

variable (i : grid0.Coords) (x0 : Vec Ideal S512x512 .f32) (x1 : Vec Ideal S8x512 .f32) (x2 : Vec Ideal S512x512 .f32)
  (x3 : Vec Ideal S4x512 .f32) (x4 : Vec Ideal S1x512 .f32) (o : Vec Ideal S8x512 .f32) (o' : Vec Ideal S1x512 .f32)

theorem rows_eq (v : View sig .tc .vmem S520x512 .f32)
    (ia : ∀ x, (![0, 0] : Fin 2 → Nat) x + S8x512.size x ≤ S520x512.size x)
    (ib : ∀ x, (![8, 0] : Fin 2 → Nat) x + S512x512.size x ≤ S520x512.size x) (j : Nat) (hj : j ≤ 8)
    (ij : ∀ x, (![j, 0] : Fin 2 → Nat) x + S512x512.size x ≤ S520x512.size x) :
    v.readCov (Val := Elt Ideal) [⟨Rect.unit ![8, 0] S512x512.size ib, x0⟩, ⟨Rect.unit ![0, 0] S8x512.size ia, k0_pay4 i x1⟩]
      (Rect.unit (s := S520x512) ![j, 0] S512x512.size ij).toLoadRect = rows i x0 x1 j hj := by
  refine funext fun (y : S512x512.Idx) => ?_
  obtain ⟨r, q, rfl⟩ := Adam.place y
  exact read_rows split (k0_pay4 i x1) x0 v ia ib j hj ij r q

/-- A block's values before the last weight. -/
def first : FVec Ideal S512x512 .f32 :=
  k0_pay6 x4 (wrow x3 0) (rows i x0 x1 5 (by decide)) (wrow x3 1) (rows i x0 x1 6 (by decide)) (wrow x3 2) (rows i x0 x1 7 (by decide))
/-- A block's gradient before the gate. -/
def atP : FVec Ideal S512x512 .f32 := k0_pay7 (first i x0 x1 x3 x4) (wrow x3 3) (rows i x0 x1 8 (by decide)) x2
/-- A block's part of the gradient of the bias. -/
def atB : FVec Ideal S1x512 .f32 := k0_pay8 (first i x0 x1 x3 x4) (wrow x3 3) (rows i x0 x1 8 (by decide)) x2
/-- A block's part of the gradient of the weights. -/
def atW : FVec Ideal S8x512 .f32 :=
  k0_pay1 (atP i x0 x1 x2 x3 x4) (k0_pay9 (first i x0 x1 x3 x4) (wrow x3 3) (rows i x0 x1 8 (by decide)) x2 (rows i x0 x1 5 (by decide)))
    (k0_pay10 (first i x0 x1 x3 x4) (wrow x3 3) (rows i x0 x1 8 (by decide)) x2 (rows i x0 x1 6 (by decide)))
    (k0_pay11 (first i x0 x1 x3 x4) (wrow x3 3) (rows i x0 x1 8 (by decide)) x2 (rows i x0 x1 7 (by decide))) (rows i x0 x1 8 (by decide))

variable (c : Dev nD) (a2 : Memref sig .tc .vmem S512x512 .f32) (h2 : a2.IsWhole) (a3 : Memref sig .tc .vmem S8x512 .f32) (h3 : a3.IsWhole)
  (a4 : Memref sig .tc .vmem S512x512 .f32) (h4 : a4.IsWhole) (a5 : Memref sig .tc .vmem S4x512 .f32) (h5 : a5.IsWhole)
  (a6 : Memref sig .tc .vmem S1x512 .f32) (h6 : a6.IsWhole) (a7 : Memref sig .tc .vmem S512x512 .f32) (h7 : a7.IsWhole)
  (a8 : Memref sig .tc .vmem S8x512 .f32) (h8 : a8.IsWhole) (a9 : Memref sig .tc .vmem S1x512 .f32) (h9 : a9.IsWhole)
  (a10 : Memref sig .tc .vmem S520x512 .f32) (h10 : a10.IsWhole)

theorem rows_first (hc : cond0_0 i) (hc' : ¬cond0_1 i) :
    out0_A_5 c i a2 h2 a3 h3 a4 h4 a5 h5 a6 h6 a7 h7 a8 h8 a9 h9 a10 h10 hc hc' x0 x1 x2 x3 x4 = atP i x0 x1 x2 x3 x4 := by
  have e : k0_pay5 x0 = x0 := shapeCast_self x0 _
  unfold out0_A_5
  rw [View.read_writes_eq_canon _ _ _ (cover0_A_5 c i a2 h2 a3 h3 a4 h4 a5 h5 a6 h6 a7 h7 a8 h8 a9 h9 a10 h10 hc hc' x0 x1 x2 x3 x4)]
  unfold kernelRun0_A
  dsimp only
  sl_unfold_words
  rw [View.canon_unit_zero Adam.zero2]
  unfold atP first
  simp only [View.readAt_eq_ld, h2.read_unread, h3.read_unread, h4.read_unread, h5.read_unread, h6.read_unread, View.ld_unit_zero (S := S512x512) Adam.zero2,
    View.ld_unit_zero (S := S8x512) Adam.zero2, View.ld_unit_zero (S := S1x512) Adam.zero2, e]
  rw [rows_eq i x0 x1 _ _ _ 5 (by decide), rows_eq i x0 x1 _ _ _ 6 (by decide), rows_eq i x0 x1 _ _ _ 7 (by decide),
    rows_eq i x0 x1 _ _ _ 8 (by decide), wrow_eq x3 0 (by decide), wrow_eq x3 1 (by decide), wrow_eq x3 2 (by decide), wrow_eq x3 3 (by decide)]
  rfl

theorem rows_next (hc : ¬cond0_0 i) (hc' : cond0_1 i) :
    out0_B_5 c i a2 h2 a3 h3 a4 h4 a5 h5 a6 h6 a7 h7 a8 h8 a9 h9 a10 h10 hc hc' x0 x1 x2 x3 x4 o o' = atP i x0 x1 x2 x3 x4 := by
  have e : k0_pay5 x0 = x0 := shapeCast_self x0 _
  unfold out0_B_5
  rw [View.read_writes_eq_canon _ _ _ (cover0_B_5 c i a2 h2 a3 h3 a4 h4 a5 h5 a6 h6 a7 h7 a8 h8 a9 h9 a10 h10 hc hc' x0 x1 x2 x3 x4 o o')]
  unfold kernelRun0_B
  dsimp only
  sl_unfold_words
  rw [View.canon_unit_zero Adam.zero2]
  unfold atP first
  simp only [View.readAt_eq_ld, h2.read_unread, h3.read_unread, h4.read_unread, h5.read_unread, h6.read_unread, h8.read_unread, h9.read_unread, View.ld_unit_zero (S := S512x512) Adam.zero2,
    View.ld_unit_zero (S := S8x512) Adam.zero2, View.ld_unit_zero (S := S1x512) Adam.zero2, e]
  rw [rows_eq i x0 x1 _ _ _ 5 (by decide), rows_eq i x0 x1 _ _ _ 6 (by decide), rows_eq i x0 x1 _ _ _ 7 (by decide),
    rows_eq i x0 x1 _ _ _ 8 (by decide), wrow_eq x3 0 (by decide), wrow_eq x3 1 (by decide), wrow_eq x3 2 (by decide), wrow_eq x3 3 (by decide)]
  rfl

theorem weights_first (hc : cond0_0 i) (hc' : ¬cond0_1 i) :
    out0_A_6 c i a2 h2 a3 h3 a4 h4 a5 h5 a6 h6 a7 h7 a8 h8 a9 h9 a10 h10 hc hc' x0 x1 x2 x3 x4 = atW i x0 x1 x2 x3 x4 := by
  have e : k0_pay5 x0 = x0 := shapeCast_self x0 _
  unfold out0_A_6
  rw [View.read_writes_eq_canon _ _ _ (cover0_A_6 c i a2 h2 a3 h3 a4 h4 a5 h5 a6 h6 a7 h7 a8 h8 a9 h9 a10 h10 hc hc' x0 x1 x2 x3 x4)]
  unfold kernelRun0_A
  dsimp only
  sl_unfold_words
  rw [View.canon_unit_zero Adam.zero2]
  unfold atW atP first
  simp only [View.readAt_eq_ld, h2.read_unread, h3.read_unread, h4.read_unread, h5.read_unread, h6.read_unread, View.ld_unit_zero (S := S512x512) Adam.zero2,
    View.ld_unit_zero (S := S8x512) Adam.zero2, View.ld_unit_zero (S := S1x512) Adam.zero2, e]
  rw [rows_eq i x0 x1 _ _ _ 5 (by decide), rows_eq i x0 x1 _ _ _ 6 (by decide), rows_eq i x0 x1 _ _ _ 7 (by decide),
    rows_eq i x0 x1 _ _ _ 8 (by decide), wrow_eq x3 0 (by decide), wrow_eq x3 1 (by decide), wrow_eq x3 2 (by decide), wrow_eq x3 3 (by decide)]
  rfl

theorem weights_next (hc : ¬cond0_0 i) (hc' : cond0_1 i) :
    out0_B_6 c i a2 h2 a3 h3 a4 h4 a5 h5 a6 h6 a7 h7 a8 h8 a9 h9 a10 h10 hc hc' x0 x1 x2 x3 x4 o o' = addf o (atW i x0 x1 x2 x3 x4) := by
  have e : k0_pay5 x0 = x0 := shapeCast_self x0 _
  unfold out0_B_6
  rw [View.read_writes_eq_canon _ _ _ (cover0_B_6 c i a2 h2 a3 h3 a4 h4 a5 h5 a6 h6 a7 h7 a8 h8 a9 h9 a10 h10 hc hc' x0 x1 x2 x3 x4 o o')]
  unfold kernelRun0_B
  dsimp only
  sl_unfold_words
  rw [View.canon_unit_zero Adam.zero2]
  unfold atW atP first k0_pay2
  simp only [View.readAt_eq_ld, h2.read_unread, h3.read_unread, h4.read_unread, h5.read_unread, h6.read_unread, h8.read_unread, h9.read_unread, View.ld_unit_zero (S := S512x512) Adam.zero2,
    View.ld_unit_zero (S := S8x512) Adam.zero2, View.ld_unit_zero (S := S1x512) Adam.zero2, e, shapeCast_self]
  rw [rows_eq i x0 x1 _ _ _ 5 (by decide), rows_eq i x0 x1 _ _ _ 6 (by decide), rows_eq i x0 x1 _ _ _ 7 (by decide),
    rows_eq i x0 x1 _ _ _ 8 (by decide), wrow_eq x3 0 (by decide), wrow_eq x3 1 (by decide), wrow_eq x3 2 (by decide), wrow_eq x3 3 (by decide)]
  rfl

theorem bias_first (hc : cond0_0 i) (hc' : ¬cond0_1 i) :
    out0_A_7 c i a2 h2 a3 h3 a4 h4 a5 h5 a6 h6 a7 h7 a8 h8 a9 h9 a10 h10 hc hc' x0 x1 x2 x3 x4 = atB i x0 x1 x2 x3 x4 := by
  have e : k0_pay5 x0 = x0 := shapeCast_self x0 _
  unfold out0_A_7
  rw [View.read_writes_eq_canon _ _ _ (cover0_A_7 c i a2 h2 a3 h3 a4 h4 a5 h5 a6 h6 a7 h7 a8 h8 a9 h9 a10 h10 hc hc' x0 x1 x2 x3 x4)]
  unfold kernelRun0_A
  dsimp only
  sl_unfold_words
  rw [View.canon_unit_zero Adam.zero2]
  unfold atB first
  simp only [View.readAt_eq_ld, h2.read_unread, h3.read_unread, h4.read_unread, h5.read_unread, h6.read_unread, View.ld_unit_zero (S := S512x512) Adam.zero2,
    View.ld_unit_zero (S := S8x512) Adam.zero2, View.ld_unit_zero (S := S1x512) Adam.zero2, e]
  rw [rows_eq i x0 x1 _ _ _ 5 (by decide), rows_eq i x0 x1 _ _ _ 6 (by decide), rows_eq i x0 x1 _ _ _ 7 (by decide),
    rows_eq i x0 x1 _ _ _ 8 (by decide), wrow_eq x3 0 (by decide), wrow_eq x3 1 (by decide), wrow_eq x3 2 (by decide), wrow_eq x3 3 (by decide)]
  rfl

theorem bias_next (hc : ¬cond0_0 i) (hc' : cond0_1 i) :
    out0_B_7 c i a2 h2 a3 h3 a4 h4 a5 h5 a6 h6 a7 h7 a8 h8 a9 h9 a10 h10 hc hc' x0 x1 x2 x3 x4 o o' = addf o' (atB i x0 x1 x2 x3 x4) := by
  have e : k0_pay5 x0 = x0 := shapeCast_self x0 _
  unfold out0_B_7
  rw [View.read_writes_eq_canon _ _ _ (cover0_B_7 c i a2 h2 a3 h3 a4 h4 a5 h5 a6 h6 a7 h7 a8 h8 a9 h9 a10 h10 hc hc' x0 x1 x2 x3 x4 o o')]
  unfold kernelRun0_B
  dsimp only
  sl_unfold_words
  rw [View.canon_unit_zero Adam.zero2]
  unfold atB first k0_pay3
  simp only [View.readAt_eq_ld, h2.read_unread, h3.read_unread, h4.read_unread, h5.read_unread, h6.read_unread, h8.read_unread, h9.read_unread, View.ld_unit_zero (S := S512x512) Adam.zero2,
    View.ld_unit_zero (S := S8x512) Adam.zero2, View.ld_unit_zero (S := S1x512) Adam.zero2, e, shapeCast_self]
  rw [rows_eq i x0 x1 _ _ _ 5 (by decide), rows_eq i x0 x1 _ _ _ 6 (by decide), rows_eq i x0 x1 _ _ _ 7 (by decide),
    rows_eq i x0 x1 _ _ _ 8 (by decide), wrow_eq x3 0 (by decide), wrow_eq x3 1 (by decide), wrow_eq x3 2 (by decide), wrow_eq x3 3 (by decide)]
  rfl

end Block

/-! ## A point's values at an index -/

section Value

variable (v d e : FVec Ideal S512x512 .f32) (w : Vec Ideal S1x512 .f32) (r q : Fin 512)

theorem taps_at (b w0 w1 w2 : Vec Ideal S1x512 .f32) (e0 e1 e2 : Vec Ideal S512x512 .f32) :
    k0_pay6 b w0 e0 w1 e1 w2 e2 (ix2 r q)
      = (b (ix2 0 q) : EReal) + w0 (ix2 0 q) * e0 (ix2 r q) + w1 (ix2 0 q) * e1 (ix2 r q) + w2 (ix2 0 q) * e2 (ix2 r q) := by
  unfold k0_pay6
  pointwise

theorem slope_at : k0_pay7 v w e d (ix2 r q) = d (ix2 r q) * Slopes.slope (v (ix2 r q) + w (ix2 0 q) * e (ix2 r q)) := by
  unfold Slopes.slope
  rw [← Gates.kernel_gate]
  unfold k0_pay7
  pointwise

theorem total_at : k0_pay8 v w e d (ix2 0 q) = ∑ r : Fin 512, k0_pay7 v w e d (ix2 r q) := by
  unfold k0_pay8
  generalize k0_pay7 v w e d = f
  pointwise

variable (g : FVec Ideal S512x512 .f32)

theorem part0_at : k0_pay9 v w e d g (ix2 0 q) = ∑ r : Fin 512, k0_pay7 v w e d (ix2 r q) * g (ix2 r q) := by
  unfold k0_pay9
  generalize k0_pay7 v w e d = f
  pointwise

theorem part1_at : k0_pay10 v w e d g (ix2 0 q) = ∑ r : Fin 512, k0_pay7 v w e d (ix2 r q) * g (ix2 r q) := by
  unfold k0_pay10
  generalize k0_pay7 v w e d = f
  pointwise

theorem part2_at : k0_pay11 v w e d g (ix2 0 q) = ∑ r : Fin 512, k0_pay7 v w e d (ix2 r q) * g (ix2 r q) := by
  unfold k0_pay11
  generalize k0_pay7 v w e d = f
  pointwise

/-- Four rows, then zeros. -/
def four {n : Nat} (a : Fin 4 → EReal) (k : Fin n) : EReal := if h : k.val < 4 then a ⟨k.val, h⟩ else 0

theorem stack_at (p0 p1 p2 : FVec Ideal S1x512 .f32) (k : Fin 8) : k0_pay1 v p0 p1 p2 g (ix2 k q)
    = four ![p0 (ix2 0 q), p1 (ix2 0 q), p2 (ix2 0 q), ∑ r : Fin 512, v (ix2 r q) * g (ix2 r q)] k := by
  unfold k0_pay1
  fin_cases k <;> pointwise
  all_goals rfl

theorem four_add {n : Nat} (a b : Fin 4 → EReal) (k : Fin n) : four a k + four b k = four (fun s => a s + b s) k := by
  unfold four
  by_cases h : k.val < 4
  · rw [dif_pos h, dif_pos h, dif_pos h]
  · rw [dif_neg h, dif_neg h, dif_neg h, add_zero]

end Value

/-! ## A point's blocks -/

variable (m : (ℓ : Loc nD τ sig) → Buf (Elt Ideal) ℓ) (c : Dev nD)

theorem bound (t : Fin cfg0.N) : t.val < 192 := lt_of_lt_of_eq t.isLt N_0

/-- The row of the arrays that is row `r` of the block `n` of a column block. -/
def rowOf (n : Nat) (h : n < 16) (r : Fin 512) : Fin 8192 := ⟨n * 512 + r.val, by have := r.isLt; omega⟩

/-- The row of the arrays that is row `r` of point `t`'s block. -/
def row (t : Fin cfg0.N) (r : Fin 512) : Fin 8192 := rowOf (t.val % 16) (Nat.mod_lt _ (by decide)) r

/-- The column of the arrays that is column `q` of a point's block, by the point's number. -/
def col (n : Nat) (h : n < cfg0.N) (q : Fin 512) : Fin 6144 := ⟨n / 16 * 512 + q.val, by
  have : n < 192 := lt_of_lt_of_eq h N_0
  have := q.isLt
  omega⟩

theorem index_block : ∀ t : Fin cfg0.N, win0_0.index t (0 : Fin 2) = t.val % 16 ∧ win0_0.index t (1 : Fin 2) = 24 + t.val / 16 :=
  (by decide +kernel : ∀ t : Fin grid0.N, _)

theorem index_above : ∀ t : Fin cfg0.N, win0_1.index t (0 : Fin 2) = t.val % 16 * 64 - 1 ∧ win0_1.index t (1 : Fin 2) = 24 + t.val / 16 :=
  (by decide +kernel : ∀ t : Fin grid0.N, _)

theorem index_rows : ∀ t : Fin cfg0.N, win0_5.index t (0 : Fin 2) = t.val % 16 ∧ win0_5.index t (1 : Fin 2) = t.val / 16 :=
  (by decide +kernel : ∀ t : Fin grid0.N, _)

theorem index_weights : ∀ t : Fin cfg0.N, win0_3.index t (0 : Fin 2) = 0 ∧ win0_3.index t (1 : Fin 2) = t.val / 16 :=
  (by decide +kernel : ∀ t : Fin grid0.N, _)

theorem index_bias : ∀ t : Fin cfg0.N, win0_4.index t (0 : Fin 2) = 0 ∧ win0_4.index t (1 : Fin 2) = t.val / 16 :=
  (by decide +kernel : ∀ t : Fin grid0.N, _)

theorem first_flag : ∀ t : Fin cfg0.N, Scalar.cmpi .eq (BitVec.ofNat 32 (grid0.coords t 1).val) 0#32 = if t.val % 16 = 0 then 1#1 else 0#1 :=
  (by decide +kernel : ∀ t : Fin grid0.N, _)

theorem emb_block (t : Fin cfg0.N) (r q : Fin 512) :
    ((cfg0.win 0).blk t).view.emb (ix2 r q) = ix2 (row t r) (inCol (col t.val t.isLt q)) := by
  obtain ⟨h0, h1⟩ := index_block t
  funext a; apply Fin.ext
  match a with
  | ⟨0, _⟩ => show win0_0.index t (0 : Fin 2) * 512 + 1 * r.val = t.val % 16 * 512 + r.val; omega
  | ⟨1, _⟩ => show win0_0.index t (1 : Fin 2) * 512 + 1 * q.val = 12288 + (t.val / 16 * 512 + q.val); omega

theorem emb_above (t : Fin cfg0.N) (ht : 0 < t.val % 16) (r : Fin 8) (q : Fin 512) :
    ((cfg0.win 1).blk t).view.emb (ix2 r q)
      = ix2 ⟨t.val % 16 * 512 - 8 + r.val, by have := r.isLt; omega⟩ (inCol (col t.val t.isLt q)) := by
  obtain ⟨h0, h1⟩ := index_above t
  funext a; apply Fin.ext
  match a with
  | ⟨0, _⟩ => show win0_1.index t (0 : Fin 2) * 8 + 1 * r.val = t.val % 16 * 512 - 8 + r.val; omega
  | ⟨1, _⟩ => show win0_1.index t (1 : Fin 2) * 512 + 1 * q.val = 12288 + (t.val / 16 * 512 + q.val); omega

theorem emb_rows (t : Fin cfg0.N) (r q : Fin 512) : ((cfg0.win 5).blk t).view.emb (ix2 r q) = ix2 (row t r) (col t.val t.isLt q) := by
  obtain ⟨h0, h1⟩ := index_rows t
  funext a; apply Fin.ext
  match a with
  | ⟨0, _⟩ => show win0_5.index t (0 : Fin 2) * 512 + 1 * r.val = t.val % 16 * 512 + r.val; omega
  | ⟨1, _⟩ => show win0_5.index t (1 : Fin 2) * 512 + 1 * q.val = t.val / 16 * 512 + q.val; omega

theorem emb_weights (t : Fin cfg0.N) (k : Fin 4) (q : Fin 512) : ((cfg0.win 3).blk t).view.emb (ix2 k q) = ix2 k (col t.val t.isLt q) := by
  obtain ⟨h0, h1⟩ := index_weights t
  funext a; apply Fin.ext
  match a with
  | ⟨0, _⟩ => show win0_3.index t (0 : Fin 2) * 4 + 1 * k.val = k.val; omega
  | ⟨1, _⟩ => show win0_3.index t (1 : Fin 2) * 512 + 1 * q.val = t.val / 16 * 512 + q.val; omega

theorem emb_bias (t : Fin cfg0.N) (k : Fin 1) (q : Fin 512) : ((cfg0.win 4).blk t).view.emb (ix2 k q) = ix2 k (col t.val t.isLt q) := by
  obtain ⟨h0, h1⟩ := index_bias t
  funext a; apply Fin.ext
  match a with
  | ⟨0, _⟩ => show win0_4.index t (0 : Fin 2) * 1 + 1 * k.val = k.val; omega
  | ⟨1, _⟩ => show win0_4.index t (1 : Fin 2) * 512 + 1 * q.val = t.val / 16 * 512 + q.val; omega

theorem emb_eight (t : Fin cfg0.N) (k : Fin 8) (q : Fin 512) : ((cfg0.win 6).blk t).view.emb (ix2 k q) = ix2 k (col t.val t.isLt q) := by
  obtain ⟨h0, h1⟩ := index_weights t
  funext a; apply Fin.ext
  match a with
  | ⟨0, _⟩ => show win0_3.index t (0 : Fin 2) * 8 + 1 * k.val = k.val; omega
  | ⟨1, _⟩ => show win0_3.index t (1 : Fin 2) * 512 + 1 * q.val = t.val / 16 * 512 + q.val; omega

theorem emb_one (t : Fin cfg0.N) (k : Fin 1) (q : Fin 512) : ((cfg0.win 7).blk t).view.emb (ix2 k q) = ix2 k (col t.val t.isLt q) := by
  obtain ⟨h0, h1⟩ := index_bias t
  funext a; apply Fin.ext
  match a with
  | ⟨0, _⟩ => show win0_4.index t (0 : Fin 2) * 1 + 1 * k.val = k.val; omega
  | ⟨1, _⟩ => show win0_4.index t (1 : Fin 2) * 512 + 1 * q.val = t.val / 16 * 512 + q.val; omega

theorem flagged (t : Fin cfg0.N) (x : Vec Ideal S8x512 .f32) (r : Fin 8) (q : Fin 512) :
    k0_pay4 (grid0.coords t) x (ix2 r q) = if t.val % 16 = 0 then (0 : EReal) else x (ix2 r q) := by
  unfold k0_pay4
  dsimp only
  rw [shapeCast_self, first_flag]
  by_cases h : t.val % 16 = 0
  · rw [if_pos h, if_pos h]
    show Ideal.ofBits .f32 0x00000000#32 = 0
    exact Ideal.ofBits_zero _
  · rw [if_neg h, if_neg h]; rfl

/-- Row `r + 5 + k` of a point's scratch is the sequence's, three rows of zeros before it. -/
theorem rows_at (t : Fin cfg0.N) (s k : Nat) (hs : s ≤ 8) (hk : s = 5 + k) (r q : Fin 512) :
    rows (grid0.coords t) (iblk m c 0 t) (iblk m c 1 t) s hs (ix2 r q)
      = before (V m c main_arg0) ((row t r).val + k) (col t.val t.isLt q) := by
  have hr := r.isLt
  subst hk
  show stage split (k0_pay4 (grid0.coords t) (iblk m c 1 t)) (iblk m c 0 t) (ix2 (down (5 + k) hs r) q) = _
  by_cases h : 5 + k + r.val < 8
  · refine (stage_low split _ _ _ q ⟨5 + k + r.val, h⟩ rfl).trans ?_
    rw [flagged]
    by_cases h' : t.val % 16 = 0
    · rw [if_pos h']
      exact (before_out _ _ _ (by show t.val % 16 * 512 + r.val + k < 3; omega)).symm
    · rw [if_neg h']
      refine (congrArg (V m c main_arg0) (emb_above t (by omega) _ q)).trans (before_in _ _ _ _ ?_).symm
      show t.val % 16 * 512 + r.val + k = t.val % 16 * 512 - 8 + (5 + k + r.val) + 3
      omega
  · refine (stage_high split _ _ _ q ⟨5 + k + r.val - 8, by omega⟩ (by show 5 + k + r.val = 8 + (5 + k + r.val - 8); omega)).trans ?_
    refine (congrArg (V m c main_arg0) (emb_block t _ q)).trans (before_in _ _ _ _ ?_).symm
    show t.val % 16 * 512 + r.val + k = t.val % 16 * 512 + (5 + k + r.val - 8) + 3
    omega

/-! ## The results, as functions of the arguments -/

section Results

variable (p : Vec Ideal S8192x22528 .f32) (d : Vec Ideal S8192x6144 .f32) (w : Vec Ideal S4x6144 .f32) (b : Vec Ideal S1x6144 .f32)

/-- The convolution before its gate. -/
def pre (R : Fin 8192) (q : Fin 6144) : EReal :=
  taps (b (ix2 0 q)) (w (ix2 0 q)) (before p R.val q) (w (ix2 1 q)) (before p (R.val + 1) q) (w (ix2 2 q)) (before p (R.val + 2) q)
    (w (ix2 3 q)) (before p (R.val + 3) q)

/-- The gradient before the gate, at one place. -/
def grad (q : Fin 6144) (R : Fin 8192) : EReal := d (ix2 R q) * Slopes.slope (pre p w b R q)

/-- One row's part of the gradient of the weight `k`. -/
def part (q : Fin 6144) (k : Fin 4) (R : Fin 8192) : EReal := grad p d w b q R * before p (R.val + k.val) q

/-- The gradient before the gate. -/
def gradP : Vec Ideal S8192x6144 .f32 := fun j => grad p d w b (j 1) (j 0)

/-- The gradient of the weights, in the first four of eight rows. -/
def gradW : Vec Ideal S8x6144 .f32 := fun j => four (fun k => ∑ R, part p d w b (j 1) k R) (j 0)

/-- The gradient of the bias. -/
def gradB : Vec Ideal S1x6144 .f32 := fun j => ∑ R, grad p d w b (j 1) R

end Results

/-! ## The arrays after the run -/

/-- The three results, of the arrays as the run finds them, and their parts. -/
abbrev gradV := grad (V m c main_arg0) (V m c main_arg1) (V m c main_arg2) (V m c main_arg3)
abbrev partV := part (V m c main_arg0) (V m c main_arg1) (V m c main_arg2) (V m c main_arg3)
abbrev endP : Vec Ideal S8192x6144 .f32 := gradP (V m c main_arg0) (V m c main_arg1) (V m c main_arg2) (V m c main_arg3)
abbrev endW : Vec Ideal S8x6144 .f32 := gradW (V m c main_arg0) (V m c main_arg1) (V m c main_arg2) (V m c main_arg3)
abbrev endB : Vec Ideal S1x6144 .f32 := gradB (V m c main_arg0) (V m c main_arg1) (V m c main_arg2) (V m c main_arg3)

/-- What a point computes. -/
def ptP (t : Fin cfg0.N) := atP (grid0.coords t) (iblk m c 0 t) (iblk m c 1 t) (iblk m c 2 t) (iblk m c 3 t) (iblk m c 4 t)
def ptW (t : Fin cfg0.N) := atW (grid0.coords t) (iblk m c 0 t) (iblk m c 1 t) (iblk m c 2 t) (iblk m c 3 t) (iblk m c 4 t)
def ptB (t : Fin cfg0.N) := atB (grid0.coords t) (iblk m c 0 t) (iblk m c 1 t) (iblk m c 2 t) (iblk m c 3 t) (iblk m c 4 t)

theorem ptP_at (t : Fin cfg0.N) (r q : Fin 512) : ptP m c t (ix2 r q) = gradV m c (col t.val t.isLt q) (row t r) := by
  have hw (k : Fin 4) : wrow (iblk m c 3 t) k (ix2 0 q) = V m c main_arg2 (ix2 k (col t.val t.isLt q)) :=
    congrArg (V m c main_arg2) (emb_weights t k q)
  have hb : iblk m c 4 t (ix2 0 q) = V m c main_arg3 (ix2 0 (col t.val t.isLt q)) := congrArg (V m c main_arg3) (emb_bias t 0 q)
  have hd : iblk m c 2 t (ix2 r q) = V m c main_arg1 (ix2 (row t r) (col t.val t.isLt q)) := congrArg (V m c main_arg1) (emb_rows t r q)
  unfold ptP atP first
  rw [slope_at, taps_at, hw, hw, hw, hw, hb, hd, rows_at m c t 5 0 _ rfl, rows_at m c t 6 1 _ rfl, rows_at m c t 7 2 _ rfl,
    rows_at m c t 8 3 _ rfl]
  rfl

/-- A block's part of a sum over all rows, by the block's number. -/
def blockPart (f : Fin 8192 → EReal) (n : Nat) : EReal := if h : n < 16 then ∑ r : Fin 512, f (rowOf n h r) else 0

theorem blockPart_at (f : Fin 8192 → EReal) (t : Fin cfg0.N) : blockPart f (t.val % 16) = ∑ r : Fin 512, f (row t r) :=
  dif_pos (Nat.mod_lt _ (by decide))

theorem upto_all (f : Fin 8192 → EReal) : Norm.upto (blockPart f) 15 = ∑ i, f i :=
  Norm.upto_rows (b := 512) (J := 15) (by decide) _ _ fun _ ht => dif_pos ht

theorem ptW_at (t : Fin cfg0.N) (k : Fin 8) (q : Fin 512) :
    ptW m c t (ix2 k q) = four (fun s => blockPart (partV m c (col t.val t.isLt q) s) (t.val % 16)) k := by
  have e (s j : Nat) (hj : j ≤ 8) (hs : s < 4) (h : j = 5 + s) :
      ∑ r : Fin 512, ptP m c t (ix2 r q) * rows (grid0.coords t) (iblk m c 0 t) (iblk m c 1 t) j hj (ix2 r q)
        = blockPart (partV m c (col t.val t.isLt q) ⟨s, hs⟩) (t.val % 16) := by
    rw [blockPart_at]
    exact Finset.sum_congr rfl fun r _ => congrArg₂ (fun a b : EReal => a * b) (ptP_at m c t r q) (rows_at m c t j s hj h r q)
  unfold ptW atW
  rw [stack_at, part0_at, part1_at, part2_at]
  refine congrArg (four · k) ?_
  funext s
  fin_cases s
  · exact e 0 5 _ (by decide) rfl
  · exact e 1 6 _ (by decide) rfl
  · exact e 2 7 _ (by decide) rfl
  · exact e 3 8 _ (by decide) rfl

theorem ptB_at (t : Fin cfg0.N) (q : Fin 512) : ptB m c t (ix2 0 q) = blockPart (gradV m c (col t.val t.isLt q)) (t.val % 16) := by
  rw [blockPart_at]
  unfold ptB atB
  rw [total_at]
  exact Finset.sum_congr rfl fun r _ => ptP_at m c t r q

/-- What the first point of a column block leaves. -/
theorem left_first (t : Fin cfg0.N) (h : t.val % 16 = 0) : outsAt0 m c t.val t.isLt = (ptP m c t, ptW m c t, ptB m c t) := by
  rw [outsAt0_A m c t h (by omega), rows_first, weights_first, bias_first]
  rfl

/-- What a later point leaves. -/
theorem left_next (n : Nat) (h : n + 1 < cfg0.N) (hn : ¬(n + 1) % 16 = 0) : outsAt0 m c (n + 1) h
    = (ptP m c ⟨n + 1, h⟩, addf (outsAt0 m c n (Nat.lt_of_succ_lt h)).2.1 (ptW m c ⟨n + 1, h⟩),
      addf (outsAt0 m c n (Nat.lt_of_succ_lt h)).2.2 (ptB m c ⟨n + 1, h⟩)) := by
  have e : outsAt0 m c (n + 1) h = _ := outsAt0_B m c ⟨n + 1, h⟩ hn (by dsimp only; omega)
  rw [e, rows_next, weights_next, bias_next]
  rfl

theorem left_rows (t : Fin cfg0.N) : (outsAt0 m c t.val t.isLt).1 = ptP m c t := by
  by_cases h : t.val % 16 = 0
  · exact congrArg (·.1) (left_first m c t h)
  · obtain ⟨n, hn⟩ := t
    match n, hn, h with
    | n + 1, hn, h => exact congrArg (·.1) (left_next m c n hn h)

theorem kept (k : Fin 8) (q : Fin 512) : ∀ (n : Nat) (h : n < cfg0.N),
    (outsAt0 m c n h).2.1 (ix2 k q) = four (fun s => Norm.upto (blockPart (partV m c (col n h q) s)) (n % 16)) k
      ∧ (outsAt0 m c n h).2.2 (ix2 0 q) = Norm.upto (blockPart (gradV m c (col n h q))) (n % 16) := by
  have first (n : Nat) (h : n < cfg0.N) (h0 : n % 16 = 0) :
      (outsAt0 m c n h).2.1 (ix2 k q) = four (fun s => Norm.upto (blockPart (partV m c (col n h q) s)) (n % 16)) k
        ∧ (outsAt0 m c n h).2.2 (ix2 0 q) = Norm.upto (blockPart (gradV m c (col n h q))) (n % 16) := by
    have e := left_first m c ⟨n, h⟩ h0
    have ew := (congrArg (fun z => z.2.1 (ix2 k q)) e).trans (ptW_at m c ⟨n, h⟩ k q)
    have eb := (congrArg (fun z => z.2.2 (ix2 0 q)) e).trans (ptB_at m c ⟨n, h⟩ q)
    dsimp only at ew eb
    rw [h0] at ew eb ⊢
    exact ⟨ew, eb⟩
  intro n
  induction n with
  | zero => exact fun h => first 0 h rfl
  | succ n ih =>
    intro h
    by_cases h0 : (n + 1) % 16 = 0
    · exact first (n + 1) h h0
    · have e := left_next m c n h h0
      obtain ⟨iw, ib⟩ := ih (Nat.lt_of_succ_lt h)
      have hq : col n (Nat.lt_of_succ_lt h) q = col (n + 1) h q := Fin.ext (by
        show n / 16 * 512 + q.val = (n + 1) / 16 * 512 + q.val
        omega)
      have hm : (n + 1) % 16 = n % 16 + 1 := by omega
      have ew := (congrArg (fun z => z.2.1 (ix2 k q)) e).trans (congrArg₂ (fun a b : EReal => a + b) iw (ptW_at m c ⟨n + 1, h⟩ k q))
      have eb := (congrArg (fun z => z.2.2 (ix2 0 q)) e).trans (congrArg₂ (fun a b : EReal => a + b) ib (ptB_at m c ⟨n + 1, h⟩ q))
      dsimp only at ew eb
      rw [four_add] at ew
      rw [hq, hm] at ew eb
      rw [hm]
      exact ⟨ew, eb⟩

theorem covered (i : S8192x6144.Idx) : ∃ (t : Fin cfg0.N) (y : S512x512.Idx), ((cfg0.win 5).blk t).view.emb y = i := by
  obtain ⟨R, q, rfl⟩ := Adam.place i
  have hR := R.isLt
  have hq := q.isLt
  have ht : q.val / 512 * 16 + R.val / 512 < cfg0.N := lt_of_lt_of_eq (by omega : _ < 192) N_0.symm
  refine ⟨⟨q.val / 512 * 16 + R.val / 512, ht⟩, ix2 (⟨R.val % 512, by omega⟩ : Fin 512) (⟨q.val % 512, by omega⟩ : Fin 512), ?_⟩
  refine (emb_rows _ _ _).trans (congrArg₂ ix2 (Fin.ext ?_) (Fin.ext ?_))
  · show (q.val / 512 * 16 + R.val / 512) % 16 * 512 + R.val % 512 = R.val; omega
  · show (q.val / 512 * 16 + R.val / 512) / 16 * 512 + q.val % 512 = q.val; omega

theorem final_rows : (dats m 0 c).arrAt 5 cfg0.N = endP m c :=
  (dats m 0 c).arrAt_eq_of_cover 5 (endP m c)
    (fun t _ => by
      rw [flushed5, left_rows]
      refine funext fun (y : S512x512.Idx) => ?_
      obtain ⟨r, q, rfl⟩ := Adam.place y
      exact (ptP_at m c t r q).trans (congrArg (endP m c) (emb_rows t r q).symm))
    (fun (i : S8192x6144.Idx) => let ⟨t, y, h⟩ := covered i; ⟨t, flush0_5 t, h ▸ ((cfg0.win 5).blk t).view.emb_mem_set y⟩)

/-- The last point of the column block that holds column `q`. -/
theorem last_point (q : Fin 6144) : ∃ (t : Fin cfg0.N) (e : Fin 512), t.val % 16 = 15 ∧ col t.val t.isLt e = q := by
  have hq := q.isLt
  have ht : q.val / 512 * 16 + 15 < cfg0.N := lt_of_lt_of_eq (by omega : _ < 192) N_0.symm
  refine ⟨⟨q.val / 512 * 16 + 15, ht⟩, ⟨q.val % 512, by omega⟩, by dsimp only; omega, Fin.ext ?_⟩
  show (q.val / 512 * 16 + 15) / 16 * 512 + q.val % 512 = q.val
  omega

theorem at_eight (t : Fin cfg0.N) (k : Fin 8) (q : Fin 512) :
    (ix2 k (col t.val t.isLt q) : S8x6144.Idx) ∈ ((cfg0.win 6).blk t).view.set :=
  (emb_eight t k q) ▸ ((cfg0.win 6).blk t).view.emb_mem_set (ix2 k q)

theorem final_weights : (dats m 0 c).arrAt 6 cfg0.N = endW m c :=
  (dats m 0 c).arrAt_eq_of_cover 6 (endW m c)
    (fun t hf => by
      have h15 := (flush0_6 t).mp hf
      rw [flushed6]
      refine funext fun (y : S8x512.Idx) => ?_
      obtain ⟨k, q, rfl⟩ := Adam.place y
      refine ((kept m c k q t.val t.isLt).1.trans ?_).trans (congrArg (endW m c) (emb_eight t k q).symm)
      rw [h15]
      exact congrArg (four · k) (funext fun s => upto_all _))
    (fun (i : S8x6144.Idx) => by
      obtain ⟨k, q, rfl⟩ := Adam.place i
      obtain ⟨t, e, h, rfl⟩ := last_point q
      exact ⟨t, (flush0_6 t).mpr h, at_eight t k e⟩)

theorem at_one (t : Fin cfg0.N) (k : Fin 1) (q : Fin 512) :
    (ix2 k (col t.val t.isLt q) : S1x6144.Idx) ∈ ((cfg0.win 7).blk t).view.set :=
  (emb_one t k q) ▸ ((cfg0.win 7).blk t).view.emb_mem_set (ix2 k q)

theorem final_bias : (dats m 0 c).arrAt 7 cfg0.N = endB m c :=
  (dats m 0 c).arrAt_eq_of_cover 7 (endB m c)
    (fun t hf => by
      have h15 := (flush0_7 t).mp hf
      rw [flushed7]
      refine funext fun (y : S1x512.Idx) => ?_
      obtain ⟨q, rfl⟩ := one_row y
      have e (G : Vec Ideal S1x6144 .f32) : ((cfg0.win 7).blk t).view.read (Elt Ideal) G (ix2 0 q) = G (ix2 0 (col t.val t.isLt q)) :=
        congrArg G (emb_one t 0 q)
      refine ((kept m c 0 q t.val t.isLt).2.trans ?_).trans (e (endB m c)).symm
      rw [h15]
      exact upto_all _)
    (fun (i : S1x6144.Idx) => by
      obtain ⟨k, q, rfl⟩ := Adam.place i
      obtain ⟨t, e, h, rfl⟩ := last_point q
      exact ⟨t, (flush0_7 t).mpr h, at_one t k e⟩)

end Cert.ConvGradIdeal.Run

namespace Cert.Proof.ConvGrad

open Idealize.ShloMosaic Idealize.ShloMosaic.TcCoe Idealize.SL.Sem
open Cert.ConvIdeal.Run (before)
open Cert.ConvGradIdeal.Run (pre grad part gradP gradW gradB four)
open Cert.Proof.Stage
open Cert.Proof.Conv (Wide padded refSum sum_at slice_at)

theorem frame_refIdeal : Cert.quiescent_ConvGradRefIdeal := fun m g _ =>
  (θ_run Cert.ConvGradRefIdeal.defs _ _).mono
    (fun r h => ⟨fun c => (h c).2.2.2, sem_eq_zero_of_no_sems (by decide) r.2⟩) (Cert.ConvGradRefIdeal.Value.run m g)

section Reference

abbrev Eight : Shape := ⟨2, ![8, 6144]⟩

variable (p : FVec Ideal Wide .f32) (d : FVec Ideal Full .f32) (w : FVec Ideal Taps .f32) (b : FVec Ideal Row .f32)
  (hx : Wide.Slices ![0, 12288] Full) (hp : Full.Pads (![3, 0] : Fin 2 → Nat) ![0, 0] ![0, 0] Tall) (h0 : 0 < Unit.numel)
  (s0 : Taps.Slices ![0, 0] Row) (s1 : Taps.Slices ![1, 0] Row) (s2 : Taps.Slices ![2, 0] Row) (s3 : Taps.Slices ![3, 0] Row)
  (t0 : Tall.Slices ![0, 0] Full) (t1 : Tall.Slices ![1, 0] Full) (t2 : Tall.Slices ![2, 0] Full) (t3 : Tall.Slices ![3, 0] Full)
  (hc : Row.ShapeCasts Flat) (hf : Flat.BroadcastsInDim Row (![1] : Fin 1 → Fin 2)) (hb : Row.BroadcastsInDim Full (![0, 1] : Fin 2 → Fin 2))
  (ho : Unit.BroadcastsInDim Full ![]) (hr : Full.ReducesTo [0] Flat)

/-- The reference's gradient before the gate. -/
abbrev refGrad : FVec Ideal Full .f32 := mulf d (Slopes.slopes (refSum p w b hx hp h0 s0 s1 s2 s3 t0 t1 t2 t3 hc hf hb) ho)

theorem grad_at (R : Fin 8192) (q : Fin 6144) :
    refGrad p d w b hx hp h0 s0 s1 s2 s3 t0 t1 t2 t3 hc hf hb ho (ix2 R q) = grad p d w b q R :=
  congrArg (fun e : EReal => d (ix2 R q) * e) ((Slopes.ref_slope _ ho _).trans
    (congrArg Slopes.slope (sum_at p w b hx hp h0 s0 s1 s2 s3 t0 t1 t2 t3 hc hf hb R q)))

theorem ref_rows : refGrad p d w b hx hp h0 s0 s1 s2 s3 t0 t1 t2 t3 hc hf hb ho = gradP p d w b := by
  refine funext fun (j : Full.Idx) => ?_
  obtain ⟨R, q, rfl⟩ := Adam.place j
  exact grad_at p d w b hx hp h0 s0 s1 s2 s3 t0 t1 t2 t3 hc hf hb ho R q

/-- A sum over all rows, as one row. -/
abbrev total (u : FVec Ideal Full .f32) : FVec Ideal Row .f32 :=
  broadcastInDim Row ![1] hf (Host.reduceAdd u (constant Unit .f32 0x00000000#32) hr h0)

theorem total_at (u : FVec Ideal Full .f32) (q : Fin 6144) : total h0 hf hr u (ix2 0 q) = ∑ R : Fin 8192, u (ix2 R q) := by
  unfold total
  pointwise

theorem ref_bias : total h0 hf hr (refGrad p d w b hx hp h0 s0 s1 s2 s3 t0 t1 t2 t3 hc hf hb ho) = gradB p d w b := by
  refine funext fun (j : Row.Idx) => ?_
  obtain ⟨k, q, rfl⟩ := Adam.place j
  obtain rfl : k = 0 := Fin.fin_one_eq_zero k
  exact (total_at h0 hf hr _ q).trans (Finset.sum_congr rfl fun R _ => grad_at p d w b hx hp h0 s0 s1 s2 s3 t0 t1 t2 t3 hc hf hb ho R q)

theorem part_at (k : Nat) (hk : k < 4) (ht : Tall.Slices ![k, 0] Full) (q : Fin 6144) :
    total h0 hf hr (mulf (refGrad p d w b hx hp h0 s0 s1 s2 s3 t0 t1 t2 t3 hc hf hb ho) (extractStridedSlice Full ![k, 0] (padded p hx hp h0) ht)) (ix2 0 q)
      = ∑ R, part p d w b q ⟨k, hk⟩ R :=
  (total_at h0 hf hr _ q).trans (Finset.sum_congr rfl fun R _ => congrArg₂ (fun x y : EReal => x * y)
    (grad_at p d w b hx hp h0 s0 s1 s2 s3 t0 t1 t2 t3 hc hf hb ho R q) (slice_at p hx hp h0 k hk ht R q))

/-- Four rows, one below the other, and four rows of zeros below them. -/
abbrev stacked (r0 r1 r2 r3 : FVec Ideal Row .f32) (hs : Shape.Concatenates [Row, Row, Row, Row] Taps 0)
    (hq : Taps.Pads (![0, 0] : Fin 2 → Nat) ![4, 0] ![0, 0] Eight) : FVec Ideal Eight .f32 :=
  pad Eight ![0, 0] ![4, 0] ![0, 0] (concatenate Taps 0 [⟨Row, r0⟩, ⟨Row, r1⟩, ⟨Row, r2⟩, ⟨Row, r3⟩] hs) (sitofp .f32 (constantI Unit 32 0#32)) hq h0

theorem stacked_at (r0 r1 r2 r3 : FVec Ideal Row .f32) (hs) (hq) (k : Fin 8) (q : Fin 6144) :
    stacked h0 r0 r1 r2 r3 hs hq (ix2 k q) = four ![r0 (ix2 0 q), r1 (ix2 0 q), r2 (ix2 0 q), r3 (ix2 0 q)] k := by
  have hk := k.isLt
  unfold four
  by_cases h : k.val < 4
  · rw [dif_pos h]
    refine (pad_apply_of_inside _ _ _ _ _ hq h0 _ (ix2 (⟨k.val, h⟩ : Fin 4) q) ?_).trans ?_
    · intro a
      match a with
      | ⟨0, _⟩ => show k.val = 0 + k.val * 1; omega
      | ⟨1, _⟩ => show q.val = 0 + q.val * 1; omega
    · generalize (⟨k.val, h⟩ : Fin 4) = s
      fin_cases s <;> pointwise
      all_goals rfl
  · rw [dif_neg h]
    refine (pad_apply_of_not_inside _ _ _ _ _ hq h0 _ 0 ?_).trans (zero_int h0)
    intro hin
    have h4 : (k.val - 0) / 1 < 4 := hin.2.2
    omega

theorem ref_weights (hs) (hq) :
    stacked h0 (total h0 hf hr (mulf (refGrad p d w b hx hp h0 s0 s1 s2 s3 t0 t1 t2 t3 hc hf hb ho) (extractStridedSlice Full ![0, 0] (padded p hx hp h0) t0)))
      (total h0 hf hr (mulf (refGrad p d w b hx hp h0 s0 s1 s2 s3 t0 t1 t2 t3 hc hf hb ho) (extractStridedSlice Full ![1, 0] (padded p hx hp h0) t1)))
      (total h0 hf hr (mulf (refGrad p d w b hx hp h0 s0 s1 s2 s3 t0 t1 t2 t3 hc hf hb ho) (extractStridedSlice Full ![2, 0] (padded p hx hp h0) t2)))
      (total h0 hf hr (mulf (refGrad p d w b hx hp h0 s0 s1 s2 s3 t0 t1 t2 t3 hc hf hb ho) (extractStridedSlice Full ![3, 0] (padded p hx hp h0) t3)))
      hs hq = gradW p d w b := by
  refine funext fun (j : Eight.Idx) => ?_
  obtain ⟨k, q, rfl⟩ := Adam.place j
  refine (stacked_at h0 _ _ _ _ hs hq k q).trans (congrArg (four · k) ?_)
  funext s
  fin_cases s
  · exact part_at p d w b hx hp h0 s0 s1 s2 s3 t0 t1 t2 t3 hc hf hb ho hr 0 (by decide) t0 q
  · exact part_at p d w b hx hp h0 s0 s1 s2 s3 t0 t1 t2 t3 hc hf hb ho hr 1 (by decide) t1 q
  · exact part_at p d w b hx hp h0 s0 s1 s2 s3 t0 t1 t2 t3 hc hf hb ho hr 2 (by decide) t2 q
  · exact part_at p d w b hx hp h0 s0 s1 s2 s3 t0 t1 t2 t3 hc hf hb ho hr 3 (by decide) t3 q

end Reference

theorem algebraic : Cert.algebraic_ConvGradIdeal_ConvGradRefIdeal := fun m g m' g' _ hA => by
  refine ⟨_, _, _, (θ_run Cert.ConvGradIdeal.defs _ _).mono (fun r h c => ⟨(h c).1.trans (Cert.ConvGradIdeal.Run.final_rows m c),
      (h c).2.1.trans (Cert.ConvGradIdeal.Run.final_weights m c),
      (h c).2.2.1.trans (Cert.ConvGradIdeal.Run.final_bias m c), (h c).2.2.2⟩)
      (Cert.ConvGradIdeal.Value.run_blocks m g),
    (θ_run Cert.ConvGradRefIdeal.defs _ _).mono (fun r h c => ?_) (Cert.ConvGradRefIdeal.Value.run m' g')⟩
  obtain ⟨h0, h1, h2, hk⟩ := h c
  obtain ⟨a0, a1, a2, a3⟩ := hA c
  unfold Cert.ConvGradRefIdeal.Value.res_main_v33 at h0
  unfold Cert.ConvGradRefIdeal.Value.res_main_v51 at h1
  unfold Cert.ConvGradRefIdeal.Value.res_main_v53 at h2
  rw [a0, a1, a2, a3] at h0 h1 h2
  exact ⟨h0.trans (ref_rows ..), h1.trans (ref_weights ..), h2.trans (ref_bias ..), hk⟩

end Cert.Proof.ConvGrad
end
-- ==== Proof.ConvBackClaims.lean ====
/-
  The claims of the gradient through the causal convolution: a block's scratch holds the block's rows and, below them, the
  first rows of the next block (zeros at the end of the sequence), so its row `r + s` is the array's row `r + s` of the whole
  sequence with zeros after its end (`scratch_at`), which is what the reference's padding says (`padded_at`).
-/
module

public import proofs.«01_k».proof.Proof.Adam
public import proofs.«01_k».proof.Proof.Stage
public import proofs.«01_k».proof.Proof.Gen.ConvBack.Frame
public import proofs.«01_k».proof.Proof.Gen.ConvBackIdeal.Value
public import proofs.«01_k».proof.Proof.Gen.ConvBackRefIdeal.Run

@[expose] public section

noncomputable section

namespace Cert.ConvBackIdeal.Run

open Idealize.ShloMosaic Idealize.ShloMosaic.TcCoe Idealize.SL.Sem
open Cert.ConvBackIdeal Cert.ConvBackIdeal.Gen Cert.ConvBackIdeal.Value
open Cert.Proof.Stage

theorem split : 512 + 8 = 520 := rfl

section Block

variable (x0 : Vec Ideal S512x512 .f32)

/-- Four weights against four values. -/
def taps (w3 d w2 e1 w1 e2 w0 e3 : EReal) : EReal := w3 * d + w2 * e1 + w1 * e2 + w0 * e3

theorem taps_apply (w3 w2 w1 w0 : Vec Ideal S1x512 .f32) (d e1 e2 e3 : Vec Ideal S512x512 .f32) (r q : Fin 512) :
    k0_pay1 (k0_pay4 w3 d w2 e1 w1 e2 w0 e3) (ix2 r q)
      = taps (w3 (ix2 0 q)) (d (ix2 r q)) (w2 (ix2 0 q)) (e1 (ix2 r q)) (w1 (ix2 0 q)) (e2 (ix2 r q)) (w0 (ix2 0 q)) (e3 (ix2 r q)) := by
  unfold k0_pay1 k0_pay4 taps
  pointwise

theorem out_apply (c : Dev nD) (i : grid0.Coords)
    (a2 : Memref sig .tc .vmem S512x512 .f32) (h2 : a2.IsWhole) (a3 : Memref sig .tc .vmem S8x512 .f32) (h3 : a3.IsWhole)
    (a4 : Memref sig .tc .vmem S4x512 .f32) (h4 : a4.IsWhole) (a5 : Memref sig .tc .vmem S512x512 .bf16) (h5 : a5.IsWhole)
    (a6 : Memref sig .tc .vmem S520x512 .f32) (h6 : a6.IsWhole) (x1 : Vec Ideal S8x512 .f32) (x2 : Vec Ideal S4x512 .f32) (r q : Fin 512) :
    out0_A_3 c i a2 h2 a3 h3 a4 h4 a5 h5 a6 h6 x0 x1 x2 (ix2 r q)
      = taps (x2 (ix2 3 q)) (x0 (ix2 r q)) (x2 (ix2 2 q)) (stage split x0 (k0_pay3 i x1) (ix2 (down 1 (by decide) r) q))
        (x2 (ix2 1 q)) (stage split x0 (k0_pay3 i x1) (ix2 (down 2 (by decide) r) q))
        (x2 (ix2 0 q)) (stage split x0 (k0_pay3 i x1) (ix2 (down 3 (by decide) r) q)) := by
  have e : k0_pay2 x0 = x0 := shapeCast_self x0 _
  unfold out0_A_3
  rw [View.read_writes_eq_canon _ _ _ (cover0_A_3 c i a2 h2 a3 h3 a4 h4 a5 h5 a6 h6 x0 x1 x2)]
  unfold kernelRun0_A
  dsimp only
  sl_unfold_words
  rw [View.canon_unit_zero Adam.zero2]
  simp only [View.readAt_eq_ld, h2.read_unread, h3.read_unread, h4.read_unread]
  simp only [View.ld_unit_zero (S := S512x512) Adam.zero2, View.ld_unit_zero (S := S8x512) Adam.zero2, e]
  refine (taps_apply _ _ _ _ _ _ _ _ r q).trans ?_
  rw [weight_row x2 3 (by decide), weight_row x2 2 (by decide), weight_row x2 1 (by decide), weight_row x2 0 (by decide),
    read_rows split x0 (k0_pay3 i x1) _ _ _ 1 (by decide), read_rows split x0 (k0_pay3 i x1) _ _ _ 2 (by decide), read_rows split x0 (k0_pay3 i x1) _ _ _ 3 (by decide)]
  rfl

end Block

variable (m : (ℓ : Loc nD τ sig) → Buf (Elt Ideal) ℓ) (c : Dev nD)

theorem bound (t : Fin cfg0.N) : t.val < 192 := lt_of_lt_of_eq t.isLt N_0

/-- The row of the arrays that is row `r` of point `t`'s block. -/
def row (t : Fin cfg0.N) (r : Fin 512) : Fin 8192 := ⟨t.val % 16 * 512 + r.val, by have := r.isLt; omega⟩

/-- The column of the arrays that is column `q` of point `t`'s block. -/
def col (t : Fin cfg0.N) (q : Fin 512) : Fin 6144 := ⟨t.val / 16 * 512 + q.val, by
  have := bound t
  have := q.isLt
  omega⟩

/-- The array's rows, and zeros below its last. -/
def after (d : Vec Ideal S8192x6144 .f32) (R : Nat) (q : Fin 6144) : EReal := if h : R < 8192 then d (ix2 ⟨R, h⟩ q) else 0

theorem after_in (d : Vec Ideal S8192x6144 .f32) (R : Fin 8192) (q : Fin 6144) (n : Nat) (h : n = R.val) : after d n q = d (ix2 R q) := by
  subst h
  exact dif_pos R.isLt

theorem after_out (d : Vec Ideal S8192x6144 .f32) (n : Nat) (q : Fin 6144) (h : ¬ n < 8192) : after d n q = 0 := dif_neg h

theorem index_block : ∀ t : Fin cfg0.N, win0_0.index t (0 : Fin 2) = t.val % 16 ∧ win0_0.index t (1 : Fin 2) = t.val / 16 :=
  (by decide +kernel : ∀ t : Fin grid0.N, _)

theorem index_below : ∀ t : Fin cfg0.N, win0_1.index t (0 : Fin 2) = min ((t.val % 16 + 1) * 64) 1023 ∧ win0_1.index t (1 : Fin 2) = t.val / 16 :=
  (by decide +kernel : ∀ t : Fin grid0.N, _)

theorem index_weights : ∀ t : Fin cfg0.N, win0_2.index t (0 : Fin 2) = 0 ∧ win0_2.index t (1 : Fin 2) = t.val / 16 :=
  (by decide +kernel : ∀ t : Fin grid0.N, _)

theorem last_flag : ∀ t : Fin cfg0.N, Scalar.cmpi .eq (BitVec.ofNat 32 (grid0.coords t 1).val) 15#32 = if t.val % 16 = 15 then 1#1 else 0#1 :=
  (by decide +kernel : ∀ t : Fin grid0.N, _)

theorem emb_block (t : Fin cfg0.N) (r q : Fin 512) : ((cfg0.win 0).blk t).view.emb (ix2 r q) = ix2 (row t r) (col t q) := by
  obtain ⟨h0, h1⟩ := index_block t
  funext a; apply Fin.ext
  match a with
  | ⟨0, _⟩ => show win0_0.index t (0 : Fin 2) * 512 + 1 * r.val = t.val % 16 * 512 + r.val; omega
  | ⟨1, _⟩ => show win0_0.index t (1 : Fin 2) * 512 + 1 * q.val = t.val / 16 * 512 + q.val; omega

theorem emb_out (t : Fin cfg0.N) (r q : Fin 512) : ((cfg0.win 3).blk t).view.emb (ix2 r q) = ix2 (row t r) (col t q) := emb_block t r q

theorem emb_below (t : Fin cfg0.N) (ht : t.val % 16 < 15) (r : Fin 8) (q : Fin 512) :
    ((cfg0.win 1).blk t).view.emb (ix2 r q) = ix2 ⟨t.val % 16 * 512 + 512 + r.val, by have := r.isLt; omega⟩ (col t q) := by
  obtain ⟨h0, h1⟩ := index_below t
  funext a; apply Fin.ext
  match a with
  | ⟨0, _⟩ => show win0_1.index t (0 : Fin 2) * 8 + 1 * r.val = t.val % 16 * 512 + 512 + r.val; omega
  | ⟨1, _⟩ => show win0_1.index t (1 : Fin 2) * 512 + 1 * q.val = t.val / 16 * 512 + q.val; omega

theorem emb_weights (t : Fin cfg0.N) (k : Fin 4) (q : Fin 512) : ((cfg0.win 2).blk t).view.emb (ix2 k q) = ix2 k (col t q) := by
  obtain ⟨h0, h1⟩ := index_weights t
  funext a; apply Fin.ext
  match a with
  | ⟨0, _⟩ => show win0_2.index t (0 : Fin 2) * 4 + 1 * k.val = k.val; omega
  | ⟨1, _⟩ => show win0_2.index t (1 : Fin 2) * 512 + 1 * q.val = t.val / 16 * 512 + q.val; omega

theorem covered (i : S8192x6144.Idx) : ∃ (t : Fin cfg0.N) (y : S512x512.Idx), ((cfg0.win 3).blk t).view.emb y = i := by
  obtain ⟨R, q, rfl⟩ := Adam.place i
  have hR := R.isLt
  have hq := q.isLt
  have ht : q.val / 512 * 16 + R.val / 512 < cfg0.N := lt_of_lt_of_eq (by omega : _ < 192) N_0.symm
  refine ⟨⟨q.val / 512 * 16 + R.val / 512, ht⟩, ix2 (⟨R.val % 512, by omega⟩ : Fin 512) (⟨q.val % 512, by omega⟩ : Fin 512), ?_⟩
  refine (emb_out _ _ _).trans (congrArg₂ ix2 (Fin.ext ?_) (Fin.ext ?_))
  · show (q.val / 512 * 16 + R.val / 512) % 16 * 512 + R.val % 512 = R.val; omega
  · show (q.val / 512 * 16 + R.val / 512) / 16 * 512 + q.val % 512 = q.val; omega

theorem flagged (t : Fin cfg0.N) (x : Vec Ideal S8x512 .f32) (r : Fin 8) (q : Fin 512) :
    k0_pay3 (grid0.coords t) x (ix2 r q) = if t.val % 16 = 15 then (0 : EReal) else x (ix2 r q) := by
  unfold k0_pay3
  dsimp only
  rw [shapeCast_self, last_flag]
  by_cases h : t.val % 16 = 15
  · rw [if_pos h, if_pos h]
    show Ideal.ofBits .f32 0x00000000#32 = 0
    exact Ideal.ofBits_zero _
  · rw [if_neg h, if_neg h]; rfl

/-- Row `r + s` of a point's scratch is the array's, zeros below its last. -/
theorem scratch_at (t : Fin cfg0.N) (s : Nat) (hs : s ≤ 8) (r q : Fin 512) :
    stage split (iblk m c 0 t) (k0_pay3 (grid0.coords t) (iblk m c 1 t)) (ix2 (down s hs r) q)
      = after (V m c main_arg0) (t.val % 16 * 512 + r.val + s) (col t q) := by
  have hr := r.isLt
  by_cases h : s + r.val < 512
  · refine (stage_low split _ _ _ q ⟨s + r.val, h⟩ rfl).trans ?_
    refine (congrArg (V m c main_arg0) (emb_block t _ q)).trans ?_
    exact (after_in _ (row t ⟨s + r.val, h⟩) _ _ (by show _ = t.val % 16 * 512 + (s + r.val); omega)).symm
  · refine (stage_high split _ _ _ q ⟨s + r.val - 512, by omega⟩ (by show s + r.val = 512 + (s + r.val - 512); omega)).trans ?_
    rw [flagged]
    by_cases h' : t.val % 16 = 15
    · have hb : ¬ t.val % 16 * 512 + r.val + s < 8192 := by omega
      rw [if_pos h']
      exact (after_out _ _ _ hb).symm
    · rw [if_neg h']
      refine (congrArg (V m c main_arg0) (emb_below t (by omega) _ q)).trans (after_in _ _ _ _ ?_).symm
      show _ = t.val % 16 * 512 + 512 + (s + r.val - 512)
      omega

/-- The gradient: at every place the four weights against its row and the three rows after it. -/
def back (d : Vec Ideal S8192x6144 .f32) (w : Vec Ideal S4x6144 .f32) : Vec Ideal S8192x6144 .bf16 := fun j =>
  taps (w (ix2 3 (j 1))) (after d (j 0).val (j 1)) (w (ix2 2 (j 1))) (after d ((j 0).val + 1) (j 1))
    (w (ix2 1 (j 1))) (after d ((j 0).val + 2) (j 1)) (w (ix2 0 (j 1))) (after d ((j 0).val + 3) (j 1))

theorem block_apply (t : Fin cfg0.N) (r q : Fin 512) : outsAt0 m c t (ix2 r q) = back (V m c main_arg0) (V m c main_arg1) (ix2 (row t r) (col t q)) := by
  unfold outsAt0
  refine (out_apply _ _ _ _ _ _ _ _ _ _ _ _ _ _ _ r q).trans ?_
  have hw (k : Fin 4) : iblk m c 2 t (ix2 k q) = V m c main_arg1 (ix2 k (col t q)) := congrArg (V m c main_arg1) (emb_weights t k q)
  have hd : iblk m c 0 t (ix2 r q) = after (V m c main_arg0) (t.val % 16 * 512 + r.val) (col t q) :=
    (congrArg (V m c main_arg0) (emb_block t r q)).trans (after_in _ (row t r) _ _ rfl).symm
  rw [hw, hw, hw, hw, hd, scratch_at, scratch_at, scratch_at]
  rfl

theorem final : (dats m 0 c).arrAt 3 cfg0.N = back (V m c main_arg0) (V m c main_arg1) :=
  (dats m 0 c).arrAt_eq_of_cover 3 (back (V m c main_arg0) (V m c main_arg1))
    (fun t _ => by
      rw [flushed3]
      refine funext fun (y : S512x512.Idx) => ?_
      obtain ⟨r, q, rfl⟩ := Adam.place y
      exact (block_apply m c t r q).trans (congrArg (back (V m c main_arg0) (V m c main_arg1)) (emb_out t r q).symm))
    (fun (i : S8192x6144.Idx) => let ⟨t, y, h⟩ := covered i; ⟨t, flush0_3 t, h ▸ ((cfg0.win 3).blk t).view.emb_mem_set y⟩)

end Cert.ConvBackIdeal.Run

namespace Cert.Proof.ConvBack

open Idealize.ShloMosaic Idealize.ShloMosaic.TcCoe Idealize.SL.Sem
open Cert.ConvBackIdeal.Run (after taps back)
open Cert.Proof.Stage

theorem frame_refIdeal : Cert.quiescent_ConvBackRefIdeal := fun m g _ =>
  (θ_run Cert.ConvBackRefIdeal.defs _ _).mono
    (fun r h => ⟨fun c => (h c).2, sem_eq_zero_of_no_sems (by decide) r.2⟩) (Cert.ConvBackRefIdeal.Value.run m g)

section Reference

variable (d : FVec Ideal Full .f32) (w : FVec Ideal Taps .f32) (hp : Full.Pads (![0, 0] : Fin 2 → Nat) ![3, 0] ![0, 0] Tall) (h0 : 0 < Unit.numel)

/-- The array with three rows of zeros below it. -/
abbrev padded : FVec Ideal Tall .f32 := pad Tall ![0, 0] ![3, 0] ![0, 0] d (sitofp .f32 (constantI Unit 32 0#32)) hp h0

theorem padded_at (R : Fin 8195) (q : Fin 6144) : padded d hp h0 (ix2 R q) = after d R.val q := by
  by_cases h : R.val < 8192
  · refine Eq.trans ?_ (dif_pos h).symm
    refine (dif_pos ?_).trans ?_
    · intro a
      match a with
      | ⟨0, _⟩ => exact ⟨Nat.zero_le _, Nat.mod_one _, by show (R.val - 0) / 1 < 8192; omega⟩
      | ⟨1, _⟩ => exact ⟨Nat.zero_le _, Nat.mod_one _, by show (q.val - 0) / 1 < 6144; have := q.isLt; omega⟩
    · refine congrArg d ?_
      funext a; apply Fin.ext
      match a with
      | ⟨0, _⟩ => show (R.val - 0) / 1 = R.val; omega
      | ⟨1, _⟩ => show (q.val - 0) / 1 = q.val; omega
  · refine Eq.trans ?_ (dif_neg h).symm
    refine (dif_neg ?_).trans (zero_int h0)
    intro hin
    have e : (R.val - 0) / 1 < 8192 := (hin 0).2.2
    omega

theorem slice_at (k : Nat) (hk : k < 4) (hs : Tall.Slices ![k, 0] Full) (R : Fin 8192) (q : Fin 6144) :
    extractStridedSlice Full ![k, 0] (padded d hp h0) hs (ix2 R q) = after d (R.val + k) q := by
  have hR := R.isLt
  refine Eq.trans ?_ (padded_at d hp h0 ⟨R.val + k, by omega⟩ q)
  unfold extractStridedSlice
  refine congrArg (padded d hp h0) ?_
  funext a; apply Fin.ext
  match a with
  | ⟨0, _⟩ => show k + R.val = R.val + k; omega
  | ⟨1, _⟩ => show 0 + q.val = q.val; omega

theorem ref_at (s3 s2 s1 s0) (t3 t2 t1 t0) (hc) (hf) (hb) (hn : FTy.bf16.bits < FTy.f32.bits) :
    truncf .bf16 (addf (addf (addf (mulf (spread w 3 s3 hc hf hb) (extractStridedSlice Full ![0, 0] (padded d hp h0) t0))
      (mulf (spread w 2 s2 hc hf hb) (extractStridedSlice Full ![1, 0] (padded d hp h0) t1)))
      (mulf (spread w 1 s1 hc hf hb) (extractStridedSlice Full ![2, 0] (padded d hp h0) t2)))
      (mulf (spread w 0 s0 hc hf hb) (extractStridedSlice Full ![3, 0] (padded d hp h0) t3))) hn = back d w := by
  refine funext fun (j : Full.Idx) => ?_
  obtain ⟨R, q, rfl⟩ := Adam.place j
  show taps (spread w 3 s3 hc hf hb (ix2 R q)) (extractStridedSlice Full ![0, 0] (padded d hp h0) t0 (ix2 R q))
    (spread w 2 s2 hc hf hb (ix2 R q)) (extractStridedSlice Full ![1, 0] (padded d hp h0) t1 (ix2 R q))
    (spread w 1 s1 hc hf hb (ix2 R q)) (extractStridedSlice Full ![2, 0] (padded d hp h0) t2 (ix2 R q))
    (spread w 0 s0 hc hf hb (ix2 R q)) (extractStridedSlice Full ![3, 0] (padded d hp h0) t3 (ix2 R q)) = _
  rw [spread_at w 3 (by decide), spread_at w 2 (by decide), spread_at w 1 (by decide), spread_at w 0 (by decide),
    slice_at d hp h0 0 (by decide), slice_at d hp h0 1 (by decide), slice_at d hp h0 2 (by decide), slice_at d hp h0 3 (by decide)]
  rfl

end Reference

theorem algebraic : Cert.algebraic_ConvBackIdeal_ConvBackRefIdeal := fun m g m' g' _ hA => by
  refine ⟨_, (θ_run Cert.ConvBackIdeal.defs _ _).mono (fun r h c => ⟨(h c).1.trans ((Cert.ConvBackIdeal.Run.final m c).trans (congrArg₂ Cert.ConvBackIdeal.Run.back (Cert.ConvBackIdeal.Gen.V_main_arg0 m c) (Cert.ConvBackIdeal.Gen.V_main_arg1 m c))), (h c).2⟩)
      (Cert.ConvBackIdeal.Value.run_blocks m g),
    (θ_run Cert.ConvBackRefIdeal.defs _ _).mono (fun r h c => ?_) (Cert.ConvBackRefIdeal.Value.run m' g')⟩
  obtain ⟨h0, hk⟩ := h c
  obtain ⟨a0, a1⟩ := hA c
  rw [a0, a1] at h0
  exact ⟨h0.trans (ref_at ..), hk⟩

end Cert.Proof.ConvBack
end
-- ==== Proof.Cumsum.lean ====
/-
  A cumulative sum along the middle of three axes, as a window sum over everything up to an entry (`cumsum_apply`): entry `i` is
  the sum of the entries up to it.
-/
module

public import proofs.«01_k».proof.Defs
public import Idealize.ShloMosaic.Lib.ValueLayout
public import Idealize.ShloMosaic.Lib.Pointwise

@[expose] public section

noncomputable section

namespace Cert.Proof.Cumsum

open Idealize.ShloMosaic

abbrev Unit : Shape := ⟨0, ![]⟩
abbrev Blocks : Shape := ⟨3, ![64, 128, 128]⟩
abbrev Window : Shape := ⟨3, ![1, 128, 1]⟩

/-- Adding one after another is adding the sum. -/
theorem foldl_sum {α : Type} (l : List α) (f : α → EReal) (a : EReal) : l.foldl (fun r n => r + f n) a = a + (l.map f).sum := by
  induction l generalizing a with
  | nil => simp
  | cons x l ih => rw [List.foldl_cons, ih, List.map_cons, List.sum_cons, add_assoc]

/-- A sum over a window that ends at entry `i` is the sum up to `i`. -/
theorem sum_shift (g : Fin 128 → EReal) (i : Fin 128) :
    (∑ k : Fin 128, if h : 127 ≤ i.val + k.val then g ⟨i.val + k.val - 127, by have := k.isLt; have := i.isLt; omega⟩ else 0)
      = ∑ k : Fin 128, if k ≤ i then g k else 0 := by
  have hi := i.isLt
  rw [← Finset.sum_filter]
  have e : ∀ k : Fin 128, (if h : 127 ≤ i.val + k.val then g ⟨i.val + k.val - 127, by have := k.isLt; omega⟩ else 0)
      = if 127 ≤ i.val + k.val then g ⟨(i.val + k.val - 127) % 128, Nat.mod_lt _ (by decide)⟩ else 0 := fun k => by
    have hk := k.isLt
    by_cases h : 127 ≤ i.val + k.val
    · rw [dif_pos h, if_pos h]
      exact congrArg g (Fin.ext (Nat.mod_eq_of_lt (by omega)).symm)
    · rw [dif_neg h, if_neg h]
  rw [Finset.sum_congr rfl fun k _ => e k, ← Finset.sum_filter]
  refine Finset.sum_bij' (fun k _ => ⟨(i.val + k.val - 127) % 128, Nat.mod_lt _ (by decide)⟩)
    (fun k _ => ⟨(k.val + 127 - i.val) % 128, Nat.mod_lt _ (by decide)⟩) ?_ ?_ ?_ ?_ ?_
  · intro k hk
    have := k.isLt
    have := (Finset.mem_filter.mp hk).2
    refine Finset.mem_filter.mpr ⟨Finset.mem_univ _, Fin.le_def.mpr ?_⟩
    show (i.val + k.val - 127) % 128 ≤ i.val
    omega
  · intro k hk
    have := k.isLt
    have := Fin.le_def.mp (Finset.mem_filter.mp hk).2
    refine Finset.mem_filter.mpr ⟨Finset.mem_univ _, ?_⟩
    show 127 ≤ i.val + (k.val + 127 - i.val) % 128
    omega
  · intro k hk
    have := k.isLt
    have := (Finset.mem_filter.mp hk).2
    refine Fin.ext ?_
    show ((i.val + k.val - 127) % 128 + 127 - i.val) % 128 = k.val
    omega
  · intro k hk
    have := k.isLt
    have := Fin.le_def.mp (Finset.mem_filter.mp hk).2
    refine Fin.ext ?_
    show (i.val + (k.val + 127 - i.val) % 128 - 127) % 128 = k.val
    omega
  · intro k _
    rfl

theorem cumsum_apply (x : FVec Ideal Blocks .f32) (init : FVec Ideal Unit .f32) (h0 : 0 < Unit.numel)
    (h : Blocks.ReduceWindows (![1, 128, 1] : Fin 3 → Nat) ![1, 1, 1] ![0, 127, 0] ![0, 0, 0] Blocks)
    (hz : init (Shape.Idx.first h0) = (0 : EReal)) (b : Fin 64) (i : Fin 128) (q : Fin 128) :
    Host.reduceWindowAdd ![1, 128, 1] ![1, 1, 1] ![0, 127, 0] ![0, 0, 0] x init h h0 (ix3 b i q)
      = ∑ k : Fin 128, if k ≤ i then (x (ix3 b k q) : EReal) else 0 := by
  rw [← sum_shift (fun k => x (ix3 b k q)) i]
  show Host.reduceWindow (s := Blocks) (u := ⟨0, ![]⟩) (fun u v : EReal => u + v) ![1, 128, 1] ![1, 1, 1] ![0, 127, 0] ![0, 0, 0] x
    (fun _ => init (Shape.Idx.first h0)) h (by decide) (ix3 b i q) = _
  unfold Host.reduceWindow
  dsimp only
  refine (foldl_sum _ _ _).trans ?_
  rw [hz, zero_add]
  rw [← List.ofFn_eq_map, List.sum_ofFn]
  refine (Fintype.sum_equiv (Window.rowMajor.symm) _ (fun w : Window.Idx =>
    if hh : 127 ≤ i.val + (w 1).val then (x (ix3 b ⟨i.val + (w 1).val - 127, by
      have h1 : (w 1).val < 128 := (w 1).isLt
      have := i.isLt
      omega⟩ q) : EReal) else 0) ?_).trans ?_
  · intro n
    have h0' : (Window.rowMajor.symm n 0).val = 0 := by have : (Window.rowMajor.symm n 0).val < 1 := (Window.rowMajor.symm n 0).isLt; omega
    have h1' : (Window.rowMajor.symm n 1).val < 128 := (Window.rowMajor.symm n 1).isLt
    have h2' : (Window.rowMajor.symm n 2).val = 0 := by have : (Window.rowMajor.symm n 2).val < 1 := (Window.rowMajor.symm n 2).isLt; omega
    have hi := i.isLt
    have hb := b.isLt
    have hq := q.isLt
    by_cases hh : 127 ≤ i.val + (Window.rowMajor.symm n 1).val
    · rw [dif_pos hh]
      refine (dif_pos ?_).trans ?_
      · intro a
        match a with
        | ⟨0, _⟩ => show 0 ≤ b.val * 1 + (Window.rowMajor.symm n 0).val ∧ b.val * 1 + (Window.rowMajor.symm n 0).val - 0 < 64; omega
        | ⟨1, _⟩ => show 127 ≤ i.val * 1 + (Window.rowMajor.symm n 1).val ∧ i.val * 1 + (Window.rowMajor.symm n 1).val - 127 < 128; omega
        | ⟨2, _⟩ => show 0 ≤ q.val * 1 + (Window.rowMajor.symm n 2).val ∧ q.val * 1 + (Window.rowMajor.symm n 2).val - 0 < 128; omega
      · refine congrArg x ?_
        funext a; apply Fin.ext
        match a with
        | ⟨0, _⟩ => show b.val * 1 + (Window.rowMajor.symm n 0).val - 0 = b.val; omega
        | ⟨1, _⟩ => show i.val * 1 + (Window.rowMajor.symm n 1).val - 127 = i.val + (Window.rowMajor.symm n 1).val - 127; omega
        | ⟨2, _⟩ => show q.val * 1 + (Window.rowMajor.symm n 2).val - 0 = q.val; omega
    · rw [dif_neg hh]
      refine dif_neg fun hin => hh ?_
      have e : 127 ≤ i.val * 1 + (Window.rowMajor.symm n 1).val := (hin 1).1
      omega
  · symm
    refine Fintype.sum_bijective (fun k : Fin 128 => (ix3 0 k 0 : Window.Idx)) ⟨?_, ?_⟩ _ _ (fun k => rfl)
    · intro k k' e
      exact congrFun e 1
    · intro w
      refine ⟨w 1, ?_⟩
      funext a
      match a with
      | ⟨0, _⟩ => exact Fin.ext (by have : (w 0).val < 1 := (w 0).isLt; show 0 = (w 0).val; omega)
      | ⟨1, _⟩ => rfl
      | ⟨2, _⟩ => exact Fin.ext (by have : (w 2).val < 1 := (w 2).isLt; show 0 = (w 2).val; omega)

end Cert.Proof.Cumsum
end
-- ==== Proof.StepsClaims.lean ====
/-
  The claims of the scan's steps: the steps through the softplus, whose two writings agree (`ref_softplus`), and, within each
  block of 128 rows, the cumulative sum of the steps times a decay, which the kernel takes as a product with the matrix of ones
  on and below its diagonal (`sums_apply`) and the reference as a window sum (`Cumsum.cumsum_apply`).
-/
module

public import proofs.«01_k».proof.Proof.Adam
public import proofs.«01_k».proof.Proof.Cumsum
public import proofs.«01_k».proof.Proof.Gen.Steps.Frame
public import proofs.«01_k».proof.Proof.Gen.StepsIdeal.Value
public import proofs.«01_k».proof.Proof.Gen.StepsRefIdeal.Run

@[expose] public section

noncomputable section

namespace Cert.StepsIdeal.Run

open Idealize.ShloMosaic Idealize.ShloMosaic.TcCoe Idealize.SL.Sem
open Cert.StepsIdeal Cert.StepsIdeal.Gen Cert.StepsIdeal.Value

/-- The softplus, through the exponential of minus the distance from zero. -/
def softplus (x : EReal) : EReal := max x 0 + Ideal.log (1 + Ideal.exp (-(max x (-x))))

/-- A step times its decay. -/
def decayed (x a : EReal) : EReal := softplus x * (-Ideal.exp a)

section Block

variable (x0 : Vec Ideal S128x128 .f32) (x1 x2 : Vec Ideal S1x128 .f32)

theorem kernel_softplus (x : EReal) : max x 0 + Ideal.log (1 + Ideal.exp (0 - max x (-x))) = softplus x := by
  rw [sub_eq_add_neg, zero_add]; rfl

theorem steps_apply (r q : Fin 128) : k0_pay1 x0 x1 (ix2 r q) = softplus (x0 (ix2 r q) + x1 (ix2 0 q)) := by
  rw [← kernel_softplus]
  unfold k0_pay1
  pointwise
  rfl

/-- One on and below the diagonal, zero above it. -/
abbrev ones : FVec Ideal S128x128 .f32 :=
  select (cmpi .sge (iota .tc S128x128 32 [0] iota_S128x128_d0_w32) (iota .tc S128x128 32 [1] iota_S128x128_d1_w32))
    (broadcast S128x128 (Scalar.ofBits .f32 0x3F800000#32)) (broadcast S128x128 (Scalar.ofBits .f32 0x00000000#32))

theorem below : ∀ r k : Fin 128, IntOp.cmpi CmpIPredicate.sge (BitVec.ofNat 32 r.val) (BitVec.ofNat 32 k.val) = if k ≤ r then 1#1 else 0#1 := by
  decide +kernel

theorem ones_apply (r k : Fin 128) : ones (ix2 r k) = if k ≤ r then (1 : EReal) else 0 := by
  have e : ones (ix2 r k) = Scalar.select (IntOp.cmpi CmpIPredicate.sge (BitVec.ofNat 32 r.val) (BitVec.ofNat 32 k.val)) (1 : EReal) 0 := by
    pointwise
  rw [e, below]
  by_cases h : k ≤ r
  · rw [if_pos h, if_pos h]; rfl
  · rw [if_neg h, if_neg h]; rfl

/-- The steps times their decays. -/
abbrev decays : FVec Ideal S128x128 .f32 :=
  mulf (k0_pay1 x0 x1) (broadcastTo S128x128 (subf (broadcast S1x128 (Scalar.ofBits .f32 0x00000000#32)) (exp x2)) broadcasts_S1x128_S128x128)

theorem decays_apply (r q : Fin 128) : decays x0 x1 x2 (ix2 r q) = decayed (x0 (ix2 r q) + x1 (ix2 0 q)) (x2 (ix2 0 q)) := by
  have e : decays x0 x1 x2 (ix2 r q) = (k0_pay1 x0 x1 (ix2 r q) : EReal) * (0 - Ideal.exp (x2 (ix2 0 q))) := by
    have e' (u : FVec Ideal S128x128 .f32) : mulf u (broadcastTo S128x128 (subf (broadcast S1x128 (Scalar.ofBits .f32 0x00000000#32)) (exp x2))
        broadcasts_S1x128_S128x128) (ix2 r q) = (u (ix2 r q) : EReal) * (0 - Ideal.exp (x2 (ix2 0 q))) := by pointwise
    exact e' _
  rw [e, steps_apply, sub_eq_add_neg, zero_add]
  rfl

theorem product_apply (u v : FVec Ideal S128x128 .f32) (r q : Fin 128) :
    matmul dot_S128x128_S128x128_S128x128_1_0_0_1_n_n (some .fp32) u v (constant S128x128 .f32 0x00000000#32) (ix2 r q)
      = ∑ k : Fin 128, (u (ix2 r k) : EReal) * v (ix2 k q) := by
  pointwise

theorem sums_apply (r q : Fin 128) :
    k0_pay2 x0 x1 x2 (ix2 r q) = ∑ k : Fin 128, if k ≤ r then decayed (x0 (ix2 k q) + x1 (ix2 0 q)) (x2 (ix2 0 q)) else 0 := by
  refine (product_apply ones (decays x0 x1 x2) r q).trans (Finset.sum_congr rfl fun k _ => ?_)
  rw [ones_apply, decays_apply]
  by_cases h : k ≤ r
  · rw [if_pos h, if_pos h, one_mul]
  · rw [if_neg h, if_neg h, zero_mul]

theorem out_steps : out0_3 x0 x1 x2 = k0_pay1 x0 x1 := by
  unfold out0_3
  rw [View.canon_unit_zero Adam.zero2, View.ld_unit_zero (S := S128x128) Adam.zero2, View.ld_unit_zero (S := S1x128) Adam.zero2]

theorem out_sums : out0_4 x0 x1 x2 = k0_pay2 x0 x1 x2 := by
  unfold out0_4
  rw [View.canon_unit_zero Adam.zero2, View.ld_unit_zero (S := S128x128) Adam.zero2, View.ld_unit_zero (S := S1x128) Adam.zero2,
    View.ld_unit_zero (S := S1x128) Adam.zero2]

end Block

variable (m : (ℓ : Loc nD τ sig) → Buf (Elt Ideal) ℓ) (c : Dev nD)

/-- Row `r` of block `b`. -/
def row (b : Fin 64) (r : Fin 128) : Fin 8192 := ⟨b.val * 128 + r.val, by have := b.isLt; have := r.isLt; omega⟩

/-- The block of a point. -/
def block (t : Fin cfg0.N) : Fin 64 := ⟨t.val, lt_of_lt_of_eq t.isLt N_0⟩

theorem index_rows : ∀ t : Fin cfg0.N, win0_3.index t (0 : Fin 2) = t.val ∧ win0_3.index t (1 : Fin 2) = 0 :=
  (by decide +kernel : ∀ t : Fin grid0.N, _)

theorem index_row : ∀ t : Fin cfg0.N, win0_1.index t (0 : Fin 2) = 0 ∧ win0_1.index t (1 : Fin 2) = 0 :=
  (by decide +kernel : ∀ t : Fin grid0.N, _)

theorem emb_rows (t : Fin cfg0.N) (r q : Fin 128) : ((cfg0.win 3).blk t).view.emb (ix2 r q) = ix2 (row (block t) r) q := by
  obtain ⟨h0, h1⟩ := index_rows t
  funext a; apply Fin.ext
  match a with
  | ⟨0, _⟩ => show win0_3.index t (0 : Fin 2) * 128 + 1 * r.val = t.val * 128 + r.val; omega
  | ⟨1, _⟩ => show win0_3.index t (1 : Fin 2) * 128 + 1 * q.val = q.val; omega

theorem emb_row (t : Fin cfg0.N) (q : Fin 128) : ((cfg0.win 1).blk t).view.emb (ix2 0 q) = ix2 0 q := by
  obtain ⟨h0, h1⟩ := index_row t
  funext a; apply Fin.ext
  match a with
  | ⟨0, _⟩ => show win0_1.index t (0 : Fin 2) * 1 + 1 * 0 = 0; omega
  | ⟨1, _⟩ => show win0_1.index t (1 : Fin 2) * 128 + 1 * q.val = q.val; omega

theorem block_x (t : Fin cfg0.N) (r q : Fin 128) : iblk m c 0 t (ix2 r q) = V m c main_arg0 (ix2 (row (block t) r) q) :=
  congrArg (V m c main_arg0) (emb_rows t r q)
theorem block_bias (t : Fin cfg0.N) (q : Fin 128) : iblk m c 1 t (ix2 0 q) = V m c main_arg1 (ix2 0 q) :=
  congrArg (V m c main_arg1) (emb_row t q)
theorem block_log (t : Fin cfg0.N) (q : Fin 128) : iblk m c 2 t (ix2 0 q) = V m c main_arg2 (ix2 0 q) :=
  congrArg (V m c main_arg2) (emb_row t q)

theorem row_surjective (R : Fin 8192) : ∃ (b : Fin 64) (r : Fin 128), row b r = R := by
  have hR := R.isLt
  exact ⟨⟨R.val / 128, by omega⟩, ⟨R.val % 128, by omega⟩, Fin.ext (by show R.val / 128 * 128 + R.val % 128 = R.val; omega)⟩

theorem covered (i : S8192x128.Idx) : ∃ (t : Fin cfg0.N) (y : S128x128.Idx), ((cfg0.win 3).blk t).view.emb y = i := by
  obtain ⟨R, q, rfl⟩ := Adam.place i
  obtain ⟨b, r, rfl⟩ := row_surjective R
  exact ⟨⟨b.val, lt_of_lt_of_eq b.isLt N_0.symm⟩, ix2 r q, emb_rows _ r q⟩

section Results

variable (x : Vec Ideal S8192x128 .f32) (b a : Vec Ideal S1x128 .f32)

/-- The steps. -/
def steps : Vec Ideal S8192x128 .f32 := fun j => softplus (x j + b (ix2 0 (j 1)))

/-- The cumulative sums within the blocks of 128 rows. -/
def sums : Vec Ideal S8192x128 .f32 := fun j => ∑ k : Fin 128, if k.val ≤ (j 0).val % 128 then
  decayed (x (ix2 (⟨(j 0).val / 128 * 128 + k.val, by
    have h : (j 0).val < 8192 := (j 0).isLt
    have := k.isLt
    omega⟩ : Fin 8192) (j 1)) + b (ix2 0 (j 1))) (a (ix2 0 (j 1))) else 0

theorem steps_at (R : Fin 8192) (q : Fin 128) : steps x b (ix2 R q) = softplus (x (ix2 R q) + b (ix2 0 q)) := rfl

theorem sums_at (k : Fin 64) (r q : Fin 128) :
    sums x b a (ix2 (row k r) q) = ∑ l : Fin 128, if l ≤ r then decayed (x (ix2 (row k l) q) + b (ix2 0 q)) (a (ix2 0 q)) else 0 := by
  have hk := k.isLt
  have hr := r.isLt
  refine Finset.sum_congr rfl fun l _ => ?_
  have e1 : (k.val * 128 + r.val) % 128 = r.val := by omega
  have e2 : (k.val * 128 + r.val) / 128 * 128 + l.val = k.val * 128 + l.val := by omega
  have e3 : (⟨(k.val * 128 + r.val) / 128 * 128 + l.val, by have := l.isLt; omega⟩ : Fin 8192) = row k l := Fin.ext e2
  show (if l.val ≤ (k.val * 128 + r.val) % 128 then
    decayed (x (ix2 (⟨(k.val * 128 + r.val) / 128 * 128 + l.val, _⟩ : Fin 8192) q) + b (ix2 0 q)) (a (ix2 0 q)) else 0) = _
  rw [e3]
  exact if_congr (by rw [e1]; exact Fin.le_def.symm) rfl rfl

end Results

theorem final_steps : (dats m 0 c).arrAt 3 cfg0.N = steps (V m c main_arg0) (V m c main_arg1) :=
  (dats m 0 c).arrAt_eq_of_cover 3 (steps (V m c main_arg0) (V m c main_arg1))
    (fun t _ => by
      rw [flushed3, out_steps]
      refine funext fun (y : S128x128.Idx) => ?_
      obtain ⟨r, q, rfl⟩ := Adam.place y
      refine ((steps_apply _ _ r q).trans ?_).trans (congrArg (steps (V m c main_arg0) (V m c main_arg1)) (emb_rows t r q).symm)
      rw [block_x, block_bias]
      rfl)
    (fun (i : S8192x128.Idx) => let ⟨t, y, h⟩ := covered i; ⟨t, flush0_3 t, h ▸ ((cfg0.win 3).blk t).view.emb_mem_set y⟩)

theorem final_sums : (dats m 0 c).arrAt 4 cfg0.N = sums (V m c main_arg0) (V m c main_arg1) (V m c main_arg2) :=
  (dats m 0 c).arrAt_eq_of_cover 4 (sums (V m c main_arg0) (V m c main_arg1) (V m c main_arg2))
    (fun t _ => by
      rw [flushed4, out_sums]
      refine funext fun (y : S128x128.Idx) => ?_
      obtain ⟨r, q, rfl⟩ := Adam.place y
      refine ((sums_apply _ _ _ r q).trans ?_).trans (congrArg (sums (V m c main_arg0) (V m c main_arg1) (V m c main_arg2)) (emb_rows t r q).symm)
      rw [sums_at]
      refine Finset.sum_congr rfl fun l _ => ?_
      rw [block_x, block_bias, block_log])
    (fun (i : S8192x128.Idx) => let ⟨t, y, h⟩ := covered i; ⟨t, flush0_4 t, h ▸ ((cfg0.win 4).blk t).view.emb_mem_set y⟩)

end Cert.StepsIdeal.Run

namespace Cert.Proof.Steps

open Idealize.ShloMosaic Idealize.ShloMosaic.TcCoe Idealize.SL.Sem
open Cert.StepsIdeal.Run (softplus decayed steps sums row row_surjective sums_at)
open Cert.Proof.Cumsum

theorem frame_refIdeal : Cert.quiescent_StepsRefIdeal := fun m g _ =>
  (θ_run Cert.StepsRefIdeal.defs _ _).mono
    (fun r h => ⟨fun c => (h c).2.2, sem_eq_zero_of_no_sems (by decide) r.2⟩) (Cert.StepsRefIdeal.Value.run m g)

section Reference

abbrev Full : Shape := ⟨2, ![8192, 128]⟩
abbrev Row : Shape := ⟨2, ![1, 128]⟩

variable (x : FVec Ideal Full .f32) (b a : FVec Ideal Row .f32) (ho : Unit.BroadcastsInDim Full ![])
  (hb : Row.BroadcastsInDim Full (![0, 1] : Fin 2 → Fin 2))

/-- Zero at every place. -/
abbrev zeros : FVec Ideal Full .f32 := broadcastInDim Full ![] ho (constant Unit .f32 0x00000000#32)

/-- The softplus as the reference takes it, of a whole array. -/
abbrev refSoftplus (u : FVec Ideal Full .f32) : FVec Ideal Full .f32 :=
  select (cmpf .une (subf u (zeros ho)) (subf u (zeros ho))) (addf u (zeros ho))
    (addf (maximumf u (zeros ho)) (Host.log1p (Host.exp (Host.negf (Host.absf (subf u (zeros ho)))))))

theorem ref_softplus (u : FVec Ideal Full .f32) (j : Full.Idx) : refSoftplus ho u j = softplus (u j) := by
  have hz : zeros ho j = (0 : EReal) := Ideal.ofBits_zero_f32
  have hc : Ideal.cmp .une ((u j : EReal) - zeros ho j) ((u j : EReal) - zeros ho j) = 0#1 := by
    show BitVec.ofBool (decide (_ ≠ _)) = 0#1
    rw [decide_eq_false (by simp)]
    rfl
  show (if Ideal.cmp .une ((u j : EReal) - zeros ho j) ((u j : EReal) - zeros ho j) = 1#1 then _ else
    max (u j : EReal) (zeros ho j) + Ideal.log (1 + Ideal.exp (-(max ((u j : EReal) - zeros ho j) (-((u j : EReal) - zeros ho j)))))) = _
  rw [hc, if_neg (by decide), hz, sub_zero]
  rfl

/-- The reference's steps. -/
abbrev refSteps : FVec Ideal Full .f32 := refSoftplus ho (addf x (broadcastInDim Full ![0, 1] hb b))

theorem shifted_at (R : Fin 8192) (q : Fin 128) : addf x (broadcastInDim Full ![0, 1] hb b) (ix2 R q) = (x (ix2 R q) : EReal) + b (ix2 0 q) := by
  pointwise

theorem ref_steps : refSteps x b ho hb = steps x b := by
  refine funext fun (j : Full.Idx) => ?_
  obtain ⟨R, q, rfl⟩ := Adam.place j
  exact (ref_softplus ho _ _).trans (congrArg softplus (shifted_at x b hb R q))

variable (h1 : Full.ShapeCasts Blocks) (h2 : Blocks.ShapeCasts Full) (hu : Unit.BroadcastsInDim Unit ![]) (h0 : 0 < Unit.numel)
  (hw : Blocks.ReduceWindows (![1, 128, 1] : Fin 3 → Nat) ![1, 1, 1] ![0, 127, 0] ![0, 0, 0] Blocks)

/-- The reference's steps times their decays. -/
abbrev refDecays : FVec Ideal Full .f32 := mulf (refSteps x b ho hb) (broadcastInDim Full ![0, 1] hb (Host.negf (Host.exp a)))

theorem decay_at (R : Fin 8192) (q : Fin 128) : broadcastInDim Full ![0, 1] hb (Host.negf (Host.exp a)) (ix2 R q) = -Ideal.exp (a (ix2 0 q)) := by
  pointwise

theorem decays_at (R : Fin 8192) (q : Fin 128) : refDecays x b a ho hb (ix2 R q) = decayed (x (ix2 R q) + b (ix2 0 q)) (a (ix2 0 q)) := by
  show (refSteps x b ho hb (ix2 R q) : EReal) * _ = _
  rw [decay_at, ref_steps]
  rfl

theorem cut_at (u : FVec Ideal Full .f32) (k : Fin 64) (r q : Fin 128) : shapeCast Blocks u h1 (ix3 k r q) = u (ix2 (row k r) q) := by
  unfold row
  pointwise

theorem join_at (u : FVec Ideal Blocks .f32) (k : Fin 64) (r q : Fin 128) : shapeCast Full u h2 (ix2 (row k r) q) = u (ix3 k r q) := by
  unfold row
  pointwise

theorem ref_sums :
    shapeCast Full (Host.reduceWindowAdd ![1, 128, 1] ![1, 1, 1] ![0, 127, 0] ![0, 0, 0] (shapeCast Blocks (refDecays x b a ho hb) h1)
      (broadcastInDim Unit ![] hu (constant Unit .f32 0x00000000#32)) hw h0) h2 = sums x b a := by
  refine funext fun (j : Full.Idx) => ?_
  obtain ⟨R, q, rfl⟩ : ∃ (R : Fin 8192) (q : Fin 128), j = ix2 R q := ⟨j 0, j 1, eq_ix2 j⟩
  obtain ⟨k, r, rfl⟩ := row_surjective R
  rw [join_at, sums_at]
  refine (cumsum_apply _ _ h0 hw Ideal.ofBits_zero_f32 k r q).trans (Finset.sum_congr rfl fun l _ => ?_)
  rw [cut_at, decays_at]

end Reference

theorem algebraic : Cert.algebraic_StepsIdeal_StepsRefIdeal := fun m g m' g' _ hA => by
  refine ⟨_, _, (θ_run Cert.StepsIdeal.defs _ _).mono (fun r h c => ⟨(h c).1.trans (Cert.StepsIdeal.Run.final_steps m c), (h c).2.1.trans (Cert.StepsIdeal.Run.final_sums m c), (h c).2.2⟩)
      (Cert.StepsIdeal.Value.run_blocks m g),
    (θ_run Cert.StepsRefIdeal.defs _ _).mono (fun r h c => ?_) (Cert.StepsRefIdeal.Value.run m' g')⟩
  obtain ⟨h0, h1, hk⟩ := h c
  obtain ⟨a0, a1, a2⟩ := hA c
  rw [a0, a1] at h0
  rw [a0, a1, a2] at h1
  exact ⟨h0.trans (ref_steps ..), h1.trans (ref_sums ..), hk⟩

end Cert.Proof.Steps
end
-- ==== Proof.NormBackClaims.lean ====
/-
  The claims of the gradient through the input's normalization. The kernel walks the rows in blocks of 128: a point's blocks
  are rows of the arrays (`emb_rows`), so that the first result is written block by block (`final_rows`), and the second, one
  row kept from point to point, is the blocks' sums added (`kept_eq`) and so the sum over all rows (`final_weight`).
-/
module

public import proofs.«01_k».proof.Proof.Adam
public import proofs.«01_k».proof.Proof.Norm
public import proofs.«01_k».proof.Proof.Gen.NormBack.Frame
public import proofs.«01_k».proof.Proof.Gen.NormBackIdeal.Value
public import proofs.«01_k».proof.Proof.Gen.NormBackRefIdeal.Run

@[expose] public section

noncomputable section

namespace Cert.NormBackIdeal.Run

open Idealize.ShloMosaic Idealize.ShloMosaic.TcCoe Idealize.SL.Sem
open Cert.NormBackIdeal Cert.NormBackIdeal.Gen Cert.NormBackIdeal.Value

/-! ## What a point leaves -/

section Block

variable {F : FTy → Type} [FloatOps F]
variable (c : Dev nD) (i : grid0.Coords) (a1 : Memref sig .tc .vmem S128x2048 .f32) (h1 : a1.IsWhole)
  (a2 : Memref sig .tc .vmem S128x2048 .f32) (h2 : a2.IsWhole) (a3 : Memref sig .tc .vmem S128x2048 .f32) (h3 : a3.IsWhole)
  (a4 : Memref sig .tc .vmem S1x2048 .f32) (h4 : a4.IsWhole) (a5 : Memref sig .tc .vmem S128x2048 .f32) (h5 : a5.IsWhole)
  (a6 : Memref sig .tc .vmem S128x2048 .f32) (h6 : a6.IsWhole) (a7 : Memref sig .tc .vmem S1x2048 .f32) (h7 : a7.IsWhole)
  (x0 x1 x2 : Vec F S128x2048 .f32) (x3 : Vec F S1x2048 .f32) (x4 : Vec F S128x2048 .f32) (xo : Vec F S1x2048 .f32)

theorem rows_first (hc : cond0_0 i) (hc' : ¬cond0_1 i) :
    out0_A_5 c i a1 h1 a2 h2 a3 h3 a4 h4 a5 h5 a6 h6 a7 h7 hc hc' x0 x1 x2 x3 x4 = k0_pay4 x2 x0 x1 x3 x4 := by
  unfold out0_A_5
  rw [View.read_writes_eq_canon _ _ _ (cover0_A_5 c i a1 h1 a2 h2 a3 h3 a4 h4 a5 h5 a6 h6 a7 h7 hc hc' x0 x1 x2 x3 x4)]
  unfold kernelRun0_A
  dsimp only
  sl_unfold_words
  rw [View.canon_unit_zero Adam.zero2]
  simp only [View.readAt_eq_ld, h1.read_unread, h2.read_unread, h3.read_unread, h4.read_unread, h5.read_unread,
    View.ld_unit_zero (S := S128x2048) Adam.zero2, View.ld_unit_zero (S := S1x2048) Adam.zero2]

theorem rows_next (hc : ¬cond0_0 i) (hc' : cond0_1 i) :
    out0_B_5 c i a1 h1 a2 h2 a3 h3 a4 h4 a5 h5 a6 h6 a7 h7 hc hc' x0 x1 x2 x3 x4 xo = k0_pay4 x2 x0 x1 x3 x4 := by
  unfold out0_B_5
  rw [View.read_writes_eq_canon _ _ _ (cover0_B_5 c i a1 h1 a2 h2 a3 h3 a4 h4 a5 h5 a6 h6 a7 h7 hc hc' x0 x1 x2 x3 x4 xo)]
  unfold kernelRun0_B
  dsimp only
  sl_unfold_words
  rw [View.canon_unit_zero Adam.zero2]
  simp only [View.readAt_eq_ld, h1.read_unread, h2.read_unread, h3.read_unread, h4.read_unread, h5.read_unread,
    View.ld_unit_zero (S := S128x2048) Adam.zero2, View.ld_unit_zero (S := S1x2048) Adam.zero2]

theorem weight_first (hc : cond0_0 i) (hc' : ¬cond0_1 i) :
    out0_A_6 c i a1 h1 a2 h2 a3 h3 a4 h4 a5 h5 a6 h6 a7 h7 hc hc' x0 x1 x2 x3 x4 = k0_pay5 x2 x0 x1 := by
  unfold out0_A_6
  rw [View.read_writes_eq_canon _ _ _ (cover0_A_6 c i a1 h1 a2 h2 a3 h3 a4 h4 a5 h5 a6 h6 a7 h7 hc hc' x0 x1 x2 x3 x4)]
  unfold kernelRun0_A
  dsimp only
  sl_unfold_words
  rw [View.canon_unit_zero Adam.zero2]
  simp only [View.readAt_eq_ld, h1.read_unread, h2.read_unread, h3.read_unread, h4.read_unread, h5.read_unread,
    View.ld_unit_zero (S := S128x2048) Adam.zero2, View.ld_unit_zero (S := S1x2048) Adam.zero2]

theorem weight_next (hc : ¬cond0_0 i) (hc' : cond0_1 i) :
    out0_B_6 c i a1 h1 a2 h2 a3 h3 a4 h4 a5 h5 a6 h6 a7 h7 hc hc' x0 x1 x2 x3 x4 xo = addf xo (k0_pay5 x2 x0 x1) := by
  unfold out0_B_6
  rw [View.read_writes_eq_canon _ _ _ (cover0_B_6 c i a1 h1 a2 h2 a3 h3 a4 h4 a5 h5 a6 h6 a7 h7 hc hc' x0 x1 x2 x3 x4 xo)]
  unfold kernelRun0_B
  dsimp only
  sl_unfold_words
  rw [View.canon_unit_zero Adam.zero2]
  unfold k0_pay1
  simp only [View.readAt_eq_ld, h1.read_unread, h2.read_unread, h3.read_unread, h4.read_unread, h5.read_unread, h7.read_unread,
    View.ld_unit_zero (S := S128x2048) Adam.zero2, View.ld_unit_zero (S := S1x2048) Adam.zero2, shapeCast_self]

end Block

/-! ## A point's values at an index -/

/-- The gradient of the input at one place, from the row's gradients, entries and weights. -/
def gradAt {n : Nat} (x a b w d : Fin n → EReal) (k : Fin n) : EReal := d k + Norm.back x (fun k => (a k + b k) * w k) k

theorem pay_rows (x a b d : Vec Ideal S128x2048 .f32) (w : Vec Ideal S1x2048 .f32) (r : Fin 128) (k : Fin 2048) :
    k0_pay4 x a b w d (ix2 r k)
      = gradAt (fun k => x (ix2 r k)) (fun k => a (ix2 r k)) (fun k => b (ix2 r k)) (fun k => w (ix2 0 k)) (fun k => d (ix2 r k)) k := by
  unfold k0_pay4 k0_pay3 k0_pay2 gradAt Norm.back Norm.factor Norm.square Norm.mean
  pointwise

theorem pay_weight (x a b : Vec Ideal S128x2048 .f32) (k : Fin 2048) :
    k0_pay5 x a b (ix2 0 k)
      = ∑ r : Fin 128, (a (ix2 r k) + b (ix2 r k)) * (x (ix2 r k) * Norm.factor (fun k => x (ix2 r k))) := by
  unfold k0_pay5 k0_pay3 k0_pay2 Norm.factor Norm.square Norm.mean
  pointwise

/-! ## A point's blocks -/

variable (m : (ℓ : Loc nD τ sig) → Buf (Elt Ideal) ℓ) (c : Dev nD)

/-- The row of the arrays that is row `r` of point `t`'s block. -/
def row (t : Fin cfg0.N) (r : Fin 128) : Fin 8192 := ⟨t.val * 128 + r.val, by
  have h : t.val < 64 := lt_of_lt_of_eq t.isLt N_0
  have := r.isLt
  omega⟩

theorem index_rows : ∀ t : Fin cfg0.N, win0_5.index t (0 : Fin 2) = t.val ∧ win0_5.index t (1 : Fin 2) = 0 :=
  (by decide +kernel : ∀ t : Fin grid0.N, _)

theorem index_weight : ∀ t : Fin cfg0.N, win0_3.index t (0 : Fin 2) = 0 ∧ win0_3.index t (1 : Fin 2) = 0 :=
  (by decide +kernel : ∀ t : Fin grid0.N, _)

theorem emb_rows (t : Fin cfg0.N) (r : Fin 128) (k : Fin 2048) : ((cfg0.win 5).blk t).view.emb (ix2 r k) = ix2 (row t r) k := by
  obtain ⟨h0, h1⟩ := index_rows t
  funext a; apply Fin.ext
  match a with
  | ⟨0, _⟩ => show win0_5.index t (0 : Fin 2) * 128 + 1 * r.val = t.val * 128 + r.val; omega
  | ⟨1, _⟩ => show win0_5.index t (1 : Fin 2) * 2048 + 1 * k.val = k.val; omega

theorem block_a (t : Fin cfg0.N) (r : Fin 128) (k : Fin 2048) : iblk m c 0 t (ix2 r k) = V m c main_arg0 (ix2 (row t r) k) :=
  congrArg (V m c main_arg0) (emb_rows t r k)
theorem block_b (t : Fin cfg0.N) (r : Fin 128) (k : Fin 2048) : iblk m c 1 t (ix2 r k) = V m c main_arg1 (ix2 (row t r) k) :=
  congrArg (V m c main_arg1) (emb_rows t r k)
theorem block_x (t : Fin cfg0.N) (r : Fin 128) (k : Fin 2048) : iblk m c 2 t (ix2 r k) = V m c main_arg2 (ix2 (row t r) k) :=
  congrArg (V m c main_arg2) (emb_rows t r k)
theorem block_d (t : Fin cfg0.N) (r : Fin 128) (k : Fin 2048) : iblk m c 4 t (ix2 r k) = V m c main_arg4 (ix2 (row t r) k) :=
  congrArg (V m c main_arg4) (emb_rows t r k)

theorem block_w (t : Fin cfg0.N) (k : Fin 2048) : iblk m c 3 t (ix2 0 k) = V m c main_arg3 (ix2 0 k) := by
  obtain ⟨h0, h1⟩ := index_weight t
  refine congrArg (V m c main_arg3) (?_ : ((cfg0.win 3).blk t).view.emb (ix2 0 k) = _)
  funext a; apply Fin.ext
  match a with
  | ⟨0, _⟩ => show win0_3.index t (0 : Fin 2) * 1 + 1 * 0 = 0; omega
  | ⟨1, _⟩ => show win0_3.index t (1 : Fin 2) * 2048 + 1 * k.val = k.val; omega

/-! ## The arrays after the run -/

/-- The gradient of the input. -/
def rows (a b x : Vec Ideal S8192x2048 .f32) (w : Vec Ideal S1x2048 .f32) (d : Vec Ideal S8192x2048 .f32) : Vec Ideal S8192x2048 .f32 := fun j =>
  gradAt (fun k => x (ix2 (j 0) k)) (fun k => a (ix2 (j 0) k)) (fun k => b (ix2 (j 0) k)) (fun k => w (ix2 0 k)) (fun k => d (ix2 (j 0) k)) (j 1)

/-- One row's part of the gradient of the weights. -/
def part (a b x : Vec Ideal S8192x2048 .f32) (k : Fin 2048) (i : Fin 8192) : EReal :=
  (a (ix2 i k) + b (ix2 i k)) * (x (ix2 i k) * Norm.factor (fun k => x (ix2 i k)))

/-- The gradient of the weights. -/
def weight (a b x : Vec Ideal S8192x2048 .f32) : Vec Ideal S1x2048 .f32 := fun j => ∑ i, part a b x (j 1) i

theorem kept_rows (t : Fin cfg0.N) : (outsAt0 m c t.val t.isLt).1 = k0_pay4 (iblk m c 2 t) (iblk m c 0 t) (iblk m c 1 t) (iblk m c 3 t) (iblk m c 4 t) := by
  have hN : t.val < 64 := lt_of_lt_of_eq t.isLt N_0
  by_cases h : t.val = 0
  · rw [outsAt0_A m c t (by omega) (by omega)]
    dsimp only
    rw [rows_first]
  · rw [outsAt0_B m c t (by omega) (by omega)]
    dsimp only
    rw [rows_next]

theorem point_rows (t : Fin cfg0.N) (r : Fin 128) (k : Fin 2048) :
    k0_pay4 (iblk m c 2 t) (iblk m c 0 t) (iblk m c 1 t) (iblk m c 3 t) (iblk m c 4 t) (ix2 r k)
      = rows (V m c main_arg0) (V m c main_arg1) (V m c main_arg2) (V m c main_arg3) (V m c main_arg4) (ix2 (row t r) k) := by
  rw [pay_rows]
  simp only [block_a, block_b, block_x, block_d, block_w]
  rfl

theorem covered (i : S8192x2048.Idx) : ∃ (t : Fin cfg0.N) (y : S128x2048.Idx), ((cfg0.win 5).blk t).view.emb y = i :=
  Adam.covered (n := cfg0.N) (b := 128) rfl (by decide) (fun t (y : S128x2048.Idx) => ix2 (row t (y 0)) (y 1)) (fun _ _ => rfl) (fun _ _ => rfl) i
    |>.imp fun t h => h.imp fun y e => ((congrArg _ (eq_ix2 y)).trans (emb_rows t (y 0) (y 1))).trans e

theorem final_rows : (dats m 0 c).arrAt 5 cfg0.N
    = rows (V m c main_arg0) (V m c main_arg1) (V m c main_arg2) (V m c main_arg3) (V m c main_arg4) :=
  (dats m 0 c).arrAt_eq_of_cover 5 (rows (V m c main_arg0) (V m c main_arg1) (V m c main_arg2) (V m c main_arg3) (V m c main_arg4))
    (fun t _ => by
      rw [flushed5, kept_rows]
      refine funext fun (y : S128x2048.Idx) => ?_
      rw [eq_ix2 y]
      exact (point_rows m c t (y 0) (y 1)).trans
        (congrArg (rows (V m c main_arg0) (V m c main_arg1) (V m c main_arg2) (V m c main_arg3) (V m c main_arg4)) (emb_rows t (y 0) (y 1)).symm))
    (fun (i : S8192x2048.Idx) => let ⟨t, y, h⟩ := covered i; ⟨t, flush0_5 t, h ▸ ((cfg0.win 5).blk t).view.emb_mem_set y⟩)

/-- A block's part of the gradient of the weights, by the block's number. -/
def blockPart (k : Fin 2048) (n : Nat) : EReal :=
  if h : n < cfg0.N then ∑ r : Fin 128, part (V m c main_arg0) (V m c main_arg1) (V m c main_arg2) k (row ⟨n, h⟩ r) else 0

theorem pay_part (t : Fin cfg0.N) (k : Fin 2048) : k0_pay5 (iblk m c 2 t) (iblk m c 0 t) (iblk m c 1 t) (ix2 0 k) = blockPart m c k t.val := by
  rw [pay_weight, blockPart, dif_pos t.isLt]
  simp only [block_a, block_b, block_x]
  rfl

theorem kept_weight (k : Fin 2048) : ∀ (n : Nat) (h : n < cfg0.N), (outsAt0 m c n h).2 (ix2 0 k) = Norm.upto (blockPart m c k) n
  | 0, h => by
    have e : outsAt0 m c 0 h = _ := outsAt0_A m c ⟨0, h⟩ rfl (show ¬1 ≤ 0 by decide)
    rw [e]
    dsimp only
    rw [weight_first]
    exact pay_part m c ⟨0, h⟩ k
  | n + 1, h => by
    have hN : n + 1 < 64 := lt_of_lt_of_eq h N_0
    have e : outsAt0 m c (n + 1) h = _ := outsAt0_B m c ⟨n + 1, h⟩ (by dsimp only; omega) (by dsimp only; omega)
    rw [e]
    dsimp only
    rw [weight_next]
    exact congrArg₂ (fun x y : EReal => x + y) (kept_weight k n (Nat.lt_of_succ_lt h)) (pay_part m c ⟨n + 1, h⟩ k)

theorem kept_last (n : Nat) (h : n < cfg0.N) (hn : n = 63) : (outsAt0 m c n h).2 = weight (V m c main_arg0) (V m c main_arg1) (V m c main_arg2) := by
  refine funext fun (y : S1x2048.Idx) => ?_
  obtain ⟨k, rfl⟩ : ∃ k, y = ix2 0 k := ⟨y 1, (eq_ix2 y).trans (congrArg (fun i => ix2 i (y 1)) (Fin.fin_one_eq_zero (y 0)))⟩
  rw [kept_weight]
  subst hn
  exact Norm.upto_rows (b := 128) (J := 63) (by decide) _ _ fun t ht => dif_pos (lt_of_lt_of_eq ht N_0.symm)

theorem final_weight : (dats m 0 c).arrAt 6 cfg0.N = weight (V m c main_arg0) (V m c main_arg1) (V m c main_arg2) := by
  have hN : cfg0.N = 64 := N_0
  have hz : ∀ t : Fin cfg0.N, win0_6.index t (0 : Fin 2) = 0 ∧ win0_6.index t (1 : Fin 2) = 0 := (by decide +kernel : ∀ t : Fin grid0.N, _)
  have he (t : Fin cfg0.N) (y : S1x2048.Idx) : ((cfg0.win 6).blk t).view.emb y = y := by
    obtain ⟨h0, h1⟩ := hz t
    funext a; apply Fin.ext
    match a with
    | ⟨0, _⟩ => show win0_6.index t (0 : Fin 2) * 1 + 1 * (y 0).val = (y 0).val; omega
    | ⟨1, _⟩ => show win0_6.index t (1 : Fin 2) * 2048 + 1 * (y 1).val = (y 1).val; omega
  refine (dats m 0 c).arrAt_eq_of_cover 6 (weight (V m c main_arg0) (V m c main_arg1) (V m c main_arg2)) (fun t hf => ?_)
    (fun (i : S1x2048.Idx) => ⟨⟨63, lt_of_lt_of_eq (by decide) hN.symm⟩, (flush0_6 _).mpr rfl, ?_⟩)
  · have h63 := (flush0_6 t).mp hf
    have ht : t.val = 63 := by have : t.val < 64 := lt_of_lt_of_eq t.isLt hN; omega
    rw [flushed6, kept_last m c t.val t.isLt ht]
    have e (G : Vec Ideal S1x2048 .f32) : (cfg0.win 6).cut (grid0.coords t) G = ((cfg0.win 6).blk t).view.read (Elt Ideal) G :=
      funext fun (y : S1x2048.Idx) => congrArg G (he t y).symm
    exact e _
  · exact (he _ i) ▸ ((cfg0.win 6).blk _).view.emb_mem_set i

end Cert.NormBackIdeal.Run

namespace Cert.Proof.NormBack

open Idealize.ShloMosaic Idealize.ShloMosaic.TcCoe Idealize.SL.Sem

theorem frame_refIdeal : Cert.quiescent_NormBackRefIdeal := fun m g _ =>
  (θ_run Cert.NormBackRefIdeal.defs _ _).mono
    (fun r h => ⟨fun c => (h c).2.2, sem_eq_zero_of_no_sems (by decide) r.2⟩) (Cert.NormBackRefIdeal.Value.run m g)

section Reference

open Cert.NormBackRefIdeal.Gen
open Norm (Full Rows Column Unit)

variable (a b x d : FVec Ideal Full .f32) (w : FVec Ideal ⟨2, ![1, 2048]⟩ .f32)
  (hu : 0 < Unit.numel) (hr : Full.ReducesTo [1] Rows) (hs : Column.ReducesTo [1] Rows)
  (bc : Rows.BroadcastsInDim Column ![0]) (bu : Unit.BroadcastsInDim Column ![]) (bf : Column.BroadcastsInDim Full ![0, 1])
  (bq : Rows.BroadcastsInDim Full ![0]) (hc : Rows.ShapeCasts Column) (bw : (⟨2, ![1, 2048]⟩ : Shape).BroadcastsInDim Full ![0, 1])
  (ht : Full.ReducesTo [0] ⟨1, ![2048]⟩) (hw : (⟨1, ![2048]⟩ : Shape).ShapeCasts ⟨2, ![1, 2048]⟩)

/-- The gradient of the normed rows. -/
abbrev inner : FVec Ideal Full .f32 := mulf (addf a b) (broadcastInDim Full ![0, 1] bw w)

theorem ref_rows :
    addf d (addf (addf (mulf (inner a b w bw) (broadcastInDim Full ![0, 1] bf (Norm.factors x hu hr bc bu)))
      (mulf x (Norm.shares x (inner a b w bw) hu hr hs bc bu bq hc))) (mulf (Norm.shares x (inner a b w bw) hu hr hs bc bu bq hc) x))
      = Cert.NormBackIdeal.Run.rows a b x w d := by
  refine funext fun (j : Full.Idx) => ?_
  rw [eq_ix2 j]
  refine (congrArg (d (ix2 (j 0) (j 1)) + ·) (Norm.ref_back x (inner a b w bw) hu hr hs bc bu bf bq hc (j 0) (j 1))).trans ?_
  refine congrArg (d (ix2 (j 0) (j 1)) + ·) (congrArg (fun g => Norm.back _ g (j 1)) (funext fun k => ?_))
  unfold inner
  pointwise

theorem ref_weight :
    shapeCast ⟨2, ![1, 2048]⟩ (Host.reduceAdd (mulf (mulf x (broadcastInDim Full ![0, 1] bf (Norm.factors x hu hr bc bu))) (addf a b))
      (constant Unit .f32 0x00000000#32) ht hu) hw = Cert.NormBackIdeal.Run.weight a b x := by
  refine funext fun (j : (⟨2, ![1, 2048]⟩ : Shape).Idx) => ?_
  have e (i : Fin 8192) := Norm.ref_factor x hu hr bc bu i
  generalize Norm.factors x hu hr bc bu = f at e ⊢
  unfold Cert.NormBackIdeal.Run.weight Cert.NormBackIdeal.Run.part
  simp only [← e]
  pointwise
  exact Finset.sum_congr rfl fun i _ => mul_comm _ _

end Reference

theorem algebraic : Cert.algebraic_NormBackIdeal_NormBackRefIdeal := fun m g m' g' _ hA => by
  refine ⟨_, _, (θ_run Cert.NormBackIdeal.defs _ _).mono (fun _ h c => ⟨(h c).1.trans (Cert.NormBackIdeal.Run.final_rows m c), (h c).2.1.trans (Cert.NormBackIdeal.Run.final_weight m c), (h c).2.2⟩)
      (Cert.NormBackIdeal.Value.run_blocks m g),
    (θ_run Cert.NormBackRefIdeal.defs _ _).mono (fun r h c => ?_) (Cert.NormBackRefIdeal.Value.run m' g')⟩
  obtain ⟨h0, h1, hk⟩ := h c
  obtain ⟨a0, a1, a2, a3, a4⟩ := hA c
  rw [a0, a1, a2, a3, a4] at h0
  rw [a0, a1, a2] at h1
  exact ⟨h0.trans (ref_rows ..), h1.trans (ref_weight ..), hk⟩

end Cert.Proof.NormBack

end
-- ==== Proof.AdamInClaims.lean ====
/-
  The claims of AdamW's step of the input projection's weights. The kernel walks the rows in blocks of 64: a point's blocks
  are rows of the arrays (`emb_parts`, `emb_rows`), so that what it writes back is its rows of one function of the arrays
  (`flushed_grad` and on), and its blocks fill the arrays (`covered`).
-/
module

public import proofs.«01_k».proof.Proof.Adam
public import proofs.«01_k».proof.Proof.Gen.AdamIn.Frame
public import proofs.«01_k».proof.Proof.Gen.AdamInIdeal.Value
public import proofs.«01_k».proof.Proof.Gen.AdamInRefIdeal.Run

@[expose] public section

noncomputable section

namespace Cert.AdamInIdeal.Run

open Idealize.ShloMosaic Idealize.ShloMosaic.TcCoe Idealize.SL.Sem
open Cert.AdamInIdeal Cert.AdamInIdeal.Gen Cert.AdamInIdeal.Value
open Adam (grad deltas moments squares)

variable {F : FTy → Type} [FloatOps F]

/-! ## A block -/

variable (x0 : Vec F S8x64x2824 .bf16) (x1 x2 x3 : Vec F S64x2824 .f32)

theorem pay_grad : k0_pay5 x0 x1 x2 x3 = grad x0 := by
  funext y
  have h (n k) (hk : k.val = n) inb := Adam.slab_apply x0 n k hk inb shapeCasts_S1x64x2824_S64x2824 y
  show FloatOps.addf (FloatOps.addf (FloatOps.addf (FloatOps.addf (FloatOps.addf (FloatOps.addf (FloatOps.addf
    (FloatOps.extf .f32 _ (shapeCast S64x2824 (View.ld x0 r0_0) _ y)) (FloatOps.extf .f32 _ (shapeCast S64x2824 (View.ld x0 r0_1) _ y)))
    (FloatOps.extf .f32 _ (shapeCast S64x2824 (View.ld x0 r0_2) _ y))) (FloatOps.extf .f32 _ (shapeCast S64x2824 (View.ld x0 r0_3) _ y)))
    (FloatOps.extf .f32 _ (shapeCast S64x2824 (View.ld x0 r0_4) _ y))) (FloatOps.extf .f32 _ (shapeCast S64x2824 (View.ld x0 r0_5) _ y)))
    (FloatOps.extf .f32 _ (shapeCast S64x2824 (View.ld x0 r0_6) _ y))) (FloatOps.extf .f32 _ (shapeCast S64x2824 (View.ld x0 r0_7) _ y)) = _
  erw [h 0 0 rfl, h 1 1 rfl, h 2 2 rfl, h 3 3 rfl, h 4 4 rfl, h 5 5 rfl, h 6 6 rfl, h 7 7 rfl]
  rfl

theorem out_grad : out0_4 x0 x1 x2 x3 = grad x0 := by
  rw [out0_4, View.canon_unit_zero Adam.zero2, pay_grad]

theorem out_delta : out0_5 x0 x1 x2 x3 = deltas (grad x0) x1 x2 x3 := by
  rw [out0_5, View.canon_unit_zero Adam.zero2, pay_grad, View.ld_unit_zero Adam.zero2, View.ld_unit_zero Adam.zero2,
    View.ld_unit_zero Adam.zero2]
  rfl

theorem out_moment : out0_6 x0 x1 x2 x3 = moments (grad x0) x2 := by
  rw [out0_6, View.canon_unit_zero Adam.zero2, pay_grad, View.ld_unit_zero Adam.zero2]
  rfl

theorem out_square : out0_7 x0 x1 x2 x3 = squares (grad x0) x3 := by
  rw [out0_7, View.canon_unit_zero Adam.zero2, pay_grad, View.ld_unit_zero Adam.zero2]
  rfl

/-! ## A point's blocks -/

variable (m : (ℓ : Loc nD τ sig) → Buf (Elt F) ℓ) (ρ : Dev nD → PrngReg)

/-- The place in the array of a place in the point's block. -/
def row (t : Fin cfg0.N) (y : S64x2824.Idx) : S2048x2824.Idx := ((cfg0.win 4).blk t).view.emb y

theorem index_parts : ∀ t : Fin cfg0.N, win0_0.index t (0 : Fin 3) = 0 ∧ win0_0.index t (1 : Fin 3) = t.val ∧ win0_0.index t (2 : Fin 3) = 0 :=
  (by decide +kernel : ∀ t : Fin grid0.N, _)

theorem index_rows : ∀ t : Fin cfg0.N, win0_4.index t (0 : Fin 2) = t.val ∧ win0_4.index t (1 : Fin 2) = 0 :=
  (by decide +kernel : ∀ t : Fin grid0.N, _)

theorem emb_rows (t : Fin cfg0.N) (y : S64x2824.Idx) : (row t y 0).val = t.val * 64 + (y 0).val ∧ (row t y 1).val = (y 1).val := by
  obtain ⟨h0, h1⟩ := index_rows t
  constructor
  · show win0_4.index t (0 : Fin 2) * 64 + 1 * (y 0).val = t.val * 64 + (y 0).val
    omega
  · show win0_4.index t (1 : Fin 2) * 2824 + 1 * (y 1).val = (y 1).val
    omega

theorem emb_parts (t : Fin cfg0.N) (k : Fin 8) (y : S64x2824.Idx) :
    ((cfg0.win 0).blk t).view.emb (ValueIdx.ix3 k (y 0) (y 1)) = ValueIdx.ix3 k (row t y 0) (row t y 1) := by
  obtain ⟨h0, h1, h2⟩ := index_parts t
  obtain ⟨e0, e1⟩ := emb_rows t y
  funext a; apply Fin.ext
  match a with
  | ⟨0, _⟩ => show win0_0.index t (0 : Fin 3) * 8 + 1 * k.val = k.val; omega
  | ⟨1, _⟩ => show win0_0.index t (1 : Fin 3) * 64 + 1 * (y 0).val = (row t y 0).val; omega
  | ⟨2, _⟩ => show win0_0.index t (2 : Fin 3) * 2824 + 1 * (y 1).val = (row t y 1).val; omega

theorem block_grad (c : Dev nD) (t : Fin cfg0.N) (y : S64x2824.Idx) : grad (iblk m c 0 t) y = grad (V m c main_arg0) (row t y) := by
  unfold grad
  refine congrArg Adam.total (funext fun k => congrArg (FloatOps.extf .f32 bitsLt_bf16_f32) ?_)
  show V m c main_arg0 (((cfg0.win 0).blk t).view.emb (ValueIdx.ix3 k (y 0) (y 1))) = _
  rw [emb_parts]; rfl

/-! ## The arrays after the run -/

theorem covered (i : S2048x2824.Idx) : ∃ t : Fin cfg0.N, ∃ y, row t y = i :=
  Adam.covered (n := cfg0.N) (b := 64) rfl (by decide) row (fun t y => (emb_rows t y).1) (fun t y => (emb_rows t y).2) i

theorem final_grad (c : Dev nD) : (dats m 0 c).arrAt 4 cfg0.N = grad (V m c main_arg0) :=
  (dats m 0 c).arrAt_eq_of_cover 4 _ (fun t _ => by
      rw [flushed4, out_grad]
      exact funext fun y => block_grad m c t y)
    (fun i => let ⟨t, y, h⟩ := covered i; ⟨t, flush0_4 t, h ▸ ((cfg0.win 4).blk t).view.emb_mem_set y⟩)

theorem final_delta (c : Dev nD) : (dats m 0 c).arrAt 5 cfg0.N = deltas (grad (V m c main_arg0)) (V m c main_arg1) (V m c main_arg2) (V m c main_arg3) :=
  (dats m 0 c).arrAt_eq_of_cover 5 _ (fun t _ => by
      rw [flushed5, out_delta]
      exact funext fun y => congrArg (fun g => Adam.delta g (V m c main_arg1 (row t y)) (V m c main_arg2 (row t y)) (V m c main_arg3 (row t y))) (block_grad m c t y))
    (fun i => let ⟨t, y, h⟩ := covered i; ⟨t, flush0_5 t, h ▸ ((cfg0.win 5).blk t).view.emb_mem_set y⟩)

theorem final_moment (c : Dev nD) : (dats m 0 c).arrAt 6 cfg0.N = moments (grad (V m c main_arg0)) (V m c main_arg2) :=
  (dats m 0 c).arrAt_eq_of_cover 6 _ (fun t _ => by
      rw [flushed6, out_moment]
      exact funext fun y => congrArg (fun g => Adam.moment g (V m c main_arg2 (row t y))) (block_grad m c t y))
    (fun i => let ⟨t, y, h⟩ := covered i; ⟨t, flush0_6 t, h ▸ ((cfg0.win 6).blk t).view.emb_mem_set y⟩)

theorem final_square (c : Dev nD) : (dats m 0 c).arrAt 7 cfg0.N = squares (grad (V m c main_arg0)) (V m c main_arg3) :=
  (dats m 0 c).arrAt_eq_of_cover 7 _ (fun t _ => by
      rw [flushed7, out_square]
      exact funext fun y => congrArg (fun g => Adam.square g (V m c main_arg3 (row t y))) (block_grad m c t y))
    (fun i => let ⟨t, y, h⟩ := covered i; ⟨t, flush0_7 t, h ▸ ((cfg0.win 7).blk t).view.emb_mem_set y⟩)

end Cert.AdamInIdeal.Run

namespace Cert.Proof.AdamIn

open Idealize.ShloMosaic Idealize.ShloMosaic.TcCoe Idealize.SL.Sem

theorem frame_refIdeal : Cert.quiescent_AdamInRefIdeal := fun m g _ =>
  (θ_run Cert.AdamInRefIdeal.defs _ _).mono
    (fun r h => ⟨fun c => (h c).2.2.2.2, sem_eq_zero_of_no_sems (by decide) r.2⟩) (Cert.AdamInRefIdeal.Value.run m g)

theorem algebraic : Cert.algebraic_AdamInIdeal_AdamInRefIdeal := fun m g m' g' _ hA => by
  refine ⟨_, _, _, _, (θ_run Cert.AdamInIdeal.defs _ _).mono
      (fun _ h c => ⟨(h c).1.trans (Cert.AdamInIdeal.Run.final_grad m c), (h c).2.1.trans (Cert.AdamInIdeal.Run.final_delta m c),
        (h c).2.2.1.trans (Cert.AdamInIdeal.Run.final_moment m c), (h c).2.2.2.1.trans (Cert.AdamInIdeal.Run.final_square m c),
        (h c).2.2.2.2⟩) (Cert.AdamInIdeal.Value.run_blocks m g),
    (θ_run Cert.AdamInRefIdeal.defs _ _).mono (fun r h c => ?_) (Cert.AdamInRefIdeal.Value.run m' g')⟩
  obtain ⟨h0, h1, h2, h3, hk⟩ := h c
  obtain ⟨a0, a1, a2, a3⟩ := hA c
  rw [a0] at h0 h1 h2 h3
  rw [a1, a2, a3] at h1
  rw [a2] at h2
  rw [a3] at h3
  have e := funext fun j => Adam.ref_total (extf .f32 (m ((c.tc : Thread _ _).loc Cert.AdamInIdeal.main_arg0)) Cert.AdamInRefIdeal.Gen.bitsLt_bf16_f32) j
    Cert.AdamInRefIdeal.Gen.reducesTo_S8x2048x2824_S2048x2824_d0 Cert.AdamInRefIdeal.Gen.h_S_
  rw [e] at h0 h1 h2 h3
  exact ⟨h0, h1, h2, h3, hk⟩

end Cert.Proof.AdamIn

end
-- ==== Proof.AdamAttnClaims.lean ====
/-
  The claims of AdamW's step of the weights of the attention branch's output projection. The kernel walks the rows in blocks of 64: a point's blocks
  are rows of the arrays (`emb_parts`, `emb_rows`), so that what it writes back is its rows of one function of the arrays
  (`flushed_grad` and on), and its blocks fill the arrays (`covered`).
-/
module

public import proofs.«01_k».proof.Proof.Adam
public import proofs.«01_k».proof.Proof.Gen.AdamAttn.Frame
public import proofs.«01_k».proof.Proof.Gen.AdamAttnIdeal.Value
public import proofs.«01_k».proof.Proof.Gen.AdamAttnRefIdeal.Run

@[expose] public section

noncomputable section

namespace Cert.AdamAttnIdeal.Run

open Idealize.ShloMosaic Idealize.ShloMosaic.TcCoe Idealize.SL.Sem
open Cert.AdamAttnIdeal Cert.AdamAttnIdeal.Gen Cert.AdamAttnIdeal.Value
open Adam (grad deltas moments squares)

variable {F : FTy → Type} [FloatOps F]

/-! ## A block -/

variable (x0 : Vec F S8x64x2048 .bf16) (x1 x2 x3 : Vec F S64x2048 .f32)

theorem pay_grad : k0_pay5 x0 x1 x2 x3 = grad x0 := by
  funext y
  have h (n k) (hk : k.val = n) inb := Adam.slab_apply x0 n k hk inb shapeCasts_S1x64x2048_S64x2048 y
  show FloatOps.addf (FloatOps.addf (FloatOps.addf (FloatOps.addf (FloatOps.addf (FloatOps.addf (FloatOps.addf
    (FloatOps.extf .f32 _ (shapeCast S64x2048 (View.ld x0 r0_0) _ y)) (FloatOps.extf .f32 _ (shapeCast S64x2048 (View.ld x0 r0_1) _ y)))
    (FloatOps.extf .f32 _ (shapeCast S64x2048 (View.ld x0 r0_2) _ y))) (FloatOps.extf .f32 _ (shapeCast S64x2048 (View.ld x0 r0_3) _ y)))
    (FloatOps.extf .f32 _ (shapeCast S64x2048 (View.ld x0 r0_4) _ y))) (FloatOps.extf .f32 _ (shapeCast S64x2048 (View.ld x0 r0_5) _ y)))
    (FloatOps.extf .f32 _ (shapeCast S64x2048 (View.ld x0 r0_6) _ y))) (FloatOps.extf .f32 _ (shapeCast S64x2048 (View.ld x0 r0_7) _ y)) = _
  erw [h 0 0 rfl, h 1 1 rfl, h 2 2 rfl, h 3 3 rfl, h 4 4 rfl, h 5 5 rfl, h 6 6 rfl, h 7 7 rfl]
  rfl

theorem out_grad : out0_4 x0 x1 x2 x3 = grad x0 := by
  rw [out0_4, View.canon_unit_zero Adam.zero2, pay_grad]

theorem out_delta : out0_5 x0 x1 x2 x3 = deltas (grad x0) x1 x2 x3 := by
  rw [out0_5, View.canon_unit_zero Adam.zero2, pay_grad, View.ld_unit_zero Adam.zero2, View.ld_unit_zero Adam.zero2,
    View.ld_unit_zero Adam.zero2]
  rfl

theorem out_moment : out0_6 x0 x1 x2 x3 = moments (grad x0) x2 := by
  rw [out0_6, View.canon_unit_zero Adam.zero2, pay_grad, View.ld_unit_zero Adam.zero2]
  rfl

theorem out_square : out0_7 x0 x1 x2 x3 = squares (grad x0) x3 := by
  rw [out0_7, View.canon_unit_zero Adam.zero2, pay_grad, View.ld_unit_zero Adam.zero2]
  rfl

/-! ## A point's blocks -/

variable (m : (ℓ : Loc nD τ sig) → Buf (Elt F) ℓ) (ρ : Dev nD → PrngReg)

/-- The place in the array of a place in the point's block. -/
def row (t : Fin cfg0.N) (y : S64x2048.Idx) : S256x2048.Idx := ((cfg0.win 4).blk t).view.emb y

theorem index_parts : ∀ t : Fin cfg0.N, win0_0.index t (0 : Fin 3) = 0 ∧ win0_0.index t (1 : Fin 3) = t.val ∧ win0_0.index t (2 : Fin 3) = 0 :=
  (by decide +kernel : ∀ t : Fin grid0.N, _)

theorem index_rows : ∀ t : Fin cfg0.N, win0_4.index t (0 : Fin 2) = t.val ∧ win0_4.index t (1 : Fin 2) = 0 :=
  (by decide +kernel : ∀ t : Fin grid0.N, _)

theorem emb_rows (t : Fin cfg0.N) (y : S64x2048.Idx) : (row t y 0).val = t.val * 64 + (y 0).val ∧ (row t y 1).val = (y 1).val := by
  obtain ⟨h0, h1⟩ := index_rows t
  constructor
  · show win0_4.index t (0 : Fin 2) * 64 + 1 * (y 0).val = t.val * 64 + (y 0).val
    omega
  · show win0_4.index t (1 : Fin 2) * 2048 + 1 * (y 1).val = (y 1).val
    omega

theorem emb_parts (t : Fin cfg0.N) (k : Fin 8) (y : S64x2048.Idx) :
    ((cfg0.win 0).blk t).view.emb (ValueIdx.ix3 k (y 0) (y 1)) = ValueIdx.ix3 k (row t y 0) (row t y 1) := by
  obtain ⟨h0, h1, h2⟩ := index_parts t
  obtain ⟨e0, e1⟩ := emb_rows t y
  funext a; apply Fin.ext
  match a with
  | ⟨0, _⟩ => show win0_0.index t (0 : Fin 3) * 8 + 1 * k.val = k.val; omega
  | ⟨1, _⟩ => show win0_0.index t (1 : Fin 3) * 64 + 1 * (y 0).val = (row t y 0).val; omega
  | ⟨2, _⟩ => show win0_0.index t (2 : Fin 3) * 2048 + 1 * (y 1).val = (row t y 1).val; omega

theorem block_grad (c : Dev nD) (t : Fin cfg0.N) (y : S64x2048.Idx) : grad (iblk m c 0 t) y = grad (V m c main_arg0) (row t y) := by
  unfold grad
  refine congrArg Adam.total (funext fun k => congrArg (FloatOps.extf .f32 bitsLt_bf16_f32) ?_)
  show V m c main_arg0 (((cfg0.win 0).blk t).view.emb (ValueIdx.ix3 k (y 0) (y 1))) = _
  rw [emb_parts]; rfl

/-! ## The arrays after the run -/

theorem covered (i : S256x2048.Idx) : ∃ t : Fin cfg0.N, ∃ y, row t y = i :=
  Adam.covered (n := cfg0.N) (b := 64) rfl (by decide) row (fun t y => (emb_rows t y).1) (fun t y => (emb_rows t y).2) i

theorem final_grad (c : Dev nD) : (dats m 0 c).arrAt 4 cfg0.N = grad (V m c main_arg0) :=
  (dats m 0 c).arrAt_eq_of_cover 4 _ (fun t _ => by
      rw [flushed4, out_grad]
      exact funext fun y => block_grad m c t y)
    (fun i => let ⟨t, y, h⟩ := covered i; ⟨t, flush0_4 t, h ▸ ((cfg0.win 4).blk t).view.emb_mem_set y⟩)

theorem final_delta (c : Dev nD) : (dats m 0 c).arrAt 5 cfg0.N = deltas (grad (V m c main_arg0)) (V m c main_arg1) (V m c main_arg2) (V m c main_arg3) :=
  (dats m 0 c).arrAt_eq_of_cover 5 _ (fun t _ => by
      rw [flushed5, out_delta]
      exact funext fun y => congrArg (fun g => Adam.delta g (V m c main_arg1 (row t y)) (V m c main_arg2 (row t y)) (V m c main_arg3 (row t y))) (block_grad m c t y))
    (fun i => let ⟨t, y, h⟩ := covered i; ⟨t, flush0_5 t, h ▸ ((cfg0.win 5).blk t).view.emb_mem_set y⟩)

theorem final_moment (c : Dev nD) : (dats m 0 c).arrAt 6 cfg0.N = moments (grad (V m c main_arg0)) (V m c main_arg2) :=
  (dats m 0 c).arrAt_eq_of_cover 6 _ (fun t _ => by
      rw [flushed6, out_moment]
      exact funext fun y => congrArg (fun g => Adam.moment g (V m c main_arg2 (row t y))) (block_grad m c t y))
    (fun i => let ⟨t, y, h⟩ := covered i; ⟨t, flush0_6 t, h ▸ ((cfg0.win 6).blk t).view.emb_mem_set y⟩)

theorem final_square (c : Dev nD) : (dats m 0 c).arrAt 7 cfg0.N = squares (grad (V m c main_arg0)) (V m c main_arg3) :=
  (dats m 0 c).arrAt_eq_of_cover 7 _ (fun t _ => by
      rw [flushed7, out_square]
      exact funext fun y => congrArg (fun g => Adam.square g (V m c main_arg3 (row t y))) (block_grad m c t y))
    (fun i => let ⟨t, y, h⟩ := covered i; ⟨t, flush0_7 t, h ▸ ((cfg0.win 7).blk t).view.emb_mem_set y⟩)

end Cert.AdamAttnIdeal.Run

namespace Cert.Proof.AdamAttn

open Idealize.ShloMosaic Idealize.ShloMosaic.TcCoe Idealize.SL.Sem

theorem frame_refIdeal : Cert.quiescent_AdamAttnRefIdeal := fun m g _ =>
  (θ_run Cert.AdamAttnRefIdeal.defs _ _).mono
    (fun r h => ⟨fun c => (h c).2.2.2.2, sem_eq_zero_of_no_sems (by decide) r.2⟩) (Cert.AdamAttnRefIdeal.Value.run m g)

theorem algebraic : Cert.algebraic_AdamAttnIdeal_AdamAttnRefIdeal := fun m g m' g' _ hA => by
  refine ⟨_, _, _, _, (θ_run Cert.AdamAttnIdeal.defs _ _).mono
      (fun _ h c => ⟨(h c).1.trans (Cert.AdamAttnIdeal.Run.final_grad m c), (h c).2.1.trans (Cert.AdamAttnIdeal.Run.final_delta m c),
        (h c).2.2.1.trans (Cert.AdamAttnIdeal.Run.final_moment m c), (h c).2.2.2.1.trans (Cert.AdamAttnIdeal.Run.final_square m c),
        (h c).2.2.2.2⟩) (Cert.AdamAttnIdeal.Value.run_blocks m g),
    (θ_run Cert.AdamAttnRefIdeal.defs _ _).mono (fun r h c => ?_) (Cert.AdamAttnRefIdeal.Value.run m' g')⟩
  obtain ⟨h0, h1, h2, h3, hk⟩ := h c
  obtain ⟨a0, a1, a2, a3⟩ := hA c
  rw [a0] at h0 h1 h2 h3
  rw [a1, a2, a3] at h1
  rw [a2] at h2
  rw [a3] at h3
  have e := funext fun j => Adam.ref_total (extf .f32 (m ((c.tc : Thread _ _).loc Cert.AdamAttnIdeal.main_arg0)) Cert.AdamAttnRefIdeal.Gen.bitsLt_bf16_f32) j
    Cert.AdamAttnRefIdeal.Gen.reducesTo_S8x256x2048_S256x2048_d0 Cert.AdamAttnRefIdeal.Gen.h_S_
  rw [e] at h0 h1 h2 h3
  exact ⟨h0, h1, h2, h3, hk⟩

end Cert.Proof.AdamAttn

end
-- ==== Proof.AdamOutClaims.lean ====
/-
  The claims of AdamW's step of the weights of the output projection. The kernel walks the rows in blocks of 64: a point's blocks
  are rows of the arrays (`emb_parts`, `emb_rows`), so that what it writes back is its rows of one function of the arrays
  (`flushed_grad` and on), and its blocks fill the arrays (`covered`).
-/
module

public import proofs.«01_k».proof.Proof.AdamAttnClaims
public import proofs.«01_k».proof.Proof.Gen.AdamOut.Frame
public import proofs.«01_k».proof.Proof.Gen.AdamOutIdeal.Value
public import proofs.«01_k».proof.Proof.Gen.AdamOutRefIdeal.Run

@[expose] public section

noncomputable section

namespace Cert.AdamOutIdeal.Run

open Idealize.ShloMosaic Idealize.ShloMosaic.TcCoe Idealize.SL.Sem
open Cert.AdamOutIdeal Cert.AdamOutIdeal.Gen Cert.AdamOutIdeal.Value
open Adam (grad deltas moments squares)

variable {F : FTy → Type} [FloatOps F]

/-! ## A block, which is as in the step of the attention branch's weights -/

variable (x0 : Vec F S8x64x2048 .bf16) (x1 x2 x3 : Vec F S64x2048 .f32)

theorem out_grad : out0_4 x0 x1 x2 x3 = grad x0 := Cert.AdamAttnIdeal.Run.out_grad x0 x1 x2 x3

theorem out_delta : out0_5 x0 x1 x2 x3 = deltas (grad x0) x1 x2 x3 := Cert.AdamAttnIdeal.Run.out_delta x0 x1 x2 x3

theorem out_moment : out0_6 x0 x1 x2 x3 = moments (grad x0) x2 := Cert.AdamAttnIdeal.Run.out_moment x0 x1 x2 x3

theorem out_square : out0_7 x0 x1 x2 x3 = squares (grad x0) x3 := Cert.AdamAttnIdeal.Run.out_square x0 x1 x2 x3

/-! ## A point's blocks -/

variable (m : (ℓ : Loc nD τ sig) → Buf (Elt F) ℓ) (ρ : Dev nD → PrngReg)

/-- The place in the array of a place in the point's block. -/
def row (t : Fin cfg0.N) (y : S64x2048.Idx) : S256x2048.Idx := ((cfg0.win 4).blk t).view.emb y

theorem emb_rows (t : Fin cfg0.N) (y : S64x2048.Idx) : (row t y 0).val = t.val * 64 + (y 0).val ∧ (row t y 1).val = (y 1).val :=
  Cert.AdamAttnIdeal.Run.emb_rows t y

theorem emb_parts (t : Fin cfg0.N) (k : Fin 8) (y : S64x2048.Idx) :
    ((cfg0.win 0).blk t).view.emb (ValueIdx.ix3 k (y 0) (y 1)) = ValueIdx.ix3 k (row t y 0) (row t y 1) :=
  Cert.AdamAttnIdeal.Run.emb_parts t k y

theorem block_grad (c : Dev nD) (t : Fin cfg0.N) (y : S64x2048.Idx) : grad (iblk m c 0 t) y = grad (V m c main_arg0) (row t y) := by
  unfold grad
  refine congrArg Adam.total (funext fun k => congrArg (FloatOps.extf .f32 bitsLt_bf16_f32) ?_)
  show V m c main_arg0 (((cfg0.win 0).blk t).view.emb (ValueIdx.ix3 k (y 0) (y 1))) = _
  rw [emb_parts]; rfl

/-! ## The arrays after the run -/

theorem covered (i : S256x2048.Idx) : ∃ t : Fin cfg0.N, ∃ y, row t y = i :=
  Adam.covered (n := cfg0.N) (b := 64) rfl (by decide) row (fun t y => (emb_rows t y).1) (fun t y => (emb_rows t y).2) i

theorem final_grad (c : Dev nD) : (dats m 0 c).arrAt 4 cfg0.N = grad (V m c main_arg0) :=
  (dats m 0 c).arrAt_eq_of_cover 4 _ (fun t _ => by
      rw [flushed4, out_grad]
      exact funext fun y => block_grad m c t y)
    (fun i => let ⟨t, y, h⟩ := covered i; ⟨t, flush0_4 t, h ▸ ((cfg0.win 4).blk t).view.emb_mem_set y⟩)

theorem final_delta (c : Dev nD) : (dats m 0 c).arrAt 5 cfg0.N = deltas (grad (V m c main_arg0)) (V m c main_arg1) (V m c main_arg2) (V m c main_arg3) :=
  (dats m 0 c).arrAt_eq_of_cover 5 _ (fun t _ => by
      rw [flushed5, out_delta]
      exact funext fun y => congrArg (fun g => Adam.delta g (V m c main_arg1 (row t y)) (V m c main_arg2 (row t y)) (V m c main_arg3 (row t y))) (block_grad m c t y))
    (fun i => let ⟨t, y, h⟩ := covered i; ⟨t, flush0_5 t, h ▸ ((cfg0.win 5).blk t).view.emb_mem_set y⟩)

theorem final_moment (c : Dev nD) : (dats m 0 c).arrAt 6 cfg0.N = moments (grad (V m c main_arg0)) (V m c main_arg2) :=
  (dats m 0 c).arrAt_eq_of_cover 6 _ (fun t _ => by
      rw [flushed6, out_moment]
      exact funext fun y => congrArg (fun g => Adam.moment g (V m c main_arg2 (row t y))) (block_grad m c t y))
    (fun i => let ⟨t, y, h⟩ := covered i; ⟨t, flush0_6 t, h ▸ ((cfg0.win 6).blk t).view.emb_mem_set y⟩)

theorem final_square (c : Dev nD) : (dats m 0 c).arrAt 7 cfg0.N = squares (grad (V m c main_arg0)) (V m c main_arg3) :=
  (dats m 0 c).arrAt_eq_of_cover 7 _ (fun t _ => by
      rw [flushed7, out_square]
      exact funext fun y => congrArg (fun g => Adam.square g (V m c main_arg3 (row t y))) (block_grad m c t y))
    (fun i => let ⟨t, y, h⟩ := covered i; ⟨t, flush0_7 t, h ▸ ((cfg0.win 7).blk t).view.emb_mem_set y⟩)

end Cert.AdamOutIdeal.Run

namespace Cert.Proof.AdamOut

open Idealize.ShloMosaic Idealize.ShloMosaic.TcCoe Idealize.SL.Sem

theorem frame_refIdeal : Cert.quiescent_AdamOutRefIdeal := fun m g _ =>
  (θ_run Cert.AdamOutRefIdeal.defs _ _).mono
    (fun r h => ⟨fun c => (h c).2.2.2.2, sem_eq_zero_of_no_sems (by decide) r.2⟩) (Cert.AdamOutRefIdeal.Value.run m g)

theorem algebraic : Cert.algebraic_AdamOutIdeal_AdamOutRefIdeal := fun m g m' g' _ hA => by
  refine ⟨_, _, _, _, (θ_run Cert.AdamOutIdeal.defs _ _).mono
      (fun _ h c => ⟨(h c).1.trans (Cert.AdamOutIdeal.Run.final_grad m c), (h c).2.1.trans (Cert.AdamOutIdeal.Run.final_delta m c),
        (h c).2.2.1.trans (Cert.AdamOutIdeal.Run.final_moment m c), (h c).2.2.2.1.trans (Cert.AdamOutIdeal.Run.final_square m c),
        (h c).2.2.2.2⟩) (Cert.AdamOutIdeal.Value.run_blocks m g),
    (θ_run Cert.AdamOutRefIdeal.defs _ _).mono (fun r h c => ?_) (Cert.AdamOutRefIdeal.Value.run m' g')⟩
  obtain ⟨h0, h1, h2, h3, hk⟩ := h c
  obtain ⟨a0, a1, a2, a3⟩ := hA c
  rw [a0] at h0 h1 h2 h3
  rw [a1, a2, a3] at h1
  rw [a2] at h2
  rw [a3] at h3
  have e := funext fun j => Adam.ref_total (extf .f32 (m ((c.tc : Thread _ _).loc Cert.AdamOutIdeal.main_arg0)) Cert.AdamOutRefIdeal.Gen.bitsLt_bf16_f32) j
    Cert.AdamOutRefIdeal.Gen.reducesTo_S8x256x2048_S256x2048_d0 Cert.AdamOutRefIdeal.Gen.h_S_
  rw [e] at h0 h1 h2 h3
  exact ⟨h0, h1, h2, h3, hk⟩

end Cert.Proof.AdamOut

end
-- ==== Proof.AdamSsmClaims.lean ====
/-
  The claims of AdamW's step of the weights of the state space branch's output projection. The kernel walks the rows in blocks of 64: a point's blocks
  are rows of the arrays (`emb_parts`, `emb_rows`), so that what it writes back is its rows of one function of the arrays
  (`flushed_grad` and on), and its blocks fill the arrays (`covered`).
-/
module

public import proofs.«01_k».proof.Proof.AdamAttnClaims
public import proofs.«01_k».proof.Proof.Gen.AdamSsm.Frame
public import proofs.«01_k».proof.Proof.Gen.AdamSsmIdeal.Value
public import proofs.«01_k».proof.Proof.Gen.AdamSsmRefIdeal.Run

@[expose] public section

noncomputable section

namespace Cert.AdamSsmIdeal.Run

open Idealize.ShloMosaic Idealize.ShloMosaic.TcCoe Idealize.SL.Sem
open Cert.AdamSsmIdeal Cert.AdamSsmIdeal.Gen Cert.AdamSsmIdeal.Value
open Adam (grad deltas moments squares)

variable {F : FTy → Type} [FloatOps F]

/-! ## A block, which is as in the step of the attention branch's weights -/

variable (x0 : Vec F S8x64x2048 .bf16) (x1 x2 x3 : Vec F S64x2048 .f32)

theorem out_grad : out0_4 x0 x1 x2 x3 = grad x0 := Cert.AdamAttnIdeal.Run.out_grad x0 x1 x2 x3

theorem out_delta : out0_5 x0 x1 x2 x3 = deltas (grad x0) x1 x2 x3 := Cert.AdamAttnIdeal.Run.out_delta x0 x1 x2 x3

theorem out_moment : out0_6 x0 x1 x2 x3 = moments (grad x0) x2 := Cert.AdamAttnIdeal.Run.out_moment x0 x1 x2 x3

theorem out_square : out0_7 x0 x1 x2 x3 = squares (grad x0) x3 := Cert.AdamAttnIdeal.Run.out_square x0 x1 x2 x3

/-! ## A point's blocks -/

variable (m : (ℓ : Loc nD τ sig) → Buf (Elt F) ℓ) (ρ : Dev nD → PrngReg)

/-- The place in the array of a place in the point's block. -/
def row (t : Fin cfg0.N) (y : S64x2048.Idx) : S512x2048.Idx := ((cfg0.win 4).blk t).view.emb y

theorem index_parts : ∀ t : Fin cfg0.N, win0_0.index t (0 : Fin 3) = 0 ∧ win0_0.index t (1 : Fin 3) = t.val ∧ win0_0.index t (2 : Fin 3) = 0 :=
  (by decide +kernel : ∀ t : Fin grid0.N, _)

theorem index_rows : ∀ t : Fin cfg0.N, win0_4.index t (0 : Fin 2) = t.val ∧ win0_4.index t (1 : Fin 2) = 0 :=
  (by decide +kernel : ∀ t : Fin grid0.N, _)

theorem emb_rows (t : Fin cfg0.N) (y : S64x2048.Idx) : (row t y 0).val = t.val * 64 + (y 0).val ∧ (row t y 1).val = (y 1).val := by
  obtain ⟨h0, h1⟩ := index_rows t
  constructor
  · show win0_4.index t (0 : Fin 2) * 64 + 1 * (y 0).val = t.val * 64 + (y 0).val
    omega
  · show win0_4.index t (1 : Fin 2) * 2048 + 1 * (y 1).val = (y 1).val
    omega

theorem emb_parts (t : Fin cfg0.N) (k : Fin 8) (y : S64x2048.Idx) :
    ((cfg0.win 0).blk t).view.emb (ValueIdx.ix3 k (y 0) (y 1)) = ValueIdx.ix3 k (row t y 0) (row t y 1) := by
  obtain ⟨h0, h1, h2⟩ := index_parts t
  obtain ⟨e0, e1⟩ := emb_rows t y
  funext a; apply Fin.ext
  match a with
  | ⟨0, _⟩ => show win0_0.index t (0 : Fin 3) * 8 + 1 * k.val = k.val; omega
  | ⟨1, _⟩ => show win0_0.index t (1 : Fin 3) * 64 + 1 * (y 0).val = (row t y 0).val; omega
  | ⟨2, _⟩ => show win0_0.index t (2 : Fin 3) * 2048 + 1 * (y 1).val = (row t y 1).val; omega

theorem block_grad (c : Dev nD) (t : Fin cfg0.N) (y : S64x2048.Idx) : grad (iblk m c 0 t) y = grad (V m c main_arg0) (row t y) := by
  unfold grad
  refine congrArg Adam.total (funext fun k => congrArg (FloatOps.extf .f32 bitsLt_bf16_f32) ?_)
  show V m c main_arg0 (((cfg0.win 0).blk t).view.emb (ValueIdx.ix3 k (y 0) (y 1))) = _
  rw [emb_parts]; rfl

/-! ## The arrays after the run -/

theorem covered (i : S512x2048.Idx) : ∃ t : Fin cfg0.N, ∃ y, row t y = i :=
  Adam.covered (n := cfg0.N) (b := 64) rfl (by decide) row (fun t y => (emb_rows t y).1) (fun t y => (emb_rows t y).2) i

theorem final_grad (c : Dev nD) : (dats m 0 c).arrAt 4 cfg0.N = grad (V m c main_arg0) :=
  (dats m 0 c).arrAt_eq_of_cover 4 _ (fun t _ => by
      rw [flushed4, out_grad]
      exact funext fun y => block_grad m c t y)
    (fun i => let ⟨t, y, h⟩ := covered i; ⟨t, flush0_4 t, h ▸ ((cfg0.win 4).blk t).view.emb_mem_set y⟩)

theorem final_delta (c : Dev nD) : (dats m 0 c).arrAt 5 cfg0.N = deltas (grad (V m c main_arg0)) (V m c main_arg1) (V m c main_arg2) (V m c main_arg3) :=
  (dats m 0 c).arrAt_eq_of_cover 5 _ (fun t _ => by
      rw [flushed5, out_delta]
      exact funext fun y => congrArg (fun g => Adam.delta g (V m c main_arg1 (row t y)) (V m c main_arg2 (row t y)) (V m c main_arg3 (row t y))) (block_grad m c t y))
    (fun i => let ⟨t, y, h⟩ := covered i; ⟨t, flush0_5 t, h ▸ ((cfg0.win 5).blk t).view.emb_mem_set y⟩)

theorem final_moment (c : Dev nD) : (dats m 0 c).arrAt 6 cfg0.N = moments (grad (V m c main_arg0)) (V m c main_arg2) :=
  (dats m 0 c).arrAt_eq_of_cover 6 _ (fun t _ => by
      rw [flushed6, out_moment]
      exact funext fun y => congrArg (fun g => Adam.moment g (V m c main_arg2 (row t y))) (block_grad m c t y))
    (fun i => let ⟨t, y, h⟩ := covered i; ⟨t, flush0_6 t, h ▸ ((cfg0.win 6).blk t).view.emb_mem_set y⟩)

theorem final_square (c : Dev nD) : (dats m 0 c).arrAt 7 cfg0.N = squares (grad (V m c main_arg0)) (V m c main_arg3) :=
  (dats m 0 c).arrAt_eq_of_cover 7 _ (fun t _ => by
      rw [flushed7, out_square]
      exact funext fun y => congrArg (fun g => Adam.square g (V m c main_arg3 (row t y))) (block_grad m c t y))
    (fun i => let ⟨t, y, h⟩ := covered i; ⟨t, flush0_7 t, h ▸ ((cfg0.win 7).blk t).view.emb_mem_set y⟩)

end Cert.AdamSsmIdeal.Run

namespace Cert.Proof.AdamSsm

open Idealize.ShloMosaic Idealize.ShloMosaic.TcCoe Idealize.SL.Sem

theorem frame_refIdeal : Cert.quiescent_AdamSsmRefIdeal := fun m g _ =>
  (θ_run Cert.AdamSsmRefIdeal.defs _ _).mono
    (fun r h => ⟨fun c => (h c).2.2.2.2, sem_eq_zero_of_no_sems (by decide) r.2⟩) (Cert.AdamSsmRefIdeal.Value.run m g)

theorem algebraic : Cert.algebraic_AdamSsmIdeal_AdamSsmRefIdeal := fun m g m' g' _ hA => by
  refine ⟨_, _, _, _, (θ_run Cert.AdamSsmIdeal.defs _ _).mono
      (fun _ h c => ⟨(h c).1.trans (Cert.AdamSsmIdeal.Run.final_grad m c), (h c).2.1.trans (Cert.AdamSsmIdeal.Run.final_delta m c),
        (h c).2.2.1.trans (Cert.AdamSsmIdeal.Run.final_moment m c), (h c).2.2.2.1.trans (Cert.AdamSsmIdeal.Run.final_square m c),
        (h c).2.2.2.2⟩) (Cert.AdamSsmIdeal.Value.run_blocks m g),
    (θ_run Cert.AdamSsmRefIdeal.defs _ _).mono (fun r h c => ?_) (Cert.AdamSsmRefIdeal.Value.run m' g')⟩
  obtain ⟨h0, h1, h2, h3, hk⟩ := h c
  obtain ⟨a0, a1, a2, a3⟩ := hA c
  rw [a0] at h0 h1 h2 h3
  rw [a1, a2, a3] at h1
  rw [a2] at h2
  rw [a3] at h3
  have e := funext fun j => Adam.ref_total (extf .f32 (m ((c.tc : Thread _ _).loc Cert.AdamSsmIdeal.main_arg0)) Cert.AdamSsmRefIdeal.Gen.bitsLt_bf16_f32) j
    Cert.AdamSsmRefIdeal.Gen.reducesTo_S8x512x2048_S512x2048_d0 Cert.AdamSsmRefIdeal.Gen.h_S_
  rw [e] at h0 h1 h2 h3
  exact ⟨h0, h1, h2, h3, hk⟩

end Cert.Proof.AdamSsm

end
-- ==== Proof.AdamSmallClaims.lean ====
/-
  The claims of AdamW's step of the packed small parameters. The kernel has one point and reads its arrays whole; its first
  result is the parts added (`pay_grad`).
-/
module

public import proofs.«01_k».proof.Proof.Adam
public import proofs.«01_k».proof.Proof.Gen.AdamSmall.Frame
public import proofs.«01_k».proof.Proof.Gen.AdamSmallIdeal.Value
public import proofs.«01_k».proof.Proof.Gen.AdamSmallRefIdeal.Run

@[expose] public section

noncomputable section

namespace Cert.AdamSmallIdeal.Run

open Idealize.ShloMosaic Idealize.ShloMosaic.TcCoe Idealize.SL.Sem
open Cert.AdamSmallIdeal Cert.AdamSmallIdeal.Gen Cert.AdamSmallIdeal.Value

variable {F : FTy → Type} [FloatOps F]

theorem pay_grad (x0 : Vec F S8x336x128 .f32) (x1 x2 x3 : Vec F S336x128 .f32) :
    k0_pay5 x0 x1 x2 x3 = fun y => Adam.total fun k => x0 (ValueIdx.ix3 k (y 0) (y 1)) := by
  funext y
  have h (n k) (hk : k.val = n) inb := Adam.slab_apply x0 n k hk inb shapeCasts_S1x336x128_S336x128 y
  show FloatOps.addf (FloatOps.addf (FloatOps.addf (FloatOps.addf (FloatOps.addf (FloatOps.addf (FloatOps.addf
    (shapeCast S336x128 (View.ld x0 r0_0) _ y) (shapeCast S336x128 (View.ld x0 r0_1) _ y))
    (shapeCast S336x128 (View.ld x0 r0_2) _ y)) (shapeCast S336x128 (View.ld x0 r0_3) _ y))
    (shapeCast S336x128 (View.ld x0 r0_4) _ y)) (shapeCast S336x128 (View.ld x0 r0_5) _ y))
    (shapeCast S336x128 (View.ld x0 r0_6) _ y)) (shapeCast S336x128 (View.ld x0 r0_7) _ y) = _
  erw [h 0 0 rfl, h 1 1 rfl, h 2 2 rfl, h 3 3 rfl, h 4 4 rfl, h 5 5 rfl, h 6 6 rfl, h 7 7 rfl]
  rfl

theorem pay_moment (x0 : Vec F S8x336x128 .f32) (x1 x2 x3 : Vec F S336x128 .f32) :
    k0_pay6 x0 x1 x2 x3 = fun y => Adam.moment (k0_pay5 x0 x1 x2 x3 y) (x2 y) := by
  unfold k0_pay6
  rw [View.ld_unit_zero Adam.zero2]
  rfl

/-- The second result with the new first moment read from the gradient. -/
theorem value_delta (x0 : Vec F S8x336x128 .f32) (x1 x2 x3 : Vec F S336x128 .f32) :
    G5 x0 x1 x2 x3 = fun y => Adam.delta (k0_pay5 x0 x1 x2 x3 y) (x1 y) (x2 y) (x3 y) := by
  unfold G5
  rw [pay_moment]
  rfl

end Cert.AdamSmallIdeal.Run

namespace Cert.Proof.AdamSmall

open Idealize.ShloMosaic Idealize.ShloMosaic.TcCoe Idealize.SL.Sem

theorem frame_refIdeal : Cert.quiescent_AdamSmallRefIdeal := fun m g _ =>
  (θ_run Cert.AdamSmallRefIdeal.defs _ _).mono
    (fun r h => ⟨fun c => (h c).2.2.2.2, sem_eq_zero_of_no_sems (by decide) r.2⟩) (Cert.AdamSmallRefIdeal.Value.run m g)

theorem algebraic : Cert.algebraic_AdamSmallIdeal_AdamSmallRefIdeal := fun m g m' g' _ hA => by
  refine ⟨_, _, _, _, Cert.AdamSmallIdeal.Value.run m g,
    (θ_run Cert.AdamSmallRefIdeal.defs _ _).mono (fun r h c => ?_) (Cert.AdamSmallRefIdeal.Value.run m' g')⟩
  obtain ⟨h0, h1, h2, h3, hk⟩ := h c
  obtain ⟨a0, a1, a2, a3⟩ := hA c
  rw [a0] at h0 h1 h2 h3
  rw [a1, a2, a3] at h1
  rw [a2] at h2
  rw [a3] at h3
  have e := (funext fun j => Adam.ref_total (m ((c.tc : Thread _ _).loc Cert.AdamSmallIdeal.main_arg0)) j
    Cert.AdamSmallRefIdeal.Gen.reducesTo_S8x336x128_S336x128_d0 Cert.AdamSmallRefIdeal.Gen.h_S_).trans
    (Cert.AdamSmallIdeal.Run.pay_grad _ (m ((c.tc : Thread _ _).loc Cert.AdamSmallIdeal.main_arg1))
      (m ((c.tc : Thread _ _).loc Cert.AdamSmallIdeal.main_arg2)) (m ((c.tc : Thread _ _).loc Cert.AdamSmallIdeal.main_arg3))).symm
  rw [e] at h0 h1 h2 h3
  exact ⟨h0, h1.trans (Cert.AdamSmallIdeal.Run.value_delta _ _ _ _).symm, h2.trans (Cert.AdamSmallIdeal.Run.pay_moment _ _ _ _).symm, h3, hk⟩

end Cert.Proof.AdamSmall

end
-- ==== Proof.AdamConvClaims.lean ====
/-
  The claims of AdamW's step of the convolution's weights. The kernel has one point and reads its arrays whole, so that its
  results are the reference's, operation by operation.
-/
module

public import proofs.«01_k».proof.Defs
public import proofs.«01_k».proof.Proof.Gen.AdamConv.Frame
public import proofs.«01_k».proof.Proof.Gen.AdamConvIdeal.Value
public import proofs.«01_k».proof.Proof.Gen.AdamConvRefIdeal.Run
public import Idealize.ShloMosaic.Lib.Quiescent

@[expose] public section

noncomputable section

namespace Cert.Proof.AdamConv

open Idealize.ShloMosaic Idealize.ShloMosaic.TcCoe Idealize.SL.Sem

theorem frame_refIdeal : Cert.quiescent_AdamConvRefIdeal := fun m g _ =>
  (θ_run Cert.AdamConvRefIdeal.defs _ _).mono
    (fun r h => ⟨fun c => (h c).2.2.2.2, sem_eq_zero_of_no_sems (by decide) r.2⟩) (Cert.AdamConvRefIdeal.Value.run m g)

theorem algebraic : Cert.algebraic_AdamConvIdeal_AdamConvRefIdeal := fun m g m' g' _ hA => by
  refine ⟨_, _, _, _, Cert.AdamConvIdeal.Value.run m g,
    (θ_run Cert.AdamConvRefIdeal.defs _ _).mono (fun r h c => ?_) (Cert.AdamConvRefIdeal.Value.run m' g')⟩
  obtain ⟨h0, h1, h2, h3, hk⟩ := h c
  obtain ⟨a0, a1, a2, a3⟩ := hA c
  rw [a0, a1, a2, a3] at h1
  rw [a0, a2] at h2
  rw [a0, a3] at h3
  exact ⟨h0.trans a0, h1, h2, h3, hk⟩

end Cert.Proof.AdamConv

end
-- ==== Proof.lean ====
module

public import proofs.«01_k».proof.Defs
public import proofs.«01_k».proof.Proof.Gen.Scatter
public import proofs.«01_k».proof.Proof.Gen.Scatter.Skeleton
public import proofs.«01_k».proof.Proof.Gen.Scatter.Launch
public import proofs.«01_k».proof.Proof.Gen.Scatter.Points
public import proofs.«01_k».proof.Proof.Gen.Scatter.Frame
public import proofs.«01_k».proof.Proof.Gen.ScatterIdeal
public import proofs.«01_k».proof.Proof.Gen.ScatterIdeal.Skeleton
public import proofs.«01_k».proof.Proof.Gen.ScatterIdeal.Launch
public import proofs.«01_k».proof.Proof.Gen.ScatterIdeal.Points
public import proofs.«01_k».proof.Proof.Gen.ScatterIdeal.Frame
public import proofs.«01_k».proof.Proof.Gen.ScatterRefIdeal
public import proofs.«01_k».proof.Proof.Gen.ScatterRefIdeal.Run
public import proofs.«01_k».proof.Proof.Gen.Gather
public import proofs.«01_k».proof.Proof.Gen.Gather.Skeleton
public import proofs.«01_k».proof.Proof.Gen.Gather.Launch
public import proofs.«01_k».proof.Proof.Gen.Gather.Points
public import proofs.«01_k».proof.Proof.Gen.Gather.Frame
public import proofs.«01_k».proof.Proof.Gen.GatherIdeal
public import proofs.«01_k».proof.Proof.Gen.GatherIdeal.Skeleton
public import proofs.«01_k».proof.Proof.Gen.GatherIdeal.Launch
public import proofs.«01_k».proof.Proof.Gen.GatherIdeal.Points
public import proofs.«01_k».proof.Proof.Gen.GatherIdeal.Frame
public import proofs.«01_k».proof.Proof.Gen.GatherRefIdeal
public import proofs.«01_k».proof.Proof.Gen.GatherRefIdeal.Run
public import proofs.«01_k».proof.Proof.Gen.Small
public import proofs.«01_k».proof.Proof.Gen.Small.Skeleton
public import proofs.«01_k».proof.Proof.Gen.Small.Launch
public import proofs.«01_k».proof.Proof.Gen.Small.Points
public import proofs.«01_k».proof.Proof.Gen.Small.Frame
public import proofs.«01_k».proof.Proof.Gen.SmallIdeal
public import proofs.«01_k».proof.Proof.Gen.SmallIdeal.Skeleton
public import proofs.«01_k».proof.Proof.Gen.SmallIdeal.Launch
public import proofs.«01_k».proof.Proof.Gen.SmallIdeal.Points
public import proofs.«01_k».proof.Proof.Gen.SmallIdeal.Frame
public import proofs.«01_k».proof.Proof.Gen.SmallRefIdeal
public import proofs.«01_k».proof.Proof.Gen.SmallRefIdeal.Run
public import proofs.«01_k».proof.Proof.Gen.ScatterRef
public import proofs.«01_k».proof.Proof.Gen.ScatterRef.Run
public import proofs.«01_k».proof.Proof.Gen.GatherRef
public import proofs.«01_k».proof.Proof.Gen.GatherRef.Run
public import proofs.«01_k».proof.Proof.Gen.SmallRef
public import proofs.«01_k».proof.Proof.Gen.SmallRef.Run
public import proofs.«01_k».proof.Proof.ScatterClaims
public import proofs.«01_k».proof.Proof.GatherClaims
public import proofs.«01_k».proof.Proof.SmallClaims
public import proofs.«01_k».proof.Proof.CombineClaims
public import proofs.«01_k».proof.Proof.StepBackClaims
public import proofs.«01_k».proof.Proof.LossBackClaims
public import proofs.«01_k».proof.Proof.NormFwdClaims
public import proofs.«01_k».proof.Proof.GatedNormClaims
public import proofs.«01_k».proof.Proof.MergeClaims
public import proofs.«01_k».proof.Proof.MergeBackClaims
public import proofs.«01_k».proof.Proof.SumThreeClaims
public import proofs.«01_k».proof.Proof.OutProjClaims
public import proofs.«01_k».proof.Proof.OutGradClaims
public import proofs.«01_k».proof.Proof.MergedGradClaims
public import proofs.«01_k».proof.Proof.InProjClaims
public import proofs.«01_k».proof.Proof.StepProjClaims
public import proofs.«01_k».proof.Proof.SsmProjClaims
public import proofs.«01_k».proof.Proof.SsmGradClaims
public import proofs.«01_k».proof.Proof.ScanGradClaims
public import proofs.«01_k».proof.Proof.MainGradClaims
public import proofs.«01_k».proof.Proof.StepGradClaims
public import proofs.«01_k».proof.Proof.HiddenGradClaims
public import proofs.«01_k».proof.Proof.HiddenStepClaims
public import proofs.«01_k».proof.Proof.GatedNormBackClaims
public import proofs.«01_k».proof.Proof.ConvClaims
public import proofs.«01_k».proof.Proof.ConvGradClaims
public import proofs.«01_k».proof.Proof.ConvBackClaims
public import proofs.«01_k».proof.Proof.StepsClaims
public import proofs.«01_k».proof.Proof.GateBackClaims
public import proofs.«01_k».proof.Proof.NormBackClaims
public import proofs.«01_k».proof.Proof.AdamInClaims
public import proofs.«01_k».proof.Proof.AdamAttnClaims
public import proofs.«01_k».proof.Proof.AdamOutClaims
public import proofs.«01_k».proof.Proof.AdamSsmClaims
public import proofs.«01_k».proof.Proof.AdamSmallClaims
public import proofs.«01_k».proof.Proof.AdamConvClaims
public import proofs.«01_k».proof.Proof.Gen.AdamIn.Frame
public import proofs.«01_k».proof.Proof.Gen.AdamInIdeal.Value
public import proofs.«01_k».proof.Proof.Gen.AdamInRefIdeal.Run
public import proofs.«01_k».proof.Proof.Gen.AdamAttn.Frame
public import proofs.«01_k».proof.Proof.Gen.AdamAttnIdeal.Value
public import proofs.«01_k».proof.Proof.Gen.AdamAttnRefIdeal.Run
public import proofs.«01_k».proof.Proof.Gen.AdamOut.Frame
public import proofs.«01_k».proof.Proof.Gen.AdamOutIdeal.Value
public import proofs.«01_k».proof.Proof.Gen.AdamOutRefIdeal.Run
public import proofs.«01_k».proof.Proof.Gen.AdamSsm.Frame
public import proofs.«01_k».proof.Proof.Gen.AdamSsmIdeal.Value
public import proofs.«01_k».proof.Proof.Gen.AdamSsmRefIdeal.Run
public import proofs.«01_k».proof.Proof.Gen.AdamSmall.Frame
public import proofs.«01_k».proof.Proof.Gen.AdamSmallIdeal.Value
public import proofs.«01_k».proof.Proof.Gen.AdamSmallRefIdeal.Run
public import proofs.«01_k».proof.Proof.Gen.AdamConv.Frame
public import proofs.«01_k».proof.Proof.Gen.AdamConvIdeal.Value
public import proofs.«01_k».proof.Proof.Gen.AdamConvRefIdeal.Run
public import proofs.«01_k».proof.Proof.Gen.NormBack.Frame
public import proofs.«01_k».proof.Proof.Gen.NormBackIdeal.Value
public import proofs.«01_k».proof.Proof.Gen.NormBackRefIdeal.Run
public import proofs.«01_k».proof.Proof.Gen.LossBack.Frame
public import proofs.«01_k».proof.Proof.Gen.LossBackIdeal.Value
public import proofs.«01_k».proof.Proof.Gen.LossBackRefIdeal.Run
public import proofs.«01_k».proof.Proof.Gen.NormFwd.Frame
public import proofs.«01_k».proof.Proof.Gen.NormFwdIdeal.Value
public import proofs.«01_k».proof.Proof.Gen.NormFwdRefIdeal.Run
public import proofs.«01_k».proof.Proof.Gen.GatedNorm.Frame
public import proofs.«01_k».proof.Proof.Gen.GatedNormIdeal.Value
public import proofs.«01_k».proof.Proof.Gen.GatedNormRefIdeal.Run
public import proofs.«01_k».proof.Proof.Gen.Merge.Frame
public import proofs.«01_k».proof.Proof.Gen.MergeIdeal.Value
public import proofs.«01_k».proof.Proof.Gen.MergeRefIdeal.Run
public import proofs.«01_k».proof.Proof.Gen.MergeBack.Frame
public import proofs.«01_k».proof.Proof.Gen.MergeBackIdeal.Value
public import proofs.«01_k».proof.Proof.Gen.MergeBackRefIdeal.Run
public import proofs.«01_k».proof.Proof.Gen.SumThree.Frame
public import proofs.«01_k».proof.Proof.Gen.SumThreeIdeal.Value
public import proofs.«01_k».proof.Proof.Gen.SumThreeRefIdeal.Run
public import proofs.«01_k».proof.Proof.Gen.OutProj.Frame
public import proofs.«01_k».proof.Proof.Gen.OutProjIdeal.Value
public import proofs.«01_k».proof.Proof.Gen.OutProjRefIdeal.Run
public import proofs.«01_k».proof.Proof.Gen.OutGrad.Frame
public import proofs.«01_k».proof.Proof.Gen.OutGradIdeal.Value
public import proofs.«01_k».proof.Proof.Gen.OutGradRefIdeal.Run
public import proofs.«01_k».proof.Proof.Gen.MergedGrad.Frame
public import proofs.«01_k».proof.Proof.Gen.MergedGradIdeal.Value
public import proofs.«01_k».proof.Proof.Gen.MergedGradRefIdeal.Run
public import proofs.«01_k».proof.Proof.Gen.InProj.Frame
public import proofs.«01_k».proof.Proof.Gen.InProjIdeal.Value
public import proofs.«01_k».proof.Proof.Gen.InProjRefIdeal.Run
public import proofs.«01_k».proof.Proof.Gen.StepProj.Frame
public import proofs.«01_k».proof.Proof.Gen.StepProjIdeal.Value
public import proofs.«01_k».proof.Proof.Gen.StepProjRefIdeal.Run
public import proofs.«01_k».proof.Proof.Gen.SsmProj.Frame
public import proofs.«01_k».proof.Proof.Gen.SsmProjIdeal.Value
public import proofs.«01_k».proof.Proof.Gen.SsmProjRefIdeal.Run
public import proofs.«01_k».proof.Proof.Gen.SsmGrad.Frame
public import proofs.«01_k».proof.Proof.Gen.SsmGradIdeal.Value
public import proofs.«01_k».proof.Proof.Gen.SsmGradRefIdeal.Run
public import proofs.«01_k».proof.Proof.Gen.ScanGrad.Frame
public import proofs.«01_k».proof.Proof.Gen.ScanGradIdeal.Value
public import proofs.«01_k».proof.Proof.Gen.ScanGradRefIdeal.Run
public import proofs.«01_k».proof.Proof.Gen.MainGrad.Frame
public import proofs.«01_k».proof.Proof.Gen.MainGradIdeal.Value
public import proofs.«01_k».proof.Proof.Gen.MainGradRefIdeal.Run
public import proofs.«01_k».proof.Proof.Gen.StepGrad.Frame
public import proofs.«01_k».proof.Proof.Gen.StepGradIdeal.Value
public import proofs.«01_k».proof.Proof.Gen.StepGradRefIdeal.Run
public import proofs.«01_k».proof.Proof.Gen.HiddenGrad.Frame
public import proofs.«01_k».proof.Proof.Gen.HiddenGradIdeal.Value
public import proofs.«01_k».proof.Proof.Gen.HiddenGradRefIdeal.Run
public import proofs.«01_k».proof.Proof.Gen.HiddenStep.Frame
public import proofs.«01_k».proof.Proof.Gen.HiddenStepIdeal.Value
public import proofs.«01_k».proof.Proof.Gen.HiddenStepRefIdeal.Run
public import proofs.«01_k».proof.Proof.Gen.GatedNormBack.Frame
public import proofs.«01_k».proof.Proof.Gen.GatedNormBackIdeal.Value
public import proofs.«01_k».proof.Proof.Gen.GatedNormBackRefIdeal.Run
public import proofs.«01_k».proof.Proof.Gen.Conv.Frame
public import proofs.«01_k».proof.Proof.Gen.ConvIdeal.Value
public import proofs.«01_k».proof.Proof.Gen.ConvRefIdeal.Run
public import proofs.«01_k».proof.Proof.Gen.Combine.Frame
public import proofs.«01_k».proof.Proof.Gen.CombineIdeal.Value
public import proofs.«01_k».proof.Proof.Gen.CombineRefIdeal.Run
public import proofs.«01_k».proof.Proof.Gen.StepBack.Frame
public import proofs.«01_k».proof.Proof.Gen.StepBackIdeal.Value
public import proofs.«01_k».proof.Proof.Gen.StepBackRefIdeal.Run
public import proofs.«01_k».proof.Proof.Gen.ConvGrad.Frame
public import proofs.«01_k».proof.Proof.Gen.ConvGradIdeal.Value
public import proofs.«01_k».proof.Proof.Gen.ConvGradRefIdeal.Run
public import proofs.«01_k».proof.Proof.Gen.ConvBack.Frame
public import proofs.«01_k».proof.Proof.Gen.ConvBackIdeal.Value
public import proofs.«01_k».proof.Proof.Gen.ConvBackRefIdeal.Run
public import proofs.«01_k».proof.Proof.Gen.Steps.Frame
public import proofs.«01_k».proof.Proof.Gen.StepsIdeal.Value
public import proofs.«01_k».proof.Proof.Gen.StepsRefIdeal.Run
public import proofs.«01_k».proof.Proof.Gen.GateBack.Frame
public import proofs.«01_k».proof.Proof.Gen.GateBackIdeal.Frame
public import proofs.«01_k».proof.Proof.Gen.GateBackRefIdeal.Run
public import Idealize.ShloMosaic.Adequacy
public import Idealize.ShloMosaic.Init

@[expose] public section

noncomputable section

namespace Cert.Proof

open Idealize.ShloMosaic Idealize.SL.Sem Cert.Scatter

theorem claim : Cert.Claim :=
  ⟨Cert.Scatter.Gen.facts, Cert.ScatterIdeal.Gen.facts, Cert.ScatterRefIdeal.Gen.facts, Cert.Gather.Gen.facts, Cert.GatherIdeal.Gen.facts,
    Cert.GatherRefIdeal.Gen.facts, Cert.Small.Gen.facts, Cert.SmallIdeal.Gen.facts, Cert.SmallRefIdeal.Gen.facts, Cert.AdamIn.Gen.facts,
    Cert.AdamInIdeal.Gen.facts, Cert.AdamInRefIdeal.Gen.facts, Cert.AdamAttn.Gen.facts, Cert.AdamAttnIdeal.Gen.facts, Cert.AdamAttnRefIdeal.Gen.facts,
    Cert.AdamOut.Gen.facts, Cert.AdamOutIdeal.Gen.facts, Cert.AdamOutRefIdeal.Gen.facts, Cert.AdamSsm.Gen.facts, Cert.AdamSsmIdeal.Gen.facts,
    Cert.AdamSsmRefIdeal.Gen.facts, Cert.AdamSmall.Gen.facts, Cert.AdamSmallIdeal.Gen.facts, Cert.AdamSmallRefIdeal.Gen.facts,
    Cert.AdamConv.Gen.facts, Cert.AdamConvIdeal.Gen.facts, Cert.AdamConvRefIdeal.Gen.facts, Cert.NormBack.Gen.facts, Cert.NormBackIdeal.Gen.facts,
    Cert.NormBackRefIdeal.Gen.facts, Cert.LossBack.Gen.facts, Cert.LossBackIdeal.Gen.facts, Cert.LossBackRefIdeal.Gen.facts, Cert.NormFwd.Gen.facts,
    Cert.NormFwdIdeal.Gen.facts, Cert.NormFwdRefIdeal.Gen.facts, Cert.GatedNorm.Gen.facts, Cert.GatedNormIdeal.Gen.facts,
    Cert.GatedNormRefIdeal.Gen.facts, Cert.Merge.Gen.facts, Cert.MergeIdeal.Gen.facts, Cert.MergeRefIdeal.Gen.facts, Cert.MergeBack.Gen.facts,
    Cert.MergeBackIdeal.Gen.facts, Cert.MergeBackRefIdeal.Gen.facts, Cert.SumThree.Gen.facts, Cert.SumThreeIdeal.Gen.facts,
    Cert.SumThreeRefIdeal.Gen.facts, Cert.OutProj.Gen.facts, Cert.OutProjIdeal.Gen.facts, Cert.OutProjRefIdeal.Gen.facts, Cert.OutGrad.Gen.facts,
    Cert.OutGradIdeal.Gen.facts, Cert.OutGradRefIdeal.Gen.facts, Cert.MergedGrad.Gen.facts, Cert.MergedGradIdeal.Gen.facts,
    Cert.MergedGradRefIdeal.Gen.facts, Cert.InProj.Gen.facts, Cert.InProjIdeal.Gen.facts, Cert.InProjRefIdeal.Gen.facts, Cert.StepProj.Gen.facts,
    Cert.StepProjIdeal.Gen.facts, Cert.StepProjRefIdeal.Gen.facts, Cert.SsmProj.Gen.facts, Cert.SsmProjIdeal.Gen.facts,
    Cert.SsmProjRefIdeal.Gen.facts, Cert.SsmGrad.Gen.facts, Cert.SsmGradIdeal.Gen.facts, Cert.SsmGradRefIdeal.Gen.facts, Cert.ScanGrad.Gen.facts,
    Cert.ScanGradIdeal.Gen.facts, Cert.ScanGradRefIdeal.Gen.facts, Cert.MainGrad.Gen.facts, Cert.MainGradIdeal.Gen.facts,
    Cert.MainGradRefIdeal.Gen.facts, Cert.StepGrad.Gen.facts, Cert.StepGradIdeal.Gen.facts, Cert.StepGradRefIdeal.Gen.facts,
    Cert.HiddenGrad.Gen.facts, Cert.HiddenGradIdeal.Gen.facts, Cert.HiddenGradRefIdeal.Gen.facts, Cert.HiddenStep.Gen.facts,
    Cert.HiddenStepIdeal.Gen.facts, Cert.HiddenStepRefIdeal.Gen.facts, Cert.GatedNormBack.Gen.facts, Cert.GatedNormBackIdeal.Gen.facts,
    Cert.GatedNormBackRefIdeal.Gen.facts, Cert.Conv.Gen.facts, Cert.ConvIdeal.Gen.facts, Cert.ConvRefIdeal.Gen.facts, Cert.ConvBack.Gen.facts,
    Cert.ConvBackIdeal.Gen.facts, Cert.ConvBackRefIdeal.Gen.facts, Cert.Steps.Gen.facts, Cert.StepsIdeal.Gen.facts, Cert.StepsRefIdeal.Gen.facts,
    Cert.GateBack.Gen.facts, Cert.GateBackIdeal.Gen.facts, Cert.GateBackRefIdeal.Gen.facts, Cert.ConvGrad.Gen.facts, Cert.ConvGradIdeal.Gen.facts,
    Cert.ConvGradRefIdeal.Gen.facts, Cert.Combine.Gen.facts, Cert.CombineIdeal.Gen.facts, Cert.CombineRefIdeal.Gen.facts, Cert.StepBack.Gen.facts,
    Cert.StepBackIdeal.Gen.facts, Cert.StepBackRefIdeal.Gen.facts, Cert.ScatterRef.Gen.facts, Cert.GatherRef.Gen.facts, Cert.SmallRef.Gen.facts,
    Combine.facts, StepBack.facts, Scatter.frame_kernel, Scatter.frame_ideal, Scatter.frame_refIdeal, Gather.frame_kernel, Gather.frame_ideal,
    Gather.frame_refIdeal, Small.frame_kernel, Small.frame_ideal, Small.frame_refIdeal, fun m g _ => Cert.AdamIn.Gen.frame m g,
    fun m g _ => Cert.AdamInIdeal.Gen.frame m g, AdamIn.frame_refIdeal, fun m g _ => Cert.AdamAttn.Gen.frame m g,
    fun m g _ => Cert.AdamAttnIdeal.Gen.frame m g, AdamAttn.frame_refIdeal, fun m g _ => Cert.AdamOut.Gen.frame m g,
    fun m g _ => Cert.AdamOutIdeal.Gen.frame m g, AdamOut.frame_refIdeal, fun m g _ => Cert.AdamSsm.Gen.frame m g,
    fun m g _ => Cert.AdamSsmIdeal.Gen.frame m g, AdamSsm.frame_refIdeal, fun m g _ => Cert.AdamSmall.Gen.frame m g,
    fun m g _ => Cert.AdamSmallIdeal.Gen.frame m g, AdamSmall.frame_refIdeal, fun m g _ => Cert.AdamConv.Gen.frame m g,
    fun m g _ => Cert.AdamConvIdeal.Gen.frame m g, AdamConv.frame_refIdeal, fun m g _ => Cert.NormBack.Gen.frame m g,
    fun m g _ => Cert.NormBackIdeal.Gen.frame m g, NormBack.frame_refIdeal, fun m g _ => Cert.LossBack.Gen.frame m g,
    fun m g _ => Cert.LossBackIdeal.Gen.frame m g, LossBack.frame_refIdeal, fun m g _ => Cert.NormFwd.Gen.frame m g,
    fun m g _ => Cert.NormFwdIdeal.Gen.frame m g, NormFwd.frame_refIdeal, fun m g _ => Cert.GatedNorm.Gen.frame m g,
    fun m g _ => Cert.GatedNormIdeal.Gen.frame m g, GatedNorm.frame_refIdeal, fun m g _ => Cert.Merge.Gen.frame m g,
    fun m g _ => Cert.MergeIdeal.Gen.frame m g, Merge.frame_refIdeal, fun m g _ => Cert.MergeBack.Gen.frame m g,
    fun m g _ => Cert.MergeBackIdeal.Gen.frame m g, MergeBack.frame_refIdeal, fun m g _ => Cert.SumThree.Gen.frame m g,
    fun m g _ => Cert.SumThreeIdeal.Gen.frame m g, SumThree.frame_refIdeal, fun m g _ => Cert.OutProj.Gen.frame m g,
    fun m g _ => Cert.OutProjIdeal.Gen.frame m g, OutProj.frame_refIdeal, fun m g _ => Cert.OutGrad.Gen.frame m g,
    fun m g _ => Cert.OutGradIdeal.Gen.frame m g, OutGrad.frame_refIdeal, fun m g _ => Cert.MergedGrad.Gen.frame m g,
    fun m g _ => Cert.MergedGradIdeal.Gen.frame m g, MergedGrad.frame_refIdeal, fun m g _ => Cert.InProj.Gen.frame m g,
    fun m g _ => Cert.InProjIdeal.Gen.frame m g, InProj.frame_refIdeal, fun m g _ => Cert.StepProj.Gen.frame m g,
    fun m g _ => Cert.StepProjIdeal.Gen.frame m g, StepProj.frame_refIdeal, fun m g _ => Cert.SsmProj.Gen.frame m g,
    fun m g _ => Cert.SsmProjIdeal.Gen.frame m g, SsmProj.frame_refIdeal, fun m g _ => Cert.SsmGrad.Gen.frame m g,
    fun m g _ => Cert.SsmGradIdeal.Gen.frame m g, SsmGrad.frame_refIdeal, fun m g _ => Cert.ScanGrad.Gen.frame m g,
    fun m g _ => Cert.ScanGradIdeal.Gen.frame m g, ScanGrad.frame_refIdeal, fun m g _ => Cert.MainGrad.Gen.frame m g,
    fun m g _ => Cert.MainGradIdeal.Gen.frame m g, MainGrad.frame_refIdeal, fun m g _ => Cert.StepGrad.Gen.frame m g,
    fun m g _ => Cert.StepGradIdeal.Gen.frame m g, StepGrad.frame_refIdeal, fun m g _ => Cert.HiddenGrad.Gen.frame m g,
    fun m g _ => Cert.HiddenGradIdeal.Gen.frame m g, HiddenGrad.frame_refIdeal, fun m g _ => Cert.HiddenStep.Gen.frame m g,
    fun m g _ => Cert.HiddenStepIdeal.Gen.frame m g, HiddenStep.frame_refIdeal, fun m g _ => Cert.GatedNormBack.Gen.frame m g,
    fun m g _ => Cert.GatedNormBackIdeal.Gen.frame m g, GatedNormBack.frame_refIdeal, fun m g _ => Cert.Conv.Gen.frame m g,
    fun m g _ => Cert.ConvIdeal.Gen.frame m g, Conv.frame_refIdeal, fun m g _ => Cert.ConvBack.Gen.frame m g,
    fun m g _ => Cert.ConvBackIdeal.Gen.frame m g, ConvBack.frame_refIdeal, fun m g _ => Cert.Steps.Gen.frame m g,
    fun m g _ => Cert.StepsIdeal.Gen.frame m g, Steps.frame_refIdeal, fun m g _ => Cert.GateBack.Gen.frame m g,
    fun m g _ => Cert.GateBackIdeal.Gen.frame m g, GateBack.frame_refIdeal, fun m g _ => Cert.ConvGrad.Gen.frame m g,
    fun m g _ => Cert.ConvGradIdeal.Gen.frame m g, ConvGrad.frame_refIdeal, fun m g _ => Cert.Combine.Gen.frame m g,
    fun m g _ => Cert.CombineIdeal.Gen.frame m g, fun m g _ => Cert.CombineIdeal.Gen.frame m g, Combine.frame_refIdeal, Combine.frame_refIdeal_pre,
    fun m g _ => Cert.StepBack.Gen.frame m g, fun m g _ => Cert.StepBackIdeal.Gen.frame m g, fun m g _ => Cert.StepBackIdeal.Gen.frame m g,
    StepBack.frame_refIdeal, StepBack.frame_refIdeal_pre, Scatter.frame_ref, Gather.frame_ref, Small.frame_ref, trivial, Scatter.algebraic, trivial,
    Gather.algebraic, trivial, Small.algebraic, trivial, AdamIn.algebraic, trivial, AdamAttn.algebraic, trivial, AdamOut.algebraic, trivial,
    AdamSsm.algebraic, trivial, AdamSmall.algebraic, trivial, AdamConv.algebraic, trivial, NormBack.algebraic, trivial, LossBack.algebraic, trivial,
    NormFwd.algebraic, trivial, GatedNorm.algebraic, trivial, Merge.algebraic, trivial, MergeBack.algebraic, trivial, SumThree.algebraic, trivial,
    OutProj.algebraic, trivial, OutGrad.algebraic, trivial, MergedGrad.algebraic, trivial, InProj.algebraic, trivial, StepProj.algebraic, trivial,
    SsmProj.algebraic, trivial, SsmGrad.algebraic, trivial, ScanGrad.algebraic, trivial, MainGrad.algebraic, trivial, StepGrad.algebraic, trivial,
    HiddenGrad.algebraic, trivial, HiddenStep.algebraic, trivial, GatedNormBack.algebraic, trivial, Conv.algebraic, trivial, ConvBack.algebraic,
    trivial, Steps.algebraic, trivial, GateBack.algebraic, trivial, ConvGrad.algebraic, trivial, Combine.algebraic, trivial, StepBack.algebraic,
    Scatter.bitexact, Gather.bitexact, Small.bitexact⟩

end Cert.Proof

end
